-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).2.1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).2.2 = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_fwd [hPre_finite_fwd : Cert.Pre_finite_fwd.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))).1 = (fun _ => 1#1)
    ∧ (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))).2.1 = (fun _ => 1#1)
    ∧ (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))).2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_GateDa (m : (ℓ : Loc Cert.GateDa.nD Cert.GateDa.τ Cert.GateDa.sig) → Buf (Elt Bits) ℓ) : Prop :=
  True

def Pre_GateDaIdeal (m : (ℓ : Loc Cert.GateDaIdeal.nD Cert.GateDaIdeal.τ Cert.GateDaIdeal.sig) → Buf (Elt Ideal) ℓ) : Prop :=
  True

def Pre_GateDaRefIdeal (m : (ℓ : Loc Cert.GateDaRefIdeal.nD Cert.GateDaRefIdeal.τ Cert.GateDaRefIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwRefIdeal (m : (ℓ : Loc Cert.GateDwRefIdeal.nD Cert.GateDwRefIdeal.τ Cert.GateDwRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InDa (m : (ℓ : Loc Cert.InDa.nD Cert.InDa.τ Cert.InDa.sig) → Buf (Elt Bits) ℓ) : Prop :=
  True

def Pre_InDaIdeal (m : (ℓ : Loc Cert.InDaIdeal.nD Cert.InDaIdeal.τ Cert.InDaIdeal.sig) → Buf (Elt Ideal) ℓ) : Prop :=
  True

def Pre_InDaRefIdeal (m : (ℓ : Loc Cert.InDaRefIdeal.nD Cert.InDaRefIdeal.τ Cert.InDaRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatRefIdeal (m : (ℓ : Loc Cert.LatRefIdeal.nD Cert.LatRefIdeal.τ Cert.LatRefIdeal.sig) → Buf (Elt Ideal) ℓ) : Prop :=
  True

def Pre_LatDa (m : (ℓ : Loc Cert.LatDa.nD Cert.LatDa.τ Cert.LatDa.sig) → Buf (Elt Bits) ℓ) : Prop :=
  True

def Pre_LatDaIdeal (m : (ℓ : Loc Cert.LatDaIdeal.nD Cert.LatDaIdeal.τ Cert.LatDaIdeal.sig) → Buf (Elt Ideal) ℓ) : Prop :=
  True

def Pre_LatDaRefIdeal (m : (ℓ : Loc Cert.LatDaRefIdeal.nD Cert.LatDaRefIdeal.τ Cert.LatDaRefIdeal.sig) → Buf (Elt Ideal) ℓ) : Prop :=
  True

def Pre_LatDw (m : (ℓ : Loc Cert.LatDw.nD Cert.LatDw.τ Cert.LatDw.sig) → Buf (Elt Bits) ℓ) : Prop :=
  True

def Pre_LatDwIdeal (m : (ℓ : Loc Cert.LatDwIdeal.nD Cert.LatDwIdeal.τ Cert.LatDwIdeal.sig) → Buf (Elt Ideal) ℓ) : Prop :=
  True

def Pre_LatDwRefIdeal (m : (ℓ : Loc Cert.LatDwRefIdeal.nD Cert.LatDwRefIdeal.τ Cert.LatDwRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownDa (m : (ℓ : Loc Cert.DownDa.nD Cert.DownDa.τ Cert.DownDa.sig) → Buf (Elt Bits) ℓ) : Prop :=
  True

def Pre_DownDaIdeal (m : (ℓ : Loc Cert.DownDaIdeal.nD Cert.DownDaIdeal.τ Cert.DownDaIdeal.sig) → Buf (Elt Ideal) ℓ) : Prop :=
  True

def Pre_DownDaRefIdeal (m : (ℓ : Loc Cert.DownDaRefIdeal.nD Cert.DownDaRefIdeal.τ Cert.DownDaRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDa (m : (ℓ : Loc Cert.OutDa.nD Cert.OutDa.τ Cert.OutDa.sig) → Buf (Elt Bits) ℓ) : Prop :=
  True

def Pre_OutDaIdeal (m : (ℓ : Loc Cert.OutDaIdeal.nD Cert.OutDaIdeal.τ Cert.OutDaIdeal.sig) → Buf (Elt Ideal) ℓ) : Prop :=
  True

def Pre_OutDaRefIdeal (m : (ℓ : Loc Cert.OutDaRefIdeal.nD Cert.OutDaRefIdeal.τ Cert.OutDaRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_SwigluB (m : (ℓ : Loc Cert.SwigluB.nD Cert.SwigluB.τ Cert.SwigluB.sig) → Buf (Elt Bits) ℓ) : Prop :=
  True

def Pre_SwigluBIdeal (m : (ℓ : Loc Cert.SwigluBIdeal.nD Cert.SwigluBIdeal.τ Cert.SwigluBIdeal.sig) → Buf (Elt Ideal) ℓ) : Prop :=
  True

def Pre_SwigluBIdeal_finite_gate [hPre_finite_gate : Cert.Pre_finite_gate.Facts] (m : (ℓ : Loc Cert.SwigluBIdeal.nD Cert.SwigluBIdeal.τ Cert.SwigluBIdeal.sig) → Buf (Elt Ideal) ℓ) : Prop :=
  ∀ c : Dev Cert.SwigluBIdeal.nD,
    (Cert.Pre_finite_gate.fn (F := Ideal) (m ((c.tc : Thread Cert.SwigluBIdeal.nD Cert.SwigluBIdeal.τ).loc Cert.SwigluBIdeal.main_arg0)) (m ((c.tc : Thread Cert.SwigluBIdeal.nD Cert.SwigluBIdeal.τ).loc Cert.SwigluBIdeal.main_arg1)) (m ((c.tc : Thread Cert.SwigluBIdeal.nD Cert.SwigluBIdeal.τ).loc Cert.SwigluBIdeal.main_arg2))).1 = (fun _ => 1#1)
    ∧ (Cert.Pre_finite_gate.fn (F := Ideal) (m ((c.tc : Thread Cert.SwigluBIdeal.nD Cert.SwigluBIdeal.τ).loc Cert.SwigluBIdeal.main_arg0)) (m ((c.tc : Thread Cert.SwigluBIdeal.nD Cert.SwigluBIdeal.τ).loc Cert.SwigluBIdeal.main_arg1)) (m ((c.tc : Thread Cert.SwigluBIdeal.nD Cert.SwigluBIdeal.τ).loc Cert.SwigluBIdeal.main_arg2))).2 = (fun _ => 1#1)

def Pre_SwigluBRefIdeal (m : (ℓ : Loc Cert.SwigluBRefIdeal.nD Cert.SwigluBRefIdeal.τ Cert.SwigluBRefIdeal.sig) → Buf (Elt Ideal) ℓ) : Prop :=
  True

def Pre_SwigluBRefIdeal_finite_gate [hPre_finite_gate : Cert.Pre_finite_gate.Facts] (m : (ℓ : Loc Cert.SwigluBRefIdeal.nD Cert.SwigluBRefIdeal.τ Cert.SwigluBRefIdeal.sig) → Buf (Elt Ideal) ℓ) : Prop :=
  ∀ c : Dev Cert.SwigluBRefIdeal.nD,
    (Cert.Pre_finite_gate.fn (F := Ideal) (m ((c.tc : Thread Cert.SwigluBRefIdeal.nD Cert.SwigluBRefIdeal.τ).loc Cert.SwigluBRefIdeal.main_arg0)) (m ((c.tc : Thread Cert.SwigluBRefIdeal.nD Cert.SwigluBRefIdeal.τ).loc Cert.SwigluBRefIdeal.main_arg1)) (m ((c.tc : Thread Cert.SwigluBRefIdeal.nD Cert.SwigluBRefIdeal.τ).loc Cert.SwigluBRefIdeal.main_arg2))).1 = (fun _ => 1#1)
    ∧ (Cert.Pre_finite_gate.fn (F := Ideal) (m ((c.tc : Thread Cert.SwigluBRefIdeal.nD Cert.SwigluBRefIdeal.τ).loc Cert.SwigluBRefIdeal.main_arg0)) (m ((c.tc : Thread Cert.SwigluBRefIdeal.nD Cert.SwigluBRefIdeal.τ).loc Cert.SwigluBRefIdeal.main_arg1)) (m ((c.tc : Thread Cert.SwigluBRefIdeal.nD Cert.SwigluBRefIdeal.τ).loc Cert.SwigluBRefIdeal.main_arg2))).2 = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamUq (m : (ℓ : Loc Cert.AdamUq.nD Cert.AdamUq.τ Cert.AdamUq.sig) → Buf (Elt Bits) ℓ) : Prop :=
  True

def Pre_AdamUqIdeal (m : (ℓ : Loc Cert.AdamUqIdeal.nD Cert.AdamUqIdeal.τ Cert.AdamUqIdeal.sig) → Buf (Elt Ideal) ℓ) : Prop :=
  True

def Pre_AdamUqRefIdeal (m : (ℓ : Loc Cert.AdamUqRefIdeal.nD Cert.AdamUqRefIdeal.τ Cert.AdamUqRefIdeal.sig) → Buf (Elt Ideal) ℓ) : Prop :=
  True

def Pre_AdamUkv (m : (ℓ : Loc Cert.AdamUkv.nD Cert.AdamUkv.τ Cert.AdamUkv.sig) → Buf (Elt Bits) ℓ) : Prop :=
  True

def Pre_AdamUkvIdeal (m : (ℓ : Loc Cert.AdamUkvIdeal.nD Cert.AdamUkvIdeal.τ Cert.AdamUkvIdeal.sig) → Buf (Elt Ideal) ℓ) : Prop :=
  True

def Pre_AdamUkvRefIdeal (m : (ℓ : Loc Cert.AdamUkvRefIdeal.nD Cert.AdamUkvRefIdeal.τ Cert.AdamUkvRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumUq (m : (ℓ : Loc Cert.SumUq.nD Cert.SumUq.τ Cert.SumUq.sig) → Buf (Elt Bits) ℓ) : Prop :=
  True

def Pre_SumUqIdeal (m : (ℓ : Loc Cert.SumUqIdeal.nD Cert.SumUqIdeal.τ Cert.SumUqIdeal.sig) → Buf (Elt Ideal) ℓ) : Prop :=
  True

def Pre_SumUqRefIdeal (m : (ℓ : Loc Cert.SumUqRefIdeal.nD Cert.SumUqRefIdeal.τ Cert.SumUqRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumGate (m : (ℓ : Loc Cert.SumGate.nD Cert.SumGate.τ Cert.SumGate.sig) → Buf (Elt Bits) ℓ) : Prop :=
  True

def Pre_SumGateIdeal (m : (ℓ : Loc Cert.SumGateIdeal.nD Cert.SumGateIdeal.τ Cert.SumGateIdeal.sig) → Buf (Elt Ideal) ℓ) : Prop :=
  True

def Pre_SumGateRefIdeal (m : (ℓ : Loc Cert.SumGateRefIdeal.nD Cert.SumGateRefIdeal.τ Cert.SumGateRefIdeal.sig) → Buf (Elt Ideal) ℓ) : Prop :=
  True

def Pre_SumDown (m : (ℓ : Loc Cert.SumDown.nD Cert.SumDown.τ Cert.SumDown.sig) → Buf (Elt Bits) ℓ) : Prop :=
  True

def Pre_SumDownIdeal (m : (ℓ : Loc Cert.SumDownIdeal.nD Cert.SumDownIdeal.τ Cert.SumDownIdeal.sig) → Buf (Elt Ideal) ℓ) : Prop :=
  True

def Pre_SumDownRefIdeal (m : (ℓ : Loc Cert.SumDownRefIdeal.nD Cert.SumDownRefIdeal.τ Cert.SumDownRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormB (m : (ℓ : Loc Cert.NormB.nD Cert.NormB.τ Cert.NormB.sig) → Buf (Elt Bits) ℓ) : Prop :=
  True

def Pre_NormBIdeal (m : (ℓ : Loc Cert.NormBIdeal.nD Cert.NormBIdeal.τ Cert.NormBIdeal.sig) → Buf (Elt Ideal) ℓ) : Prop :=
  True

def Pre_NormBRefIdeal (m : (ℓ : Loc Cert.NormBRefIdeal.nD Cert.NormBRefIdeal.τ Cert.NormBRefIdeal.sig) → Buf (Elt Ideal) ℓ) : Prop :=
  True

def Pre_NormL (m : (ℓ : Loc Cert.NormL.nD Cert.NormL.τ Cert.NormL.sig) → Buf (Elt Bits) ℓ) : Prop :=
  True

def Pre_NormLIdeal (m : (ℓ : Loc Cert.NormLIdeal.nD Cert.NormLIdeal.τ Cert.NormLIdeal.sig) → Buf (Elt Ideal) ℓ) : Prop :=
  True

def Pre_NormLRefIdeal (m : (ℓ : Loc Cert.NormLRefIdeal.nD Cert.NormLRefIdeal.τ Cert.NormLRefIdeal.sig) → Buf (Elt Ideal) ℓ) : Prop :=
  True

def Pre_NormLB (m : (ℓ : Loc Cert.NormLB.nD Cert.NormLB.τ Cert.NormLB.sig) → Buf (Elt Bits) ℓ) : Prop :=
  True

def Pre_NormLBIdeal (m : (ℓ : Loc Cert.NormLBIdeal.nD Cert.NormLBIdeal.τ Cert.NormLBIdeal.sig) → Buf (Elt Ideal) ℓ) : Prop :=
  True

def Pre_NormLBRefIdeal (m : (ℓ : Loc Cert.NormLBRefIdeal.nD Cert.NormLBRefIdeal.τ Cert.NormLBRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_NormG (m : (ℓ : Loc Cert.NormG.nD Cert.NormG.τ Cert.NormG.sig) → Buf (Elt Bits) ℓ) : Prop :=
  True

def Pre_NormGIdeal (m : (ℓ : Loc Cert.NormGIdeal.nD Cert.NormGIdeal.τ Cert.NormGIdeal.sig) → Buf (Elt Ideal) ℓ) : Prop :=
  True

def Pre_NormGRefIdeal (m : (ℓ : Loc Cert.NormGRefIdeal.nD Cert.NormGRefIdeal.τ Cert.NormGRefIdeal.sig) → Buf (Elt Ideal) ℓ) : Prop :=
  True

def Pre_NormGB (m : (ℓ : Loc Cert.NormGB.nD Cert.NormGB.τ Cert.NormGB.sig) → Buf (Elt Bits) ℓ) : Prop :=
  True

def Pre_NormGBIdeal (m : (ℓ : Loc Cert.NormGBIdeal.nD Cert.NormGBIdeal.τ Cert.NormGBIdeal.sig) → Buf (Elt Ideal) ℓ) : Prop :=
  True

def Pre_NormGBRefIdeal (m : (ℓ : Loc Cert.NormGBRefIdeal.nD Cert.NormGBRefIdeal.τ Cert.NormGBRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_finite_fwd [hFwdRefIdeal : Cert.FwdRefIdeal.Facts] [hPre_finite_fwd : Cert.Pre_finite_fwd.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_fwd m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_GateDa [hGateDa : Cert.GateDa.Facts] : Prop :=
  ∀ (m : (ℓ : Loc Cert.GateDa.nD Cert.GateDa.τ Cert.GateDa.sig) → Buf (Elt Bits) ℓ) (g : Dev Cert.GateDa.nD → PrngReg), Pre_GateDa m →
    θ_run (Cert.GateDa.defs (F := Bits)) (onTc (τ := Cert.GateDa.τ) (Cert.GateDa.main (F := Bits))) ⟨m, fun _ => 0, g⟩ (fun r => (∀ c : Dev Cert.GateDa.nD,
      r.2.mem ((c.tc : Thread Cert.GateDa.nD Cert.GateDa.τ).loc Cert.GateDa.main_arg0) = m ((c.tc : Thread Cert.GateDa.nD Cert.GateDa.τ).loc Cert.GateDa.main_arg0)
      ∧ r.2.mem ((c.tc : Thread Cert.GateDa.nD Cert.GateDa.τ).loc Cert.GateDa.main_arg1) = m ((c.tc : Thread Cert.GateDa.nD Cert.GateDa.τ).loc Cert.GateDa.main_arg1)
      ∧ r.2.mem ((c.tc : Thread Cert.GateDa.nD Cert.GateDa.τ).loc Cert.GateDa.main_arg2) = m ((c.tc : Thread Cert.GateDa.nD Cert.GateDa.τ).loc Cert.GateDa.main_arg2))
      ∧ r.2.sem = fun _ => 0)

def quiescent_GateDaIdeal [hGateDaIdeal : Cert.GateDaIdeal.Facts] : Prop :=
  ∀ (m : (ℓ : Loc Cert.GateDaIdeal.nD Cert.GateDaIdeal.τ Cert.GateDaIdeal.sig) → Buf (Elt Ideal) ℓ) (g : Dev Cert.GateDaIdeal.nD → PrngReg), Pre_GateDaIdeal m →
    θ_run (Cert.GateDaIdeal.defs (F := Ideal)) (onTc (τ := Cert.GateDaIdeal.τ) (Cert.GateDaIdeal.main (F := Ideal))) ⟨m, fun _ => 0, g⟩ (fun r => (∀ c : Dev Cert.GateDaIdeal.nD,
      r.2.mem ((c.tc : Thread Cert.GateDaIdeal.nD Cert.GateDaIdeal.τ).loc Cert.GateDaIdeal.main_arg0) = m ((c.tc : Thread Cert.GateDaIdeal.nD Cert.GateDaIdeal.τ).loc Cert.GateDaIdeal.main_arg0)
      ∧ r.2.mem ((c.tc : Thread Cert.GateDaIdeal.nD Cert.GateDaIdeal.τ).loc Cert.GateDaIdeal.main_arg1) = m ((c.tc : Thread Cert.GateDaIdeal.nD Cert.GateDaIdeal.τ).loc Cert.GateDaIdeal.main_arg1)
      ∧ r.2.mem ((c.tc : Thread Cert.GateDaIdeal.nD Cert.GateDaIdeal.τ).loc Cert.GateDaIdeal.main_arg2) = m ((c.tc : Thread Cert.GateDaIdeal.nD Cert.GateDaIdeal.τ).loc Cert.GateDaIdeal.main_arg2))
      ∧ r.2.sem = fun _ => 0)

def quiescent_GateDaRefIdeal [hGateDaRefIdeal : Cert.GateDaRefIdeal.Facts] : Prop :=
  ∀ (m : (ℓ : Loc Cert.GateDaRefIdeal.nD Cert.GateDaRefIdeal.τ Cert.GateDaRefIdeal.sig) → Buf (Elt Ideal) ℓ) (g : Dev Cert.GateDaRefIdeal.nD → PrngReg), Pre_GateDaRefIdeal m →
    θ_run (Cert.GateDaRefIdeal.defs (F := Ideal)) (onTc (τ := Cert.GateDaRefIdeal.τ) (Cert.GateDaRefIdeal.main (F := Ideal))) ⟨m, fun _ => 0, g⟩ (fun r => (∀ c : Dev Cert.GateDaRefIdeal.nD,
      r.2.mem ((c.tc : Thread Cert.GateDaRefIdeal.nD Cert.GateDaRefIdeal.τ).loc Cert.GateDaRefIdeal.main_arg0) = m ((c.tc : Thread Cert.GateDaRefIdeal.nD Cert.GateDaRefIdeal.τ).loc Cert.GateDaRefIdeal.main_arg0)
      ∧ r.2.mem ((c.tc : Thread Cert.GateDaRefIdeal.nD Cert.GateDaRefIdeal.τ).loc Cert.GateDaRefIdeal.main_arg1) = m ((c.tc : Thread Cert.GateDaRefIdeal.nD Cert.GateDaRefIdeal.τ).loc Cert.GateDaRefIdeal.main_arg1)
      ∧ r.2.mem ((c.tc : Thread Cert.GateDaRefIdeal.nD Cert.GateDaRefIdeal.τ).loc Cert.GateDaRefIdeal.main_arg2) = m ((c.tc : Thread Cert.GateDaRefIdeal.nD Cert.GateDaRefIdeal.τ).loc Cert.GateDaRefIdeal.main_arg2))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1)
      ∧ r.2.mem ((c.tc : Thread Cert.GateDw.nD Cert.GateDw.τ).loc Cert.GateDw.main_arg2) = m ((c.tc : Thread Cert.GateDw.nD Cert.GateDw.τ).loc Cert.GateDw.main_arg2))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1)
      ∧ r.2.mem ((c.tc : Thread Cert.GateDwIdeal.nD Cert.GateDwIdeal.τ).loc Cert.GateDwIdeal.main_arg2) = m ((c.tc : Thread Cert.GateDwIdeal.nD Cert.GateDwIdeal.τ).loc Cert.GateDwIdeal.main_arg2))
      ∧ r.2.sem = fun _ => 0)

def quiescent_GateDwRefIdeal [hGateDwRefIdeal : Cert.GateDwRefIdeal.Facts] : Prop :=
  ∀ (m : (ℓ : Loc Cert.GateDwRefIdeal.nD Cert.GateDwRefIdeal.τ Cert.GateDwRefIdeal.sig) → Buf (Elt Ideal) ℓ) (g : Dev Cert.GateDwRefIdeal.nD → PrngReg), Pre_GateDwRefIdeal m →
    θ_run (Cert.GateDwRefIdeal.defs (F := Ideal)) (onTc (τ := Cert.GateDwRefIdeal.τ) (Cert.GateDwRefIdeal.main (F := Ideal))) ⟨m, fun _ => 0, g⟩ (fun r => (∀ c : Dev Cert.GateDwRefIdeal.nD,
      r.2.mem ((c.tc : Thread Cert.GateDwRefIdeal.nD Cert.GateDwRefIdeal.τ).loc Cert.GateDwRefIdeal.main_arg0) = m ((c.tc : Thread Cert.GateDwRefIdeal.nD Cert.GateDwRefIdeal.τ).loc Cert.GateDwRefIdeal.main_arg0)
      ∧ r.2.mem ((c.tc : Thread Cert.GateDwRefIdeal.nD Cert.GateDwRefIdeal.τ).loc Cert.GateDwRefIdeal.main_arg1) = m ((c.tc : Thread Cert.GateDwRefIdeal.nD Cert.GateDwRefIdeal.τ).loc Cert.GateDwRefIdeal.main_arg1)
      ∧ r.2.mem ((c.tc : Thread Cert.GateDwRefIdeal.nD Cert.GateDwRefIdeal.τ).loc Cert.GateDwRefIdeal.main_arg2) = m ((c.tc : Thread Cert.GateDwRefIdeal.nD Cert.GateDwRefIdeal.τ).loc Cert.GateDwRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_InDa [hInDa : Cert.InDa.Facts] : Prop :=
  ∀ (m : (ℓ : Loc Cert.InDa.nD Cert.InDa.τ Cert.InDa.sig) → Buf (Elt Bits) ℓ) (g : Dev Cert.InDa.nD → PrngReg), Pre_InDa m →
    θ_run (Cert.InDa.defs (F := Bits)) (onTc (τ := Cert.InDa.τ) (Cert.InDa.main (F := Bits))) ⟨m, fun _ => 0, g⟩ (fun r => (∀ c : Dev Cert.InDa.nD,
      r.2.mem ((c.tc : Thread Cert.InDa.nD Cert.InDa.τ).loc Cert.InDa.main_arg0) = m ((c.tc : Thread Cert.InDa.nD Cert.InDa.τ).loc Cert.InDa.main_arg0)
      ∧ r.2.mem ((c.tc : Thread Cert.InDa.nD Cert.InDa.τ).loc Cert.InDa.main_arg1) = m ((c.tc : Thread Cert.InDa.nD Cert.InDa.τ).loc Cert.InDa.main_arg1)
      ∧ r.2.mem ((c.tc : Thread Cert.InDa.nD Cert.InDa.τ).loc Cert.InDa.main_arg2) = m ((c.tc : Thread Cert.InDa.nD Cert.InDa.τ).loc Cert.InDa.main_arg2))
      ∧ r.2.sem = fun _ => 0)

def quiescent_InDaIdeal [hInDaIdeal : Cert.InDaIdeal.Facts] : Prop :=
  ∀ (m : (ℓ : Loc Cert.InDaIdeal.nD Cert.InDaIdeal.τ Cert.InDaIdeal.sig) → Buf (Elt Ideal) ℓ) (g : Dev Cert.InDaIdeal.nD → PrngReg), Pre_InDaIdeal m →
    θ_run (Cert.InDaIdeal.defs (F := Ideal)) (onTc (τ := Cert.InDaIdeal.τ) (Cert.InDaIdeal.main (F := Ideal))) ⟨m, fun _ => 0, g⟩ (fun r => (∀ c : Dev Cert.InDaIdeal.nD,
      r.2.mem ((c.tc : Thread Cert.InDaIdeal.nD Cert.InDaIdeal.τ).loc Cert.InDaIdeal.main_arg0) = m ((c.tc : Thread Cert.InDaIdeal.nD Cert.InDaIdeal.τ).loc Cert.InDaIdeal.main_arg0)
      ∧ r.2.mem ((c.tc : Thread Cert.InDaIdeal.nD Cert.InDaIdeal.τ).loc Cert.InDaIdeal.main_arg1) = m ((c.tc : Thread Cert.InDaIdeal.nD Cert.InDaIdeal.τ).loc Cert.InDaIdeal.main_arg1)
      ∧ r.2.mem ((c.tc : Thread Cert.InDaIdeal.nD Cert.InDaIdeal.τ).loc Cert.InDaIdeal.main_arg2) = m ((c.tc : Thread Cert.InDaIdeal.nD Cert.InDaIdeal.τ).loc Cert.InDaIdeal.main_arg2))
      ∧ r.2.sem = fun _ => 0)

def quiescent_InDaRefIdeal [hInDaRefIdeal : Cert.InDaRefIdeal.Facts] : Prop :=
  ∀ (m : (ℓ : Loc Cert.InDaRefIdeal.nD Cert.InDaRefIdeal.τ Cert.InDaRefIdeal.sig) → Buf (Elt Ideal) ℓ) (g : Dev Cert.InDaRefIdeal.nD → PrngReg), Pre_InDaRefIdeal m →
    θ_run (Cert.InDaRefIdeal.defs (F := Ideal)) (onTc (τ := Cert.InDaRefIdeal.τ) (Cert.InDaRefIdeal.main (F := Ideal))) ⟨m, fun _ => 0, g⟩ (fun r => (∀ c : Dev Cert.InDaRefIdeal.nD,
      r.2.mem ((c.tc : Thread Cert.InDaRefIdeal.nD Cert.InDaRefIdeal.τ).loc Cert.InDaRefIdeal.main_arg0) = m ((c.tc : Thread Cert.InDaRefIdeal.nD Cert.InDaRefIdeal.τ).loc Cert.InDaRefIdeal.main_arg0)
      ∧ r.2.mem ((c.tc : Thread Cert.InDaRefIdeal.nD Cert.InDaRefIdeal.τ).loc Cert.InDaRefIdeal.main_arg1) = m ((c.tc : Thread Cert.InDaRefIdeal.nD Cert.InDaRefIdeal.τ).loc Cert.InDaRefIdeal.main_arg1)
      ∧ r.2.mem ((c.tc : Thread Cert.InDaRefIdeal.nD Cert.InDaRefIdeal.τ).loc Cert.InDaRefIdeal.main_arg2) = m ((c.tc : Thread Cert.InDaRefIdeal.nD Cert.InDaRefIdeal.τ).loc Cert.InDaRefIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1))
      ∧ r.2.sem = fun _ => 0)

def quiescent_LatDa [hLatDa : Cert.LatDa.Facts] : Prop :=
  ∀ (m : (ℓ : Loc Cert.LatDa.nD Cert.LatDa.τ Cert.LatDa.sig) → Buf (Elt Bits) ℓ) (g : Dev Cert.LatDa.nD → PrngReg), Pre_LatDa m →
    θ_run (Cert.LatDa.defs (F := Bits)) (onTc (τ := Cert.LatDa.τ) (Cert.LatDa.main (F := Bits))) ⟨m, fun _ => 0, g⟩ (fun r => (∀ c : Dev Cert.LatDa.nD,
      r.2.mem ((c.tc : Thread Cert.LatDa.nD Cert.LatDa.τ).loc Cert.LatDa.main_arg0) = m ((c.tc : Thread Cert.LatDa.nD Cert.LatDa.τ).loc Cert.LatDa.main_arg0)
      ∧ r.2.mem ((c.tc : Thread Cert.LatDa.nD Cert.LatDa.τ).loc Cert.LatDa.main_arg1) = m ((c.tc : Thread Cert.LatDa.nD Cert.LatDa.τ).loc Cert.LatDa.main_arg1)
      ∧ r.2.mem ((c.tc : Thread Cert.LatDa.nD Cert.LatDa.τ).loc Cert.LatDa.main_arg2) = m ((c.tc : Thread Cert.LatDa.nD Cert.LatDa.τ).loc Cert.LatDa.main_arg2))
      ∧ r.2.sem = fun _ => 0)

def quiescent_LatDaIdeal [hLatDaIdeal : Cert.LatDaIdeal.Facts] : Prop :=
  ∀ (m : (ℓ : Loc Cert.LatDaIdeal.nD Cert.LatDaIdeal.τ Cert.LatDaIdeal.sig) → Buf (Elt Ideal) ℓ) (g : Dev Cert.LatDaIdeal.nD → PrngReg), Pre_LatDaIdeal m →
    θ_run (Cert.LatDaIdeal.defs (F := Ideal)) (onTc (τ := Cert.LatDaIdeal.τ) (Cert.LatDaIdeal.main (F := Ideal))) ⟨m, fun _ => 0, g⟩ (fun r => (∀ c : Dev Cert.LatDaIdeal.nD,
      r.2.mem ((c.tc : Thread Cert.LatDaIdeal.nD Cert.LatDaIdeal.τ).loc Cert.LatDaIdeal.main_arg0) = m ((c.tc : Thread Cert.LatDaIdeal.nD Cert.LatDaIdeal.τ).loc Cert.LatDaIdeal.main_arg0)
      ∧ r.2.mem ((c.tc : Thread Cert.LatDaIdeal.nD Cert.LatDaIdeal.τ).loc Cert.LatDaIdeal.main_arg1) = m ((c.tc : Thread Cert.LatDaIdeal.nD Cert.LatDaIdeal.τ).loc Cert.LatDaIdeal.main_arg1)
      ∧ r.2.mem ((c.tc : Thread Cert.LatDaIdeal.nD Cert.LatDaIdeal.τ).loc Cert.LatDaIdeal.main_arg2) = m ((c.tc : Thread Cert.LatDaIdeal.nD Cert.LatDaIdeal.τ).loc Cert.LatDaIdeal.main_arg2))
      ∧ r.2.sem = fun _ => 0)

def quiescent_LatDaRefIdeal [hLatDaRefIdeal : Cert.LatDaRefIdeal.Facts] : Prop :=
  ∀ (m : (ℓ : Loc Cert.LatDaRefIdeal.nD Cert.LatDaRefIdeal.τ Cert.LatDaRefIdeal.sig) → Buf (Elt Ideal) ℓ) (g : Dev Cert.LatDaRefIdeal.nD → PrngReg), Pre_LatDaRefIdeal m →
    θ_run (Cert.LatDaRefIdeal.defs (F := Ideal)) (onTc (τ := Cert.LatDaRefIdeal.τ) (Cert.LatDaRefIdeal.main (F := Ideal))) ⟨m, fun _ => 0, g⟩ (fun r => (∀ c : Dev Cert.LatDaRefIdeal.nD,
      r.2.mem ((c.tc : Thread Cert.LatDaRefIdeal.nD Cert.LatDaRefIdeal.τ).loc Cert.LatDaRefIdeal.main_arg0) = m ((c.tc : Thread Cert.LatDaRefIdeal.nD Cert.LatDaRefIdeal.τ).loc Cert.LatDaRefIdeal.main_arg0)
      ∧ r.2.mem ((c.tc : Thread Cert.LatDaRefIdeal.nD Cert.LatDaRefIdeal.τ).loc Cert.LatDaRefIdeal.main_arg1) = m ((c.tc : Thread Cert.LatDaRefIdeal.nD Cert.LatDaRefIdeal.τ).loc Cert.LatDaRefIdeal.main_arg1)
      ∧ r.2.mem ((c.tc : Thread Cert.LatDaRefIdeal.nD Cert.LatDaRefIdeal.τ).loc Cert.LatDaRefIdeal.main_arg2) = m ((c.tc : Thread Cert.LatDaRefIdeal.nD Cert.LatDaRefIdeal.τ).loc Cert.LatDaRefIdeal.main_arg2))
      ∧ r.2.sem = fun _ => 0)

def quiescent_LatDw [hLatDw : Cert.LatDw.Facts] : Prop :=
  ∀ (m : (ℓ : Loc Cert.LatDw.nD Cert.LatDw.τ Cert.LatDw.sig) → Buf (Elt Bits) ℓ) (g : Dev Cert.LatDw.nD → PrngReg), Pre_LatDw m →
    θ_run (Cert.LatDw.defs (F := Bits)) (onTc (τ := Cert.LatDw.τ) (Cert.LatDw.main (F := Bits))) ⟨m, fun _ => 0, g⟩ (fun r => (∀ c : Dev Cert.LatDw.nD,
      r.2.mem ((c.tc : Thread Cert.LatDw.nD Cert.LatDw.τ).loc Cert.LatDw.main_arg0) = m ((c.tc : Thread Cert.LatDw.nD Cert.LatDw.τ).loc Cert.LatDw.main_arg0)
      ∧ r.2.mem ((c.tc : Thread Cert.LatDw.nD Cert.LatDw.τ).loc Cert.LatDw.main_arg1) = m ((c.tc : Thread Cert.LatDw.nD Cert.LatDw.τ).loc Cert.LatDw.main_arg1)
      ∧ r.2.mem ((c.tc : Thread Cert.LatDw.nD Cert.LatDw.τ).loc Cert.LatDw.main_arg2) = m ((c.tc : Thread Cert.LatDw.nD Cert.LatDw.τ).loc Cert.LatDw.main_arg2))
      ∧ r.2.sem = fun _ => 0)

def quiescent_LatDwIdeal [hLatDwIdeal : Cert.LatDwIdeal.Facts] : Prop :=
  ∀ (m : (ℓ : Loc Cert.LatDwIdeal.nD Cert.LatDwIdeal.τ Cert.LatDwIdeal.sig) → Buf (Elt Ideal) ℓ) (g : Dev Cert.LatDwIdeal.nD → PrngReg), Pre_LatDwIdeal m →
    θ_run (Cert.LatDwIdeal.defs (F := Ideal)) (onTc (τ := Cert.LatDwIdeal.τ) (Cert.LatDwIdeal.main (F := Ideal))) ⟨m, fun _ => 0, g⟩ (fun r => (∀ c : Dev Cert.LatDwIdeal.nD,
      r.2.mem ((c.tc : Thread Cert.LatDwIdeal.nD Cert.LatDwIdeal.τ).loc Cert.LatDwIdeal.main_arg0) = m ((c.tc : Thread Cert.LatDwIdeal.nD Cert.LatDwIdeal.τ).loc Cert.LatDwIdeal.main_arg0)
      ∧ r.2.mem ((c.tc : Thread Cert.LatDwIdeal.nD Cert.LatDwIdeal.τ).loc Cert.LatDwIdeal.main_arg1) = m ((c.tc : Thread Cert.LatDwIdeal.nD Cert.LatDwIdeal.τ).loc Cert.LatDwIdeal.main_arg1)
      ∧ r.2.mem ((c.tc : Thread Cert.LatDwIdeal.nD Cert.LatDwIdeal.τ).loc Cert.LatDwIdeal.main_arg2) = m ((c.tc : Thread Cert.LatDwIdeal.nD Cert.LatDwIdeal.τ).loc Cert.LatDwIdeal.main_arg2))
      ∧ r.2.sem = fun _ => 0)

def quiescent_LatDwRefIdeal [hLatDwRefIdeal : Cert.LatDwRefIdeal.Facts] : Prop :=
  ∀ (m : (ℓ : Loc Cert.LatDwRefIdeal.nD Cert.LatDwRefIdeal.τ Cert.LatDwRefIdeal.sig) → Buf (Elt Ideal) ℓ) (g : Dev Cert.LatDwRefIdeal.nD → PrngReg), Pre_LatDwRefIdeal m →
    θ_run (Cert.LatDwRefIdeal.defs (F := Ideal)) (onTc (τ := Cert.LatDwRefIdeal.τ) (Cert.LatDwRefIdeal.main (F := Ideal))) ⟨m, fun _ => 0, g⟩ (fun r => (∀ c : Dev Cert.LatDwRefIdeal.nD,
      r.2.mem ((c.tc : Thread Cert.LatDwRefIdeal.nD Cert.LatDwRefIdeal.τ).loc Cert.LatDwRefIdeal.main_arg0) = m ((c.tc : Thread Cert.LatDwRefIdeal.nD Cert.LatDwRefIdeal.τ).loc Cert.LatDwRefIdeal.main_arg0)
      ∧ r.2.mem ((c.tc : Thread Cert.LatDwRefIdeal.nD Cert.LatDwRefIdeal.τ).loc Cert.LatDwRefIdeal.main_arg1) = m ((c.tc : Thread Cert.LatDwRefIdeal.nD Cert.LatDwRefIdeal.τ).loc Cert.LatDwRefIdeal.main_arg1)
      ∧ r.2.mem ((c.tc : Thread Cert.LatDwRefIdeal.nD Cert.LatDwRefIdeal.τ).loc Cert.LatDwRefIdeal.main_arg2) = m ((c.tc : Thread Cert.LatDwRefIdeal.nD Cert.LatDwRefIdeal.τ).loc Cert.LatDwRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_DownDa [hDownDa : Cert.DownDa.Facts] : Prop :=
  ∀ (m : (ℓ : Loc Cert.DownDa.nD Cert.DownDa.τ Cert.DownDa.sig) → Buf (Elt Bits) ℓ) (g : Dev Cert.DownDa.nD → PrngReg), Pre_DownDa m →
    θ_run (Cert.DownDa.defs (F := Bits)) (onTc (τ := Cert.DownDa.τ) (Cert.DownDa.main (F := Bits))) ⟨m, fun _ => 0, g⟩ (fun r => (∀ c : Dev Cert.DownDa.nD,
      r.2.mem ((c.tc : Thread Cert.DownDa.nD Cert.DownDa.τ).loc Cert.DownDa.main_arg0) = m ((c.tc : Thread Cert.DownDa.nD Cert.DownDa.τ).loc Cert.DownDa.main_arg0)
      ∧ r.2.mem ((c.tc : Thread Cert.DownDa.nD Cert.DownDa.τ).loc Cert.DownDa.main_arg1) = m ((c.tc : Thread Cert.DownDa.nD Cert.DownDa.τ).loc Cert.DownDa.main_arg1)
      ∧ r.2.mem ((c.tc : Thread Cert.DownDa.nD Cert.DownDa.τ).loc Cert.DownDa.main_arg2) = m ((c.tc : Thread Cert.DownDa.nD Cert.DownDa.τ).loc Cert.DownDa.main_arg2))
      ∧ r.2.sem = fun _ => 0)

def quiescent_DownDaIdeal [hDownDaIdeal : Cert.DownDaIdeal.Facts] : Prop :=
  ∀ (m : (ℓ : Loc Cert.DownDaIdeal.nD Cert.DownDaIdeal.τ Cert.DownDaIdeal.sig) → Buf (Elt Ideal) ℓ) (g : Dev Cert.DownDaIdeal.nD → PrngReg), Pre_DownDaIdeal m →
    θ_run (Cert.DownDaIdeal.defs (F := Ideal)) (onTc (τ := Cert.DownDaIdeal.τ) (Cert.DownDaIdeal.main (F := Ideal))) ⟨m, fun _ => 0, g⟩ (fun r => (∀ c : Dev Cert.DownDaIdeal.nD,
      r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
      ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1)
      ∧ r.2.mem ((c.tc : Thread Cert.DownDaIdeal.nD Cert.DownDaIdeal.τ).loc Cert.DownDaIdeal.main_arg2) = m ((c.tc : Thread Cert.DownDaIdeal.nD Cert.DownDaIdeal.τ).loc Cert.DownDaIdeal.main_arg2))
      ∧ r.2.sem = fun _ => 0)

def quiescent_DownDaRefIdeal [hDownDaRefIdeal : Cert.DownDaRefIdeal.Facts] : Prop :=
  ∀ (m : (ℓ : Loc Cert.DownDaRefIdeal.nD Cert.DownDaRefIdeal.τ Cert.DownDaRefIdeal.sig) → Buf (Elt Ideal) ℓ) (g : Dev Cert.DownDaRefIdeal.nD → PrngReg), Pre_DownDaRefIdeal m →
    θ_run (Cert.DownDaRefIdeal.defs (F := Ideal)) (onTc (τ := Cert.DownDaRefIdeal.τ) (Cert.DownDaRefIdeal.main (F := Ideal))) ⟨m, fun _ => 0, g⟩ (fun r => (∀ c : Dev Cert.DownDaRefIdeal.nD,
      r.2.mem ((c.tc : Thread Cert.DownDaRefIdeal.nD Cert.DownDaRefIdeal.τ).loc Cert.DownDaRefIdeal.main_arg0) = m ((c.tc : Thread Cert.DownDaRefIdeal.nD Cert.DownDaRefIdeal.τ).loc Cert.DownDaRefIdeal.main_arg0)
      ∧ r.2.mem ((c.tc : Thread Cert.DownDaRefIdeal.nD Cert.DownDaRefIdeal.τ).loc Cert.DownDaRefIdeal.main_arg1) = m ((c.tc : Thread Cert.DownDaRefIdeal.nD Cert.DownDaRefIdeal.τ).loc Cert.DownDaRefIdeal.main_arg1)
      ∧ r.2.mem ((c.tc : Thread Cert.DownDaRefIdeal.nD Cert.DownDaRefIdeal.τ).loc Cert.DownDaRefIdeal.main_arg2) = m ((c.tc : Thread Cert.DownDaRefIdeal.nD Cert.DownDaRefIdeal.τ).loc Cert.DownDaRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_OutDa [hOutDa : Cert.OutDa.Facts] : Prop :=
  ∀ (m : (ℓ : Loc Cert.OutDa.nD Cert.OutDa.τ Cert.OutDa.sig) → Buf (Elt Bits) ℓ) (g : Dev Cert.OutDa.nD → PrngReg), Pre_OutDa m →
    θ_run (Cert.OutDa.defs (F := Bits)) (onTc (τ := Cert.OutDa.τ) (Cert.OutDa.main (F := Bits))) ⟨m, fun _ => 0, g⟩ (fun r => (∀ c : Dev Cert.OutDa.nD,
      r.2.mem ((c.tc : Thread Cert.OutDa.nD Cert.OutDa.τ).loc Cert.OutDa.main_arg0) = m ((c.tc : Thread Cert.OutDa.nD Cert.OutDa.τ).loc Cert.OutDa.main_arg0)
      ∧ r.2.mem ((c.tc : Thread Cert.OutDa.nD Cert.OutDa.τ).loc Cert.OutDa.main_arg1) = m ((c.tc : Thread Cert.OutDa.nD Cert.OutDa.τ).loc Cert.OutDa.main_arg1)
      ∧ r.2.mem ((c.tc : Thread Cert.OutDa.nD Cert.OutDa.τ).loc Cert.OutDa.main_arg2) = m ((c.tc : Thread Cert.OutDa.nD Cert.OutDa.τ).loc Cert.OutDa.main_arg2))
      ∧ r.2.sem = fun _ => 0)

def quiescent_OutDaIdeal [hOutDaIdeal : Cert.OutDaIdeal.Facts] : Prop :=
  ∀ (m : (ℓ : Loc Cert.OutDaIdeal.nD Cert.OutDaIdeal.τ Cert.OutDaIdeal.sig) → Buf (Elt Ideal) ℓ) (g : Dev Cert.OutDaIdeal.nD → PrngReg), Pre_OutDaIdeal m →
    θ_run (Cert.OutDaIdeal.defs (F := Ideal)) (onTc (τ := Cert.OutDaIdeal.τ) (Cert.OutDaIdeal.main (F := Ideal))) ⟨m, fun _ => 0, g⟩ (fun r => (∀ c : Dev Cert.OutDaIdeal.nD,
      r.2.mem ((c.tc : Thread Cert.OutDaIdeal.nD Cert.OutDaIdeal.τ).loc Cert.OutDaIdeal.main_arg0) = m ((c.tc : Thread Cert.OutDaIdeal.nD Cert.OutDaIdeal.τ).loc Cert.OutDaIdeal.main_arg0)
      ∧ r.2.mem ((c.tc : Thread Cert.OutDaIdeal.nD Cert.OutDaIdeal.τ).loc Cert.OutDaIdeal.main_arg1) = m ((c.tc : Thread Cert.OutDaIdeal.nD Cert.OutDaIdeal.τ).loc Cert.OutDaIdeal.main_arg1)
      ∧ r.2.mem ((c.tc : Thread Cert.OutDaIdeal.nD Cert.OutDaIdeal.τ).loc Cert.OutDaIdeal.main_arg2) = m ((c.tc : Thread Cert.OutDaIdeal.nD Cert.OutDaIdeal.τ).loc Cert.OutDaIdeal.main_arg2))
      ∧ r.2.sem = fun _ => 0)

def quiescent_OutDaRefIdeal [hOutDaRefIdeal : Cert.OutDaRefIdeal.Facts] : Prop :=
  ∀ (m : (ℓ : Loc Cert.OutDaRefIdeal.nD Cert.OutDaRefIdeal.τ Cert.OutDaRefIdeal.sig) → Buf (Elt Ideal) ℓ) (g : Dev Cert.OutDaRefIdeal.nD → PrngReg), Pre_OutDaRefIdeal m →
    θ_run (Cert.OutDaRefIdeal.defs (F := Ideal)) (onTc (τ := Cert.OutDaRefIdeal.τ) (Cert.OutDaRefIdeal.main (F := Ideal))) ⟨m, fun _ => 0, g⟩ (fun r => (∀ c : Dev Cert.OutDaRefIdeal.nD,
      r.2.mem ((c.tc : Thread Cert.OutDaRefIdeal.nD Cert.OutDaRefIdeal.τ).loc Cert.OutDaRefIdeal.main_arg0) = m ((c.tc : Thread Cert.OutDaRefIdeal.nD Cert.OutDaRefIdeal.τ).loc Cert.OutDaRefIdeal.main_arg0)
      ∧ r.2.mem ((c.tc : Thread Cert.OutDaRefIdeal.nD Cert.OutDaRefIdeal.τ).loc Cert.OutDaRefIdeal.main_arg1) = m ((c.tc : Thread Cert.OutDaRefIdeal.nD Cert.OutDaRefIdeal.τ).loc Cert.OutDaRefIdeal.main_arg1)
      ∧ r.2.mem ((c.tc : Thread Cert.OutDaRefIdeal.nD Cert.OutDaRefIdeal.τ).loc Cert.OutDaRefIdeal.main_arg2) = m ((c.tc : Thread Cert.OutDaRefIdeal.nD Cert.OutDaRefIdeal.τ).loc Cert.OutDaRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1))
      ∧ r.2.sem = fun _ => 0)

def quiescent_SwigluB [hSwigluB : Cert.SwigluB.Facts] : Prop :=
  ∀ (m : (ℓ : Loc Cert.SwigluB.nD Cert.SwigluB.τ Cert.SwigluB.sig) → Buf (Elt Bits) ℓ) (g : Dev Cert.SwigluB.nD → PrngReg), Pre_SwigluB m →
    θ_run (Cert.SwigluB.defs (F := Bits)) (onTc (τ := Cert.SwigluB.τ) (Cert.SwigluB.main (F := Bits))) ⟨m, fun _ => 0, g⟩ (fun r => (∀ c : Dev Cert.SwigluB.nD,
      r.2.mem ((c.tc : Thread Cert.SwigluB.nD Cert.SwigluB.τ).loc Cert.SwigluB.main_arg0) = m ((c.tc : Thread Cert.SwigluB.nD Cert.SwigluB.τ).loc Cert.SwigluB.main_arg0)
      ∧ r.2.mem ((c.tc : Thread Cert.SwigluB.nD Cert.SwigluB.τ).loc Cert.SwigluB.main_arg1) = m ((c.tc : Thread Cert.SwigluB.nD Cert.SwigluB.τ).loc Cert.SwigluB.main_arg1)
      ∧ r.2.mem ((c.tc : Thread Cert.SwigluB.nD Cert.SwigluB.τ).loc Cert.SwigluB.main_arg2) = m ((c.tc : Thread Cert.SwigluB.nD Cert.SwigluB.τ).loc Cert.SwigluB.main_arg2))
      ∧ r.2.sem = fun _ => 0)

def quiescent_SwigluBIdeal [hSwigluBIdeal : Cert.SwigluBIdeal.Facts] : Prop :=
  ∀ (m : (ℓ : Loc Cert.SwigluBIdeal.nD Cert.SwigluBIdeal.τ Cert.SwigluBIdeal.sig) → Buf (Elt Ideal) ℓ) (g : Dev Cert.SwigluBIdeal.nD → PrngReg), Pre_SwigluBIdeal m →
    θ_run (Cert.SwigluBIdeal.defs (F := Ideal)) (onTc (τ := Cert.SwigluBIdeal.τ) (Cert.SwigluBIdeal.main (F := Ideal))) ⟨m, fun _ => 0, g⟩ (fun r => (∀ c : Dev Cert.SwigluBIdeal.nD,
      r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
      ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1)
      ∧ r.2.mem ((c.tc : Thread Cert.SwigluBIdeal.nD Cert.SwigluBIdeal.τ).loc Cert.SwigluBIdeal.main_arg2) = m ((c.tc : Thread Cert.SwigluBIdeal.nD Cert.SwigluBIdeal.τ).loc Cert.SwigluBIdeal.main_arg2))
      ∧ r.2.sem = fun _ => 0)

def quiescent_SwigluBIdeal_pre_finite_gate [hSwigluBIdeal : Cert.SwigluBIdeal.Facts] [hPre_finite_gate : Cert.Pre_finite_gate.Facts] : Prop :=
  ∀ (m : (ℓ : Loc Cert.SwigluBIdeal.nD Cert.SwigluBIdeal.τ Cert.SwigluBIdeal.sig) → Buf (Elt Ideal) ℓ) (g : Dev Cert.SwigluBIdeal.nD → PrngReg), Pre_SwigluBIdeal_finite_gate m →
    θ_run (Cert.SwigluBIdeal.defs (F := Ideal)) (onTc (τ := Cert.SwigluBIdeal.τ) (Cert.SwigluBIdeal.main (F := Ideal))) ⟨m, fun _ => 0, g⟩ (fun r => (∀ c : Dev Cert.SwigluBIdeal.nD,
      r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
      ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1)
      ∧ r.2.mem ((c.tc : Thread Cert.SwigluBIdeal.nD Cert.SwigluBIdeal.τ).loc Cert.SwigluBIdeal.main_arg2) = m ((c.tc : Thread Cert.SwigluBIdeal.nD Cert.SwigluBIdeal.τ).loc Cert.SwigluBIdeal.main_arg2))
      ∧ r.2.sem = fun _ => 0)

def quiescent_SwigluBRefIdeal [hSwigluBRefIdeal : Cert.SwigluBRefIdeal.Facts] : Prop :=
  ∀ (m : (ℓ : Loc Cert.SwigluBRefIdeal.nD Cert.SwigluBRefIdeal.τ Cert.SwigluBRefIdeal.sig) → Buf (Elt Ideal) ℓ) (g : Dev Cert.SwigluBRefIdeal.nD → PrngReg), Pre_SwigluBRefIdeal m →
    θ_run (Cert.SwigluBRefIdeal.defs (F := Ideal)) (onTc (τ := Cert.SwigluBRefIdeal.τ) (Cert.SwigluBRefIdeal.main (F := Ideal))) ⟨m, fun _ => 0, g⟩ (fun r => (∀ c : Dev Cert.SwigluBRefIdeal.nD,
      r.2.mem ((c.tc : Thread Cert.SwigluBRefIdeal.nD Cert.SwigluBRefIdeal.τ).loc Cert.SwigluBRefIdeal.main_arg0) = m ((c.tc : Thread Cert.SwigluBRefIdeal.nD Cert.SwigluBRefIdeal.τ).loc Cert.SwigluBRefIdeal.main_arg0)
      ∧ r.2.mem ((c.tc : Thread Cert.SwigluBRefIdeal.nD Cert.SwigluBRefIdeal.τ).loc Cert.SwigluBRefIdeal.main_arg1) = m ((c.tc : Thread Cert.SwigluBRefIdeal.nD Cert.SwigluBRefIdeal.τ).loc Cert.SwigluBRefIdeal.main_arg1)
      ∧ r.2.mem ((c.tc : Thread Cert.SwigluBRefIdeal.nD Cert.SwigluBRefIdeal.τ).loc Cert.SwigluBRefIdeal.main_arg2) = m ((c.tc : Thread Cert.SwigluBRefIdeal.nD Cert.SwigluBRefIdeal.τ).loc Cert.SwigluBRefIdeal.main_arg2))
      ∧ r.2.sem = fun _ => 0)

def quiescent_SwigluBRefIdeal_pre_finite_gate [hSwigluBRefIdeal : Cert.SwigluBRefIdeal.Facts] [hPre_finite_gate : Cert.Pre_finite_gate.Facts] : Prop :=
  ∀ (m : (ℓ : Loc Cert.SwigluBRefIdeal.nD Cert.SwigluBRefIdeal.τ Cert.SwigluBRefIdeal.sig) → Buf (Elt Ideal) ℓ) (g : Dev Cert.SwigluBRefIdeal.nD → PrngReg), Pre_SwigluBRefIdeal_finite_gate m →
    θ_run (Cert.SwigluBRefIdeal.defs (F := Ideal)) (onTc (τ := Cert.SwigluBRefIdeal.τ) (Cert.SwigluBRefIdeal.main (F := Ideal))) ⟨m, fun _ => 0, g⟩ (fun r => (∀ c : Dev Cert.SwigluBRefIdeal.nD,
      r.2.mem ((c.tc : Thread Cert.SwigluBRefIdeal.nD Cert.SwigluBRefIdeal.τ).loc Cert.SwigluBRefIdeal.main_arg0) = m ((c.tc : Thread Cert.SwigluBRefIdeal.nD Cert.SwigluBRefIdeal.τ).loc Cert.SwigluBRefIdeal.main_arg0)
      ∧ r.2.mem ((c.tc : Thread Cert.SwigluBRefIdeal.nD Cert.SwigluBRefIdeal.τ).loc Cert.SwigluBRefIdeal.main_arg1) = m ((c.tc : Thread Cert.SwigluBRefIdeal.nD Cert.SwigluBRefIdeal.τ).loc Cert.SwigluBRefIdeal.main_arg1)
      ∧ r.2.mem ((c.tc : Thread Cert.SwigluBRefIdeal.nD Cert.SwigluBRefIdeal.τ).loc Cert.SwigluBRefIdeal.main_arg2) = m ((c.tc : Thread Cert.SwigluBRefIdeal.nD Cert.SwigluBRefIdeal.τ).loc Cert.SwigluBRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamUq [hAdamUq : Cert.AdamUq.Facts] : Prop :=
  ∀ (m : (ℓ : Loc Cert.AdamUq.nD Cert.AdamUq.τ Cert.AdamUq.sig) → Buf (Elt Bits) ℓ) (g : Dev Cert.AdamUq.nD → PrngReg), Pre_AdamUq m →
    θ_run (Cert.AdamUq.defs (F := Bits)) (onTc (τ := Cert.AdamUq.τ) (Cert.AdamUq.main (F := Bits))) ⟨m, fun _ => 0, g⟩ (fun r => (∀ c : Dev Cert.AdamUq.nD,
      r.2.mem ((c.tc : Thread Cert.AdamUq.nD Cert.AdamUq.τ).loc Cert.AdamUq.main_arg0) = m ((c.tc : Thread Cert.AdamUq.nD Cert.AdamUq.τ).loc Cert.AdamUq.main_arg0)
      ∧ r.2.mem ((c.tc : Thread Cert.AdamUq.nD Cert.AdamUq.τ).loc Cert.AdamUq.main_arg1) = m ((c.tc : Thread Cert.AdamUq.nD Cert.AdamUq.τ).loc Cert.AdamUq.main_arg1)
      ∧ r.2.mem ((c.tc : Thread Cert.AdamUq.nD Cert.AdamUq.τ).loc Cert.AdamUq.main_arg2) = m ((c.tc : Thread Cert.AdamUq.nD Cert.AdamUq.τ).loc Cert.AdamUq.main_arg2)
      ∧ r.2.mem ((c.tc : Thread Cert.AdamUq.nD Cert.AdamUq.τ).loc Cert.AdamUq.main_arg3) = m ((c.tc : Thread Cert.AdamUq.nD Cert.AdamUq.τ).loc Cert.AdamUq.main_arg3))
      ∧ r.2.sem = fun _ => 0)

def quiescent_AdamUqIdeal [hAdamUqIdeal : Cert.AdamUqIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg), Pre_AdamUqIdeal m →
    θ_run (Cert.AdamUqIdeal.defs (F := Ideal)) (onTc (τ := Cert.AdamUqIdeal.τ) (Cert.AdamUqIdeal.main (F := Ideal))) ⟨m, fun _ => 0, g⟩ (fun r => (∀ c : Dev Cert.AdamUqIdeal.nD,
      r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
      ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
      ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
      ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3))
      ∧ r.2.sem = fun _ => 0)

def quiescent_AdamUqRefIdeal [hAdamUqRefIdeal : Cert.AdamUqRefIdeal.Facts] : Prop :=
  ∀ (m : (ℓ : Loc Cert.AdamUqRefIdeal.nD Cert.AdamUqRefIdeal.τ Cert.AdamUqRefIdeal.sig) → Buf (Elt Ideal) ℓ) (g : Dev Cert.AdamUqRefIdeal.nD → PrngReg), Pre_AdamUqRefIdeal m →
    θ_run (Cert.AdamUqRefIdeal.defs (F := Ideal)) (onTc (τ := Cert.AdamUqRefIdeal.τ) (Cert.AdamUqRefIdeal.main (F := Ideal))) ⟨m, fun _ => 0, g⟩ (fun r => (∀ c : Dev Cert.AdamUqRefIdeal.nD,
      r.2.mem ((c.tc : Thread Cert.AdamUqRefIdeal.nD Cert.AdamUqRefIdeal.τ).loc Cert.AdamUqRefIdeal.main_arg0) = m ((c.tc : Thread Cert.AdamUqRefIdeal.nD Cert.AdamUqRefIdeal.τ).loc Cert.AdamUqRefIdeal.main_arg0)
      ∧ r.2.mem ((c.tc : Thread Cert.AdamUqRefIdeal.nD Cert.AdamUqRefIdeal.τ).loc Cert.AdamUqRefIdeal.main_arg1) = m ((c.tc : Thread Cert.AdamUqRefIdeal.nD Cert.AdamUqRefIdeal.τ).loc Cert.AdamUqRefIdeal.main_arg1)
      ∧ r.2.mem ((c.tc : Thread Cert.AdamUqRefIdeal.nD Cert.AdamUqRefIdeal.τ).loc Cert.AdamUqRefIdeal.main_arg2) = m ((c.tc : Thread Cert.AdamUqRefIdeal.nD Cert.AdamUqRefIdeal.τ).loc Cert.AdamUqRefIdeal.main_arg2)
      ∧ r.2.mem ((c.tc : Thread Cert.AdamUqRefIdeal.nD Cert.AdamUqRefIdeal.τ).loc Cert.AdamUqRefIdeal.main_arg3) = m ((c.tc : Thread Cert.AdamUqRefIdeal.nD Cert.AdamUqRefIdeal.τ).loc Cert.AdamUqRefIdeal.main_arg3))
      ∧ r.2.sem = fun _ => 0)

def quiescent_AdamUkv [hAdamUkv : Cert.AdamUkv.Facts] : Prop :=
  ∀ (m : (ℓ : Loc Cert.AdamUkv.nD Cert.AdamUkv.τ Cert.AdamUkv.sig) → Buf (Elt Bits) ℓ) (g : Dev Cert.AdamUkv.nD → PrngReg), Pre_AdamUkv m →
    θ_run (Cert.AdamUkv.defs (F := Bits)) (onTc (τ := Cert.AdamUkv.τ) (Cert.AdamUkv.main (F := Bits))) ⟨m, fun _ => 0, g⟩ (fun r => (∀ c : Dev Cert.AdamUkv.nD,
      r.2.mem ((c.tc : Thread Cert.AdamUkv.nD Cert.AdamUkv.τ).loc Cert.AdamUkv.main_arg0) = m ((c.tc : Thread Cert.AdamUkv.nD Cert.AdamUkv.τ).loc Cert.AdamUkv.main_arg0)
      ∧ r.2.mem ((c.tc : Thread Cert.AdamUkv.nD Cert.AdamUkv.τ).loc Cert.AdamUkv.main_arg1) = m ((c.tc : Thread Cert.AdamUkv.nD Cert.AdamUkv.τ).loc Cert.AdamUkv.main_arg1)
      ∧ r.2.mem ((c.tc : Thread Cert.AdamUkv.nD Cert.AdamUkv.τ).loc Cert.AdamUkv.main_arg2) = m ((c.tc : Thread Cert.AdamUkv.nD Cert.AdamUkv.τ).loc Cert.AdamUkv.main_arg2)
      ∧ r.2.mem ((c.tc : Thread Cert.AdamUkv.nD Cert.AdamUkv.τ).loc Cert.AdamUkv.main_arg3) = m ((c.tc : Thread Cert.AdamUkv.nD Cert.AdamUkv.τ).loc Cert.AdamUkv.main_arg3))
      ∧ r.2.sem = fun _ => 0)

def quiescent_AdamUkvIdeal [hAdamUkvIdeal : Cert.AdamUkvIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg), Pre_AdamUkvIdeal m →
    θ_run (Cert.AdamUkvIdeal.defs (F := Ideal)) (onTc (τ := Cert.AdamUkvIdeal.τ) (Cert.AdamUkvIdeal.main (F := Ideal))) ⟨m, fun _ => 0, g⟩ (fun r => (∀ c : Dev Cert.AdamUkvIdeal.nD,
      r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
      ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
      ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
      ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3))
      ∧ r.2.sem = fun _ => 0)

def quiescent_AdamUkvRefIdeal [hAdamUkvRefIdeal : Cert.AdamUkvRefIdeal.Facts] : Prop :=
  ∀ (m : (ℓ : Loc Cert.AdamUkvRefIdeal.nD Cert.AdamUkvRefIdeal.τ Cert.AdamUkvRefIdeal.sig) → Buf (Elt Ideal) ℓ) (g : Dev Cert.AdamUkvRefIdeal.nD → PrngReg), Pre_AdamUkvRefIdeal m →
    θ_run (Cert.AdamUkvRefIdeal.defs (F := Ideal)) (onTc (τ := Cert.AdamUkvRefIdeal.τ) (Cert.AdamUkvRefIdeal.main (F := Ideal))) ⟨m, fun _ => 0, g⟩ (fun r => (∀ c : Dev Cert.AdamUkvRefIdeal.nD,
      r.2.mem ((c.tc : Thread Cert.AdamUkvRefIdeal.nD Cert.AdamUkvRefIdeal.τ).loc Cert.AdamUkvRefIdeal.main_arg0) = m ((c.tc : Thread Cert.AdamUkvRefIdeal.nD Cert.AdamUkvRefIdeal.τ).loc Cert.AdamUkvRefIdeal.main_arg0)
      ∧ r.2.mem ((c.tc : Thread Cert.AdamUkvRefIdeal.nD Cert.AdamUkvRefIdeal.τ).loc Cert.AdamUkvRefIdeal.main_arg1) = m ((c.tc : Thread Cert.AdamUkvRefIdeal.nD Cert.AdamUkvRefIdeal.τ).loc Cert.AdamUkvRefIdeal.main_arg1)
      ∧ r.2.mem ((c.tc : Thread Cert.AdamUkvRefIdeal.nD Cert.AdamUkvRefIdeal.τ).loc Cert.AdamUkvRefIdeal.main_arg2) = m ((c.tc : Thread Cert.AdamUkvRefIdeal.nD Cert.AdamUkvRefIdeal.τ).loc Cert.AdamUkvRefIdeal.main_arg2)
      ∧ r.2.mem ((c.tc : Thread Cert.AdamUkvRefIdeal.nD Cert.AdamUkvRefIdeal.τ).loc Cert.AdamUkvRefIdeal.main_arg3) = m ((c.tc : Thread Cert.AdamUkvRefIdeal.nD Cert.AdamUkvRefIdeal.τ).loc Cert.AdamUkvRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0))
      ∧ r.2.sem = fun _ => 0)

def quiescent_SumUq [hSumUq : Cert.SumUq.Facts] : Prop :=
  ∀ (m : (ℓ : Loc Cert.SumUq.nD Cert.SumUq.τ Cert.SumUq.sig) → Buf (Elt Bits) ℓ) (g : Dev Cert.SumUq.nD → PrngReg), Pre_SumUq m →
    θ_run (Cert.SumUq.defs (F := Bits)) (onTc (τ := Cert.SumUq.τ) (Cert.SumUq.main (F := Bits))) ⟨m, fun _ => 0, g⟩ (fun r => (∀ c : Dev Cert.SumUq.nD,
      r.2.mem ((c.tc : Thread Cert.SumUq.nD Cert.SumUq.τ).loc Cert.SumUq.main_arg0) = m ((c.tc : Thread Cert.SumUq.nD Cert.SumUq.τ).loc Cert.SumUq.main_arg0))
      ∧ r.2.sem = fun _ => 0)

def quiescent_SumUqIdeal [hSumUqIdeal : Cert.SumUqIdeal.Facts] : Prop :=
  ∀ (m : (ℓ : Loc Cert.SumUqIdeal.nD Cert.SumUqIdeal.τ Cert.SumUqIdeal.sig) → Buf (Elt Ideal) ℓ) (g : Dev Cert.SumUqIdeal.nD → PrngReg), Pre_SumUqIdeal m →
    θ_run (Cert.SumUqIdeal.defs (F := Ideal)) (onTc (τ := Cert.SumUqIdeal.τ) (Cert.SumUqIdeal.main (F := Ideal))) ⟨m, fun _ => 0, g⟩ (fun r => (∀ c : Dev Cert.SumUqIdeal.nD,
      r.2.mem ((c.tc : Thread Cert.SumUqIdeal.nD Cert.SumUqIdeal.τ).loc Cert.SumUqIdeal.main_arg0) = m ((c.tc : Thread Cert.SumUqIdeal.nD Cert.SumUqIdeal.τ).loc Cert.SumUqIdeal.main_arg0))
      ∧ r.2.sem = fun _ => 0)

def quiescent_SumUqRefIdeal [hSumUqRefIdeal : Cert.SumUqRefIdeal.Facts] : Prop :=
  ∀ (m : (ℓ : Loc Cert.SumUqRefIdeal.nD Cert.SumUqRefIdeal.τ Cert.SumUqRefIdeal.sig) → Buf (Elt Ideal) ℓ) (g : Dev Cert.SumUqRefIdeal.nD → PrngReg), Pre_SumUqRefIdeal m →
    θ_run (Cert.SumUqRefIdeal.defs (F := Ideal)) (onTc (τ := Cert.SumUqRefIdeal.τ) (Cert.SumUqRefIdeal.main (F := Ideal))) ⟨m, fun _ => 0, g⟩ (fun r => (∀ c : Dev Cert.SumUqRefIdeal.nD,
      r.2.mem ((c.tc : Thread Cert.SumUqRefIdeal.nD Cert.SumUqRefIdeal.τ).loc Cert.SumUqRefIdeal.main_arg0) = m ((c.tc : Thread Cert.SumUqRefIdeal.nD Cert.SumUqRefIdeal.τ).loc Cert.SumUqRefIdeal.main_arg0))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0))
      ∧ r.2.sem = fun _ => 0)

def quiescent_SumGate [hSumGate : Cert.SumGate.Facts] : Prop :=
  ∀ (m : (ℓ : Loc Cert.SumGate.nD Cert.SumGate.τ Cert.SumGate.sig) → Buf (Elt Bits) ℓ) (g : Dev Cert.SumGate.nD → PrngReg), Pre_SumGate m →
    θ_run (Cert.SumGate.defs (F := Bits)) (onTc (τ := Cert.SumGate.τ) (Cert.SumGate.main (F := Bits))) ⟨m, fun _ => 0, g⟩ (fun r => (∀ c : Dev Cert.SumGate.nD,
      r.2.mem ((c.tc : Thread Cert.SumGate.nD Cert.SumGate.τ).loc Cert.SumGate.main_arg0) = m ((c.tc : Thread Cert.SumGate.nD Cert.SumGate.τ).loc Cert.SumGate.main_arg0))
      ∧ r.2.sem = fun _ => 0)

def quiescent_SumGateIdeal [hSumGateIdeal : Cert.SumGateIdeal.Facts] : Prop :=
  ∀ (m : (ℓ : Loc Cert.SumGateIdeal.nD Cert.SumGateIdeal.τ Cert.SumGateIdeal.sig) → Buf (Elt Ideal) ℓ) (g : Dev Cert.SumGateIdeal.nD → PrngReg), Pre_SumGateIdeal m →
    θ_run (Cert.SumGateIdeal.defs (F := Ideal)) (onTc (τ := Cert.SumGateIdeal.τ) (Cert.SumGateIdeal.main (F := Ideal))) ⟨m, fun _ => 0, g⟩ (fun r => (∀ c : Dev Cert.SumGateIdeal.nD,
      r.2.mem ((c.tc : Thread Cert.SumGateIdeal.nD Cert.SumGateIdeal.τ).loc Cert.SumGateIdeal.main_arg0) = m ((c.tc : Thread Cert.SumGateIdeal.nD Cert.SumGateIdeal.τ).loc Cert.SumGateIdeal.main_arg0))
      ∧ r.2.sem = fun _ => 0)

def quiescent_SumGateRefIdeal [hSumGateRefIdeal : Cert.SumGateRefIdeal.Facts] : Prop :=
  ∀ (m : (ℓ : Loc Cert.SumGateRefIdeal.nD Cert.SumGateRefIdeal.τ Cert.SumGateRefIdeal.sig) → Buf (Elt Ideal) ℓ) (g : Dev Cert.SumGateRefIdeal.nD → PrngReg), Pre_SumGateRefIdeal m →
    θ_run (Cert.SumGateRefIdeal.defs (F := Ideal)) (onTc (τ := Cert.SumGateRefIdeal.τ) (Cert.SumGateRefIdeal.main (F := Ideal))) ⟨m, fun _ => 0, g⟩ (fun r => (∀ c : Dev Cert.SumGateRefIdeal.nD,
      r.2.mem ((c.tc : Thread Cert.SumGateRefIdeal.nD Cert.SumGateRefIdeal.τ).loc Cert.SumGateRefIdeal.main_arg0) = m ((c.tc : Thread Cert.SumGateRefIdeal.nD Cert.SumGateRefIdeal.τ).loc Cert.SumGateRefIdeal.main_arg0))
      ∧ r.2.sem = fun _ => 0)

def quiescent_SumDown [hSumDown : Cert.SumDown.Facts] : Prop :=
  ∀ (m : (ℓ : Loc Cert.SumDown.nD Cert.SumDown.τ Cert.SumDown.sig) → Buf (Elt Bits) ℓ) (g : Dev Cert.SumDown.nD → PrngReg), Pre_SumDown m →
    θ_run (Cert.SumDown.defs (F := Bits)) (onTc (τ := Cert.SumDown.τ) (Cert.SumDown.main (F := Bits))) ⟨m, fun _ => 0, g⟩ (fun r => (∀ c : Dev Cert.SumDown.nD,
      r.2.mem ((c.tc : Thread Cert.SumDown.nD Cert.SumDown.τ).loc Cert.SumDown.main_arg0) = m ((c.tc : Thread Cert.SumDown.nD Cert.SumDown.τ).loc Cert.SumDown.main_arg0))
      ∧ r.2.sem = fun _ => 0)

def quiescent_SumDownIdeal [hSumDownIdeal : Cert.SumDownIdeal.Facts] : Prop :=
  ∀ (m : (ℓ : Loc Cert.SumDownIdeal.nD Cert.SumDownIdeal.τ Cert.SumDownIdeal.sig) → Buf (Elt Ideal) ℓ) (g : Dev Cert.SumDownIdeal.nD → PrngReg), Pre_SumDownIdeal m →
    θ_run (Cert.SumDownIdeal.defs (F := Ideal)) (onTc (τ := Cert.SumDownIdeal.τ) (Cert.SumDownIdeal.main (F := Ideal))) ⟨m, fun _ => 0, g⟩ (fun r => (∀ c : Dev Cert.SumDownIdeal.nD,
      r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ r.2.sem = fun _ => 0)

def quiescent_SumDownRefIdeal [hSumDownRefIdeal : Cert.SumDownRefIdeal.Facts] : Prop :=
  ∀ (m : (ℓ : Loc Cert.SumDownRefIdeal.nD Cert.SumDownRefIdeal.τ Cert.SumDownRefIdeal.sig) → Buf (Elt Ideal) ℓ) (g : Dev Cert.SumDownRefIdeal.nD → PrngReg), Pre_SumDownRefIdeal m →
    θ_run (Cert.SumDownRefIdeal.defs (F := Ideal)) (onTc (τ := Cert.SumDownRefIdeal.τ) (Cert.SumDownRefIdeal.main (F := Ideal))) ⟨m, fun _ => 0, g⟩ (fun r => (∀ c : Dev Cert.SumDownRefIdeal.nD,
      r.2.mem ((c.tc : Thread Cert.SumDownRefIdeal.nD Cert.SumDownRefIdeal.τ).loc Cert.SumDownRefIdeal.main_arg0) = m ((c.tc : Thread Cert.SumDownRefIdeal.nD Cert.SumDownRefIdeal.τ).loc Cert.SumDownRefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormB [hNormB : Cert.NormB.Facts] : Prop :=
  ∀ (m : (ℓ : Loc Cert.NormB.nD Cert.NormB.τ Cert.NormB.sig) → Buf (Elt Bits) ℓ) (g : Dev Cert.NormB.nD → PrngReg), Pre_NormB m →
    θ_run (Cert.NormB.defs (F := Bits)) (onTc (τ := Cert.NormB.τ) (Cert.NormB.main (F := Bits))) ⟨m, fun _ => 0, g⟩ (fun r => (∀ c : Dev Cert.NormB.nD,
      r.2.mem ((c.tc : Thread Cert.NormB.nD Cert.NormB.τ).loc Cert.NormB.main_arg0) = m ((c.tc : Thread Cert.NormB.nD Cert.NormB.τ).loc Cert.NormB.main_arg0)
      ∧ r.2.mem ((c.tc : Thread Cert.NormB.nD Cert.NormB.τ).loc Cert.NormB.main_arg1) = m ((c.tc : Thread Cert.NormB.nD Cert.NormB.τ).loc Cert.NormB.main_arg1)
      ∧ r.2.mem ((c.tc : Thread Cert.NormB.nD Cert.NormB.τ).loc Cert.NormB.main_arg2) = m ((c.tc : Thread Cert.NormB.nD Cert.NormB.τ).loc Cert.NormB.main_arg2))
      ∧ r.2.sem = fun _ => 0)

def quiescent_NormBIdeal [hNormBIdeal : Cert.NormBIdeal.Facts] : Prop :=
  ∀ (m : (ℓ : Loc Cert.NormBIdeal.nD Cert.NormBIdeal.τ Cert.NormBIdeal.sig) → Buf (Elt Ideal) ℓ) (g : Dev Cert.NormBIdeal.nD → PrngReg), Pre_NormBIdeal m →
    θ_run (Cert.NormBIdeal.defs (F := Ideal)) (onTc (τ := Cert.NormBIdeal.τ) (Cert.NormBIdeal.main (F := Ideal))) ⟨m, fun _ => 0, g⟩ (fun r => (∀ c : Dev Cert.NormBIdeal.nD,
      r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
      ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
      ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2))
      ∧ r.2.sem = fun _ => 0)

def quiescent_NormBRefIdeal [hNormBRefIdeal : Cert.NormBRefIdeal.Facts] : Prop :=
  ∀ (m : (ℓ : Loc Cert.NormBRefIdeal.nD Cert.NormBRefIdeal.τ Cert.NormBRefIdeal.sig) → Buf (Elt Ideal) ℓ) (g : Dev Cert.NormBRefIdeal.nD → PrngReg), Pre_NormBRefIdeal m →
    θ_run (Cert.NormBRefIdeal.defs (F := Ideal)) (onTc (τ := Cert.NormBRefIdeal.τ) (Cert.NormBRefIdeal.main (F := Ideal))) ⟨m, fun _ => 0, g⟩ (fun r => (∀ c : Dev Cert.NormBRefIdeal.nD,
      r.2.mem ((c.tc : Thread Cert.NormBRefIdeal.nD Cert.NormBRefIdeal.τ).loc Cert.NormBRefIdeal.main_arg0) = m ((c.tc : Thread Cert.NormBRefIdeal.nD Cert.NormBRefIdeal.τ).loc Cert.NormBRefIdeal.main_arg0)
      ∧ r.2.mem ((c.tc : Thread Cert.NormBRefIdeal.nD Cert.NormBRefIdeal.τ).loc Cert.NormBRefIdeal.main_arg1) = m ((c.tc : Thread Cert.NormBRefIdeal.nD Cert.NormBRefIdeal.τ).loc Cert.NormBRefIdeal.main_arg1)
      ∧ r.2.mem ((c.tc : Thread Cert.NormBRefIdeal.nD Cert.NormBRefIdeal.τ).loc Cert.NormBRefIdeal.main_arg2) = m ((c.tc : Thread Cert.NormBRefIdeal.nD Cert.NormBRefIdeal.τ).loc Cert.NormBRefIdeal.main_arg2))
      ∧ r.2.sem = fun _ => 0)

def quiescent_NormL [hNormL : Cert.NormL.Facts] : Prop :=
  ∀ (m : (ℓ : Loc Cert.NormL.nD Cert.NormL.τ Cert.NormL.sig) → Buf (Elt Bits) ℓ) (g : Dev Cert.NormL.nD → PrngReg), Pre_NormL m →
    θ_run (Cert.NormL.defs (F := Bits)) (onTc (τ := Cert.NormL.τ) (Cert.NormL.main (F := Bits))) ⟨m, fun _ => 0, g⟩ (fun r => (∀ c : Dev Cert.NormL.nD,
      r.2.mem ((c.tc : Thread Cert.NormL.nD Cert.NormL.τ).loc Cert.NormL.main_arg0) = m ((c.tc : Thread Cert.NormL.nD Cert.NormL.τ).loc Cert.NormL.main_arg0)
      ∧ r.2.mem ((c.tc : Thread Cert.NormL.nD Cert.NormL.τ).loc Cert.NormL.main_arg1) = m ((c.tc : Thread Cert.NormL.nD Cert.NormL.τ).loc Cert.NormL.main_arg1))
      ∧ r.2.sem = fun _ => 0)

def quiescent_NormLIdeal [hNormLIdeal : Cert.NormLIdeal.Facts] : Prop :=
  ∀ (m : (ℓ : Loc Cert.NormLIdeal.nD Cert.NormLIdeal.τ Cert.NormLIdeal.sig) → Buf (Elt Ideal) ℓ) (g : Dev Cert.NormLIdeal.nD → PrngReg), Pre_NormLIdeal m →
    θ_run (Cert.NormLIdeal.defs (F := Ideal)) (onTc (τ := Cert.NormLIdeal.τ) (Cert.NormLIdeal.main (F := Ideal))) ⟨m, fun _ => 0, g⟩ (fun r => (∀ c : Dev Cert.NormLIdeal.nD,
      r.2.mem ((c.tc : Thread Cert.NormLIdeal.nD Cert.NormLIdeal.τ).loc Cert.NormLIdeal.main_arg0) = m ((c.tc : Thread Cert.NormLIdeal.nD Cert.NormLIdeal.τ).loc Cert.NormLIdeal.main_arg0)
      ∧ r.2.mem ((c.tc : Thread Cert.NormLIdeal.nD Cert.NormLIdeal.τ).loc Cert.NormLIdeal.main_arg1) = m ((c.tc : Thread Cert.NormLIdeal.nD Cert.NormLIdeal.τ).loc Cert.NormLIdeal.main_arg1))
      ∧ r.2.sem = fun _ => 0)

def quiescent_NormLRefIdeal [hNormLRefIdeal : Cert.NormLRefIdeal.Facts] : Prop :=
  ∀ (m : (ℓ : Loc Cert.NormLRefIdeal.nD Cert.NormLRefIdeal.τ Cert.NormLRefIdeal.sig) → Buf (Elt Ideal) ℓ) (g : Dev Cert.NormLRefIdeal.nD → PrngReg), Pre_NormLRefIdeal m →
    θ_run (Cert.NormLRefIdeal.defs (F := Ideal)) (onTc (τ := Cert.NormLRefIdeal.τ) (Cert.NormLRefIdeal.main (F := Ideal))) ⟨m, fun _ => 0, g⟩ (fun r => (∀ c : Dev Cert.NormLRefIdeal.nD,
      r.2.mem ((c.tc : Thread Cert.NormLRefIdeal.nD Cert.NormLRefIdeal.τ).loc Cert.NormLRefIdeal.main_arg0) = m ((c.tc : Thread Cert.NormLRefIdeal.nD Cert.NormLRefIdeal.τ).loc Cert.NormLRefIdeal.main_arg0)
      ∧ r.2.mem ((c.tc : Thread Cert.NormLRefIdeal.nD Cert.NormLRefIdeal.τ).loc Cert.NormLRefIdeal.main_arg1) = m ((c.tc : Thread Cert.NormLRefIdeal.nD Cert.NormLRefIdeal.τ).loc Cert.NormLRefIdeal.main_arg1))
      ∧ r.2.sem = fun _ => 0)

def quiescent_NormLB [hNormLB : Cert.NormLB.Facts] : Prop :=
  ∀ (m : (ℓ : Loc Cert.NormLB.nD Cert.NormLB.τ Cert.NormLB.sig) → Buf (Elt Bits) ℓ) (g : Dev Cert.NormLB.nD → PrngReg), Pre_NormLB m →
    θ_run (Cert.NormLB.defs (F := Bits)) (onTc (τ := Cert.NormLB.τ) (Cert.NormLB.main (F := Bits))) ⟨m, fun _ => 0, g⟩ (fun r => (∀ c : Dev Cert.NormLB.nD,
      r.2.mem ((c.tc : Thread Cert.NormLB.nD Cert.NormLB.τ).loc Cert.NormLB.main_arg0) = m ((c.tc : Thread Cert.NormLB.nD Cert.NormLB.τ).loc Cert.NormLB.main_arg0)
      ∧ r.2.mem ((c.tc : Thread Cert.NormLB.nD Cert.NormLB.τ).loc Cert.NormLB.main_arg1) = m ((c.tc : Thread Cert.NormLB.nD Cert.NormLB.τ).loc Cert.NormLB.main_arg1)
      ∧ r.2.mem ((c.tc : Thread Cert.NormLB.nD Cert.NormLB.τ).loc Cert.NormLB.main_arg2) = m ((c.tc : Thread Cert.NormLB.nD Cert.NormLB.τ).loc Cert.NormLB.main_arg2))
      ∧ r.2.sem = fun _ => 0)

def quiescent_NormLBIdeal [hNormLBIdeal : Cert.NormLBIdeal.Facts] : Prop :=
  ∀ (m : (ℓ : Loc Cert.NormLBIdeal.nD Cert.NormLBIdeal.τ Cert.NormLBIdeal.sig) → Buf (Elt Ideal) ℓ) (g : Dev Cert.NormLBIdeal.nD → PrngReg), Pre_NormLBIdeal m →
    θ_run (Cert.NormLBIdeal.defs (F := Ideal)) (onTc (τ := Cert.NormLBIdeal.τ) (Cert.NormLBIdeal.main (F := Ideal))) ⟨m, fun _ => 0, g⟩ (fun r => (∀ c : Dev Cert.NormLBIdeal.nD,
      r.2.mem ((c.tc : Thread Cert.NormLBIdeal.nD Cert.NormLBIdeal.τ).loc Cert.NormLBIdeal.main_arg0) = m ((c.tc : Thread Cert.NormLBIdeal.nD Cert.NormLBIdeal.τ).loc Cert.NormLBIdeal.main_arg0)
      ∧ r.2.mem ((c.tc : Thread Cert.NormLBIdeal.nD Cert.NormLBIdeal.τ).loc Cert.NormLBIdeal.main_arg1) = m ((c.tc : Thread Cert.NormLBIdeal.nD Cert.NormLBIdeal.τ).loc Cert.NormLBIdeal.main_arg1)
      ∧ r.2.mem ((c.tc : Thread Cert.NormLBIdeal.nD Cert.NormLBIdeal.τ).loc Cert.NormLBIdeal.main_arg2) = m ((c.tc : Thread Cert.NormLBIdeal.nD Cert.NormLBIdeal.τ).loc Cert.NormLBIdeal.main_arg2))
      ∧ r.2.sem = fun _ => 0)

def quiescent_NormLBRefIdeal [hNormLBRefIdeal : Cert.NormLBRefIdeal.Facts] : Prop :=
  ∀ (m : (ℓ : Loc Cert.NormLBRefIdeal.nD Cert.NormLBRefIdeal.τ Cert.NormLBRefIdeal.sig) → Buf (Elt Ideal) ℓ) (g : Dev Cert.NormLBRefIdeal.nD → PrngReg), Pre_NormLBRefIdeal m →
    θ_run (Cert.NormLBRefIdeal.defs (F := Ideal)) (onTc (τ := Cert.NormLBRefIdeal.τ) (Cert.NormLBRefIdeal.main (F := Ideal))) ⟨m, fun _ => 0, g⟩ (fun r => (∀ c : Dev Cert.NormLBRefIdeal.nD,
      r.2.mem ((c.tc : Thread Cert.NormLBRefIdeal.nD Cert.NormLBRefIdeal.τ).loc Cert.NormLBRefIdeal.main_arg0) = m ((c.tc : Thread Cert.NormLBRefIdeal.nD Cert.NormLBRefIdeal.τ).loc Cert.NormLBRefIdeal.main_arg0)
      ∧ r.2.mem ((c.tc : Thread Cert.NormLBRefIdeal.nD Cert.NormLBRefIdeal.τ).loc Cert.NormLBRefIdeal.main_arg1) = m ((c.tc : Thread Cert.NormLBRefIdeal.nD Cert.NormLBRefIdeal.τ).loc Cert.NormLBRefIdeal.main_arg1)
      ∧ r.2.mem ((c.tc : Thread Cert.NormLBRefIdeal.nD Cert.NormLBRefIdeal.τ).loc Cert.NormLBRefIdeal.main_arg2) = m ((c.tc : Thread Cert.NormLBRefIdeal.nD Cert.NormLBRefIdeal.τ).loc Cert.NormLBRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_NormG [hNormG : Cert.NormG.Facts] : Prop :=
  ∀ (m : (ℓ : Loc Cert.NormG.nD Cert.NormG.τ Cert.NormG.sig) → Buf (Elt Bits) ℓ) (g : Dev Cert.NormG.nD → PrngReg), Pre_NormG m →
    θ_run (Cert.NormG.defs (F := Bits)) (onTc (τ := Cert.NormG.τ) (Cert.NormG.main (F := Bits))) ⟨m, fun _ => 0, g⟩ (fun r => (∀ c : Dev Cert.NormG.nD,
      r.2.mem ((c.tc : Thread Cert.NormG.nD Cert.NormG.τ).loc Cert.NormG.main_arg0) = m ((c.tc : Thread Cert.NormG.nD Cert.NormG.τ).loc Cert.NormG.main_arg0)
      ∧ r.2.mem ((c.tc : Thread Cert.NormG.nD Cert.NormG.τ).loc Cert.NormG.main_arg1) = m ((c.tc : Thread Cert.NormG.nD Cert.NormG.τ).loc Cert.NormG.main_arg1))
      ∧ r.2.sem = fun _ => 0)

def quiescent_NormGIdeal [hNormGIdeal : Cert.NormGIdeal.Facts] : Prop :=
  ∀ (m : (ℓ : Loc Cert.NormGIdeal.nD Cert.NormGIdeal.τ Cert.NormGIdeal.sig) → Buf (Elt Ideal) ℓ) (g : Dev Cert.NormGIdeal.nD → PrngReg), Pre_NormGIdeal m →
    θ_run (Cert.NormGIdeal.defs (F := Ideal)) (onTc (τ := Cert.NormGIdeal.τ) (Cert.NormGIdeal.main (F := Ideal))) ⟨m, fun _ => 0, g⟩ (fun r => (∀ c : Dev Cert.NormGIdeal.nD,
      r.2.mem ((c.tc : Thread Cert.NormGIdeal.nD Cert.NormGIdeal.τ).loc Cert.NormGIdeal.main_arg0) = m ((c.tc : Thread Cert.NormGIdeal.nD Cert.NormGIdeal.τ).loc Cert.NormGIdeal.main_arg0)
      ∧ r.2.mem ((c.tc : Thread Cert.NormGIdeal.nD Cert.NormGIdeal.τ).loc Cert.NormGIdeal.main_arg1) = m ((c.tc : Thread Cert.NormGIdeal.nD Cert.NormGIdeal.τ).loc Cert.NormGIdeal.main_arg1))
      ∧ r.2.sem = fun _ => 0)

def quiescent_NormGRefIdeal [hNormGRefIdeal : Cert.NormGRefIdeal.Facts] : Prop :=
  ∀ (m : (ℓ : Loc Cert.NormGRefIdeal.nD Cert.NormGRefIdeal.τ Cert.NormGRefIdeal.sig) → Buf (Elt Ideal) ℓ) (g : Dev Cert.NormGRefIdeal.nD → PrngReg), Pre_NormGRefIdeal m →
    θ_run (Cert.NormGRefIdeal.defs (F := Ideal)) (onTc (τ := Cert.NormGRefIdeal.τ) (Cert.NormGRefIdeal.main (F := Ideal))) ⟨m, fun _ => 0, g⟩ (fun r => (∀ c : Dev Cert.NormGRefIdeal.nD,
      r.2.mem ((c.tc : Thread Cert.NormGRefIdeal.nD Cert.NormGRefIdeal.τ).loc Cert.NormGRefIdeal.main_arg0) = m ((c.tc : Thread Cert.NormGRefIdeal.nD Cert.NormGRefIdeal.τ).loc Cert.NormGRefIdeal.main_arg0)
      ∧ r.2.mem ((c.tc : Thread Cert.NormGRefIdeal.nD Cert.NormGRefIdeal.τ).loc Cert.NormGRefIdeal.main_arg1) = m ((c.tc : Thread Cert.NormGRefIdeal.nD Cert.NormGRefIdeal.τ).loc Cert.NormGRefIdeal.main_arg1))
      ∧ r.2.sem = fun _ => 0)

def quiescent_NormGB [hNormGB : Cert.NormGB.Facts] : Prop :=
  ∀ (m : (ℓ : Loc Cert.NormGB.nD Cert.NormGB.τ Cert.NormGB.sig) → Buf (Elt Bits) ℓ) (g : Dev Cert.NormGB.nD → PrngReg), Pre_NormGB m →
    θ_run (Cert.NormGB.defs (F := Bits)) (onTc (τ := Cert.NormGB.τ) (Cert.NormGB.main (F := Bits))) ⟨m, fun _ => 0, g⟩ (fun r => (∀ c : Dev Cert.NormGB.nD,
      r.2.mem ((c.tc : Thread Cert.NormGB.nD Cert.NormGB.τ).loc Cert.NormGB.main_arg0) = m ((c.tc : Thread Cert.NormGB.nD Cert.NormGB.τ).loc Cert.NormGB.main_arg0)
      ∧ r.2.mem ((c.tc : Thread Cert.NormGB.nD Cert.NormGB.τ).loc Cert.NormGB.main_arg1) = m ((c.tc : Thread Cert.NormGB.nD Cert.NormGB.τ).loc Cert.NormGB.main_arg1)
      ∧ r.2.mem ((c.tc : Thread Cert.NormGB.nD Cert.NormGB.τ).loc Cert.NormGB.main_arg2) = m ((c.tc : Thread Cert.NormGB.nD Cert.NormGB.τ).loc Cert.NormGB.main_arg2))
      ∧ r.2.sem = fun _ => 0)

def quiescent_NormGBIdeal [hNormGBIdeal : Cert.NormGBIdeal.Facts] : Prop :=
  ∀ (m : (ℓ : Loc Cert.NormGBIdeal.nD Cert.NormGBIdeal.τ Cert.NormGBIdeal.sig) → Buf (Elt Ideal) ℓ) (g : Dev Cert.NormGBIdeal.nD → PrngReg), Pre_NormGBIdeal m →
    θ_run (Cert.NormGBIdeal.defs (F := Ideal)) (onTc (τ := Cert.NormGBIdeal.τ) (Cert.NormGBIdeal.main (F := Ideal))) ⟨m, fun _ => 0, g⟩ (fun r => (∀ c : Dev Cert.NormGBIdeal.nD,
      r.2.mem ((c.tc : Thread Cert.NormGBIdeal.nD Cert.NormGBIdeal.τ).loc Cert.NormGBIdeal.main_arg0) = m ((c.tc : Thread Cert.NormGBIdeal.nD Cert.NormGBIdeal.τ).loc Cert.NormGBIdeal.main_arg0)
      ∧ r.2.mem ((c.tc : Thread Cert.NormGBIdeal.nD Cert.NormGBIdeal.τ).loc Cert.NormGBIdeal.main_arg1) = m ((c.tc : Thread Cert.NormGBIdeal.nD Cert.NormGBIdeal.τ).loc Cert.NormGBIdeal.main_arg1)
      ∧ r.2.mem ((c.tc : Thread Cert.NormGBIdeal.nD Cert.NormGBIdeal.τ).loc Cert.NormGBIdeal.main_arg2) = m ((c.tc : Thread Cert.NormGBIdeal.nD Cert.NormGBIdeal.τ).loc Cert.NormGBIdeal.main_arg2))
      ∧ r.2.sem = fun _ => 0)

def quiescent_NormGBRefIdeal [hNormGBRefIdeal : Cert.NormGBRefIdeal.Facts] : Prop :=
  ∀ (m : (ℓ : Loc Cert.NormGBRefIdeal.nD Cert.NormGBRefIdeal.τ Cert.NormGBRefIdeal.sig) → Buf (Elt Ideal) ℓ) (g : Dev Cert.NormGBRefIdeal.nD → PrngReg), Pre_NormGBRefIdeal m →
    θ_run (Cert.NormGBRefIdeal.defs (F := Ideal)) (onTc (τ := Cert.NormGBRefIdeal.τ) (Cert.NormGBRefIdeal.main (F := Ideal))) ⟨m, fun _ => 0, g⟩ (fun r => (∀ c : Dev Cert.NormGBRefIdeal.nD,
      r.2.mem ((c.tc : Thread Cert.NormGBRefIdeal.nD Cert.NormGBRefIdeal.τ).loc Cert.NormGBRefIdeal.main_arg0) = m ((c.tc : Thread Cert.NormGBRefIdeal.nD Cert.NormGBRefIdeal.τ).loc Cert.NormGBRefIdeal.main_arg0)
      ∧ r.2.mem ((c.tc : Thread Cert.NormGBRefIdeal.nD Cert.NormGBRefIdeal.τ).loc Cert.NormGBRefIdeal.main_arg1) = m ((c.tc : Thread Cert.NormGBRefIdeal.nD Cert.NormGBRefIdeal.τ).loc Cert.NormGBRefIdeal.main_arg1)
      ∧ r.2.mem ((c.tc : Thread Cert.NormGBRefIdeal.nD Cert.NormGBRefIdeal.τ).loc Cert.NormGBRefIdeal.main_arg2) = m ((c.tc : Thread Cert.NormGBRefIdeal.nD Cert.NormGBRefIdeal.τ).loc Cert.NormGBRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Fwd_FwdIdeal : Prop :=
  True

def algebraic_FwdIdeal_FwdRefIdeal_pre_finite_fwd [hFwdIdeal : Cert.FwdIdeal.Facts] [hFwdRefIdeal : Cert.FwdRefIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_fwd m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v0_0)) (v1 : (c : Dev Cert.FwdIdeal.nD) → Buf (Elt Ideal) ((c.tc : Thread Cert.FwdIdeal.nD Cert.FwdIdeal.τ).loc Cert.FwdIdeal.main_v0_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0_0) = v0 c
          ∧ r.2.mem ((c.tc : Thread Cert.FwdIdeal.nD Cert.FwdIdeal.τ).loc Cert.FwdIdeal.main_v0_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v30) = v0 c
          ∧ r.2.mem ((c.tc : Thread Cert.FwdRefIdeal.nD Cert.FwdRefIdeal.τ).loc Cert.FwdRefIdeal.main_v50) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v5) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_GateDa_GateDaIdeal : Prop :=
  True

def algebraic_GateDaIdeal_GateDaRefIdeal [hGateDaIdeal : Cert.GateDaIdeal.Facts] [hGateDaRefIdeal : Cert.GateDaRefIdeal.Facts] : Prop :=
  ∀ (m : (ℓ : Loc Cert.GateDaIdeal.nD Cert.GateDaIdeal.τ Cert.GateDaIdeal.sig) → Buf (Elt Ideal) ℓ) (g : Dev Cert.GateDaIdeal.nD → PrngReg)
    (m' : (ℓ : Loc Cert.GateDaRefIdeal.nD Cert.GateDaRefIdeal.τ Cert.GateDaRefIdeal.sig) → Buf (Elt Ideal) ℓ) (g' : Dev Cert.GateDaRefIdeal.nD → PrngReg), Pre_GateDaIdeal m →
    (∀ c : Dev Cert.GateDaIdeal.nD,
      m' ((c.tc : Thread Cert.GateDaRefIdeal.nD Cert.GateDaRefIdeal.τ).loc Cert.GateDaRefIdeal.main_arg0) = m ((c.tc : Thread Cert.GateDaIdeal.nD Cert.GateDaIdeal.τ).loc Cert.GateDaIdeal.main_arg0)
      ∧ m' ((c.tc : Thread Cert.GateDaRefIdeal.nD Cert.GateDaRefIdeal.τ).loc Cert.GateDaRefIdeal.main_arg1) = m ((c.tc : Thread Cert.GateDaIdeal.nD Cert.GateDaIdeal.τ).loc Cert.GateDaIdeal.main_arg1)
      ∧ m' ((c.tc : Thread Cert.GateDaRefIdeal.nD Cert.GateDaRefIdeal.τ).loc Cert.GateDaRefIdeal.main_arg2) = m ((c.tc : Thread Cert.GateDaIdeal.nD Cert.GateDaIdeal.τ).loc Cert.GateDaIdeal.main_arg2)) →
    ∃ (v0 : (c : Dev Cert.GateDaIdeal.nD) → Buf (Elt Ideal) ((c.tc : Thread Cert.GateDaIdeal.nD Cert.GateDaIdeal.τ).loc Cert.GateDaIdeal.main_v0)),
      θ_run (Cert.GateDaIdeal.defs (F := Ideal)) (onTc (τ := Cert.GateDaIdeal.τ) (Cert.GateDaIdeal.main (F := Ideal))) ⟨m, fun _ => 0, g⟩ (fun r => ∀ c : Dev Cert.GateDaIdeal.nD,
          r.2.mem ((c.tc : Thread Cert.GateDaIdeal.nD Cert.GateDaIdeal.τ).loc Cert.GateDaIdeal.main_v0) = v0 c
          ∧ r.2.mem ((c.tc : Thread Cert.GateDaIdeal.nD Cert.GateDaIdeal.τ).loc Cert.GateDaIdeal.main_arg0) = m ((c.tc : Thread Cert.GateDaIdeal.nD Cert.GateDaIdeal.τ).loc Cert.GateDaIdeal.main_arg0)
          ∧ r.2.mem ((c.tc : Thread Cert.GateDaIdeal.nD Cert.GateDaIdeal.τ).loc Cert.GateDaIdeal.main_arg1) = m ((c.tc : Thread Cert.GateDaIdeal.nD Cert.GateDaIdeal.τ).loc Cert.GateDaIdeal.main_arg1)
          ∧ r.2.mem ((c.tc : Thread Cert.GateDaIdeal.nD Cert.GateDaIdeal.τ).loc Cert.GateDaIdeal.main_arg2) = m ((c.tc : Thread Cert.GateDaIdeal.nD Cert.GateDaIdeal.τ).loc Cert.GateDaIdeal.main_arg2))
      ∧ θ_run (Cert.GateDaRefIdeal.defs (F := Ideal)) (onTc (τ := Cert.GateDaRefIdeal.τ) (Cert.GateDaRefIdeal.main (F := Ideal))) ⟨m', fun _ => 0, g'⟩ (fun r => ∀ c : Dev Cert.GateDaRefIdeal.nD,
          r.2.mem ((c.tc : Thread Cert.GateDaRefIdeal.nD Cert.GateDaRefIdeal.τ).loc Cert.GateDaRefIdeal.main_v8) = v0 c
          ∧ r.2.mem ((c.tc : Thread Cert.GateDaRefIdeal.nD Cert.GateDaRefIdeal.τ).loc Cert.GateDaRefIdeal.main_arg0) = m' ((c.tc : Thread Cert.GateDaRefIdeal.nD Cert.GateDaRefIdeal.τ).loc Cert.GateDaRefIdeal.main_arg0)
          ∧ r.2.mem ((c.tc : Thread Cert.GateDaRefIdeal.nD Cert.GateDaRefIdeal.τ).loc Cert.GateDaRefIdeal.main_arg1) = m' ((c.tc : Thread Cert.GateDaRefIdeal.nD Cert.GateDaRefIdeal.τ).loc Cert.GateDaRefIdeal.main_arg1)
          ∧ r.2.mem ((c.tc : Thread Cert.GateDaRefIdeal.nD Cert.GateDaRefIdeal.τ).loc Cert.GateDaRefIdeal.main_arg2) = m' ((c.tc : Thread Cert.GateDaRefIdeal.nD Cert.GateDaRefIdeal.τ).loc Cert.GateDaRefIdeal.main_arg2))

def preserves_GateDw_GateDwIdeal : Prop :=
  True

def algebraic_GateDwIdeal_GateDwRefIdeal [hGateDwIdeal : Cert.GateDwIdeal.Facts] [hGateDwRefIdeal : Cert.GateDwRefIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwRefIdeal.nD Cert.GateDwRefIdeal.τ Cert.GateDwRefIdeal.sig) → Buf (Elt Ideal) ℓ) (g' : Dev Cert.GateDwRefIdeal.nD → PrngReg), Pre_GateDwIdeal m →
    (∀ c : Dev Cert.GateDwIdeal.nD,
      m' ((c.tc : Thread Cert.GateDwRefIdeal.nD Cert.GateDwRefIdeal.τ).loc Cert.GateDwRefIdeal.main_arg0) = m ((c.tc : Thread Cert.GateDwIdeal.nD Cert.GateDwIdeal.τ).loc Cert.GateDwIdeal.main_arg0)
      ∧ m' ((c.tc : Thread Cert.GateDwRefIdeal.nD Cert.GateDwRefIdeal.τ).loc Cert.GateDwRefIdeal.main_arg1) = m ((c.tc : Thread Cert.GateDwIdeal.nD Cert.GateDwIdeal.τ).loc Cert.GateDwIdeal.main_arg1)
      ∧ m' ((c.tc : Thread Cert.GateDwRefIdeal.nD Cert.GateDwRefIdeal.τ).loc Cert.GateDwRefIdeal.main_arg2) = m ((c.tc : Thread Cert.GateDwIdeal.nD Cert.GateDwIdeal.τ).loc Cert.GateDwIdeal.main_arg2)) →
    ∃ (v0 : (c : Dev Cert.GateDwIdeal.nD) → Buf (Elt Ideal) ((c.tc : Thread Cert.GateDwIdeal.nD Cert.GateDwIdeal.τ).loc Cert.GateDwIdeal.main_v0)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v0) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1)
          ∧ r.2.mem ((c.tc : Thread Cert.GateDwIdeal.nD Cert.GateDwIdeal.τ).loc Cert.GateDwIdeal.main_arg2) = m ((c.tc : Thread Cert.GateDwIdeal.nD Cert.GateDwIdeal.τ).loc Cert.GateDwIdeal.main_arg2))
      ∧ θ_run (Cert.GateDwRefIdeal.defs (F := Ideal)) (onTc (τ := Cert.GateDwRefIdeal.τ) (Cert.GateDwRefIdeal.main (F := Ideal))) ⟨m', fun _ => 0, g'⟩ (fun r => ∀ c : Dev Cert.GateDwRefIdeal.nD,
          r.2.mem ((c.tc : Thread Cert.GateDwRefIdeal.nD Cert.GateDwRefIdeal.τ).loc Cert.GateDwRefIdeal.main_v11) = v0 c
          ∧ r.2.mem ((c.tc : Thread Cert.GateDwRefIdeal.nD Cert.GateDwRefIdeal.τ).loc Cert.GateDwRefIdeal.main_arg0) = m' ((c.tc : Thread Cert.GateDwRefIdeal.nD Cert.GateDwRefIdeal.τ).loc Cert.GateDwRefIdeal.main_arg0)
          ∧ r.2.mem ((c.tc : Thread Cert.GateDwRefIdeal.nD Cert.GateDwRefIdeal.τ).loc Cert.GateDwRefIdeal.main_arg1) = m' ((c.tc : Thread Cert.GateDwRefIdeal.nD Cert.GateDwRefIdeal.τ).loc Cert.GateDwRefIdeal.main_arg1)
          ∧ r.2.mem ((c.tc : Thread Cert.GateDwRefIdeal.nD Cert.GateDwRefIdeal.τ).loc Cert.GateDwRefIdeal.main_arg2) = m' ((c.tc : Thread Cert.GateDwRefIdeal.nD Cert.GateDwRefIdeal.τ).loc Cert.GateDwRefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v4) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_InDa_InDaIdeal : Prop :=
  True

def algebraic_InDaIdeal_InDaRefIdeal [hInDaIdeal : Cert.InDaIdeal.Facts] [hInDaRefIdeal : Cert.InDaRefIdeal.Facts] : Prop :=
  ∀ (m : (ℓ : Loc Cert.InDaIdeal.nD Cert.InDaIdeal.τ Cert.InDaIdeal.sig) → Buf (Elt Ideal) ℓ) (g : Dev Cert.InDaIdeal.nD → PrngReg)
    (m' : (ℓ : Loc Cert.InDaRefIdeal.nD Cert.InDaRefIdeal.τ Cert.InDaRefIdeal.sig) → Buf (Elt Ideal) ℓ) (g' : Dev Cert.InDaRefIdeal.nD → PrngReg), Pre_InDaIdeal m →
    (∀ c : Dev Cert.InDaIdeal.nD,
      m' ((c.tc : Thread Cert.InDaRefIdeal.nD Cert.InDaRefIdeal.τ).loc Cert.InDaRefIdeal.main_arg0) = m ((c.tc : Thread Cert.InDaIdeal.nD Cert.InDaIdeal.τ).loc Cert.InDaIdeal.main_arg0)
      ∧ m' ((c.tc : Thread Cert.InDaRefIdeal.nD Cert.InDaRefIdeal.τ).loc Cert.InDaRefIdeal.main_arg1) = m ((c.tc : Thread Cert.InDaIdeal.nD Cert.InDaIdeal.τ).loc Cert.InDaIdeal.main_arg1)
      ∧ m' ((c.tc : Thread Cert.InDaRefIdeal.nD Cert.InDaRefIdeal.τ).loc Cert.InDaRefIdeal.main_arg2) = m ((c.tc : Thread Cert.InDaIdeal.nD Cert.InDaIdeal.τ).loc Cert.InDaIdeal.main_arg2)) →
    ∃ (v0 : (c : Dev Cert.InDaIdeal.nD) → Buf (Elt Ideal) ((c.tc : Thread Cert.InDaIdeal.nD Cert.InDaIdeal.τ).loc Cert.InDaIdeal.main_v0)),
      θ_run (Cert.InDaIdeal.defs (F := Ideal)) (onTc (τ := Cert.InDaIdeal.τ) (Cert.InDaIdeal.main (F := Ideal))) ⟨m, fun _ => 0, g⟩ (fun r => ∀ c : Dev Cert.InDaIdeal.nD,
          r.2.mem ((c.tc : Thread Cert.InDaIdeal.nD Cert.InDaIdeal.τ).loc Cert.InDaIdeal.main_v0) = v0 c
          ∧ r.2.mem ((c.tc : Thread Cert.InDaIdeal.nD Cert.InDaIdeal.τ).loc Cert.InDaIdeal.main_arg0) = m ((c.tc : Thread Cert.InDaIdeal.nD Cert.InDaIdeal.τ).loc Cert.InDaIdeal.main_arg0)
          ∧ r.2.mem ((c.tc : Thread Cert.InDaIdeal.nD Cert.InDaIdeal.τ).loc Cert.InDaIdeal.main_arg1) = m ((c.tc : Thread Cert.InDaIdeal.nD Cert.InDaIdeal.τ).loc Cert.InDaIdeal.main_arg1)
          ∧ r.2.mem ((c.tc : Thread Cert.InDaIdeal.nD Cert.InDaIdeal.τ).loc Cert.InDaIdeal.main_arg2) = m ((c.tc : Thread Cert.InDaIdeal.nD Cert.InDaIdeal.τ).loc Cert.InDaIdeal.main_arg2))
      ∧ θ_run (Cert.InDaRefIdeal.defs (F := Ideal)) (onTc (τ := Cert.InDaRefIdeal.τ) (Cert.InDaRefIdeal.main (F := Ideal))) ⟨m', fun _ => 0, g'⟩ (fun r => ∀ c : Dev Cert.InDaRefIdeal.nD,
          r.2.mem ((c.tc : Thread Cert.InDaRefIdeal.nD Cert.InDaRefIdeal.τ).loc Cert.InDaRefIdeal.main_v8) = v0 c
          ∧ r.2.mem ((c.tc : Thread Cert.InDaRefIdeal.nD Cert.InDaRefIdeal.τ).loc Cert.InDaRefIdeal.main_arg0) = m' ((c.tc : Thread Cert.InDaRefIdeal.nD Cert.InDaRefIdeal.τ).loc Cert.InDaRefIdeal.main_arg0)
          ∧ r.2.mem ((c.tc : Thread Cert.InDaRefIdeal.nD Cert.InDaRefIdeal.τ).loc Cert.InDaRefIdeal.main_arg1) = m' ((c.tc : Thread Cert.InDaRefIdeal.nD Cert.InDaRefIdeal.τ).loc Cert.InDaRefIdeal.main_arg1)
          ∧ r.2.mem ((c.tc : Thread Cert.InDaRefIdeal.nD Cert.InDaRefIdeal.τ).loc Cert.InDaRefIdeal.main_arg2) = m' ((c.tc : Thread Cert.InDaRefIdeal.nD Cert.InDaRefIdeal.τ).loc Cert.InDaRefIdeal.main_arg2))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v11) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2))

def preserves_Lat_LatIdeal : Prop :=
  True

def algebraic_LatIdeal_LatRefIdeal [hLatIdeal : Cert.LatIdeal.Facts] [hLatRefIdeal : Cert.LatRefIdeal.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatIdeal m →
    (∀ c : Dev Cert.LatIdeal.nD,
      m' ((c.tc : Thread Cert.LatRefIdeal.nD Cert.LatRefIdeal.τ).loc Cert.LatRefIdeal.main_arg0) = m ((c.tc : Thread Cert.LatIdeal.nD Cert.LatIdeal.τ).loc Cert.LatIdeal.main_arg0)
      ∧ m' ((c.tc : Thread Cert.LatRefIdeal.nD Cert.LatRefIdeal.τ).loc Cert.LatRefIdeal.main_arg1) = m ((c.tc : Thread Cert.LatIdeal.nD Cert.LatIdeal.τ).loc Cert.LatIdeal.main_arg1)) →
    ∃ (v0 : (c : Dev Cert.LatIdeal.nD) → Buf (Elt Ideal) ((c.tc : Thread Cert.LatIdeal.nD Cert.LatIdeal.τ).loc Cert.LatIdeal.main_v0)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v0) = v0 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v5) = v0 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1))

def preserves_LatDa_LatDaIdeal : Prop :=
  True

def algebraic_LatDaIdeal_LatDaRefIdeal [hLatDaIdeal : Cert.LatDaIdeal.Facts] [hLatDaRefIdeal : Cert.LatDaRefIdeal.Facts] : Prop :=
  ∀ (m : (ℓ : Loc Cert.LatDaIdeal.nD Cert.LatDaIdeal.τ Cert.LatDaIdeal.sig) → Buf (Elt Ideal) ℓ) (g : Dev Cert.LatDaIdeal.nD → PrngReg)
    (m' : (ℓ : Loc Cert.LatDaRefIdeal.nD Cert.LatDaRefIdeal.τ Cert.LatDaRefIdeal.sig) → Buf (Elt Ideal) ℓ) (g' : Dev Cert.LatDaRefIdeal.nD → PrngReg), Pre_LatDaIdeal m →
    (∀ c : Dev Cert.LatDaIdeal.nD,
      m' ((c.tc : Thread Cert.LatDaRefIdeal.nD Cert.LatDaRefIdeal.τ).loc Cert.LatDaRefIdeal.main_arg0) = m ((c.tc : Thread Cert.LatDaIdeal.nD Cert.LatDaIdeal.τ).loc Cert.LatDaIdeal.main_arg0)
      ∧ m' ((c.tc : Thread Cert.LatDaRefIdeal.nD Cert.LatDaRefIdeal.τ).loc Cert.LatDaRefIdeal.main_arg1) = m ((c.tc : Thread Cert.LatDaIdeal.nD Cert.LatDaIdeal.τ).loc Cert.LatDaIdeal.main_arg1)
      ∧ m' ((c.tc : Thread Cert.LatDaRefIdeal.nD Cert.LatDaRefIdeal.τ).loc Cert.LatDaRefIdeal.main_arg2) = m ((c.tc : Thread Cert.LatDaIdeal.nD Cert.LatDaIdeal.τ).loc Cert.LatDaIdeal.main_arg2)) →
    ∃ (v0 : (c : Dev Cert.LatDaIdeal.nD) → Buf (Elt Ideal) ((c.tc : Thread Cert.LatDaIdeal.nD Cert.LatDaIdeal.τ).loc Cert.LatDaIdeal.main_v0)),
      θ_run (Cert.LatDaIdeal.defs (F := Ideal)) (onTc (τ := Cert.LatDaIdeal.τ) (Cert.LatDaIdeal.main (F := Ideal))) ⟨m, fun _ => 0, g⟩ (fun r => ∀ c : Dev Cert.LatDaIdeal.nD,
          r.2.mem ((c.tc : Thread Cert.LatDaIdeal.nD Cert.LatDaIdeal.τ).loc Cert.LatDaIdeal.main_v0) = v0 c
          ∧ r.2.mem ((c.tc : Thread Cert.LatDaIdeal.nD Cert.LatDaIdeal.τ).loc Cert.LatDaIdeal.main_arg0) = m ((c.tc : Thread Cert.LatDaIdeal.nD Cert.LatDaIdeal.τ).loc Cert.LatDaIdeal.main_arg0)
          ∧ r.2.mem ((c.tc : Thread Cert.LatDaIdeal.nD Cert.LatDaIdeal.τ).loc Cert.LatDaIdeal.main_arg1) = m ((c.tc : Thread Cert.LatDaIdeal.nD Cert.LatDaIdeal.τ).loc Cert.LatDaIdeal.main_arg1)
          ∧ r.2.mem ((c.tc : Thread Cert.LatDaIdeal.nD Cert.LatDaIdeal.τ).loc Cert.LatDaIdeal.main_arg2) = m ((c.tc : Thread Cert.LatDaIdeal.nD Cert.LatDaIdeal.τ).loc Cert.LatDaIdeal.main_arg2))
      ∧ θ_run (Cert.LatDaRefIdeal.defs (F := Ideal)) (onTc (τ := Cert.LatDaRefIdeal.τ) (Cert.LatDaRefIdeal.main (F := Ideal))) ⟨m', fun _ => 0, g'⟩ (fun r => ∀ c : Dev Cert.LatDaRefIdeal.nD,
          r.2.mem ((c.tc : Thread Cert.LatDaRefIdeal.nD Cert.LatDaRefIdeal.τ).loc Cert.LatDaRefIdeal.main_v8) = v0 c
          ∧ r.2.mem ((c.tc : Thread Cert.LatDaRefIdeal.nD Cert.LatDaRefIdeal.τ).loc Cert.LatDaRefIdeal.main_arg0) = m' ((c.tc : Thread Cert.LatDaRefIdeal.nD Cert.LatDaRefIdeal.τ).loc Cert.LatDaRefIdeal.main_arg0)
          ∧ r.2.mem ((c.tc : Thread Cert.LatDaRefIdeal.nD Cert.LatDaRefIdeal.τ).loc Cert.LatDaRefIdeal.main_arg1) = m' ((c.tc : Thread Cert.LatDaRefIdeal.nD Cert.LatDaRefIdeal.τ).loc Cert.LatDaRefIdeal.main_arg1)
          ∧ r.2.mem ((c.tc : Thread Cert.LatDaRefIdeal.nD Cert.LatDaRefIdeal.τ).loc Cert.LatDaRefIdeal.main_arg2) = m' ((c.tc : Thread Cert.LatDaRefIdeal.nD Cert.LatDaRefIdeal.τ).loc Cert.LatDaRefIdeal.main_arg2))

def preserves_LatDw_LatDwIdeal : Prop :=
  True

def algebraic_LatDwIdeal_LatDwRefIdeal [hLatDwIdeal : Cert.LatDwIdeal.Facts] [hLatDwRefIdeal : Cert.LatDwRefIdeal.Facts] : Prop :=
  ∀ (m : (ℓ : Loc Cert.LatDwIdeal.nD Cert.LatDwIdeal.τ Cert.LatDwIdeal.sig) → Buf (Elt Ideal) ℓ) (g : Dev Cert.LatDwIdeal.nD → PrngReg)
    (m' : (ℓ : Loc Cert.LatDwRefIdeal.nD Cert.LatDwRefIdeal.τ Cert.LatDwRefIdeal.sig) → Buf (Elt Ideal) ℓ) (g' : Dev Cert.LatDwRefIdeal.nD → PrngReg), Pre_LatDwIdeal m →
    (∀ c : Dev Cert.LatDwIdeal.nD,
      m' ((c.tc : Thread Cert.LatDwRefIdeal.nD Cert.LatDwRefIdeal.τ).loc Cert.LatDwRefIdeal.main_arg0) = m ((c.tc : Thread Cert.LatDwIdeal.nD Cert.LatDwIdeal.τ).loc Cert.LatDwIdeal.main_arg0)
      ∧ m' ((c.tc : Thread Cert.LatDwRefIdeal.nD Cert.LatDwRefIdeal.τ).loc Cert.LatDwRefIdeal.main_arg1) = m ((c.tc : Thread Cert.LatDwIdeal.nD Cert.LatDwIdeal.τ).loc Cert.LatDwIdeal.main_arg1)
      ∧ m' ((c.tc : Thread Cert.LatDwRefIdeal.nD Cert.LatDwRefIdeal.τ).loc Cert.LatDwRefIdeal.main_arg2) = m ((c.tc : Thread Cert.LatDwIdeal.nD Cert.LatDwIdeal.τ).loc Cert.LatDwIdeal.main_arg2)) →
    ∃ (v0 : (c : Dev Cert.LatDwIdeal.nD) → Buf (Elt Ideal) ((c.tc : Thread Cert.LatDwIdeal.nD Cert.LatDwIdeal.τ).loc Cert.LatDwIdeal.main_v0)),
      θ_run (Cert.LatDwIdeal.defs (F := Ideal)) (onTc (τ := Cert.LatDwIdeal.τ) (Cert.LatDwIdeal.main (F := Ideal))) ⟨m, fun _ => 0, g⟩ (fun r => ∀ c : Dev Cert.LatDwIdeal.nD,
          r.2.mem ((c.tc : Thread Cert.LatDwIdeal.nD Cert.LatDwIdeal.τ).loc Cert.LatDwIdeal.main_v0) = v0 c
          ∧ r.2.mem ((c.tc : Thread Cert.LatDwIdeal.nD Cert.LatDwIdeal.τ).loc Cert.LatDwIdeal.main_arg0) = m ((c.tc : Thread Cert.LatDwIdeal.nD Cert.LatDwIdeal.τ).loc Cert.LatDwIdeal.main_arg0)
          ∧ r.2.mem ((c.tc : Thread Cert.LatDwIdeal.nD Cert.LatDwIdeal.τ).loc Cert.LatDwIdeal.main_arg1) = m ((c.tc : Thread Cert.LatDwIdeal.nD Cert.LatDwIdeal.τ).loc Cert.LatDwIdeal.main_arg1)
          ∧ r.2.mem ((c.tc : Thread Cert.LatDwIdeal.nD Cert.LatDwIdeal.τ).loc Cert.LatDwIdeal.main_arg2) = m ((c.tc : Thread Cert.LatDwIdeal.nD Cert.LatDwIdeal.τ).loc Cert.LatDwIdeal.main_arg2))
      ∧ θ_run (Cert.LatDwRefIdeal.defs (F := Ideal)) (onTc (τ := Cert.LatDwRefIdeal.τ) (Cert.LatDwRefIdeal.main (F := Ideal))) ⟨m', fun _ => 0, g'⟩ (fun r => ∀ c : Dev Cert.LatDwRefIdeal.nD,
          r.2.mem ((c.tc : Thread Cert.LatDwRefIdeal.nD Cert.LatDwRefIdeal.τ).loc Cert.LatDwRefIdeal.main_v11) = v0 c
          ∧ r.2.mem ((c.tc : Thread Cert.LatDwRefIdeal.nD Cert.LatDwRefIdeal.τ).loc Cert.LatDwRefIdeal.main_arg0) = m' ((c.tc : Thread Cert.LatDwRefIdeal.nD Cert.LatDwRefIdeal.τ).loc Cert.LatDwRefIdeal.main_arg0)
          ∧ r.2.mem ((c.tc : Thread Cert.LatDwRefIdeal.nD Cert.LatDwRefIdeal.τ).loc Cert.LatDwRefIdeal.main_arg1) = m' ((c.tc : Thread Cert.LatDwRefIdeal.nD Cert.LatDwRefIdeal.τ).loc Cert.LatDwRefIdeal.main_arg1)
          ∧ r.2.mem ((c.tc : Thread Cert.LatDwRefIdeal.nD Cert.LatDwRefIdeal.τ).loc Cert.LatDwRefIdeal.main_arg2) = m' ((c.tc : Thread Cert.LatDwRefIdeal.nD Cert.LatDwRefIdeal.τ).loc Cert.LatDwRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_DownDa_DownDaIdeal : Prop :=
  True

def algebraic_DownDaIdeal_DownDaRefIdeal [hDownDaIdeal : Cert.DownDaIdeal.Facts] [hDownDaRefIdeal : Cert.DownDaRefIdeal.Facts] : Prop :=
  ∀ (m : (ℓ : Loc Cert.DownDaIdeal.nD Cert.DownDaIdeal.τ Cert.DownDaIdeal.sig) → Buf (Elt Ideal) ℓ) (g : Dev Cert.DownDaIdeal.nD → PrngReg)
    (m' : (ℓ : Loc Cert.DownDaRefIdeal.nD Cert.DownDaRefIdeal.τ Cert.DownDaRefIdeal.sig) → Buf (Elt Ideal) ℓ) (g' : Dev Cert.DownDaRefIdeal.nD → PrngReg), Pre_DownDaIdeal m →
    (∀ c : Dev Cert.DownDaIdeal.nD,
      m' ((c.tc : Thread Cert.DownDaRefIdeal.nD Cert.DownDaRefIdeal.τ).loc Cert.DownDaRefIdeal.main_arg0) = m ((c.tc : Thread Cert.DownDaIdeal.nD Cert.DownDaIdeal.τ).loc Cert.DownDaIdeal.main_arg0)
      ∧ m' ((c.tc : Thread Cert.DownDaRefIdeal.nD Cert.DownDaRefIdeal.τ).loc Cert.DownDaRefIdeal.main_arg1) = m ((c.tc : Thread Cert.DownDaIdeal.nD Cert.DownDaIdeal.τ).loc Cert.DownDaIdeal.main_arg1)
      ∧ m' ((c.tc : Thread Cert.DownDaRefIdeal.nD Cert.DownDaRefIdeal.τ).loc Cert.DownDaRefIdeal.main_arg2) = m ((c.tc : Thread Cert.DownDaIdeal.nD Cert.DownDaIdeal.τ).loc Cert.DownDaIdeal.main_arg2)) →
    ∃ (v0 : (c : Dev Cert.DownDaIdeal.nD) → Buf (Elt Ideal) ((c.tc : Thread Cert.DownDaIdeal.nD Cert.DownDaIdeal.τ).loc Cert.DownDaIdeal.main_v0)),
      θ_run (Cert.DownDaIdeal.defs (F := Ideal)) (onTc (τ := Cert.DownDaIdeal.τ) (Cert.DownDaIdeal.main (F := Ideal))) ⟨m, fun _ => 0, g⟩ (fun r => ∀ c : Dev Cert.DownDaIdeal.nD,
          r.2.mem ((c.tc : Thread Cert.DownDaIdeal.nD Cert.DownDaIdeal.τ).loc Cert.DownDaIdeal.main_v0) = v0 c
          ∧ r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
          ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1)
          ∧ r.2.mem ((c.tc : Thread Cert.DownDaIdeal.nD Cert.DownDaIdeal.τ).loc Cert.DownDaIdeal.main_arg2) = m ((c.tc : Thread Cert.DownDaIdeal.nD Cert.DownDaIdeal.τ).loc Cert.DownDaIdeal.main_arg2))
      ∧ θ_run (Cert.DownDaRefIdeal.defs (F := Ideal)) (onTc (τ := Cert.DownDaRefIdeal.τ) (Cert.DownDaRefIdeal.main (F := Ideal))) ⟨m', fun _ => 0, g'⟩ (fun r => ∀ c : Dev Cert.DownDaRefIdeal.nD,
          r.2.mem ((c.tc : Thread Cert.DownDaRefIdeal.nD Cert.DownDaRefIdeal.τ).loc Cert.DownDaRefIdeal.main_v4) = v0 c
          ∧ r.2.mem ((c.tc : Thread Cert.DownDaRefIdeal.nD Cert.DownDaRefIdeal.τ).loc Cert.DownDaRefIdeal.main_arg0) = m' ((c.tc : Thread Cert.DownDaRefIdeal.nD Cert.DownDaRefIdeal.τ).loc Cert.DownDaRefIdeal.main_arg0)
          ∧ r.2.mem ((c.tc : Thread Cert.DownDaRefIdeal.nD Cert.DownDaRefIdeal.τ).loc Cert.DownDaRefIdeal.main_arg1) = m' ((c.tc : Thread Cert.DownDaRefIdeal.nD Cert.DownDaRefIdeal.τ).loc Cert.DownDaRefIdeal.main_arg1)
          ∧ r.2.mem ((c.tc : Thread Cert.DownDaRefIdeal.nD Cert.DownDaRefIdeal.τ).loc Cert.DownDaRefIdeal.main_arg2) = m' ((c.tc : Thread Cert.DownDaRefIdeal.nD Cert.DownDaRefIdeal.τ).loc Cert.DownDaRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_OutDa_OutDaIdeal : Prop :=
  True

def algebraic_OutDaIdeal_OutDaRefIdeal [hOutDaIdeal : Cert.OutDaIdeal.Facts] [hOutDaRefIdeal : Cert.OutDaRefIdeal.Facts] : Prop :=
  ∀ (m : (ℓ : Loc Cert.OutDaIdeal.nD Cert.OutDaIdeal.τ Cert.OutDaIdeal.sig) → Buf (Elt Ideal) ℓ) (g : Dev Cert.OutDaIdeal.nD → PrngReg)
    (m' : (ℓ : Loc Cert.OutDaRefIdeal.nD Cert.OutDaRefIdeal.τ Cert.OutDaRefIdeal.sig) → Buf (Elt Ideal) ℓ) (g' : Dev Cert.OutDaRefIdeal.nD → PrngReg), Pre_OutDaIdeal m →
    (∀ c : Dev Cert.OutDaIdeal.nD,
      m' ((c.tc : Thread Cert.OutDaRefIdeal.nD Cert.OutDaRefIdeal.τ).loc Cert.OutDaRefIdeal.main_arg0) = m ((c.tc : Thread Cert.OutDaIdeal.nD Cert.OutDaIdeal.τ).loc Cert.OutDaIdeal.main_arg0)
      ∧ m' ((c.tc : Thread Cert.OutDaRefIdeal.nD Cert.OutDaRefIdeal.τ).loc Cert.OutDaRefIdeal.main_arg1) = m ((c.tc : Thread Cert.OutDaIdeal.nD Cert.OutDaIdeal.τ).loc Cert.OutDaIdeal.main_arg1)
      ∧ m' ((c.tc : Thread Cert.OutDaRefIdeal.nD Cert.OutDaRefIdeal.τ).loc Cert.OutDaRefIdeal.main_arg2) = m ((c.tc : Thread Cert.OutDaIdeal.nD Cert.OutDaIdeal.τ).loc Cert.OutDaIdeal.main_arg2)) →
    ∃ (v0 : (c : Dev Cert.OutDaIdeal.nD) → Buf (Elt Ideal) ((c.tc : Thread Cert.OutDaIdeal.nD Cert.OutDaIdeal.τ).loc Cert.OutDaIdeal.main_v0)),
      θ_run (Cert.OutDaIdeal.defs (F := Ideal)) (onTc (τ := Cert.OutDaIdeal.τ) (Cert.OutDaIdeal.main (F := Ideal))) ⟨m, fun _ => 0, g⟩ (fun r => ∀ c : Dev Cert.OutDaIdeal.nD,
          r.2.mem ((c.tc : Thread Cert.OutDaIdeal.nD Cert.OutDaIdeal.τ).loc Cert.OutDaIdeal.main_v0) = v0 c
          ∧ r.2.mem ((c.tc : Thread Cert.OutDaIdeal.nD Cert.OutDaIdeal.τ).loc Cert.OutDaIdeal.main_arg0) = m ((c.tc : Thread Cert.OutDaIdeal.nD Cert.OutDaIdeal.τ).loc Cert.OutDaIdeal.main_arg0)
          ∧ r.2.mem ((c.tc : Thread Cert.OutDaIdeal.nD Cert.OutDaIdeal.τ).loc Cert.OutDaIdeal.main_arg1) = m ((c.tc : Thread Cert.OutDaIdeal.nD Cert.OutDaIdeal.τ).loc Cert.OutDaIdeal.main_arg1)
          ∧ r.2.mem ((c.tc : Thread Cert.OutDaIdeal.nD Cert.OutDaIdeal.τ).loc Cert.OutDaIdeal.main_arg2) = m ((c.tc : Thread Cert.OutDaIdeal.nD Cert.OutDaIdeal.τ).loc Cert.OutDaIdeal.main_arg2))
      ∧ θ_run (Cert.OutDaRefIdeal.defs (F := Ideal)) (onTc (τ := Cert.OutDaRefIdeal.τ) (Cert.OutDaRefIdeal.main (F := Ideal))) ⟨m', fun _ => 0, g'⟩ (fun r => ∀ c : Dev Cert.OutDaRefIdeal.nD,
          r.2.mem ((c.tc : Thread Cert.OutDaRefIdeal.nD Cert.OutDaRefIdeal.τ).loc Cert.OutDaRefIdeal.main_v4) = v0 c
          ∧ r.2.mem ((c.tc : Thread Cert.OutDaRefIdeal.nD Cert.OutDaRefIdeal.τ).loc Cert.OutDaRefIdeal.main_arg0) = m' ((c.tc : Thread Cert.OutDaRefIdeal.nD Cert.OutDaRefIdeal.τ).loc Cert.OutDaRefIdeal.main_arg0)
          ∧ r.2.mem ((c.tc : Thread Cert.OutDaRefIdeal.nD Cert.OutDaRefIdeal.τ).loc Cert.OutDaRefIdeal.main_arg1) = m' ((c.tc : Thread Cert.OutDaRefIdeal.nD Cert.OutDaRefIdeal.τ).loc Cert.OutDaRefIdeal.main_arg1)
          ∧ r.2.mem ((c.tc : Thread Cert.OutDaRefIdeal.nD Cert.OutDaRefIdeal.τ).loc Cert.OutDaRefIdeal.main_arg2) = m' ((c.tc : Thread Cert.OutDaRefIdeal.nD Cert.OutDaRefIdeal.τ).loc Cert.OutDaRefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v4) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1))

def preserves_SwigluB_SwigluBIdeal : Prop :=
  True

def algebraic_SwigluBIdeal_SwigluBRefIdeal_pre_finite_gate [hSwigluBIdeal : Cert.SwigluBIdeal.Facts] [hSwigluBRefIdeal : Cert.SwigluBRefIdeal.Facts] [hPre_finite_gate : Cert.Pre_finite_gate.Facts] : Prop :=
  ∀ (m : (ℓ : Loc Cert.SwigluBIdeal.nD Cert.SwigluBIdeal.τ Cert.SwigluBIdeal.sig) → Buf (Elt Ideal) ℓ) (g : Dev Cert.SwigluBIdeal.nD → PrngReg)
    (m' : (ℓ : Loc Cert.SwigluBRefIdeal.nD Cert.SwigluBRefIdeal.τ Cert.SwigluBRefIdeal.sig) → Buf (Elt Ideal) ℓ) (g' : Dev Cert.SwigluBRefIdeal.nD → PrngReg), Pre_SwigluBIdeal_finite_gate m →
    (∀ c : Dev Cert.SwigluBIdeal.nD,
      m' ((c.tc : Thread Cert.SwigluBRefIdeal.nD Cert.SwigluBRefIdeal.τ).loc Cert.SwigluBRefIdeal.main_arg0) = m ((c.tc : Thread Cert.SwigluBIdeal.nD Cert.SwigluBIdeal.τ).loc Cert.SwigluBIdeal.main_arg0)
      ∧ m' ((c.tc : Thread Cert.SwigluBRefIdeal.nD Cert.SwigluBRefIdeal.τ).loc Cert.SwigluBRefIdeal.main_arg1) = m ((c.tc : Thread Cert.SwigluBIdeal.nD Cert.SwigluBIdeal.τ).loc Cert.SwigluBIdeal.main_arg1)
      ∧ m' ((c.tc : Thread Cert.SwigluBRefIdeal.nD Cert.SwigluBRefIdeal.τ).loc Cert.SwigluBRefIdeal.main_arg2) = m ((c.tc : Thread Cert.SwigluBIdeal.nD Cert.SwigluBIdeal.τ).loc Cert.SwigluBIdeal.main_arg2)) →
    ∃ (v0 : (c : Dev Cert.SwigluBIdeal.nD) → Buf (Elt Ideal) ((c.tc : Thread Cert.SwigluBIdeal.nD Cert.SwigluBIdeal.τ).loc Cert.SwigluBIdeal.main_v0_0)) (v1 : (c : Dev Cert.SwigluBIdeal.nD) → Buf (Elt Ideal) ((c.tc : Thread Cert.SwigluBIdeal.nD Cert.SwigluBIdeal.τ).loc Cert.SwigluBIdeal.main_v0_1)),
      θ_run (Cert.SwigluBIdeal.defs (F := Ideal)) (onTc (τ := Cert.SwigluBIdeal.τ) (Cert.SwigluBIdeal.main (F := Ideal))) ⟨m, fun _ => 0, g⟩ (fun r => ∀ c : Dev Cert.SwigluBIdeal.nD,
          r.2.mem ((c.tc : Thread Cert.SwigluBIdeal.nD Cert.SwigluBIdeal.τ).loc Cert.SwigluBIdeal.main_v0_0) = v0 c
          ∧ r.2.mem ((c.tc : Thread Cert.SwigluBIdeal.nD Cert.SwigluBIdeal.τ).loc Cert.SwigluBIdeal.main_v0_1) = v1 c
          ∧ r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
          ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1)
          ∧ r.2.mem ((c.tc : Thread Cert.SwigluBIdeal.nD Cert.SwigluBIdeal.τ).loc Cert.SwigluBIdeal.main_arg2) = m ((c.tc : Thread Cert.SwigluBIdeal.nD Cert.SwigluBIdeal.τ).loc Cert.SwigluBIdeal.main_arg2))
      ∧ θ_run (Cert.SwigluBRefIdeal.defs (F := Ideal)) (onTc (τ := Cert.SwigluBRefIdeal.τ) (Cert.SwigluBRefIdeal.main (F := Ideal))) ⟨m', fun _ => 0, g'⟩ (fun r => ∀ c : Dev Cert.SwigluBRefIdeal.nD,
          r.2.mem ((c.tc : Thread Cert.SwigluBRefIdeal.nD Cert.SwigluBRefIdeal.τ).loc Cert.SwigluBRefIdeal.main_v10) = v0 c
          ∧ r.2.mem ((c.tc : Thread Cert.SwigluBRefIdeal.nD Cert.SwigluBRefIdeal.τ).loc Cert.SwigluBRefIdeal.main_v8) = v1 c
          ∧ r.2.mem ((c.tc : Thread Cert.SwigluBRefIdeal.nD Cert.SwigluBRefIdeal.τ).loc Cert.SwigluBRefIdeal.main_arg0) = m' ((c.tc : Thread Cert.SwigluBRefIdeal.nD Cert.SwigluBRefIdeal.τ).loc Cert.SwigluBRefIdeal.main_arg0)
          ∧ r.2.mem ((c.tc : Thread Cert.SwigluBRefIdeal.nD Cert.SwigluBRefIdeal.τ).loc Cert.SwigluBRefIdeal.main_arg1) = m' ((c.tc : Thread Cert.SwigluBRefIdeal.nD Cert.SwigluBRefIdeal.τ).loc Cert.SwigluBRefIdeal.main_arg1)
          ∧ r.2.mem ((c.tc : Thread Cert.SwigluBRefIdeal.nD Cert.SwigluBRefIdeal.τ).loc Cert.SwigluBRefIdeal.main_arg2) = m' ((c.tc : Thread Cert.SwigluBRefIdeal.nD Cert.SwigluBRefIdeal.τ).loc Cert.SwigluBRefIdeal.main_arg2))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v4_0)) (v1 : (c : Dev Cert.AdamInIdeal.nD) → Buf (Elt Ideal) ((c.tc : Thread Cert.AdamInIdeal.nD Cert.AdamInIdeal.τ).loc Cert.AdamInIdeal.main_v4_1)) (v2 : (c : Dev Cert.AdamInIdeal.nD) → Buf (Elt Ideal) ((c.tc : Thread Cert.AdamInIdeal.nD Cert.AdamInIdeal.τ).loc Cert.AdamInIdeal.main_v4_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_0) = v0 c
          ∧ r.2.mem ((c.tc : Thread Cert.AdamInIdeal.nD Cert.AdamInIdeal.τ).loc Cert.AdamInIdeal.main_v4_1) = v1 c
          ∧ r.2.mem ((c.tc : Thread Cert.AdamInIdeal.nD Cert.AdamInIdeal.τ).loc Cert.AdamInIdeal.main_v4_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v24) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v26) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamUq_AdamUqIdeal : Prop :=
  True

def algebraic_AdamUqIdeal_AdamUqRefIdeal [hAdamUqIdeal : Cert.AdamUqIdeal.Facts] [hAdamUqRefIdeal : Cert.AdamUqRefIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg)
    (m' : (ℓ : Loc Cert.AdamUqRefIdeal.nD Cert.AdamUqRefIdeal.τ Cert.AdamUqRefIdeal.sig) → Buf (Elt Ideal) ℓ) (g' : Dev Cert.AdamUqRefIdeal.nD → PrngReg), Pre_AdamUqIdeal m →
    (∀ c : Dev Cert.AdamUqIdeal.nD,
      m' ((c.tc : Thread Cert.AdamUqRefIdeal.nD Cert.AdamUqRefIdeal.τ).loc Cert.AdamUqRefIdeal.main_arg0) = m ((c.tc : Thread Cert.AdamUqIdeal.nD Cert.AdamUqIdeal.τ).loc Cert.AdamUqIdeal.main_arg0)
      ∧ m' ((c.tc : Thread Cert.AdamUqRefIdeal.nD Cert.AdamUqRefIdeal.τ).loc Cert.AdamUqRefIdeal.main_arg1) = m ((c.tc : Thread Cert.AdamUqIdeal.nD Cert.AdamUqIdeal.τ).loc Cert.AdamUqIdeal.main_arg1)
      ∧ m' ((c.tc : Thread Cert.AdamUqRefIdeal.nD Cert.AdamUqRefIdeal.τ).loc Cert.AdamUqRefIdeal.main_arg2) = m ((c.tc : Thread Cert.AdamUqIdeal.nD Cert.AdamUqIdeal.τ).loc Cert.AdamUqIdeal.main_arg2)
      ∧ m' ((c.tc : Thread Cert.AdamUqRefIdeal.nD Cert.AdamUqRefIdeal.τ).loc Cert.AdamUqRefIdeal.main_arg3) = m ((c.tc : Thread Cert.AdamUqIdeal.nD Cert.AdamUqIdeal.τ).loc Cert.AdamUqIdeal.main_arg3)) →
    ∃ (v0 : (c : Dev Cert.AdamUqIdeal.nD) → Buf (Elt Ideal) ((c.tc : Thread Cert.AdamUqIdeal.nD Cert.AdamUqIdeal.τ).loc Cert.AdamUqIdeal.main_v4_0)) (v1 : (c : Dev Cert.AdamUqIdeal.nD) → Buf (Elt Ideal) ((c.tc : Thread Cert.AdamUqIdeal.nD Cert.AdamUqIdeal.τ).loc Cert.AdamUqIdeal.main_v4_1)) (v2 : (c : Dev Cert.AdamUqIdeal.nD) → Buf (Elt Ideal) ((c.tc : Thread Cert.AdamUqIdeal.nD Cert.AdamUqIdeal.τ).loc Cert.AdamUqIdeal.main_v4_2)),
      θ_run (Cert.AdamUqIdeal.defs (F := Ideal)) (onTc (τ := Cert.AdamUqIdeal.τ) (Cert.AdamUqIdeal.main (F := Ideal))) ⟨m, fun _ => 0, g⟩ (fun r => ∀ c : Dev Cert.AdamUqIdeal.nD,
          r.2.mem ((c.tc : Thread Cert.AdamUqIdeal.nD Cert.AdamUqIdeal.τ).loc Cert.AdamUqIdeal.main_v4_0) = v0 c
          ∧ r.2.mem ((c.tc : Thread Cert.AdamUqIdeal.nD Cert.AdamUqIdeal.τ).loc Cert.AdamUqIdeal.main_v4_1) = v1 c
          ∧ r.2.mem ((c.tc : Thread Cert.AdamUqIdeal.nD Cert.AdamUqIdeal.τ).loc Cert.AdamUqIdeal.main_v4_2) = v2 c
          ∧ r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
          ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
          ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
          ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3))
      ∧ θ_run (Cert.AdamUqRefIdeal.defs (F := Ideal)) (onTc (τ := Cert.AdamUqRefIdeal.τ) (Cert.AdamUqRefIdeal.main (F := Ideal))) ⟨m', fun _ => 0, g'⟩ (fun r => ∀ c : Dev Cert.AdamUqRefIdeal.nD,
          r.2.mem ((c.tc : Thread Cert.AdamUqRefIdeal.nD Cert.AdamUqRefIdeal.τ).loc Cert.AdamUqRefIdeal.main_v24) = v0 c
          ∧ r.2.mem ((c.tc : Thread Cert.AdamUqRefIdeal.nD Cert.AdamUqRefIdeal.τ).loc Cert.AdamUqRefIdeal.main_v25) = v1 c
          ∧ r.2.mem ((c.tc : Thread Cert.AdamUqRefIdeal.nD Cert.AdamUqRefIdeal.τ).loc Cert.AdamUqRefIdeal.main_v26) = v2 c
          ∧ r.2.mem ((c.tc : Thread Cert.AdamUqRefIdeal.nD Cert.AdamUqRefIdeal.τ).loc Cert.AdamUqRefIdeal.main_arg0) = m' ((c.tc : Thread Cert.AdamUqRefIdeal.nD Cert.AdamUqRefIdeal.τ).loc Cert.AdamUqRefIdeal.main_arg0)
          ∧ r.2.mem ((c.tc : Thread Cert.AdamUqRefIdeal.nD Cert.AdamUqRefIdeal.τ).loc Cert.AdamUqRefIdeal.main_arg1) = m' ((c.tc : Thread Cert.AdamUqRefIdeal.nD Cert.AdamUqRefIdeal.τ).loc Cert.AdamUqRefIdeal.main_arg1)
          ∧ r.2.mem ((c.tc : Thread Cert.AdamUqRefIdeal.nD Cert.AdamUqRefIdeal.τ).loc Cert.AdamUqRefIdeal.main_arg2) = m' ((c.tc : Thread Cert.AdamUqRefIdeal.nD Cert.AdamUqRefIdeal.τ).loc Cert.AdamUqRefIdeal.main_arg2)
          ∧ r.2.mem ((c.tc : Thread Cert.AdamUqRefIdeal.nD Cert.AdamUqRefIdeal.τ).loc Cert.AdamUqRefIdeal.main_arg3) = m' ((c.tc : Thread Cert.AdamUqRefIdeal.nD Cert.AdamUqRefIdeal.τ).loc Cert.AdamUqRefIdeal.main_arg3))

def preserves_AdamUkv_AdamUkvIdeal : Prop :=
  True

def algebraic_AdamUkvIdeal_AdamUkvRefIdeal [hAdamUkvIdeal : Cert.AdamUkvIdeal.Facts] [hAdamUkvRefIdeal : Cert.AdamUkvRefIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg)
    (m' : (ℓ : Loc Cert.AdamUkvRefIdeal.nD Cert.AdamUkvRefIdeal.τ Cert.AdamUkvRefIdeal.sig) → Buf (Elt Ideal) ℓ) (g' : Dev Cert.AdamUkvRefIdeal.nD → PrngReg), Pre_AdamUkvIdeal m →
    (∀ c : Dev Cert.AdamUkvIdeal.nD,
      m' ((c.tc : Thread Cert.AdamUkvRefIdeal.nD Cert.AdamUkvRefIdeal.τ).loc Cert.AdamUkvRefIdeal.main_arg0) = m ((c.tc : Thread Cert.AdamUkvIdeal.nD Cert.AdamUkvIdeal.τ).loc Cert.AdamUkvIdeal.main_arg0)
      ∧ m' ((c.tc : Thread Cert.AdamUkvRefIdeal.nD Cert.AdamUkvRefIdeal.τ).loc Cert.AdamUkvRefIdeal.main_arg1) = m ((c.tc : Thread Cert.AdamUkvIdeal.nD Cert.AdamUkvIdeal.τ).loc Cert.AdamUkvIdeal.main_arg1)
      ∧ m' ((c.tc : Thread Cert.AdamUkvRefIdeal.nD Cert.AdamUkvRefIdeal.τ).loc Cert.AdamUkvRefIdeal.main_arg2) = m ((c.tc : Thread Cert.AdamUkvIdeal.nD Cert.AdamUkvIdeal.τ).loc Cert.AdamUkvIdeal.main_arg2)
      ∧ m' ((c.tc : Thread Cert.AdamUkvRefIdeal.nD Cert.AdamUkvRefIdeal.τ).loc Cert.AdamUkvRefIdeal.main_arg3) = m ((c.tc : Thread Cert.AdamUkvIdeal.nD Cert.AdamUkvIdeal.τ).loc Cert.AdamUkvIdeal.main_arg3)) →
    ∃ (v0 : (c : Dev Cert.AdamUkvIdeal.nD) → Buf (Elt Ideal) ((c.tc : Thread Cert.AdamUkvIdeal.nD Cert.AdamUkvIdeal.τ).loc Cert.AdamUkvIdeal.main_v4_0)) (v1 : (c : Dev Cert.AdamUkvIdeal.nD) → Buf (Elt Ideal) ((c.tc : Thread Cert.AdamUkvIdeal.nD Cert.AdamUkvIdeal.τ).loc Cert.AdamUkvIdeal.main_v4_1)) (v2 : (c : Dev Cert.AdamUkvIdeal.nD) → Buf (Elt Ideal) ((c.tc : Thread Cert.AdamUkvIdeal.nD Cert.AdamUkvIdeal.τ).loc Cert.AdamUkvIdeal.main_v4_2)),
      θ_run (Cert.AdamUkvIdeal.defs (F := Ideal)) (onTc (τ := Cert.AdamUkvIdeal.τ) (Cert.AdamUkvIdeal.main (F := Ideal))) ⟨m, fun _ => 0, g⟩ (fun r => ∀ c : Dev Cert.AdamUkvIdeal.nD,
          r.2.mem ((c.tc : Thread Cert.AdamUkvIdeal.nD Cert.AdamUkvIdeal.τ).loc Cert.AdamUkvIdeal.main_v4_0) = v0 c
          ∧ r.2.mem ((c.tc : Thread Cert.AdamUkvIdeal.nD Cert.AdamUkvIdeal.τ).loc Cert.AdamUkvIdeal.main_v4_1) = v1 c
          ∧ r.2.mem ((c.tc : Thread Cert.AdamUkvIdeal.nD Cert.AdamUkvIdeal.τ).loc Cert.AdamUkvIdeal.main_v4_2) = v2 c
          ∧ r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
          ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
          ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
          ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3))
      ∧ θ_run (Cert.AdamUkvRefIdeal.defs (F := Ideal)) (onTc (τ := Cert.AdamUkvRefIdeal.τ) (Cert.AdamUkvRefIdeal.main (F := Ideal))) ⟨m', fun _ => 0, g'⟩ (fun r => ∀ c : Dev Cert.AdamUkvRefIdeal.nD,
          r.2.mem ((c.tc : Thread Cert.AdamUkvRefIdeal.nD Cert.AdamUkvRefIdeal.τ).loc Cert.AdamUkvRefIdeal.main_v24) = v0 c
          ∧ r.2.mem ((c.tc : Thread Cert.AdamUkvRefIdeal.nD Cert.AdamUkvRefIdeal.τ).loc Cert.AdamUkvRefIdeal.main_v25) = v1 c
          ∧ r.2.mem ((c.tc : Thread Cert.AdamUkvRefIdeal.nD Cert.AdamUkvRefIdeal.τ).loc Cert.AdamUkvRefIdeal.main_v26) = v2 c
          ∧ r.2.mem ((c.tc : Thread Cert.AdamUkvRefIdeal.nD Cert.AdamUkvRefIdeal.τ).loc Cert.AdamUkvRefIdeal.main_arg0) = m' ((c.tc : Thread Cert.AdamUkvRefIdeal.nD Cert.AdamUkvRefIdeal.τ).loc Cert.AdamUkvRefIdeal.main_arg0)
          ∧ r.2.mem ((c.tc : Thread Cert.AdamUkvRefIdeal.nD Cert.AdamUkvRefIdeal.τ).loc Cert.AdamUkvRefIdeal.main_arg1) = m' ((c.tc : Thread Cert.AdamUkvRefIdeal.nD Cert.AdamUkvRefIdeal.τ).loc Cert.AdamUkvRefIdeal.main_arg1)
          ∧ r.2.mem ((c.tc : Thread Cert.AdamUkvRefIdeal.nD Cert.AdamUkvRefIdeal.τ).loc Cert.AdamUkvRefIdeal.main_arg2) = m' ((c.tc : Thread Cert.AdamUkvRefIdeal.nD Cert.AdamUkvRefIdeal.τ).loc Cert.AdamUkvRefIdeal.main_arg2)
          ∧ r.2.mem ((c.tc : Thread Cert.AdamUkvRefIdeal.nD Cert.AdamUkvRefIdeal.τ).loc Cert.AdamUkvRefIdeal.main_arg3) = m' ((c.tc : Thread Cert.AdamUkvRefIdeal.nD Cert.AdamUkvRefIdeal.τ).loc Cert.AdamUkvRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v4_0)) (v1 : (c : Dev Cert.AdamOutIdeal.nD) → Buf (Elt Ideal) ((c.tc : Thread Cert.AdamOutIdeal.nD Cert.AdamOutIdeal.τ).loc Cert.AdamOutIdeal.main_v4_1)) (v2 : (c : Dev Cert.AdamOutIdeal.nD) → Buf (Elt Ideal) ((c.tc : Thread Cert.AdamOutIdeal.nD Cert.AdamOutIdeal.τ).loc Cert.AdamOutIdeal.main_v4_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v4_0) = v0 c
          ∧ r.2.mem ((c.tc : Thread Cert.AdamOutIdeal.nD Cert.AdamOutIdeal.τ).loc Cert.AdamOutIdeal.main_v4_1) = v1 c
          ∧ r.2.mem ((c.tc : Thread Cert.AdamOutIdeal.nD Cert.AdamOutIdeal.τ).loc Cert.AdamOutIdeal.main_v4_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v24) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v26) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v4_0)) (v1 : (c : Dev Cert.AdamGateIdeal.nD) → Buf (Elt Ideal) ((c.tc : Thread Cert.AdamGateIdeal.nD Cert.AdamGateIdeal.τ).loc Cert.AdamGateIdeal.main_v4_1)) (v2 : (c : Dev Cert.AdamGateIdeal.nD) → Buf (Elt Ideal) ((c.tc : Thread Cert.AdamGateIdeal.nD Cert.AdamGateIdeal.τ).loc Cert.AdamGateIdeal.main_v4_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v4_0) = v0 c
          ∧ r.2.mem ((c.tc : Thread Cert.AdamGateIdeal.nD Cert.AdamGateIdeal.τ).loc Cert.AdamGateIdeal.main_v4_1) = v1 c
          ∧ r.2.mem ((c.tc : Thread Cert.AdamGateIdeal.nD Cert.AdamGateIdeal.τ).loc Cert.AdamGateIdeal.main_v4_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v24) = v0 c
          ∧ r.2.mem ((c.tc : Thread Cert.AdamGateRefIdeal.nD Cert.AdamGateRefIdeal.τ).loc Cert.AdamGateRefIdeal.main_v25) = v1 c
          ∧ r.2.mem ((c.tc : Thread Cert.AdamGateRefIdeal.nD Cert.AdamGateRefIdeal.τ).loc Cert.AdamGateRefIdeal.main_v26) = v2 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v4_0)) (v1 : (c : Dev Cert.AdamDownIdeal.nD) → Buf (Elt Ideal) ((c.tc : Thread Cert.AdamDownIdeal.nD Cert.AdamDownIdeal.τ).loc Cert.AdamDownIdeal.main_v4_1)) (v2 : (c : Dev Cert.AdamDownIdeal.nD) → Buf (Elt Ideal) ((c.tc : Thread Cert.AdamDownIdeal.nD Cert.AdamDownIdeal.τ).loc Cert.AdamDownIdeal.main_v4_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v4_0) = v0 c
          ∧ r.2.mem ((c.tc : Thread Cert.AdamDownIdeal.nD Cert.AdamDownIdeal.τ).loc Cert.AdamDownIdeal.main_v4_1) = v1 c
          ∧ r.2.mem ((c.tc : Thread Cert.AdamDownIdeal.nD Cert.AdamDownIdeal.τ).loc Cert.AdamDownIdeal.main_v4_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v24) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v26) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)) →
    ∃ (v0 : (c : Dev Cert.AdamSmallIdeal.nD) → Buf (Elt Ideal) ((c.tc : Thread Cert.AdamSmallIdeal.nD Cert.AdamSmallIdeal.τ).loc Cert.AdamSmallIdeal.main_v36_0)) (v1 : (c : Dev Cert.AdamSmallIdeal.nD) → Buf (Elt Ideal) ((c.tc : Thread Cert.AdamSmallIdeal.nD Cert.AdamSmallIdeal.τ).loc Cert.AdamSmallIdeal.main_v36_1)) (v2 : (c : Dev Cert.AdamSmallIdeal.nD) → Buf (Elt Ideal) ((c.tc : Thread Cert.AdamSmallIdeal.nD Cert.AdamSmallIdeal.τ).loc Cert.AdamSmallIdeal.main_v36_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v36_0) = v0 c
          ∧ r.2.mem ((c.tc : Thread Cert.AdamSmallIdeal.nD Cert.AdamSmallIdeal.τ).loc Cert.AdamSmallIdeal.main_v36_1) = v1 c
          ∧ r.2.mem ((c.tc : Thread Cert.AdamSmallIdeal.nD Cert.AdamSmallIdeal.τ).loc Cert.AdamSmallIdeal.main_v36_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v190) = v0 c
          ∧ r.2.mem ((c.tc : Thread Cert.AdamSmallRefIdeal.nD Cert.AdamSmallRefIdeal.τ).loc Cert.AdamSmallRefIdeal.main_v192) = v1 c
          ∧ r.2.mem ((c.tc : Thread Cert.AdamSmallRefIdeal.nD Cert.AdamSmallRefIdeal.τ).loc Cert.AdamSmallRefIdeal.main_v194) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v1) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0))

def preserves_SumUq_SumUqIdeal : Prop :=
  True

def algebraic_SumUqIdeal_SumUqRefIdeal [hSumUqIdeal : Cert.SumUqIdeal.Facts] [hSumUqRefIdeal : Cert.SumUqRefIdeal.Facts] : Prop :=
  ∀ (m : (ℓ : Loc Cert.SumUqIdeal.nD Cert.SumUqIdeal.τ Cert.SumUqIdeal.sig) → Buf (Elt Ideal) ℓ) (g : Dev Cert.SumUqIdeal.nD → PrngReg)
    (m' : (ℓ : Loc Cert.SumUqRefIdeal.nD Cert.SumUqRefIdeal.τ Cert.SumUqRefIdeal.sig) → Buf (Elt Ideal) ℓ) (g' : Dev Cert.SumUqRefIdeal.nD → PrngReg), Pre_SumUqIdeal m →
    (∀ c : Dev Cert.SumUqIdeal.nD,
      m' ((c.tc : Thread Cert.SumUqRefIdeal.nD Cert.SumUqRefIdeal.τ).loc Cert.SumUqRefIdeal.main_arg0) = m ((c.tc : Thread Cert.SumUqIdeal.nD Cert.SumUqIdeal.τ).loc Cert.SumUqIdeal.main_arg0)) →
    ∃ (v0 : (c : Dev Cert.SumUqIdeal.nD) → Buf (Elt Ideal) ((c.tc : Thread Cert.SumUqIdeal.nD Cert.SumUqIdeal.τ).loc Cert.SumUqIdeal.main_v0)),
      θ_run (Cert.SumUqIdeal.defs (F := Ideal)) (onTc (τ := Cert.SumUqIdeal.τ) (Cert.SumUqIdeal.main (F := Ideal))) ⟨m, fun _ => 0, g⟩ (fun r => ∀ c : Dev Cert.SumUqIdeal.nD,
          r.2.mem ((c.tc : Thread Cert.SumUqIdeal.nD Cert.SumUqIdeal.τ).loc Cert.SumUqIdeal.main_v0) = v0 c
          ∧ r.2.mem ((c.tc : Thread Cert.SumUqIdeal.nD Cert.SumUqIdeal.τ).loc Cert.SumUqIdeal.main_arg0) = m ((c.tc : Thread Cert.SumUqIdeal.nD Cert.SumUqIdeal.τ).loc Cert.SumUqIdeal.main_arg0))
      ∧ θ_run (Cert.SumUqRefIdeal.defs (F := Ideal)) (onTc (τ := Cert.SumUqRefIdeal.τ) (Cert.SumUqRefIdeal.main (F := Ideal))) ⟨m', fun _ => 0, g'⟩ (fun r => ∀ c : Dev Cert.SumUqRefIdeal.nD,
          r.2.mem ((c.tc : Thread Cert.SumUqRefIdeal.nD Cert.SumUqRefIdeal.τ).loc Cert.SumUqRefIdeal.main_v1) = v0 c
          ∧ r.2.mem ((c.tc : Thread Cert.SumUqRefIdeal.nD Cert.SumUqRefIdeal.τ).loc Cert.SumUqRefIdeal.main_arg0) = m' ((c.tc : Thread Cert.SumUqRefIdeal.nD Cert.SumUqRefIdeal.τ).loc Cert.SumUqRefIdeal.main_arg0))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v1) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0))

def preserves_SumGate_SumGateIdeal : Prop :=
  True

def algebraic_SumGateIdeal_SumGateRefIdeal [hSumGateIdeal : Cert.SumGateIdeal.Facts] [hSumGateRefIdeal : Cert.SumGateRefIdeal.Facts] : Prop :=
  ∀ (m : (ℓ : Loc Cert.SumGateIdeal.nD Cert.SumGateIdeal.τ Cert.SumGateIdeal.sig) → Buf (Elt Ideal) ℓ) (g : Dev Cert.SumGateIdeal.nD → PrngReg)
    (m' : (ℓ : Loc Cert.SumGateRefIdeal.nD Cert.SumGateRefIdeal.τ Cert.SumGateRefIdeal.sig) → Buf (Elt Ideal) ℓ) (g' : Dev Cert.SumGateRefIdeal.nD → PrngReg), Pre_SumGateIdeal m →
    (∀ c : Dev Cert.SumGateIdeal.nD,
      m' ((c.tc : Thread Cert.SumGateRefIdeal.nD Cert.SumGateRefIdeal.τ).loc Cert.SumGateRefIdeal.main_arg0) = m ((c.tc : Thread Cert.SumGateIdeal.nD Cert.SumGateIdeal.τ).loc Cert.SumGateIdeal.main_arg0)) →
    ∃ (v0 : (c : Dev Cert.SumGateIdeal.nD) → Buf (Elt Ideal) ((c.tc : Thread Cert.SumGateIdeal.nD Cert.SumGateIdeal.τ).loc Cert.SumGateIdeal.main_v0)),
      θ_run (Cert.SumGateIdeal.defs (F := Ideal)) (onTc (τ := Cert.SumGateIdeal.τ) (Cert.SumGateIdeal.main (F := Ideal))) ⟨m, fun _ => 0, g⟩ (fun r => ∀ c : Dev Cert.SumGateIdeal.nD,
          r.2.mem ((c.tc : Thread Cert.SumGateIdeal.nD Cert.SumGateIdeal.τ).loc Cert.SumGateIdeal.main_v0) = v0 c
          ∧ r.2.mem ((c.tc : Thread Cert.SumGateIdeal.nD Cert.SumGateIdeal.τ).loc Cert.SumGateIdeal.main_arg0) = m ((c.tc : Thread Cert.SumGateIdeal.nD Cert.SumGateIdeal.τ).loc Cert.SumGateIdeal.main_arg0))
      ∧ θ_run (Cert.SumGateRefIdeal.defs (F := Ideal)) (onTc (τ := Cert.SumGateRefIdeal.τ) (Cert.SumGateRefIdeal.main (F := Ideal))) ⟨m', fun _ => 0, g'⟩ (fun r => ∀ c : Dev Cert.SumGateRefIdeal.nD,
          r.2.mem ((c.tc : Thread Cert.SumGateRefIdeal.nD Cert.SumGateRefIdeal.τ).loc Cert.SumGateRefIdeal.main_v1) = v0 c
          ∧ r.2.mem ((c.tc : Thread Cert.SumGateRefIdeal.nD Cert.SumGateRefIdeal.τ).loc Cert.SumGateRefIdeal.main_arg0) = m' ((c.tc : Thread Cert.SumGateRefIdeal.nD Cert.SumGateRefIdeal.τ).loc Cert.SumGateRefIdeal.main_arg0))

def preserves_SumDown_SumDownIdeal : Prop :=
  True

def algebraic_SumDownIdeal_SumDownRefIdeal [hSumDownIdeal : Cert.SumDownIdeal.Facts] [hSumDownRefIdeal : Cert.SumDownRefIdeal.Facts] : Prop :=
  ∀ (m : (ℓ : Loc Cert.SumDownIdeal.nD Cert.SumDownIdeal.τ Cert.SumDownIdeal.sig) → Buf (Elt Ideal) ℓ) (g : Dev Cert.SumDownIdeal.nD → PrngReg)
    (m' : (ℓ : Loc Cert.SumDownRefIdeal.nD Cert.SumDownRefIdeal.τ Cert.SumDownRefIdeal.sig) → Buf (Elt Ideal) ℓ) (g' : Dev Cert.SumDownRefIdeal.nD → PrngReg), Pre_SumDownIdeal m →
    (∀ c : Dev Cert.SumDownIdeal.nD,
      m' ((c.tc : Thread Cert.SumDownRefIdeal.nD Cert.SumDownRefIdeal.τ).loc Cert.SumDownRefIdeal.main_arg0) = m ((c.tc : Thread Cert.SumDownIdeal.nD Cert.SumDownIdeal.τ).loc Cert.SumDownIdeal.main_arg0)) →
    ∃ (v0 : (c : Dev Cert.SumDownIdeal.nD) → Buf (Elt Ideal) ((c.tc : Thread Cert.SumDownIdeal.nD Cert.SumDownIdeal.τ).loc Cert.SumDownIdeal.main_v0)),
      θ_run (Cert.SumDownIdeal.defs (F := Ideal)) (onTc (τ := Cert.SumDownIdeal.τ) (Cert.SumDownIdeal.main (F := Ideal))) ⟨m, fun _ => 0, g⟩ (fun r => ∀ c : Dev Cert.SumDownIdeal.nD,
          r.2.mem ((c.tc : Thread Cert.SumDownIdeal.nD Cert.SumDownIdeal.τ).loc Cert.SumDownIdeal.main_v0) = v0 c
          ∧ r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ θ_run (Cert.SumDownRefIdeal.defs (F := Ideal)) (onTc (τ := Cert.SumDownRefIdeal.τ) (Cert.SumDownRefIdeal.main (F := Ideal))) ⟨m', fun _ => 0, g'⟩ (fun r => ∀ c : Dev Cert.SumDownRefIdeal.nD,
          r.2.mem ((c.tc : Thread Cert.SumDownRefIdeal.nD Cert.SumDownRefIdeal.τ).loc Cert.SumDownRefIdeal.main_v1) = v0 c
          ∧ r.2.mem ((c.tc : Thread Cert.SumDownRefIdeal.nD Cert.SumDownRefIdeal.τ).loc Cert.SumDownRefIdeal.main_arg0) = m' ((c.tc : Thread Cert.SumDownRefIdeal.nD Cert.SumDownRefIdeal.τ).loc Cert.SumDownRefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormB_NormBIdeal : Prop :=
  True

def algebraic_NormBIdeal_NormBRefIdeal [hNormBIdeal : Cert.NormBIdeal.Facts] [hNormBRefIdeal : Cert.NormBRefIdeal.Facts] : Prop :=
  ∀ (m : (ℓ : Loc Cert.NormBIdeal.nD Cert.NormBIdeal.τ Cert.NormBIdeal.sig) → Buf (Elt Ideal) ℓ) (g : Dev Cert.NormBIdeal.nD → PrngReg)
    (m' : (ℓ : Loc Cert.NormBRefIdeal.nD Cert.NormBRefIdeal.τ Cert.NormBRefIdeal.sig) → Buf (Elt Ideal) ℓ) (g' : Dev Cert.NormBRefIdeal.nD → PrngReg), Pre_NormBIdeal m →
    (∀ c : Dev Cert.NormBIdeal.nD,
      m' ((c.tc : Thread Cert.NormBRefIdeal.nD Cert.NormBRefIdeal.τ).loc Cert.NormBRefIdeal.main_arg0) = m ((c.tc : Thread Cert.NormBIdeal.nD Cert.NormBIdeal.τ).loc Cert.NormBIdeal.main_arg0)
      ∧ m' ((c.tc : Thread Cert.NormBRefIdeal.nD Cert.NormBRefIdeal.τ).loc Cert.NormBRefIdeal.main_arg1) = m ((c.tc : Thread Cert.NormBIdeal.nD Cert.NormBIdeal.τ).loc Cert.NormBIdeal.main_arg1)
      ∧ m' ((c.tc : Thread Cert.NormBRefIdeal.nD Cert.NormBRefIdeal.τ).loc Cert.NormBRefIdeal.main_arg2) = m ((c.tc : Thread Cert.NormBIdeal.nD Cert.NormBIdeal.τ).loc Cert.NormBIdeal.main_arg2)) →
    ∃ (v0 : (c : Dev Cert.NormBIdeal.nD) → Buf (Elt Ideal) ((c.tc : Thread Cert.NormBIdeal.nD Cert.NormBIdeal.τ).loc Cert.NormBIdeal.main_v1_0)) (v1 : (c : Dev Cert.NormBIdeal.nD) → Buf (Elt Ideal) ((c.tc : Thread Cert.NormBIdeal.nD Cert.NormBIdeal.τ).loc Cert.NormBIdeal.main_v1_1)),
      θ_run (Cert.NormBIdeal.defs (F := Ideal)) (onTc (τ := Cert.NormBIdeal.τ) (Cert.NormBIdeal.main (F := Ideal))) ⟨m, fun _ => 0, g⟩ (fun r => ∀ c : Dev Cert.NormBIdeal.nD,
          r.2.mem ((c.tc : Thread Cert.NormBIdeal.nD Cert.NormBIdeal.τ).loc Cert.NormBIdeal.main_v1_0) = v0 c
          ∧ r.2.mem ((c.tc : Thread Cert.NormBIdeal.nD Cert.NormBIdeal.τ).loc Cert.NormBIdeal.main_v1_1) = v1 c
          ∧ r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
          ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
          ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2))
      ∧ θ_run (Cert.NormBRefIdeal.defs (F := Ideal)) (onTc (τ := Cert.NormBRefIdeal.τ) (Cert.NormBRefIdeal.main (F := Ideal))) ⟨m', fun _ => 0, g'⟩ (fun r => ∀ c : Dev Cert.NormBRefIdeal.nD,
          r.2.mem ((c.tc : Thread Cert.NormBRefIdeal.nD Cert.NormBRefIdeal.τ).loc Cert.NormBRefIdeal.main_v37) = v0 c
          ∧ r.2.mem ((c.tc : Thread Cert.NormBRefIdeal.nD Cert.NormBRefIdeal.τ).loc Cert.NormBRefIdeal.main_v38) = v1 c
          ∧ r.2.mem ((c.tc : Thread Cert.NormBRefIdeal.nD Cert.NormBRefIdeal.τ).loc Cert.NormBRefIdeal.main_arg0) = m' ((c.tc : Thread Cert.NormBRefIdeal.nD Cert.NormBRefIdeal.τ).loc Cert.NormBRefIdeal.main_arg0)
          ∧ r.2.mem ((c.tc : Thread Cert.NormBRefIdeal.nD Cert.NormBRefIdeal.τ).loc Cert.NormBRefIdeal.main_arg1) = m' ((c.tc : Thread Cert.NormBRefIdeal.nD Cert.NormBRefIdeal.τ).loc Cert.NormBRefIdeal.main_arg1)
          ∧ r.2.mem ((c.tc : Thread Cert.NormBRefIdeal.nD Cert.NormBRefIdeal.τ).loc Cert.NormBRefIdeal.main_arg2) = m' ((c.tc : Thread Cert.NormBRefIdeal.nD Cert.NormBRefIdeal.τ).loc Cert.NormBRefIdeal.main_arg2))

def preserves_NormL_NormLIdeal : Prop :=
  True

def algebraic_NormLIdeal_NormLRefIdeal [hNormLIdeal : Cert.NormLIdeal.Facts] [hNormLRefIdeal : Cert.NormLRefIdeal.Facts] : Prop :=
  ∀ (m : (ℓ : Loc Cert.NormLIdeal.nD Cert.NormLIdeal.τ Cert.NormLIdeal.sig) → Buf (Elt Ideal) ℓ) (g : Dev Cert.NormLIdeal.nD → PrngReg)
    (m' : (ℓ : Loc Cert.NormLRefIdeal.nD Cert.NormLRefIdeal.τ Cert.NormLRefIdeal.sig) → Buf (Elt Ideal) ℓ) (g' : Dev Cert.NormLRefIdeal.nD → PrngReg), Pre_NormLIdeal m →
    (∀ c : Dev Cert.NormLIdeal.nD,
      m' ((c.tc : Thread Cert.NormLRefIdeal.nD Cert.NormLRefIdeal.τ).loc Cert.NormLRefIdeal.main_arg0) = m ((c.tc : Thread Cert.NormLIdeal.nD Cert.NormLIdeal.τ).loc Cert.NormLIdeal.main_arg0)
      ∧ m' ((c.tc : Thread Cert.NormLRefIdeal.nD Cert.NormLRefIdeal.τ).loc Cert.NormLRefIdeal.main_arg1) = m ((c.tc : Thread Cert.NormLIdeal.nD Cert.NormLIdeal.τ).loc Cert.NormLIdeal.main_arg1)) →
    ∃ (v0 : (c : Dev Cert.NormLIdeal.nD) → Buf (Elt Ideal) ((c.tc : Thread Cert.NormLIdeal.nD Cert.NormLIdeal.τ).loc Cert.NormLIdeal.main_v1)),
      θ_run (Cert.NormLIdeal.defs (F := Ideal)) (onTc (τ := Cert.NormLIdeal.τ) (Cert.NormLIdeal.main (F := Ideal))) ⟨m, fun _ => 0, g⟩ (fun r => ∀ c : Dev Cert.NormLIdeal.nD,
          r.2.mem ((c.tc : Thread Cert.NormLIdeal.nD Cert.NormLIdeal.τ).loc Cert.NormLIdeal.main_v1) = v0 c
          ∧ r.2.mem ((c.tc : Thread Cert.NormLIdeal.nD Cert.NormLIdeal.τ).loc Cert.NormLIdeal.main_arg0) = m ((c.tc : Thread Cert.NormLIdeal.nD Cert.NormLIdeal.τ).loc Cert.NormLIdeal.main_arg0)
          ∧ r.2.mem ((c.tc : Thread Cert.NormLIdeal.nD Cert.NormLIdeal.τ).loc Cert.NormLIdeal.main_arg1) = m ((c.tc : Thread Cert.NormLIdeal.nD Cert.NormLIdeal.τ).loc Cert.NormLIdeal.main_arg1))
      ∧ θ_run (Cert.NormLRefIdeal.defs (F := Ideal)) (onTc (τ := Cert.NormLRefIdeal.τ) (Cert.NormLRefIdeal.main (F := Ideal))) ⟨m', fun _ => 0, g'⟩ (fun r => ∀ c : Dev Cert.NormLRefIdeal.nD,
          r.2.mem ((c.tc : Thread Cert.NormLRefIdeal.nD Cert.NormLRefIdeal.τ).loc Cert.NormLRefIdeal.main_v13) = v0 c
          ∧ r.2.mem ((c.tc : Thread Cert.NormLRefIdeal.nD Cert.NormLRefIdeal.τ).loc Cert.NormLRefIdeal.main_arg0) = m' ((c.tc : Thread Cert.NormLRefIdeal.nD Cert.NormLRefIdeal.τ).loc Cert.NormLRefIdeal.main_arg0)
          ∧ r.2.mem ((c.tc : Thread Cert.NormLRefIdeal.nD Cert.NormLRefIdeal.τ).loc Cert.NormLRefIdeal.main_arg1) = m' ((c.tc : Thread Cert.NormLRefIdeal.nD Cert.NormLRefIdeal.τ).loc Cert.NormLRefIdeal.main_arg1))

def preserves_NormLB_NormLBIdeal : Prop :=
  True

def algebraic_NormLBIdeal_NormLBRefIdeal [hNormLBIdeal : Cert.NormLBIdeal.Facts] [hNormLBRefIdeal : Cert.NormLBRefIdeal.Facts] : Prop :=
  ∀ (m : (ℓ : Loc Cert.NormLBIdeal.nD Cert.NormLBIdeal.τ Cert.NormLBIdeal.sig) → Buf (Elt Ideal) ℓ) (g : Dev Cert.NormLBIdeal.nD → PrngReg)
    (m' : (ℓ : Loc Cert.NormLBRefIdeal.nD Cert.NormLBRefIdeal.τ Cert.NormLBRefIdeal.sig) → Buf (Elt Ideal) ℓ) (g' : Dev Cert.NormLBRefIdeal.nD → PrngReg), Pre_NormLBIdeal m →
    (∀ c : Dev Cert.NormLBIdeal.nD,
      m' ((c.tc : Thread Cert.NormLBRefIdeal.nD Cert.NormLBRefIdeal.τ).loc Cert.NormLBRefIdeal.main_arg0) = m ((c.tc : Thread Cert.NormLBIdeal.nD Cert.NormLBIdeal.τ).loc Cert.NormLBIdeal.main_arg0)
      ∧ m' ((c.tc : Thread Cert.NormLBRefIdeal.nD Cert.NormLBRefIdeal.τ).loc Cert.NormLBRefIdeal.main_arg1) = m ((c.tc : Thread Cert.NormLBIdeal.nD Cert.NormLBIdeal.τ).loc Cert.NormLBIdeal.main_arg1)
      ∧ m' ((c.tc : Thread Cert.NormLBRefIdeal.nD Cert.NormLBRefIdeal.τ).loc Cert.NormLBRefIdeal.main_arg2) = m ((c.tc : Thread Cert.NormLBIdeal.nD Cert.NormLBIdeal.τ).loc Cert.NormLBIdeal.main_arg2)) →
    ∃ (v0 : (c : Dev Cert.NormLBIdeal.nD) → Buf (Elt Ideal) ((c.tc : Thread Cert.NormLBIdeal.nD Cert.NormLBIdeal.τ).loc Cert.NormLBIdeal.main_v1_0)) (v1 : (c : Dev Cert.NormLBIdeal.nD) → Buf (Elt Ideal) ((c.tc : Thread Cert.NormLBIdeal.nD Cert.NormLBIdeal.τ).loc Cert.NormLBIdeal.main_v1_1)),
      θ_run (Cert.NormLBIdeal.defs (F := Ideal)) (onTc (τ := Cert.NormLBIdeal.τ) (Cert.NormLBIdeal.main (F := Ideal))) ⟨m, fun _ => 0, g⟩ (fun r => ∀ c : Dev Cert.NormLBIdeal.nD,
          r.2.mem ((c.tc : Thread Cert.NormLBIdeal.nD Cert.NormLBIdeal.τ).loc Cert.NormLBIdeal.main_v1_0) = v0 c
          ∧ r.2.mem ((c.tc : Thread Cert.NormLBIdeal.nD Cert.NormLBIdeal.τ).loc Cert.NormLBIdeal.main_v1_1) = v1 c
          ∧ r.2.mem ((c.tc : Thread Cert.NormLBIdeal.nD Cert.NormLBIdeal.τ).loc Cert.NormLBIdeal.main_arg0) = m ((c.tc : Thread Cert.NormLBIdeal.nD Cert.NormLBIdeal.τ).loc Cert.NormLBIdeal.main_arg0)
          ∧ r.2.mem ((c.tc : Thread Cert.NormLBIdeal.nD Cert.NormLBIdeal.τ).loc Cert.NormLBIdeal.main_arg1) = m ((c.tc : Thread Cert.NormLBIdeal.nD Cert.NormLBIdeal.τ).loc Cert.NormLBIdeal.main_arg1)
          ∧ r.2.mem ((c.tc : Thread Cert.NormLBIdeal.nD Cert.NormLBIdeal.τ).loc Cert.NormLBIdeal.main_arg2) = m ((c.tc : Thread Cert.NormLBIdeal.nD Cert.NormLBIdeal.τ).loc Cert.NormLBIdeal.main_arg2))
      ∧ θ_run (Cert.NormLBRefIdeal.defs (F := Ideal)) (onTc (τ := Cert.NormLBRefIdeal.τ) (Cert.NormLBRefIdeal.main (F := Ideal))) ⟨m', fun _ => 0, g'⟩ (fun r => ∀ c : Dev Cert.NormLBRefIdeal.nD,
          r.2.mem ((c.tc : Thread Cert.NormLBRefIdeal.nD Cert.NormLBRefIdeal.τ).loc Cert.NormLBRefIdeal.main_v37) = v0 c
          ∧ r.2.mem ((c.tc : Thread Cert.NormLBRefIdeal.nD Cert.NormLBRefIdeal.τ).loc Cert.NormLBRefIdeal.main_v38) = v1 c
          ∧ r.2.mem ((c.tc : Thread Cert.NormLBRefIdeal.nD Cert.NormLBRefIdeal.τ).loc Cert.NormLBRefIdeal.main_arg0) = m' ((c.tc : Thread Cert.NormLBRefIdeal.nD Cert.NormLBRefIdeal.τ).loc Cert.NormLBRefIdeal.main_arg0)
          ∧ r.2.mem ((c.tc : Thread Cert.NormLBRefIdeal.nD Cert.NormLBRefIdeal.τ).loc Cert.NormLBRefIdeal.main_arg1) = m' ((c.tc : Thread Cert.NormLBRefIdeal.nD Cert.NormLBRefIdeal.τ).loc Cert.NormLBRefIdeal.main_arg1)
          ∧ r.2.mem ((c.tc : Thread Cert.NormLBRefIdeal.nD Cert.NormLBRefIdeal.τ).loc Cert.NormLBRefIdeal.main_arg2) = m' ((c.tc : Thread Cert.NormLBRefIdeal.nD Cert.NormLBRefIdeal.τ).loc Cert.NormLBRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_NormG_NormGIdeal : Prop :=
  True

def algebraic_NormGIdeal_NormGRefIdeal [hNormGIdeal : Cert.NormGIdeal.Facts] [hNormGRefIdeal : Cert.NormGRefIdeal.Facts] : Prop :=
  ∀ (m : (ℓ : Loc Cert.NormGIdeal.nD Cert.NormGIdeal.τ Cert.NormGIdeal.sig) → Buf (Elt Ideal) ℓ) (g : Dev Cert.NormGIdeal.nD → PrngReg)
    (m' : (ℓ : Loc Cert.NormGRefIdeal.nD Cert.NormGRefIdeal.τ Cert.NormGRefIdeal.sig) → Buf (Elt Ideal) ℓ) (g' : Dev Cert.NormGRefIdeal.nD → PrngReg), Pre_NormGIdeal m →
    (∀ c : Dev Cert.NormGIdeal.nD,
      m' ((c.tc : Thread Cert.NormGRefIdeal.nD Cert.NormGRefIdeal.τ).loc Cert.NormGRefIdeal.main_arg0) = m ((c.tc : Thread Cert.NormGIdeal.nD Cert.NormGIdeal.τ).loc Cert.NormGIdeal.main_arg0)
      ∧ m' ((c.tc : Thread Cert.NormGRefIdeal.nD Cert.NormGRefIdeal.τ).loc Cert.NormGRefIdeal.main_arg1) = m ((c.tc : Thread Cert.NormGIdeal.nD Cert.NormGIdeal.τ).loc Cert.NormGIdeal.main_arg1)) →
    ∃ (v0 : (c : Dev Cert.NormGIdeal.nD) → Buf (Elt Ideal) ((c.tc : Thread Cert.NormGIdeal.nD Cert.NormGIdeal.τ).loc Cert.NormGIdeal.main_v1)),
      θ_run (Cert.NormGIdeal.defs (F := Ideal)) (onTc (τ := Cert.NormGIdeal.τ) (Cert.NormGIdeal.main (F := Ideal))) ⟨m, fun _ => 0, g⟩ (fun r => ∀ c : Dev Cert.NormGIdeal.nD,
          r.2.mem ((c.tc : Thread Cert.NormGIdeal.nD Cert.NormGIdeal.τ).loc Cert.NormGIdeal.main_v1) = v0 c
          ∧ r.2.mem ((c.tc : Thread Cert.NormGIdeal.nD Cert.NormGIdeal.τ).loc Cert.NormGIdeal.main_arg0) = m ((c.tc : Thread Cert.NormGIdeal.nD Cert.NormGIdeal.τ).loc Cert.NormGIdeal.main_arg0)
          ∧ r.2.mem ((c.tc : Thread Cert.NormGIdeal.nD Cert.NormGIdeal.τ).loc Cert.NormGIdeal.main_arg1) = m ((c.tc : Thread Cert.NormGIdeal.nD Cert.NormGIdeal.τ).loc Cert.NormGIdeal.main_arg1))
      ∧ θ_run (Cert.NormGRefIdeal.defs (F := Ideal)) (onTc (τ := Cert.NormGRefIdeal.τ) (Cert.NormGRefIdeal.main (F := Ideal))) ⟨m', fun _ => 0, g'⟩ (fun r => ∀ c : Dev Cert.NormGRefIdeal.nD,
          r.2.mem ((c.tc : Thread Cert.NormGRefIdeal.nD Cert.NormGRefIdeal.τ).loc Cert.NormGRefIdeal.main_v17) = v0 c
          ∧ r.2.mem ((c.tc : Thread Cert.NormGRefIdeal.nD Cert.NormGRefIdeal.τ).loc Cert.NormGRefIdeal.main_arg0) = m' ((c.tc : Thread Cert.NormGRefIdeal.nD Cert.NormGRefIdeal.τ).loc Cert.NormGRefIdeal.main_arg0)
          ∧ r.2.mem ((c.tc : Thread Cert.NormGRefIdeal.nD Cert.NormGRefIdeal.τ).loc Cert.NormGRefIdeal.main_arg1) = m' ((c.tc : Thread Cert.NormGRefIdeal.nD Cert.NormGRefIdeal.τ).loc Cert.NormGRefIdeal.main_arg1))

def preserves_NormGB_NormGBIdeal : Prop :=
  True

def algebraic_NormGBIdeal_NormGBRefIdeal [hNormGBIdeal : Cert.NormGBIdeal.Facts] [hNormGBRefIdeal : Cert.NormGBRefIdeal.Facts] : Prop :=
  ∀ (m : (ℓ : Loc Cert.NormGBIdeal.nD Cert.NormGBIdeal.τ Cert.NormGBIdeal.sig) → Buf (Elt Ideal) ℓ) (g : Dev Cert.NormGBIdeal.nD → PrngReg)
    (m' : (ℓ : Loc Cert.NormGBRefIdeal.nD Cert.NormGBRefIdeal.τ Cert.NormGBRefIdeal.sig) → Buf (Elt Ideal) ℓ) (g' : Dev Cert.NormGBRefIdeal.nD → PrngReg), Pre_NormGBIdeal m →
    (∀ c : Dev Cert.NormGBIdeal.nD,
      m' ((c.tc : Thread Cert.NormGBRefIdeal.nD Cert.NormGBRefIdeal.τ).loc Cert.NormGBRefIdeal.main_arg0) = m ((c.tc : Thread Cert.NormGBIdeal.nD Cert.NormGBIdeal.τ).loc Cert.NormGBIdeal.main_arg0)
      ∧ m' ((c.tc : Thread Cert.NormGBRefIdeal.nD Cert.NormGBRefIdeal.τ).loc Cert.NormGBRefIdeal.main_arg1) = m ((c.tc : Thread Cert.NormGBIdeal.nD Cert.NormGBIdeal.τ).loc Cert.NormGBIdeal.main_arg1)
      ∧ m' ((c.tc : Thread Cert.NormGBRefIdeal.nD Cert.NormGBRefIdeal.τ).loc Cert.NormGBRefIdeal.main_arg2) = m ((c.tc : Thread Cert.NormGBIdeal.nD Cert.NormGBIdeal.τ).loc Cert.NormGBIdeal.main_arg2)) →
    ∃ (v0 : (c : Dev Cert.NormGBIdeal.nD) → Buf (Elt Ideal) ((c.tc : Thread Cert.NormGBIdeal.nD Cert.NormGBIdeal.τ).loc Cert.NormGBIdeal.main_v1_0)) (v1 : (c : Dev Cert.NormGBIdeal.nD) → Buf (Elt Ideal) ((c.tc : Thread Cert.NormGBIdeal.nD Cert.NormGBIdeal.τ).loc Cert.NormGBIdeal.main_v1_1)),
      θ_run (Cert.NormGBIdeal.defs (F := Ideal)) (onTc (τ := Cert.NormGBIdeal.τ) (Cert.NormGBIdeal.main (F := Ideal))) ⟨m, fun _ => 0, g⟩ (fun r => ∀ c : Dev Cert.NormGBIdeal.nD,
          r.2.mem ((c.tc : Thread Cert.NormGBIdeal.nD Cert.NormGBIdeal.τ).loc Cert.NormGBIdeal.main_v1_0) = v0 c
          ∧ r.2.mem ((c.tc : Thread Cert.NormGBIdeal.nD Cert.NormGBIdeal.τ).loc Cert.NormGBIdeal.main_v1_1) = v1 c
          ∧ r.2.mem ((c.tc : Thread Cert.NormGBIdeal.nD Cert.NormGBIdeal.τ).loc Cert.NormGBIdeal.main_arg0) = m ((c.tc : Thread Cert.NormGBIdeal.nD Cert.NormGBIdeal.τ).loc Cert.NormGBIdeal.main_arg0)
          ∧ r.2.mem ((c.tc : Thread Cert.NormGBIdeal.nD Cert.NormGBIdeal.τ).loc Cert.NormGBIdeal.main_arg1) = m ((c.tc : Thread Cert.NormGBIdeal.nD Cert.NormGBIdeal.τ).loc Cert.NormGBIdeal.main_arg1)
          ∧ r.2.mem ((c.tc : Thread Cert.NormGBIdeal.nD Cert.NormGBIdeal.τ).loc Cert.NormGBIdeal.main_arg2) = m ((c.tc : Thread Cert.NormGBIdeal.nD Cert.NormGBIdeal.τ).loc Cert.NormGBIdeal.main_arg2))
      ∧ θ_run (Cert.NormGBRefIdeal.defs (F := Ideal)) (onTc (τ := Cert.NormGBRefIdeal.τ) (Cert.NormGBRefIdeal.main (F := Ideal))) ⟨m', fun _ => 0, g'⟩ (fun r => ∀ c : Dev Cert.NormGBRefIdeal.nD,
          r.2.mem ((c.tc : Thread Cert.NormGBRefIdeal.nD Cert.NormGBRefIdeal.τ).loc Cert.NormGBRefIdeal.main_v45) = v0 c
          ∧ r.2.mem ((c.tc : Thread Cert.NormGBRefIdeal.nD Cert.NormGBRefIdeal.τ).loc Cert.NormGBRefIdeal.main_v46) = v1 c
          ∧ r.2.mem ((c.tc : Thread Cert.NormGBRefIdeal.nD Cert.NormGBRefIdeal.τ).loc Cert.NormGBRefIdeal.main_arg0) = m' ((c.tc : Thread Cert.NormGBRefIdeal.nD Cert.NormGBRefIdeal.τ).loc Cert.NormGBRefIdeal.main_arg0)
          ∧ r.2.mem ((c.tc : Thread Cert.NormGBRefIdeal.nD Cert.NormGBRefIdeal.τ).loc Cert.NormGBRefIdeal.main_arg1) = m' ((c.tc : Thread Cert.NormGBRefIdeal.nD Cert.NormGBRefIdeal.τ).loc Cert.NormGBRefIdeal.main_arg1)
          ∧ r.2.mem ((c.tc : Thread Cert.NormGBRefIdeal.nD Cert.NormGBRefIdeal.τ).loc Cert.NormGBRefIdeal.main_arg2) = m' ((c.tc : Thread Cert.NormGBRefIdeal.nD Cert.NormGBRefIdeal.τ).loc Cert.NormGBRefIdeal.main_arg2))

def Claim : Prop :=
  ∃ (hKernel : Cert.Kernel.Facts) (hKernelIdeal : Cert.KernelIdeal.Facts) (hReferenceIdeal : Cert.ReferenceIdeal.Facts) (hFwd : Cert.Fwd.Facts) (hFwdIdeal : Cert.FwdIdeal.Facts) (hFwdRefIdeal : Cert.FwdRefIdeal.Facts) (hGate : Cert.Gate.Facts) (hGateIdeal : Cert.GateIdeal.Facts) (hGateRefIdeal : Cert.GateRefIdeal.Facts) (hGateDa : Cert.GateDa.Facts) (hGateDaIdeal : Cert.GateDaIdeal.Facts) (hGateDaRefIdeal : Cert.GateDaRefIdeal.Facts) (hGateDw : Cert.GateDw.Facts) (hGateDwIdeal : Cert.GateDwIdeal.Facts) (hGateDwRefIdeal : Cert.GateDwRefIdeal.Facts) (hIn : Cert.In.Facts) (hInIdeal : Cert.InIdeal.Facts) (hInRefIdeal : Cert.InRefIdeal.Facts) (hInDa : Cert.InDa.Facts) (hInDaIdeal : Cert.InDaIdeal.Facts) (hInDaRefIdeal : Cert.InDaRefIdeal.Facts) (hInDw : Cert.InDw.Facts) (hInDwIdeal : Cert.InDwIdeal.Facts) (hInDwRefIdeal : Cert.InDwRefIdeal.Facts) (hLat : Cert.Lat.Facts) (hLatIdeal : Cert.LatIdeal.Facts) (hLatRefIdeal : Cert.LatRefIdeal.Facts) (hLatDa : Cert.LatDa.Facts) (hLatDaIdeal : Cert.LatDaIdeal.Facts) (hLatDaRefIdeal : Cert.LatDaRefIdeal.Facts) (hLatDw : Cert.LatDw.Facts) (hLatDwIdeal : Cert.LatDwIdeal.Facts) (hLatDwRefIdeal : Cert.LatDwRefIdeal.Facts) (hDown : Cert.Down.Facts) (hDownIdeal : Cert.DownIdeal.Facts) (hDownRefIdeal : Cert.DownRefIdeal.Facts) (hDownDa : Cert.DownDa.Facts) (hDownDaIdeal : Cert.DownDaIdeal.Facts) (hDownDaRefIdeal : Cert.DownDaRefIdeal.Facts) (hDownDw : Cert.DownDw.Facts) (hDownDwIdeal : Cert.DownDwIdeal.Facts) (hDownDwRefIdeal : Cert.DownDwRefIdeal.Facts) (hOut : Cert.Out.Facts) (hOutIdeal : Cert.OutIdeal.Facts) (hOutRefIdeal : Cert.OutRefIdeal.Facts) (hOutDa : Cert.OutDa.Facts) (hOutDaIdeal : Cert.OutDaIdeal.Facts) (hOutDaRefIdeal : Cert.OutDaRefIdeal.Facts) (hOutDw : Cert.OutDw.Facts) (hOutDwIdeal : Cert.OutDwIdeal.Facts) (hOutDwRefIdeal : Cert.OutDwRefIdeal.Facts) (hSwiglu : Cert.Swiglu.Facts) (hSwigluIdeal : Cert.SwigluIdeal.Facts) (hSwigluRefIdeal : Cert.SwigluRefIdeal.Facts) (hSwigluB : Cert.SwigluB.Facts) (hSwigluBIdeal : Cert.SwigluBIdeal.Facts) (hSwigluBRefIdeal : Cert.SwigluBRefIdeal.Facts) (hAdamIn : Cert.AdamIn.Facts) (hAdamInIdeal : Cert.AdamInIdeal.Facts) (hAdamInRefIdeal : Cert.AdamInRefIdeal.Facts) (hAdamUq : Cert.AdamUq.Facts) (hAdamUqIdeal : Cert.AdamUqIdeal.Facts) (hAdamUqRefIdeal : Cert.AdamUqRefIdeal.Facts) (hAdamUkv : Cert.AdamUkv.Facts) (hAdamUkvIdeal : Cert.AdamUkvIdeal.Facts) (hAdamUkvRefIdeal : Cert.AdamUkvRefIdeal.Facts) (hAdamOut : Cert.AdamOut.Facts) (hAdamOutIdeal : Cert.AdamOutIdeal.Facts) (hAdamOutRefIdeal : Cert.AdamOutRefIdeal.Facts) (hAdamGate : Cert.AdamGate.Facts) (hAdamGateIdeal : Cert.AdamGateIdeal.Facts) (hAdamGateRefIdeal : Cert.AdamGateRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hSumIn : Cert.SumIn.Facts) (hSumInIdeal : Cert.SumInIdeal.Facts) (hSumInRefIdeal : Cert.SumInRefIdeal.Facts) (hSumUq : Cert.SumUq.Facts) (hSumUqIdeal : Cert.SumUqIdeal.Facts) (hSumUqRefIdeal : Cert.SumUqRefIdeal.Facts) (hSumOut : Cert.SumOut.Facts) (hSumOutIdeal : Cert.SumOutIdeal.Facts) (hSumOutRefIdeal : Cert.SumOutRefIdeal.Facts) (hSumGate : Cert.SumGate.Facts) (hSumGateIdeal : Cert.SumGateIdeal.Facts) (hSumGateRefIdeal : Cert.SumGateRefIdeal.Facts) (hSumDown : Cert.SumDown.Facts) (hSumDownIdeal : Cert.SumDownIdeal.Facts) (hSumDownRefIdeal : Cert.SumDownRefIdeal.Facts) (hSumSmall : Cert.SumSmall.Facts) (hSumSmallIdeal : Cert.SumSmallIdeal.Facts) (hSumSmallRefIdeal : Cert.SumSmallRefIdeal.Facts) (hNorm : Cert.Norm.Facts) (hNormIdeal : Cert.NormIdeal.Facts) (hNormRefIdeal : Cert.NormRefIdeal.Facts) (hNormB : Cert.NormB.Facts) (hNormBIdeal : Cert.NormBIdeal.Facts) (hNormBRefIdeal : Cert.NormBRefIdeal.Facts) (hNormL : Cert.NormL.Facts) (hNormLIdeal : Cert.NormLIdeal.Facts) (hNormLRefIdeal : Cert.NormLRefIdeal.Facts) (hNormLB : Cert.NormLB.Facts) (hNormLBIdeal : Cert.NormLBIdeal.Facts) (hNormLBRefIdeal : Cert.NormLBRefIdeal.Facts) (hLoss : Cert.Loss.Facts) (hLossIdeal : Cert.LossIdeal.Facts) (hLossRefIdeal : Cert.LossRefIdeal.Facts) (hNormG : Cert.NormG.Facts) (hNormGIdeal : Cert.NormGIdeal.Facts) (hNormGRefIdeal : Cert.NormGRefIdeal.Facts) (hNormGB : Cert.NormGB.Facts) (hNormGBIdeal : Cert.NormGBIdeal.Facts) (hNormGBRefIdeal : Cert.NormGBRefIdeal.Facts) (hPre_finite : Cert.Pre_finite.Facts) (hPre_finite_fwd : Cert.Pre_finite_fwd.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_FwdRefIdeal (hFwdRefIdeal := hFwdRefIdeal)
    ∧ quiescent_FwdRefIdeal_pre_finite_fwd (hFwdRefIdeal := hFwdRefIdeal) (hPre_finite_fwd := hPre_finite_fwd)
    ∧ quiescent_Gate (hGate := hGate)
    ∧ quiescent_GateIdeal (hGateIdeal := hGateIdeal)
    ∧ quiescent_GateRefIdeal (hGateRefIdeal := hGateRefIdeal)
    ∧ quiescent_GateDa (hGateDa := hGateDa)
    ∧ quiescent_GateDaIdeal (hGateDaIdeal := hGateDaIdeal)
    ∧ quiescent_GateDaRefIdeal (hGateDaRefIdeal := hGateDaRefIdeal)
    ∧ quiescent_GateDw (hGateDw := hGateDw)
    ∧ quiescent_GateDwIdeal (hGateDwIdeal := hGateDwIdeal)
    ∧ quiescent_GateDwRefIdeal (hGateDwRefIdeal := hGateDwRefIdeal)
    ∧ quiescent_In (hIn := hIn)
    ∧ quiescent_InIdeal (hInIdeal := hInIdeal)
    ∧ quiescent_InRefIdeal (hInRefIdeal := hInRefIdeal)
    ∧ quiescent_InDa (hInDa := hInDa)
    ∧ quiescent_InDaIdeal (hInDaIdeal := hInDaIdeal)
    ∧ quiescent_InDaRefIdeal (hInDaRefIdeal := hInDaRefIdeal)
    ∧ quiescent_InDw (hInDw := hInDw)
    ∧ quiescent_InDwIdeal (hInDwIdeal := hInDwIdeal)
    ∧ quiescent_InDwRefIdeal (hInDwRefIdeal := hInDwRefIdeal)
    ∧ quiescent_Lat (hLat := hLat)
    ∧ quiescent_LatIdeal (hLatIdeal := hLatIdeal)
    ∧ quiescent_LatRefIdeal (hLatRefIdeal := hLatRefIdeal)
    ∧ quiescent_LatDa (hLatDa := hLatDa)
    ∧ quiescent_LatDaIdeal (hLatDaIdeal := hLatDaIdeal)
    ∧ quiescent_LatDaRefIdeal (hLatDaRefIdeal := hLatDaRefIdeal)
    ∧ quiescent_LatDw (hLatDw := hLatDw)
    ∧ quiescent_LatDwIdeal (hLatDwIdeal := hLatDwIdeal)
    ∧ quiescent_LatDwRefIdeal (hLatDwRefIdeal := hLatDwRefIdeal)
    ∧ quiescent_Down (hDown := hDown)
    ∧ quiescent_DownIdeal (hDownIdeal := hDownIdeal)
    ∧ quiescent_DownRefIdeal (hDownRefIdeal := hDownRefIdeal)
    ∧ quiescent_DownDa (hDownDa := hDownDa)
    ∧ quiescent_DownDaIdeal (hDownDaIdeal := hDownDaIdeal)
    ∧ quiescent_DownDaRefIdeal (hDownDaRefIdeal := hDownDaRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_Out (hOut := hOut)
    ∧ quiescent_OutIdeal (hOutIdeal := hOutIdeal)
    ∧ quiescent_OutRefIdeal (hOutRefIdeal := hOutRefIdeal)
    ∧ quiescent_OutDa (hOutDa := hOutDa)
    ∧ quiescent_OutDaIdeal (hOutDaIdeal := hOutDaIdeal)
    ∧ quiescent_OutDaRefIdeal (hOutDaRefIdeal := hOutDaRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_SwigluB (hSwigluB := hSwigluB)
    ∧ quiescent_SwigluBIdeal (hSwigluBIdeal := hSwigluBIdeal)
    ∧ quiescent_SwigluBIdeal_pre_finite_gate (hSwigluBIdeal := hSwigluBIdeal) (hPre_finite_gate := hPre_finite_gate)
    ∧ quiescent_SwigluBRefIdeal (hSwigluBRefIdeal := hSwigluBRefIdeal)
    ∧ quiescent_SwigluBRefIdeal_pre_finite_gate (hSwigluBRefIdeal := hSwigluBRefIdeal) (hPre_finite_gate := hPre_finite_gate)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamUq (hAdamUq := hAdamUq)
    ∧ quiescent_AdamUqIdeal (hAdamUqIdeal := hAdamUqIdeal)
    ∧ quiescent_AdamUqRefIdeal (hAdamUqRefIdeal := hAdamUqRefIdeal)
    ∧ quiescent_AdamUkv (hAdamUkv := hAdamUkv)
    ∧ quiescent_AdamUkvIdeal (hAdamUkvIdeal := hAdamUkvIdeal)
    ∧ quiescent_AdamUkvRefIdeal (hAdamUkvRefIdeal := hAdamUkvRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumUq (hSumUq := hSumUq)
    ∧ quiescent_SumUqIdeal (hSumUqIdeal := hSumUqIdeal)
    ∧ quiescent_SumUqRefIdeal (hSumUqRefIdeal := hSumUqRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumGate (hSumGate := hSumGate)
    ∧ quiescent_SumGateIdeal (hSumGateIdeal := hSumGateIdeal)
    ∧ quiescent_SumGateRefIdeal (hSumGateRefIdeal := hSumGateRefIdeal)
    ∧ quiescent_SumDown (hSumDown := hSumDown)
    ∧ quiescent_SumDownIdeal (hSumDownIdeal := hSumDownIdeal)
    ∧ quiescent_SumDownRefIdeal (hSumDownRefIdeal := hSumDownRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_Norm (hNorm := hNorm)
    ∧ quiescent_NormIdeal (hNormIdeal := hNormIdeal)
    ∧ quiescent_NormRefIdeal (hNormRefIdeal := hNormRefIdeal)
    ∧ quiescent_NormB (hNormB := hNormB)
    ∧ quiescent_NormBIdeal (hNormBIdeal := hNormBIdeal)
    ∧ quiescent_NormBRefIdeal (hNormBRefIdeal := hNormBRefIdeal)
    ∧ quiescent_NormL (hNormL := hNormL)
    ∧ quiescent_NormLIdeal (hNormLIdeal := hNormLIdeal)
    ∧ quiescent_NormLRefIdeal (hNormLRefIdeal := hNormLRefIdeal)
    ∧ quiescent_NormLB (hNormLB := hNormLB)
    ∧ quiescent_NormLBIdeal (hNormLBIdeal := hNormLBIdeal)
    ∧ quiescent_NormLBRefIdeal (hNormLBRefIdeal := hNormLBRefIdeal)
    ∧ quiescent_Loss (hLoss := hLoss)
    ∧ quiescent_LossIdeal (hLossIdeal := hLossIdeal)
    ∧ quiescent_LossRefIdeal (hLossRefIdeal := hLossRefIdeal)
    ∧ quiescent_NormG (hNormG := hNormG)
    ∧ quiescent_NormGIdeal (hNormGIdeal := hNormGIdeal)
    ∧ quiescent_NormGRefIdeal (hNormGRefIdeal := hNormGRefIdeal)
    ∧ quiescent_NormGB (hNormGB := hNormGB)
    ∧ quiescent_NormGBIdeal (hNormGBIdeal := hNormGBIdeal)
    ∧ quiescent_NormGBRefIdeal (hNormGBRefIdeal := hNormGBRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Fwd_FwdIdeal
    ∧ algebraic_FwdIdeal_FwdRefIdeal_pre_finite_fwd (hFwdIdeal := hFwdIdeal) (hFwdRefIdeal := hFwdRefIdeal) (hPre_finite_fwd := hPre_finite_fwd)
    ∧ preserves_Gate_GateIdeal
    ∧ algebraic_GateIdeal_GateRefIdeal (hGateIdeal := hGateIdeal) (hGateRefIdeal := hGateRefIdeal)
    ∧ preserves_GateDa_GateDaIdeal
    ∧ algebraic_GateDaIdeal_GateDaRefIdeal (hGateDaIdeal := hGateDaIdeal) (hGateDaRefIdeal := hGateDaRefIdeal)
    ∧ preserves_GateDw_GateDwIdeal
    ∧ algebraic_GateDwIdeal_GateDwRefIdeal (hGateDwIdeal := hGateDwIdeal) (hGateDwRefIdeal := hGateDwRefIdeal)
    ∧ preserves_In_InIdeal
    ∧ algebraic_InIdeal_InRefIdeal (hInIdeal := hInIdeal) (hInRefIdeal := hInRefIdeal)
    ∧ preserves_InDa_InDaIdeal
    ∧ algebraic_InDaIdeal_InDaRefIdeal (hInDaIdeal := hInDaIdeal) (hInDaRefIdeal := hInDaRefIdeal)
    ∧ preserves_InDw_InDwIdeal
    ∧ algebraic_InDwIdeal_InDwRefIdeal (hInDwIdeal := hInDwIdeal) (hInDwRefIdeal := hInDwRefIdeal)
    ∧ preserves_Lat_LatIdeal
    ∧ algebraic_LatIdeal_LatRefIdeal (hLatIdeal := hLatIdeal) (hLatRefIdeal := hLatRefIdeal)
    ∧ preserves_LatDa_LatDaIdeal
    ∧ algebraic_LatDaIdeal_LatDaRefIdeal (hLatDaIdeal := hLatDaIdeal) (hLatDaRefIdeal := hLatDaRefIdeal)
    ∧ preserves_LatDw_LatDwIdeal
    ∧ algebraic_LatDwIdeal_LatDwRefIdeal (hLatDwIdeal := hLatDwIdeal) (hLatDwRefIdeal := hLatDwRefIdeal)
    ∧ preserves_Down_DownIdeal
    ∧ algebraic_DownIdeal_DownRefIdeal (hDownIdeal := hDownIdeal) (hDownRefIdeal := hDownRefIdeal)
    ∧ preserves_DownDa_DownDaIdeal
    ∧ algebraic_DownDaIdeal_DownDaRefIdeal (hDownDaIdeal := hDownDaIdeal) (hDownDaRefIdeal := hDownDaRefIdeal)
    ∧ preserves_DownDw_DownDwIdeal
    ∧ algebraic_DownDwIdeal_DownDwRefIdeal (hDownDwIdeal := hDownDwIdeal) (hDownDwRefIdeal := hDownDwRefIdeal)
    ∧ preserves_Out_OutIdeal
    ∧ algebraic_OutIdeal_OutRefIdeal (hOutIdeal := hOutIdeal) (hOutRefIdeal := hOutRefIdeal)
    ∧ preserves_OutDa_OutDaIdeal
    ∧ algebraic_OutDaIdeal_OutDaRefIdeal (hOutDaIdeal := hOutDaIdeal) (hOutDaRefIdeal := hOutDaRefIdeal)
    ∧ preserves_OutDw_OutDwIdeal
    ∧ algebraic_OutDwIdeal_OutDwRefIdeal (hOutDwIdeal := hOutDwIdeal) (hOutDwRefIdeal := hOutDwRefIdeal)
    ∧ preserves_Swiglu_SwigluIdeal
    ∧ algebraic_SwigluIdeal_SwigluRefIdeal (hSwigluIdeal := hSwigluIdeal) (hSwigluRefIdeal := hSwigluRefIdeal)
    ∧ preserves_SwigluB_SwigluBIdeal
    ∧ algebraic_SwigluBIdeal_SwigluBRefIdeal_pre_finite_gate (hSwigluBIdeal := hSwigluBIdeal) (hSwigluBRefIdeal := hSwigluBRefIdeal) (hPre_finite_gate := hPre_finite_gate)
    ∧ preserves_AdamIn_AdamInIdeal
    ∧ algebraic_AdamInIdeal_AdamInRefIdeal (hAdamInIdeal := hAdamInIdeal) (hAdamInRefIdeal := hAdamInRefIdeal)
    ∧ preserves_AdamUq_AdamUqIdeal
    ∧ algebraic_AdamUqIdeal_AdamUqRefIdeal (hAdamUqIdeal := hAdamUqIdeal) (hAdamUqRefIdeal := hAdamUqRefIdeal)
    ∧ preserves_AdamUkv_AdamUkvIdeal
    ∧ algebraic_AdamUkvIdeal_AdamUkvRefIdeal (hAdamUkvIdeal := hAdamUkvIdeal) (hAdamUkvRefIdeal := hAdamUkvRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumIn_SumInIdeal
    ∧ algebraic_SumInIdeal_SumInRefIdeal (hSumInIdeal := hSumInIdeal) (hSumInRefIdeal := hSumInRefIdeal)
    ∧ preserves_SumUq_SumUqIdeal
    ∧ algebraic_SumUqIdeal_SumUqRefIdeal (hSumUqIdeal := hSumUqIdeal) (hSumUqRefIdeal := hSumUqRefIdeal)
    ∧ preserves_SumOut_SumOutIdeal
    ∧ algebraic_SumOutIdeal_SumOutRefIdeal (hSumOutIdeal := hSumOutIdeal) (hSumOutRefIdeal := hSumOutRefIdeal)
    ∧ preserves_SumGate_SumGateIdeal
    ∧ algebraic_SumGateIdeal_SumGateRefIdeal (hSumGateIdeal := hSumGateIdeal) (hSumGateRefIdeal := hSumGateRefIdeal)
    ∧ preserves_SumDown_SumDownIdeal
    ∧ algebraic_SumDownIdeal_SumDownRefIdeal (hSumDownIdeal := hSumDownIdeal) (hSumDownRefIdeal := hSumDownRefIdeal)
    ∧ preserves_SumSmall_SumSmallIdeal
    ∧ algebraic_SumSmallIdeal_SumSmallRefIdeal (hSumSmallIdeal := hSumSmallIdeal) (hSumSmallRefIdeal := hSumSmallRefIdeal)
    ∧ preserves_Norm_NormIdeal
    ∧ algebraic_NormIdeal_NormRefIdeal (hNormIdeal := hNormIdeal) (hNormRefIdeal := hNormRefIdeal)
    ∧ preserves_NormB_NormBIdeal
    ∧ algebraic_NormBIdeal_NormBRefIdeal (hNormBIdeal := hNormBIdeal) (hNormBRefIdeal := hNormBRefIdeal)
    ∧ preserves_NormL_NormLIdeal
    ∧ algebraic_NormLIdeal_NormLRefIdeal (hNormLIdeal := hNormLIdeal) (hNormLRefIdeal := hNormLRefIdeal)
    ∧ preserves_NormLB_NormLBIdeal
    ∧ algebraic_NormLBIdeal_NormLBRefIdeal (hNormLBIdeal := hNormLBIdeal) (hNormLBRefIdeal := hNormLBRefIdeal)
    ∧ preserves_Loss_LossIdeal
    ∧ algebraic_LossIdeal_LossRefIdeal (hLossIdeal := hLossIdeal) (hLossRefIdeal := hLossRefIdeal)
    ∧ preserves_NormG_NormGIdeal
    ∧ algebraic_NormGIdeal_NormGRefIdeal (hNormGIdeal := hNormGIdeal) (hNormGRefIdeal := hNormGRefIdeal)
    ∧ preserves_NormGB_NormGBIdeal
    ∧ algebraic_NormGBIdeal_NormGBRefIdeal (hNormGBIdeal := hNormGBIdeal) (hNormGBRefIdeal := hNormGBRefIdeal)
-- ==== Pre_finite.lean ====
abbrev S4096x512 : Shape := ⟨2, ![4096, 512]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)

variable [Facts]

def fn {F : FTy → Type} [FloatOps F] (main_arg0 : FVec F S4096x512 .bf16) (main_arg1 : FVec F S4096x512 .bf16) (main_arg2 : FVec F S4096x512 .bf16) (main_arg3 : FVec F S4096x512 .bf16) : IVec S4096x512 1 × IVec S4096x512 1 × IVec S4096x512 1 × IVec S4096x512 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S4096x512 .f32 := (extf .f32 · bitsLt_bf16_f32) main_arg1
  let main_v5 : FVec F S4096x512 .f32 := Host.absf main_v4
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_v8 : FVec F S4096x512 .f32 := (extf .f32 · bitsLt_bf16_f32) main_arg2
  let main_v9 : FVec F S4096x512 .f32 := Host.absf main_v8
  let main_cst_1 : FVec F S_ .f32 := constant S_ .f32 0x7F800000#32
  let main_v10 : FVec F S4096x512 .f32 := broadcastInDim S4096x512 ![] bcast_S_S4096x512 main_cst_1
  let main_v11 : IVec S4096x512 1 := cmpf .olt main_v9 main_v10
  let main_v12 : FVec F S4096x512 .f32 := (extf .f32 · bitsLt_bf16_f32) main_arg3
  let main_v13 : FVec F S4096x512 .f32 := Host.absf main_v12
  let main_cst_2 : FVec F S_ .f32 := constant S_ .f32 0x7F800000#32
  let main_v14 : FVec F S4096x512 .f32 := broadcastInDim S4096x512 ![] bcast_S_S4096x512 main_cst_2
  let main_v15 : IVec S4096x512 1 := cmpf .olt main_v13 main_v14
  (main_v3, main_v7, main_v11, main_v15)
-- ==== Pre_finite_fwd.lean ====
abbrev S4096x512 : Shape := ⟨2, ![4096, 512]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)

variable [Facts]

def fn {F : FTy → Type} [FloatOps F] (main_arg0 : FVec F S4096x512 .bf16) (main_arg1 : FVec F S4096x512 .bf16) (main_arg2 : FVec F S4096x512 .bf16) : IVec S4096x512 1 × IVec S4096x512 1 × IVec S4096x512 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S4096x512 .f32 := (extf .f32 · bitsLt_bf16_f32) main_arg1
  let main_v5 : FVec F S4096x512 .f32 := Host.absf main_v4
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_v8 : FVec F S4096x512 .f32 := (extf .f32 · bitsLt_bf16_f32) main_arg2
  let main_v9 : FVec F S4096x512 .f32 := Host.absf main_v8
  let main_cst_1 : FVec F S_ .f32 := constant S_ .f32 0x7F800000#32
  let main_v10 : FVec F S4096x512 .f32 := broadcastInDim S4096x512 ![] bcast_S_S4096x512 main_cst_1
  let main_v11 : IVec S4096x512 1 := cmpf .olt main_v9 main_v10
  (main_v3, main_v7, main_v11)
-- ==== Pre_finite_gate.lean ====
abbrev S4096x5632 : Shape := ⟨2, ![4096, 5632]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)

variable [Facts]

def fn {F : FTy → Type} [FloatOps F] (main_arg0 : FVec F S4096x5632 .bf16) (main_arg1 : FVec F S4096x5632 .bf16) (main_arg2 : FVec F S4096x5632 .bf16) : IVec S4096x5632 1 × IVec S4096x5632 1 :=
  let main_v0 : FVec F S4096x5632 .f32 := (extf .f32 · bitsLt_bf16_f32) main_arg1
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_v4 : FVec F S4096x5632 .f32 := (extf .f32 · bitsLt_bf16_f32) main_arg2
  let main_v5 : FVec F S4096x5632 .f32 := Host.absf main_v4
  let main_cst_0 : FVec F S_ .f32 := constant S_ .f32 0x7F800000#32
  let main_v6 : FVec F S4096x5632 .f32 := broadcastInDim S4096x5632 ![] bcast_S_S4096x5632 main_cst_0
  let main_v7 : IVec S4096x5632 1 := cmpf .olt main_v5 main_v6
  (main_v3, main_v7)
-- ==== Kernel.lean ====
abbrev S4096x512 : Shape := ⟨2, ![4096, 512]⟩
abbrev S4096x4x128 : Shape := ⟨3, ![4096, 4, 128]⟩
abbrev S4x4096x128 : Shape := ⟨3, ![4, 4096, 128]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S256x128 : Shape := ⟨2, ![256, 128]⟩
abbrev S4096x128 : Shape := ⟨2, ![4096, 128]⟩
abbrev S1x256x1 : Shape := ⟨3, ![1, 256, 1]⟩
abbrev S256x256 : Shape := ⟨2, ![256, 256]⟩
abbrev S256x1 : Shape := ⟨2, ![256, 1]⟩
abbrev S256 : Shape := ⟨1, ![256]⟩

abbrev nBuf : Space → Nat
  | .hbm => 48
  | .vmem => 18
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .f32⟩
  | .hbm, ⟨5, _⟩ => ⟨S4096x4x128, .f32⟩
  | .hbm, ⟨6, _⟩ => ⟨S4x4096x128, .f32⟩
  | .hbm, ⟨7, _⟩ => ⟨S4096x512, .f32⟩
  | .hbm, ⟨8, _⟩ => ⟨S4096x4x128, .f32⟩
  | .hbm, ⟨9, _⟩ => ⟨S4x4096x128, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .i1⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S_, .f32⟩
  | .hbm, ⟨39, _⟩ => ⟨S4x4096x4096, .i1⟩
  | .hbm, ⟨40, _⟩ => ⟨S4x4096x4096, .f32⟩
  | .hbm, ⟨41, _⟩ => ⟨S4x4096x4096, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S4096x512, .bf16⟩
  | .hbm, ⟨46, _⟩ => ⟨S4096x512, .bf16⟩
  | .hbm, ⟨47, _⟩ => ⟨S4096x512, .bf16⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x256x1, .f32⟩
  | .local _ .vmem, ⟨7, _⟩ => ⟨S1x256x1, .f32⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .f32⟩
  | .local _ .vmem, ⟨17, _⟩ => ⟨S4096x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v16 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v17 : Ref sig .tc := ⟨.hbm, 41, rfl⟩
abbrev main_cst_1 : Ref sig .tc := ⟨.hbm, 42, rfl⟩
abbrev main_v18 : Ref sig .tc := ⟨.hbm, 43, rfl⟩
abbrev main_v19 : Ref sig .tc := ⟨.hbm, 44, rfl⟩
abbrev main_v20_0 : Ref sig .tc := ⟨.hbm, 45, rfl⟩
abbrev main_v20_1 : Ref sig .tc := ⟨.hbm, 46, rfl⟩
abbrev main_v20_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_22 : BitVec 32 := 0#32
  let arg1 : BitVec 32 := BitVec.ofNat 32 (i 1).val
  let c256_i32_1 : BitVec 32 := 256#32
  let v8 : BitVec 32 := Scalar.muli arg1 c256_i32_1
  let c256_i32_2 : BitVec 32 := 256#32
  let v9 : BitVec 32 := Scalar.addi v8 c256_i32_2
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c256_i32_3 : BitVec 32 := 256#32
  let c0_i32_5 : BitVec 32 := 0#32
  let v17 : BitVec 1 := Scalar.cmpi .sgt c256_i32_3 c0_i32_5
  let v18 : BitVec 32 := Scalar.extui v17
  let c0_i32_6 : BitVec 32 := 0#32
  let v19 : BitVec 1 := Scalar.cmpi .slt c256_i32_3 c0_i32_6
  let v20 : BitVec 32 := Scalar.extui v19
  let v21 : BitVec 32 := Scalar.subi v18 v20
  let v22 : BitVec 1 := Scalar.cmpi .ne v16 v21
  let v23 : BitVec 32 := Scalar.remsi v10 c256_i32_3
  let c0_i32_7 : BitVec 32 := 0#32
  let v24 : BitVec 1 := Scalar.cmpi .ne v23 c0_i32_7
  let v25 : BitVec 1 := Scalar.andi v22 v24
  let v11 : BitVec 32 := Scalar.divsi v10 c256_i32_3
  let c1_i32_8 : BitVec 32 := 1#32
  let v26 : BitVec 32 := Scalar.subi v11 c1_i32_8
  let v27 : BitVec 32 := Scalar.select v25 v26 v11
  let v47 : BitVec 32 := Scalar.subi v27 c0_i32_22
  let c1_i32_23 : BitVec 32 := 1#32
  let v49 : BitVec 32 := Scalar.divsi v47 c1_i32_23
  let v50 : BitVec 32 := Scalar.muli v49 c1_i32_23
  let v51 : BitVec 32 := Scalar.addi c0_i32_22 v50
  let c1_i32_24 : BitVec 32 := 1#32
  ⟨c0_i32_22, v51, c1_i32_24⟩
def k0_mult1 (i : grid0.Coords) (k0_t1 : Fin (k0_t1_loop i).trips) : BitVec 32 :=
  let c0_i32_22 : BitVec 32 := 0#32
  let c1_i32_24 : BitVec 32 := 1#32
  let arg12 : BitVec 32 := Scf.iv c0_i32_22 c1_i32_24 k0_t1
  let c256_i32_34 : BitVec 32 := 256#32
  let v69 : BitVec 32 := Scalar.muli arg12 c256_i32_34
  v69
def k0_off1 (i : grid0.Coords) (k0_t1 : Fin (k0_t1_loop i).trips) : Fin 2 → Nat :=
  let c0_i32_22 : BitVec 32 := 0#32
  let c1_i32_24 : BitVec 32 := 1#32
  let arg12 : BitVec 32 := Scf.iv c0_i32_22 c1_i32_24 k0_t1
  let c256_i32_34 : BitVec 32 := 256#32
  let v69 : BitVec 32 := Scalar.muli arg12 c256_i32_34
  let v70 : BitVec 32 := v69
  let v71 : Index := Scalar.indexCast v70
  let c0_35 : Index := 0#32
  ![v71.toNat, 0]
@[reducible] def k0_t2_loop (i : grid0.Coords) : Scf.Loop 32 :=
  let c0_i32_22 : BitVec 32 := 0#32
  let arg1 : BitVec 32 := BitVec.ofNat 32 (i 1).val
  let c256_i32_1 : BitVec 32 := 256#32
  let v8 : BitVec 32 := Scalar.muli arg1 c256_i32_1
  let c256_i32_2 : BitVec 32 := 256#32
  let v9 : BitVec 32 := Scalar.addi v8 c256_i32_2
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c256_i32_3 : BitVec 32 := 256#32
  let c0_i32_5 : BitVec 32 := 0#32
  let v17 : BitVec 1 := Scalar.cmpi .sgt c256_i32_3 c0_i32_5
  let v18 : BitVec 32 := Scalar.extui v17
  let c0_i32_6 : BitVec 32 := 0#32
  let v19 : BitVec 1 := Scalar.cmpi .slt c256_i32_3 c0_i32_6
  let v20 : BitVec 32 := Scalar.extui v19
  let v21 : BitVec 32 := Scalar.subi v18 v20
  let v22 : BitVec 1 := Scalar.cmpi .ne v16 v21
  let v23 : BitVec 32 := Scalar.remsi v10 c256_i32_3
  let c0_i32_7 : BitVec 32 := 0#32
  let v24 : BitVec 1 := Scalar.cmpi .ne v23 c0_i32_7
  let v25 : BitVec 1 := Scalar.andi v22 v24
  let v11 : BitVec 32 := Scalar.divsi v10 c256_i32_3
  let c1_i32_8 : BitVec 32 := 1#32
  let v26 : BitVec 32 := Scalar.subi v11 c1_i32_8
  let v27 : BitVec 32 := Scalar.select v25 v26 v11
  let v47 : BitVec 32 := Scalar.subi v27 c0_i32_22
  let c1_i32_23 : BitVec 32 := 1#32
  let v49 : BitVec 32 := Scalar.divsi v47 c1_i32_23
  let v50 : BitVec 32 := Scalar.muli v49 c1_i32_23
  let v51 : BitVec 32 := Scalar.addi c0_i32_22 v50
  let v48 : BitVec 32 := Scalar.addi c0_i32_22 v47
  let c1_i32_25 : BitVec 32 := 1#32
  ⟨v51, v48, c1_i32_25⟩
def k0_mult2 (i : grid0.Coords) (k0_t2 : Fin (k0_t2_loop i).trips) : BitVec 32 :=
  let c0_i32_22 : BitVec 32 := 0#32
  let arg1 : BitVec 32 := BitVec.ofNat 32 (i 1).val
  let c256_i32_1 : BitVec 32 := 256#32
  let v8 : BitVec 32 := Scalar.muli arg1 c256_i32_1
  let c256_i32_2 : BitVec 32 := 256#32
  let v9 : BitVec 32 := Scalar.addi v8 c256_i32_2
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c256_i32_3 : BitVec 32 := 256#32
  let c0_i32_5 : BitVec 32 := 0#32
  let v17 : BitVec 1 := Scalar.cmpi .sgt c256_i32_3 c0_i32_5
  let v18 : BitVec 32 := Scalar.extui v17
  let c0_i32_6 : BitVec 32 := 0#32
  let v19 : BitVec 1 := Scalar.cmpi .slt c256_i32_3 c0_i32_6
  let v20 : BitVec 32 := Scalar.extui v19
  let v21 : BitVec 32 := Scalar.subi v18 v20
  let v22 : BitVec 1 := Scalar.cmpi .ne v16 v21
  let v23 : BitVec 32 := Scalar.remsi v10 c256_i32_3
  let c0_i32_7 : BitVec 32 := 0#32
  let v24 : BitVec 1 := Scalar.cmpi .ne v23 c0_i32_7
  let v25 : BitVec 1 := Scalar.andi v22 v24
  let v11 : BitVec 32 := Scalar.divsi v10 c256_i32_3
  let c1_i32_8 : BitVec 32 := 1#32
  let v26 : BitVec 32 := Scalar.subi v11 c1_i32_8
  let v27 : BitVec 32 := Scalar.select v25 v26 v11
  let v47 : BitVec 32 := Scalar.subi v27 c0_i32_22
  let c1_i32_23 : BitVec 32 := 1#32
  let v49 : BitVec 32 := Scalar.divsi v47 c1_i32_23
  let v50 : BitVec 32 := Scalar.muli v49 c1_i32_23
  let v51 : BitVec 32 := Scalar.addi c0_i32_22 v50
  let c1_i32_25 : BitVec 32 := 1#32
  let arg12 : BitVec 32 := Scf.iv v51 c1_i32_25 k0_t2
  let c256_i32_34 : BitVec 32 := 256#32
  let v69 : BitVec 32 := Scalar.muli arg12 c256_i32_34
  v69
def k0_off2 (i : grid0.Coords) (k0_t2 : Fin (k0_t2_loop i).trips) : Fin 2 → Nat :=
  let c0_i32_22 : BitVec 32 := 0#32
  let arg1 : BitVec 32 := BitVec.ofNat 32 (i 1).val
  let c256_i32_1 : BitVec 32 := 256#32
  let v8 : BitVec 32 := Scalar.muli arg1 c256_i32_1
  let c256_i32_2 : BitVec 32 := 256#32
  let v9 : BitVec 32 := Scalar.addi v8 c256_i32_2
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c256_i32_3 : BitVec 32 := 256#32
  let c0_i32_5 : BitVec 32 := 0#32
  let v17 : BitVec 1 := Scalar.cmpi .sgt c256_i32_3 c0_i32_5
  let v18 : BitVec 32 := Scalar.extui v17
  let c0_i32_6 : BitVec 32 := 0#32
  let v19 : BitVec 1 := Scalar.cmpi .slt c256_i32_3 c0_i32_6
  let v20 : BitVec 32 := Scalar.extui v19
  let v21 : BitVec 32 := Scalar.subi v18 v20
  let v22 : BitVec 1 := Scalar.cmpi .ne v16 v21
  let v23 : BitVec 32 := Scalar.remsi v10 c256_i32_3
  let c0_i32_7 : BitVec 32 := 0#32
  let v24 : BitVec 1 := Scalar.cmpi .ne v23 c0_i32_7
  let v25 : BitVec 1 := Scalar.andi v22 v24
  let v11 : BitVec 32 := Scalar.divsi v10 c256_i32_3
  let c1_i32_8 : BitVec 32 := 1#32
  let v26 : BitVec 32 := Scalar.subi v11 c1_i32_8
  let v27 : BitVec 32 := Scalar.select v25 v26 v11
  let v47 : BitVec 32 := Scalar.subi v27 c0_i32_22
  let c1_i32_23 : BitVec 32 := 1#32
  let v49 : BitVec 32 := Scalar.divsi v47 c1_i32_23
  let v50 : BitVec 32 := Scalar.muli v49 c1_i32_23
  let v51 : BitVec 32 := Scalar.addi c0_i32_22 v50
  let c1_i32_25 : BitVec 32 := 1#32
  let arg12 : BitVec 32 := Scf.iv v51 c1_i32_25 k0_t2
  let c256_i32_34 : BitVec 32 := 256#32
  let v69 : BitVec 32 := Scalar.muli arg12 c256_i32_34
  let v70 : BitVec 32 := v69
  let v71 : Index := Scalar.indexCast v70
  let c0_35 : Index := 0#32
  ![v71.toNat, 0]
@[reducible] def k0_t3_loop (i : grid0.Coords) : Scf.Loop 32 :=
  let arg1 : BitVec 32 := BitVec.ofNat 32 (i 1).val
  let c256_i32_1 : BitVec 32 := 256#32
  let v8 : BitVec 32 := Scalar.muli arg1 c256_i32_1
  let c256_i32_2 : BitVec 32 := 256#32
  let v9 : BitVec 32 := Scalar.addi v8 c256_i32_2
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c256_i32_3 : BitVec 32 := 256#32
  let c0_i32_5 : BitVec 32 := 0#32
  let v17 : BitVec 1 := Scalar.cmpi .sgt c256_i32_3 c0_i32_5
  let v18 : BitVec 32 := Scalar.extui v17
  let c0_i32_6 : BitVec 32 := 0#32
  let v19 : BitVec 1 := Scalar.cmpi .slt c256_i32_3 c0_i32_6
  let v20 : BitVec 32 := Scalar.extui v19
  let v21 : BitVec 32 := Scalar.subi v18 v20
  let v22 : BitVec 1 := Scalar.cmpi .ne v16 v21
  let v23 : BitVec 32 := Scalar.remsi v10 c256_i32_3
  let c0_i32_7 : BitVec 32 := 0#32
  let v24 : BitVec 1 := Scalar.cmpi .ne v23 c0_i32_7
  let v25 : BitVec 1 := Scalar.andi v22 v24
  let v11 : BitVec 32 := Scalar.divsi v10 c256_i32_3
  let c1_i32_8 : BitVec 32 := 1#32
  let v26 : BitVec 32 := Scalar.subi v11 c1_i32_8
  let v27 : BitVec 32 := Scalar.select v25 v26 v11
  let c1_i32_26 : BitVec 32 := 1#32
  let v54 : BitVec 32 := Scalar.addi v27 c1_i32_26
  let v55 : BitVec 32 := Scalar.subi v54 v27
  let c1_i32_27 : BitVec 32 := 1#32
  let v57 : BitVec 32 := Scalar.divsi v55 c1_i32_27
  let v58 : BitVec 32 := Scalar.muli v57 c1_i32_27
  let v59 : BitVec 32 := Scalar.addi v27 v58
  let c1_i32_28 : BitVec 32 := 1#32
  ⟨v27, v59, c1_i32_28⟩
def k0_mult3 (i : grid0.Coords) (k0_t3 : Fin (k0_t3_loop i).trips) : BitVec 32 :=
  let arg1 : BitVec 32 := BitVec.ofNat 32 (i 1).val
  let c256_i32_1 : BitVec 32 := 256#32
  let v8 : BitVec 32 := Scalar.muli arg1 c256_i32_1
  let c256_i32_2 : BitVec 32 := 256#32
  let v9 : BitVec 32 := Scalar.addi v8 c256_i32_2
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c256_i32_3 : BitVec 32 := 256#32
  let c0_i32_5 : BitVec 32 := 0#32
  let v17 : BitVec 1 := Scalar.cmpi .sgt c256_i32_3 c0_i32_5
  let v18 : BitVec 32 := Scalar.extui v17
  let c0_i32_6 : BitVec 32 := 0#32
  let v19 : BitVec 1 := Scalar.cmpi .slt c256_i32_3 c0_i32_6
  let v20 : BitVec 32 := Scalar.extui v19
  let v21 : BitVec 32 := Scalar.subi v18 v20
  let v22 : BitVec 1 := Scalar.cmpi .ne v16 v21
  let v23 : BitVec 32 := Scalar.remsi v10 c256_i32_3
  let c0_i32_7 : BitVec 32 := 0#32
  let v24 : BitVec 1 := Scalar.cmpi .ne v23 c0_i32_7
  let v25 : BitVec 1 := Scalar.andi v22 v24
  let v11 : BitVec 32 := Scalar.divsi v10 c256_i32_3
  let c1_i32_8 : BitVec 32 := 1#32
  let v26 : BitVec 32 := Scalar.subi v11 c1_i32_8
  let v27 : BitVec 32 := Scalar.select v25 v26 v11
  let c1_i32_28 : BitVec 32 := 1#32
  let arg12 : BitVec 32 := Scf.iv v27 c1_i32_28 k0_t3
  let c256_i32_34 : BitVec 32 := 256#32
  let v69 : BitVec 32 := Scalar.muli arg12 c256_i32_34
  v69
def k0_off3 (i : grid0.Coords) (k0_t3 : Fin (k0_t3_loop i).trips) : Fin 2 → Nat :=
  let arg1 : BitVec 32 := BitVec.ofNat 32 (i 1).val
  let c256_i32_1 : BitVec 32 := 256#32
  let v8 : BitVec 32 := Scalar.muli arg1 c256_i32_1
  let c256_i32_2 : BitVec 32 := 256#32
  let v9 : BitVec 32 := Scalar.addi v8 c256_i32_2
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c256_i32_3 : BitVec 32 := 256#32
  let c0_i32_5 : BitVec 32 := 0#32
  let v17 : BitVec 1 := Scalar.cmpi .sgt c256_i32_3 c0_i32_5
  let v18 : BitVec 32 := Scalar.extui v17
  let c0_i32_6 : BitVec 32 := 0#32
  let v19 : BitVec 1 := Scalar.cmpi .slt c256_i32_3 c0_i32_6
  let v20 : BitVec 32 := Scalar.extui v19
  let v21 : BitVec 32 := Scalar.subi v18 v20
  let v22 : BitVec 1 := Scalar.cmpi .ne v16 v21
  let v23 : BitVec 32 := Scalar.remsi v10 c256_i32_3
  let c0_i32_7 : BitVec 32 := 0#32
  let v24 : BitVec 1 := Scalar.cmpi .ne v23 c0_i32_7
  let v25 : BitVec 1 := Scalar.andi v22 v24
  let v11 : BitVec 32 := Scalar.divsi v10 c256_i32_3
  let c1_i32_8 : BitVec 32 := 1#32
  let v26 : BitVec 32 := Scalar.subi v11 c1_i32_8
  let v27 : BitVec 32 := Scalar.select v25 v26 v11
  let c1_i32_28 : BitVec 32 := 1#32
  let arg12 : BitVec 32 := Scf.iv v27 c1_i32_28 k0_t3
  let c256_i32_34 : BitVec 32 := 256#32
  let v69 : BitVec 32 := Scalar.muli arg12 c256_i32_34
  let v70 : BitVec 32 := v69
  let v71 : Index := Scalar.indexCast v70
  let c0_35 : Index := 0#32
  ![v71.toNat, 0]
@[reducible] def k0_t4_loop (i : grid0.Coords) : Scf.Loop 32 :=
  let arg1 : BitVec 32 := BitVec.ofNat 32 (i 1).val
  let c256_i32_1 : BitVec 32 := 256#32
  let v8 : BitVec 32 := Scalar.muli arg1 c256_i32_1
  let c256_i32_2 : BitVec 32 := 256#32
  let v9 : BitVec 32 := Scalar.addi v8 c256_i32_2
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c256_i32_3 : BitVec 32 := 256#32
  let c0_i32_5 : BitVec 32 := 0#32
  let v17 : BitVec 1 := Scalar.cmpi .sgt c256_i32_3 c0_i32_5
  let v18 : BitVec 32 := Scalar.extui v17
  let c0_i32_6 : BitVec 32 := 0#32
  let v19 : BitVec 1 := Scalar.cmpi .slt c256_i32_3 c0_i32_6
  let v20 : BitVec 32 := Scalar.extui v19
  let v21 : BitVec 32 := Scalar.subi v18 v20
  let v22 : BitVec 1 := Scalar.cmpi .ne v16 v21
  let v23 : BitVec 32 := Scalar.remsi v10 c256_i32_3
  let c0_i32_7 : BitVec 32 := 0#32
  let v24 : BitVec 1 := Scalar.cmpi .ne v23 c0_i32_7
  let v25 : BitVec 1 := Scalar.andi v22 v24
  let v11 : BitVec 32 := Scalar.divsi v10 c256_i32_3
  let c1_i32_8 : BitVec 32 := 1#32
  let v26 : BitVec 32 := Scalar.subi v11 c1_i32_8
  let v27 : BitVec 32 := Scalar.select v25 v26 v11
  let c1_i32_26 : BitVec 32 := 1#32
  let v54 : BitVec 32 := Scalar.addi v27 c1_i32_26
  let v55 : BitVec 32 := Scalar.subi v54 v27
  let c1_i32_27 : BitVec 32 := 1#32
  let v57 : BitVec 32 := Scalar.divsi v55 c1_i32_27
  let v58 : BitVec 32 := Scalar.muli v57 c1_i32_27
  let v59 : BitVec 32 := Scalar.addi v27 v58
  let v56 : BitVec 32 := Scalar.addi v27 v55
  let c1_i32_29 : BitVec 32 := 1#32
  ⟨v59, v56, c1_i32_29⟩
def k0_mult4 (i : grid0.Coords) (k0_t4 : Fin (k0_t4_loop i).trips) : BitVec 32 :=
  let arg1 : BitVec 32 := BitVec.ofNat 32 (i 1).val
  let c256_i32_1 : BitVec 32 := 256#32
  let v8 : BitVec 32 := Scalar.muli arg1 c256_i32_1
  let c256_i32_2 : BitVec 32 := 256#32
  let v9 : BitVec 32 := Scalar.addi v8 c256_i32_2
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c256_i32_3 : BitVec 32 := 256#32
  let c0_i32_5 : BitVec 32 := 0#32
  let v17 : BitVec 1 := Scalar.cmpi .sgt c256_i32_3 c0_i32_5
  let v18 : BitVec 32 := Scalar.extui v17
  let c0_i32_6 : BitVec 32 := 0#32
  let v19 : BitVec 1 := Scalar.cmpi .slt c256_i32_3 c0_i32_6
  let v20 : BitVec 32 := Scalar.extui v19
  let v21 : BitVec 32 := Scalar.subi v18 v20
  let v22 : BitVec 1 := Scalar.cmpi .ne v16 v21
  let v23 : BitVec 32 := Scalar.remsi v10 c256_i32_3
  let c0_i32_7 : BitVec 32 := 0#32
  let v24 : BitVec 1 := Scalar.cmpi .ne v23 c0_i32_7
  let v25 : BitVec 1 := Scalar.andi v22 v24
  let v11 : BitVec 32 := Scalar.divsi v10 c256_i32_3
  let c1_i32_8 : BitVec 32 := 1#32
  let v26 : BitVec 32 := Scalar.subi v11 c1_i32_8
  let v27 : BitVec 32 := Scalar.select v25 v26 v11
  let c1_i32_26 : BitVec 32 := 1#32
  let v54 : BitVec 32 := Scalar.addi v27 c1_i32_26
  let v55 : BitVec 32 := Scalar.subi v54 v27
  let c1_i32_27 : BitVec 32 := 1#32
  let v57 : BitVec 32 := Scalar.divsi v55 c1_i32_27
  let v58 : BitVec 32 := Scalar.muli v57 c1_i32_27
  let v59 : BitVec 32 := Scalar.addi v27 v58
  let c1_i32_29 : BitVec 32 := 1#32
  let arg12 : BitVec 32 := Scf.iv v59 c1_i32_29 k0_t4
  let c256_i32_34 : BitVec 32 := 256#32
  let v69 : BitVec 32 := Scalar.muli arg12 c256_i32_34
  v69
def k0_off4 (i : grid0.Coords) (k0_t4 : Fin (k0_t4_loop i).trips) : Fin 2 → Nat :=
  let arg1 : BitVec 32 := BitVec.ofNat 32 (i 1).val
  let c256_i32_1 : BitVec 32 := 256#32
  let v8 : BitVec 32 := Scalar.muli arg1 c256_i32_1
  let c256_i32_2 : BitVec 32 := 256#32
  let v9 : BitVec 32 := Scalar.addi v8 c256_i32_2
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c256_i32_3 : BitVec 32 := 256#32
  let c0_i32_5 : BitVec 32 := 0#32
  let v17 : BitVec 1 := Scalar.cmpi .sgt c256_i32_3 c0_i32_5
  let v18 : BitVec 32 := Scalar.extui v17
  let c0_i32_6 : BitVec 32 := 0#32
  let v19 : BitVec 1 := Scalar.cmpi .slt c256_i32_3 c0_i32_6
  let v20 : BitVec 32 := Scalar.extui v19
  let v21 : BitVec 32 := Scalar.subi v18 v20
  let v22 : BitVec 1 := Scalar.cmpi .ne v16 v21
  let v23 : BitVec 32 := Scalar.remsi v10 c256_i32_3
  let c0_i32_7 : BitVec 32 := 0#32
  let v24 : BitVec 1 := Scalar.cmpi .ne v23 c0_i32_7
  let v25 : BitVec 1 := Scalar.andi v22 v24
  let v11 : BitVec 32 := Scalar.divsi v10 c256_i32_3
  let c1_i32_8 : BitVec 32 := 1#32
  let v26 : BitVec 32 := Scalar.subi v11 c1_i32_8
  let v27 : BitVec 32 := Scalar.select v25 v26 v11
  let c1_i32_26 : BitVec 32 := 1#32
  let v54 : BitVec 32 := Scalar.addi v27 c1_i32_26
  let v55 : BitVec 32 := Scalar.subi v54 v27
  let c1_i32_27 : BitVec 32 := 1#32
  let v57 : BitVec 32 := Scalar.divsi v55 c1_i32_27
  let v58 : BitVec 32 := Scalar.muli v57 c1_i32_27
  let v59 : BitVec 32 := Scalar.addi v27 v58
  let c1_i32_29 : BitVec 32 := 1#32
  let arg12 : BitVec 32 := Scf.iv v59 c1_i32_29 k0_t4
  let c256_i32_34 : BitVec 32 := 256#32
  let v69 : BitVec 32 := Scalar.muli arg12 c256_i32_34
  let v70 : BitVec 32 := v69
  let v71 : Index := Scalar.indexCast v70
  let c0_35 : Index := 0#32
  ![v71.toNat, 0]
def k0_cond2 (i : grid0.Coords) : BitVec 1 :=
  let arg1 : BitVec 32 := BitVec.ofNat 32 (i 1).val
  let c15_i32 : BitVec 32 := 15#32
  let v66 : BitVec 1 := Scalar.cmpi .eq arg1 c15_i32
  let v67 : BitVec 32 := Scalar.extui v66
  let c0_i32_33 : BitVec 32 := 0#32
  let v68 : BitVec 1 := Scalar.cmpi .ne v67 c0_i32_33
  v68

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4096x512 : Shape := ⟨2, ![4096, 512]⟩
abbrev S4096x4x128 : Shape := ⟨3, ![4096, 4, 128]⟩
abbrev S4x4096x128 : Shape := ⟨3, ![4, 4096, 128]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x128x4096 : Shape := ⟨3, ![4, 128, 4096]⟩

abbrev nBuf : Space → Nat
  | .hbm => 184
  | .vmem => 0
  | .smem => 0
  | _ => 0

abbrev hbmTy0_0 (i : Nat) : BufTy := match i % 128 with
  | 0 => ⟨S4096x512, .bf16⟩
  | 1 => ⟨S4096x512, .bf16⟩
  | 2 => ⟨S4096x512, .bf16⟩
  | 3 => ⟨S4096x512, .bf16⟩
  | 4 => ⟨S4096x512, .f32⟩
  | 5 => ⟨S4096x4x128, .f32⟩
  | 6 => ⟨S4x4096x128, .f32⟩
  | 7 => ⟨S4096x512, .f32⟩
  | 8 => ⟨S4096x4x128, .f32⟩
  | 9 => ⟨S4x4096x128, .f32⟩
  | 10 => ⟨S4x4096x4096, .f32⟩
  | 11 => ⟨S_, .f32⟩
  | 12 => ⟨S4x4096x4096, .f32⟩
  | 13 => ⟨S4x4096x4096, .f32⟩
  | 14 => ⟨S4096, .i32⟩
  | 15 => ⟨S1x4096, .i32⟩
  | 16 => ⟨S4096x1, .i32⟩
  | 17 => ⟨S4096x4096, .i32⟩
  | 18 => ⟨S4096x4096, .i32⟩
  | 19 => ⟨S4096x4096, .i1⟩
  | 20 => ⟨S4x4096x4096, .f32⟩
  | 21 => ⟨S4x4096x4096, .f32⟩
  | 22 => ⟨S_, .f32⟩
  | 23 => ⟨S4x4096x4096, .f32⟩
  | 24 => ⟨S4x4096x4096, .f32⟩
  | 25 => ⟨S4x4096x4096, .f32⟩
  | 26 => ⟨S4x4096x4096, .f32⟩
  | 27 => ⟨S4x4096x4096, .i1⟩
  | 28 => ⟨S4x4096x4096, .f32⟩
  | 29 => ⟨S4x4096x4096, .f32⟩
  | 30 => ⟨S4x4096x4096, .f32⟩
  | 31 => ⟨S4x4096x4096, .f32⟩
  | 32 => ⟨S4x4096x4096, .f32⟩
  | 33 => ⟨S4x4096x4096, .f32⟩
  | 34 => ⟨S4x4096x4096, .f32⟩
  | 35 => ⟨S4x4096x4096, .f32⟩
  | 36 => ⟨S_, .f32⟩
  | 37 => ⟨S4x4096x4096, .f32⟩
  | 38 => ⟨S4x4096x4096, .i1⟩
  | 39 => ⟨S_, .f32⟩
  | 40 => ⟨S4x4096x4096, .f32⟩
  | 41 => ⟨S4x4096x4096, .f32⟩
  | 42 => ⟨S_, .f32⟩
  | 43 => ⟨S4x4096x4096, .f32⟩
  | 44 => ⟨S4x4096x4096, .i1⟩
  | 45 => ⟨S_, .f32⟩
  | 46 => ⟨S4x4096x4096, .f32⟩
  | 47 => ⟨S4x4096x4096, .f32⟩
  | 48 => ⟨S4x4096x4096, .f32⟩
  | 49 => ⟨S4x4096x4096, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S4x4096x4096, .f32⟩
  | 58 => ⟨S4x4096x4096, .i1⟩
  | 59 => ⟨S_, .f32⟩
  | 60 => ⟨S4x4096x4096, .f32⟩
  | 61 => ⟨S4x4096x4096, .f32⟩
  | 62 => ⟨S4x4096x4096, .f32⟩
  | 63 => ⟨S4x4096x4096, .f32⟩
  | 64 => ⟨S4x4096x4096, .f32⟩
  | 65 => ⟨S_, .f32⟩
  | 66 => ⟨S4x4096x4096, .f32⟩
  | 67 => ⟨S4x4096x4096, .f32⟩
  | 68 => ⟨S4x4096x4096, .f32⟩
  | 69 => ⟨S_, .f32⟩
  | 70 => ⟨S_, .f32⟩
  | 71 => ⟨S4x4096x4096, .i1⟩
  | 72 => ⟨S4x4096x4096, .f32⟩
  | 73 => ⟨S4x4096x4096, .f32⟩
  | 74 => ⟨S_, .f32⟩
  | 75 => ⟨S4x4096x4096, .f32⟩
  | 76 => ⟨S_, .f32⟩
  | 77 => ⟨S_, .f32⟩
  | 78 => ⟨S4x4096x4096, .f32⟩
  | 79 => ⟨S4x4096x4096, .f32⟩
  | 80 => ⟨S4x4096x4096, .f32⟩
  | 81 => ⟨S_, .f32⟩
  | 82 => ⟨S4x4096x4096, .f32⟩
  | 83 => ⟨S4x4096x4096, .f32⟩
  | 84 => ⟨S4x4096x4096, .f32⟩
  | 85 => ⟨S4x4096x4096, .f32⟩
  | 86 => ⟨S4x4096x4096, .i1⟩
  | 87 => ⟨S4x4096x4096, .f32⟩
  | 88 => ⟨S4x4096x4096, .f32⟩
  | 89 => ⟨S4x4096x4096, .f32⟩
  | 90 => ⟨S4x4096x4096, .f32⟩
  | 91 => ⟨S4x4096x4096, .f32⟩
  | 92 => ⟨S4x4096x4096, .f32⟩
  | 93 => ⟨S4x4096x4096, .f32⟩
  | 94 => ⟨S4x4096x4096, .f32⟩
  | 95 => ⟨S_, .f32⟩
  | 96 => ⟨S4x4096x4096, .f32⟩
  | 97 => ⟨S4x4096x4096, .i1⟩
  | 98 => ⟨S_, .f32⟩
  | 99 => ⟨S4x4096x4096, .f32⟩
  | 100 => ⟨S4x4096x4096, .f32⟩
  | 101 => ⟨S_, .f32⟩
  | 102 => ⟨S4x4096x4096, .f32⟩
  | 103 => ⟨S4x4096x4096, .i1⟩
  | 104 => ⟨S_, .f32⟩
  | 105 => ⟨S4x4096x4096, .f32⟩
  | 106 => ⟨S4x4096x4096, .f32⟩
  | 107 => ⟨S4x4096x4096, .f32⟩
  | 108 => ⟨S4x4096x4096, .f32⟩
  | 109 => ⟨S_, .f32⟩
  | 110 => ⟨S_, .f32⟩
  | 111 => ⟨S_, .i1⟩
  | 112 => ⟨S_, .f32⟩
  | 113 => ⟨S_, .f32⟩
  | 114 => ⟨S_, .f32⟩
  | 115 => ⟨S_, .f32⟩
  | 116 => ⟨S4x4096x4096, .f32⟩
  | 117 => ⟨S4x4096x4096, .i1⟩
  | 118 => ⟨S_, .f32⟩
  | 119 => ⟨S4x4096x4096, .f32⟩
  | 120 => ⟨S4x4096x4096, .f32⟩
  | 121 => ⟨S4x4096x4096, .f32⟩
  | 122 => ⟨S4x4096x4096, .f32⟩
  | 123 => ⟨S4x4096x4096, .f32⟩
  | 124 => ⟨S_, .f32⟩
  | 125 => ⟨S4x4096x4096, .f32⟩
  | 126 => ⟨S4x4096x4096, .f32⟩
  | 127 => ⟨S4x4096x4096, .f32⟩
  | _ => ⟨S4096x512, .bf16⟩

abbrev hbmTy0_1 (i : Nat) : BufTy := match i % 128 with
  | 0 => ⟨S4x4096x4096, .f32⟩
  | 1 => ⟨S4x4096x4096, .f32⟩
  | 2 => ⟨S_, .f32⟩
  | 3 => ⟨S_, .f32⟩
  | 4 => ⟨S4x4096x4096, .i1⟩
  | 5 => ⟨S4x4096x4096, .f32⟩
  | 6 => ⟨S4x4096x4096, .f32⟩
  | 7 => ⟨S_, .f32⟩
  | 8 => ⟨S4x4096x4096, .f32⟩
  | 9 => ⟨S4096x512, .f32⟩
  | 10 => ⟨S4096x4x128, .f32⟩
  | 11 => ⟨S4x4096x128, .f32⟩
  | 12 => ⟨S4x4096x128, .f32⟩
  | 13 => ⟨S4096x4x128, .f32⟩
  | 14 => ⟨S4096x512, .f32⟩
  | 15 => ⟨S4096x512, .bf16⟩
  | 16 => ⟨S4096x512, .f32⟩
  | 17 => ⟨S4096x4x128, .f32⟩
  | 18 => ⟨S4x4096x128, .f32⟩
  | 19 => ⟨S4x128x4096, .f32⟩
  | 20 => ⟨S4x4096x128, .f32⟩
  | 21 => ⟨S4x4096x4096, .f32⟩
  | 22 => ⟨S4096x4x128, .f32⟩
  | 23 => ⟨S4096x512, .f32⟩
  | 24 => ⟨S4096x512, .bf16⟩
  | 25 => ⟨S_, .f32⟩
  | 26 => ⟨S4x4096x4096, .f32⟩
  | 27 => ⟨S4x4096x4096, .f32⟩
  | 28 => ⟨S4x4096x4096, .f32⟩
  | 29 => ⟨S4x4096x4096, .f32⟩
  | 30 => ⟨S4x4096x4096, .f32⟩
  | 31 => ⟨S4x4096x4096, .f32⟩
  | 32 => ⟨S4x4096x4096, .f32⟩
  | 33 => ⟨S_, .f32⟩
  | 34 => ⟨S_, .f32⟩
  | 35 => ⟨S4x4096x4096, .f32⟩
  | 36 => ⟨S4x4096x4096, .f32⟩
  | 37 => ⟨S_, .f32⟩
  | 38 => ⟨S4x4096x4096, .f32⟩
  | 39 => ⟨S4x4096x4096, .f32⟩
  | 40 => ⟨S4x4096x4096, .f32⟩
  | 41 => ⟨S4x4096x4096, .f32⟩
  | 42 => ⟨S4x4096x4096, .f32⟩
  | 43 => ⟨S4x4096x4096, .f32⟩
  | 44 => ⟨S4x4096x4096, .f32⟩
  | 45 => ⟨S_, .f32⟩
  | 46 => ⟨S4x4096x4096, .f32⟩
  | 47 => ⟨S4x4096x4096, .f32⟩
  | 48 => ⟨S4x4096x128, .f32⟩
  | 49 => ⟨S4x4096x128, .f32⟩
  | 50 => ⟨S4096x4x128, .f32⟩
  | 51 => ⟨S4096x512, .f32⟩
  | 52 => ⟨S4096x512, .bf16⟩
  | 53 => ⟨S4096x4x128, .f32⟩
  | 54 => ⟨S4096x512, .f32⟩
  | 55 => ⟨S4096x512, .bf16⟩
  | _ => ⟨S4096x512, .bf16⟩

abbrev hbmTy (i : Nat) : BufTy := match i / 128 with
  | 0 => hbmTy0_0 i
  | 1 => hbmTy0_1 i
  | _ => ⟨S4096x512, .bf16⟩

abbrev bufTy : (tb : Table) → Fin (tcTables nBuf tb) → BufTy
  | .hbm, ⟨i, _⟩ => hbmTy i
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v16_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v16_2 : Ref sig .tc := ⟨.hbm, 67, rfl⟩
abbrev main_v16_0 : Ref sig .tc := ⟨.hbm, 68, rfl⟩
abbrev main_cst_0 : Ref sig .tc := ⟨.hbm, 69, rfl⟩
abbrev main_call1_v0 : Ref sig .tc := ⟨.hbm, 70, rfl⟩
abbrev main_v17_1 : Ref sig .tc := ⟨.hbm, 71, rfl⟩
abbrev main_call1_v2 : Ref sig .tc := ⟨.hbm, 72, rfl⟩
abbrev main_v17_0 : Ref sig .tc := ⟨.hbm, 73, rfl⟩
abbrev main_call1_cst : Ref sig .tc := ⟨.hbm, 74, rfl⟩
abbrev main_v17_2 : Ref sig .tc := ⟨.hbm, 75, rfl⟩
abbrev main_call2_cst : Ref sig .tc := ⟨.hbm, 76, rfl⟩
abbrev main_call2_v0 : Ref sig .tc := ⟨.hbm, 77, rfl⟩
abbrev main_v18 : Ref sig .tc := ⟨.hbm, 78, rfl⟩
abbrev main_v19 : Ref sig .tc := ⟨.hbm, 79, rfl⟩
abbrev main_call3_v0 : Ref sig .tc := ⟨.hbm, 80, rfl⟩
abbrev main_call3_call0_cst : Ref sig .tc := ⟨.hbm, 81, rfl⟩
abbrev main_call3_call0_v0 : Ref sig .tc := ⟨.hbm, 82, rfl⟩
abbrev main_call3_call0_v1 : Ref sig .tc := ⟨.hbm, 83, rfl⟩
abbrev main_call3_call0_v2 : Ref sig .tc := ⟨.hbm, 84, rfl⟩
abbrev main_call3_call0_v3 : Ref sig .tc := ⟨.hbm, 85, rfl⟩
abbrev main_call3_call0_v4 : Ref sig .tc := ⟨.hbm, 86, rfl⟩
abbrev main_call3_call0_v5 : Ref sig .tc := ⟨.hbm, 87, rfl⟩
abbrev main_call3_call0_v6 : Ref sig .tc := ⟨.hbm, 88, rfl⟩
abbrev main_call3_call0_v7 : Ref sig .tc := ⟨.hbm, 89, rfl⟩
abbrev main_call3_call0_v8 : Ref sig .tc := ⟨.hbm, 90, rfl⟩
abbrev main_call3_call0_v9 : Ref sig .tc := ⟨.hbm, 91, rfl⟩
abbrev main_call3_call0_v10 : Ref sig .tc := ⟨.hbm, 92, rfl⟩
abbrev main_call3_call0_v11 : Ref sig .tc := ⟨.hbm, 93, rfl⟩
abbrev main_call3_v1_0 : Ref sig .tc := ⟨.hbm, 94, rfl⟩
abbrev main_call3_call0_cst_0 : Ref sig .tc := ⟨.hbm, 95, rfl⟩
abbrev main_call3_call0_v13 : Ref sig .tc := ⟨.hbm, 96, rfl⟩
abbrev main_call3_call0_v14 : Ref sig .tc := ⟨.hbm, 97, rfl⟩
abbrev main_call3_call0_cst_1 : Ref sig .tc := ⟨.hbm, 98, rfl⟩
abbrev main_call3_call0_v15 : Ref sig .tc := ⟨.hbm, 99, rfl⟩
abbrev main_call3_call0_v16 : Ref sig .tc := ⟨.hbm, 100, rfl⟩
abbrev main_call3_call0_cst_2 : Ref sig .tc := ⟨.hbm, 101, rfl⟩
abbrev main_call3_call0_v17 : Ref sig .tc := ⟨.hbm, 102, rfl⟩
abbrev main_call3_call0_v18 : Ref sig .tc := ⟨.hbm, 103, rfl⟩
abbrev main_call3_call0_cst_3 : Ref sig .tc := ⟨.hbm, 104, rfl⟩
abbrev main_call3_call0_v19 : Ref sig .tc := ⟨.hbm, 105, rfl⟩
abbrev main_call3_call0_v20 : Ref sig .tc := ⟨.hbm, 106, rfl⟩
abbrev main_call3_call0_v21 : Ref sig .tc := ⟨.hbm, 107, rfl⟩
abbrev main_v20_1 : Ref sig .tc := ⟨.hbm, 108, rfl⟩
abbrev main_call3_call0_cst_4 : Ref sig .tc := ⟨.hbm, 109, rfl⟩
abbrev main_call3_call0_cst_5 : Ref sig .tc := ⟨.hbm, 110, rfl⟩
abbrev main_call3_call0_v23 : Ref sig .tc := ⟨.hbm, 111, rfl⟩
abbrev main_call3_call0_cst_6 : Ref sig .tc := ⟨.hbm, 112, rfl⟩
abbrev main_call3_call0_cst_7 : Ref sig .tc := ⟨.hbm, 113, rfl⟩
abbrev main_call3_call0_v24 : Ref sig .tc := ⟨.hbm, 114, rfl⟩
abbrev main_call3_call0_cst_8 : Ref sig .tc := ⟨.hbm, 115, rfl⟩
abbrev main_call3_call0_v25 : Ref sig .tc := ⟨.hbm, 116, rfl⟩
abbrev main_call3_call0_v26 : Ref sig .tc := ⟨.hbm, 117, rfl⟩
abbrev main_call3_call0_cst_9 : Ref sig .tc := ⟨.hbm, 118, rfl⟩
abbrev main_call3_call0_v27 : Ref sig .tc := ⟨.hbm, 119, rfl⟩
abbrev main_call3_call0_v28 : Ref sig .tc := ⟨.hbm, 120, rfl⟩
abbrev main_call3_call0_v29 : Ref sig .tc := ⟨.hbm, 121, rfl⟩
abbrev main_call3_call0_v30 : Ref sig .tc := ⟨.hbm, 122, rfl⟩
abbrev main_call3_call0_v31 : Ref sig .tc := ⟨.hbm, 123, rfl⟩
abbrev main_call3_call0_cst_10 : Ref sig .tc := ⟨.hbm, 124, rfl⟩
abbrev main_call3_call0_v32 : Ref sig .tc := ⟨.hbm, 125, rfl⟩
abbrev main_v20_2 : Ref sig .tc := ⟨.hbm, 126, rfl⟩
abbrev main_v20_0 : Ref sig .tc := ⟨.hbm, 127, rfl⟩
abbrev main_v21 : Ref sig .tc := ⟨.hbm, 128, rfl⟩
abbrev main_v22 : Ref sig .tc := ⟨.hbm, 129, rfl⟩
abbrev main_cst_1 : Ref sig .tc := ⟨.hbm, 130, rfl⟩
abbrev main_call4_v0 : Ref sig .tc := ⟨.hbm, 131, rfl⟩
abbrev main_v23_1 : Ref sig .tc := ⟨.hbm, 132, rfl⟩
abbrev main_call4_v2 : Ref sig .tc := ⟨.hbm, 133, rfl⟩
abbrev main_v23_0 : Ref sig .tc := ⟨.hbm, 134, rfl⟩
abbrev main_call4_cst : Ref sig .tc := ⟨.hbm, 135, rfl⟩
abbrev main_v23_2 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_v39 : Ref sig .tc := ⟨.hbm, 152, rfl⟩
abbrev main_call5_cst : Ref sig .tc := ⟨.hbm, 153, rfl⟩
abbrev main_call5_v0 : Ref sig .tc := ⟨.hbm, 154, rfl⟩
abbrev main_v40 : Ref sig .tc := ⟨.hbm, 155, rfl⟩
abbrev main_v41 : Ref sig .tc := ⟨.hbm, 156, rfl⟩
abbrev main_call6_v0 : Ref sig .tc := ⟨.hbm, 157, rfl⟩
abbrev main_call6_v1 : Ref sig .tc := ⟨.hbm, 158, rfl⟩
abbrev main_v42 : Ref sig .tc := ⟨.hbm, 159, rfl⟩
abbrev main_v43 : Ref sig .tc := ⟨.hbm, 160, rfl⟩
abbrev main_call7_cst : Ref sig .tc := ⟨.hbm, 161, rfl⟩
abbrev main_call7_v0 : Ref sig .tc := ⟨.hbm, 162, rfl⟩
abbrev main_v44 : Ref sig .tc := ⟨.hbm, 163, rfl⟩
abbrev main_v45 : Ref sig .tc := ⟨.hbm, 164, rfl⟩
abbrev main_call8_cst : Ref sig .tc := ⟨.hbm, 165, rfl⟩
abbrev main_call8_v0 : Ref sig .tc := ⟨.hbm, 166, rfl⟩
abbrev main_v46 : Ref sig .tc := ⟨.hbm, 167, rfl⟩
abbrev main_call9_v0 : Ref sig .tc := ⟨.hbm, 168, rfl⟩
abbrev main_call9_v1 : Ref sig .tc := ⟨.hbm, 169, rfl⟩
abbrev main_v47 : Ref sig .tc := ⟨.hbm, 170, rfl⟩
abbrev main_v48 : Ref sig .tc := ⟨.hbm, 171, rfl⟩
abbrev main_v49 : Ref sig .tc := ⟨.hbm, 172, rfl⟩
abbrev main_cst_2 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩
abbrev main_v56 : Ref sig .tc := ⟨.hbm, 180, rfl⟩
abbrev main_v57 : Ref sig .tc := ⟨.hbm, 181, rfl⟩
abbrev main_v58 : Ref sig .tc := ⟨.hbm, 182, rfl⟩
abbrev main_v59 : Ref sig .tc := ⟨.hbm, 183, rfl⟩

abbrev nD : Nat := 1
abbrev τ : Topo := Topo.v7x

variable {F : FTy → Type} [FloatOps F]
-- ==== Fwd.lean ====
abbrev S4096x512 : Shape := ⟨2, ![4096, 512]⟩
abbrev S4x4096x1 : Shape := ⟨3, ![4, 4096, 1]⟩
abbrev S256x128 : Shape := ⟨2, ![256, 128]⟩
abbrev S4096x128 : Shape := ⟨2, ![4096, 128]⟩
abbrev S1x256x1 : Shape := ⟨3, ![1, 256, 1]⟩
abbrev S256x256 : Shape := ⟨2, ![256, 256]⟩
abbrev S256x1 : Shape := ⟨2, ![256, 1]⟩
abbrev S256 : Shape := ⟨1, ![256]⟩

abbrev nBuf : Space → Nat
  | .hbm => 5
  | .vmem => 10
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4x4096x1, .f32⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S1x256x1, .f32⟩
  | .local _ .vmem, ⟨9, _⟩ => ⟨S1x256x1, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32_1 : BitVec 32 := 256#32
  let v8 : BitVec 32 := Scalar.muli arg1 c256_i32_1
  let c256_i32_2 : BitVec 32 := 256#32
  let v9 : BitVec 32 := Scalar.addi v8 c256_i32_2
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c256_i32_3 : BitVec 32 := 256#32
  let c0_i32_5 : BitVec 32 := 0#32
  let v17 : BitVec 1 := Scalar.cmpi .sgt c256_i32_3 c0_i32_5
  let v18 : BitVec 32 := Scalar.extui v17
  let c0_i32_6 : BitVec 32 := 0#32
  let v19 : BitVec 1 := Scalar.cmpi .slt c256_i32_3 c0_i32_6
  let v20 : BitVec 32 := Scalar.extui v19
  let v21 : BitVec 32 := Scalar.subi v18 v20
  let v22 : BitVec 1 := Scalar.cmpi .ne v16 v21
  let v23 : BitVec 32 := Scalar.remsi v10 c256_i32_3
  let c0_i32_7 : BitVec 32 := 0#32
  let v24 : BitVec 1 := Scalar.cmpi .ne v23 c0_i32_7
  let v25 : BitVec 1 := Scalar.andi v22 v24
  let v11 : BitVec 32 := Scalar.divsi v10 c256_i32_3
  let c1_i32_8 : BitVec 32 := 1#32
  let v26 : BitVec 32 := Scalar.subi v11 c1_i32_8
  let v27 : BitVec 32 := Scalar.select v25 v26 v11
  let c0_i32_12 : BitVec 32 := 0#32
  let v35 : BitVec 32 := Scalar.subi v27 c0_i32_12
  let c256_i32_13 : BitVec 32 := 256#32
  let v36 : BitVec 32 := Scalar.muli v35 c256_i32_13
  v36
def k0_off1 (i : grid0.Coords) : Fin 2 → Nat :=
  let arg1 : BitVec 32 := BitVec.ofNat 32 (i 1).val
  let c256_i32_1 : BitVec 32 := 256#32
  let v8 : BitVec 32 := Scalar.muli arg1 c256_i32_1
  let c256_i32_2 : BitVec 32 := 256#32
  let v9 : BitVec 32 := Scalar.addi v8 c256_i32_2
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c256_i32_3 : BitVec 32 := 256#32
  let c0_i32_5 : BitVec 32 := 0#32
  let v17 : BitVec 1 := Scalar.cmpi .sgt c256_i32_3 c0_i32_5
  let v18 : BitVec 32 := Scalar.extui v17
  let c0_i32_6 : BitVec 32 := 0#32
  let v19 : BitVec 1 := Scalar.cmpi .slt c256_i32_3 c0_i32_6
  let v20 : BitVec 32 := Scalar.extui v19
  let v21 : BitVec 32 := Scalar.subi v18 v20
  let v22 : BitVec 1 := Scalar.cmpi .ne v16 v21
  let v23 : BitVec 32 := Scalar.remsi v10 c256_i32_3
  let c0_i32_7 : BitVec 32 := 0#32
  let v24 : BitVec 1 := Scalar.cmpi .ne v23 c0_i32_7
  let v25 : BitVec 1 := Scalar.andi v22 v24
  let v11 : BitVec 32 := Scalar.divsi v10 c256_i32_3
  let c1_i32_8 : BitVec 32 := 1#32
  let v26 : BitVec 32 := Scalar.subi v11 c1_i32_8
  let v27 : BitVec 32 := Scalar.select v25 v26 v11
  let c0_i32_12 : BitVec 32 := 0#32
  let v35 : BitVec 32 := Scalar.subi v27 c0_i32_12
  let c256_i32_13 : BitVec 32 := 256#32
  let v36 : BitVec 32 := Scalar.muli v35 c256_i32_13
  let v37 : BitVec 32 := v36
  let v38 : Index := Scalar.indexCast v37
  let c0_14 : Index := 0#32
  ![v38.toNat, 0]
@[reducible] def k0_t1_loop (i : grid0.Coords) : Scf.Loop 32 :=
  let c1_i32_30 : BitVec 32 := 1#32
  let arg1 : BitVec 32 := BitVec.ofNat 32 (i 1).val
  let c256_i32_1 : BitVec 32 := 256#32
  let v8 : BitVec 32 := Scalar.muli arg1 c256_i32_1
  let c256_i32_2 : BitVec 32 := 256#32
  let v9 : BitVec 32 := Scalar.addi v8 c256_i32_2
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c256_i32_3 : BitVec 32 := 256#32
  let c0_i32_5 : BitVec 32 := 0#32
  let v17 : BitVec 1 := Scalar.cmpi .sgt c256_i32_3 c0_i32_5
  let v18 : BitVec 32 := Scalar.extui v17
  let c0_i32_6 : BitVec 32 := 0#32
  let v19 : BitVec 1 := Scalar.cmpi .slt c256_i32_3 c0_i32_6
  let v20 : BitVec 32 := Scalar.extui v19
  let v21 : BitVec 32 := Scalar.subi v18 v20
  let v22 : BitVec 1 := Scalar.cmpi .ne v16 v21
  let v23 : BitVec 32 := Scalar.remsi v10 c256_i32_3
  let c0_i32_7 : BitVec 32 := 0#32
  let v24 : BitVec 1 := Scalar.cmpi .ne v23 c0_i32_7
  let v25 : BitVec 1 := Scalar.andi v22 v24
  let v11 : BitVec 32 := Scalar.divsi v10 c256_i32_3
  let c1_i32_8 : BitVec 32 := 1#32
  let v26 : BitVec 32 := Scalar.subi v11 c1_i32_8
  let v27 : BitVec 32 := Scalar.select v25 v26 v11
  let c1_i32_29 : BitVec 32 := 1#32
  let v81 : BitVec 32 := Scalar.addi v27 c1_i32_29
  let v82 : BitVec 32 := Scalar.subi v81 c1_i32_30
  let c1_i32_31 : BitVec 32 := 1#32
  let v84 : BitVec 32 := Scalar.divsi v82 c1_i32_31
  let v85 : BitVec 32 := Scalar.muli v84 c1_i32_31
  let v86 : BitVec 32 := Scalar.addi c1_i32_30 v85
  let c1_i32_32 : BitVec 32 := 1#32
  ⟨c1_i32_30, v86, c1_i32_32⟩
def k0_mult2 (i : grid0.Coords) (k0_t1 : Fin (k0_t1_loop i).trips) : BitVec 32 :=
  let arg1 : BitVec 32 := BitVec.ofNat 32 (i 1).val
  let c256_i32_1 : BitVec 32 := 256#32
  let v8 : BitVec 32 := Scalar.muli arg1 c256_i32_1
  let c256_i32_2 : BitVec 32 := 256#32
  let v9 : BitVec 32 := Scalar.addi v8 c256_i32_2
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c256_i32_3 : BitVec 32 := 256#32
  let c0_i32_5 : BitVec 32 := 0#32
  let v17 : BitVec 1 := Scalar.cmpi .sgt c256_i32_3 c0_i32_5
  let v18 : BitVec 32 := Scalar.extui v17
  let c0_i32_6 : BitVec 32 := 0#32
  let v19 : BitVec 1 := Scalar.cmpi .slt c256_i32_3 c0_i32_6
  let v20 : BitVec 32 := Scalar.extui v19
  let v21 : BitVec 32 := Scalar.subi v18 v20
  let v22 : BitVec 1 := Scalar.cmpi .ne v16 v21
  let v23 : BitVec 32 := Scalar.remsi v10 c256_i32_3
  let c0_i32_7 : BitVec 32 := 0#32
  let v24 : BitVec 1 := Scalar.cmpi .ne v23 c0_i32_7
  let v25 : BitVec 1 := Scalar.andi v22 v24
  let v11 : BitVec 32 := Scalar.divsi v10 c256_i32_3
  let c1_i32_8 : BitVec 32 := 1#32
  let v26 : BitVec 32 := Scalar.subi v11 c1_i32_8
  let v27 : BitVec 32 := Scalar.select v25 v26 v11
  let c1_i32_30 : BitVec 32 := 1#32
  let c1_i32_32 : BitVec 32 := 1#32
  let arg7 : BitVec 32 := Scf.iv c1_i32_30 c1_i32_32 k0_t1
  let v94 : BitVec 32 := Scalar.subi v27 arg7
  let c256_i32_39 : BitVec 32 := 256#32
  let v95 : BitVec 32 := Scalar.muli v94 c256_i32_39
  v95
def k0_off2 (i : grid0.Coords) (k0_t1 : Fin (k0_t1_loop i).trips) : Fin 2 → Nat :=
  let arg1 : BitVec 32 := BitVec.ofNat 32 (i 1).val
  let c256_i32_1 : BitVec 32 := 256#32
  let v8 : BitVec 32 := Scalar.muli arg1 c256_i32_1
  let c256_i32_2 : BitVec 32 := 256#32
  let v9 : BitVec 32 := Scalar.addi v8 c256_i32_2
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c256_i32_3 : BitVec 32 := 256#32
  let c0_i32_5 : BitVec 32 := 0#32
  let v17 : BitVec 1 := Scalar.cmpi .sgt c256_i32_3 c0_i32_5
  let v18 : BitVec 32 := Scalar.extui v17
  let c0_i32_6 : BitVec 32 := 0#32
  let v19 : BitVec 1 := Scalar.cmpi .slt c256_i32_3 c0_i32_6
  let v20 : BitVec 32 := Scalar.extui v19
  let v21 : BitVec 32 := Scalar.subi v18 v20
  let v22 : BitVec 1 := Scalar.cmpi .ne v16 v21
  let v23 : BitVec 32 := Scalar.remsi v10 c256_i32_3
  let c0_i32_7 : BitVec 32 := 0#32
  let v24 : BitVec 1 := Scalar.cmpi .ne v23 c0_i32_7
  let v25 : BitVec 1 := Scalar.andi v22 v24
  let v11 : BitVec 32 := Scalar.divsi v10 c256_i32_3
  let c1_i32_8 : BitVec 32 := 1#32
  let v26 : BitVec 32 := Scalar.subi v11 c1_i32_8
  let v27 : BitVec 32 := Scalar.select v25 v26 v11
  let c1_i32_30 : BitVec 32 := 1#32
  let c1_i32_32 : BitVec 32 := 1#32
  let arg7 : BitVec 32 := Scf.iv c1_i32_30 c1_i32_32 k0_t1
  let v94 : BitVec 32 := Scalar.subi v27 arg7
  let c256_i32_39 : BitVec 32 := 256#32
  let v95 : BitVec 32 := Scalar.muli v94 c256_i32_39
  let v96 : BitVec 32 := v95
  let v97 : Index := Scalar.indexCast v96
  let c0_40 : Index := 0#32
  ![v97.toNat, 0]
@[reducible] def k0_t2_loop (i : grid0.Coords) : Scf.Loop 32 :=
  let c1_i32_30 : BitVec 32 := 1#32
  let arg1 : BitVec 32 := BitVec.ofNat 32 (i 1).val
  let c256_i32_1 : BitVec 32 := 256#32
  let v8 : BitVec 32 := Scalar.muli arg1 c256_i32_1
  let c256_i32_2 : BitVec 32 := 256#32
  let v9 : BitVec 32 := Scalar.addi v8 c256_i32_2
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c256_i32_3 : BitVec 32 := 256#32
  let c0_i32_5 : BitVec 32 := 0#32
  let v17 : BitVec 1 := Scalar.cmpi .sgt c256_i32_3 c0_i32_5
  let v18 : BitVec 32 := Scalar.extui v17
  let c0_i32_6 : BitVec 32 := 0#32
  let v19 : BitVec 1 := Scalar.cmpi .slt c256_i32_3 c0_i32_6
  let v20 : BitVec 32 := Scalar.extui v19
  let v21 : BitVec 32 := Scalar.subi v18 v20
  let v22 : BitVec 1 := Scalar.cmpi .ne v16 v21
  let v23 : BitVec 32 := Scalar.remsi v10 c256_i32_3
  let c0_i32_7 : BitVec 32 := 0#32
  let v24 : BitVec 1 := Scalar.cmpi .ne v23 c0_i32_7
  let v25 : BitVec 1 := Scalar.andi v22 v24
  let v11 : BitVec 32 := Scalar.divsi v10 c256_i32_3
  let c1_i32_8 : BitVec 32 := 1#32
  let v26 : BitVec 32 := Scalar.subi v11 c1_i32_8
  let v27 : BitVec 32 := Scalar.select v25 v26 v11
  let c1_i32_29 : BitVec 32 := 1#32
  let v81 : BitVec 32 := Scalar.addi v27 c1_i32_29
  let v82 : BitVec 32 := Scalar.subi v81 c1_i32_30
  let c1_i32_31 : BitVec 32 := 1#32
  let v84 : BitVec 32 := Scalar.divsi v82 c1_i32_31
  let v85 : BitVec 32 := Scalar.muli v84 c1_i32_31
  let v86 : BitVec 32 := Scalar.addi c1_i32_30 v85
  let v83 : BitVec 32 := Scalar.addi c1_i32_30 v82
  let c1_i32_33 : BitVec 32 := 1#32
  ⟨v86, v83, c1_i32_33⟩
def k0_mult3 (i : grid0.Coords) (k0_t2 : Fin (k0_t2_loop i).trips) : BitVec 32 :=
  let arg1 : BitVec 32 := BitVec.ofNat 32 (i 1).val
  let c256_i32_1 : BitVec 32 := 256#32
  let v8 : BitVec 32 := Scalar.muli arg1 c256_i32_1
  let c256_i32_2 : BitVec 32 := 256#32
  let v9 : BitVec 32 := Scalar.addi v8 c256_i32_2
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c256_i32_3 : BitVec 32 := 256#32
  let c0_i32_5 : BitVec 32 := 0#32
  let v17 : BitVec 1 := Scalar.cmpi .sgt c256_i32_3 c0_i32_5
  let v18 : BitVec 32 := Scalar.extui v17
  let c0_i32_6 : BitVec 32 := 0#32
  let v19 : BitVec 1 := Scalar.cmpi .slt c256_i32_3 c0_i32_6
  let v20 : BitVec 32 := Scalar.extui v19
  let v21 : BitVec 32 := Scalar.subi v18 v20
  let v22 : BitVec 1 := Scalar.cmpi .ne v16 v21
  let v23 : BitVec 32 := Scalar.remsi v10 c256_i32_3
  let c0_i32_7 : BitVec 32 := 0#32
  let v24 : BitVec 1 := Scalar.cmpi .ne v23 c0_i32_7
  let v25 : BitVec 1 := Scalar.andi v22 v24
  let v11 : BitVec 32 := Scalar.divsi v10 c256_i32_3
  let c1_i32_8 : BitVec 32 := 1#32
  let v26 : BitVec 32 := Scalar.subi v11 c1_i32_8
  let v27 : BitVec 32 := Scalar.select v25 v26 v11
  let c1_i32_30 : BitVec 32 := 1#32
  let c1_i32_29 : BitVec 32 := 1#32
  let v81 : BitVec 32 := Scalar.addi v27 c1_i32_29
  let v82 : BitVec 32 := Scalar.subi v81 c1_i32_30
  let c1_i32_31 : BitVec 32 := 1#32
  let v84 : BitVec 32 := Scalar.divsi v82 c1_i32_31
  let v85 : BitVec 32 := Scalar.muli v84 c1_i32_31
  let v86 : BitVec 32 := Scalar.addi c1_i32_30 v85
  let c1_i32_33 : BitVec 32 := 1#32
  let arg7 : BitVec 32 := Scf.iv v86 c1_i32_33 k0_t2
  let v94 : BitVec 32 := Scalar.subi v27 arg7
  let c256_i32_39 : BitVec 32 := 256#32
  let v95 : BitVec 32 := Scalar.muli v94 c256_i32_39
  v95
def k0_off3 (i : grid0.Coords) (k0_t2 : Fin (k0_t2_loop i).trips) : Fin 2 → Nat :=
  let arg1 : BitVec 32 := BitVec.ofNat 32 (i 1).val
  let c256_i32_1 : BitVec 32 := 256#32
  let v8 : BitVec 32 := Scalar.muli arg1 c256_i32_1
  let c256_i32_2 : BitVec 32 := 256#32
  let v9 : BitVec 32 := Scalar.addi v8 c256_i32_2
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c256_i32_3 : BitVec 32 := 256#32
  let c0_i32_5 : BitVec 32 := 0#32
  let v17 : BitVec 1 := Scalar.cmpi .sgt c256_i32_3 c0_i32_5
  let v18 : BitVec 32 := Scalar.extui v17
  let c0_i32_6 : BitVec 32 := 0#32
  let v19 : BitVec 1 := Scalar.cmpi .slt c256_i32_3 c0_i32_6
  let v20 : BitVec 32 := Scalar.extui v19
  let v21 : BitVec 32 := Scalar.subi v18 v20
  let v22 : BitVec 1 := Scalar.cmpi .ne v16 v21
  let v23 : BitVec 32 := Scalar.remsi v10 c256_i32_3
  let c0_i32_7 : BitVec 32 := 0#32
  let v24 : BitVec 1 := Scalar.cmpi .ne v23 c0_i32_7
  let v25 : BitVec 1 := Scalar.andi v22 v24
  let v11 : BitVec 32 := Scalar.divsi v10 c256_i32_3
  let c1_i32_8 : BitVec 32 := 1#32
  let v26 : BitVec 32 := Scalar.subi v11 c1_i32_8
  let v27 : BitVec 32 := Scalar.select v25 v26 v11
  let c1_i32_30 : BitVec 32 := 1#32
  let c1_i32_29 : BitVec 32 := 1#32
  let v81 : BitVec 32 := Scalar.addi v27 c1_i32_29
  let v82 : BitVec 32 := Scalar.subi v81 c1_i32_30
  let c1_i32_31 : BitVec 32 := 1#32
  let v84 : BitVec 32 := Scalar.divsi v82 c1_i32_31
  let v85 : BitVec 32 := Scalar.muli v84 c1_i32_31
  let v86 : BitVec 32 := Scalar.addi c1_i32_30 v85
  let c1_i32_33 : BitVec 32 := 1#32
  let arg7 : BitVec 32 := Scf.iv v86 c1_i32_33 k0_t2
  let v94 : BitVec 32 := Scalar.subi v27 arg7
  let c256_i32_39 : BitVec 32 := 256#32
  let v95 : BitVec 32 := Scalar.muli v94 c256_i32_39
  let v96 : BitVec 32 := v95
  let v97 : Index := Scalar.indexCast v96
  let c0_40 : Index := 0#32
  ![v97.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdRefIdeal.lean ====
abbrev S4096x512 : Shape := ⟨2, ![4096, 512]⟩
abbrev S4096x4x128 : Shape := ⟨3, ![4096, 4, 128]⟩
abbrev S4x4096x128 : Shape := ⟨3, ![4, 4096, 128]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩

abbrev nBuf : Space → Nat
  | .hbm => 116
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .f32⟩
  | .hbm, ⟨4, _⟩ => ⟨S4096x4x128, .f32⟩
  | .hbm, ⟨5, _⟩ => ⟨S4x4096x128, .f32⟩
  | .hbm, ⟨6, _⟩ => ⟨S4096x512, .f32⟩
  | .hbm, ⟨7, _⟩ => ⟨S4096x4x128, .f32⟩
  | .hbm, ⟨8, _⟩ => ⟨S4x4096x128, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4x4096x4096, .i1⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S_, .f32⟩
  | .hbm, ⟨38, _⟩ => ⟨S4x4096x4096, .i1⟩
  | .hbm, ⟨39, _⟩ => ⟨S4x4096x4096, .f32⟩
  | .hbm, ⟨40, _⟩ => ⟨S4x4096x4096, .f32⟩
  | .hbm, ⟨41, _⟩ => ⟨S_, .f32⟩
  | .hbm, ⟨42, _⟩ => ⟨S_, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S_, .f32⟩
  | .hbm, ⟨47, _⟩ => ⟨S4x4096x4096, .f32⟩
  | .hbm, ⟨48, _⟩ => ⟨S4x4096x4096, .f32⟩
  | .hbm, ⟨49, _⟩ => ⟨S4x4096x4096, .f32⟩
  | .hbm, ⟨50, _⟩ => ⟨S4x4096x4096, .f32⟩
  | .hbm, ⟨51, _⟩ => ⟨S4x4096x4096, .i1⟩
  | .hbm, ⟨52, _⟩ => ⟨S4x4096x4096, .f32⟩
  | .hbm, ⟨53, _⟩ => ⟨S4x4096x4096, .f32⟩
  | .hbm, ⟨54, _⟩ => ⟨S4x4096x4096, .f32⟩
  | .hbm, ⟨55, _⟩ => ⟨S4x4096x4096, .f32⟩
  | .hbm, ⟨56, _⟩ => ⟨S4x4096x4096, .f32⟩
  | .hbm, ⟨57, _⟩ => ⟨S4x4096x4096, .f32⟩
  | .hbm, ⟨58, _⟩ => ⟨S4x4096x4096, .f32⟩
  | .hbm, ⟨59, _⟩ => ⟨S4x4096x4096, .f32⟩
  | .hbm, ⟨60, _⟩ => ⟨S4x4096x4096, .f32⟩
  | .hbm, ⟨61, _⟩ => ⟨S4x4096x4096, .f32⟩
  | .hbm, ⟨62, _⟩ => ⟨S4x4096x4096, .f32⟩
  | .hbm, ⟨63, _⟩ => ⟨S_, .f32⟩
  | .hbm, ⟨64, _⟩ => ⟨S_, .f32⟩
  | .hbm, ⟨65, _⟩ => ⟨S4x4096x4096, .i1⟩
  | .hbm, ⟨66, _⟩ => ⟨S4x4096x4096, .f32⟩
  | .hbm, ⟨67, _⟩ => ⟨S4x4096x4096, .f32⟩
  | .hbm, ⟨68, _⟩ => ⟨S4096x512, .f32⟩
  | .hbm, ⟨69, _⟩ => ⟨S4096x4x128, .f32⟩
  | .hbm, ⟨70, _⟩ => ⟨S4x4096x128, .f32⟩
  | .hbm, ⟨71, _⟩ => ⟨S4x4096x128, .f32⟩
  | .hbm, ⟨72, _⟩ => ⟨S4096x4x128, .f32⟩
  | .hbm, ⟨73, _⟩ => ⟨S4096x512, .f32⟩
  | .hbm, ⟨74, _⟩ => ⟨S4096x512, .bf16⟩
  | .hbm, ⟨75, _⟩ => ⟨S4096x512, .f32⟩
  | .hbm, ⟨76, _⟩ => ⟨S4096x4x128, .f32⟩
  | .hbm, ⟨77, _⟩ => ⟨S4x4096x128, .f32⟩
  | .hbm, ⟨78, _⟩ => ⟨S4096x512, .f32⟩
  | .hbm, ⟨79, _⟩ => ⟨S4096x4x128, .f32⟩
  | .hbm, ⟨80, _⟩ => ⟨S4x4096x128, .f32⟩
  | .hbm, ⟨81, _⟩ => ⟨S4x4096x4096, .f32⟩
  | .hbm, ⟨82, _⟩ => ⟨S_, .f32⟩
  | .hbm, ⟨83, _⟩ => ⟨S4x4096x4096, .f32⟩
  | .hbm, ⟨84, _⟩ => ⟨S4x4096x4096, .f32⟩
  | .hbm, ⟨85, _⟩ => ⟨S4096, .i32⟩
  | .hbm, ⟨86, _⟩ => ⟨S1x4096, .i32⟩
  | .hbm, ⟨87, _⟩ => ⟨S4096x1, .i32⟩
  | .hbm, ⟨88, _⟩ => ⟨S4096x4096, .i32⟩
  | .hbm, ⟨89, _⟩ => ⟨S4096x4096, .i32⟩
  | .hbm, ⟨90, _⟩ => ⟨S4096x4096, .i1⟩
  | .hbm, ⟨91, _⟩ => ⟨S4x4096x4096, .f32⟩
  | .hbm, ⟨92, _⟩ => ⟨S4x4096x4096, .f32⟩
  | .hbm, ⟨93, _⟩ => ⟨S_, .f32⟩
  | .hbm, ⟨94, _⟩ => ⟨S4x4096x4096, .f32⟩
  | .hbm, ⟨95, _⟩ => ⟨S4x4096x4096, .f32⟩
  | .hbm, ⟨96, _⟩ => ⟨S4x4096x4096, .f32⟩
  | .hbm, ⟨97, _⟩ => ⟨S4x4096x4096, .f32⟩
  | .hbm, ⟨98, _⟩ => ⟨S4x4096x4096, .i1⟩
  | .hbm, ⟨99, _⟩ => ⟨S4x4096x4096, .f32⟩
  | .hbm, ⟨100, _⟩ => ⟨S4x4096x4096, .f32⟩
  | .hbm, ⟨101, _⟩ => ⟨S4x4096x4096, .f32⟩
  | .hbm, ⟨102, _⟩ => ⟨S4x4096x4096, .f32⟩
  | .hbm, ⟨103, _⟩ => ⟨S4x4096x4096, .f32⟩
  | .hbm, ⟨104, _⟩ => ⟨S4x4096x4096, .f32⟩
  | .hbm, ⟨105, _⟩ => ⟨S4x4096x4096, .f32⟩
  | .hbm, ⟨106, _⟩ => ⟨S4x4096x4096, .f32⟩
  | .hbm, ⟨107, _⟩ => ⟨S4x4096x4096, .f32⟩
  | .hbm, ⟨108, _⟩ => ⟨S_, .f32⟩
  | .hbm, ⟨109, _⟩ => ⟨S_, .f32⟩
  | .hbm, ⟨110, _⟩ => ⟨S4x4096x4096, .i1⟩
  | .hbm, ⟨111, _⟩ => ⟨S4x4096x4096, .f32⟩
  | .hbm, ⟨112, _⟩ => ⟨S4x4096x4096, .f32⟩
  | .hbm, ⟨113, _⟩ => ⟨S_, .f32⟩
  | .hbm, ⟨114, _⟩ => ⟨S4x4096, .f32⟩
  | .hbm, ⟨115, _⟩ => ⟨S4x4096x1, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v17 : Ref sig .tc := ⟨.hbm, 40, rfl⟩
abbrev main_call2_cst : Ref sig .tc := ⟨.hbm, 41, rfl⟩
abbrev main_call2_v0 : Ref sig .tc := ⟨.hbm, 42, rfl⟩
abbrev main_v18 : Ref sig .tc := ⟨.hbm, 43, rfl⟩
abbrev main_v19 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_cst_2 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_call5_v0 : Ref sig .tc := ⟨.hbm, 92, rfl⟩
abbrev main_call5_call0_cst : Ref sig .tc := ⟨.hbm, 93, rfl⟩
abbrev main_call5_call0_v0 : Ref sig .tc := ⟨.hbm, 94, rfl⟩
abbrev main_call5_call0_v1 : Ref sig .tc := ⟨.hbm, 95, rfl⟩
abbrev main_call5_call0_v2 : Ref sig .tc := ⟨.hbm, 96, rfl⟩
abbrev main_call5_call0_v3 : Ref sig .tc := ⟨.hbm, 97, rfl⟩
abbrev main_call5_call0_v4 : Ref sig .tc := ⟨.hbm, 98, rfl⟩
abbrev main_call5_call0_v5 : Ref sig .tc := ⟨.hbm, 99, rfl⟩
abbrev main_call5_call0_v6 : Ref sig .tc := ⟨.hbm, 100, rfl⟩
abbrev main_call5_call0_v7 : Ref sig .tc := ⟨.hbm, 101, rfl⟩
abbrev main_call5_call0_v8 : Ref sig .tc := ⟨.hbm, 102, rfl⟩
abbrev main_call5_call0_v9 : Ref sig .tc := ⟨.hbm, 103, rfl⟩
abbrev main_call5_call0_v10 : Ref sig .tc := ⟨.hbm, 104, rfl⟩
abbrev main_call5_call0_v11 : Ref sig .tc := ⟨.hbm, 105, rfl⟩
abbrev main_call5_v1 : Ref sig .tc := ⟨.hbm, 106, rfl⟩
abbrev main_v47 : Ref sig .tc := ⟨.hbm, 107, rfl⟩
abbrev main_cst_3 : Ref sig .tc := ⟨.hbm, 108, rfl⟩
abbrev main_call6_v0 : Ref sig .tc := ⟨.hbm, 109, rfl⟩
abbrev main_call6_v1 : Ref sig .tc := ⟨.hbm, 110, rfl⟩
abbrev main_call6_v2 : Ref sig .tc := ⟨.hbm, 111, rfl⟩
abbrev main_v48 : Ref sig .tc := ⟨.hbm, 112, rfl⟩
abbrev main_cst_4 : Ref sig .tc := ⟨.hbm, 113, rfl⟩
abbrev main_v49 : Ref sig .tc := ⟨.hbm, 114, rfl⟩
abbrev main_v50 : Ref sig .tc := ⟨.hbm, 115, rfl⟩

abbrev nD : Nat := 1
abbrev τ : Topo := Topo.v7x

variable {F : FTy → Type} [FloatOps F]
-- ==== Gate.lean ====
abbrev S4096x2048 : Shape := ⟨2, ![4096, 2048]⟩
abbrev S4x2048x1408 : Shape := ⟨3, ![4, 2048, 1408]⟩
abbrev S4096x5632 : Shape := ⟨2, ![4096, 5632]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateRefIdeal.lean ====
abbrev S4096x2048 : Shape := ⟨2, ![4096, 2048]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S4096x5632 : Shape := ⟨2, ![4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4096x2048, .f32⟩
  | .hbm, ⟨3, _⟩ => ⟨S4x2048x1408, .f32⟩
  | .hbm, ⟨4, _⟩ => ⟨S2048x4x1408, .f32⟩
  | .hbm, ⟨5, _⟩ => ⟨S2048x5632, .f32⟩
  | .hbm, ⟨6, _⟩ => ⟨S4096x5632, .f32⟩
  | .hbm, ⟨7, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GateDa.lean ====
abbrev S4096x2048 : Shape := ⟨2, ![4096, 2048]⟩
abbrev S4x2048x1408 : Shape := ⟨3, ![4, 2048, 1408]⟩
abbrev S4096x5632 : Shape := ⟨2, ![4096, 5632]⟩
abbrev S1024x5632 : Shape := ⟨2, ![1024, 5632]⟩
abbrev S4x512x1408 : Shape := ⟨3, ![4, 512, 1408]⟩
abbrev S1024x512 : Shape := ⟨2, ![1024, 512]⟩
abbrev S1x512x1408 : Shape := ⟨3, ![1, 512, 1408]⟩
abbrev S512x1408 : Shape := ⟨2, ![512, 1408]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4096x5632, .bf16⟩
  | .hbm, ⟨3, _⟩ => ⟨S4096x2048, .bf16⟩
  | .local _ .vmem, ⟨0, _⟩ => ⟨S1024x5632, .bf16⟩
  | .local _ .vmem, ⟨1, _⟩ => ⟨S1024x5632, .bf16⟩
  | .local _ .vmem, ⟨2, _⟩ => ⟨S4x512x1408, .bf16⟩
  | .local _ .vmem, ⟨3, _⟩ => ⟨S4x512x1408, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateDaRefIdeal.lean ====
abbrev S4096x2048 : Shape := ⟨2, ![4096, 2048]⟩
abbrev S4x2048x1408 : Shape := ⟨3, ![4, 2048, 1408]⟩
abbrev S4096x5632 : Shape := ⟨2, ![4096, 5632]⟩
abbrev S2048x4x1408 : Shape := ⟨3, ![2048, 4, 1408]⟩
abbrev S2048x5632 : Shape := ⟨2, ![2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4096x5632, .bf16⟩
  | .hbm, ⟨3, _⟩ => ⟨S4096x2048, .f32⟩
  | .hbm, ⟨4, _⟩ => ⟨S4x2048x1408, .f32⟩
  | .hbm, ⟨5, _⟩ => ⟨S2048x4x1408, .f32⟩
  | .hbm, ⟨6, _⟩ => ⟨S2048x5632, .f32⟩
  | .hbm, ⟨7, _⟩ => ⟨S4096x5632, .f32⟩
  | .hbm, ⟨8, _⟩ => ⟨S4096x5632, .bf16⟩
  | .hbm, ⟨9, _⟩ => ⟨S4096x5632, .f32⟩
  | .hbm, ⟨10, _⟩ => ⟨S4096x2048, .f32⟩
  | .hbm, ⟨11, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GateDw.lean ====
abbrev S4096x2048 : Shape := ⟨2, ![4096, 2048]⟩
abbrev S4x2048x1408 : Shape := ⟨3, ![4, 2048, 1408]⟩
abbrev S4096x5632 : Shape := ⟨2, ![4096, 5632]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4096x5632, .bf16⟩
  | .hbm, ⟨3, _⟩ => ⟨S4x2048x1408, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .bf16⟩
  | .local _ .vmem, ⟨5, _⟩ => ⟨S1x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateDwRefIdeal.lean ====
abbrev S4096x2048 : Shape := ⟨2, ![4096, 2048]⟩
abbrev S4x2048x1408 : Shape := ⟨3, ![4, 2048, 1408]⟩
abbrev S4096x5632 : Shape := ⟨2, ![4096, 5632]⟩
abbrev S2048x4x1408 : Shape := ⟨3, ![2048, 4, 1408]⟩
abbrev S2048x5632 : Shape := ⟨2, ![2048, 5632]⟩
abbrev S5632x2048 : Shape := ⟨2, ![5632, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4096x5632, .bf16⟩
  | .hbm, ⟨3, _⟩ => ⟨S4096x2048, .f32⟩
  | .hbm, ⟨4, _⟩ => ⟨S4x2048x1408, .f32⟩
  | .hbm, ⟨5, _⟩ => ⟨S2048x4x1408, .f32⟩
  | .hbm, ⟨6, _⟩ => ⟨S2048x5632, .f32⟩
  | .hbm, ⟨7, _⟩ => ⟨S4096x5632, .f32⟩
  | .hbm, ⟨8, _⟩ => ⟨S4096x5632, .bf16⟩
  | .hbm, ⟨9, _⟩ => ⟨S4096x5632, .f32⟩
  | .hbm, ⟨10, _⟩ => ⟨S5632x2048, .f32⟩
  | .hbm, ⟨11, _⟩ => ⟨S2048x5632, .f32⟩
  | .hbm, ⟨12, _⟩ => ⟨S2048x4x1408, .f32⟩
  | .hbm, ⟨13, _⟩ => ⟨S4x2048x1408, .f32⟩
  | .hbm, ⟨14, _⟩ => ⟨S4x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== In.lean ====
abbrev S4096x2048 : Shape := ⟨2, ![4096, 2048]⟩
abbrev S4x2048x1536 : Shape := ⟨3, ![4, 2048, 1536]⟩
abbrev S4096x6144 : Shape := ⟨2, ![4096, 6144]⟩
abbrev S1024x2048 : Shape := ⟨2, ![1024, 2048]⟩
abbrev S1x2048x1536 : Shape := ⟨3, ![1, 2048, 1536]⟩
abbrev S1024x1536 : Shape := ⟨2, ![1024, 1536]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1024x1536, .f32⟩
  | .local _ .vmem, ⟨5, _⟩ => ⟨S1024x1536, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRefIdeal.lean ====
abbrev S4096x2048 : Shape := ⟨2, ![4096, 2048]⟩
abbrev S4x2048x1536 : Shape := ⟨3, ![4, 2048, 1536]⟩
abbrev S2048x4x1536 : Shape := ⟨3, ![2048, 4, 1536]⟩
abbrev S2048x6144 : Shape := ⟨2, ![2048, 6144]⟩
abbrev S4096x6144 : Shape := ⟨2, ![4096, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4096x2048, .f32⟩
  | .hbm, ⟨3, _⟩ => ⟨S4x2048x1536, .f32⟩
  | .hbm, ⟨4, _⟩ => ⟨S2048x4x1536, .f32⟩
  | .hbm, ⟨5, _⟩ => ⟨S2048x6144, .f32⟩
  | .hbm, ⟨6, _⟩ => ⟨S4096x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InDa.lean ====
abbrev S4096x2048 : Shape := ⟨2, ![4096, 2048]⟩
abbrev S4x2048x1536 : Shape := ⟨3, ![4, 2048, 1536]⟩
abbrev S4096x6144 : Shape := ⟨2, ![4096, 6144]⟩
abbrev S1024x6144 : Shape := ⟨2, ![1024, 6144]⟩
abbrev S4x512x1536 : Shape := ⟨3, ![4, 512, 1536]⟩
abbrev S1024x512 : Shape := ⟨2, ![1024, 512]⟩
abbrev S1x512x1536 : Shape := ⟨3, ![1, 512, 1536]⟩
abbrev S512x1536 : Shape := ⟨2, ![512, 1536]⟩
abbrev S1024x1536 : Shape := ⟨2, ![1024, 1536]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4096x6144, .bf16⟩
  | .hbm, ⟨3, _⟩ => ⟨S4096x2048, .bf16⟩
  | .local _ .vmem, ⟨0, _⟩ => ⟨S1024x6144, .bf16⟩
  | .local _ .vmem, ⟨1, _⟩ => ⟨S1024x6144, .bf16⟩
  | .local _ .vmem, ⟨2, _⟩ => ⟨S4x512x1536, .bf16⟩
  | .local _ .vmem, ⟨3, _⟩ => ⟨S4x512x1536, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDaRefIdeal.lean ====
abbrev S4096x2048 : Shape := ⟨2, ![4096, 2048]⟩
abbrev S4x2048x1536 : Shape := ⟨3, ![4, 2048, 1536]⟩
abbrev S4096x6144 : Shape := ⟨2, ![4096, 6144]⟩
abbrev S2048x4x1536 : Shape := ⟨3, ![2048, 4, 1536]⟩
abbrev S2048x6144 : Shape := ⟨2, ![2048, 6144]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4096x6144, .bf16⟩
  | .hbm, ⟨3, _⟩ => ⟨S4096x2048, .f32⟩
  | .hbm, ⟨4, _⟩ => ⟨S4x2048x1536, .f32⟩
  | .hbm, ⟨5, _⟩ => ⟨S2048x4x1536, .f32⟩
  | .hbm, ⟨6, _⟩ => ⟨S2048x6144, .f32⟩
  | .hbm, ⟨7, _⟩ => ⟨S4096x6144, .f32⟩
  | .hbm, ⟨8, _⟩ => ⟨S4096x6144, .bf16⟩
  | .hbm, ⟨9, _⟩ => ⟨S4096x6144, .f32⟩
  | .hbm, ⟨10, _⟩ => ⟨S4096x2048, .f32⟩
  | .hbm, ⟨11, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InDw.lean ====
abbrev S4096x2048 : Shape := ⟨2, ![4096, 2048]⟩
abbrev S4x2048x1536 : Shape := ⟨3, ![4, 2048, 1536]⟩
abbrev S4096x6144 : Shape := ⟨2, ![4096, 6144]⟩
abbrev S4096x512 : Shape := ⟨2, ![4096, 512]⟩
abbrev S4096x1536 : Shape := ⟨2, ![4096, 1536]⟩
abbrev S1x512x1536 : Shape := ⟨3, ![1, 512, 1536]⟩
abbrev S512x1536 : Shape := ⟨2, ![512, 1536]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4096x6144, .bf16⟩
  | .hbm, ⟨3, _⟩ => ⟨S4x2048x1536, .bf16⟩
  | .local _ .vmem, ⟨0, _⟩ => ⟨S4096x512, .bf16⟩
  | .local _ .vmem, ⟨1, _⟩ => ⟨S4096x512, .bf16⟩
  | .local _ .vmem, ⟨2, _⟩ => ⟨S4096x1536, .bf16⟩
  | .local _ .vmem, ⟨3, _⟩ => ⟨S4096x1536, .bf16⟩
  | .local _ .vmem, ⟨4, _⟩ => ⟨S1x512x1536, .bf16⟩
  | .local _ .vmem, ⟨5, _⟩ => ⟨S1x512x1536, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDwRefIdeal.lean ====
abbrev S4096x2048 : Shape := ⟨2, ![4096, 2048]⟩
abbrev S4x2048x1536 : Shape := ⟨3, ![4, 2048, 1536]⟩
abbrev S4096x6144 : Shape := ⟨2, ![4096, 6144]⟩
abbrev S2048x4x1536 : Shape := ⟨3, ![2048, 4, 1536]⟩
abbrev S2048x6144 : Shape := ⟨2, ![2048, 6144]⟩
abbrev S6144x2048 : Shape := ⟨2, ![6144, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4096x6144, .bf16⟩
  | .hbm, ⟨3, _⟩ => ⟨S4096x2048, .f32⟩
  | .hbm, ⟨4, _⟩ => ⟨S4x2048x1536, .f32⟩
  | .hbm, ⟨5, _⟩ => ⟨S2048x4x1536, .f32⟩
  | .hbm, ⟨6, _⟩ => ⟨S2048x6144, .f32⟩
  | .hbm, ⟨7, _⟩ => ⟨S4096x6144, .f32⟩
  | .hbm, ⟨8, _⟩ => ⟨S4096x6144, .bf16⟩
  | .hbm, ⟨9, _⟩ => ⟨S4096x6144, .f32⟩
  | .hbm, ⟨10, _⟩ => ⟨S6144x2048, .f32⟩
  | .hbm, ⟨11, _⟩ => ⟨S2048x6144, .f32⟩
  | .hbm, ⟨12, _⟩ => ⟨S2048x4x1536, .f32⟩
  | .hbm, ⟨13, _⟩ => ⟨S4x2048x1536, .f32⟩
  | .hbm, ⟨14, _⟩ => ⟨S4x2048x1536, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Lat.lean ====
abbrev S4096x512 : Shape := ⟨2, ![4096, 512]⟩
abbrev S4x512x256 : Shape := ⟨3, ![4, 512, 256]⟩
abbrev S4096x1024 : Shape := ⟨2, ![4096, 1024]⟩
abbrev S1024x512 : Shape := ⟨2, ![1024, 512]⟩
abbrev S1x512x256 : Shape := ⟨3, ![1, 512, 256]⟩
abbrev S1024x256 : Shape := ⟨2, ![1024, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4x512x256, .bf16⟩
  | .hbm, ⟨2, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1x512x256, .bf16⟩
  | .local _ .vmem, ⟨3, _⟩ => ⟨S1x512x256, .bf16⟩
  | .local _ .vmem, ⟨4, _⟩ => ⟨S1024x256, .bf16⟩
  | .local _ .vmem, ⟨5, _⟩ => ⟨S1024x256, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LatRefIdeal.lean ====
abbrev S4096x512 : Shape := ⟨2, ![4096, 512]⟩
abbrev S4x512x256 : Shape := ⟨3, ![4, 512, 256]⟩
abbrev S512x4x256 : Shape := ⟨3, ![512, 4, 256]⟩
abbrev S512x1024 : Shape := ⟨2, ![512, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4x512x256, .bf16⟩
  | .hbm, ⟨2, _⟩ => ⟨S4096x512, .f32⟩
  | .hbm, ⟨3, _⟩ => ⟨S4x512x256, .f32⟩
  | .hbm, ⟨4, _⟩ => ⟨S512x4x256, .f32⟩
  | .hbm, ⟨5, _⟩ => ⟨S512x1024, .f32⟩
  | .hbm, ⟨6, _⟩ => ⟨S4096x1024, .f32⟩
  | .hbm, ⟨7, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== LatDa.lean ====
abbrev S4096x512 : Shape := ⟨2, ![4096, 512]⟩
abbrev S4x512x256 : Shape := ⟨3, ![4, 512, 256]⟩
abbrev S4096x1024 : Shape := ⟨2, ![4096, 1024]⟩
abbrev S1024x1024 : Shape := ⟨2, ![1024, 1024]⟩
abbrev S1024x512 : Shape := ⟨2, ![1024, 512]⟩
abbrev S1x512x256 : Shape := ⟨3, ![1, 512, 256]⟩
abbrev S512x256 : Shape := ⟨2, ![512, 256]⟩
abbrev S1024x256 : Shape := ⟨2, ![1024, 256]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4x512x256, .bf16⟩
  | .hbm, ⟨2, _⟩ => ⟨S4096x1024, .bf16⟩
  | .hbm, ⟨3, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S4x512x256, .bf16⟩
  | .local _ .vmem, ⟨3, _⟩ => ⟨S1024x512, .bf16⟩
  | .local _ .vmem, ⟨4, _⟩ => ⟨S1024x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LatDaRefIdeal.lean ====
abbrev S4096x512 : Shape := ⟨2, ![4096, 512]⟩
abbrev S4x512x256 : Shape := ⟨3, ![4, 512, 256]⟩
abbrev S4096x1024 : Shape := ⟨2, ![4096, 1024]⟩
abbrev S512x4x256 : Shape := ⟨3, ![512, 4, 256]⟩
abbrev S512x1024 : Shape := ⟨2, ![512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4x512x256, .bf16⟩
  | .hbm, ⟨2, _⟩ => ⟨S4096x1024, .bf16⟩
  | .hbm, ⟨3, _⟩ => ⟨S4096x512, .f32⟩
  | .hbm, ⟨4, _⟩ => ⟨S4x512x256, .f32⟩
  | .hbm, ⟨5, _⟩ => ⟨S512x4x256, .f32⟩
  | .hbm, ⟨6, _⟩ => ⟨S512x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x512, .f32⟩
  | .hbm, ⟨11, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== LatDw.lean ====
abbrev S4096x512 : Shape := ⟨2, ![4096, 512]⟩
abbrev S4x512x256 : Shape := ⟨3, ![4, 512, 256]⟩
abbrev S4096x1024 : Shape := ⟨2, ![4096, 1024]⟩
abbrev S4096x256 : Shape := ⟨2, ![4096, 256]⟩
abbrev S1x512x256 : Shape := ⟨3, ![1, 512, 256]⟩
abbrev S512x256 : Shape := ⟨2, ![512, 256]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4x512x256, .bf16⟩
  | .hbm, ⟨2, _⟩ => ⟨S4096x1024, .bf16⟩
  | .hbm, ⟨3, _⟩ => ⟨S4x512x256, .bf16⟩
  | .local _ .vmem, ⟨0, _⟩ => ⟨S4096x512, .bf16⟩
  | .local _ .vmem, ⟨1, _⟩ => ⟨S4096x256, .bf16⟩
  | .local _ .vmem, ⟨2, _⟩ => ⟨S4096x256, .bf16⟩
  | .local _ .vmem, ⟨3, _⟩ => ⟨S1x512x256, .bf16⟩
  | .local _ .vmem, ⟨4, _⟩ => ⟨S1x512x256, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LatDwRefIdeal.lean ====
abbrev S4096x512 : Shape := ⟨2, ![4096, 512]⟩
abbrev S4x512x256 : Shape := ⟨3, ![4, 512, 256]⟩
abbrev S4096x1024 : Shape := ⟨2, ![4096, 1024]⟩
abbrev S512x4x256 : Shape := ⟨3, ![512, 4, 256]⟩
abbrev S512x1024 : Shape := ⟨2, ![512, 1024]⟩
abbrev S1024x512 : Shape := ⟨2, ![1024, 512]⟩

abbrev nBuf : Space → Nat
  | .hbm => 15
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4x512x256, .bf16⟩
  | .hbm, ⟨2, _⟩ => ⟨S4096x1024, .bf16⟩
  | .hbm, ⟨3, _⟩ => ⟨S4096x512, .f32⟩
  | .hbm, ⟨4, _⟩ => ⟨S4x512x256, .f32⟩
  | .hbm, ⟨5, _⟩ => ⟨S512x4x256, .f32⟩
  | .hbm, ⟨6, _⟩ => ⟨S512x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S1024x512, .f32⟩
  | .hbm, ⟨11, _⟩ => ⟨S512x1024, .f32⟩
  | .hbm, ⟨12, _⟩ => ⟨S512x4x256, .f32⟩
  | .hbm, ⟨13, _⟩ => ⟨S4x512x256, .f32⟩
  | .hbm, ⟨14, _⟩ => ⟨S4x512x256, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S1024x5632 : Shape := ⟨2, ![1024, 5632]⟩
abbrev S5632x256 : Shape := ⟨2, ![5632, 256]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x256, .bf16⟩
  | .local _ .vmem, ⟨3, _⟩ => ⟨S5632x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDa.lean ====
abbrev S4096x5632 : Shape := ⟨2, ![4096, 5632]⟩
abbrev S5632x2048 : Shape := ⟨2, ![5632, 2048]⟩
abbrev S4096x2048 : Shape := ⟨2, ![4096, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .bf16⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDaRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x5632, .f32⟩
  | .hbm, ⟨7, _⟩ => ⟨S4096x5632, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S4096x5632 : Shape := ⟨2, ![4096, 5632]⟩
abbrev S5632x2048 : Shape := ⟨2, ![5632, 2048]⟩
abbrev S4096x2048 : Shape := ⟨2, ![4096, 2048]⟩
abbrev S4096x512 : Shape := ⟨2, ![4096, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .f32⟩
  | .local _ .vmem, ⟨3, _⟩ => ⟨S4096x512, .f32⟩
  | .local _ .vmem, ⟨4, _⟩ => ⟨S512x512, .bf16⟩
  | .local _ .vmem, ⟨5, _⟩ => ⟨S512x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDwRefIdeal.lean ====
abbrev S4096x5632 : Shape := ⟨2, ![4096, 5632]⟩
abbrev S5632x2048 : Shape := ⟨2, ![5632, 2048]⟩
abbrev S4096x2048 : Shape := ⟨2, ![4096, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S2048x5632, .f32⟩
  | .hbm, ⟨7, _⟩ => ⟨S5632x2048, .f32⟩
  | .hbm, ⟨8, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDa.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDaRefIdeal.lean ====
abbrev S4096x2048 : Shape := ⟨2, ![4096, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S4096x512 : Shape := ⟨2, ![4096, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .f32⟩
  | .local _ .vmem, ⟨3, _⟩ => ⟨S4096x512, .f32⟩
  | .local _ .vmem, ⟨4, _⟩ => ⟨S512x512, .bf16⟩
  | .local _ .vmem, ⟨5, _⟩ => ⟨S512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDwRefIdeal.lean ====
abbrev S4096x2048 : Shape := ⟨2, ![4096, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Swiglu.lean ====
abbrev S4096x5632 : Shape := ⟨2, ![4096, 5632]⟩
abbrev S256x5632 : Shape := ⟨2, ![256, 5632]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4096x5632, .bf16⟩
  | .local _ .vmem, ⟨0, _⟩ => ⟨S256x5632, .bf16⟩
  | .local _ .vmem, ⟨1, _⟩ => ⟨S256x5632, .bf16⟩
  | .local _ .vmem, ⟨2, _⟩ => ⟨S256x5632, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwigluRefIdeal.lean ====
abbrev S4096x5632 : Shape := ⟨2, ![4096, 5632]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4096x5632, .f32⟩
  | .hbm, ⟨3, _⟩ => ⟨S4096x5632, .f32⟩
  | .hbm, ⟨4, _⟩ => ⟨S4096x5632, .f32⟩
  | .hbm, ⟨5, _⟩ => ⟨S_, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x5632, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== SwigluB.lean ====
abbrev S4096x5632 : Shape := ⟨2, ![4096, 5632]⟩
abbrev S256x5632 : Shape := ⟨2, ![256, 5632]⟩

abbrev nBuf : Space → Nat
  | .hbm => 5
  | .vmem => 10
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .local _ .vmem, ⟨0, _⟩ => ⟨S256x5632, .bf16⟩
  | .local _ .vmem, ⟨1, _⟩ => ⟨S256x5632, .bf16⟩
  | .local _ .vmem, ⟨2, _⟩ => ⟨S256x5632, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | .local _ .vmem, ⟨6, _⟩ => ⟨S256x5632, .bf16⟩
  | .local _ .vmem, ⟨7, _⟩ => ⟨S256x5632, .bf16⟩
  | .local _ .vmem, ⟨8, _⟩ => ⟨S256x5632, .bf16⟩
  | .local _ .vmem, ⟨9, _⟩ => ⟨S256x5632, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SwigluBRefIdeal.lean ====
abbrev S4096x5632 : Shape := ⟨2, ![4096, 5632]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4096x5632, .bf16⟩
  | .hbm, ⟨3, _⟩ => ⟨S4096x5632, .f32⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .bf16⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .bf16⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== AdamIn.lean ====
abbrev S4x2048x1425 : Shape := ⟨3, ![4, 2048, 1425]⟩
abbrev S8192x1425 : Shape := ⟨2, ![8192, 1425]⟩
abbrev S256x1425 : Shape := ⟨2, ![256, 1425]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x1425, .f32⟩
  | .hbm, ⟨1, _⟩ => ⟨S4x2048x1425, .f32⟩
  | .hbm, ⟨2, _⟩ => ⟨S4x2048x1425, .f32⟩
  | .hbm, ⟨3, _⟩ => ⟨S4x2048x1425, .f32⟩
  | .hbm, ⟨4, _⟩ => ⟨S8192x1425, .f32⟩
  | .hbm, ⟨5, _⟩ => ⟨S8192x1425, .f32⟩
  | .hbm, ⟨6, _⟩ => ⟨S8192x1425, .f32⟩
  | .hbm, ⟨7, _⟩ => ⟨S8192x1425, .f32⟩
  | .hbm, ⟨8, _⟩ => ⟨S8192x1425, .f32⟩
  | .hbm, ⟨9, _⟩ => ⟨S8192x1425, .f32⟩
  | .hbm, ⟨10, _⟩ => ⟨S8192x1425, .f32⟩
  | .local _ .vmem, ⟨0, _⟩ => ⟨S256x1425, .f32⟩
  | .local _ .vmem, ⟨1, _⟩ => ⟨S256x1425, .f32⟩
  | .local _ .vmem, ⟨2, _⟩ => ⟨S256x1425, .f32⟩
  | .local _ .vmem, ⟨3, _⟩ => ⟨S256x1425, .f32⟩
  | .local _ .vmem, ⟨4, _⟩ => ⟨S256x1425, .f32⟩
  | .local _ .vmem, ⟨5, _⟩ => ⟨S256x1425, .f32⟩
  | .local _ .vmem, ⟨6, _⟩ => ⟨S256x1425, .f32⟩
  | .local _ .vmem, ⟨7, _⟩ => ⟨S256x1425, .f32⟩
  | .local _ .vmem, ⟨8, _⟩ => ⟨S256x1425, .f32⟩
  | .local _ .vmem, ⟨9, _⟩ => ⟨S256x1425, .f32⟩
  | .local _ .vmem, ⟨10, _⟩ => ⟨S256x1425, .f32⟩
  | .local _ .vmem, ⟨11, _⟩ => ⟨S256x1425, .f32⟩
  | .local _ .vmem, ⟨12, _⟩ => ⟨S256x1425, .f32⟩
  | .local _ .vmem, ⟨13, _⟩ => ⟨S256x1425, .f32⟩
  | _, _ => ⟨S4x2048x1425, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1425 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1425 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1425 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1425 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1425 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1425 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1425 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S4x2048x1425 : Shape := ⟨3, ![4, 2048, 1425]⟩
abbrev S8192x1425 : Shape := ⟨2, ![8192, 1425]⟩
abbrev S256x1425 : Shape := ⟨2, ![256, 1425]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x1425, .f32⟩
  | .hbm, ⟨1, _⟩ => ⟨S4x2048x1425, .f32⟩
  | .hbm, ⟨2, _⟩ => ⟨S4x2048x1425, .f32⟩
  | .hbm, ⟨3, _⟩ => ⟨S4x2048x1425, .f32⟩
  | .hbm, ⟨4, _⟩ => ⟨S8192x1425, .f32⟩
  | .hbm, ⟨5, _⟩ => ⟨S8192x1425, .f32⟩
  | .hbm, ⟨6, _⟩ => ⟨S8192x1425, .f32⟩
  | .hbm, ⟨7, _⟩ => ⟨S8192x1425, .f32⟩
  | .hbm, ⟨8, _⟩ => ⟨S8192x1425, .f32⟩
  | .hbm, ⟨9, _⟩ => ⟨S8192x1425, .f32⟩
  | .hbm, ⟨10, _⟩ => ⟨S8192x1425, .f32⟩
  | .local _ .vmem, ⟨0, _⟩ => ⟨S256x1425, .f32⟩
  | .local _ .vmem, ⟨1, _⟩ => ⟨S256x1425, .f32⟩
  | .local _ .vmem, ⟨2, _⟩ => ⟨S256x1425, .f32⟩
  | .local _ .vmem, ⟨3, _⟩ => ⟨S256x1425, .f32⟩
  | .local _ .vmem, ⟨4, _⟩ => ⟨S256x1425, .f32⟩
  | .local _ .vmem, ⟨5, _⟩ => ⟨S256x1425, .f32⟩
  | .local _ .vmem, ⟨6, _⟩ => ⟨S256x1425, .f32⟩
  | .local _ .vmem, ⟨7, _⟩ => ⟨S256x1425, .f32⟩
  | .local _ .vmem, ⟨8, _⟩ => ⟨S256x1425, .f32⟩
  | .local _ .vmem, ⟨9, _⟩ => ⟨S256x1425, .f32⟩
  | .local _ .vmem, ⟨10, _⟩ => ⟨S256x1425, .f32⟩
  | .local _ .vmem, ⟨11, _⟩ => ⟨S256x1425, .f32⟩
  | .local _ .vmem, ⟨12, _⟩ => ⟨S256x1425, .f32⟩
  | .local _ .vmem, ⟨13, _⟩ => ⟨S256x1425, .f32⟩
  | _, _ => ⟨S4x2048x1425, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1425 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1425 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1425 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1425 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1425 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1425 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1425 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S4x2048x1425 : Shape := ⟨3, ![4, 2048, 1425]⟩
abbrev S_ : Shape := ⟨0, ![]⟩
abbrev S8192x1425 : Shape := ⟨2, ![8192, 1425]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1425, .f32⟩
  | .hbm, ⟨1, _⟩ => ⟨S4x2048x1425, .f32⟩
  | .hbm, ⟨2, _⟩ => ⟨S4x2048x1425, .f32⟩
  | .hbm, ⟨3, _⟩ => ⟨S4x2048x1425, .f32⟩
  | .hbm, ⟨4, _⟩ => ⟨S_, .f32⟩
  | .hbm, ⟨5, _⟩ => ⟨S4x2048x1425, .f32⟩
  | .hbm, ⟨6, _⟩ => ⟨S4x2048x1425, .f32⟩
  | .hbm, ⟨7, _⟩ => ⟨S_, .f32⟩
  | .hbm, ⟨8, _⟩ => ⟨S4x2048x1425, .f32⟩
  | .hbm, ⟨9, _⟩ => ⟨S4x2048x1425, .f32⟩
  | .hbm, ⟨10, _⟩ => ⟨S4x2048x1425, .f32⟩
  | .hbm, ⟨11, _⟩ => ⟨S_, .f32⟩
  | .hbm, ⟨12, _⟩ => ⟨S4x2048x1425, .f32⟩
  | .hbm, ⟨13, _⟩ => ⟨S4x2048x1425, .f32⟩
  | .hbm, ⟨14, _⟩ => ⟨S4x2048x1425, .f32⟩
  | .hbm, ⟨15, _⟩ => ⟨S_, .f32⟩
  | .hbm, ⟨16, _⟩ => ⟨S4x2048x1425, .f32⟩
  | .hbm, ⟨17, _⟩ => ⟨S4x2048x1425, .f32⟩
  | .hbm, ⟨18, _⟩ => ⟨S4x2048x1425, .f32⟩
  | .hbm, ⟨19, _⟩ => ⟨S_, .f32⟩
  | .hbm, ⟨20, _⟩ => ⟨S4x2048x1425, .f32⟩
  | .hbm, ⟨21, _⟩ => ⟨S4x2048x1425, .f32⟩
  | .hbm, ⟨22, _⟩ => ⟨S_, .f32⟩
  | .hbm, ⟨23, _⟩ => ⟨S4x2048x1425, .f32⟩
  | .hbm, ⟨24, _⟩ => ⟨S4x2048x1425, .f32⟩
  | .hbm, ⟨25, _⟩ => ⟨S4x2048x1425, .f32⟩
  | .hbm, ⟨26, _⟩ => ⟨S_, .f32⟩
  | .hbm, ⟨27, _⟩ => ⟨S4x2048x1425, .f32⟩
  | .hbm, ⟨28, _⟩ => ⟨S4x2048x1425, .f32⟩
  | .hbm, ⟨29, _⟩ => ⟨S4x2048x1425, .f32⟩
  | .hbm, ⟨30, _⟩ => ⟨S_, .f32⟩
  | .hbm, ⟨31, _⟩ => ⟨S4x2048x1425, .f32⟩
  | .hbm, ⟨32, _⟩ => ⟨S4x2048x1425, .f32⟩
  | .hbm, ⟨33, _⟩ => ⟨S4x2048x1425, .f32⟩
  | .hbm, ⟨34, _⟩ => ⟨S_, .f32⟩
  | .hbm, ⟨35, _⟩ => ⟨S4x2048x1425, .f32⟩
  | .hbm, ⟨36, _⟩ => ⟨S4x2048x1425, .f32⟩
  | .hbm, ⟨37, _⟩ => ⟨S8192x1425, .f32⟩
  | .hbm, ⟨38, _⟩ => ⟨S8192x1425, .f32⟩
  | .hbm, ⟨39, _⟩ => ⟨S8192x1425, .f32⟩
  | _, _ => ⟨S4x2048x1425, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamUq.lean ====
abbrev S4x512x192 : Shape := ⟨3, ![4, 512, 192]⟩
abbrev S2048x192 : Shape := ⟨2, ![2048, 192]⟩
abbrev S256x192 : Shape := ⟨2, ![256, 192]⟩

abbrev nBuf : Space → Nat
  | .hbm => 11
  | .vmem => 14
  | .smem => 0
  | _ => 0

abbrev bufTy : (tb : Table) → Fin (tcTables nBuf tb) → BufTy
  | .hbm, ⟨0, _⟩ => ⟨S4x512x192, .f32⟩
  | .hbm, ⟨1, _⟩ => ⟨S4x512x192, .f32⟩
  | .hbm, ⟨2, _⟩ => ⟨S4x512x192, .f32⟩
  | .hbm, ⟨3, _⟩ => ⟨S4x512x192, .f32⟩
  | .hbm, ⟨4, _⟩ => ⟨S2048x192, .f32⟩
  | .hbm, ⟨5, _⟩ => ⟨S2048x192, .f32⟩
  | .hbm, ⟨6, _⟩ => ⟨S2048x192, .f32⟩
  | .hbm, ⟨7, _⟩ => ⟨S2048x192, .f32⟩
  | .hbm, ⟨8, _⟩ => ⟨S2048x192, .f32⟩
  | .hbm, ⟨9, _⟩ => ⟨S2048x192, .f32⟩
  | .hbm, ⟨10, _⟩ => ⟨S2048x192, .f32⟩
  | .local _ .vmem, ⟨0, _⟩ => ⟨S256x192, .f32⟩
  | .local _ .vmem, ⟨1, _⟩ => ⟨S256x192, .f32⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S256x192, .f32⟩
  | .local _ .vmem, ⟨7, _⟩ => ⟨S256x192, .f32⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | _, _ => ⟨S4x512x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUqIdeal.lean ====
abbrev S4x512x192 : Shape := ⟨3, ![4, 512, 192]⟩
abbrev S2048x192 : Shape := ⟨2, ![2048, 192]⟩
abbrev S256x192 : Shape := ⟨2, ![256, 192]⟩

abbrev nBuf : Space → Nat
  | .hbm => 11
  | .vmem => 14
  | .smem => 0
  | _ => 0

abbrev bufTy : (tb : Table) → Fin (tcTables nBuf tb) → BufTy
  | .hbm, ⟨0, _⟩ => ⟨S4x512x192, .f32⟩
  | .hbm, ⟨1, _⟩ => ⟨S4x512x192, .f32⟩
  | .hbm, ⟨2, _⟩ => ⟨S4x512x192, .f32⟩
  | .hbm, ⟨3, _⟩ => ⟨S4x512x192, .f32⟩
  | .hbm, ⟨4, _⟩ => ⟨S2048x192, .f32⟩
  | .hbm, ⟨5, _⟩ => ⟨S2048x192, .f32⟩
  | .hbm, ⟨6, _⟩ => ⟨S2048x192, .f32⟩
  | .hbm, ⟨7, _⟩ => ⟨S2048x192, .f32⟩
  | .hbm, ⟨8, _⟩ => ⟨S2048x192, .f32⟩
  | .hbm, ⟨9, _⟩ => ⟨S2048x192, .f32⟩
  | .hbm, ⟨10, _⟩ => ⟨S2048x192, .f32⟩
  | .local _ .vmem, ⟨0, _⟩ => ⟨S256x192, .f32⟩
  | .local _ .vmem, ⟨1, _⟩ => ⟨S256x192, .f32⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S256x192, .f32⟩
  | .local _ .vmem, ⟨7, _⟩ => ⟨S256x192, .f32⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | _, _ => ⟨S4x512x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUqRefIdeal.lean ====
abbrev S4x512x192 : Shape := ⟨3, ![4, 512, 192]⟩
abbrev S_ : Shape := ⟨0, ![]⟩
abbrev S2048x192 : Shape := ⟨2, ![2048, 192]⟩

abbrev nBuf : Space → Nat
  | .hbm => 40
  | .vmem => 0
  | .smem => 0
  | _ => 0

abbrev bufTy : (tb : Table) → Fin (tcTables nBuf tb) → BufTy
  | .hbm, ⟨0, _⟩ => ⟨S4x512x192, .f32⟩
  | .hbm, ⟨1, _⟩ => ⟨S4x512x192, .f32⟩
  | .hbm, ⟨2, _⟩ => ⟨S4x512x192, .f32⟩
  | .hbm, ⟨3, _⟩ => ⟨S4x512x192, .f32⟩
  | .hbm, ⟨4, _⟩ => ⟨S_, .f32⟩
  | .hbm, ⟨5, _⟩ => ⟨S4x512x192, .f32⟩
  | .hbm, ⟨6, _⟩ => ⟨S4x512x192, .f32⟩
  | .hbm, ⟨7, _⟩ => ⟨S_, .f32⟩
  | .hbm, ⟨8, _⟩ => ⟨S4x512x192, .f32⟩
  | .hbm, ⟨9, _⟩ => ⟨S4x512x192, .f32⟩
  | .hbm, ⟨10, _⟩ => ⟨S4x512x192, .f32⟩
  | .hbm, ⟨11, _⟩ => ⟨S_, .f32⟩
  | .hbm, ⟨12, _⟩ => ⟨S4x512x192, .f32⟩
  | .hbm, ⟨13, _⟩ => ⟨S4x512x192, .f32⟩
  | .hbm, ⟨14, _⟩ => ⟨S4x512x192, .f32⟩
  | .hbm, ⟨15, _⟩ => ⟨S_, .f32⟩
  | .hbm, ⟨16, _⟩ => ⟨S4x512x192, .f32⟩
  | .hbm, ⟨17, _⟩ => ⟨S4x512x192, .f32⟩
  | .hbm, ⟨18, _⟩ => ⟨S4x512x192, .f32⟩
  | .hbm, ⟨19, _⟩ => ⟨S_, .f32⟩
  | .hbm, ⟨20, _⟩ => ⟨S4x512x192, .f32⟩
  | .hbm, ⟨21, _⟩ => ⟨S4x512x192, .f32⟩
  | .hbm, ⟨22, _⟩ => ⟨S_, .f32⟩
  | .hbm, ⟨23, _⟩ => ⟨S4x512x192, .f32⟩
  | .hbm, ⟨24, _⟩ => ⟨S4x512x192, .f32⟩
  | .hbm, ⟨25, _⟩ => ⟨S4x512x192, .f32⟩
  | .hbm, ⟨26, _⟩ => ⟨S_, .f32⟩
  | .hbm, ⟨27, _⟩ => ⟨S4x512x192, .f32⟩
  | .hbm, ⟨28, _⟩ => ⟨S4x512x192, .f32⟩
  | .hbm, ⟨29, _⟩ => ⟨S4x512x192, .f32⟩
  | .hbm, ⟨30, _⟩ => ⟨S_, .f32⟩
  | .hbm, ⟨31, _⟩ => ⟨S4x512x192, .f32⟩
  | .hbm, ⟨32, _⟩ => ⟨S4x512x192, .f32⟩
  | .hbm, ⟨33, _⟩ => ⟨S4x512x192, .f32⟩
  | .hbm, ⟨34, _⟩ => ⟨S_, .f32⟩
  | .hbm, ⟨35, _⟩ => ⟨S4x512x192, .f32⟩
  | .hbm, ⟨36, _⟩ => ⟨S4x512x192, .f32⟩
  | .hbm, ⟨37, _⟩ => ⟨S2048x192, .f32⟩
  | .hbm, ⟨38, _⟩ => ⟨S2048x192, .f32⟩
  | .hbm, ⟨39, _⟩ => ⟨S2048x192, .f32⟩
  | _, _ => ⟨S4x512x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamUkv.lean ====
abbrev S4x512x256 : Shape := ⟨3, ![4, 512, 256]⟩
abbrev S2048x256 : Shape := ⟨2, ![2048, 256]⟩
abbrev S256x256 : Shape := ⟨2, ![256, 256]⟩

abbrev nBuf : Space → Nat
  | .hbm => 11
  | .vmem => 14
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUkvIdeal.lean ====
abbrev S4x512x256 : Shape := ⟨3, ![4, 512, 256]⟩
abbrev S2048x256 : Shape := ⟨2, ![2048, 256]⟩
abbrev S256x256 : Shape := ⟨2, ![256, 256]⟩

abbrev nBuf : Space → Nat
  | .hbm => 11
  | .vmem => 14
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUkvRefIdeal.lean ====
abbrev S4x512x256 : Shape := ⟨3, ![4, 512, 256]⟩
abbrev S_ : Shape := ⟨0, ![]⟩
abbrev S2048x256 : Shape := ⟨2, ![2048, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S_, .f32⟩
  | .hbm, ⟨5, _⟩ => ⟨S4x512x256, .f32⟩
  | .hbm, ⟨6, _⟩ => ⟨S4x512x256, .f32⟩
  | .hbm, ⟨7, _⟩ => ⟨S_, .f32⟩
  | .hbm, ⟨8, _⟩ => ⟨S4x512x256, .f32⟩
  | .hbm, ⟨9, _⟩ => ⟨S4x512x256, .f32⟩
  | .hbm, ⟨10, _⟩ => ⟨S4x512x256, .f32⟩
  | .hbm, ⟨11, _⟩ => ⟨S_, .f32⟩
  | .hbm, ⟨12, _⟩ => ⟨S4x512x256, .f32⟩
  | .hbm, ⟨13, _⟩ => ⟨S4x512x256, .f32⟩
  | .hbm, ⟨14, _⟩ => ⟨S4x512x256, .f32⟩
  | .hbm, ⟨15, _⟩ => ⟨S_, .f32⟩
  | .hbm, ⟨16, _⟩ => ⟨S4x512x256, .f32⟩
  | .hbm, ⟨17, _⟩ => ⟨S4x512x256, .f32⟩
  | .hbm, ⟨18, _⟩ => ⟨S4x512x256, .f32⟩
  | .hbm, ⟨19, _⟩ => ⟨S_, .f32⟩
  | .hbm, ⟨20, _⟩ => ⟨S4x512x256, .f32⟩
  | .hbm, ⟨21, _⟩ => ⟨S4x512x256, .f32⟩
  | .hbm, ⟨22, _⟩ => ⟨S_, .f32⟩
  | .hbm, ⟨23, _⟩ => ⟨S4x512x256, .f32⟩
  | .hbm, ⟨24, _⟩ => ⟨S4x512x256, .f32⟩
  | .hbm, ⟨25, _⟩ => ⟨S4x512x256, .f32⟩
  | .hbm, ⟨26, _⟩ => ⟨S_, .f32⟩
  | .hbm, ⟨27, _⟩ => ⟨S4x512x256, .f32⟩
  | .hbm, ⟨28, _⟩ => ⟨S4x512x256, .f32⟩
  | .hbm, ⟨29, _⟩ => ⟨S4x512x256, .f32⟩
  | .hbm, ⟨30, _⟩ => ⟨S_, .f32⟩
  | .hbm, ⟨31, _⟩ => ⟨S4x512x256, .f32⟩
  | .hbm, ⟨32, _⟩ => ⟨S4x512x256, .f32⟩
  | .hbm, ⟨33, _⟩ => ⟨S4x512x256, .f32⟩
  | .hbm, ⟨34, _⟩ => ⟨S_, .f32⟩
  | .hbm, ⟨35, _⟩ => ⟨S4x512x256, .f32⟩
  | .hbm, ⟨36, _⟩ => ⟨S4x512x256, .f32⟩
  | .hbm, ⟨37, _⟩ => ⟨S2048x256, .f32⟩
  | .hbm, ⟨38, _⟩ => ⟨S2048x256, .f32⟩
  | .hbm, ⟨39, _⟩ => ⟨S2048x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOut.lean ====
abbrev S4x512x2048 : Shape := ⟨3, ![4, 512, 2048]⟩
abbrev S2048x2048 : Shape := ⟨2, ![2048, 2048]⟩
abbrev S256x2048 : Shape := ⟨2, ![256, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S4x512x2048 : Shape := ⟨3, ![4, 512, 2048]⟩
abbrev S2048x2048 : Shape := ⟨2, ![2048, 2048]⟩
abbrev S256x2048 : Shape := ⟨2, ![256, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S4x512x2048 : Shape := ⟨3, ![4, 512, 2048]⟩
abbrev S_ : Shape := ⟨0, ![]⟩
abbrev S2048x2048 : Shape := ⟨2, ![2048, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S_, .f32⟩
  | .hbm, ⟨5, _⟩ => ⟨S4x512x2048, .f32⟩
  | .hbm, ⟨6, _⟩ => ⟨S4x512x2048, .f32⟩
  | .hbm, ⟨7, _⟩ => ⟨S_, .f32⟩
  | .hbm, ⟨8, _⟩ => ⟨S4x512x2048, .f32⟩
  | .hbm, ⟨9, _⟩ => ⟨S4x512x2048, .f32⟩
  | .hbm, ⟨10, _⟩ => ⟨S4x512x2048, .f32⟩
  | .hbm, ⟨11, _⟩ => ⟨S_, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S_, .f32⟩
  | .hbm, ⟨16, _⟩ => ⟨S4x512x2048, .f32⟩
  | .hbm, ⟨17, _⟩ => ⟨S4x512x2048, .f32⟩
  | .hbm, ⟨18, _⟩ => ⟨S4x512x2048, .f32⟩
  | .hbm, ⟨19, _⟩ => ⟨S_, .f32⟩
  | .hbm, ⟨20, _⟩ => ⟨S4x512x2048, .f32⟩
  | .hbm, ⟨21, _⟩ => ⟨S4x512x2048, .f32⟩
  | .hbm, ⟨22, _⟩ => ⟨S_, .f32⟩
  | .hbm, ⟨23, _⟩ => ⟨S4x512x2048, .f32⟩
  | .hbm, ⟨24, _⟩ => ⟨S4x512x2048, .f32⟩
  | .hbm, ⟨25, _⟩ => ⟨S4x512x2048, .f32⟩
  | .hbm, ⟨26, _⟩ => ⟨S_, .f32⟩
  | .hbm, ⟨27, _⟩ => ⟨S4x512x2048, .f32⟩
  | .hbm, ⟨28, _⟩ => ⟨S4x512x2048, .f32⟩
  | .hbm, ⟨29, _⟩ => ⟨S4x512x2048, .f32⟩
  | .hbm, ⟨30, _⟩ => ⟨S_, .f32⟩
  | .hbm, ⟨31, _⟩ => ⟨S4x512x2048, .f32⟩
  | .hbm, ⟨32, _⟩ => ⟨S4x512x2048, .f32⟩
  | .hbm, ⟨33, _⟩ => ⟨S4x512x2048, .f32⟩
  | .hbm, ⟨34, _⟩ => ⟨S_, .f32⟩
  | .hbm, ⟨35, _⟩ => ⟨S4x512x2048, .f32⟩
  | .hbm, ⟨36, _⟩ => ⟨S4x512x2048, .f32⟩
  | .hbm, ⟨37, _⟩ => ⟨S2048x2048, .f32⟩
  | .hbm, ⟨38, _⟩ => ⟨S2048x2048, .f32⟩
  | .hbm, ⟨39, _⟩ => ⟨S2048x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamGate.lean ====
abbrev S4x2048x1408 : Shape := ⟨3, ![4, 2048, 1408]⟩
abbrev S8192x1408 : Shape := ⟨2, ![8192, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x1408, .f32⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .hbm, ⟨7, _⟩ => ⟨S8192x1408, .f32⟩
  | .hbm, ⟨8, _⟩ => ⟨S8192x1408, .f32⟩
  | .hbm, ⟨9, _⟩ => ⟨S8192x1408, .f32⟩
  | .hbm, ⟨10, _⟩ => ⟨S8192x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateIdeal.lean ====
abbrev S4x2048x1408 : Shape := ⟨3, ![4, 2048, 1408]⟩
abbrev S8192x1408 : Shape := ⟨2, ![8192, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x1408, .f32⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .hbm, ⟨7, _⟩ => ⟨S8192x1408, .f32⟩
  | .hbm, ⟨8, _⟩ => ⟨S8192x1408, .f32⟩
  | .hbm, ⟨9, _⟩ => ⟨S8192x1408, .f32⟩
  | .hbm, ⟨10, _⟩ => ⟨S8192x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateRefIdeal.lean ====
abbrev S4x2048x1408 : Shape := ⟨3, ![4, 2048, 1408]⟩
abbrev S_ : Shape := ⟨0, ![]⟩
abbrev S8192x1408 : Shape := ⟨2, ![8192, 1408]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1408, .f32⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S_, .f32⟩
  | .hbm, ⟨5, _⟩ => ⟨S4x2048x1408, .f32⟩
  | .hbm, ⟨6, _⟩ => ⟨S4x2048x1408, .f32⟩
  | .hbm, ⟨7, _⟩ => ⟨S_, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S_, .f32⟩
  | .hbm, ⟨12, _⟩ => ⟨S4x2048x1408, .f32⟩
  | .hbm, ⟨13, _⟩ => ⟨S4x2048x1408, .f32⟩
  | .hbm, ⟨14, _⟩ => ⟨S4x2048x1408, .f32⟩
  | .hbm, ⟨15, _⟩ => ⟨S_, .f32⟩
  | .hbm, ⟨16, _⟩ => ⟨S4x2048x1408, .f32⟩
  | .hbm, ⟨17, _⟩ => ⟨S4x2048x1408, .f32⟩
  | .hbm, ⟨18, _⟩ => ⟨S4x2048x1408, .f32⟩
  | .hbm, ⟨19, _⟩ => ⟨S_, .f32⟩
  | .hbm, ⟨20, _⟩ => ⟨S4x2048x1408, .f32⟩
  | .hbm, ⟨21, _⟩ => ⟨S4x2048x1408, .f32⟩
  | .hbm, ⟨22, _⟩ => ⟨S_, .f32⟩
  | .hbm, ⟨23, _⟩ => ⟨S4x2048x1408, .f32⟩
  | .hbm, ⟨24, _⟩ => ⟨S4x2048x1408, .f32⟩
  | .hbm, ⟨25, _⟩ => ⟨S4x2048x1408, .f32⟩
  | .hbm, ⟨26, _⟩ => ⟨S_, .f32⟩
  | .hbm, ⟨27, _⟩ => ⟨S4x2048x1408, .f32⟩
  | .hbm, ⟨28, _⟩ => ⟨S4x2048x1408, .f32⟩
  | .hbm, ⟨29, _⟩ => ⟨S4x2048x1408, .f32⟩
  | .hbm, ⟨30, _⟩ => ⟨S_, .f32⟩
  | .hbm, ⟨31, _⟩ => ⟨S4x2048x1408, .f32⟩
  | .hbm, ⟨32, _⟩ => ⟨S4x2048x1408, .f32⟩
  | .hbm, ⟨33, _⟩ => ⟨S4x2048x1408, .f32⟩
  | .hbm, ⟨34, _⟩ => ⟨S_, .f32⟩
  | .hbm, ⟨35, _⟩ => ⟨S4x2048x1408, .f32⟩
  | .hbm, ⟨36, _⟩ => ⟨S4x2048x1408, .f32⟩
  | .hbm, ⟨37, _⟩ => ⟨S8192x1408, .f32⟩
  | .hbm, ⟨38, _⟩ => ⟨S8192x1408, .f32⟩
  | .hbm, ⟨39, _⟩ => ⟨S8192x1408, .f32⟩
  | _, _ => ⟨S4x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamDown.lean ====
abbrev S4x1408x2048 : Shape := ⟨3, ![4, 1408, 2048]⟩
abbrev S5632x2048 : Shape := ⟨2, ![5632, 2048]⟩
abbrev S256x2048 : Shape := ⟨2, ![256, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x1408x2048, .f32⟩
  | .hbm, ⟨1, _⟩ => ⟨S4x1408x2048, .f32⟩
  | .hbm, ⟨2, _⟩ => ⟨S4x1408x2048, .f32⟩
  | .hbm, ⟨3, _⟩ => ⟨S4x1408x2048, .f32⟩
  | .hbm, ⟨4, _⟩ => ⟨S5632x2048, .f32⟩
  | .hbm, ⟨5, _⟩ => ⟨S5632x2048, .f32⟩
  | .hbm, ⟨6, _⟩ => ⟨S5632x2048, .f32⟩
  | .hbm, ⟨7, _⟩ => ⟨S5632x2048, .f32⟩
  | .hbm, ⟨8, _⟩ => ⟨S5632x2048, .f32⟩
  | .hbm, ⟨9, _⟩ => ⟨S5632x2048, .f32⟩
  | .hbm, ⟨10, _⟩ => ⟨S5632x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S4x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S4x1408x2048 : Shape := ⟨3, ![4, 1408, 2048]⟩
abbrev S_ : Shape := ⟨0, ![]⟩
abbrev S5632x2048 : Shape := ⟨2, ![5632, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x1408x2048, .f32⟩
  | .hbm, ⟨1, _⟩ => ⟨S4x1408x2048, .f32⟩
  | .hbm, ⟨2, _⟩ => ⟨S4x1408x2048, .f32⟩
  | .hbm, ⟨3, _⟩ => ⟨S4x1408x2048, .f32⟩
  | .hbm, ⟨4, _⟩ => ⟨S_, .f32⟩
  | .hbm, ⟨5, _⟩ => ⟨S4x1408x2048, .f32⟩
  | .hbm, ⟨6, _⟩ => ⟨S4x1408x2048, .f32⟩
  | .hbm, ⟨7, _⟩ => ⟨S_, .f32⟩
  | .hbm, ⟨8, _⟩ => ⟨S4x1408x2048, .f32⟩
  | .hbm, ⟨9, _⟩ => ⟨S4x1408x2048, .f32⟩
  | .hbm, ⟨10, _⟩ => ⟨S4x1408x2048, .f32⟩
  | .hbm, ⟨11, _⟩ => ⟨S_, .f32⟩
  | .hbm, ⟨12, _⟩ => ⟨S4x1408x2048, .f32⟩
  | .hbm, ⟨13, _⟩ => ⟨S4x1408x2048, .f32⟩
  | .hbm, ⟨14, _⟩ => ⟨S4x1408x2048, .f32⟩
  | .hbm, ⟨15, _⟩ => ⟨S_, .f32⟩
  | .hbm, ⟨16, _⟩ => ⟨S4x1408x2048, .f32⟩
  | .hbm, ⟨17, _⟩ => ⟨S4x1408x2048, .f32⟩
  | .hbm, ⟨18, _⟩ => ⟨S4x1408x2048, .f32⟩
  | .hbm, ⟨19, _⟩ => ⟨S_, .f32⟩
  | .hbm, ⟨20, _⟩ => ⟨S4x1408x2048, .f32⟩
  | .hbm, ⟨21, _⟩ => ⟨S4x1408x2048, .f32⟩
  | .hbm, ⟨22, _⟩ => ⟨S_, .f32⟩
  | .hbm, ⟨23, _⟩ => ⟨S4x1408x2048, .f32⟩
  | .hbm, ⟨24, _⟩ => ⟨S4x1408x2048, .f32⟩
  | .hbm, ⟨25, _⟩ => ⟨S4x1408x2048, .f32⟩
  | .hbm, ⟨26, _⟩ => ⟨S_, .f32⟩
  | .hbm, ⟨27, _⟩ => ⟨S4x1408x2048, .f32⟩
  | .hbm, ⟨28, _⟩ => ⟨S4x1408x2048, .f32⟩
  | .hbm, ⟨29, _⟩ => ⟨S4x1408x2048, .f32⟩
  | .hbm, ⟨30, _⟩ => ⟨S_, .f32⟩
  | .hbm, ⟨31, _⟩ => ⟨S4x1408x2048, .f32⟩
  | .hbm, ⟨32, _⟩ => ⟨S4x1408x2048, .f32⟩
  | .hbm, ⟨33, _⟩ => ⟨S4x1408x2048, .f32⟩
  | .hbm, ⟨34, _⟩ => ⟨S_, .f32⟩
  | .hbm, ⟨35, _⟩ => ⟨S4x1408x2048, .f32⟩
  | .hbm, ⟨36, _⟩ => ⟨S4x1408x2048, .f32⟩
  | .hbm, ⟨37, _⟩ => ⟨S5632x2048, .f32⟩
  | .hbm, ⟨38, _⟩ => ⟨S5632x2048, .f32⟩
  | .hbm, ⟨39, _⟩ => ⟨S5632x2048, .f32⟩
  | _, _ => ⟨S4x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSmall.lean ====
abbrev S4x2048 : Shape := ⟨2, ![4, 2048]⟩
abbrev S4x512 : Shape := ⟨2, ![4, 512]⟩
abbrev S4x4 : Shape := ⟨2, ![4, 4]⟩
abbrev S2048 : Shape := ⟨1, ![2048]⟩
abbrev S8192 : Shape := ⟨1, ![8192]⟩
abbrev S16 : Shape := ⟨1, ![16]⟩
abbrev S30736 : Shape := ⟨1, ![30736]⟩
abbrev S_ : Shape := ⟨0, ![]⟩
abbrev S31744 : Shape := ⟨1, ![31744]⟩
abbrev S248x128 : Shape := ⟨2, ![248, 128]⟩

abbrev nBuf : Space → Nat
  | .hbm => 75
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x512, .f32⟩
  | .hbm, ⟨2, _⟩ => ⟨S4x512, .f32⟩
  | .hbm, ⟨3, _⟩ => ⟨S4x4, .f32⟩
  | .hbm, ⟨4, _⟩ => ⟨S4x2048, .f32⟩
  | .hbm, ⟨5, _⟩ => ⟨S4x2048, .f32⟩
  | .hbm, ⟨6, _⟩ => ⟨S2048, .f32⟩
  | .hbm, ⟨7, _⟩ => ⟨S4x2048, .f32⟩
  | .hbm, ⟨8, _⟩ => ⟨S4x512, .f32⟩
  | .hbm, ⟨9, _⟩ => ⟨S4x512, .f32⟩
  | .hbm, ⟨10, _⟩ => ⟨S4x4, .f32⟩
  | .hbm, ⟨11, _⟩ => ⟨S4x2048, .f32⟩
  | .hbm, ⟨12, _⟩ => ⟨S4x2048, .f32⟩
  | .hbm, ⟨13, _⟩ => ⟨S2048, .f32⟩
  | .hbm, ⟨14, _⟩ => ⟨S4x2048, .f32⟩
  | .hbm, ⟨15, _⟩ => ⟨S4x512, .f32⟩
  | .hbm, ⟨16, _⟩ => ⟨S4x512, .f32⟩
  | .hbm, ⟨17, _⟩ => ⟨S4x4, .f32⟩
  | .hbm, ⟨18, _⟩ => ⟨S4x2048, .f32⟩
  | .hbm, ⟨19, _⟩ => ⟨S4x2048, .f32⟩
  | .hbm, ⟨20, _⟩ => ⟨S2048, .f32⟩
  | .hbm, ⟨21, _⟩ => ⟨S4x2048, .f32⟩
  | .hbm, ⟨22, _⟩ => ⟨S4x512, .f32⟩
  | .hbm, ⟨23, _⟩ => ⟨S4x512, .f32⟩
  | .hbm, ⟨24, _⟩ => ⟨S4x4, .f32⟩
  | .hbm, ⟨25, _⟩ => ⟨S4x2048, .f32⟩
  | .hbm, ⟨26, _⟩ => ⟨S4x2048, .f32⟩
  | .hbm, ⟨27, _⟩ => ⟨S2048, .f32⟩
  | .hbm, ⟨28, _⟩ => ⟨S8192, .f32⟩
  | .hbm, ⟨29, _⟩ => ⟨S2048, .f32⟩
  | .hbm, ⟨30, _⟩ => ⟨S2048, .f32⟩
  | .hbm, ⟨31, _⟩ => ⟨S16, .f32⟩
  | .hbm, ⟨32, _⟩ => ⟨S8192, .f32⟩
  | .hbm, ⟨33, _⟩ => ⟨S8192, .f32⟩
  | .hbm, ⟨34, _⟩ => ⟨S30736, .f32⟩
  | .hbm, ⟨35, _⟩ => ⟨S_, .i32⟩
  | .hbm, ⟨36, _⟩ => ⟨S_, .f32⟩
  | .hbm, ⟨37, _⟩ => ⟨S31744, .f32⟩
  | .hbm, ⟨38, _⟩ => ⟨S248x128, .f32⟩
  | .hbm, ⟨39, _⟩ => ⟨S8192, .f32⟩
  | .hbm, ⟨40, _⟩ => ⟨S2048, .f32⟩
  | .hbm, ⟨41, _⟩ => ⟨S2048, .f32⟩
  | .hbm, ⟨42, _⟩ => ⟨S16, .f32⟩
  | .hbm, ⟨43, _⟩ => ⟨S8192, .f32⟩
  | .hbm, ⟨44, _⟩ => ⟨S8192, .f32⟩
  | .hbm, ⟨45, _⟩ => ⟨S30736, .f32⟩
  | .hbm, ⟨46, _⟩ => ⟨S_, .i32⟩
  | .hbm, ⟨47, _⟩ => ⟨S_, .f32⟩
  | .hbm, ⟨48, _⟩ => ⟨S31744, .f32⟩
  | .hbm, ⟨49, _⟩ => ⟨S248x128, .f32⟩
  | .hbm, ⟨50, _⟩ => ⟨S8192, .f32⟩
  | .hbm, ⟨51, _⟩ => ⟨S2048, .f32⟩
  | .hbm, ⟨52, _⟩ => ⟨S2048, .f32⟩
  | .hbm, ⟨53, _⟩ => ⟨S16, .f32⟩
  | .hbm, ⟨54, _⟩ => ⟨S8192, .f32⟩
  | .hbm, ⟨55, _⟩ => ⟨S8192, .f32⟩
  | .hbm, ⟨56, _⟩ => ⟨S30736, .f32⟩
  | .hbm, ⟨57, _⟩ => ⟨S_, .i32⟩
  | .hbm, ⟨58, _⟩ => ⟨S_, .f32⟩
  | .hbm, ⟨59, _⟩ => ⟨S31744, .f32⟩
  | .hbm, ⟨60, _⟩ => ⟨S248x128, .f32⟩
  | .hbm, ⟨61, _⟩ => ⟨S8192, .f32⟩
  | .hbm, ⟨62, _⟩ => ⟨S2048, .f32⟩
  | .hbm, ⟨63, _⟩ => ⟨S2048, .f32⟩
  | .hbm, ⟨64, _⟩ => ⟨S16, .f32⟩
  | .hbm, ⟨65, _⟩ => ⟨S8192, .f32⟩
  | .hbm, ⟨66, _⟩ => ⟨S8192, .f32⟩
  | .hbm, ⟨67, _⟩ => ⟨S30736, .f32⟩
  | .hbm, ⟨68, _⟩ => ⟨S_, .i32⟩
  | .hbm, ⟨69, _⟩ => ⟨S_, .f32⟩
  | .hbm, ⟨70, _⟩ => ⟨S31744, .f32⟩
  | .hbm, ⟨71, _⟩ => ⟨S248x128, .f32⟩
  | .hbm, ⟨72, _⟩ => ⟨S248x128, .f32⟩
  | .hbm, ⟨73, _⟩ => ⟨S248x128, .f32⟩
  | .hbm, ⟨74, _⟩ => ⟨S248x128, .f32⟩
  | .local _ .vmem, ⟨0, _⟩ => ⟨S248x128, .f32⟩
  | .local _ .vmem, ⟨1, _⟩ => ⟨S248x128, .f32⟩
  | .local _ .vmem, ⟨2, _⟩ => ⟨S248x128, .f32⟩
  | .local _ .vmem, ⟨3, _⟩ => ⟨S248x128, .f32⟩
  | .local _ .vmem, ⟨4, _⟩ => ⟨S248x128, .f32⟩
  | .local _ .vmem, ⟨5, _⟩ => ⟨S248x128, .f32⟩
  | .local _ .vmem, ⟨6, _⟩ => ⟨S248x128, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_c : Ref sig .tc := ⟨.hbm, 35, rfl⟩
abbrev main_call0_v0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_c_0 : Ref sig .tc := ⟨.hbm, 46, rfl⟩
abbrev main_call1_v0 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_1 : Ref sig .tc := ⟨.hbm, 57, rfl⟩
abbrev main_call2_v0 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_c_2 : Ref sig .tc := ⟨.hbm, 68, rfl⟩
abbrev main_call3_v0 : Ref sig .tc := ⟨.hbm, 69, rfl⟩
abbrev main_v34 : Ref sig .tc := ⟨.hbm, 70, rfl⟩
abbrev main_v35 : Ref sig .tc := ⟨.hbm, 71, rfl⟩
abbrev main_v36_0 : Ref sig .tc := ⟨.hbm, 72, rfl⟩
abbrev main_v36_1 : Ref sig .tc := ⟨.hbm, 73, rfl⟩
abbrev main_v36_2 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S248x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S248x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S248x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S248x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S248x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S248x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S248x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S4x2048 : Shape := ⟨2, ![4, 2048]⟩
abbrev S4x512 : Shape := ⟨2, ![4, 512]⟩
abbrev S4x4 : Shape := ⟨2, ![4, 4]⟩
abbrev S2048 : Shape := ⟨1, ![2048]⟩
abbrev S_ : Shape := ⟨0, ![]⟩
abbrev S8192 : Shape := ⟨1, ![8192]⟩
abbrev S16 : Shape := ⟨1, ![16]⟩
abbrev S30736 : Shape := ⟨1, ![30736]⟩
abbrev S31744 : Shape := ⟨1, ![31744]⟩
abbrev S248x128 : Shape := ⟨2, ![248, 128]⟩

abbrev nBuf : Space → Nat
  | .hbm => 292
  | .vmem => 0
  | .smem => 0
  | _ => 0

abbrev hbmTy0_0 (i : Nat) : BufTy := match i % 128 with
  | 0 => ⟨S4x2048, .f32⟩
  | 1 => ⟨S4x512, .f32⟩
  | 2 => ⟨S4x512, .f32⟩
  | 3 => ⟨S4x4, .f32⟩
  | 4 => ⟨S4x2048, .f32⟩
  | 5 => ⟨S4x2048, .f32⟩
  | 6 => ⟨S2048, .f32⟩
  | 7 => ⟨S4x2048, .f32⟩
  | 8 => ⟨S4x512, .f32⟩
  | 9 => ⟨S4x512, .f32⟩
  | 10 => ⟨S4x4, .f32⟩
  | 11 => ⟨S4x2048, .f32⟩
  | 12 => ⟨S4x2048, .f32⟩
  | 13 => ⟨S2048, .f32⟩
  | 14 => ⟨S4x2048, .f32⟩
  | 15 => ⟨S4x512, .f32⟩
  | 16 => ⟨S4x512, .f32⟩
  | 17 => ⟨S4x4, .f32⟩
  | 18 => ⟨S4x2048, .f32⟩
  | 19 => ⟨S4x2048, .f32⟩
  | 20 => ⟨S2048, .f32⟩
  | 21 => ⟨S4x2048, .f32⟩
  | 22 => ⟨S4x512, .f32⟩
  | 23 => ⟨S4x512, .f32⟩
  | 24 => ⟨S4x4, .f32⟩
  | 25 => ⟨S4x2048, .f32⟩
  | 26 => ⟨S4x2048, .f32⟩
  | 27 => ⟨S2048, .f32⟩
  | 28 => ⟨S_, .f32⟩
  | 29 => ⟨S4x2048, .f32⟩
  | 30 => ⟨S4x2048, .f32⟩
  | 31 => ⟨S_, .f32⟩
  | 32 => ⟨S4x2048, .f32⟩
  | 33 => ⟨S4x2048, .f32⟩
  | 34 => ⟨S4x2048, .f32⟩
  | 35 => ⟨S_, .f32⟩
  | 36 => ⟨S4x2048, .f32⟩
  | 37 => ⟨S4x2048, .f32⟩
  | 38 => ⟨S4x2048, .f32⟩
  | 39 => ⟨S_, .f32⟩
  | 40 => ⟨S4x2048, .f32⟩
  | 41 => ⟨S4x2048, .f32⟩
  | 42 => ⟨S4x2048, .f32⟩
  | 43 => ⟨S_, .f32⟩
  | 44 => ⟨S4x2048, .f32⟩
  | 45 => ⟨S4x2048, .f32⟩
  | 46 => ⟨S_, .f32⟩
  | 47 => ⟨S4x2048, .f32⟩
  | 48 => ⟨S4x2048, .f32⟩
  | 49 => ⟨S4x2048, .f32⟩
  | 50 => ⟨S_, .f32⟩
  | 51 => ⟨S4x2048, .f32⟩
  | 52 => ⟨S4x2048, .f32⟩
  | 53 => ⟨S4x2048, .f32⟩
  | 54 => ⟨S_, .f32⟩
  | 55 => ⟨S4x2048, .f32⟩
  | 56 => ⟨S4x2048, .f32⟩
  | 57 => ⟨S4x2048, .f32⟩
  | 58 => ⟨S_, .f32⟩
  | 59 => ⟨S4x2048, .f32⟩
  | 60 => ⟨S4x2048, .f32⟩
  | 61 => ⟨S_, .f32⟩
  | 62 => ⟨S4x512, .f32⟩
  | 63 => ⟨S4x512, .f32⟩
  | 64 => ⟨S_, .f32⟩
  | 65 => ⟨S4x512, .f32⟩
  | 66 => ⟨S4x512, .f32⟩
  | 67 => ⟨S4x512, .f32⟩
  | 68 => ⟨S_, .f32⟩
  | 69 => ⟨S4x512, .f32⟩
  | 70 => ⟨S4x512, .f32⟩
  | 71 => ⟨S4x512, .f32⟩
  | 72 => ⟨S_, .f32⟩
  | 73 => ⟨S4x512, .f32⟩
  | 74 => ⟨S4x512, .f32⟩
  | 75 => ⟨S4x512, .f32⟩
  | 76 => ⟨S_, .f32⟩
  | 77 => ⟨S4x512, .f32⟩
  | 78 => ⟨S4x512, .f32⟩
  | 79 => ⟨S_, .f32⟩
  | 80 => ⟨S4x512, .f32⟩
  | 81 => ⟨S4x512, .f32⟩
  | 82 => ⟨S4x512, .f32⟩
  | 83 => ⟨S_, .f32⟩
  | 84 => ⟨S4x512, .f32⟩
  | 85 => ⟨S4x512, .f32⟩
  | 86 => ⟨S4x512, .f32⟩
  | 87 => ⟨S_, .f32⟩
  | 88 => ⟨S4x512, .f32⟩
  | 89 => ⟨S4x512, .f32⟩
  | 90 => ⟨S4x512, .f32⟩
  | 91 => ⟨S_, .f32⟩
  | 92 => ⟨S4x512, .f32⟩
  | 93 => ⟨S4x512, .f32⟩
  | 94 => ⟨S_, .f32⟩
  | 95 => ⟨S4x512, .f32⟩
  | 96 => ⟨S4x512, .f32⟩
  | 97 => ⟨S_, .f32⟩
  | 98 => ⟨S4x512, .f32⟩
  | 99 => ⟨S4x512, .f32⟩
  | 100 => ⟨S4x512, .f32⟩
  | 101 => ⟨S_, .f32⟩
  | 102 => ⟨S4x512, .f32⟩
  | 103 => ⟨S4x512, .f32⟩
  | 104 => ⟨S4x512, .f32⟩
  | 105 => ⟨S_, .f32⟩
  | 106 => ⟨S4x512, .f32⟩
  | 107 => ⟨S4x512, .f32⟩
  | 108 => ⟨S4x512, .f32⟩
  | 109 => ⟨S_, .f32⟩
  | 110 => ⟨S4x512, .f32⟩
  | 111 => ⟨S4x512, .f32⟩
  | 112 => ⟨S_, .f32⟩
  | 113 => ⟨S4x512, .f32⟩
  | 114 => ⟨S4x512, .f32⟩
  | 115 => ⟨S4x512, .f32⟩
  | 116 => ⟨S_, .f32⟩
  | 117 => ⟨S4x512, .f32⟩
  | 118 => ⟨S4x512, .f32⟩
  | 119 => ⟨S4x512, .f32⟩
  | 120 => ⟨S_, .f32⟩
  | 121 => ⟨S4x512, .f32⟩
  | 122 => ⟨S4x512, .f32⟩
  | 123 => ⟨S4x512, .f32⟩
  | 124 => ⟨S_, .f32⟩
  | 125 => ⟨S4x512, .f32⟩
  | 126 => ⟨S4x512, .f32⟩
  | 127 => ⟨S_, .f32⟩
  | _ => ⟨S4x2048, .f32⟩

abbrev hbmTy0_1 (i : Nat) : BufTy := match i % 128 with
  | 0 => ⟨S4x4, .f32⟩
  | 1 => ⟨S4x4, .f32⟩
  | 2 => ⟨S_, .f32⟩
  | 3 => ⟨S4x4, .f32⟩
  | 4 => ⟨S4x4, .f32⟩
  | 5 => ⟨S4x4, .f32⟩
  | 6 => ⟨S_, .f32⟩
  | 7 => ⟨S4x4, .f32⟩
  | 8 => ⟨S4x4, .f32⟩
  | 9 => ⟨S4x4, .f32⟩
  | 10 => ⟨S_, .f32⟩
  | 11 => ⟨S4x4, .f32⟩
  | 12 => ⟨S4x4, .f32⟩
  | 13 => ⟨S4x4, .f32⟩
  | 14 => ⟨S_, .f32⟩
  | 15 => ⟨S4x4, .f32⟩
  | 16 => ⟨S4x4, .f32⟩
  | 17 => ⟨S_, .f32⟩
  | 18 => ⟨S4x4, .f32⟩
  | 19 => ⟨S4x4, .f32⟩
  | 20 => ⟨S4x4, .f32⟩
  | 21 => ⟨S_, .f32⟩
  | 22 => ⟨S4x4, .f32⟩
  | 23 => ⟨S4x4, .f32⟩
  | 24 => ⟨S4x4, .f32⟩
  | 25 => ⟨S_, .f32⟩
  | 26 => ⟨S4x4, .f32⟩
  | 27 => ⟨S4x4, .f32⟩
  | 28 => ⟨S4x4, .f32⟩
  | 29 => ⟨S_, .f32⟩
  | 30 => ⟨S4x4, .f32⟩
  | 31 => ⟨S4x4, .f32⟩
  | 32 => ⟨S_, .f32⟩
  | 33 => ⟨S4x2048, .f32⟩
  | 34 => ⟨S4x2048, .f32⟩
  | 35 => ⟨S_, .f32⟩
  | 36 => ⟨S4x2048, .f32⟩
  | 37 => ⟨S4x2048, .f32⟩
  | 38 => ⟨S4x2048, .f32⟩
  | 39 => ⟨S_, .f32⟩
  | 40 => ⟨S4x2048, .f32⟩
  | 41 => ⟨S4x2048, .f32⟩
  | 42 => ⟨S4x2048, .f32⟩
  | 43 => ⟨S_, .f32⟩
  | 44 => ⟨S4x2048, .f32⟩
  | 45 => ⟨S4x2048, .f32⟩
  | 46 => ⟨S4x2048, .f32⟩
  | 47 => ⟨S_, .f32⟩
  | 48 => ⟨S4x2048, .f32⟩
  | 49 => ⟨S4x2048, .f32⟩
  | 50 => ⟨S_, .f32⟩
  | 51 => ⟨S4x2048, .f32⟩
  | 52 => ⟨S4x2048, .f32⟩
  | 53 => ⟨S4x2048, .f32⟩
  | 54 => ⟨S_, .f32⟩
  | 55 => ⟨S4x2048, .f32⟩
  | 56 => ⟨S4x2048, .f32⟩
  | 57 => ⟨S4x2048, .f32⟩
  | 58 => ⟨S_, .f32⟩
  | 59 => ⟨S4x2048, .f32⟩
  | 60 => ⟨S4x2048, .f32⟩
  | 61 => ⟨S4x2048, .f32⟩
  | 62 => ⟨S_, .f32⟩
  | 63 => ⟨S4x2048, .f32⟩
  | 64 => ⟨S4x2048, .f32⟩
  | 65 => ⟨S_, .f32⟩
  | 66 => ⟨S4x2048, .f32⟩
  | 67 => ⟨S4x2048, .f32⟩
  | 68 => ⟨S_, .f32⟩
  | 69 => ⟨S4x2048, .f32⟩
  | 70 => ⟨S4x2048, .f32⟩
  | 71 => ⟨S4x2048, .f32⟩
  | 72 => ⟨S_, .f32⟩
  | 73 => ⟨S4x2048, .f32⟩
  | 74 => ⟨S4x2048, .f32⟩
  | 75 => ⟨S4x2048, .f32⟩
  | 76 => ⟨S_, .f32⟩
  | 77 => ⟨S4x2048, .f32⟩
  | 78 => ⟨S4x2048, .f32⟩
  | 79 => ⟨S4x2048, .f32⟩
  | 80 => ⟨S_, .f32⟩
  | 81 => ⟨S4x2048, .f32⟩
  | 82 => ⟨S4x2048, .f32⟩
  | 83 => ⟨S_, .f32⟩
  | 84 => ⟨S4x2048, .f32⟩
  | 85 => ⟨S4x2048, .f32⟩
  | 86 => ⟨S4x2048, .f32⟩
  | 87 => ⟨S_, .f32⟩
  | 88 => ⟨S4x2048, .f32⟩
  | 89 => ⟨S4x2048, .f32⟩
  | 90 => ⟨S4x2048, .f32⟩
  | 91 => ⟨S_, .f32⟩
  | 92 => ⟨S4x2048, .f32⟩
  | 93 => ⟨S4x2048, .f32⟩
  | 94 => ⟨S4x2048, .f32⟩
  | 95 => ⟨S_, .f32⟩
  | 96 => ⟨S4x2048, .f32⟩
  | 97 => ⟨S4x2048, .f32⟩
  | 98 => ⟨S_, .f32⟩
  | 99 => ⟨S2048, .f32⟩
  | 100 => ⟨S2048, .f32⟩
  | 101 => ⟨S_, .f32⟩
  | 102 => ⟨S2048, .f32⟩
  | 103 => ⟨S2048, .f32⟩
  | 104 => ⟨S2048, .f32⟩
  | 105 => ⟨S_, .f32⟩
  | 106 => ⟨S2048, .f32⟩
  | 107 => ⟨S2048, .f32⟩
  | 108 => ⟨S2048, .f32⟩
  | 109 => ⟨S_, .f32⟩
  | 110 => ⟨S2048, .f32⟩
  | 111 => ⟨S2048, .f32⟩
  | 112 => ⟨S2048, .f32⟩
  | 113 => ⟨S_, .f32⟩
  | 114 => ⟨S2048, .f32⟩
  | 115 => ⟨S2048, .f32⟩
  | 116 => ⟨S_, .f32⟩
  | 117 => ⟨S2048, .f32⟩
  | 118 => ⟨S2048, .f32⟩
  | 119 => ⟨S2048, .f32⟩
  | 120 => ⟨S_, .f32⟩
  | 121 => ⟨S2048, .f32⟩
  | 122 => ⟨S2048, .f32⟩
  | 123 => ⟨S2048, .f32⟩
  | 124 => ⟨S_, .f32⟩
  | 125 => ⟨S2048, .f32⟩
  | 126 => ⟨S2048, .f32⟩
  | 127 => ⟨S2048, .f32⟩
  | _ => ⟨S4x2048, .f32⟩

abbrev hbmTy0_2 (i : Nat) : BufTy := match i % 128 with
  | 0 => ⟨S_, .f32⟩
  | 1 => ⟨S2048, .f32⟩
  | 2 => ⟨S2048, .f32⟩
  | 3 => ⟨S8192, .f32⟩
  | 4 => ⟨S2048, .f32⟩
  | 5 => ⟨S2048, .f32⟩
  | 6 => ⟨S16, .f32⟩
  | 7 => ⟨S8192, .f32⟩
  | 8 => ⟨S8192, .f32⟩
  | 9 => ⟨S30736, .f32⟩
  | 10 => ⟨S8192, .f32⟩
  | 11 => ⟨S2048, .f32⟩
  | 12 => ⟨S2048, .f32⟩
  | 13 => ⟨S16, .f32⟩
  | 14 => ⟨S8192, .f32⟩
  | 15 => ⟨S8192, .f32⟩
  | 16 => ⟨S30736, .f32⟩
  | 17 => ⟨S8192, .f32⟩
  | 18 => ⟨S2048, .f32⟩
  | 19 => ⟨S2048, .f32⟩
  | 20 => ⟨S16, .f32⟩
  | 21 => ⟨S8192, .f32⟩
  | 22 => ⟨S8192, .f32⟩
  | 23 => ⟨S30736, .f32⟩
  | 24 => ⟨S_, .i32⟩
  | 25 => ⟨S_, .f32⟩
  | 26 => ⟨S31744, .f32⟩
  | 27 => ⟨S248x128, .f32⟩
  | 28 => ⟨S_, .i32⟩
  | 29 => ⟨S_, .f32⟩
  | 30 => ⟨S31744, .f32⟩
  | 31 => ⟨S248x128, .f32⟩
  | 32 => ⟨S_, .i32⟩
  | 33 => ⟨S_, .f32⟩
  | 34 => ⟨S31744, .f32⟩
  | 35 => ⟨S248x128, .f32⟩
  | _ => ⟨S4x2048, .f32⟩

abbrev hbmTy (i : Nat) : BufTy := match i / 128 with
  | 0 => hbmTy0_0 i
  | 1 => hbmTy0_1 i
  | 2 => hbmTy0_2 i
  | _ => ⟨S4x2048, .f32⟩

abbrev bufTy : (tb : Table) → Fin (tcTables nBuf tb) → BufTy
  | .hbm, ⟨i, _⟩ => hbmTy i
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩
abbrev main_v168 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_v181 : Ref sig .tc := ⟨.hbm, 272, rfl⟩
abbrev main_v182 : Ref sig .tc := ⟨.hbm, 273, rfl⟩
abbrev main_v183 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_v188 : Ref sig .tc := ⟨.hbm, 279, rfl⟩
abbrev main_c : Ref sig .tc := ⟨.hbm, 280, rfl⟩
abbrev main_call0_v0 : Ref sig .tc := ⟨.hbm, 281, rfl⟩
abbrev main_v189 : Ref sig .tc := ⟨.hbm, 282, rfl⟩
abbrev main_v190 : Ref sig .tc := ⟨.hbm, 283, rfl⟩
abbrev main_c_62 : Ref sig .tc := ⟨.hbm, 284, rfl⟩
abbrev main_call1_v0 : Ref sig .tc := ⟨.hbm, 285, rfl⟩
abbrev main_v191 : Ref sig .tc := ⟨.hbm, 286, rfl⟩
abbrev main_v192 : Ref sig .tc := ⟨.hbm, 287, rfl⟩
abbrev main_c_63 : Ref sig .tc := ⟨.hbm, 288, rfl⟩
abbrev main_call2_v0 : Ref sig .tc := ⟨.hbm, 289, rfl⟩
abbrev main_v193 : Ref sig .tc := ⟨.hbm, 290, rfl⟩
abbrev main_v194 : Ref sig .tc := ⟨.hbm, 291, rfl⟩

abbrev nD : Nat := 1
abbrev τ : Topo := Topo.v7x

variable {F : FTy → Type} [FloatOps F]
-- ==== SumIn.lean ====
abbrev S8x1024x1536 : Shape := ⟨3, ![8, 1024, 1536]⟩
abbrev S1024x1536 : Shape := ⟨2, ![1024, 1536]⟩
abbrev S8x128x1536 : Shape := ⟨3, ![8, 128, 1536]⟩
abbrev S128x1536 : Shape := ⟨2, ![128, 1536]⟩
abbrev S1x128x1536 : Shape := ⟨3, ![1, 128, 1536]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x1536, .bf16⟩
  | .hbm, ⟨1, _⟩ => ⟨S1024x1536, .f32⟩
  | .local _ .vmem, ⟨0, _⟩ => ⟨S8x128x1536, .bf16⟩
  | .local _ .vmem, ⟨1, _⟩ => ⟨S8x128x1536, .bf16⟩
  | .local _ .vmem, ⟨2, _⟩ => ⟨S128x1536, .f32⟩
  | .local _ .vmem, ⟨3, _⟩ => ⟨S128x1536, .f32⟩
  | _, _ => ⟨S8x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInIdeal.lean ====
abbrev S8x1024x1536 : Shape := ⟨3, ![8, 1024, 1536]⟩
abbrev S1024x1536 : Shape := ⟨2, ![1024, 1536]⟩
abbrev S8x128x1536 : Shape := ⟨3, ![8, 128, 1536]⟩
abbrev S128x1536 : Shape := ⟨2, ![128, 1536]⟩
abbrev S1x128x1536 : Shape := ⟨3, ![1, 128, 1536]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x1536, .bf16⟩
  | .hbm, ⟨1, _⟩ => ⟨S1024x1536, .f32⟩
  | .local _ .vmem, ⟨0, _⟩ => ⟨S8x128x1536, .bf16⟩
  | .local _ .vmem, ⟨1, _⟩ => ⟨S8x128x1536, .bf16⟩
  | .local _ .vmem, ⟨2, _⟩ => ⟨S128x1536, .f32⟩
  | .local _ .vmem, ⟨3, _⟩ => ⟨S128x1536, .f32⟩
  | _, _ => ⟨S8x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInRefIdeal.lean ====
abbrev S8x1024x1536 : Shape := ⟨3, ![8, 1024, 1536]⟩
abbrev S_ : Shape := ⟨0, ![]⟩
abbrev S1024x1536 : Shape := ⟨2, ![1024, 1536]⟩

abbrev nBuf : Space → Nat
  | .hbm => 4
  | .vmem => 0
  | .smem => 0
  | _ => 0

abbrev bufTy : (tb : Table) → Fin (tcTables nBuf tb) → BufTy
  | .hbm, ⟨0, _⟩ => ⟨S8x1024x1536, .bf16⟩
  | .hbm, ⟨1, _⟩ => ⟨S8x1024x1536, .f32⟩
  | .hbm, ⟨2, _⟩ => ⟨S_, .f32⟩
  | .hbm, ⟨3, _⟩ => ⟨S1024x1536, .f32⟩
  | _, _ => ⟨S8x1024x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumUq.lean ====
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 2
  | .vmem => 2
  | .smem => 0
  | _ => 0

abbrev bufTy : (tb : Table) → Fin (tcTables nBuf tb) → BufTy
  | .hbm, ⟨0, _⟩ => ⟨S8x256x256, .bf16⟩
  | .hbm, ⟨1, _⟩ => ⟨S256x256, .f32⟩
  | .local _ .vmem, ⟨0, _⟩ => ⟨S8x256x256, .bf16⟩
  | .local _ .vmem, ⟨1, _⟩ => ⟨S256x256, .f32⟩
  | _, _ => ⟨S8x256x256, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumUqIdeal.lean ====
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 2
  | .vmem => 2
  | .smem => 0
  | _ => 0

abbrev bufTy : (tb : Table) → Fin (tcTables nBuf tb) → BufTy
  | .hbm, ⟨0, _⟩ => ⟨S8x256x256, .bf16⟩
  | .hbm, ⟨1, _⟩ => ⟨S256x256, .f32⟩
  | .local _ .vmem, ⟨0, _⟩ => ⟨S8x256x256, .bf16⟩
  | .local _ .vmem, ⟨1, _⟩ => ⟨S256x256, .f32⟩
  | _, _ => ⟨S8x256x256, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumUqRefIdeal.lean ====
abbrev S8x256x256 : Shape := ⟨3, ![8, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S8x256x256, .f32⟩
  | .hbm, ⟨2, _⟩ => ⟨S_, .f32⟩
  | .hbm, ⟨3, _⟩ => ⟨S256x256, .f32⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumOut.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumOutIdeal.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumOutRefIdeal.lean ====
abbrev S8x256x2048 : Shape := ⟨3, ![8, 256, 2048]⟩
abbrev S_ : Shape := ⟨0, ![]⟩
abbrev S256x2048 : Shape := ⟨2, ![256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .f32⟩
  | .hbm, ⟨2, _⟩ => ⟨S_, .f32⟩
  | .hbm, ⟨3, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumGate.lean ====
abbrev S8x1024x1408 : Shape := ⟨3, ![8, 1024, 1408]⟩
abbrev S1024x1408 : Shape := ⟨2, ![1024, 1408]⟩
abbrev S8x128x1408 : Shape := ⟨3, ![8, 128, 1408]⟩
abbrev S128x1408 : Shape := ⟨2, ![128, 1408]⟩
abbrev S1x128x1408 : Shape := ⟨3, ![1, 128, 1408]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x1408, .bf16⟩
  | .hbm, ⟨1, _⟩ => ⟨S1024x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S128x1408, .f32⟩
  | .local _ .vmem, ⟨3, _⟩ => ⟨S128x1408, .f32⟩
  | _, _ => ⟨S8x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumGateIdeal.lean ====
abbrev S8x1024x1408 : Shape := ⟨3, ![8, 1024, 1408]⟩
abbrev S1024x1408 : Shape := ⟨2, ![1024, 1408]⟩
abbrev S8x128x1408 : Shape := ⟨3, ![8, 128, 1408]⟩
abbrev S128x1408 : Shape := ⟨2, ![128, 1408]⟩
abbrev S1x128x1408 : Shape := ⟨3, ![1, 128, 1408]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x1408, .bf16⟩
  | .hbm, ⟨1, _⟩ => ⟨S1024x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S128x1408, .f32⟩
  | .local _ .vmem, ⟨3, _⟩ => ⟨S128x1408, .f32⟩
  | _, _ => ⟨S8x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumGateRefIdeal.lean ====
abbrev S8x1024x1408 : Shape := ⟨3, ![8, 1024, 1408]⟩
abbrev S_ : Shape := ⟨0, ![]⟩
abbrev S1024x1408 : Shape := ⟨2, ![1024, 1408]⟩

abbrev nBuf : Space → Nat
  | .hbm => 4
  | .vmem => 0
  | .smem => 0
  | _ => 0

abbrev bufTy : (tb : Table) → Fin (tcTables nBuf tb) → BufTy
  | .hbm, ⟨0, _⟩ => ⟨S8x1024x1408, .bf16⟩
  | .hbm, ⟨1, _⟩ => ⟨S8x1024x1408, .f32⟩
  | .hbm, ⟨2, _⟩ => ⟨S_, .f32⟩
  | .hbm, ⟨3, _⟩ => ⟨S1024x1408, .f32⟩
  | _, _ => ⟨S8x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumDown.lean ====
abbrev S8x704x2048 : Shape := ⟨3, ![8, 704, 2048]⟩
abbrev S704x2048 : Shape := ⟨2, ![704, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDownIdeal.lean ====
abbrev S8x704x2048 : Shape := ⟨3, ![8, 704, 2048]⟩
abbrev S704x2048 : Shape := ⟨2, ![704, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDownRefIdeal.lean ====
abbrev S8x704x2048 : Shape := ⟨3, ![8, 704, 2048]⟩
abbrev S_ : Shape := ⟨0, ![]⟩
abbrev S704x2048 : Shape := ⟨2, ![704, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S8x704x2048, .f32⟩
  | .hbm, ⟨2, _⟩ => ⟨S_, .f32⟩
  | .hbm, ⟨3, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSmall.lean ====
abbrev S8x248x128 : Shape := ⟨3, ![8, 248, 128]⟩
abbrev S248x128 : Shape := ⟨2, ![248, 128]⟩
abbrev S1x248x128 : Shape := ⟨3, ![1, 248, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x248x128, .f32⟩
  | .hbm, ⟨1, _⟩ => ⟨S248x128, .f32⟩
  | .local _ .vmem, ⟨0, _⟩ => ⟨S8x248x128, .f32⟩
  | .local _ .vmem, ⟨1, _⟩ => ⟨S248x128, .f32⟩
  | _, _ => ⟨S8x248x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x248x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S248x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x248x128 : Shape := ⟨3, ![8, 248, 128]⟩
abbrev S_ : Shape := ⟨0, ![]⟩
abbrev S248x128 : Shape := ⟨2, ![248, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x248x128, .f32⟩
  | .hbm, ⟨1, _⟩ => ⟨S_, .f32⟩
  | .hbm, ⟨2, _⟩ => ⟨S248x128, .f32⟩
  | _, _ => ⟨S8x248x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Norm.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormIdeal.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormB.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .bf16⟩
  | .hbm, ⟨3, _⟩ => ⟨S1x2048, .f32⟩
  | .hbm, ⟨4, _⟩ => ⟨S4096x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormBIdeal.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .bf16⟩
  | .hbm, ⟨3, _⟩ => ⟨S1x2048, .f32⟩
  | .hbm, ⟨4, _⟩ => ⟨S4096x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormBRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .bf16⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S4096x2048, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== NormL.lean ====
abbrev S4096x512 : Shape := ⟨2, ![4096, 512]⟩
abbrev S512 : Shape := ⟨1, ![512]⟩
abbrev S1x512 : Shape := ⟨2, ![1, 512]⟩
abbrev S512x512 : Shape := ⟨2, ![512, 512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512, .f32⟩
  | .hbm, ⟨2, _⟩ => ⟨S1x512, .f32⟩
  | .hbm, ⟨3, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x512, .bf16⟩
  | .local _ .vmem, ⟨4, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormLRefIdeal.lean ====
abbrev S4096x512 : Shape := ⟨2, ![4096, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x512 : Shape := ⟨2, ![1, 512]⟩

abbrev nBuf : Space → Nat
  | .hbm => 19
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x512, .f32⟩
  | .hbm, ⟨14, _⟩ => ⟨S4096x512, .f32⟩
  | .hbm, ⟨15, _⟩ => ⟨S1x512, .f32⟩
  | .hbm, ⟨16, _⟩ => ⟨S4096x512, .f32⟩
  | .hbm, ⟨17, _⟩ => ⟨S4096x512, .f32⟩
  | .hbm, ⟨18, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormLB.lean ====
abbrev S4096x512 : Shape := ⟨2, ![4096, 512]⟩
abbrev S512 : Shape := ⟨1, ![512]⟩
abbrev S1x512 : Shape := ⟨2, ![1, 512]⟩
abbrev S512x512 : Shape := ⟨2, ![512, 512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S512, .f32⟩
  | .hbm, ⟨2, _⟩ => ⟨S4096x512, .bf16⟩
  | .hbm, ⟨3, _⟩ => ⟨S1x512, .f32⟩
  | .hbm, ⟨4, _⟩ => ⟨S4096x512, .f32⟩
  | .hbm, ⟨5, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x512, .bf16⟩
  | .local _ .vmem, ⟨4, _⟩ => ⟨S512x512, .bf16⟩
  | .local _ .vmem, ⟨5, _⟩ => ⟨S512x512, .f32⟩
  | .local _ .vmem, ⟨6, _⟩ => ⟨S512x512, .f32⟩
  | .local _ .vmem, ⟨7, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormLBRefIdeal.lean ====
abbrev S4096x512 : Shape := ⟨2, ![4096, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x512 : Shape := ⟨2, ![1, 512]⟩

abbrev nBuf : Space → Nat
  | .hbm => 52
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512, .f32⟩
  | .hbm, ⟨2, _⟩ => ⟨S4096x512, .bf16⟩
  | .hbm, ⟨3, _⟩ => ⟨S4096x512, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x512, .f32⟩
  | .hbm, ⟨22, _⟩ => ⟨S4096x512, .f32⟩
  | .hbm, ⟨23, _⟩ => ⟨S1x512, .f32⟩
  | .hbm, ⟨24, _⟩ => ⟨S4096x512, .f32⟩
  | .hbm, ⟨25, _⟩ => ⟨S4096x512, .f32⟩
  | .hbm, ⟨26, _⟩ => ⟨S4096x512, .bf16⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S512, .f32⟩
  | .hbm, ⟨31, _⟩ => ⟨S1x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S512, .f32⟩
  | .hbm, ⟨36, _⟩ => ⟨S4096x512, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x512, .f32⟩
  | .hbm, ⟨41, _⟩ => ⟨S4096x512, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Loss.lean ====
abbrev S4096x2048 : Shape := ⟨2, ![4096, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S1x128, .f32⟩
  | .hbm, ⟨5, _⟩ => ⟨S4096x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x128, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S2048, .f32⟩
  | .hbm, ⟨57, _⟩ => ⟨S4096x2048, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x2048, .f32⟩
  | .hbm, ⟨62, _⟩ => ⟨S4096x2048, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S1x128, .f32⟩
  | .hbm, ⟨73, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_cst_9 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_cst_11 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== NormG.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormGRefIdeal.lean ====
abbrev S4096x2048 : Shape := ⟨2, ![4096, 2048]⟩
abbrev S2048 : Shape := ⟨1, ![2048]⟩
abbrev S4096x4x512 : Shape := ⟨3, ![4096, 4, 512]⟩
abbrev S4x512 : Shape := ⟨2, ![4, 512]⟩
abbrev S_ : Shape := ⟨0, ![]⟩
abbrev S4096x4 : Shape := ⟨2, ![4096, 4]⟩
abbrev S4096x4x1 : Shape := ⟨3, ![4096, 4, 1]⟩
abbrev S1x4x512 : Shape := ⟨3, ![1, 4, 512]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048, .f32⟩
  | .hbm, ⟨2, _⟩ => ⟨S4096x4x512, .bf16⟩
  | .hbm, ⟨3, _⟩ => ⟨S4x512, .f32⟩
  | .hbm, ⟨4, _⟩ => ⟨S4096x4x512, .f32⟩
  | .hbm, ⟨5, _⟩ => ⟨S4096x4x512, .f32⟩
  | .hbm, ⟨6, _⟩ => ⟨S_, .f32⟩
  | .hbm, ⟨7, _⟩ => ⟨S4096x4, .f32⟩
  | .hbm, ⟨8, _⟩ => ⟨S4096x4x1, .f32⟩
  | .hbm, ⟨9, _⟩ => ⟨S_, .f32⟩
  | .hbm, ⟨10, _⟩ => ⟨S4096x4x1, .f32⟩
  | .hbm, ⟨11, _⟩ => ⟨S4096x4x1, .f32⟩
  | .hbm, ⟨12, _⟩ => ⟨S_, .f32⟩
  | .hbm, ⟨13, _⟩ => ⟨S4096x4x1, .f32⟩
  | .hbm, ⟨14, _⟩ => ⟨S4096x4x1, .f32⟩
  | .hbm, ⟨15, _⟩ => ⟨S4096x4x1, .f32⟩
  | .hbm, ⟨16, _⟩ => ⟨S4096x4x512, .f32⟩
  | .hbm, ⟨17, _⟩ => ⟨S4096x4x512, .f32⟩
  | .hbm, ⟨18, _⟩ => ⟨S1x4x512, .f32⟩
  | .hbm, ⟨19, _⟩ => ⟨S4096x4x512, .f32⟩
  | .hbm, ⟨20, _⟩ => ⟨S4096x4x512, .f32⟩
  | .hbm, ⟨21, _⟩ => ⟨S4096x4x512, .bf16⟩
  | .hbm, ⟨22, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== NormGB.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048, .f32⟩
  | .hbm, ⟨2, _⟩ => ⟨S4096x2048, .bf16⟩
  | .hbm, ⟨3, _⟩ => ⟨S1x2048, .f32⟩
  | .hbm, ⟨4, _⟩ => ⟨S4096x2048, .bf16⟩
  | .hbm, ⟨5, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormGBRefIdeal.lean ====
abbrev S4096x2048 : Shape := ⟨2, ![4096, 2048]⟩
abbrev S2048 : Shape := ⟨1, ![2048]⟩
abbrev S4096x4x512 : Shape := ⟨3, ![4096, 4, 512]⟩
abbrev S4x512 : Shape := ⟨2, ![4, 512]⟩
abbrev S_ : Shape := ⟨0, ![]⟩
abbrev S4096x4 : Shape := ⟨2, ![4096, 4]⟩
abbrev S4096x4x1 : Shape := ⟨3, ![4096, 4, 1]⟩
abbrev S1x4x512 : Shape := ⟨3, ![1, 4, 512]⟩
abbrev S1x2048 : Shape := ⟨2, ![1, 2048]⟩

abbrev nBuf : Space → Nat
  | .hbm => 60
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048, .f32⟩
  | .hbm, ⟨2, _⟩ => ⟨S4096x2048, .bf16⟩
  | .hbm, ⟨3, _⟩ => ⟨S4096x4x512, .bf16⟩
  | .hbm, ⟨4, _⟩ => ⟨S4x512, .f32⟩
  | .hbm, ⟨5, _⟩ => ⟨S4096x4x512, .f32⟩
  | .hbm, ⟨6, _⟩ => ⟨S4096x4x512, .f32⟩
  | .hbm, ⟨7, _⟩ => ⟨S_, .f32⟩
  | .hbm, ⟨8, _⟩ => ⟨S4096x4x512, .f32⟩
  | .hbm, ⟨9, _⟩ => ⟨S4096x4x512, .f32⟩
  | .hbm, ⟨10, _⟩ => ⟨S_, .f32⟩
  | .hbm, ⟨11, _⟩ => ⟨S4096x4, .f32⟩
  | .hbm, ⟨12, _⟩ => ⟨S4096x4x1, .f32⟩
  | .hbm, ⟨13, _⟩ => ⟨S_, .f32⟩
  | .hbm, ⟨14, _⟩ => ⟨S4096x4x1, .f32⟩
  | .hbm, ⟨15, _⟩ => ⟨S4096x4x1, .f32⟩
  | .hbm, ⟨16, _⟩ => ⟨S_, .f32⟩
  | .hbm, ⟨17, _⟩ => ⟨S4096x4x1, .f32⟩
  | .hbm, ⟨18, _⟩ => ⟨S4096x4x1, .f32⟩
  | .hbm, ⟨19, _⟩ => ⟨S4096x4x1, .f32⟩
  | .hbm, ⟨20, _⟩ => ⟨S4096x4x1, .f32⟩
  | .hbm, ⟨21, _⟩ => ⟨S_, .f32⟩
  | .hbm, ⟨22, _⟩ => ⟨S4096x4x1, .f32⟩
  | .hbm, ⟨23, _⟩ => ⟨S4096x4x1, .f32⟩
  | .hbm, ⟨24, _⟩ => ⟨S4096x4x512, .f32⟩
  | .hbm, ⟨25, _⟩ => ⟨S4096x4x512, .f32⟩
  | .hbm, ⟨26, _⟩ => ⟨S1x4x512, .f32⟩
  | .hbm, ⟨27, _⟩ => ⟨S4096x4x512, .f32⟩
  | .hbm, ⟨28, _⟩ => ⟨S4096x4x512, .f32⟩
  | .hbm, ⟨29, _⟩ => ⟨S4096x4x512, .bf16⟩
  | .hbm, ⟨30, _⟩ => ⟨S4096x2048, .bf16⟩
  | .hbm, ⟨31, _⟩ => ⟨S4096x4x512, .bf16⟩
  | .hbm, ⟨32, _⟩ => ⟨S4096x4x512, .f32⟩
  | .hbm, ⟨33, _⟩ => ⟨S4096x4x512, .f32⟩
  | .hbm, ⟨34, _⟩ => ⟨S_, .f32⟩
  | .hbm, ⟨35, _⟩ => ⟨S4x512, .f32⟩
  | .hbm, ⟨36, _⟩ => ⟨S1x4x512, .f32⟩
  | .hbm, ⟨37, _⟩ => ⟨S4096x4x512, .f32⟩
  | .hbm, ⟨38, _⟩ => ⟨S4096x4x512, .f32⟩
  | .hbm, ⟨39, _⟩ => ⟨S_, .f32⟩
  | .hbm, ⟨40, _⟩ => ⟨S4x512, .f32⟩
  | .hbm, ⟨41, _⟩ => ⟨S4096x4x512, .f32⟩
  | .hbm, ⟨42, _⟩ => ⟨S_, .f32⟩
  | .hbm, ⟨43, _⟩ => ⟨S4096x4, .f32⟩
  | .hbm, ⟨44, _⟩ => ⟨S4096x4x1, .f32⟩
  | .hbm, ⟨45, _⟩ => ⟨S4096x4x512, .f32⟩
  | .hbm, ⟨46, _⟩ => ⟨S4096x4x512, .f32⟩
  | .hbm, ⟨47, _⟩ => ⟨S4096x4x1, .f32⟩
  | .hbm, ⟨48, _⟩ => ⟨S_, .f32⟩
  | .hbm, ⟨49, _⟩ => ⟨S4096x4x1, .f32⟩
  | .hbm, ⟨50, _⟩ => ⟨S4096x4x1, .f32⟩
  | .hbm, ⟨51, _⟩ => ⟨S_, .f32⟩
  | .hbm, ⟨52, _⟩ => ⟨S4096x4, .f32⟩
  | .hbm, ⟨53, _⟩ => ⟨S4096x4x512, .f32⟩
  | .hbm, ⟨54, _⟩ => ⟨S4096x4x512, .f32⟩
  | .hbm, ⟨55, _⟩ => ⟨S4096x4x512, .f32⟩
  | .hbm, ⟨56, _⟩ => ⟨S4096x4x512, .bf16⟩
  | .hbm, ⟨57, _⟩ => ⟨S2048, .f32⟩
  | .hbm, ⟨58, _⟩ => ⟨S4096x2048, .bf16⟩
  | .hbm, ⟨59, _⟩ => ⟨S1x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== Proof.RealArr.lean ====
/- Arrays whose every element is a real number, and what each vector operation of the programs does to them at the
   ideal instance: the operation on the real functions, element by element. -/
module

public import Idealize.ShloMosaic.PureOps
public import Idealize.ShloMosaic.Lib.ValueIdx
public import Idealize.ShloMosaic.Lib.MatmulPlain
public import Idealize.ShloMosaic.Lib.Pipeline.Value
public import Idealize.ShloMosaic.Lib.WordCmp

@[expose] public section

noncomputable section

namespace Cert.RealArr

open Idealize.ShloMosaic Idealize.ShloMosaic.ValueIdx
open scoped BigOperators

/-- The matrix whose element `(i, j)` is the real number `f i j`. -/
def up2 {n0 n1 : ℕ} {φ : FTy} (f : ℕ → ℕ → ℝ) : FVec Ideal ⟨2, ![n0, n1]⟩ φ :=
  fun i => ((f (i 0).val (i 1).val : ℝ) : EReal)

/-- The vector whose element `i` is the real number `f i`. -/
def up1 {n0 : ℕ} {φ : FTy} (f : ℕ → ℝ) : FVec Ideal ⟨1, ![n0]⟩ φ :=
  fun i => ((f (i 0).val : ℝ) : EReal)

/-- The mask whose bit `(i, j)` is set exactly where `p i j` holds. -/
def mask2 {n0 n1 : ℕ} (p : ℕ → ℕ → Prop) [∀ i j, Decidable (p i j)] : IVec ⟨2, ![n0, n1]⟩ 1 :=
  fun i => if p (i 0).val (i 1).val then 1#1 else 0#1

/-- Two real matrices are equal when they agree on the indices in range. -/
theorem up2_congr {n0 n1 : ℕ} {φ : FTy} {f g : ℕ → ℕ → ℝ} (h : ∀ i j, i < n0 → j < n1 → f i j = g i j) :
    (up2 f : FVec Ideal ⟨2, ![n0, n1]⟩ φ) = up2 g := by
  funext i
  exact congrArg _ (h _ _ (idx2_lt0 i) (idx2_lt1 i))

/-- A sum of reals, coerced, is the sum of the coerced terms. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the coordinates below `n` of coerced reals. -/
theorem sum_fin_coe (n : ℕ) (f : ℕ → ℝ) : (∑ k : Fin n, (f k.val : EReal)) = ((∑ k ∈ Finset.range n, f k : ℝ) : EReal) := by
  rw [coe_sum, Finset.sum_range]

section Elementwise
variable {n0 n1 : ℕ} {φ ψ : FTy}

theorem mulf_up2 (f g : ℕ → ℕ → ℝ) :
    mulf (up2 f : FVec Ideal ⟨2, ![n0, n1]⟩ φ) (up2 g) = up2 (fun i j => f i j * g i j) :=
  funext fun _ => (EReal.coe_mul _ _).symm

theorem addf_up2 (f g : ℕ → ℕ → ℝ) :
    addf (up2 f : FVec Ideal ⟨2, ![n0, n1]⟩ φ) (up2 g) = up2 (fun i j => f i j + g i j) :=
  funext fun _ => (EReal.coe_add _ _).symm

theorem subf_up2 (f g : ℕ → ℕ → ℝ) :
    subf (up2 f : FVec Ideal ⟨2, ![n0, n1]⟩ φ) (up2 g) = up2 (fun i j => f i j - g i j) :=
  funext fun _ => (EReal.coe_sub _ _).symm

theorem minimumf_up2 (f g : ℕ → ℕ → ℝ) :
    minimumf (up2 f : FVec Ideal ⟨2, ![n0, n1]⟩ φ) (up2 g) = up2 (fun i j => min (f i j) (g i j)) :=
  funext fun i => (EReal.coe_strictMono.monotone.map_min (a := f (i 0).val (i 1).val) (b := g (i 0).val (i 1).val)).symm

/-- The absolute value of a coerced real. -/
theorem absf_coe (x : ℝ) : (FloatOps.absf (F := Ideal) (φ := φ) ((x : ℝ) : EReal)) = ((|x| : ℝ) : EReal) := by
  rw [Ideal.absf_def]
  show max (x : EReal) (-(x : EReal)) = _
  rw [← EReal.coe_neg, ← EReal.coe_strictMono.monotone.map_max]
  rfl

theorem absf_up2 (f : ℕ → ℕ → ℝ) :
    absf (up2 f : FVec Ideal ⟨2, ![n0, n1]⟩ φ) = up2 (fun i j => |f i j|) :=
  funext fun _ => absf_coe _

theorem exp_up2 (f : ℕ → ℕ → ℝ) :
    Idealize.ShloMosaic.exp (up2 f : FVec Ideal ⟨2, ![n0, n1]⟩ φ) = up2 (fun i j => Real.exp (f i j)) :=
  funext fun _ => Ideal.exp_coe _

/-- The logarithm of `1 + exp`, whose argument is positive. -/
theorem log_up2 (f : ℕ → ℕ → ℝ) :
    Idealize.ShloMosaic.log (up2 (fun i j => 1 + Real.exp (f i j)) : FVec Ideal ⟨2, ![n0, n1]⟩ φ)
      = up2 (fun i j => Real.log (1 + Real.exp (f i j))) := by
  funext i
  refine (Ideal.log_coe (1 + Real.exp (f (i 0).val (i 1).val))).trans ?_
  rw [if_neg (not_le.2 (by positivity))]
  rfl

theorem truncf_up2 (f : ℕ → ℕ → ℝ) (h : FTy.bits ψ < FTy.bits φ) :
    truncf ψ (up2 f : FVec Ideal ⟨2, ![n0, n1]⟩ φ) h = up2 f := rfl

theorem extf_up2 (f : ℕ → ℕ → ℝ) (h : FTy.bits φ < FTy.bits ψ) :
    extf ψ (up2 f : FVec Ideal ⟨2, ![n0, n1]⟩ φ) h = up2 f := rfl

theorem select_up2 (p : ℕ → ℕ → Prop) [∀ i j, Decidable (p i j)] (f g : ℕ → ℕ → ℝ) :
    select (mask2 p) (up2 f : FVec Ideal ⟨2, ![n0, n1]⟩ φ) (up2 g) = up2 (fun i j => if p i j then f i j else g i j) := by
  funext i
  rw [select_apply]
  unfold mask2 up2
  by_cases h : p (i 0).val (i 1).val
  · simp only [if_pos h, select_one]
  · simp only [if_neg h, select_zero]

end Elementwise

/-! ## The constants -/

theorem ofBits_scale : Ideal.ofBits .f32 0x3DB504F3#32 = ((11863283 / 134217728 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee, -EReal.coe_mul]

section Constants
variable {n0 n1 : ℕ}

theorem broadcast_scale : (broadcast ⟨2, ![n0, n1]⟩ (Scalar.ofBits (F := Ideal) .f32 0x3DB504F3#32) : FVec Ideal ⟨2, ![n0, n1]⟩ .f32)
    = up2 (fun _ _ => 11863283 / 134217728) := funext fun _ => ofBits_scale
theorem broadcast_one : (broadcast ⟨2, ![n0, n1]⟩ (Scalar.ofBits (F := Ideal) .f32 0x3F800000#32) : FVec Ideal ⟨2, ![n0, n1]⟩ .f32)
    = up2 (fun _ _ => 1) := funext fun _ => ofBits_one
theorem broadcast_zero : (broadcast ⟨2, ![n0, n1]⟩ (Scalar.ofBits (F := Ideal) .f32 0x00000000#32) : FVec Ideal ⟨2, ![n0, n1]⟩ .f32)
    = up2 (fun _ _ => 0) := funext fun _ => ofBits_zero

end Constants

/-! ## Rows: broadcasting a column, summing along a row -/

/-- A column broadcast along the rows. -/
theorem broadcastTo_up2 {n0 n1 : ℕ} {φ : FTy} (f : ℕ → ℕ → ℝ) (h : Shape.Broadcasts ⟨2, ![n0, 1]⟩ ⟨2, ![n0, n1]⟩) (h0 : n0 ≠ 1) :
    broadcastTo ⟨2, ![n0, n1]⟩ (up2 f : FVec Ideal ⟨2, ![n0, 1]⟩ φ) h = up2 (fun i _ => f i 0) := by
  funext j
  rw [broadcastTo_apply _ h j (ix2 (j 0) 0) (by
    intro a
    match a with
    | ⟨0, _⟩ => simp [h0]
    | ⟨1, _⟩ => simp)]
  rfl

/-- The sums of the rows of a matrix. -/
theorem rowSum_up2 {n0 n1 : ℕ} (f : ℕ → ℕ → ℝ) (acc : BitVec (FTy.bits .f32)) (h : Shape.Reduces ⟨2, ![n0, n1]⟩ [1] ⟨1, ![n0]⟩)
    (hφ : FKind.Formats .f32) (hacc : acc = FKind.add.neutral .f32 hφ) :
    multiReduction .add [1] ⟨1, ![n0]⟩ (up2 f : FVec Ideal ⟨2, ![n0, n1]⟩ .f32) acc h hφ hacc
      = up1 (fun i => ∑ j ∈ Finset.range n1, f i j) := by
  funext j
  rw [Ideal.multiReduction_add_single]
  refine Eq.trans ?_ (sum_fin_coe n1 (fun k => f (j 0).val k))
  refine Finset.sum_congr rfl fun k _ => ?_
  rfl

/-- A vector as a column. -/
theorem shapeCast_up1 {n0 : ℕ} {φ : FTy} (f : ℕ → ℝ) (h : Shape.ShapeCasts ⟨1, ![n0]⟩ ⟨2, ![n0, 1]⟩) :
    shapeCast ⟨2, ![n0, 1]⟩ (up1 f : FVec Ideal ⟨1, ![n0]⟩ φ) h = up2 (fun i _ => f i) := by
  funext j
  rw [shapeCast_apply _ h j (ix1 (j 0)) (by
    have h1 : (j 1).val = 0 := by have := idx2_lt1 j; omega
    rw [Shape.rowMajor_val_one, Shape.rowMajor_val_two, h1]; simp; rfl)]
  rfl

/-! ## The matrix products -/

section Products
variable {M K N : ℕ} {φ₁ φ₂ : FTy}

/-- `[M,K] × [K,N]` of real matrices. -/
theorem matmul_plain_up2 (f g : ℕ → ℕ → ℝ) (prec : Option ContractPrecision) :
    matmul (DotDims.plain M K N) prec (up2 f : FVec Ideal ⟨2, ![M, K]⟩ φ₁) (up2 g : FVec Ideal ⟨2, ![K, N]⟩ φ₂)
        (constant ⟨2, ![M, N]⟩ .f32 0x00000000#32)
      = up2 (fun i j => ∑ k ∈ Finset.range K, f i k * g k j) := by
  funext j
  rw [eq_ix2 j]
  refine (Ideal.matmul_plain_apply prec _ _ _ _ _).trans ?_
  refine Eq.trans ?_ (sum_fin_coe K (fun k => f (j 0).val k * g k (j 1).val))
  have h0 : (constant ⟨2, ![M, N]⟩ .f32 0x00000000#32 : FVec Ideal ⟨2, ![M, N]⟩ .f32) (ix2 (j 0) (j 1)) = 0 :=
    ofBits_zero.trans EReal.coe_zero
  refine (congrArg (· + _) h0).trans ((zero_add _).trans ?_)
  exact Finset.sum_congr rfl fun k _ => (EReal.coe_mul _ _).symm

/-- `[M,K] × [N,K]ᵀ` of real matrices. -/
theorem matmul_transposedRhs_up2 (f g : ℕ → ℕ → ℝ) (prec : Option ContractPrecision) :
    matmul (DotDims.transposedRhs M K N) prec (up2 f : FVec Ideal ⟨2, ![M, K]⟩ φ₁) (up2 g : FVec Ideal ⟨2, ![N, K]⟩ φ₂)
        (constant ⟨2, ![M, N]⟩ .f32 0x00000000#32)
      = up2 (fun i j => ∑ k ∈ Finset.range K, f i k * g j k) := by
  funext j
  rw [eq_ix2 j]
  refine (Ideal.matmul_transposedRhs_apply prec _ _ _ _ _).trans ?_
  refine Eq.trans ?_ (sum_fin_coe K (fun k => f (j 0).val k * g (j 1).val k))
  have h0 : (constant ⟨2, ![M, N]⟩ .f32 0x00000000#32 : FVec Ideal ⟨2, ![M, N]⟩ .f32) (ix2 (j 0) (j 1)) = 0 :=
    ofBits_zero.trans EReal.coe_zero
  refine (congrArg (· + _) h0).trans ((zero_add _).trans ?_)
  exact Finset.sum_congr rfl fun k _ => (EReal.coe_mul _ _).symm

/-- The dimension numbers of `[K,M]ᵀ × [K,N]`: both operands contracted on their first axis. -/
def firstAxes (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- `[K,M]ᵀ × [K,N]` of real matrices. -/
theorem matmul_firstAxes_up2 (f g : ℕ → ℕ → ℝ) (prec : Option ContractPrecision) :
    matmul (firstAxes K M N) prec (up2 f : FVec Ideal ⟨2, ![K, M]⟩ φ₁) (up2 g : FVec Ideal ⟨2, ![K, N]⟩ φ₂)
        (constant ⟨2, ![M, N]⟩ .f32 0x00000000#32)
      = up2 (fun i j => ∑ k ∈ Finset.range K, f k i * g k j) := by
  funext j
  have hr : (firstAxes K M N).contr.rank = 1 := rfl
  have hs : (firstAxes K M N).contr.size ⟨0, by omega⟩ = K := rfl
  refine (Ideal.matmul_apply _ _ _ _ _ _).trans ?_
  rw [← Equiv.sum_comp (contrEquiv1 (firstAxes K M N) K hr hs).symm]
  refine Eq.trans ?_ (sum_fin_coe K (fun k => f k (j 0).val * g k (j 1).val))
  have h0 : (constant ⟨2, ![M, N]⟩ .f32 0x00000000#32 : FVec Ideal ⟨2, ![M, N]⟩ .f32) j = 0 :=
    ofBits_zero.trans EReal.coe_zero
  refine (congrArg (· + _) h0).trans ((zero_add _).trans ?_)
  refine Finset.sum_congr rfl fun k _ => ?_
  have hk := contrEquiv1_symm_val _ K hr hs k
  have e1 : ((firstAxes K M N).lhsIdx j ((contrEquiv1 _ K hr hs).symm k) 0).val = k.val := hk
  have e2 : ((firstAxes K M N).rhsIdx j ((contrEquiv1 _ K hr hs).symm k) 0).val = k.val := hk
  have e3 : ((firstAxes K M N).lhsIdx j ((contrEquiv1 _ K hr hs).symm k) 1).val = (j 0).val := rfl
  have e4 : ((firstAxes K M N).rhsIdx j ((contrEquiv1 _ K hr hs).symm k) 1).val = (j 1).val := rfl
  unfold up2
  simp only [e1, e2, e3, e4]
  exact (EReal.coe_mul _ _).symm

end Products

/-! ## Loads of a rectangle -/

/-- A load of the rectangle at `off` of a real bf16 matrix is the real matrix shifted by the offsets. -/
theorem ld_up2 {n0 n1 m0 m1 : ℕ} (f : ℕ → ℕ → ℝ) (off : Fin 2 → ℕ) (a b : ℕ) (hoff : off = ![a, b])
    (inb : ∀ x, off x + (![m0, m1] : Fin 2 → ℕ) x ≤ (⟨2, ![n0, n1]⟩ : Shape).size x) :
    View.ld (S := ⟨2, ![n0, n1]⟩) (Val := Elt Ideal) (e' := .bf16) (up2 f : FVec Ideal ⟨2, ![n0, n1]⟩ .bf16)
        (Rect.unit (s := ⟨2, ![n0, n1]⟩) off ![m0, m1] inb)
      = (up2 (fun i j => f (a + i) (b + j)) : FVec Ideal ⟨2, ![m0, m1]⟩ .bf16) := by
  subst hoff
  funext x
  have e0 : a + 1 * (x 0).val = a + (x 0).val := by rw [Nat.one_mul]
  have e1 : b + 1 * (x 1).val = b + (x 1).val := by rw [Nat.one_mul]
  show (((f (a + 1 * (x 0).val) (b + 1 * (x 1).val) : ℝ)) : EReal) = _
  rw [e0, e1]
  rfl

/-- A load of the rectangle at `off` of a real f32 matrix is the real matrix shifted by the offsets. -/
theorem ld_up2_f32 {n0 n1 m0 m1 : ℕ} (f : ℕ → ℕ → ℝ) (off : Fin 2 → ℕ) (a b : ℕ) (hoff : off = ![a, b])
    (inb : ∀ x, off x + (![m0, m1] : Fin 2 → ℕ) x ≤ (⟨2, ![n0, n1]⟩ : Shape).size x) :
    View.ld (S := ⟨2, ![n0, n1]⟩) (Val := Elt Ideal) (e' := .f32) (up2 f : FVec Ideal ⟨2, ![n0, n1]⟩ .f32)
        (Rect.unit (s := ⟨2, ![n0, n1]⟩) off ![m0, m1] inb)
      = (up2 (fun i j => f (a + i) (b + j)) : FVec Ideal ⟨2, ![m0, m1]⟩ .f32) := by
  subst hoff
  funext x
  have e0 : a + 1 * (x 0).val = a + (x 0).val := by rw [Nat.one_mul]
  have e1 : b + 1 * (x 1).val = b + (x 1).val := by rw [Nat.one_mul]
  show (((f (a + 1 * (x 0).val) (b + 1 * (x 1).val) : ℝ)) : EReal) = _
  rw [e0, e1]
  rfl

/-! ## Integer matrices and masks -/

/-- The 32-bit integer matrix whose element `(i, j)` is the natural number `f i j`. -/
def nat2 {n0 n1 : ℕ} (f : ℕ → ℕ → ℕ) : IVec ⟨2, ![n0, n1]⟩ 32 :=
  fun i => BitVec.ofNat 32 (f (i 0).val (i 1).val)

section Words
variable {n0 n1 : ℕ}

theorem iota_row (h : Shape.Iotas ⟨2, ![n0, n1]⟩ .tc 32 [0]) : iota .tc ⟨2, ![n0, n1]⟩ 32 [0] h = nat2 (fun i _ => i) :=
  funext fun i => iota_single_apply .tc _ 32 0 h i
theorem iota_col (h : Shape.Iotas ⟨2, ![n0, n1]⟩ .tc 32 [1]) : iota .tc ⟨2, ![n0, n1]⟩ 32 [1] h = nat2 (fun _ j => j) :=
  funext fun i => iota_single_apply .tc _ 32 1 h i
theorem broadcast_word (n : ℕ) : broadcast ⟨2, ![n0, n1]⟩ (BitVec.ofNat 32 n) = nat2 (fun _ _ => n) := rfl
theorem addi_nat2 (f g : ℕ → ℕ → ℕ) : addi (nat2 f : IVec ⟨2, ![n0, n1]⟩ 32) (nat2 g) = nat2 (fun i j => f i j + g i j) :=
  funext fun _ => (BitVec.ofNat_add _ _).symm

/-- The signed comparison of small naturals is their order. -/
theorem cmpi_slt_nat2 (f g : ℕ → ℕ → ℕ) (hf : ∀ i j, i < n0 → j < n1 → f i j < 2 ^ 31) (hg : ∀ i j, i < n0 → j < n1 → g i j < 2 ^ 31) :
    cmpi .slt (nat2 f : IVec ⟨2, ![n0, n1]⟩ 32) (nat2 g) = mask2 (fun i j => f i j < g i j) := by
  funext i
  refine (WordCmp.cmpi_slt_ofNat (hf _ _ (idx2_lt0 i) (idx2_lt1 i)) (hg _ _ (idx2_lt0 i) (idx2_lt1 i))).trans ?_
  unfold mask2
  by_cases h : f (i 0).val (i 1).val < g (i 0).val (i 1).val <;> simp [h]
theorem cmpi_sgt_nat2 (f g : ℕ → ℕ → ℕ) (hf : ∀ i j, i < n0 → j < n1 → f i j < 2 ^ 31) (hg : ∀ i j, i < n0 → j < n1 → g i j < 2 ^ 31) :
    cmpi .sgt (nat2 f : IVec ⟨2, ![n0, n1]⟩ 32) (nat2 g) = mask2 (fun i j => g i j < f i j) := by
  funext i
  refine (WordCmp.cmpi_sgt_ofNat (hf _ _ (idx2_lt0 i) (idx2_lt1 i)) (hg _ _ (idx2_lt0 i) (idx2_lt1 i))).trans ?_
  unfold mask2
  by_cases h : g (i 0).val (i 1).val < f (i 0).val (i 1).val <;> simp [h]
theorem cmpi_sle_nat2 (f g : ℕ → ℕ → ℕ) (hf : ∀ i j, i < n0 → j < n1 → f i j < 2 ^ 31) (hg : ∀ i j, i < n0 → j < n1 → g i j < 2 ^ 31) :
    cmpi .sle (nat2 f : IVec ⟨2, ![n0, n1]⟩ 32) (nat2 g) = mask2 (fun i j => f i j ≤ g i j) := by
  funext i
  refine (WordCmp.cmpi_sle_ofNat (hf _ _ (idx2_lt0 i) (idx2_lt1 i)) (hg _ _ (idx2_lt0 i) (idx2_lt1 i))).trans ?_
  unfold mask2
  by_cases h : f (i 0).val (i 1).val ≤ g (i 0).val (i 1).val <;> simp [h]

end Words

end Cert.RealArr

end

end
-- ==== Proof.SBMaths.lean ====
/- Stick-breaking attention of one head over the real numbers: the weights, the result and the gradients, and the
   equations by which a block of 256 columns extends the sums over the columns already seen. -/
module

public import Mathlib.Analysis.SpecialFunctions.Log.Basic
public import Mathlib.Algebra.BigOperators.Intervals
public import Mathlib.Tactic.Ring
public import Mathlib.Tactic.Linarith

@[expose] public section

noncomputable section

namespace Cert.SB

open Finset

/-- The scale of the logits, the 32-bit float next to `1/√128`. -/
abbrev scale : ℝ := 11863283 / 134217728

/-- `log (sigmoid x)`, written so that nothing overflows. -/
def lsig (x : ℝ) : ℝ := min x 0 - Real.log (1 + Real.exp (0 - |x|))

variable (Q K V D : ℕ → ℕ → ℝ)

/-- The logit of column `j` in row `i`. -/
def z (i j : ℕ) : ℝ := (∑ d ∈ range 128, Q i d * K j d) * scale
/-- The logarithm of what column `j` leaves of the stick, `log (1 - sigmoid z)`. -/
def lk (i j : ℕ) : ℝ := lsig (z Q K i j) - z Q K i j
/-- The same for the columns of the past, zero for the others. -/
def keep (i j : ℕ) : ℝ := if j < i then lk Q K i j else 0
/-- The logarithm of what the columns after `j` leave of row `i`'s stick. -/
def btw (i j : ℕ) : ℝ := ∑ j' ∈ Ico (j + 1) 4096, keep Q K i j'
/-- The logarithm of what is left of row `i`'s stick. -/
def total (i : ℕ) : ℝ := ∑ j ∈ range 4096, keep Q K i j
/-- The weight of column `j` in row `i`. -/
def att (i j : ℕ) : ℝ := if j < i then Real.exp (lsig (z Q K i j) + btw Q K i j) else 0
/-- The result of the attention. -/
def out (i c : ℕ) : ℝ := ∑ j ∈ range 4096, att Q K i j * V j c
/-- The gradient of the weights, from the gradient `D` of the result. -/
def da (i j : ℕ) : ℝ := ∑ d ∈ range 128, D i d * V j d
/-- The gradient of the weights' logarithms. -/
def g (i j : ℕ) : ℝ := att Q K i j * da V D i j
/-- The gradient of the logits. -/
def dz (i j : ℕ) : ℝ :=
  if j < i then g Q K V D i j * Real.exp (lsig (z Q K i j) - z Q K i j)
    - Real.exp (lsig (z Q K i j)) * ∑ j' ∈ range j, g Q K V D i j' else 0
/-- The gradient of `q`. -/
def dq (i c : ℕ) : ℝ := (∑ j ∈ range 4096, dz Q K V D i j * K j c) * scale
/-- The gradient of `k`. -/
def dk (j c : ℕ) : ℝ := (∑ i ∈ range 4096, dz Q K V D i j * Q i c) * scale
/-- The gradient of `v`. -/
def dv (j c : ℕ) : ℝ := ∑ i ∈ range 4096, att Q K i j * D i c

/-! ## Sums over a block of columns -/

theorem sum_after (n j : ℕ) (f : ℕ → ℝ) :
    ∑ j' ∈ range n, f j' * (if j < j' then 1 else 0) = ∑ j' ∈ Ico (j + 1) n, f j' := by
  simp only [mul_ite, mul_one, mul_zero]
  rw [← sum_filter]
  exact sum_congr (by ext a; simp; omega) fun _ _ => rfl

theorem sum_before (n j : ℕ) (hj : j ≤ n) (f : ℕ → ℝ) :
    ∑ j' ∈ range n, f j' * (if j' < j then 1 else 0) = ∑ j' ∈ range j, f j' := by
  simp only [mul_ite, mul_one, mul_zero]
  rw [← sum_filter]
  exact sum_congr (by ext a; simp; omega) fun _ _ => rfl

theorem sum_upto (n j : ℕ) (hj : j < n) (f : ℕ → ℝ) :
    ∑ j' ∈ range n, f j' * (if j' ≤ j then 1 else 0) = ∑ j' ∈ range (j + 1), f j' := by
  simp only [mul_ite, mul_one, mul_zero]
  rw [← sum_filter]
  exact sum_congr (by ext a; simp; omega) fun _ _ => rfl

/-- A block's sum is the sum over the interval of its columns. -/
theorem sum_block (a n : ℕ) (f : ℕ → ℝ) : ∑ j ∈ range n, f (a + j) = ∑ j ∈ Ico a (a + n), f j := by
  rw [sum_Ico_eq_sum_range, Nat.add_sub_cancel_left]

/-- A block's sum from column `j` on. -/
theorem sum_block_from (a n j : ℕ) (f : ℕ → ℝ) : ∑ j' ∈ Ico j n, f (a + j') = ∑ j' ∈ Ico (a + j) (a + n), f j' := by
  rw [sum_Ico_add, Nat.add_comm j a, Nat.add_comm n a]

/-- A sum up to `a` and the block from `a` on. -/
theorem sum_range_block (a n : ℕ) (f : ℕ → ℝ) : ∑ j ∈ range a, f j + ∑ j ∈ range n, f (a + j) = ∑ j ∈ range (a + n), f j :=
  (sum_range_add f a n).symm

/-- The block from `a` on and the columns after it. -/
theorem sum_block_rest (a n m : ℕ) (h : a + n ≤ m) (f : ℕ → ℝ) :
    ∑ j ∈ Ico (a + n) m, f j + ∑ j ∈ range n, f (a + j) = ∑ j ∈ Ico a m, f j := by
  rw [sum_block, add_comm, sum_Ico_consecutive f (Nat.le_add_right a n) h]

/-! ## A block of columns of one row -/

variable {Q K V D}

/-- The columns from `n` on keep nothing when the row is not past `n`. -/
theorem keep_beyond {i n : ℕ} (h : i ≤ n) (m : ℕ) : ∑ j ∈ Ico n m, keep Q K i j = 0 := by
  refine sum_eq_zero fun j hj => ?_
  rw [mem_Ico] at hj
  rw [keep, if_neg (by omega)]

theorem att_beyond {i n : ℕ} (h : i ≤ n) (m c : ℕ) : ∑ j ∈ Ico n m, att Q K i j * V j c = 0 := by
  refine sum_eq_zero fun j hj => ?_
  rw [mem_Ico] at hj
  rw [att, if_neg (by omega), zero_mul]

/-- What the columns after `a + j` keep: those of the block from `a` on, and those after the block. -/
theorem btw_block (i a j : ℕ) (hj : j < 256) (ha : a + 256 ≤ 4096) :
    btw Q K i (a + j) = ∑ j' ∈ Ico (j + 1) 256, keep Q K i (a + j') + ∑ j' ∈ Ico (a + 256) 4096, keep Q K i j' := by
  rw [btw, sum_block_from, ← Nat.add_assoc, sum_Ico_consecutive _ (by omega) ha]

/-- A block wholly in the past extends the row's result and its logarithm of what is left. -/
theorem block_left (i a : ℕ) (h : a + 256 ≤ i) (hi : i < 4096) (c : ℕ) :
    ∑ j ∈ Ico (a + 256) 4096, att Q K i j * V j c
      + ∑ j ∈ range 256, Real.exp (lsig (z Q K i (a + j)) + ∑ j' ∈ Ico (j + 1) 256, lk Q K i (a + j')
          + ∑ j' ∈ Ico (a + 256) 4096, keep Q K i j') * V (a + j) c
      = ∑ j ∈ Ico a 4096, att Q K i j * V j c := by
  rw [← sum_block_rest a 256 4096 (by omega)]
  refine congrArg _ (sum_congr rfl fun j hj => ?_)
  rw [mem_range] at hj
  rw [att, if_pos (by omega), btw_block i a j hj (by omega), ← add_assoc]
  refine congrArg (fun x => Real.exp (_ + x + _) * _) (sum_congr rfl fun j' hj' => ?_)
  rw [mem_Ico] at hj'
  rw [keep, if_pos (by omega)]

theorem keep_left (i a : ℕ) (h : a + 256 ≤ i) (hi : i < 4096) :
    ∑ j ∈ Ico (a + 256) 4096, keep Q K i j + ∑ j ∈ range 256, lk Q K i (a + j) = ∑ j ∈ Ico a 4096, keep Q K i j := by
  rw [← sum_block_rest a 256 4096 (by omega)]
  refine congrArg _ (sum_congr rfl fun j hj => ?_)
  rw [mem_range] at hj
  rw [keep, if_pos (by omega)]

/-- The block on the diagonal, from `a` on, of row `a + i`: the first one of that row. -/
theorem keep_diag (a i : ℕ) (hi : i < 256) (ha : a + 256 ≤ 4096) :
    ∑ j ∈ range 256, (if j < i then lk Q K (a + i) (a + j) else 0) = ∑ j ∈ Ico a 4096, keep Q K (a + i) j := by
  rw [← sum_block_rest a 256 4096 (by omega), keep_beyond (by omega), zero_add]
  refine sum_congr rfl fun j _ => ?_
  simp only [keep, Nat.add_lt_add_iff_left]

theorem block_diag (a i : ℕ) (hi : i < 256) (ha : a + 256 ≤ 4096) (c : ℕ) :
    ∑ j ∈ range 256, (if j < i then Real.exp (lsig (z Q K (a + i) (a + j))
        + ∑ j' ∈ Ico (j + 1) 256, (if j' < i then lk Q K (a + i) (a + j') else 0)) else 0) * V (a + j) c
      = ∑ j ∈ Ico a 4096, att Q K (a + i) j * V j c := by
  rw [← sum_block_rest a 256 4096 (by omega), att_beyond (by omega), zero_add]
  refine sum_congr rfl fun j hj => ?_
  rw [mem_range] at hj
  rw [att, btw_block _ a j hj ha, keep_beyond (by omega), add_zero]
  simp only [keep, Nat.add_lt_add_iff_left]

/-! ## The gradients, block by block from the left -/

/-- What the columns after `a + j` keep, from the row's total. -/
theorem btw_total (i a j : ℕ) (h : a + j < 4096) :
    btw Q K i (a + j) = total Q K i - (∑ j' ∈ range a, keep Q K i j' + ∑ j' ∈ range (j + 1), keep Q K i (a + j')) := by
  rw [sum_range_block a (j + 1) (keep Q K i), total, btw, ← sum_range_add_sum_Ico (keep Q K i) (show a + (j + 1) ≤ 4096 by omega),
    Nat.add_assoc]
  ring

/-- The weight of a column of a block wholly in the past, as the backward pass recomputes it. -/
theorem att_past (i a j : ℕ) (hj : j < 256) (h : a + 256 ≤ i) (hi : i < 4096) :
    att Q K i (a + j) = Real.exp (lsig (z Q K i (a + j))
      + (total Q K i - (∑ j' ∈ range a, keep Q K i j' + ∑ j' ∈ range (j + 1), lk Q K i (a + j')))) := by
  rw [att, if_pos (by omega), btw_total i a j (by omega)]
  refine congrArg (fun x => Real.exp (_ + (_ - (_ + x)))) (sum_congr rfl fun j' hj' => ?_)
  rw [mem_range] at hj'
  rw [keep, if_pos (by omega)]

/-- The sum over the rows seen so far of a column's share `f i j` times row `i` of `w`: the rows before `a`, and the 256
    rows from `a` on too when the column lies before `n`. -/
def part (f w : ℕ → ℕ → ℝ) (a n j c : ℕ) : ℝ := ∑ i ∈ range (a + if j < n then 256 else 0), f i j * w i c

/-- A block of columns from `n` on takes its rows in. -/
theorem part_block (f w : ℕ → ℕ → ℝ) (a n j c : ℕ) (hj : j < 256) :
    part f w a n (n + j) c + ∑ i ∈ range 256, f (a + i) (n + j) * w (a + i) c = part f w a (n + 256) (n + j) c := by
  rw [part, part, if_neg (by omega), if_pos (by omega), Nat.add_zero, sum_range_block a 256 (fun i => f i (n + j) * w i c)]

/-- Columns outside the block keep what they have. -/
theorem part_other (f w : ℕ → ℕ → ℝ) (a n j c : ℕ) (hj : j < n ∨ n + 256 ≤ j) : part f w a n j c = part f w a (n + 256) j c := by
  unfold part
  by_cases h : j < n
  · rw [if_pos h, if_pos (by omega)]
  · rw [if_neg h, if_neg (by omega)]

/-- Once the blocks up to the diagonal are in, every column has its rows before `a + 256`: those to the right have no share. -/
theorem part_done (f w : ℕ → ℕ → ℝ) (hf : ∀ i j, i ≤ j → f i j = 0) (a j c : ℕ) :
    part f w a (a + 256) j c = ∑ i ∈ range (a + 256), f i j * w i c := by
  unfold part
  by_cases h : j < a + 256
  · rw [if_pos h]
  · rw [if_neg h, Nat.add_zero, ← sum_range_block a 256 (fun i => f i j * w i c)]
    refine (add_zero _).symm.trans (congrArg _ (sum_eq_zero fun i hi => ?_).symm)
    rw [mem_range] at hi
    rw [hf _ _ (by omega), zero_mul]

theorem dz_future (i j : ℕ) (h : i ≤ j) : dz Q K V D i j = 0 := by rw [dz, if_neg (by omega)]
theorem att_future (i j : ℕ) (h : i ≤ j) : att Q K i j = 0 := by rw [att, if_neg (by omega)]

/-- A row's sum ends at its own column. -/
theorem dz_beyond (i n m c : ℕ) (h : i ≤ n) : ∑ j ∈ Ico n m, dz Q K V D i j * K j c = 0 := by
  refine sum_eq_zero fun j hj => ?_
  rw [mem_Ico] at hj
  rw [dz, if_neg (by omega), zero_mul]

/-! ## All heads side by side -/

/-- The columns of head `h`. -/
abbrev head (f : ℕ → ℕ → ℝ) (h : ℕ) : ℕ → ℕ → ℝ := fun i d => f i (128 * h + d)

/-- The attention of all heads. -/
def outAll (q k v : ℕ → ℕ → ℝ) : ℕ → ℕ → ℝ :=
  fun i e => out (head q (e / 128)) (head k (e / 128)) (head v (e / 128)) i (e % 128)

/-- The gradients of `q`, `k` and `v` of all heads. -/
def dqAll (q k v d : ℕ → ℕ → ℝ) : ℕ → ℕ → ℝ :=
  fun i e => dq (head q (e / 128)) (head k (e / 128)) (head v (e / 128)) (head d (e / 128)) i (e % 128)
def dkAll (q k v d : ℕ → ℕ → ℝ) : ℕ → ℕ → ℝ :=
  fun i e => dk (head q (e / 128)) (head k (e / 128)) (head v (e / 128)) (head d (e / 128)) i (e % 128)
def dvAll (q k d : ℕ → ℕ → ℝ) : ℕ → ℕ → ℝ :=
  fun i e => dv (head q (e / 128)) (head k (e / 128)) (head d (e / 128)) i (e % 128)

end Cert.SB

end

end
-- ==== Proof.BwdBlock.lean ====
/- The backward kernel's payloads on real blocks: what one block of 256 rows by 256 columns computes. -/
module

public import proofs.«01_k».proof.Proof.Gen.KernelIdeal.Value
public import proofs.«01_k».proof.Proof.RealArr
public import proofs.«01_k».proof.Proof.SBMaths

@[expose] public section

noncomputable section

namespace Cert.KernelIdeal.SB

open Cert.KernelIdeal Cert.KernelIdeal.Gen Idealize.ShloMosaic Idealize.ShloMosaic.TcCoe Idealize.SL.Sem Cert.RealArr Cert.SB

theorem dot_nt : dot_S256x128_S256x128_S256x256_1_1_0_0_n_n = DotDims.transposedRhs 256 128 256 := rfl
theorem dot_nn : dot_S256x256_S256x256_S256x256_1_0_0_1_n_n = DotDims.plain 256 256 256 := rfl
theorem dot_nv : dot_S256x256_S256x128_S256x128_1_0_0_1_n_n = DotDims.plain 256 256 128 := rfl
theorem dot_tn : dot_S256x256_S256x128_S256x128_0_0_1_1_n_n = firstAxes 256 256 128 := rfl

theorem iota_r (h : Shape.Iotas S256x256 .tc 32 [0]) : iota .tc S256x256 32 [0] h = nat2 (fun i _ => i) := iota_row h
theorem iota_c (h : Shape.Iotas S256x256 .tc 32 [1]) : iota .tc S256x256 32 [1] h = nat2 (fun _ j => j) := iota_col h

/-- A block's row sums, as a column. -/
theorem rowSum (f : ℕ → ℕ → ℝ) :
    shapeCast S256x1 (multiReduction (F := Ideal) .add [1] S256 (up2 (φ := .f32) f : FVec Ideal S256x256 .f32) 0x00000000#32 reduces_S256x256_S256 (.inl rfl) rfl) shapeCasts_S256_S256x1
      = up2 (φ := .f32) (fun i _ => ∑ j ∈ Finset.range 256, f i j) := by
  refine (congrArg (fun x => shapeCast S256x1 x shapeCasts_S256_S256x1) (rowSum_up2 f _ reduces_S256x256_S256 (.inl rfl) rfl)).trans ?_
  exact shapeCast_up1 _ _

/-! ## The two triangles and the initial values -/

/-- The triangle that counts a column's own and earlier ones. -/
theorem upto : k0_pay1 (F := Ideal) k0_pay67 (Scalar.ofBits .f32 0x3F800000#32) (Scalar.ofBits .f32 0x00000000#32)
    = up2 (fun i j => if i ≤ j then 1 else 0) := by
  unfold k0_pay1 k0_pay67
  rw [iota_r, iota_c]
  simp only [broadcast_zero, broadcast_one]
  rw [cmpi_sle_nat2 _ _ (fun i _ h _ => by omega) (fun _ j _ h => by omega), select_up2, truncf_up2]

/-- The triangle that counts a column's earlier ones. -/
theorem before (h0 : Shape.Iotas S256x256 .tc 32 [0]) (h1 : Shape.Iotas S256x256 .tc 32 [1]) :
    k0_pay2 (F := Ideal) (iota .tc S256x256 32 [0] h0) (iota .tc S256x256 32 [1] h1) = up2 (fun i j => if i < j then 1 else 0) := by
  unfold k0_pay2
  rw [iota_r, iota_c]
  simp only [broadcast_zero, broadcast_one]
  rw [cmpi_slt_nat2 _ _ (fun i _ h _ => by omega) (fun _ j _ h => by omega), select_up2, truncf_up2]

theorem pay3 : k0_pay3 (F := Ideal) = up2 (fun _ _ => 0) := broadcast_zero
theorem pay4 : k0_pay4 (F := Ideal) = up2 (fun _ _ => 0) := broadcast_zero
theorem pay5 : k0_pay5 (F := Ideal) = up2 (fun _ _ => 0) := broadcast_zero
theorem pay64 : k0_pay64 (F := Ideal) = up2 (fun _ _ => 0) := by
  unfold k0_pay64
  exact (shapeCast_self _ _).trans broadcast_zero
theorem pay65 : k0_pay65 (F := Ideal) = up2 (fun _ _ => 0) := pay64

/-! ## A block left of the diagonal: rows from `b` on, columns from `a` on -/

variable (Q K V D : ℕ → ℕ → ℝ) (b a : ℕ)

/-- Rows of a matrix from `n` on. -/
abbrev from' (f : ℕ → ℕ → ℝ) (n : ℕ) : ℕ → ℕ → ℝ := fun r c => f (n + r) c
/-- A column of sums over the columns before `a`. -/
abbrev upTo (f : ℕ → ℕ → ℝ) (b a : ℕ) : ℕ → ℕ → ℝ := fun r _ => ∑ j ∈ Finset.range a, f (b + r) j

theorem pay33 : k0_pay33 (F := Ideal) (up2 (φ := .bf16) (from' Q b)) (up2 (φ := .bf16) (from' K a)) = up2 (fun r j => z Q K (b + r) (a + j)) := by
  unfold k0_pay33
  simp only [dot_nt, matmul_transposedRhs_up2, broadcast_scale, mulf_up2]
  rfl

theorem pay34 : k0_pay34 (F := Ideal) (up2 (φ := .bf16) (from' Q b)) (up2 (φ := .bf16) (from' K a)) = up2 (fun r j => lsig (z Q K (b + r) (a + j))) := by
  unfold k0_pay34
  simp only [pay33, broadcast_zero, broadcast_one, minimumf_up2, absf_up2, subf_up2, exp_up2, addf_up2, log_up2]
  rfl

theorem pay35 : k0_pay35 (F := Ideal) (up2 (φ := .bf16) (from' Q b)) (up2 (φ := .bf16) (from' K a)) = up2 (fun r j => lk Q K (b + r) (a + j)) := by
  unfold k0_pay35
  simp only [pay33, pay34, subf_up2]
  rfl

theorem pay39 : k0_pay39 (F := Ideal) (up2 (φ := .bf16) (from' Q b)) (up2 (φ := .bf16) (from' K a))
    = up2 (fun r j => Real.exp (lsig (z Q K (b + r) (a + j)) - z Q K (b + r) (a + j))) := by
  unfold k0_pay39
  simp only [pay33, pay34, subf_up2, exp_up2]

theorem pay47 : k0_pay47 (F := Ideal) (up2 (φ := .bf16) (from' Q b)) (up2 (φ := .bf16) (from' K a)) = up2 (fun r j => z Q K (b + r) (a + j)) := pay33 Q K b a
theorem pay48 : k0_pay48 (F := Ideal) (up2 (φ := .bf16) (from' Q b)) (up2 (φ := .bf16) (from' K a)) = up2 (fun r j => lsig (z Q K (b + r) (a + j))) := pay34 Q K b a

variable (h : a + 256 ≤ b) (hb : b + 256 ≤ 4096)

include h hb in
/-- The weights of a block of the past. -/
theorem pay36 : k0_pay36 (F := Ideal) (up2 (φ := .bf16) (from' Q b)) (up2 (fun r _ => total Q K (b + r)))
      (up2 (fun i j => if i ≤ j then 1 else 0)) (up2 (upTo (keep Q K) b a)) (up2 (φ := .bf16) (from' K a))
    = up2 (fun r j => att Q K (b + r) (a + j)) := by
  unfold k0_pay36
  simp only [pay34, pay35, truncf_up2, extf_up2, subf_up2, dot_nn, matmul_plain_up2, addf_up2]
  rw [broadcastTo_up2 _ _ (by decide), broadcastTo_up2 _ _ (by decide)]
  simp only [addf_up2, subf_up2, exp_up2]
  refine up2_congr fun r j hr hj => ?_
  simp only [sub_self, zero_mul, Finset.sum_const_zero, add_zero]
  rw [sum_upto 256 j hj, att_past _ a j hj (by omega) (by omega)]

include h hb in
/-- The gradients of the weights' logarithms. -/
theorem pay37 : k0_pay37 (F := Ideal) (up2 (φ := .bf16) (from' Q b)) (up2 (φ := .bf16) (from' D b)) (up2 (fun r _ => total Q K (b + r)))
      (up2 (fun i j => if i ≤ j then 1 else 0)) (up2 (upTo (keep Q K) b a)) (up2 (φ := .bf16) (from' K a)) (up2 (φ := .bf16) (from' V a))
    = up2 (fun r j => g Q K V D (b + r) (a + j)) := by
  unfold k0_pay37
  rw [pay36 Q K b a h hb]
  simp only [dot_nt, matmul_transposedRhs_up2, mulf_up2]
  rfl

include h hb in
/-- Their sums over a column's earlier ones. -/
theorem pay38 : k0_pay38 (F := Ideal) (up2 (φ := .bf16) (from' Q b)) (up2 (φ := .bf16) (from' D b)) (up2 (fun r _ => total Q K (b + r)))
      (up2 (fun i j => if i ≤ j then 1 else 0)) (up2 (fun i j => if i < j then 1 else 0)) (up2 (upTo (keep Q K) b a)) (up2 (upTo (g Q K V D) b a))
      (up2 (φ := .bf16) (from' K a)) (up2 (φ := .bf16) (from' V a))
    = up2 (fun r j => ∑ j' ∈ Finset.range (a + j), g Q K V D (b + r) j') := by
  unfold k0_pay38
  rw [pay37 Q K V D b a h hb]
  simp only [truncf_up2, extf_up2, subf_up2, dot_nn, matmul_plain_up2, addf_up2]
  rw [broadcastTo_up2 _ _ (by decide)]
  simp only [addf_up2]
  refine up2_congr fun r j hr hj => ?_
  simp only [sub_self, zero_mul, Finset.sum_const_zero, add_zero]
  rw [sum_before 256 j hj.le, sum_range_block a j (fun j' => g Q K V D (b + r) j')]

include h in
/-- The gradients of the logits. -/
theorem pay6 : k0_pay6 (F := Ideal) (up2 (fun r j => lsig (z Q K (b + r) (a + j)))) (up2 (fun r j => g Q K V D (b + r) (a + j)))
      (up2 (fun r j => ∑ j' ∈ Finset.range (a + j), g Q K V D (b + r) j')) (up2 (fun r j => Real.exp (lsig (z Q K (b + r) (a + j)) - z Q K (b + r) (a + j))))
    = up2 (fun r j => dz Q K V D (b + r) (a + j)) := by
  unfold k0_pay6
  simp only [mulf_up2, exp_up2, subf_up2, truncf_up2]
  refine up2_congr fun r j hr hj => ?_
  rw [dz, if_pos (by omega)]

/-! ## The block on the diagonal -/

theorem word_row (n : ℕ) : Scalar.muli (BitVec.ofNat 32 n) 256#32 = BitVec.ofNat 32 (n * 256) := by
  rw [BitVec.ofNat_mul]; rfl

/-- The rows' own numbers. -/
theorem pay63 (i : grid0.Coords) : k0_pay63 i = nat2 (fun r _ => (i 1).val * 256 + r) := by
  unfold k0_pay63
  refine (congrArg₂ addi ((congrArg (broadcast S256x256) (word_row (i 1).val)).trans (broadcast_word _)) (iota_r _)).trans ?_
  exact addi_nat2 _ _

/-- The columns of the past. -/
theorem pay49 (i : grid0.Coords) (hcol : Shape.Iotas S256x256 .tc 32 [1]) (k : Fin (k0_t3_loop i).trips) (hk : k.val = 0) :
    k0_pay49 i (k0_pay63 i) (iota .tc S256x256 32 [1] hcol) (BitVec.ofNat 32 (i 1).val) 1#32 k
      = mask2 (fun r c => 256 * (i 1).val + c < 256 * (i 1).val + r) := by
  have hi : (i 1).val < 16 := (i 1).isLt
  rw [pay63]
  unfold k0_pay49
  have hw : Scf.iv (BitVec.ofNat 32 (i 1).val) 1#32 k = BitVec.ofNat 32 (i 1).val := by
    rw [hk]
    revert hi
    generalize (i 1).val = n
    revert n
    decide +kernel
  rw [hw]
  dsimp only
  rw [word_row, iota_c]
  simp only [broadcast_word, addi_nat2]
  rw [cmpi_slt_nat2 _ _ (fun _ j _ h => by omega) (fun i _ h _ => by omega)]
  unfold mask2
  funext x
  simp only [Nat.mul_comm 256]

section Diagonal

variable (i : grid0.Coords) (hcol : Shape.Iotas S256x256 .tc 32 [1]) (k : Fin (k0_t3_loop i).trips) (hk : k.val = 0)

include hk in
/-- The columns' logarithms, the past's only. -/
theorem pay50 : k0_pay50 (F := Ideal) i (up2 (φ := .bf16) (from' Q (256 * (i 1).val))) (k0_pay63 i) (iota .tc S256x256 32 [1] hcol) (BitVec.ofNat 32 (i 1).val) 1#32 k
      (up2 (φ := .bf16) (from' K (256 * (i 1).val)))
    = up2 (fun r j => keep Q K (256 * (i 1).val + r) (256 * (i 1).val + j)) := by
  unfold k0_pay50
  rw [pay49 i hcol k hk]
  simp only [pay47, pay48, subf_up2, broadcast_zero, select_up2]
  rfl

include hk in
theorem pay51 : k0_pay51 (F := Ideal) i (up2 (φ := .bf16) (from' Q (256 * (i 1).val))) (k0_pay63 i) (iota .tc S256x256 32 [1] hcol) (BitVec.ofNat 32 (i 1).val)
      (up2 (fun r _ => total Q K (256 * (i 1).val + r))) (up2 (fun i j => if i ≤ j then 1 else 0)) 1#32 k (up2 (upTo (keep Q K) (256 * (i 1).val) (256 * (i 1).val)))
      (up2 (φ := .bf16) (from' K (256 * (i 1).val)))
    = up2 (fun r j => att Q K (256 * (i 1).val + r) (256 * (i 1).val + j)) := by
  have hi : (i 1).val < 16 := (i 1).isLt
  unfold k0_pay51
  rw [pay49 i hcol k hk, pay50 Q K i hcol k hk]
  simp only [pay48, truncf_up2, extf_up2, subf_up2, dot_nn, matmul_plain_up2, addf_up2, broadcast_zero]
  rw [broadcastTo_up2 _ _ (by decide), broadcastTo_up2 _ _ (by decide)]
  simp only [addf_up2, subf_up2, exp_up2, select_up2]
  refine up2_congr fun r j hr hj => ?_
  simp only [sub_self, zero_mul, Finset.sum_const_zero, add_zero]
  rw [sum_upto 256 j hj (fun j' => keep Q K (256 * (i 1).val + r) (256 * (i 1).val + j')), att, btw_total _ _ j (by omega)]

include hk in
theorem pay52 : k0_pay52 (F := Ideal) i (up2 (φ := .bf16) (from' Q (256 * (i 1).val))) (k0_pay63 i) (iota .tc S256x256 32 [1] hcol) (BitVec.ofNat 32 (i 1).val)
      (up2 (φ := .bf16) (from' D (256 * (i 1).val))) (up2 (fun r _ => total Q K (256 * (i 1).val + r))) (up2 (fun i j => if i ≤ j then 1 else 0)) 1#32 k
      (up2 (upTo (keep Q K) (256 * (i 1).val) (256 * (i 1).val))) (up2 (φ := .bf16) (from' K (256 * (i 1).val))) (up2 (φ := .bf16) (from' V (256 * (i 1).val)))
    = up2 (fun r j => g Q K V D (256 * (i 1).val + r) (256 * (i 1).val + j)) := by
  unfold k0_pay52
  rw [pay51 Q K i hcol k hk]
  simp only [dot_nt, matmul_transposedRhs_up2, mulf_up2]
  rfl

include hk in
theorem pay53 : k0_pay53 (F := Ideal) i (up2 (φ := .bf16) (from' Q (256 * (i 1).val))) (k0_pay63 i) (iota .tc S256x256 32 [1] hcol) (BitVec.ofNat 32 (i 1).val)
      (up2 (φ := .bf16) (from' D (256 * (i 1).val))) (up2 (fun r _ => total Q K (256 * (i 1).val + r))) (up2 (fun i j => if i ≤ j then 1 else 0)) 1#32 k
      (up2 (upTo (keep Q K) (256 * (i 1).val) (256 * (i 1).val))) (up2 (φ := .bf16) (from' K (256 * (i 1).val))) (up2 (φ := .bf16) (from' V (256 * (i 1).val)))
    = up2 (fun r j => g Q K V D (256 * (i 1).val + r) (256 * (i 1).val + j)) := by
  unfold k0_pay53
  rw [pay52 Q K V D i hcol k hk, truncf_up2]

include hk in
theorem pay54 : k0_pay54 (F := Ideal) i (up2 (φ := .bf16) (from' Q (256 * (i 1).val))) (k0_pay63 i) (iota .tc S256x256 32 [1] hcol) (BitVec.ofNat 32 (i 1).val)
      (up2 (φ := .bf16) (from' D (256 * (i 1).val))) (up2 (fun r _ => total Q K (256 * (i 1).val + r))) (up2 (fun i j => if i ≤ j then 1 else 0)) 1#32 k
      (up2 (upTo (keep Q K) (256 * (i 1).val) (256 * (i 1).val))) (up2 (φ := .bf16) (from' K (256 * (i 1).val))) (up2 (φ := .bf16) (from' V (256 * (i 1).val)))
    = up2 (fun r j => g Q K V D (256 * (i 1).val + r) (256 * (i 1).val + j)) := by
  unfold k0_pay54
  rw [pay53 Q K V D i hcol k hk, extf_up2]

/-- The gradients of the logits, zero outside the past. -/
theorem pay18 (h0 : Shape.Iotas S256x256 .tc 32 [0]) (h1 : Shape.Iotas S256x256 .tc 32 [1]) :
    k0_pay18 (F := Ideal) (iota .tc S256x256 32 [0] h0) (iota .tc S256x256 32 [1] h1) (up2 (upTo (g Q K V D) b b))
      (up2 (fun r j => z Q K (b + r) (b + j))) (up2 (fun r j => lsig (z Q K (b + r) (b + j)))) (mask2 (fun r c => b + c < b + r))
      (up2 (fun r j => g Q K V D (b + r) (b + j))) (up2 (fun r j => g Q K V D (b + r) (b + j))) (up2 (fun r j => g Q K V D (b + r) (b + j)))
    = up2 (fun r j => dz Q K V D (b + r) (b + j)) := by
  unfold k0_pay18
  rw [before]
  simp only [truncf_up2, extf_up2, subf_up2, dot_nn, matmul_plain_up2, addf_up2, broadcast_zero]
  rw [broadcastTo_up2 _ _ (by decide)]
  simp only [addf_up2, subf_up2, exp_up2, mulf_up2, select_up2, truncf_up2]
  refine up2_congr fun r j hr hj => ?_
  simp only [sub_self, zero_mul, Finset.sum_const_zero, add_zero]
  rw [sum_before 256 j hj.le (fun j' => g Q K V D (b + r) (b + j')), sum_range_block b j (fun j' => g Q K V D (b + r) j'), dz]

end Diagonal

/-! ## The updates a block makes -/

theorem dkStep (w dzb x : ℕ → ℕ → ℝ) : addf (up2 (φ := .f32) w : FVec Ideal S256x128 .f32)
      (matmul dot_S256x256_S256x128_S256x128_0_0_1_1_n_n none (up2 (φ := .bf16) dzb : FVec Ideal S256x256 .bf16) (up2 (φ := .bf16) x : FVec Ideal S256x128 .bf16)
        (constant S256x128 .f32 0x00000000#32))
    = up2 (fun j c => w j c + ∑ r ∈ Finset.range 256, dzb r j * x r c) := by
  rw [dot_tn, matmul_firstAxes_up2, addf_up2]

theorem dqStep (w dzb x : ℕ → ℕ → ℝ) : addf (up2 (φ := .f32) w : FVec Ideal S256x128 .f32)
      (matmul dot_S256x256_S256x128_S256x128_1_0_0_1_n_n none (up2 (φ := .bf16) dzb : FVec Ideal S256x256 .bf16) (up2 (φ := .bf16) x : FVec Ideal S256x128 .bf16)
        (constant S256x128 .f32 0x00000000#32))
    = up2 (fun r c => w r c + ∑ j ∈ Finset.range 256, dzb r j * x j c) := by
  rw [dot_nv, matmul_plain_up2, addf_up2]

/-- A column of sums grows by the block's row sums. -/
theorem sumStep (f : ℕ → ℕ → ℝ) : addf (up2 (φ := .f32) (upTo f b a) : FVec Ideal S256x1 .f32)
      (shapeCast S256x1 (multiReduction (F := Ideal) .add [1] S256 (up2 (φ := .f32) (fun r j => f (b + r) (a + j)) : FVec Ideal S256x256 .f32) 0x00000000#32 reduces_S256x256_S256 (.inl rfl) rfl) shapeCasts_S256_S256x1)
    = up2 (upTo f b (a + 256)) := by
  rw [rowSum, addf_up2]
  refine up2_congr fun r _ _ _ => ?_
  exact sum_range_block a 256 (fun j => f (b + r) j)

end Cert.KernelIdeal.SB

end

end
-- ==== Proof.BwdLoop.lean ====
/- The backward kernel at one grid point: a block of 256 rows against the blocks of columns up to the diagonal. -/
module

public import proofs.«01_k».proof.Proof.BwdBlock
public import Idealize.ShloMosaic.Lib.WritesUnit
public import Idealize.ShloMosaic.Lib.Pipeline.ValueKit

@[expose] public section

noncomputable section

namespace Cert.KernelIdeal.SB

open Cert.KernelIdeal Cert.KernelIdeal.Gen Idealize.ShloMosaic Idealize.ShloMosaic.TcCoe Idealize.ShloMosaic.Tactic Idealize.SL.Sem Cert.RealArr Cert.SB

variable (c : Dev nD) (i : grid0.Coords) (arg2 : Memref sig .tc .vmem S256x128 .bf16) (harg2 : arg2.IsWhole)
  (arg3 : Memref sig .tc .vmem S4096x128 .bf16) (harg3 : arg3.IsWhole) (arg4 : Memref sig .tc .vmem S4096x128 .bf16) (harg4 : arg4.IsWhole)
  (arg5 : Memref sig .tc .vmem S1x256x1 .f32) (harg5 : arg5.IsWhole) (arg6 : Memref sig .tc .vmem S256x128 .bf16) (harg6 : arg6.IsWhole)
  (arg7 : Memref sig .tc .vmem S256x128 .bf16) (harg7 : arg7.IsWhole) (arg8 : Memref sig .tc .vmem S4096x128 .bf16) (harg8 : arg8.IsWhole)
  (arg9 : Memref sig .tc .vmem S4096x128 .bf16) (harg9 : arg9.IsWhole)
  (arg10 : Memref sig .tc .vmem S4096x128 .f32) (harg10 : arg10.IsWhole) (arg11 : Memref sig .tc .vmem S4096x128 .f32) (harg11 : arg11.IsWhole)

/-- The carried value: the sums of the kept logarithms, the sums of the weights' gradients, and the gradient of the rows of `q`. -/
abbrev Carry := FVec Ideal S256x1 .f32 × FVec Ideal S256x1 .f32 × FVec Ideal S256x128 .f32

theorem trips1 : (k0_t1_loop i).trips = (i 1).val := (by decide +kernel : ∀ i : grid0.Coords, (k0_t1_loop i).trips = (i 1).val) i
theorem off3 (k : Fin (k0_t3_loop i).trips) : k0_off3 i k = ![256 * (i 1).val, 0] :=
  (by decide +kernel : ∀ (i : grid0.Coords) (k : Fin (k0_t3_loop i).trips), k0_off3 i k = ![256 * (i 1).val, 0]) i k
theorem trips3 : (k0_t3_loop i).trips = 1 := (by decide +kernel : ∀ i : grid0.Coords, (k0_t3_loop i).trips = 1) i

section Trip

variable (v0 v31 : Vec Ideal S256x128 .bf16) (v4 v5 v6 v7 : IVec S256x256 32) (v27 : BitVec 32) (v33 : FVec Ideal S256x1 .f32) (v34 : IVec S256x256 1)
  (cst cst_16 : Ideal .f32) (x1 x2 : Vec Ideal S4096x128 .bf16) (acc : Carry)
  (f10 : BufTy.Contents (Elt Ideal) arg10.view.ty) (f11 : BufTy.Contents (Elt Ideal) arg11.view.ty)

/-- What one trip over a block left of the diagonal carries on. -/
theorem carried1 (k : Fin (k0_t1_loop i).trips) (kb vb : Vec Ideal S256x128 .bf16)
    (hk : View.ld x1 (Rect.unit (k0_off1 i k) S256x128.size (k0_off1_inb i k)) = kb) (hv : View.ld x2 (Rect.unit (k0_off1 i k) S256x128.size (k0_off1_inb i k)) = vb) :
    tripR_k0_t1 (F := Ideal) Variants.none c none i arg2 harg2 arg3 harg3 arg4 harg4 arg5 harg5 arg6 harg6 arg7 harg7 arg8 harg8 arg9 harg9 arg10 harg10 arg11 harg11 v0 v6 v7 v31 v33 v34 cst cst_16 (harg3.unread x1) (harg4.unread x2) k acc f10 f11
      = (k0_pay10 acc.1 (k0_pay35 v0 kb), k0_pay11 acc.2.1 (k0_pay37 v0 v31 v33 (k0_pay1 v34 cst cst_16) acc.1 kb vb),
         k0_pay9 acc.2.2 kb (k0_pay34 v0 kb) (k0_pay37 v0 v31 v33 (k0_pay1 v34 cst cst_16) acc.1 kb vb)
           (k0_pay38 v0 v31 v33 (k0_pay1 v34 cst cst_16) (k0_pay2 v6 v7) acc.1 acc.2.1 kb vb) (k0_pay39 v0 kb)) := by
  subst hk hv
  unfold tripR_k0_t1 trip_k0_t1
  dsimp only
  sl_unfold_words
  simp only [View.readAt_eq_ld, harg3.read_unread, harg4.read_unread]

/-- What one trip over a block left of the diagonal stores. -/
theorem stored1 (k : Fin (k0_t1_loop i).trips) (kb vb : Vec Ideal S256x128 .bf16) (w10 w11 : Vec Ideal S256x128 .f32)
    (hk : View.ld x1 (Rect.unit (k0_off1 i k) S256x128.size (k0_off1_inb i k)) = kb) (hv : View.ld x2 (Rect.unit (k0_off1 i k) S256x128.size (k0_off1_inb i k)) = vb)
    (h10 : View.ld (arg10.view.read (Elt Ideal) f10) (Rect.unit (k0_off1 i k) S256x128.size (k0_off1_inb i k)) = w10)
    (h11 : View.ld (arg11.view.read (Elt Ideal) f11) (Rect.unit (k0_off1 i k) S256x128.size (k0_off1_inb i k)) = w11) :
    tripL_k0_t1 (F := Ideal) Variants.none c none i arg2 harg2 arg3 harg3 arg4 harg4 arg5 harg5 arg6 harg6 arg7 harg7 arg8 harg8 arg9 harg9 arg10 harg10 arg11 harg11 v0 v6 v7 v31 v33 v34 cst cst_16 (harg3.unread x1) (harg4.unread x2) k acc f10 f11
      = ([⟨Rect.unit (k0_off1 i k) S256x128.size (k0_off1_inb i k),
          k0_pay7 v0 (k0_pay34 v0 kb) (k0_pay37 v0 v31 v33 (k0_pay1 v34 cst cst_16) acc.1 kb vb)
            (k0_pay38 v0 v31 v33 (k0_pay1 v34 cst cst_16) (k0_pay2 v6 v7) acc.1 acc.2.1 kb vb) (k0_pay39 v0 kb) w10⟩],
         [⟨Rect.unit (k0_off1 i k) S256x128.size (k0_off1_inb i k),
          k0_pay8 v31 (k0_pay36 v0 v33 (k0_pay1 v34 cst cst_16) acc.1 kb) w11⟩]) := by
  subst hk hv h10 h11
  unfold tripL_k0_t1 trip_k0_t1
  dsimp only
  sl_unfold_words
  simp only [View.readAt_eq_ld, harg3.read_unread, harg4.read_unread]

/-- What the trip over the block on the diagonal carries on. -/
theorem carried3 (k : Fin (k0_t3_loop i).trips) (kb vb : Vec Ideal S256x128 .bf16)
    (hk : View.ld x1 (Rect.unit (k0_off3 i k) S256x128.size (k0_off3_inb i k)) = kb) (hv : View.ld x2 (Rect.unit (k0_off3 i k) S256x128.size (k0_off3_inb i k)) = vb) :
    tripR_k0_t3 (F := Ideal) Variants.none c none i arg2 harg2 arg3 harg3 arg4 harg4 arg5 harg5 arg6 harg6 arg7 harg7 arg8 harg8 arg9 harg9 arg10 harg10 arg11 harg11 v0 v4 v5 v6 v7 v27 v31 v33 v34 cst cst_16 (harg3.unread x1) (harg4.unread x2) k acc f10 f11
      = (k0_pay22 acc.1 (k0_pay50 i v0 v4 v5 v27 1#32 k kb),
         k0_pay23 acc.2.1 (k0_pay52 i v0 v4 v5 v27 v31 v33 (k0_pay1 v34 cst cst_16) 1#32 k acc.1 kb vb),
         k0_pay21 v6 v7 acc.2.1 acc.2.2 kb (k0_pay47 v0 kb) (k0_pay48 v0 kb) (k0_pay49 i v4 v5 v27 1#32 k)
           (k0_pay52 i v0 v4 v5 v27 v31 v33 (k0_pay1 v34 cst cst_16) 1#32 k acc.1 kb vb)
           (k0_pay53 i v0 v4 v5 v27 v31 v33 (k0_pay1 v34 cst cst_16) 1#32 k acc.1 kb vb)
           (k0_pay54 i v0 v4 v5 v27 v31 v33 (k0_pay1 v34 cst cst_16) 1#32 k acc.1 kb vb)) := by
  subst hk hv
  unfold tripR_k0_t3 trip_k0_t3
  dsimp only
  sl_unfold_words
  simp only [View.readAt_eq_ld, harg3.read_unread, harg4.read_unread]

/-- What the trip over the block on the diagonal stores. -/
theorem stored3 (k : Fin (k0_t3_loop i).trips) (kb vb : Vec Ideal S256x128 .bf16) (w10 w11 : Vec Ideal S256x128 .f32)
    (hk : View.ld x1 (Rect.unit (k0_off3 i k) S256x128.size (k0_off3_inb i k)) = kb) (hv : View.ld x2 (Rect.unit (k0_off3 i k) S256x128.size (k0_off3_inb i k)) = vb)
    (h10 : View.ld (arg10.view.read (Elt Ideal) f10) (Rect.unit (k0_off3 i k) S256x128.size (k0_off3_inb i k)) = w10)
    (h11 : View.ld (arg11.view.read (Elt Ideal) f11) (Rect.unit (k0_off3 i k) S256x128.size (k0_off3_inb i k)) = w11) :
    tripL_k0_t3 (F := Ideal) Variants.none c none i arg2 harg2 arg3 harg3 arg4 harg4 arg5 harg5 arg6 harg6 arg7 harg7 arg8 harg8 arg9 harg9 arg10 harg10 arg11 harg11 v0 v4 v5 v6 v7 v27 v31 v33 v34 cst cst_16 (harg3.unread x1) (harg4.unread x2) k acc f10 f11
      = ([⟨Rect.unit (k0_off3 i k) S256x128.size (k0_off3_inb i k),
          k0_pay19 v0 v6 v7 acc.2.1 (k0_pay47 v0 kb) (k0_pay48 v0 kb) (k0_pay49 i v4 v5 v27 1#32 k)
           (k0_pay52 i v0 v4 v5 v27 v31 v33 (k0_pay1 v34 cst cst_16) 1#32 k acc.1 kb vb)
           (k0_pay53 i v0 v4 v5 v27 v31 v33 (k0_pay1 v34 cst cst_16) 1#32 k acc.1 kb vb)
           (k0_pay54 i v0 v4 v5 v27 v31 v33 (k0_pay1 v34 cst cst_16) 1#32 k acc.1 kb vb) w10⟩],
         [⟨Rect.unit (k0_off3 i k) S256x128.size (k0_off3_inb i k),
          k0_pay20 v31 (k0_pay51 i v0 v4 v5 v27 v33 (k0_pay1 v34 cst cst_16) 1#32 k acc.1 kb) w11⟩]) := by
  subst hk hv h10 h11
  unfold tripL_k0_t3 trip_k0_t3
  dsimp only
  sl_unfold_words
  simp only [View.readAt_eq_ld, harg3.read_unread, harg4.read_unread]

end Trip

/-! ## The arrays of sums -/

/-- A block of rows from `n` on takes the products of rows `a` to `a + 255` in. -/
theorem grow (m : Memref sig .tc .vmem S4096x128 .f32) (F : BufTy.Contents (Elt Ideal) m.view.ty) (f w : ℕ → ℕ → ℝ) (a n : ℕ)
    (hF : m.view.read (Elt Ideal) F = (up2 (part f w a n) : FVec Ideal S4096x128 .f32))
    (off : Fin 2 → ℕ) (hoff : off = ![n, 0]) (inb : ∀ x, off x + S256x128.size x ≤ S4096x128.size x) :
    m.view.read (Elt Ideal) (m.view.writes (Elt Ideal) F [⟨Rect.unit off S256x128.size inb,
        (up2 (fun j c => part f w a n (n + j) c + ∑ r ∈ Finset.range 256, f (a + r) (n + j) * w (a + r) c) : FVec Ideal S256x128 .f32)⟩])
      = (up2 (part f w a (n + 256)) : FVec Ideal S4096x128 .f32) := by
  funext y
  by_cases hy : n ≤ (y 0).val ∧ (y 0).val < n + 256
  · obtain ⟨j, hj⟩ : ∃ j, (y 0).val = n + j := ⟨(y 0).val - n, by omega⟩
    have hj' : j < 256 := by omega
    refine (View.read_writes_cons_rows_of_mem (d := ![4096, 128]) m.view F inb _ [] y (ix2 ⟨j, hj'⟩ ⟨(y 1).val, (y 1).isLt⟩) hoff hj rfl).trans ?_
    simp only [up2]
    refine congrArg (fun x : ℝ => (x : EReal)) ?_
    rw [hj]
    exact part_block f w a n j (y 1).val hj'
  · refine (View.read_writes_cons_rows_of_not_mem (d := ![4096, 128]) (W := 256) m.view F inb _ [] y hoff rfl (by omega)).trans ?_
    rw [View.writes_nil, hF]
    simp only [up2]
    refine congrArg (fun x : ℝ => (x : EReal)) ?_
    exact part_other f w a n (y 0).val (y 1).val (by omega)

variable (Q K V D : ℕ → ℕ → ℝ)

/-- What is carried once the columns before `n` are done, in the rows from `b` on. -/
def carry (b n : ℕ) : Carry :=
  (up2 (upTo (keep Q K) b n), up2 (upTo (g Q K V D) b n), up2 fun r c => ∑ j ∈ Finset.range n, dz Q K V D (b + r) j * K j c)

theorem sumsKeep (b a : ℕ) (h : a + 256 ≤ b) :
    k0_pay10 (F := Ideal) (up2 (upTo (keep Q K) b a)) (up2 (fun r j => lk Q K (b + r) (a + j))) = up2 (upTo (keep Q K) b (a + 256)) := by
  have e : (up2 (fun r j => lk Q K (b + r) (a + j)) : FVec Ideal S256x256 .f32) = up2 (fun r j => keep Q K (b + r) (a + j)) :=
    up2_congr fun r j hr hj => by rw [keep, if_pos (by omega)]
  rw [e]
  exact sumStep b a (keep Q K)

theorem rowsOfQ (b a : ℕ) (w : FVec Ideal S256x256 .bf16) (hw : w = up2 (fun r j => dz Q K V D (b + r) (a + j))) :
    addf (up2 (φ := .f32) (fun r c => ∑ j ∈ Finset.range a, dz Q K V D (b + r) j * K j c) : FVec Ideal S256x128 .f32)
      (matmul dot_S256x256_S256x128_S256x128_1_0_0_1_n_n none w (up2 (φ := .bf16) (from' K a) : FVec Ideal S256x128 .bf16) (constant S256x128 .f32 0x00000000#32))
    = up2 (fun r c => ∑ j ∈ Finset.range (a + 256), dz Q K V D (b + r) j * K j c) := by
  subst hw
  refine (dqStep _ _ _).trans (up2_congr fun r c _ _ => ?_)
  exact sum_range_block a 256 (fun j => dz Q K V D (b + r) j * K j c)

theorem rowsOfK (f w : ℕ → ℕ → ℝ) (b a n : ℕ) (x : FVec Ideal S256x256 .bf16) (hx : x = up2 (fun r j => f (b + r) (a + j))) (u : FVec Ideal S256x128 .f32)
    (hu : u = up2 (fun j c => part f w b n (a + j) (0 + c))) :
    shapeCast S256x128 (addf u (matmul dot_S256x256_S256x128_S256x128_0_0_1_1_n_n none x (up2 (φ := .bf16) (from' w b) : FVec Ideal S256x128 .bf16) (constant S256x128 .f32 0x00000000#32)))
        shapeCasts_S256x128_S256x128
    = up2 (fun j c => part f w b n (a + j) c + ∑ r ∈ Finset.range 256, f (b + r) (a + j) * w (b + r) c) := by
  subst hx hu
  rw [shapeCast_self]
  simp only [Nat.zero_add]
  exact dkStep _ _ _

section Steps

variable (F10 : BufTy.Contents (Elt Ideal) arg10.view.ty) (F11 : BufTy.Contents (Elt Ideal) arg11.view.ty)

/-- One trip left of the diagonal extends the carried sums by a block. -/
theorem carry1 (k : Fin (k0_t1_loop i).trips) :
    tripR_k0_t1 (F := Ideal) Variants.none c none i arg2 harg2 arg3 harg3 arg4 harg4 arg5 harg5 arg6 harg6 arg7 harg7 arg8 harg8 arg9 harg9 arg10 harg10 arg11 harg11 (up2 (φ := .bf16) (from' Q (256 * (i 1).val))) (iota .tc S256x256 32 [0] iota_S256x256_d0_w32) (iota .tc S256x256 32 [1] iota_S256x256_d1_w32) (up2 (φ := .bf16) (from' D (256 * (i 1).val))) (up2 (fun r _ => total Q K (256 * (i 1).val + r))) k0_pay67 (Scalar.ofBits .f32 0x3F800000#32) (Scalar.ofBits .f32 0x00000000#32) (harg3.unread (up2 (φ := .bf16) K)) (harg4.unread (up2 (φ := .bf16) V)) k (carry Q K V D (256 * (i 1).val) (256 * k.val)) F10 F11
      = carry Q K V D (256 * (i 1).val) (256 * (k.val + 1)) := by
  have hk : k.val < (i 1).val := (trips1 i) ▸ k.isLt
  have hi : (i 1).val < 16 := (i 1).isLt
  have h1 : 256 * k.val + 256 ≤ 256 * (i 1).val := by omega
  have h2 : 256 * (i 1).val + 256 ≤ 4096 := by omega
  have hl (f : ℕ → ℕ → ℝ) : View.ld (Val := Elt Ideal) (e' := .bf16) (up2 (φ := .bf16) f : FVec Ideal S4096x128 .bf16) (Rect.unit (k0_off1 i k) S256x128.size (k0_off1_inb i k))
      = (up2 (from' f (256 * k.val)) : FVec Ideal S256x128 .bf16) := by
    refine (ld_up2 f _ _ _ (k0_off1_eq i k) _).trans ?_
    simp only [Nat.zero_add]
  rw [carried1 (hk := hl K) (hv := hl V), upto, before]
  unfold carry
  dsimp only
  rw [pay35, pay37 Q K V D _ _ h1 h2, pay34, pay38 Q K V D _ _ h1 h2, pay39, Nat.mul_add 256 k.val 1, Nat.mul_one]
  refine congrArg₂ Prod.mk ?_ (congrArg₂ Prod.mk ?_ ?_)
  · exact sumsKeep Q K _ _ h1
  · exact sumStep _ _ (g Q K V D)
  · exact rowsOfQ Q K V D _ _ _ (pay6 Q K V D _ _ h1)

/-- One trip left of the diagonal adds a block's products to both arrays of sums. -/
theorem sums1 (k : Fin (k0_t1_loop i).trips)
    (h10 : arg10.view.read (Elt Ideal) F10 = (up2 (part (dz Q K V D) Q (256 * (i 1).val) (256 * k.val)) : FVec Ideal S4096x128 .f32))
    (h11 : arg11.view.read (Elt Ideal) F11 = (up2 (part (att Q K) D (256 * (i 1).val) (256 * k.val)) : FVec Ideal S4096x128 .f32)) :
    arg10.view.read (Elt Ideal) (arg10.view.writes (Elt Ideal) F10 (tripL_k0_t1 (F := Ideal) Variants.none c none i arg2 harg2 arg3 harg3 arg4 harg4 arg5 harg5 arg6 harg6 arg7 harg7 arg8 harg8 arg9 harg9 arg10 harg10 arg11 harg11 (up2 (φ := .bf16) (from' Q (256 * (i 1).val))) (iota .tc S256x256 32 [0] iota_S256x256_d0_w32) (iota .tc S256x256 32 [1] iota_S256x256_d1_w32) (up2 (φ := .bf16) (from' D (256 * (i 1).val))) (up2 (fun r _ => total Q K (256 * (i 1).val + r))) k0_pay67 (Scalar.ofBits .f32 0x3F800000#32) (Scalar.ofBits .f32 0x00000000#32) (harg3.unread (up2 (φ := .bf16) K)) (harg4.unread (up2 (φ := .bf16) V)) k
        (carry Q K V D (256 * (i 1).val) (256 * k.val)) F10 F11).1)
      = (up2 (part (dz Q K V D) Q (256 * (i 1).val) (256 * (k.val + 1))) : FVec Ideal S4096x128 .f32)
    ∧ arg11.view.read (Elt Ideal) (arg11.view.writes (Elt Ideal) F11 (tripL_k0_t1 (F := Ideal) Variants.none c none i arg2 harg2 arg3 harg3 arg4 harg4 arg5 harg5 arg6 harg6 arg7 harg7 arg8 harg8 arg9 harg9 arg10 harg10 arg11 harg11 (up2 (φ := .bf16) (from' Q (256 * (i 1).val))) (iota .tc S256x256 32 [0] iota_S256x256_d0_w32) (iota .tc S256x256 32 [1] iota_S256x256_d1_w32) (up2 (φ := .bf16) (from' D (256 * (i 1).val))) (up2 (fun r _ => total Q K (256 * (i 1).val + r))) k0_pay67 (Scalar.ofBits .f32 0x3F800000#32) (Scalar.ofBits .f32 0x00000000#32) (harg3.unread (up2 (φ := .bf16) K)) (harg4.unread (up2 (φ := .bf16) V)) k
        (carry Q K V D (256 * (i 1).val) (256 * k.val)) F10 F11).2)
      = (up2 (part (att Q K) D (256 * (i 1).val) (256 * (k.val + 1))) : FVec Ideal S4096x128 .f32) := by
  have hk : k.val < (i 1).val := (trips1 i) ▸ k.isLt
  have hi : (i 1).val < 16 := (i 1).isLt
  have h1 : 256 * k.val + 256 ≤ 256 * (i 1).val := by omega
  have h2 : 256 * (i 1).val + 256 ≤ 4096 := by omega
  have hl (f : ℕ → ℕ → ℝ) : View.ld (Val := Elt Ideal) (e' := .bf16) (up2 (φ := .bf16) f : FVec Ideal S4096x128 .bf16) (Rect.unit (k0_off1 i k) S256x128.size (k0_off1_inb i k))
      = (up2 (from' f (256 * k.val)) : FVec Ideal S256x128 .bf16) := by
    refine (ld_up2 f _ _ _ (k0_off1_eq i k) _).trans ?_
    simp only [Nat.zero_add]
  rw [stored1 (hk := hl K) (hv := hl V) (h10 := rfl) (h11 := rfl), upto, before]
  unfold carry
  dsimp only
  rw [pay37 Q K V D _ _ h1 h2, pay34, pay38 Q K V D _ _ h1 h2, pay39, pay36 Q K _ _ h1 h2, Nat.mul_add 256 k.val 1, Nat.mul_one]
  constructor
  · unfold k0_pay7
    dsimp only
    have hu : View.ld (Val := Elt Ideal) (arg10.view.read (Elt Ideal) F10) (Rect.unit (k0_off1 i k) ![256, 128] (k0_off1_inb i k))
        = (up2 (fun j c => part (dz Q K V D) Q (256 * (i 1).val) (256 * k.val) (256 * k.val + j) (0 + c)) : FVec Ideal S256x128 .f32) := by
      rw [h10]
      exact ld_up2_f32 _ _ _ _ (k0_off1_eq i k) _
    rw [rowsOfK (dz Q K V D) Q (256 * (i 1).val) (256 * k.val) (256 * k.val) _ (pay6 Q K V D _ _ h1) _ hu]
    exact grow arg10 F10 _ _ _ _ h10 _ (k0_off1_eq i k) _
  · unfold k0_pay8
    dsimp only
    have hu : View.ld (Val := Elt Ideal) (arg11.view.read (Elt Ideal) F11) (Rect.unit (k0_off1 i k) ![256, 128] (k0_off1_inb i k))
        = (up2 (fun j c => part (att Q K) D (256 * (i 1).val) (256 * k.val) (256 * k.val + j) (0 + c)) : FVec Ideal S256x128 .f32) := by
      rw [h11]
      exact ld_up2_f32 _ _ _ _ (k0_off1_eq i k) _
    rw [rowsOfK (att Q K) D (256 * (i 1).val) (256 * k.val) (256 * k.val) _ (truncf_up2 ..) _ hu]
    exact grow arg11 F11 _ _ _ _ h11 _ (k0_off1_eq i k) _

/-- The trip over the block on the diagonal extends the carried sums by a block. -/
theorem carry3 (k : Fin (k0_t3_loop i).trips) :
    tripR_k0_t3 (F := Ideal) Variants.none c none i arg2 harg2 arg3 harg3 arg4 harg4 arg5 harg5 arg6 harg6 arg7 harg7 arg8 harg8 arg9 harg9 arg10 harg10 arg11 harg11 (up2 (φ := .bf16) (from' Q (256 * (i 1).val))) (k0_pay63 i) (iota .tc S256x256 32 [1] iota_S256x256_d1_w32) (iota .tc S256x256 32 [0] iota_S256x256_d0_w32) (iota .tc S256x256 32 [1] iota_S256x256_d1_w32) (BitVec.ofNat 32 (i 1).val) (up2 (φ := .bf16) (from' D (256 * (i 1).val))) (up2 (fun r _ => total Q K (256 * (i 1).val + r))) k0_pay67 (Scalar.ofBits .f32 0x3F800000#32) (Scalar.ofBits .f32 0x00000000#32) (harg3.unread (up2 (φ := .bf16) K)) (harg4.unread (up2 (φ := .bf16) V)) k (carry Q K V D (256 * (i 1).val) (256 * (i 1).val)) F10 F11
      = carry Q K V D (256 * (i 1).val) (256 * (i 1).val + 256) := by
  have hk : k.val = 0 := by have h3 := trips3 i; have := k.isLt; omega
  have hl (f : ℕ → ℕ → ℝ) : View.ld (Val := Elt Ideal) (e' := .bf16) (up2 (φ := .bf16) f : FVec Ideal S4096x128 .bf16) (Rect.unit (k0_off3 i k) S256x128.size (k0_off3_inb i k))
      = (up2 (from' f (256 * (i 1).val)) : FVec Ideal S256x128 .bf16) := by
    refine (ld_up2 f _ _ _ (off3 i k) _).trans ?_
    simp only [Nat.zero_add]
  rw [carried3 (hk := hl K) (hv := hl V), upto]
  unfold carry
  dsimp only
  rw [pay47, pay48, pay49 i _ k hk, pay50 Q K i _ k hk, pay52 Q K V D i _ k hk, pay53 Q K V D i _ k hk, pay54 Q K V D i _ k hk]
  refine congrArg₂ Prod.mk ?_ (congrArg₂ Prod.mk ?_ ?_)
  · exact sumStep _ _ (keep Q K)
  · exact sumStep _ _ (g Q K V D)
  · exact rowsOfQ Q K V D _ _ _ (pay18 Q K V D _ _ _)

/-- The trip over the block on the diagonal adds the block's products to both arrays of sums. -/
theorem sums3 (k : Fin (k0_t3_loop i).trips)
    (h10 : arg10.view.read (Elt Ideal) F10 = (up2 (part (dz Q K V D) Q (256 * (i 1).val) (256 * (i 1).val)) : FVec Ideal S4096x128 .f32))
    (h11 : arg11.view.read (Elt Ideal) F11 = (up2 (part (att Q K) D (256 * (i 1).val) (256 * (i 1).val)) : FVec Ideal S4096x128 .f32)) :
    arg10.view.read (Elt Ideal) (arg10.view.writes (Elt Ideal) F10 (tripL_k0_t3 (F := Ideal) Variants.none c none i arg2 harg2 arg3 harg3 arg4 harg4 arg5 harg5 arg6 harg6 arg7 harg7 arg8 harg8 arg9 harg9 arg10 harg10 arg11 harg11 (up2 (φ := .bf16) (from' Q (256 * (i 1).val))) (k0_pay63 i) (iota .tc S256x256 32 [1] iota_S256x256_d1_w32) (iota .tc S256x256 32 [0] iota_S256x256_d0_w32) (iota .tc S256x256 32 [1] iota_S256x256_d1_w32) (BitVec.ofNat 32 (i 1).val) (up2 (φ := .bf16) (from' D (256 * (i 1).val))) (up2 (fun r _ => total Q K (256 * (i 1).val + r))) k0_pay67 (Scalar.ofBits .f32 0x3F800000#32) (Scalar.ofBits .f32 0x00000000#32) (harg3.unread (up2 (φ := .bf16) K)) (harg4.unread (up2 (φ := .bf16) V)) k
        (carry Q K V D (256 * (i 1).val) (256 * (i 1).val)) F10 F11).1)
      = (up2 (part (dz Q K V D) Q (256 * (i 1).val) (256 * (i 1).val + 256)) : FVec Ideal S4096x128 .f32)
    ∧ arg11.view.read (Elt Ideal) (arg11.view.writes (Elt Ideal) F11 (tripL_k0_t3 (F := Ideal) Variants.none c none i arg2 harg2 arg3 harg3 arg4 harg4 arg5 harg5 arg6 harg6 arg7 harg7 arg8 harg8 arg9 harg9 arg10 harg10 arg11 harg11 (up2 (φ := .bf16) (from' Q (256 * (i 1).val))) (k0_pay63 i) (iota .tc S256x256 32 [1] iota_S256x256_d1_w32) (iota .tc S256x256 32 [0] iota_S256x256_d0_w32) (iota .tc S256x256 32 [1] iota_S256x256_d1_w32) (BitVec.ofNat 32 (i 1).val) (up2 (φ := .bf16) (from' D (256 * (i 1).val))) (up2 (fun r _ => total Q K (256 * (i 1).val + r))) k0_pay67 (Scalar.ofBits .f32 0x3F800000#32) (Scalar.ofBits .f32 0x00000000#32) (harg3.unread (up2 (φ := .bf16) K)) (harg4.unread (up2 (φ := .bf16) V)) k
        (carry Q K V D (256 * (i 1).val) (256 * (i 1).val)) F10 F11).2)
      = (up2 (part (att Q K) D (256 * (i 1).val) (256 * (i 1).val + 256)) : FVec Ideal S4096x128 .f32) := by
  have hk : k.val = 0 := by have h3 := trips3 i; have := k.isLt; omega
  have hl (f : ℕ → ℕ → ℝ) : View.ld (Val := Elt Ideal) (e' := .bf16) (up2 (φ := .bf16) f : FVec Ideal S4096x128 .bf16) (Rect.unit (k0_off3 i k) S256x128.size (k0_off3_inb i k))
      = (up2 (from' f (256 * (i 1).val)) : FVec Ideal S256x128 .bf16) := by
    refine (ld_up2 f _ _ _ (off3 i k) _).trans ?_
    simp only [Nat.zero_add]
  rw [stored3 (hk := hl K) (hv := hl V) (h10 := rfl) (h11 := rfl), upto]
  unfold carry
  dsimp only
  rw [pay47, pay48, pay49 i _ k hk, pay51 Q K i _ k hk, pay52 Q K V D i _ k hk, pay53 Q K V D i _ k hk, pay54 Q K V D i _ k hk]
  constructor
  · unfold k0_pay19
    dsimp only
    have hu : View.ld (Val := Elt Ideal) (arg10.view.read (Elt Ideal) F10) (Rect.unit (k0_off3 i k) ![256, 128] (k0_off3_inb i k))
        = (up2 (fun j c => part (dz Q K V D) Q (256 * (i 1).val) (256 * (i 1).val) (256 * (i 1).val + j) (0 + c)) : FVec Ideal S256x128 .f32) := by
      rw [h10]
      exact ld_up2_f32 _ _ _ _ (off3 i k) _
    rw [rowsOfK (dz Q K V D) Q (256 * (i 1).val) (256 * (i 1).val) (256 * (i 1).val) _ (pay18 Q K V D _ _ _) _ hu]
    exact grow arg10 F10 _ _ _ _ h10 _ (off3 i k) _
  · unfold k0_pay20
    dsimp only
    have hu : View.ld (Val := Elt Ideal) (arg11.view.read (Elt Ideal) F11) (Rect.unit (k0_off3 i k) ![256, 128] (k0_off3_inb i k))
        = (up2 (fun j c => part (att Q K) D (256 * (i 1).val) (256 * (i 1).val) (256 * (i 1).val + j) (0 + c)) : FVec Ideal S256x128 .f32) := by
      rw [h11]
      exact ld_up2_f32 _ _ _ _ (off3 i k) _
    rw [rowsOfK (att Q K) D (256 * (i 1).val) (256 * (i 1).val) (256 * (i 1).val) _ (truncf_up2 ..) _ hu]
    exact grow arg11 F11 _ _ _ _ h11 _ (off3 i k) _

end Steps

variable (G10 : BufTy.Contents (Elt Ideal) arg10.view.ty) (G11 : BufTy.Contents (Elt Ideal) arg11.view.ty)

/-- The loop over the blocks left of the diagonal: the carried sums and both arrays of sums before trip `k`. -/
theorem loop1 (h10 : arg10.view.read (Elt Ideal) G10 = (up2 (part (dz Q K V D) Q (256 * (i 1).val) 0) : FVec Ideal S4096x128 .f32))
    (h11 : arg11.view.read (Elt Ideal) G11 = (up2 (part (att Q K) D (256 * (i 1).val) 0) : FVec Ideal S4096x128 .f32)) (k : ℕ) (hk : k ≤ (i 1).val)
    (s) (hs : s = st_k0_t1 (F := Ideal) Variants.none c none i arg2 harg2 arg3 harg3 arg4 harg4 arg5 harg5 arg6 harg6 arg7 harg7 arg8 harg8 arg9 harg9 arg10 harg10 arg11 harg11 (up2 (φ := .bf16) (from' Q (256 * (i 1).val))) (iota .tc S256x256 32 [0] iota_S256x256_d0_w32) (iota .tc S256x256 32 [1] iota_S256x256_d1_w32) (up2 (φ := .bf16) (from' D (256 * (i 1).val))) (up2 (fun r _ => total Q K (256 * (i 1).val + r))) k0_pay67 (Scalar.ofBits .f32 0x3F800000#32) (Scalar.ofBits .f32 0x00000000#32) (harg3.unread (up2 (φ := .bf16) K)) (harg4.unread (up2 (φ := .bf16) V)) G10 G11 (carry Q K V D (256 * (i 1).val) 0) k) :
    s.1 = carry Q K V D (256 * (i 1).val) (256 * k)
    ∧ arg10.view.read (Elt Ideal) (arg10.view.writes (Elt Ideal) G10 s.2.1) = (up2 (part (dz Q K V D) Q (256 * (i 1).val) (256 * k)) : FVec Ideal S4096x128 .f32)
    ∧ arg11.view.read (Elt Ideal) (arg11.view.writes (Elt Ideal) G11 s.2.2) = (up2 (part (att Q K) D (256 * (i 1).val) (256 * k)) : FVec Ideal S4096x128 .f32) := by
  induction k generalizing s with
  | zero => subst hs; exact ⟨rfl, h10, h11⟩
  | succ k ih =>
    have hlt : k < (k0_t1_loop i).trips := (trips1 i) ▸ hk
    replace hs := hs.trans (st_k0_t1_succ (F := Ideal) Variants.none c none i arg2 harg2 arg3 harg3 arg4 harg4 arg5 harg5 arg6 harg6 arg7 harg7 arg8 harg8 arg9 harg9 arg10 harg10 arg11 harg11 _ _ _ _ _ _ _ _ _ _ _ _ _ ⟨k, hlt⟩)
    dsimp only at hs
    generalize hp : st_k0_t1 (F := Ideal) _ _ _ _ _ _ _ _ _ _ _ _ _ _ _ _ _ _ _ _ _ _ _ _ _ _ _ _ _ _ _ _ _ _ _ _ _ k = p at hs
    obtain ⟨r0, r1, r2⟩ := ih (by omega) p hp.symm
    rw [r0] at hs
    subst hs
    have hc := carry1 c i arg2 harg2 arg3 harg3 arg4 harg4 arg5 harg5 arg6 harg6 arg7 harg7 arg8 harg8 arg9 harg9 arg10 harg10 arg11 harg11 Q K V D (arg10.view.writes (Elt Ideal) G10 p.2.1) (arg11.view.writes (Elt Ideal) G11 p.2.2) ⟨k, hlt⟩
    have hw := sums1 c i arg2 harg2 arg3 harg3 arg4 harg4 arg5 harg5 arg6 harg6 arg7 harg7 arg8 harg8 arg9 harg9 arg10 harg10 arg11 harg11 Q K V D (arg10.view.writes (Elt Ideal) G10 p.2.1) (arg11.view.writes (Elt Ideal) G11 p.2.2) ⟨k, hlt⟩ r1 r2
    dsimp only at hc hw ⊢
    rw [View.writes_append, View.writes_append]
    exact ⟨hc, hw.1, hw.2⟩

end Cert.KernelIdeal.SB

end

end
-- ==== Proof.BwdPoint.lean ====
/- The backward kernel at one grid point: its stored block of the gradient of `q`, its arrays of sums, and the gradients of `k` and `v`
   a head's last point stores. -/
module

public import proofs.«01_k».proof.Proof.BwdLoop

@[expose] public section

noncomputable section

namespace Cert.KernelIdeal.SB

open Cert.KernelIdeal Cert.KernelIdeal.Gen Idealize.ShloMosaic Idealize.ShloMosaic.TcCoe Idealize.ShloMosaic.Tactic Idealize.SL.Sem Cert.RealArr Cert.SB

variable (c : Dev nD) (i : grid0.Coords) (arg2 : Memref sig .tc .vmem S256x128 .bf16) (harg2 : arg2.IsWhole)
  (arg3 : Memref sig .tc .vmem S4096x128 .bf16) (harg3 : arg3.IsWhole) (arg4 : Memref sig .tc .vmem S4096x128 .bf16) (harg4 : arg4.IsWhole)
  (arg5 : Memref sig .tc .vmem S1x256x1 .f32) (harg5 : arg5.IsWhole) (arg6 : Memref sig .tc .vmem S256x128 .bf16) (harg6 : arg6.IsWhole)
  (arg7 : Memref sig .tc .vmem S256x128 .bf16) (harg7 : arg7.IsWhole) (arg8 : Memref sig .tc .vmem S4096x128 .bf16) (harg8 : arg8.IsWhole)
  (arg9 : Memref sig .tc .vmem S4096x128 .bf16) (harg9 : arg9.IsWhole)
  (arg10 : Memref sig .tc .vmem S4096x128 .f32) (harg10 : arg10.IsWhole) (arg11 : Memref sig .tc .vmem S4096x128 .f32) (harg11 : arg11.IsWhole)

/-- The carried value with the contents of the two arrays of sums. -/
abbrev Now := Carry × BufTy.Contents (Elt Ideal) arg10.view.ty × BufTy.Contents (Elt Ideal) arg11.view.ty

/-- What a loop leaves: its carried value, and the contents its stores made. -/
def after (G10 : BufTy.Contents (Elt Ideal) arg10.view.ty) (G11 : BufTy.Contents (Elt Ideal) arg11.view.ty)
    (s : Carry × List (View.Piece (Elt Ideal) S4096x128 .f32) × List (View.Piece (Elt Ideal) S4096x128 .f32)) : Now arg10 arg11 :=
  (s.1, arg10.view.writes (Elt Ideal) G10 s.2.1, arg11.view.writes (Elt Ideal) G11 s.2.2)

section Last

variable (w51 w59 w : BitVec 32) (T1 T2 T3 T4 : ℕ) (v0 v31 : Vec Ideal S256x128 .bf16) (v33 : FVec Ideal S256x1 .f32) (x1 x2 : Vec Ideal S4096x128 .bf16)
  (G10 : BufTy.Contents (Elt Ideal) arg10.view.ty) (G11 : BufTy.Contents (Elt Ideal) arg11.view.ty)

/-- After the loop over the blocks left of the diagonal. -/
def last1 : Now arg10 arg11 := after arg10 arg11 G10 G11
  (st_k0_t1 (F := Ideal) Variants.none c none i arg2 harg2 arg3 harg3 arg4 harg4 arg5 harg5 arg6 harg6 arg7 harg7 arg8 harg8 arg9 harg9 arg10 harg10 arg11 harg11 v0 (iota .tc S256x256 32 [0] iota_S256x256_d0_w32) (iota .tc S256x256 32 [1] iota_S256x256_d1_w32) v31 v33 k0_pay67 (Scalar.ofBits .f32 0x3F800000#32) (Scalar.ofBits .f32 0x00000000#32) (harg3.unread x1) (harg4.unread x2) G10 G11 (k0_pay3, k0_pay4, k0_pay5) T1)
/-- After its remainder loop. -/
def last2 (a : Now arg10 arg11) : Now arg10 arg11 := after arg10 arg11 a.2.1 a.2.2
  (st_k0_t2 (F := Ideal) Variants.none c none i arg2 harg2 arg3 harg3 arg4 harg4 arg5 harg5 arg6 harg6 arg7 harg7 arg8 harg8 arg9 harg9 arg10 harg10 arg11 harg11 v0 (iota .tc S256x256 32 [0] iota_S256x256_d0_w32) (iota .tc S256x256 32 [1] iota_S256x256_d1_w32) v31 v33 k0_pay67 (Scalar.ofBits .f32 0x3F800000#32) (Scalar.ofBits .f32 0x00000000#32) w51 (harg3.unread x1) (harg4.unread x2) a.2.1 a.2.2 (a.1.1, a.1.2.1, a.1.2.2) T2)
/-- After the block on the diagonal. -/
def last3 (a : Now arg10 arg11) : Now arg10 arg11 := after arg10 arg11 a.2.1 a.2.2
  (st_k0_t3 (F := Ideal) Variants.none c none i arg2 harg2 arg3 harg3 arg4 harg4 arg5 harg5 arg6 harg6 arg7 harg7 arg8 harg8 arg9 harg9 arg10 harg10 arg11 harg11 v0 (k0_pay63 i) (iota .tc S256x256 32 [1] iota_S256x256_d1_w32) (iota .tc S256x256 32 [0] iota_S256x256_d0_w32) (iota .tc S256x256 32 [1] iota_S256x256_d1_w32) w v31 v33 k0_pay67 (Scalar.ofBits .f32 0x3F800000#32) (Scalar.ofBits .f32 0x00000000#32) (harg3.unread x1) (harg4.unread x2) a.2.1 a.2.2 (a.1.1, a.1.2.1, a.1.2.2) T3)
/-- After the last remainder loop. -/
def last4 (a : Now arg10 arg11) : Now arg10 arg11 := after arg10 arg11 a.2.1 a.2.2
  (st_k0_t4 (F := Ideal) Variants.none c none i arg2 harg2 arg3 harg3 arg4 harg4 arg5 harg5 arg6 harg6 arg7 harg7 arg8 harg8 arg9 harg9 arg10 harg10 arg11 harg11 v0 (k0_pay63 i) (iota .tc S256x256 32 [1] iota_S256x256_d1_w32) (iota .tc S256x256 32 [0] iota_S256x256_d0_w32) (iota .tc S256x256 32 [1] iota_S256x256_d1_w32) v31 v33 k0_pay67 (Scalar.ofBits .f32 0x3F800000#32) (Scalar.ofBits .f32 0x00000000#32) w59 (harg3.unread x1) (harg4.unread x2) a.2.1 a.2.2 (a.1.1, a.1.2.1, a.1.2.2) T4)
/-- At the end of the body. -/
def last : Now arg10 arg11 :=
  last4 c i arg2 harg2 arg3 harg3 arg4 harg4 arg5 harg5 arg6 harg6 arg7 harg7 arg8 harg8 arg9 harg9 arg10 harg10 arg11 harg11 w59 T4 v0 v31 v33 x1 x2 (last3 c i arg2 harg2 arg3 harg3 arg4 harg4 arg5 harg5 arg6 harg6 arg7 harg7 arg8 harg8 arg9 harg9 arg10 harg10 arg11 harg11 w T3 v0 v31 v33 x1 x2
    (last2 c i arg2 harg2 arg3 harg3 arg4 harg4 arg5 harg5 arg6 harg6 arg7 harg7 arg8 harg8 arg9 harg9 arg10 harg10 arg11 harg11 w51 T2 v0 v31 v33 x1 x2 (last1 c i arg2 harg2 arg3 harg3 arg4 harg4 arg5 harg5 arg6 harg6 arg7 harg7 arg8 harg8 arg9 harg9 arg10 harg10 arg11 harg11 T1 v0 v31 v33 x1 x2 G10 G11)))

end Last

/-! ## The words of the body: the block on the diagonal, and the trip counts of its loops -/

/-- The number of the block on the diagonal. -/
def wordDiag : BitVec 32 := Scalar.select (Scalar.andi (Scalar.cmpi CmpIPredicate.ne (Scalar.subi (Scalar.extui (Scalar.cmpi CmpIPredicate.sgt (Scalar.subi (Scalar.addi (Scalar.muli (BitVec.ofNat 32 (i 1).val) 256#32) 256#32) 1#32) 0#32)) (Scalar.extui (Scalar.cmpi CmpIPredicate.slt (Scalar.subi (Scalar.addi (Scalar.muli (BitVec.ofNat 32 (i 1).val) 256#32) 256#32) 1#32) 0#32))) (Scalar.subi (Scalar.extui (Scalar.cmpi CmpIPredicate.sgt 256#32 0#32)) (Scalar.extui (Scalar.cmpi CmpIPredicate.slt 256#32 0#32)))) (Scalar.cmpi CmpIPredicate.ne (Scalar.remsi (Scalar.subi (Scalar.addi (Scalar.muli (BitVec.ofNat 32 (i 1).val) 256#32) 256#32) 1#32) 256#32) 0#32)) (Scalar.subi (Scalar.divsi (Scalar.subi (Scalar.addi (Scalar.muli (BitVec.ofNat 32 (i 1).val) 256#32) 256#32) 1#32) 256#32) 1#32) (Scalar.divsi (Scalar.subi (Scalar.addi (Scalar.muli (BitVec.ofNat 32 (i 1).val) 256#32) 256#32) 1#32) 256#32)
/-- Where the first remainder loop starts. -/
def wordRest : BitVec 32 := Scalar.addi 0#32 (Scalar.muli (Scalar.divsi (Scalar.subi (wordDiag i) 0#32) 1#32) 1#32)
/-- Where the last remainder loop starts. -/
def wordEnd : BitVec 32 := Scalar.addi (wordDiag i) (Scalar.muli (Scalar.divsi (Scalar.subi (Scalar.addi (wordDiag i) 1#32) (wordDiag i)) 1#32) 1#32)
def count1 : ℕ := Scf.trips 0#32 (wordRest i) 1#32
def count2 : ℕ := Scf.trips (wordRest i) (Scalar.addi 0#32 (Scalar.subi (wordDiag i) 0#32)) 1#32
def count3 : ℕ := Scf.trips (wordDiag i) (wordEnd i) 1#32
def count4 : ℕ := Scf.trips (wordEnd i) (Scalar.addi (wordDiag i) (Scalar.subi (Scalar.addi (wordDiag i) 1#32) (wordDiag i))) 1#32

theorem wordDiag_eq : wordDiag i = BitVec.ofNat 32 (i 1).val := (by decide +kernel : ∀ i : grid0.Coords, wordDiag i = BitVec.ofNat 32 (i 1).val) i
theorem count1_eq : count1 i = (i 1).val := (by decide +kernel : ∀ i : grid0.Coords, count1 i = (i 1).val) i
theorem count2_eq : count2 i = 0 := (by decide +kernel : ∀ i : grid0.Coords, count2 i = 0) i
theorem count3_eq : count3 i = 1 := (by decide +kernel : ∀ i : grid0.Coords, count3 i = 1) i
theorem count4_eq : count4 i = 0 := (by decide +kernel : ∀ i : grid0.Coords, count4 i = 0) i

variable (Q K V D : ℕ → ℕ → ℝ)

/-- The columns before `n` are done in the rows of point `i`. -/
def Done (n : ℕ) (a : Now arg10 arg11) : Prop :=
  a.1 = carry Q K V D (256 * (i 1).val) n
    ∧ arg10.view.read (Elt Ideal) a.2.1 = (up2 (part (dz Q K V D) Q (256 * (i 1).val) n) : FVec Ideal S4096x128 .f32)
    ∧ arg11.view.read (Elt Ideal) a.2.2 = (up2 (part (att Q K) D (256 * (i 1).val) n) : FVec Ideal S4096x128 .f32)

theorem start : ((k0_pay3 (F := Ideal), k0_pay4 (F := Ideal), k0_pay5 (F := Ideal)) : Carry) = carry Q K V D (256 * (i 1).val) 0 := by
  rw [pay3, pay4, pay5]
  unfold carry
  have e (f : ℕ → ℕ → ℝ) (b : ℕ) : (up2 (fun _ _ => 0) : FVec Ideal S256x1 .f32) = up2 (upTo f b 0) := up2_congr fun r _ _ _ => Finset.sum_range_zero _ |>.symm
  refine congrArg₂ Prod.mk (e _ _) (congrArg₂ Prod.mk (e _ _) ?_)
  exact up2_congr fun r _ _ _ => (Finset.sum_range_zero _).symm

variable (G10 : BufTy.Contents (Elt Ideal) arg10.view.ty) (G11 : BufTy.Contents (Elt Ideal) arg11.view.ty)

/-- The whole body, from the sums of the earlier rows to the sums with its own. -/
theorem last_done (w51 w59 : BitVec 32)
    (h10 : arg10.view.read (Elt Ideal) G10 = (up2 (part (dz Q K V D) Q (256 * (i 1).val) 0) : FVec Ideal S4096x128 .f32))
    (h11 : arg11.view.read (Elt Ideal) G11 = (up2 (part (att Q K) D (256 * (i 1).val) 0) : FVec Ideal S4096x128 .f32)) :
    Done i arg10 arg11 Q K V D (256 * (i 1).val + 256) (last c i arg2 harg2 arg3 harg3 arg4 harg4 arg5 harg5 arg6 harg6 arg7 harg7 arg8 harg8 arg9 harg9 arg10 harg10 arg11 harg11 w51 w59 (BitVec.ofNat 32 (i 1).val) (i 1).val 0 1 0
      (up2 (φ := .bf16) (from' Q (256 * (i 1).val))) (up2 (φ := .bf16) (from' D (256 * (i 1).val))) (up2 (fun r _ => total Q K (256 * (i 1).val + r))) (up2 (φ := .bf16) K) (up2 (φ := .bf16) V) G10 G11) := by
  have e1 : Done i arg10 arg11 Q K V D (256 * (i 1).val) (last1 c i arg2 harg2 arg3 harg3 arg4 harg4 arg5 harg5 arg6 harg6 arg7 harg7 arg8 harg8 arg9 harg9 arg10 harg10 arg11 harg11 (i 1).val (up2 (φ := .bf16) (from' Q (256 * (i 1).val))) (up2 (φ := .bf16) (from' D (256 * (i 1).val))) (up2 (fun r _ => total Q K (256 * (i 1).val + r))) (up2 (φ := .bf16) K) (up2 (φ := .bf16) V) G10 G11) := by
    unfold last1
    rw [start i Q K V D]
    exact loop1 c i arg2 harg2 arg3 harg3 arg4 harg4 arg5 harg5 arg6 harg6 arg7 harg7 arg8 harg8 arg9 harg9 arg10 harg10 arg11 harg11 Q K V D G10 G11 h10 h11 (i 1).val le_rfl _ rfl
  unfold last
  generalize last1 c i arg2 harg2 arg3 harg3 arg4 harg4 arg5 harg5 arg6 harg6 arg7 harg7 arg8 harg8 arg9 harg9 arg10 harg10 arg11 harg11 (i 1).val (up2 (φ := .bf16) (from' Q (256 * (i 1).val))) (up2 (φ := .bf16) (from' D (256 * (i 1).val))) (up2 (fun r _ => total Q K (256 * (i 1).val + r))) (up2 (φ := .bf16) K) (up2 (φ := .bf16) V) G10 G11 = p at e1 ⊢
  obtain ⟨r0, r1, r2⟩ := e1
  have e2 : last2 c i arg2 harg2 arg3 harg3 arg4 harg4 arg5 harg5 arg6 harg6 arg7 harg7 arg8 harg8 arg9 harg9 arg10 harg10 arg11 harg11 w51 0 (up2 (φ := .bf16) (from' Q (256 * (i 1).val))) (up2 (φ := .bf16) (from' D (256 * (i 1).val))) (up2 (fun r _ => total Q K (256 * (i 1).val + r))) (up2 (φ := .bf16) K) (up2 (φ := .bf16) V) p = p := rfl
  rw [e2]
  have e3 : Done i arg10 arg11 Q K V D (256 * (i 1).val + 256) (last3 c i arg2 harg2 arg3 harg3 arg4 harg4 arg5 harg5 arg6 harg6 arg7 harg7 arg8 harg8 arg9 harg9 arg10 harg10 arg11 harg11 (BitVec.ofNat 32 (i 1).val) 1 (up2 (φ := .bf16) (from' Q (256 * (i 1).val))) (up2 (φ := .bf16) (from' D (256 * (i 1).val))) (up2 (fun r _ => total Q K (256 * (i 1).val + r))) (up2 (φ := .bf16) K) (up2 (φ := .bf16) V) p) := by
    have hlt : 0 < (k0_t3_loop i).trips := by rw [trips3]; omega
    have hs := st_k0_t3_succ (F := Ideal) Variants.none c none i arg2 harg2 arg3 harg3 arg4 harg4 arg5 harg5 arg6 harg6 arg7 harg7 arg8 harg8 arg9 harg9 arg10 harg10 arg11 harg11 (up2 (φ := .bf16) (from' Q (256 * (i 1).val))) (k0_pay63 i) (iota .tc S256x256 32 [1] iota_S256x256_d1_w32) (iota .tc S256x256 32 [0] iota_S256x256_d0_w32) (iota .tc S256x256 32 [1] iota_S256x256_d1_w32) (BitVec.ofNat 32 (i 1).val) (up2 (φ := .bf16) (from' D (256 * (i 1).val))) (up2 (fun r _ => total Q K (256 * (i 1).val + r))) k0_pay67 (Scalar.ofBits .f32 0x3F800000#32) (Scalar.ofBits .f32 0x00000000#32) (harg3.unread (up2 (φ := .bf16) K)) (harg4.unread (up2 (φ := .bf16) V)) p.2.1 p.2.2 (p.1.1, p.1.2.1, p.1.2.2) ⟨0, hlt⟩
    unfold last3
    refine (congrArg (fun x => Done i arg10 arg11 Q K V D (256 * (i 1).val + 256) (after arg10 arg11 p.2.1 p.2.2 x)) hs).mpr ?_
    have hc := carry3 c i arg2 harg2 arg3 harg3 arg4 harg4 arg5 harg5 arg6 harg6 arg7 harg7 arg8 harg8 arg9 harg9 arg10 harg10 arg11 harg11 Q K V D p.2.1 p.2.2 ⟨0, hlt⟩
    have hw := sums3 c i arg2 harg2 arg3 harg3 arg4 harg4 arg5 harg5 arg6 harg6 arg7 harg7 arg8 harg8 arg9 harg9 arg10 harg10 arg11 harg11 Q K V D p.2.1 p.2.2 ⟨0, hlt⟩ r1 r2
    rw [← r0] at hc hw
    have ha (l : List (View.Piece (Elt Ideal) S4096x128 .f32)) : l ++ [] = l := List.append_nil l
    refine ⟨hc, ?_, ?_⟩
    · refine Eq.trans ?_ hw.1
      exact congrArg (fun l => arg10.view.read (Elt Ideal) (arg10.view.writes (Elt Ideal) p.2.1 l)) (ha _)
    · refine Eq.trans ?_ hw.2
      exact congrArg (fun l => arg11.view.read (Elt Ideal) (arg11.view.writes (Elt Ideal) p.2.2 l)) (ha _)
  exact e3

/-- Before any column is done, the arrays hold the sums over the earlier rows. -/
theorem part_zero (f w : ℕ → ℕ → ℝ) (a : ℕ) : part f w a 0 = fun j c => ∑ r ∈ Finset.range a, f r j * w r c := by
  funext j c
  rw [part, if_neg (Nat.not_lt_zero j), Nat.add_zero]

/-- The sums over the rows before `a`, of the gradients of the logits with `q`. -/
abbrev kSums (a : ℕ) : ℕ → ℕ → ℝ := fun j c => ∑ r ∈ Finset.range a, dz Q K V D r j * Q r c
/-- The sums over the rows before `a`, of the weights with the gradient of the result. -/
abbrev vSums (a : ℕ) : ℕ → ℕ → ℝ := fun j c => ∑ r ∈ Finset.range a, att Q K r j * D r c

/-- The body's end from the sums of the earlier rows: the rows of the gradient of `q` before its scale, and both sums with the rows of the point. -/
theorem last_eq (w51 w59 : BitVec 32)
    (h10 : arg10.view.read (Elt Ideal) G10 = (up2 (kSums Q K V D (256 * (i 1).val)) : FVec Ideal S4096x128 .f32))
    (h11 : arg11.view.read (Elt Ideal) G11 = (up2 (vSums Q K D (256 * (i 1).val)) : FVec Ideal S4096x128 .f32)) (a : Now arg10 arg11)
    (ha : a = last c i arg2 harg2 arg3 harg3 arg4 harg4 arg5 harg5 arg6 harg6 arg7 harg7 arg8 harg8 arg9 harg9 arg10 harg10 arg11 harg11 w51 w59 (BitVec.ofNat 32 (i 1).val) (i 1).val 0 1 0
      (up2 (φ := .bf16) (from' Q (256 * (i 1).val))) (up2 (φ := .bf16) (from' D (256 * (i 1).val))) (up2 (fun r _ => total Q K (256 * (i 1).val + r))) (up2 (φ := .bf16) K) (up2 (φ := .bf16) V) G10 G11) :
    a.1.2.2 = up2 (fun r c => ∑ j ∈ Finset.range (256 * (i 1).val + 256), dz Q K V D (256 * (i 1).val + r) j * K j c)
    ∧ arg10.view.read (Elt Ideal) a.2.1 = (up2 (kSums Q K V D (256 * (i 1).val + 256)) : FVec Ideal S4096x128 .f32)
    ∧ arg11.view.read (Elt Ideal) a.2.2 = (up2 (vSums Q K D (256 * (i 1).val + 256)) : FVec Ideal S4096x128 .f32) := by
  obtain ⟨r0, r1, r2⟩ := last_done c i arg2 harg2 arg3 harg3 arg4 harg4 arg5 harg5 arg6 harg6 arg7 harg7 arg8 harg8 arg9 harg9 arg10 harg10 arg11 harg11 Q K V D G10 G11 w51 w59 (h10.trans (by rw [part_zero])) (h11.trans (by rw [part_zero]))
  rw [← ha] at r0 r1 r2
  refine ⟨?_, r1.trans ?_, r2.trans ?_⟩
  · rw [r0]; rfl
  · exact up2_congr fun j c _ _ => part_done _ _ (dz_future (Q := Q) (K := K) (V := V) (D := D)) _ j c
  · exact up2_congr fun j c _ _ => part_done _ _ (att_future (Q := Q) (K := K)) _ j c

variable (x0 : Vec Ideal S256x128 .bf16) (x1 x2 : Vec Ideal S4096x128 .bf16) (x3 : Vec Ideal S1x256x1 .f32) (x4 : Vec Ideal S256x128 .bf16) (xs0 xs1 : Vec Ideal S4096x128 .f32)

/-- The block of the gradient of `q` a head's first point stores. -/
theorem runA_q (hc0 : cond0_0 i) (hc1 : ¬cond0_1 i) :
    (kernelRun0_A (F := Ideal) c i arg2 harg2 arg3 harg3 arg4 harg4 arg5 harg5 arg6 harg6 arg7 harg7 arg8 harg8 arg9 harg9 arg10 harg10 arg11 harg11 hc0 hc1 x0 x1 x2 x3 x4).1 = [⟨Rect.unit ![0, 0] ![256, 128] inb_S256x128_S256x128_0_0, k0_pay30 (last c i arg2 harg2 arg3 harg3 arg4 harg4 arg5 harg5 arg6 harg6 arg7 harg7 arg8 harg8 arg9 harg9 arg10 harg10 arg11 harg11 (wordRest i) (wordEnd i) (wordDiag i) (count1 i) (count2 i) (count3 i) (count4 i) (View.ld x0 (Rect.unit ![0, 0] ![256, 128] inb_S256x128_S256x128_0_0)) (View.ld x4 (Rect.unit ![0, 0] ![256, 128] inb_S256x128_S256x128_0_0)) (k0_pay66 (View.ld x3 (Rect.unit ![0, 0, 0] ![1, 256, 1] inb_S1x256x1_S1x256x1_0_0_0))) x1 x2 (arg10.view.writes (Elt Ideal) arg10.view.junk [⟨Rect.unit ![0, 0] ![4096, 128] inb_S4096x128_S4096x128_0_0, (k0_pay64 : FVec Ideal S4096x128 .f32)⟩]) (arg11.view.writes (Elt Ideal) arg11.view.junk [⟨Rect.unit ![0, 0] ![4096, 128] inb_S4096x128_S4096x128_0_0, (k0_pay65 : FVec Ideal S4096x128 .f32)⟩])).1.2.2⟩] := by
  unfold kernelRun0_A
  dsimp only
  sl_unfold_words
  unfold last last4 last3 last2 last1 after
  dsimp only
  unfold count1 count2 count3 count4 wordRest wordEnd wordDiag
  simp only [View.readAt_eq_ld, View.writes_append, harg2.read_unread, harg3.read_unread, harg4.read_unread, harg5.read_unread, harg6.read_unread]
  rfl

/-- The array of sums for `k` a head's first point leaves. -/
theorem runA_k (hc0 : cond0_0 i) (hc1 : ¬cond0_1 i) :
    arg10.view.writes (Elt Ideal) arg10.view.junk (kernelRun0_A (F := Ideal) c i arg2 harg2 arg3 harg3 arg4 harg4 arg5 harg5 arg6 harg6 arg7 harg7 arg8 harg8 arg9 harg9 arg10 harg10 arg11 harg11 hc0 hc1 x0 x1 x2 x3 x4).2.2.2.1 = (last c i arg2 harg2 arg3 harg3 arg4 harg4 arg5 harg5 arg6 harg6 arg7 harg7 arg8 harg8 arg9 harg9 arg10 harg10 arg11 harg11 (wordRest i) (wordEnd i) (wordDiag i) (count1 i) (count2 i) (count3 i) (count4 i) (View.ld x0 (Rect.unit ![0, 0] ![256, 128] inb_S256x128_S256x128_0_0)) (View.ld x4 (Rect.unit ![0, 0] ![256, 128] inb_S256x128_S256x128_0_0)) (k0_pay66 (View.ld x3 (Rect.unit ![0, 0, 0] ![1, 256, 1] inb_S1x256x1_S1x256x1_0_0_0))) x1 x2 (arg10.view.writes (Elt Ideal) arg10.view.junk [⟨Rect.unit ![0, 0] ![4096, 128] inb_S4096x128_S4096x128_0_0, (k0_pay64 : FVec Ideal S4096x128 .f32)⟩]) (arg11.view.writes (Elt Ideal) arg11.view.junk [⟨Rect.unit ![0, 0] ![4096, 128] inb_S4096x128_S4096x128_0_0, (k0_pay65 : FVec Ideal S4096x128 .f32)⟩])).2.1 := by
  unfold kernelRun0_A
  dsimp only
  sl_unfold_words
  unfold last last4 last3 last2 last1 after
  dsimp only
  unfold count1 count2 count3 count4 wordRest wordEnd wordDiag
  simp only [View.readAt_eq_ld, View.writes_append, harg2.read_unread, harg3.read_unread, harg4.read_unread, harg5.read_unread, harg6.read_unread]
  rfl

/-- The array of sums for `v` a head's first point leaves. -/
theorem runA_v (hc0 : cond0_0 i) (hc1 : ¬cond0_1 i) :
    arg11.view.writes (Elt Ideal) arg11.view.junk (kernelRun0_A (F := Ideal) c i arg2 harg2 arg3 harg3 arg4 harg4 arg5 harg5 arg6 harg6 arg7 harg7 arg8 harg8 arg9 harg9 arg10 harg10 arg11 harg11 hc0 hc1 x0 x1 x2 x3 x4).2.2.2.2.1 = (last c i arg2 harg2 arg3 harg3 arg4 harg4 arg5 harg5 arg6 harg6 arg7 harg7 arg8 harg8 arg9 harg9 arg10 harg10 arg11 harg11 (wordRest i) (wordEnd i) (wordDiag i) (count1 i) (count2 i) (count3 i) (count4 i) (View.ld x0 (Rect.unit ![0, 0] ![256, 128] inb_S256x128_S256x128_0_0)) (View.ld x4 (Rect.unit ![0, 0] ![256, 128] inb_S256x128_S256x128_0_0)) (k0_pay66 (View.ld x3 (Rect.unit ![0, 0, 0] ![1, 256, 1] inb_S1x256x1_S1x256x1_0_0_0))) x1 x2 (arg10.view.writes (Elt Ideal) arg10.view.junk [⟨Rect.unit ![0, 0] ![4096, 128] inb_S4096x128_S4096x128_0_0, (k0_pay64 : FVec Ideal S4096x128 .f32)⟩]) (arg11.view.writes (Elt Ideal) arg11.view.junk [⟨Rect.unit ![0, 0] ![4096, 128] inb_S4096x128_S4096x128_0_0, (k0_pay65 : FVec Ideal S4096x128 .f32)⟩])).2.2 := by
  unfold kernelRun0_A
  dsimp only
  sl_unfold_words
  unfold last last4 last3 last2 last1 after
  dsimp only
  unfold count1 count2 count3 count4 wordRest wordEnd wordDiag
  simp only [View.readAt_eq_ld, View.writes_append, harg2.read_unread, harg3.read_unread, harg4.read_unread, harg5.read_unread, harg6.read_unread]
  rfl

/-- The block of the gradient of `q` a point in the middle of a head stores. -/
theorem runB_q (hc0 : ¬cond0_0 i) (hc1 : ¬cond0_1 i) :
    (kernelRun0_B (F := Ideal) c i arg2 harg2 arg3 harg3 arg4 harg4 arg5 harg5 arg6 harg6 arg7 harg7 arg8 harg8 arg9 harg9 arg10 harg10 arg11 harg11 hc0 hc1 x0 x1 x2 x3 x4 xs0 xs1).1 = [⟨Rect.unit ![0, 0] ![256, 128] inb_S256x128_S256x128_0_0, k0_pay30 (last c i arg2 harg2 arg3 harg3 arg4 harg4 arg5 harg5 arg6 harg6 arg7 harg7 arg8 harg8 arg9 harg9 arg10 harg10 arg11 harg11 (wordRest i) (wordEnd i) (wordDiag i) (count1 i) (count2 i) (count3 i) (count4 i) (View.ld x0 (Rect.unit ![0, 0] ![256, 128] inb_S256x128_S256x128_0_0)) (View.ld x4 (Rect.unit ![0, 0] ![256, 128] inb_S256x128_S256x128_0_0)) (k0_pay66 (View.ld x3 (Rect.unit ![0, 0, 0] ![1, 256, 1] inb_S1x256x1_S1x256x1_0_0_0))) x1 x2 (harg10.unread xs0) (harg11.unread xs1)).1.2.2⟩] := by
  unfold kernelRun0_B
  dsimp only
  sl_unfold_words
  unfold last last4 last3 last2 last1 after
  dsimp only
  unfold count1 count2 count3 count4 wordRest wordEnd wordDiag
  simp only [View.readAt_eq_ld, View.writes_append, harg2.read_unread, harg3.read_unread, harg4.read_unread, harg5.read_unread, harg6.read_unread]
  rfl

/-- The array of sums for `k` a point in the middle of a head leaves. -/
theorem runB_k (hc0 : ¬cond0_0 i) (hc1 : ¬cond0_1 i) :
    arg10.view.writes (Elt Ideal) (harg10.unread xs0) (kernelRun0_B (F := Ideal) c i arg2 harg2 arg3 harg3 arg4 harg4 arg5 harg5 arg6 harg6 arg7 harg7 arg8 harg8 arg9 harg9 arg10 harg10 arg11 harg11 hc0 hc1 x0 x1 x2 x3 x4 xs0 xs1).2.2.2.1 = (last c i arg2 harg2 arg3 harg3 arg4 harg4 arg5 harg5 arg6 harg6 arg7 harg7 arg8 harg8 arg9 harg9 arg10 harg10 arg11 harg11 (wordRest i) (wordEnd i) (wordDiag i) (count1 i) (count2 i) (count3 i) (count4 i) (View.ld x0 (Rect.unit ![0, 0] ![256, 128] inb_S256x128_S256x128_0_0)) (View.ld x4 (Rect.unit ![0, 0] ![256, 128] inb_S256x128_S256x128_0_0)) (k0_pay66 (View.ld x3 (Rect.unit ![0, 0, 0] ![1, 256, 1] inb_S1x256x1_S1x256x1_0_0_0))) x1 x2 (harg10.unread xs0) (harg11.unread xs1)).2.1 := by
  unfold kernelRun0_B
  dsimp only
  sl_unfold_words
  unfold last last4 last3 last2 last1 after
  dsimp only
  unfold count1 count2 count3 count4 wordRest wordEnd wordDiag
  simp only [View.readAt_eq_ld, View.writes_append, harg2.read_unread, harg3.read_unread, harg4.read_unread, harg5.read_unread, harg6.read_unread]
  rfl

/-- The array of sums for `v` a point in the middle of a head leaves. -/
theorem runB_v (hc0 : ¬cond0_0 i) (hc1 : ¬cond0_1 i) :
    arg11.view.writes (Elt Ideal) (harg11.unread xs1) (kernelRun0_B (F := Ideal) c i arg2 harg2 arg3 harg3 arg4 harg4 arg5 harg5 arg6 harg6 arg7 harg7 arg8 harg8 arg9 harg9 arg10 harg10 arg11 harg11 hc0 hc1 x0 x1 x2 x3 x4 xs0 xs1).2.2.2.2.1 = (last c i arg2 harg2 arg3 harg3 arg4 harg4 arg5 harg5 arg6 harg6 arg7 harg7 arg8 harg8 arg9 harg9 arg10 harg10 arg11 harg11 (wordRest i) (wordEnd i) (wordDiag i) (count1 i) (count2 i) (count3 i) (count4 i) (View.ld x0 (Rect.unit ![0, 0] ![256, 128] inb_S256x128_S256x128_0_0)) (View.ld x4 (Rect.unit ![0, 0] ![256, 128] inb_S256x128_S256x128_0_0)) (k0_pay66 (View.ld x3 (Rect.unit ![0, 0, 0] ![1, 256, 1] inb_S1x256x1_S1x256x1_0_0_0))) x1 x2 (harg10.unread xs0) (harg11.unread xs1)).2.2 := by
  unfold kernelRun0_B
  dsimp only
  sl_unfold_words
  unfold last last4 last3 last2 last1 after
  dsimp only
  unfold count1 count2 count3 count4 wordRest wordEnd wordDiag
  simp only [View.readAt_eq_ld, View.writes_append, harg2.read_unread, harg3.read_unread, harg4.read_unread, harg5.read_unread, harg6.read_unread]
  rfl

/-- The block of the gradient of `q` a head's last point stores. -/
theorem runC_q (hc0 : ¬cond0_0 i) (hc1 : cond0_1 i) :
    (kernelRun0_C (F := Ideal) c i arg2 harg2 arg3 harg3 arg4 harg4 arg5 harg5 arg6 harg6 arg7 harg7 arg8 harg8 arg9 harg9 arg10 harg10 arg11 harg11 hc0 hc1 x0 x1 x2 x3 x4 xs0 xs1).1 = [⟨Rect.unit ![0, 0] ![256, 128] inb_S256x128_S256x128_0_0, k0_pay30 (last c i arg2 harg2 arg3 harg3 arg4 harg4 arg5 harg5 arg6 harg6 arg7 harg7 arg8 harg8 arg9 harg9 arg10 harg10 arg11 harg11 (wordRest i) (wordEnd i) (wordDiag i) (count1 i) (count2 i) (count3 i) (count4 i) (View.ld x0 (Rect.unit ![0, 0] ![256, 128] inb_S256x128_S256x128_0_0)) (View.ld x4 (Rect.unit ![0, 0] ![256, 128] inb_S256x128_S256x128_0_0)) (k0_pay66 (View.ld x3 (Rect.unit ![0, 0, 0] ![1, 256, 1] inb_S1x256x1_S1x256x1_0_0_0))) x1 x2 (harg10.unread xs0) (harg11.unread xs1)).1.2.2⟩] := by
  unfold kernelRun0_C
  dsimp only
  sl_unfold_words
  unfold last last4 last3 last2 last1 after
  dsimp only
  unfold count1 count2 count3 count4 wordRest wordEnd wordDiag
  simp only [View.readAt_eq_ld, View.writes_append, harg2.read_unread, harg3.read_unread, harg4.read_unread, harg5.read_unread, harg6.read_unread]
  rfl

/-- The gradient of `k` a head's last point stores. -/
theorem runC_k (hc0 : ¬cond0_0 i) (hc1 : cond0_1 i) :
    (kernelRun0_C (F := Ideal) c i arg2 harg2 arg3 harg3 arg4 harg4 arg5 harg5 arg6 harg6 arg7 harg7 arg8 harg8 arg9 harg9 arg10 harg10 arg11 harg11 hc0 hc1 x0 x1 x2 x3 x4 xs0 xs1).2.1 = [⟨Rect.unit ![0, 0] ![4096, 128] inb_S4096x128_S4096x128_0_0,
          k0_pay31 (View.ld (arg10.view.read (Elt Ideal) (last c i arg2 harg2 arg3 harg3 arg4 harg4 arg5 harg5 arg6 harg6 arg7 harg7 arg8 harg8 arg9 harg9 arg10 harg10 arg11 harg11 (wordRest i) (wordEnd i) (wordDiag i) (count1 i) (count2 i) (count3 i) (count4 i) (View.ld x0 (Rect.unit ![0, 0] ![256, 128] inb_S256x128_S256x128_0_0)) (View.ld x4 (Rect.unit ![0, 0] ![256, 128] inb_S256x128_S256x128_0_0)) (k0_pay66 (View.ld x3 (Rect.unit ![0, 0, 0] ![1, 256, 1] inb_S1x256x1_S1x256x1_0_0_0))) x1 x2 (harg10.unread xs0) (harg11.unread xs1)).2.1) (Rect.unit ![0, 0] ![4096, 128] inb_S4096x128_S4096x128_0_0))⟩] := by
  unfold kernelRun0_C
  dsimp only
  sl_unfold_words
  unfold last last4 last3 last2 last1 after
  dsimp only
  unfold count1 count2 count3 count4 wordRest wordEnd wordDiag
  simp only [View.readAt_eq_ld, View.writes_append, harg2.read_unread, harg3.read_unread, harg4.read_unread, harg5.read_unread, harg6.read_unread]
  rfl

/-- The gradient of `v` a head's last point stores. -/
theorem runC_v (hc0 : ¬cond0_0 i) (hc1 : cond0_1 i) :
    (kernelRun0_C (F := Ideal) c i arg2 harg2 arg3 harg3 arg4 harg4 arg5 harg5 arg6 harg6 arg7 harg7 arg8 harg8 arg9 harg9 arg10 harg10 arg11 harg11 hc0 hc1 x0 x1 x2 x3 x4 xs0 xs1).2.2.1 = [⟨Rect.unit ![0, 0] ![4096, 128] inb_S4096x128_S4096x128_0_0,
          k0_pay32 (View.ld (arg11.view.read (Elt Ideal) (last c i arg2 harg2 arg3 harg3 arg4 harg4 arg5 harg5 arg6 harg6 arg7 harg7 arg8 harg8 arg9 harg9 arg10 harg10 arg11 harg11 (wordRest i) (wordEnd i) (wordDiag i) (count1 i) (count2 i) (count3 i) (count4 i) (View.ld x0 (Rect.unit ![0, 0] ![256, 128] inb_S256x128_S256x128_0_0)) (View.ld x4 (Rect.unit ![0, 0] ![256, 128] inb_S256x128_S256x128_0_0)) (k0_pay66 (View.ld x3 (Rect.unit ![0, 0, 0] ![1, 256, 1] inb_S1x256x1_S1x256x1_0_0_0))) x1 x2 (harg10.unread xs0) (harg11.unread xs1)).2.2) (Rect.unit ![0, 0] ![4096, 128] inb_S4096x128_S4096x128_0_0))⟩] := by
  unfold kernelRun0_C
  dsimp only
  sl_unfold_words
  unfold last last4 last3 last2 last1 after
  dsimp only
  unfold count1 count2 count3 count4 wordRest wordEnd wordDiag
  simp only [View.readAt_eq_ld, View.writes_append, harg2.read_unread, harg3.read_unread, harg4.read_unread, harg5.read_unread, harg6.read_unread]
  rfl

end Cert.KernelIdeal.SB

end

end
-- ==== Proof.BwdOut.lean ====
/- What the backward kernel's points store, on real blocks. -/
module

public import proofs.«01_k».proof.Proof.BwdPoint

@[expose] public section

noncomputable section

namespace Cert.KernelIdeal.SB

open Cert.KernelIdeal Cert.KernelIdeal.Gen Idealize.ShloMosaic Idealize.ShloMosaic.TcCoe Idealize.SL.Sem Cert.RealArr Cert.SB

variable (c : Dev nD) (i : grid0.Coords) (arg2 : Memref sig .tc .vmem S256x128 .bf16) (harg2 : arg2.IsWhole)
  (arg3 : Memref sig .tc .vmem S4096x128 .bf16) (harg3 : arg3.IsWhole) (arg4 : Memref sig .tc .vmem S4096x128 .bf16) (harg4 : arg4.IsWhole)
  (arg5 : Memref sig .tc .vmem S1x256x1 .f32) (harg5 : arg5.IsWhole) (arg6 : Memref sig .tc .vmem S256x128 .bf16) (harg6 : arg6.IsWhole)
  (arg7 : Memref sig .tc .vmem S256x128 .bf16) (harg7 : arg7.IsWhole) (arg8 : Memref sig .tc .vmem S4096x128 .bf16) (harg8 : arg8.IsWhole)
  (arg9 : Memref sig .tc .vmem S4096x128 .bf16) (harg9 : arg9.IsWhole)
  (arg10 : Memref sig .tc .vmem S4096x128 .f32) (harg10 : arg10.IsWhole) (arg11 : Memref sig .tc .vmem S4096x128 .f32) (harg11 : arg11.IsWhole)
  (Q K V D : ℕ → ℕ → ℝ) (x3 : Vec Ideal S1x256x1 .f32) (hx3 : k0_pay66 x3 = (up2 (fun r _ => total Q K (256 * (i 1).val + r)) : FVec Ideal S256x1 .f32))

theorem ld_whole (f : ℕ → ℕ → ℝ) : View.ld (Val := Elt Ideal) (e' := .bf16) (up2 (φ := .bf16) f : FVec Ideal S256x128 .bf16) (Rect.unit ![0, 0] ![256, 128] inb_S256x128_S256x128_0_0)
    = (up2 f : FVec Ideal S256x128 .bf16) := by
  refine (ld_up2 _ _ 0 0 rfl _).trans ?_
  simp only [Nat.zero_add]

include hx3 in
theorem ld_total : k0_pay66 (View.ld (Val := Elt Ideal) (e' := .f32) x3 (Rect.unit ![0, 0, 0] ![1, 256, 1] inb_S1x256x1_S1x256x1_0_0_0))
    = (up2 (fun r _ => total Q K (256 * (i 1).val + r)) : FVec Ideal S256x1 .f32) := by
  refine Eq.trans (congrArg k0_pay66 ?_) hx3
  exact View.ld_unit_zero (by decide) _ _

section End

variable (G10 : BufTy.Contents (Elt Ideal) arg10.view.ty) (G11 : BufTy.Contents (Elt Ideal) arg11.view.ty)

include hx3 in
/-- The body's end on the loaded blocks. -/
theorem atEnd (h10 : arg10.view.read (Elt Ideal) G10 = (up2 (kSums Q K V D (256 * (i 1).val)) : FVec Ideal S4096x128 .f32))
    (h11 : arg11.view.read (Elt Ideal) G11 = (up2 (vSums Q K D (256 * (i 1).val)) : FVec Ideal S4096x128 .f32)) (a : Now arg10 arg11)
    (ha : a = last c i arg2 harg2 arg3 harg3 arg4 harg4 arg5 harg5 arg6 harg6 arg7 harg7 arg8 harg8 arg9 harg9 arg10 harg10 arg11 harg11 (wordRest i) (wordEnd i) (wordDiag i) (count1 i) (count2 i) (count3 i) (count4 i)
      (View.ld (Val := Elt Ideal) (e' := .bf16) (up2 (φ := .bf16) (from' Q (256 * (i 1).val))) (Rect.unit ![0, 0] ![256, 128] inb_S256x128_S256x128_0_0))
      (View.ld (Val := Elt Ideal) (e' := .bf16) (up2 (φ := .bf16) (from' D (256 * (i 1).val))) (Rect.unit ![0, 0] ![256, 128] inb_S256x128_S256x128_0_0))
      (k0_pay66 (View.ld (Val := Elt Ideal) (e' := .f32) x3 (Rect.unit ![0, 0, 0] ![1, 256, 1] inb_S1x256x1_S1x256x1_0_0_0))) (up2 (φ := .bf16) K) (up2 (φ := .bf16) V) G10 G11) :
    a.1.2.2 = up2 (fun r c => ∑ j ∈ Finset.range (256 * (i 1).val + 256), dz Q K V D (256 * (i 1).val + r) j * K j c)
    ∧ arg10.view.read (Elt Ideal) a.2.1 = (up2 (kSums Q K V D (256 * (i 1).val + 256)) : FVec Ideal S4096x128 .f32)
    ∧ arg11.view.read (Elt Ideal) a.2.2 = (up2 (vSums Q K D (256 * (i 1).val + 256)) : FVec Ideal S4096x128 .f32) := by
  rw [wordDiag_eq, count1_eq, count2_eq, count3_eq, count4_eq, ld_whole, ld_whole, ld_total i Q K x3 hx3] at ha
  exact last_eq c i arg2 harg2 arg3 harg3 arg4 harg4 arg5 harg5 arg6 harg6 arg7 harg7 arg8 harg8 arg9 harg9 arg10 harg10 arg11 harg11 Q K V D G10 G11 _ _ h10 h11 a ha

/-- The stored block of the gradient of `q`. -/
theorem scaled (w : FVec Ideal S256x128 .f32) (hw : w = up2 (fun r c => ∑ j ∈ Finset.range (256 * (i 1).val + 256), dz Q K V D (256 * (i 1).val + r) j * K j c)) :
    View.canon [(⟨Rect.unit ![0, 0] ![256, 128] inb_S256x128_S256x128_0_0, k0_pay30 w⟩ : View.Piece (Elt Ideal) S256x128 .bf16)] = (up2 (from' (dq Q K V D) (256 * (i 1).val)) : FVec Ideal S256x128 .bf16) := by
  have hi : (i 1).val < 16 := (i 1).isLt
  subst hw
  refine (View.canon_unit_zero (by decide) _ _).trans ?_
  unfold k0_pay30
  simp only [broadcast_scale, mulf_up2, truncf_up2]
  refine up2_congr fun r c hr _ => ?_
  rw [from', dq, ← Finset.sum_range_add_sum_Ico _ (show 256 * (i 1).val + 256 ≤ 4096 by omega), dz_beyond _ _ _ _ (by omega), add_zero]

end End

/-- The cleared array of sums for `k`. -/
theorem cleared10 : arg10.view.read (Elt Ideal) (arg10.view.writes (Elt Ideal) arg10.view.junk [⟨Rect.unit ![0, 0] ![4096, 128] inb_S4096x128_S4096x128_0_0, (k0_pay64 : FVec Ideal S4096x128 .f32)⟩])
    = (up2 (kSums Q K V D 0) : FVec Ideal S4096x128 .f32) := by
  have h0 : (k0_pay64 : FVec Ideal S4096x128 .f32) = up2 (kSums Q K V D 0) := pay64.trans (up2_congr fun j c _ _ => (Finset.sum_range_zero _).symm)
  rw [h0]
  funext y
  exact View.read_writes_cons_rows_of_mem (d := ![4096, 128]) arg10.view _ _ _ [] y y rfl (Nat.zero_add _).symm rfl

/-- The cleared array of sums for `v`. -/
theorem cleared11 : arg11.view.read (Elt Ideal) (arg11.view.writes (Elt Ideal) arg11.view.junk [⟨Rect.unit ![0, 0] ![4096, 128] inb_S4096x128_S4096x128_0_0, (k0_pay65 : FVec Ideal S4096x128 .f32)⟩])
    = (up2 (vSums Q K D 0) : FVec Ideal S4096x128 .f32) := by
  have h0 : (k0_pay65 : FVec Ideal S4096x128 .f32) = up2 (vSums Q K D 0) := pay65.trans (up2_congr fun j c _ _ => (Finset.sum_range_zero _).symm)
  rw [h0]
  funext y
  exact View.read_writes_cons_rows_of_mem (d := ![4096, 128]) arg11.view _ _ _ [] y y rfl (Nat.zero_add _).symm rfl

include hx3 in
/-- The block of the gradient of `q` stored in case A. -/
theorem outA_q (hc0 : cond0_0 i) (hc1 : ¬cond0_1 i) (h0 : (i 1).val = 0) : out0_A_5 (F := Ideal) c i arg2 harg2 arg3 harg3 arg4 harg4 arg5 harg5 arg6 harg6 arg7 harg7 arg8 harg8 arg9 harg9 arg10 harg10 arg11 harg11 hc0 hc1 (up2 (φ := .bf16) (from' Q (256 * (i 1).val))) (up2 (φ := .bf16) K) (up2 (φ := .bf16) V) x3 (up2 (φ := .bf16) (from' D (256 * (i 1).val))) = (up2 (from' (dq Q K V D) (256 * (i 1).val)) : FVec Ideal S256x128 .bf16) := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 hc0 hc1 _ _ _ _ _), runA_q c i arg2 harg2 arg3 harg3 arg4 harg4 arg5 harg5 arg6 harg6 arg7 harg7 arg8 harg8 arg9 harg9 arg10 harg10 arg11 harg11 (up2 (φ := .bf16) (from' Q (256 * (i 1).val))) (up2 (φ := .bf16) K) (up2 (φ := .bf16) V) x3 (up2 (φ := .bf16) (from' D (256 * (i 1).val))) hc0 hc1]
  generalize ha : last c i arg2 harg2 arg3 harg3 arg4 harg4 arg5 harg5 arg6 harg6 arg7 harg7 arg8 harg8 arg9 harg9 arg10 harg10 arg11 harg11 _ _ _ _ _ _ _ _ _ _ _ _ _ _ = a
  exact scaled i Q K V D _ (atEnd c i arg2 harg2 arg3 harg3 arg4 harg4 arg5 harg5 arg6 harg6 arg7 harg7 arg8 harg8 arg9 harg9 arg10 harg10 arg11 harg11 Q K V D x3 hx3 _ _ ((cleared10 arg10 Q K V D).trans (by rw [h0])) ((cleared11 arg11 Q K D).trans (by rw [h0])) a ha.symm).1

include hx3 in
/-- The array of sums for `k` left in case A. -/
theorem outA_k (hc0 : cond0_0 i) (hc1 : ¬cond0_1 i) (h0 : (i 1).val = 0) : sout0_A_0 (F := Ideal) c i arg2 harg2 arg3 harg3 arg4 harg4 arg5 harg5 arg6 harg6 arg7 harg7 arg8 harg8 arg9 harg9 arg10 harg10 arg11 harg11 hc0 hc1 (up2 (φ := .bf16) (from' Q (256 * (i 1).val))) (up2 (φ := .bf16) K) (up2 (φ := .bf16) V) x3 (up2 (φ := .bf16) (from' D (256 * (i 1).val))) = (up2 (kSums Q K V D (256 * (i 1).val + 256)) : FVec Ideal S4096x128 .f32) := by
  unfold sout0_A_0
  rw [View.read_writes_of_cover VS0_0 _ arg10.view arg10.view.junk _ (scover0_A_0 c i arg2 harg2 arg3 harg3 arg4 harg4 arg5 harg5 arg6 harg6 arg7 harg7 arg8 harg8 arg9 harg9 arg10 harg10 arg11 harg11 hc0 hc1 _ _ _ _ _), runA_k c i arg2 harg2 arg3 harg3 arg4 harg4 arg5 harg5 arg6 harg6 arg7 harg7 arg8 harg8 arg9 harg9 arg10 harg10 arg11 harg11 (up2 (φ := .bf16) (from' Q (256 * (i 1).val))) (up2 (φ := .bf16) K) (up2 (φ := .bf16) V) x3 (up2 (φ := .bf16) (from' D (256 * (i 1).val))) hc0 hc1]
  generalize ha : last c i arg2 harg2 arg3 harg3 arg4 harg4 arg5 harg5 arg6 harg6 arg7 harg7 arg8 harg8 arg9 harg9 arg10 harg10 arg11 harg11 _ _ _ _ _ _ _ _ _ _ _ _ _ _ = a
  exact (atEnd c i arg2 harg2 arg3 harg3 arg4 harg4 arg5 harg5 arg6 harg6 arg7 harg7 arg8 harg8 arg9 harg9 arg10 harg10 arg11 harg11 Q K V D x3 hx3 _ _ ((cleared10 arg10 Q K V D).trans (by rw [h0])) ((cleared11 arg11 Q K D).trans (by rw [h0])) a ha.symm).2.1

include hx3 in
/-- The array of sums for `v` left in case A. -/
theorem outA_v (hc0 : cond0_0 i) (hc1 : ¬cond0_1 i) (h0 : (i 1).val = 0) : sout0_A_1 (F := Ideal) c i arg2 harg2 arg3 harg3 arg4 harg4 arg5 harg5 arg6 harg6 arg7 harg7 arg8 harg8 arg9 harg9 arg10 harg10 arg11 harg11 hc0 hc1 (up2 (φ := .bf16) (from' Q (256 * (i 1).val))) (up2 (φ := .bf16) K) (up2 (φ := .bf16) V) x3 (up2 (φ := .bf16) (from' D (256 * (i 1).val))) = (up2 (vSums Q K D (256 * (i 1).val + 256)) : FVec Ideal S4096x128 .f32) := by
  unfold sout0_A_1
  rw [View.read_writes_of_cover VS0_1 _ arg11.view arg11.view.junk _ (scover0_A_1 c i arg2 harg2 arg3 harg3 arg4 harg4 arg5 harg5 arg6 harg6 arg7 harg7 arg8 harg8 arg9 harg9 arg10 harg10 arg11 harg11 hc0 hc1 _ _ _ _ _), runA_v c i arg2 harg2 arg3 harg3 arg4 harg4 arg5 harg5 arg6 harg6 arg7 harg7 arg8 harg8 arg9 harg9 arg10 harg10 arg11 harg11 (up2 (φ := .bf16) (from' Q (256 * (i 1).val))) (up2 (φ := .bf16) K) (up2 (φ := .bf16) V) x3 (up2 (φ := .bf16) (from' D (256 * (i 1).val))) hc0 hc1]
  generalize ha : last c i arg2 harg2 arg3 harg3 arg4 harg4 arg5 harg5 arg6 harg6 arg7 harg7 arg8 harg8 arg9 harg9 arg10 harg10 arg11 harg11 _ _ _ _ _ _ _ _ _ _ _ _ _ _ = a
  exact (atEnd c i arg2 harg2 arg3 harg3 arg4 harg4 arg5 harg5 arg6 harg6 arg7 harg7 arg8 harg8 arg9 harg9 arg10 harg10 arg11 harg11 Q K V D x3 hx3 _ _ ((cleared10 arg10 Q K V D).trans (by rw [h0])) ((cleared11 arg11 Q K D).trans (by rw [h0])) a ha.symm).2.2

include hx3 in
/-- The block of the gradient of `q` stored in case B. -/
theorem outB_q (hc0 : ¬cond0_0 i) (hc1 : ¬cond0_1 i) : out0_B_5 (F := Ideal) c i arg2 harg2 arg3 harg3 arg4 harg4 arg5 harg5 arg6 harg6 arg7 harg7 arg8 harg8 arg9 harg9 arg10 harg10 arg11 harg11 hc0 hc1 (up2 (φ := .bf16) (from' Q (256 * (i 1).val))) (up2 (φ := .bf16) K) (up2 (φ := .bf16) V) x3 (up2 (φ := .bf16) (from' D (256 * (i 1).val))) (up2 (φ := .f32) (kSums Q K V D (256 * (i 1).val))) (up2 (φ := .f32) (vSums Q K D (256 * (i 1).val))) = (up2 (from' (dq Q K V D) (256 * (i 1).val)) : FVec Ideal S256x128 .bf16) := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 hc0 hc1 _ _ _ _ _ _ _), runB_q c i arg2 harg2 arg3 harg3 arg4 harg4 arg5 harg5 arg6 harg6 arg7 harg7 arg8 harg8 arg9 harg9 arg10 harg10 arg11 harg11 (up2 (φ := .bf16) (from' Q (256 * (i 1).val))) (up2 (φ := .bf16) K) (up2 (φ := .bf16) V) x3 (up2 (φ := .bf16) (from' D (256 * (i 1).val))) (up2 (φ := .f32) (kSums Q K V D (256 * (i 1).val))) (up2 (φ := .f32) (vSums Q K D (256 * (i 1).val))) hc0 hc1]
  generalize ha : last c i arg2 harg2 arg3 harg3 arg4 harg4 arg5 harg5 arg6 harg6 arg7 harg7 arg8 harg8 arg9 harg9 arg10 harg10 arg11 harg11 _ _ _ _ _ _ _ _ _ _ _ _ _ _ = a
  exact scaled i Q K V D _ (atEnd c i arg2 harg2 arg3 harg3 arg4 harg4 arg5 harg5 arg6 harg6 arg7 harg7 arg8 harg8 arg9 harg9 arg10 harg10 arg11 harg11 Q K V D x3 hx3 _ _ (harg10.read_unread _) (harg11.read_unread _) a ha.symm).1

include hx3 in
/-- The array of sums for `k` left in case B. -/
theorem outB_k (hc0 : ¬cond0_0 i) (hc1 : ¬cond0_1 i) : sout0_B_0 (F := Ideal) c i arg2 harg2 arg3 harg3 arg4 harg4 arg5 harg5 arg6 harg6 arg7 harg7 arg8 harg8 arg9 harg9 arg10 harg10 arg11 harg11 hc0 hc1 (up2 (φ := .bf16) (from' Q (256 * (i 1).val))) (up2 (φ := .bf16) K) (up2 (φ := .bf16) V) x3 (up2 (φ := .bf16) (from' D (256 * (i 1).val))) (up2 (φ := .f32) (kSums Q K V D (256 * (i 1).val))) (up2 (φ := .f32) (vSums Q K D (256 * (i 1).val))) = (up2 (kSums Q K V D (256 * (i 1).val + 256)) : FVec Ideal S4096x128 .f32) := by
  unfold sout0_B_0
  rw [runB_k c i arg2 harg2 arg3 harg3 arg4 harg4 arg5 harg5 arg6 harg6 arg7 harg7 arg8 harg8 arg9 harg9 arg10 harg10 arg11 harg11 (up2 (φ := .bf16) (from' Q (256 * (i 1).val))) (up2 (φ := .bf16) K) (up2 (φ := .bf16) V) x3 (up2 (φ := .bf16) (from' D (256 * (i 1).val))) (up2 (φ := .f32) (kSums Q K V D (256 * (i 1).val))) (up2 (φ := .f32) (vSums Q K D (256 * (i 1).val))) hc0 hc1]
  generalize ha : last c i arg2 harg2 arg3 harg3 arg4 harg4 arg5 harg5 arg6 harg6 arg7 harg7 arg8 harg8 arg9 harg9 arg10 harg10 arg11 harg11 _ _ _ _ _ _ _ _ _ _ _ _ _ _ = a
  exact (atEnd c i arg2 harg2 arg3 harg3 arg4 harg4 arg5 harg5 arg6 harg6 arg7 harg7 arg8 harg8 arg9 harg9 arg10 harg10 arg11 harg11 Q K V D x3 hx3 _ _ (harg10.read_unread _) (harg11.read_unread _) a ha.symm).2.1

include hx3 in
/-- The array of sums for `v` left in case B. -/
theorem outB_v (hc0 : ¬cond0_0 i) (hc1 : ¬cond0_1 i) : sout0_B_1 (F := Ideal) c i arg2 harg2 arg3 harg3 arg4 harg4 arg5 harg5 arg6 harg6 arg7 harg7 arg8 harg8 arg9 harg9 arg10 harg10 arg11 harg11 hc0 hc1 (up2 (φ := .bf16) (from' Q (256 * (i 1).val))) (up2 (φ := .bf16) K) (up2 (φ := .bf16) V) x3 (up2 (φ := .bf16) (from' D (256 * (i 1).val))) (up2 (φ := .f32) (kSums Q K V D (256 * (i 1).val))) (up2 (φ := .f32) (vSums Q K D (256 * (i 1).val))) = (up2 (vSums Q K D (256 * (i 1).val + 256)) : FVec Ideal S4096x128 .f32) := by
  unfold sout0_B_1
  rw [runB_v c i arg2 harg2 arg3 harg3 arg4 harg4 arg5 harg5 arg6 harg6 arg7 harg7 arg8 harg8 arg9 harg9 arg10 harg10 arg11 harg11 (up2 (φ := .bf16) (from' Q (256 * (i 1).val))) (up2 (φ := .bf16) K) (up2 (φ := .bf16) V) x3 (up2 (φ := .bf16) (from' D (256 * (i 1).val))) (up2 (φ := .f32) (kSums Q K V D (256 * (i 1).val))) (up2 (φ := .f32) (vSums Q K D (256 * (i 1).val))) hc0 hc1]
  generalize ha : last c i arg2 harg2 arg3 harg3 arg4 harg4 arg5 harg5 arg6 harg6 arg7 harg7 arg8 harg8 arg9 harg9 arg10 harg10 arg11 harg11 _ _ _ _ _ _ _ _ _ _ _ _ _ _ = a
  exact (atEnd c i arg2 harg2 arg3 harg3 arg4 harg4 arg5 harg5 arg6 harg6 arg7 harg7 arg8 harg8 arg9 harg9 arg10 harg10 arg11 harg11 Q K V D x3 hx3 _ _ (harg10.read_unread _) (harg11.read_unread _) a ha.symm).2.2

include hx3 in
/-- The block of the gradient of `q` stored in case C. -/
theorem outC_q (hc0 : ¬cond0_0 i) (hc1 : cond0_1 i) : out0_C_5 (F := Ideal) c i arg2 harg2 arg3 harg3 arg4 harg4 arg5 harg5 arg6 harg6 arg7 harg7 arg8 harg8 arg9 harg9 arg10 harg10 arg11 harg11 hc0 hc1 (up2 (φ := .bf16) (from' Q (256 * (i 1).val))) (up2 (φ := .bf16) K) (up2 (φ := .bf16) V) x3 (up2 (φ := .bf16) (from' D (256 * (i 1).val))) (up2 (φ := .f32) (kSums Q K V D (256 * (i 1).val))) (up2 (φ := .f32) (vSums Q K D (256 * (i 1).val))) = (up2 (from' (dq Q K V D) (256 * (i 1).val)) : FVec Ideal S256x128 .bf16) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 _ _ _ _ _ _ _), runC_q c i arg2 harg2 arg3 harg3 arg4 harg4 arg5 harg5 arg6 harg6 arg7 harg7 arg8 harg8 arg9 harg9 arg10 harg10 arg11 harg11 (up2 (φ := .bf16) (from' Q (256 * (i 1).val))) (up2 (φ := .bf16) K) (up2 (φ := .bf16) V) x3 (up2 (φ := .bf16) (from' D (256 * (i 1).val))) (up2 (φ := .f32) (kSums Q K V D (256 * (i 1).val))) (up2 (φ := .f32) (vSums Q K D (256 * (i 1).val))) hc0 hc1]
  generalize ha : last c i arg2 harg2 arg3 harg3 arg4 harg4 arg5 harg5 arg6 harg6 arg7 harg7 arg8 harg8 arg9 harg9 arg10 harg10 arg11 harg11 _ _ _ _ _ _ _ _ _ _ _ _ _ _ = a
  exact scaled i Q K V D _ (atEnd c i arg2 harg2 arg3 harg3 arg4 harg4 arg5 harg5 arg6 harg6 arg7 harg7 arg8 harg8 arg9 harg9 arg10 harg10 arg11 harg11 Q K V D x3 hx3 _ _ (harg10.read_unread _) (harg11.read_unread _) a ha.symm).1

include hx3 in
/-- The gradient of `k` a head's last point stores. -/
theorem outC_k (hc0 : ¬cond0_0 i) (hc1 : cond0_1 i) (h1 : (i 1).val = 15) : out0_C_6 (F := Ideal) c i arg2 harg2 arg3 harg3 arg4 harg4 arg5 harg5 arg6 harg6 arg7 harg7 arg8 harg8 arg9 harg9 arg10 harg10 arg11 harg11 hc0 hc1 (up2 (φ := .bf16) (from' Q (256 * (i 1).val))) (up2 (φ := .bf16) K) (up2 (φ := .bf16) V) x3 (up2 (φ := .bf16) (from' D (256 * (i 1).val))) (up2 (φ := .f32) (kSums Q K V D (256 * (i 1).val))) (up2 (φ := .f32) (vSums Q K D (256 * (i 1).val))) = (up2 (dk Q K V D) : FVec Ideal S4096x128 .bf16) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 _ _ _ _ _ _ _), runC_k c i arg2 harg2 arg3 harg3 arg4 harg4 arg5 harg5 arg6 harg6 arg7 harg7 arg8 harg8 arg9 harg9 arg10 harg10 arg11 harg11 (up2 (φ := .bf16) (from' Q (256 * (i 1).val))) (up2 (φ := .bf16) K) (up2 (φ := .bf16) V) x3 (up2 (φ := .bf16) (from' D (256 * (i 1).val))) (up2 (φ := .f32) (kSums Q K V D (256 * (i 1).val))) (up2 (φ := .f32) (vSums Q K D (256 * (i 1).val))) hc0 hc1]
  refine (View.canon_unit_zero (by decide) _ _).trans ?_
  generalize ha : last c i arg2 harg2 arg3 harg3 arg4 harg4 arg5 harg5 arg6 harg6 arg7 harg7 arg8 harg8 arg9 harg9 arg10 harg10 arg11 harg11 _ _ _ _ _ _ _ _ _ _ _ _ _ _ = a
  have he := (atEnd c i arg2 harg2 arg3 harg3 arg4 harg4 arg5 harg5 arg6 harg6 arg7 harg7 arg8 harg8 arg9 harg9 arg10 harg10 arg11 harg11 Q K V D x3 hx3 _ _ (harg10.read_unread _) (harg11.read_unread _) a ha.symm).2.1
  rw [he, h1]
  have hl : View.ld (Val := Elt Ideal) (e' := .f32) (up2 (kSums Q K V D (256 * 15 + 256)) : FVec Ideal S4096x128 .f32) (Rect.unit ![0, 0] ![4096, 128] inb_S4096x128_S4096x128_0_0)
      = (up2 (kSums Q K V D 4096) : FVec Ideal S4096x128 .f32) := View.ld_unit_zero (by decide) _ _
  rw [hl]
  unfold k0_pay31
  simp only [broadcast_scale, mulf_up2, truncf_up2]
  rfl

include hx3 in
/-- The gradient of `v` a head's last point stores. -/
theorem outC_v (hc0 : ¬cond0_0 i) (hc1 : cond0_1 i) (h1 : (i 1).val = 15) : out0_C_7 (F := Ideal) c i arg2 harg2 arg3 harg3 arg4 harg4 arg5 harg5 arg6 harg6 arg7 harg7 arg8 harg8 arg9 harg9 arg10 harg10 arg11 harg11 hc0 hc1 (up2 (φ := .bf16) (from' Q (256 * (i 1).val))) (up2 (φ := .bf16) K) (up2 (φ := .bf16) V) x3 (up2 (φ := .bf16) (from' D (256 * (i 1).val))) (up2 (φ := .f32) (kSums Q K V D (256 * (i 1).val))) (up2 (φ := .f32) (vSums Q K D (256 * (i 1).val))) = (up2 (dv Q K D) : FVec Ideal S4096x128 .bf16) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 _ _ _ _ _ _ _), runC_v c i arg2 harg2 arg3 harg3 arg4 harg4 arg5 harg5 arg6 harg6 arg7 harg7 arg8 harg8 arg9 harg9 arg10 harg10 arg11 harg11 (up2 (φ := .bf16) (from' Q (256 * (i 1).val))) (up2 (φ := .bf16) K) (up2 (φ := .bf16) V) x3 (up2 (φ := .bf16) (from' D (256 * (i 1).val))) (up2 (φ := .f32) (kSums Q K V D (256 * (i 1).val))) (up2 (φ := .f32) (vSums Q K D (256 * (i 1).val))) hc0 hc1]
  refine (View.canon_unit_zero (by decide) _ _).trans ?_
  generalize ha : last c i arg2 harg2 arg3 harg3 arg4 harg4 arg5 harg5 arg6 harg6 arg7 harg7 arg8 harg8 arg9 harg9 arg10 harg10 arg11 harg11 _ _ _ _ _ _ _ _ _ _ _ _ _ _ = a
  have he := (atEnd c i arg2 harg2 arg3 harg3 arg4 harg4 arg5 harg5 arg6 harg6 arg7 harg7 arg8 harg8 arg9 harg9 arg10 harg10 arg11 harg11 Q K V D x3 hx3 _ _ (harg10.read_unread _) (harg11.read_unread _) a ha.symm).2.2
  rw [he, h1]
  have hl : View.ld (Val := Elt Ideal) (e' := .f32) (up2 (vSums Q K D (256 * 15 + 256)) : FVec Ideal S4096x128 .f32) (Rect.unit ![0, 0] ![4096, 128] inb_S4096x128_S4096x128_0_0)
      = (up2 (vSums Q K D 4096) : FVec Ideal S4096x128 .f32) := View.ld_unit_zero (by decide) _ _
  rw [hl]
  unfold k0_pay32
  simp only [truncf_up2]
  rfl

end Cert.KernelIdeal.SB

end

end
-- ==== Proof.RefOps.lean ====
/- Arrays of three dimensions whose every element is a real number, and the host operations of the two references at
   them: the softplus, the comparison of two positions, and the running sums along the last dimension. -/
module

public import proofs.«01_k».proof.Proof.RealArr
public import proofs.«01_k».proof.Proof.SBMaths

@[expose] public section

noncomputable section

namespace Cert.RefOps

open Idealize.ShloMosaic Idealize.ShloMosaic.ValueIdx Cert.RealArr
open scoped BigOperators

/-- The array whose element `(i, j, k)` is the real number `f i j k`. -/
def up3 {n0 n1 n2 : ℕ} {φ : FTy} (f : ℕ → ℕ → ℕ → ℝ) : FVec Ideal ⟨3, ![n0, n1, n2]⟩ φ :=
  fun i => ((f (i 0).val (i 1).val (i 2).val : ℝ) : EReal)

/-! ## One element -/

section Scalar
variable {φ : FTy}

theorem hostNegf_coe (x : ℝ) : FloatOps.hostNegf (F := Ideal) (φ := φ) ((x : ℝ) : EReal) = ((-x : ℝ) : EReal) :=
  (EReal.coe_neg x).symm

theorem addf_coe (x y : ℝ) : FloatOps.addf (F := Ideal) (φ := φ) ((x : ℝ) : EReal) ((y : ℝ) : EReal) = ((x + y : ℝ) : EReal) :=
  (EReal.coe_add x y).symm

theorem subf_coe (x y : ℝ) : FloatOps.subf (F := Ideal) (φ := φ) ((x : ℝ) : EReal) ((y : ℝ) : EReal) = ((x - y : ℝ) : EReal) :=
  (EReal.coe_sub x y).symm

theorem mulf_coe (x y : ℝ) : FloatOps.mulf (F := Ideal) (φ := φ) ((x : ℝ) : EReal) ((y : ℝ) : EReal) = ((x * y : ℝ) : EReal) :=
  (EReal.coe_mul x y).symm

theorem maximumf_coe (x y : ℝ) : FloatOps.maximumf (F := Ideal) (φ := φ) ((x : ℝ) : EReal) ((y : ℝ) : EReal) = ((max x y : ℝ) : EReal) :=
  (EReal.coe_strictMono.monotone.map_max (a := x) (b := y)).symm

theorem hostAbsf_coe (x : ℝ) : FloatOps.hostAbsf (F := Ideal) (φ := φ) ((x : ℝ) : EReal) = ((|x| : ℝ) : EReal) :=
  absf_coe (φ := φ) x

theorem hostExp_coe (x : ℝ) : FloatOps.hostUnary (F := Ideal) (φ := φ) .exp ((x : ℝ) : EReal) = ((Real.exp x : ℝ) : EReal) :=
  Ideal.exp_coe x

/-- `log1p` of an exponential. -/
theorem hostLog1p_exp_coe (x : ℝ) :
    FloatOps.hostUnary (F := Ideal) (φ := φ) .log1p ((Real.exp x : ℝ) : EReal) = ((Real.log (1 + Real.exp x) : ℝ) : EReal) := by
  rw [Ideal.hostUnary_log1p_def]
  show Ideal.log (1 + ((Real.exp x : ℝ) : EReal)) = _
  rw [← EReal.coe_one, ← EReal.coe_add]
  refine (Ideal.log_coe (1 + Real.exp x)).trans ?_
  rw [if_neg (not_le.2 (by positivity))]

theorem zero_coe : FloatOps.ofBits (F := Ideal) .f32 0x00000000#32 = ((0 : ℝ) : EReal) :=
  Ideal.ofBits_zero_f32

/-- A number is not unequal to itself. -/
theorem une_self (x : EReal) : FloatOps.cmpf (F := Ideal) (φ := φ) .une x x = 0#1 := by
  rw [Ideal.cmpf_def]
  simp [Ideal.cmp]

/-- The bit of a decidable statement chooses between two numbers. -/
theorem select_bit (p : Prop) [Decidable p] (x y : ℝ) :
    Scalar.select (BitVec.ofBool (decide p)) ((x : ℝ) : EReal) ((y : ℝ) : EReal) = (((if p then x else y) : ℝ) : EReal) := by
  by_cases h : p
  · simp only [h]; rfl
  · simp only [h]; rfl

/-- The softplus as the references compute it. -/
theorem softplus_coe (x : ℝ) :
    Scalar.select
      (FloatOps.cmpf (F := Ideal) (φ := .f32) .une (FloatOps.subf (F := Ideal) (φ := .f32) ((x : ℝ) : EReal) ((0 : ℝ) : EReal))
        (FloatOps.subf (F := Ideal) (φ := .f32) ((x : ℝ) : EReal) ((0 : ℝ) : EReal)))
      (FloatOps.addf (F := Ideal) (φ := .f32) ((x : ℝ) : EReal) ((0 : ℝ) : EReal))
      (FloatOps.addf (F := Ideal) (φ := .f32) (FloatOps.maximumf (F := Ideal) (φ := .f32) ((x : ℝ) : EReal) ((0 : ℝ) : EReal))
        (FloatOps.hostUnary (F := Ideal) (φ := .f32) .log1p (FloatOps.hostUnary (F := Ideal) (φ := .f32) .exp
          (FloatOps.hostNegf (F := Ideal) (φ := .f32) (FloatOps.hostAbsf (F := Ideal) (φ := .f32)
            (FloatOps.subf (F := Ideal) (φ := .f32) ((x : ℝ) : EReal) ((0 : ℝ) : EReal)))))))
      = ((-(SB.lsig (-x)) : ℝ) : EReal) := by
  rw [une_self, maximumf_coe, subf_coe, hostAbsf_coe, hostNegf_coe, hostExp_coe, hostLog1p_exp_coe, addf_coe, addf_coe]
  refine congrArg (fun y : ℝ => (y : EReal)) ?_
  unfold SB.lsig
  have h : min (-x) 0 = -max x 0 := by rw [← neg_zero, min_neg_neg, neg_zero]
  rw [sub_zero, zero_sub, abs_neg, h]
  ring

end Scalar

/-- `log (sigmoid (-x))` is `log (sigmoid x)` less `x`. -/
theorem lsig_neg (x : ℝ) : SB.lsig (-x) = SB.lsig x - x := by
  unfold SB.lsig
  rw [abs_neg]
  have : min (-x) 0 = min x 0 - x := by
    rcases le_total x 0 with h | h
    · rw [min_eq_left h, min_eq_right (by linarith)]; ring
    · rw [min_eq_right h, min_eq_left (by linarith)]; ring
  rw [this]; ring

/-! ## Running sums -/

/-- A left fold of additions is the initial value plus the sum. -/
theorem foldl_add_sum {N : ℕ} (F : Fin N → EReal) (v : EReal) :
    (List.finRange N).foldl (fun r n => r + F n) v = v + ∑ n, F n := by
  have h : ∀ (l : List (Fin N)) (v : EReal), l.foldl (fun r n => r + F n) v = v + (l.map F).sum := by
    intro l
    induction l with
    | nil => intro v; simp
    | cons a l ih => intro v; rw [List.foldl_cons, ih, List.map_cons, List.sum_cons, add_assoc]
  rw [h, ← List.ofFn_eq_map, List.sum_ofFn]

/-- The positions of a window one element wide in the first two dimensions. -/
def rowEquiv (n : ℕ) : Fin n ≃ (⟨3, ![1, 1, n]⟩ : Shape).Idx where
  toFun k := ix3 ⟨0, Nat.one_pos⟩ ⟨0, Nat.one_pos⟩ k
  invFun i := i 2
  left_inv _ := rfl
  right_inv i := by
    funext a
    match a with
    | ⟨0, _⟩ => exact Subsingleton.elim (α := Fin 1) _ _
    | ⟨1, _⟩ => exact Subsingleton.elim (α := Fin 1) _ _
    | ⟨2, _⟩ => rfl

/-- Position `k` of the window, found from its place in row-major order. -/
abbrev win (n : ℕ) (k : Fin n) : (⟨3, ![1, 1, n]⟩ : Shape).Idx :=
  (Shape.rowMajor ⟨3, ![1, 1, n]⟩).symm ((Shape.rowMajor ⟨3, ![1, 1, n]⟩) (rowEquiv n k))

variable {n0 n1 n : ℕ}

/-- A window sum along the last dimension, as a sum over the window's positions. -/
theorem windowSum (lo hi : Fin 3 → ℕ) (h : (⟨3, ![n0, n1, n]⟩ : Shape).ReduceWindows ![1, 1, n] ![1, 1, 1] lo hi ⟨3, ![n0, n1, n]⟩)
    (hl0 : lo 0 = 0) (hl1 : lo 1 = 0) (f : ℕ → ℕ → ℕ → ℝ) (i : (⟨3, ![n0, n1, n]⟩ : Shape).Idx) :
    Ideal.hostReduceWindowAdd ![1, 1, n] ![1, 1, 1] lo hi h (up3 (φ := .f32) f) ((0 : ℝ) : EReal) i
      = ((∑ k ∈ Finset.range n, (if lo 2 ≤ (i 2).val + k ∧ (i 2).val + k - lo 2 < n then f (i 0).val (i 1).val ((i 2).val + k - lo 2) else 0) : ℝ) : EReal) := by
  unfold Ideal.hostReduceWindowAdd Host.reduceWindow
  dsimp only
  refine (foldl_add_sum _ _).trans ?_
  rw [EReal.coe_zero, zero_add, ← Equiv.sum_comp (Shape.rowMajor ⟨3, ![1, 1, n]⟩), ← Equiv.sum_comp (rowEquiv n)]
  refine Eq.trans (Finset.sum_congr rfl fun k _ => ?_) (sum_fin_coe n _)
  have hq := Equiv.symm_apply_apply (Shape.rowMajor ⟨3, ![1, 1, n]⟩) (rowEquiv n k)
  have q0 : (i 0).val * 1 + (win n k 0).val = (i 0).val := by rw [win, hq]; show (i 0).val * 1 + 0 = _; omega
  have q1 : (i 1).val * 1 + (win n k 1).val = (i 1).val := by rw [win, hq]; show (i 1).val * 1 + 0 = _; omega
  have q2 : (i 2).val * 1 + (win n k 2).val = (i 2).val + k.val := by rw [win, hq]; show (i 2).val * 1 + k.val = _; omega
  have e0 : (i 0).val < n0 := (i 0).isLt
  have e1 : (i 1).val < n1 := (i 1).isLt
  by_cases hin : lo 2 ≤ (i 2).val + k.val ∧ (i 2).val + k.val - lo 2 < n
  · rw [if_pos hin]
    refine (dif_pos fun a => ?_).trans ?_
    · match a with
      | ⟨0, _⟩ => exact show lo 0 ≤ (i 0).val * 1 + (win n k 0).val ∧ (i 0).val * 1 + (win n k 0).val - lo 0 < n0 by omega
      | ⟨1, _⟩ => exact show lo 1 ≤ (i 1).val * 1 + (win n k 1).val ∧ (i 1).val * 1 + (win n k 1).val - lo 1 < n1 by omega
      | ⟨2, _⟩ => exact show lo 2 ≤ (i 2).val * 1 + (win n k 2).val ∧ (i 2).val * 1 + (win n k 2).val - lo 2 < n by omega
    · show ((f ((i 0).val * 1 + (win n k 0).val - lo 0) ((i 1).val * 1 + (win n k 1).val - lo 1) ((i 2).val * 1 + (win n k 2).val - lo 2) : ℝ) : EReal) = _
      rw [q0, q1, q2, hl0, hl1, Nat.sub_zero, Nat.sub_zero]
  · rw [if_neg hin]
    refine dif_neg fun hall => hin ?_
    have h3 : lo 2 ≤ (i 2).val * 1 + (win n k 2).val ∧ (i 2).val * 1 + (win n k 2).val - lo 2 < n := hall 2
    rwa [q2] at h3

/-- The sum of a row's elements from each position on. -/
theorem sum_from (h : (⟨3, ![n0, n1, n]⟩ : Shape).ReduceWindows ![1, 1, n] ![1, 1, 1] ![0, 0, 0] ![0, 0, n - 1] ⟨3, ![n0, n1, n]⟩)
    (f : ℕ → ℕ → ℕ → ℝ) :
    Ideal.hostReduceWindowAdd ![1, 1, n] ![1, 1, 1] ![0, 0, 0] ![0, 0, n - 1] h (up3 (φ := .f32) f) ((0 : ℝ) : EReal)
      = (up3 (fun i r j => ∑ j' ∈ Finset.Ico j n, f i r j') : FVec Ideal ⟨3, ![n0, n1, n]⟩ .f32) := by
  funext i
  refine (windowSum ![0, 0, 0] ![0, 0, n - 1] h rfl rfl f i).trans (congrArg (fun y : ℝ => (y : EReal)) ?_)
  have hi : (i 2).val < n := (i 2).isLt
  generalize (i 2).val = j at hi
  refine Eq.trans ?_ (Finset.sum_Ico_eq_sum_range _ _ _).symm
  have hs := Finset.sum_subset (s₁ := Finset.range (n - j)) (s₂ := Finset.range n)
    (f := fun k => if (0 : ℕ) ≤ j + k ∧ j + k - 0 < n then f (i 0).val (i 1).val (j + k - 0) else 0)
    (fun k hk => by rw [Finset.mem_range] at *; omega)
    (fun k _ hk => by rw [Finset.mem_range] at hk; exact if_neg (by omega))
  refine hs.symm.trans (Finset.sum_congr rfl fun k hk => ?_)
  rw [Finset.mem_range] at hk
  exact if_pos (by omega)

/-- The sum of a row's elements up to each position. -/
theorem sum_to (h : (⟨3, ![n0, n1, n]⟩ : Shape).ReduceWindows ![1, 1, n] ![1, 1, 1] ![0, 0, n - 1] ![0, 0, 0] ⟨3, ![n0, n1, n]⟩)
    (f : ℕ → ℕ → ℕ → ℝ) :
    Ideal.hostReduceWindowAdd ![1, 1, n] ![1, 1, 1] ![0, 0, n - 1] ![0, 0, 0] h (up3 (φ := .f32) f) ((0 : ℝ) : EReal)
      = (up3 (fun i r j => ∑ j' ∈ Finset.range (j + 1), f i r j') : FVec Ideal ⟨3, ![n0, n1, n]⟩ .f32) := by
  funext i
  refine (windowSum ![0, 0, n - 1] ![0, 0, 0] h rfl rfl f i).trans (congrArg (fun y : ℝ => (y : EReal)) ?_)
  have hi : (i 2).val < n := (i 2).isLt
  generalize (i 2).val = j at hi
  show ∑ k ∈ Finset.range n, (if n - 1 ≤ j + k ∧ j + k - (n - 1) < n then f (i 0).val (i 1).val (j + k - (n - 1)) else 0)
    = ∑ j' ∈ Finset.range (j + 1), f (i 0).val (i 1).val j'
  rw [← Finset.sum_filter]
  refine Finset.sum_bij' (fun k _ => j + k - (n - 1)) (fun k _ => n - 1 + k - j) ?_ ?_ ?_ ?_ ?_
  · intro k hk; simp only [Finset.mem_filter, Finset.mem_range] at *; omega
  · intro k hk; simp only [Finset.mem_filter, Finset.mem_range] at *; omega
  · intro k hk; simp only [Finset.mem_filter, Finset.mem_range] at *; omega
  · intro k hk; simp only [Finset.mem_filter, Finset.mem_range] at *; omega
  · intro k hk; rfl

end Cert.RefOps
-- ==== Proof.FwdRef.lean ====
/- What the forward reference computes when its arguments are real matrices: every head's stick-breaking attention and
   the logarithms of what is left of its rows' sticks. -/
module

public import proofs.«01_k».proof.Proof.Gen.FwdRefIdeal.Read
public import proofs.«01_k».proof.Proof.RefOps

@[expose] public section

noncomputable section

namespace Cert.FwdRefIdeal.SB

open Cert.FwdRefIdeal Cert.FwdRefIdeal.Read Idealize.ShloMosaic Idealize.ShloMosaic.ValueIdx Cert.RealArr Cert.RefOps Cert.SB
open scoped BigOperators

variable (a0 a1 a2 : ℕ → ℕ → ℝ)

/-- An argument whose every element is a real number. -/
abbrev arr (f : ℕ → ℕ → ℝ) : FVec Ideal S4096x512 .bf16 := up2 f

/-- The heads of `q`. -/
theorem heads_q : val_main_v2 (F := Ideal) (arr a0) = up3 (φ := .f32) (fun h i d => head a0 h i d) := by
  funext i
  rw [val_main_v2_apply, val_main_v1_apply, val_main_v0_apply]
  have h0 : (i 0).val < 4 := (i 0).isLt
  have h2 : (i 2).val < 128 := (i 2).isLt
  show ((a0 ((((i 1).val * 4 + (i 0).val) * 128 + (i 2).val) / 512) ((((i 1).val * 4 + (i 0).val) * 128 + (i 2).val) % 512) : ℝ) : EReal)
    = ((a0 (i 1).val (128 * (i 0).val + (i 2).val) : ℝ) : EReal)
  rw [show (((i 1).val * 4 + (i 0).val) * 128 + (i 2).val) / 512 = (i 1).val by omega,
    show (((i 1).val * 4 + (i 0).val) * 128 + (i 2).val) % 512 = 128 * (i 0).val + (i 2).val by omega]

/-- The heads of `k`, split in the same way. -/
theorem heads_k : val_main_v5 (F := Ideal) (arr a1) = up3 (φ := .f32) (fun h i d => head a1 h i d) := heads_q a1

/-- The heads of `v`. -/
theorem heads_v : val_main_v26 (F := Ideal) (arr a2) = up3 (φ := .f32) (fun h i d => head a2 h i d) := heads_q a2

/-- The logits. -/
theorem logits : val_main_v8 (F := Ideal) (arr a0) (arr a1) = up3 (φ := .f32) (fun h i j => z (head a0 h) (head a1 h) i j) := by
  funext i
  rw [val_main_v8_apply, val_main_v6_apply, val_main_v7_apply, val_main_cst_apply, heads_q, heads_k]
  have hs : ∑ k : Fin 128, (up3 (fun h i d => head a0 h i d) : FVec Ideal S4x4096x128 .f32) (lidx_main_v6 i k)
        * (up3 (fun h i d => head a1 h i d) : FVec Ideal S4x4096x128 .f32) (ridx_main_v6 i k)
      = ((∑ d ∈ Finset.range 128, head a0 (i 0).val (i 1).val d * head a1 (i 0).val (i 2).val d : ℝ) : EReal) :=
    Eq.trans (Finset.sum_congr rfl fun k _ => (EReal.coe_mul _ _).symm) (sum_fin_coe 128 (fun d => head a0 (i 0).val (i 1).val d * head a1 (i 0).val (i 2).val d))
  rw [hs]
  exact (congrArg (FloatOps.mulf _) ofBits_scale).trans (mulf_coe _ _)

/-- The softplus of a real number, element by element. -/
theorem softplus_call0 (x0 x1 : FVec Ideal S4096x512 .bf16) (i : S4x4096x4096.Idx) (x : ℝ)
    (h : val_main_call0_v0 (F := Ideal) x0 x1 i = ((x : ℝ) : EReal)) :
    val_main_call0_v1 (F := Ideal) x0 x1 i = ((-(lsig (-x)) : ℝ) : EReal) := by
  simp only [val_main_call0_v1_apply, val_main_call0_call0_v0_apply, val_main_call0_call0_v1_apply, val_main_call0_call0_v2_apply, val_main_call0_call0_v3_apply, val_main_call0_call0_v4_apply, val_main_call0_call0_v5_apply, val_main_call0_call0_v6_apply, val_main_call0_call0_v7_apply, val_main_call0_call0_v8_apply, val_main_call0_call0_v9_apply, val_main_call0_call0_v10_apply, val_main_call0_call0_v11_apply,
    val_main_call0_call0_cst_apply, h, zero_coe]
  exact softplus_coe x

/-- The softplus of a real number, element by element. -/
theorem softplus_call3 (x0 x1 : FVec Ideal S4096x512 .bf16) (i : S4x4096x4096.Idx) (x : ℝ)
    (h : val_main_call3_v0 (F := Ideal) x0 x1 i = ((x : ℝ) : EReal)) :
    val_main_call3_v1 (F := Ideal) x0 x1 i = ((-(lsig (-x)) : ℝ) : EReal) := by
  simp only [val_main_call3_v1_apply, val_main_call3_call0_v0_apply, val_main_call3_call0_v1_apply, val_main_call3_call0_v2_apply, val_main_call3_call0_v3_apply, val_main_call3_call0_v4_apply, val_main_call3_call0_v5_apply, val_main_call3_call0_v6_apply, val_main_call3_call0_v7_apply, val_main_call3_call0_v8_apply, val_main_call3_call0_v9_apply, val_main_call3_call0_v10_apply, val_main_call3_call0_v11_apply,
    val_main_call3_call0_cst_apply, h, zero_coe]
  exact softplus_coe x

/-- `log (sigmoid z)`. -/
theorem lsigs : val_main_v20 (F := Ideal) (arr a0) (arr a1) = up3 (φ := .f32) (fun h i j => lsig (z (head a0 h) (head a1 h) i j)) := by
  funext i
  rw [val_main_v20_apply, softplus_call3 _ _ i (-(z (head a0 (i 0).val) (head a1 (i 0).val) (i 1).val (i 2).val)) ?_, hostNegf_coe,
    neg_neg, neg_neg]
  · rfl
  · rw [val_main_call3_v0_apply, logits]
    exact hostNegf_coe _

/-- `log (1 - sigmoid z)`. -/
theorem lks : val_main_v16 (F := Ideal) (arr a0) (arr a1) = up3 (φ := .f32) (fun h i j => lk (head a0 h) (head a1 h) i j) := by
  funext i
  rw [val_main_v16_apply, softplus_call0 _ _ i (z (head a0 (i 0).val) (head a1 (i 0).val) (i 1).val (i 2).val) ?_, hostNegf_coe,
    neg_neg, lsig_neg]
  · rfl
  · rw [val_main_call0_v0_apply, val_main_v15_apply, logits]
    refine (congrArg (FloatOps.hostNegf (F := Ideal) (φ := .f32)) (hostNegf_coe _)).trans ?_
    rw [hostNegf_coe, neg_neg]

/-- The mask of the past. -/
theorem past (i : S4096x4096.Idx) :
    val_main_v14 (F := Ideal) i = BitVec.ofBool (decide ((i 1).val < (i 0).val)) := by
  have h0 : (i 0).val < 4096 := (i 0).isLt
  have h1 : (i 1).val < 4096 := (i 1).isLt
  rw [val_main_v14_apply, val_main_v12_apply, val_main_v10_apply, val_main_v9_apply, val_main_v13_apply, val_main_v11_apply,
    val_main_v9_apply]
  exact WordCmp.cmpi_slt_ofNat (a := (i 1).val) (b := (i 0).val) (by omega) (by omega)

/-- What each column of the past leaves of the stick, zero elsewhere. -/
theorem keeps : val_main_v17 (F := Ideal) (arr a0) (arr a1) = up3 (φ := .f32) (fun h i j => keep (head a0 h) (head a1 h) i j) := by
  funext i
  rw [val_main_v17_apply, val_main_call1_v1_apply, past, lks, val_main_call1_v2_apply, val_main_call1_v0_apply, val_main_cst_0_apply,
    zero_coe]
  exact select_bit _ _ _

/-- The sums of these from each column on. -/
theorem froms : val_main_v18 (F := Ideal) (arr a0) (arr a1)
    = up3 (φ := .f32) (fun h i j => ∑ j' ∈ Finset.Ico j 4096, keep (head a0 h) (head a1 h) i j') := by
  unfold val_main_v18 Host.reduceWindowAdd
  rw [keeps, Ideal.hostReduceWindowAdd_def, val_main_call2_v0_apply, val_main_call2_cst_apply, zero_coe]
  exact sum_from (n0 := 4) (n1 := 4096) (n := 4096) _ _

/-- The sums of these over the columns after each. -/
theorem btws : val_main_v19 (F := Ideal) (arr a0) (arr a1) = up3 (φ := .f32) (fun h i j => btw (head a0 h) (head a1 h) i j) := by
  funext i
  have h2 : (i 2).val < 4096 := (i 2).isLt
  rw [val_main_v19_apply, froms, keeps]
  refine (subf_coe _ _).trans (congrArg (fun y : ℝ => (y : EReal)) ?_)
  show (∑ j' ∈ Finset.Ico (i 2).val 4096, keep (head a0 (i 0).val) (head a1 (i 0).val) (i 1).val j') - keep (head a0 (i 0).val) (head a1 (i 0).val) (i 1).val (i 2).val = _
  rw [Finset.sum_eq_sum_Ico_succ_bot h2, add_sub_cancel_left]
  rfl

/-- The exponential of the weights' logarithms, unmasked. -/
theorem weights : val_main_v22 (F := Ideal) (arr a0) (arr a1)
    = up3 (φ := .f32) (fun h i j => Real.exp (lsig (z (head a0 h) (head a1 h) i j) + btw (head a0 h) (head a1 h) i j)) := by
  funext i
  rw [val_main_v22_apply, val_main_v21_apply, lsigs, btws]
  exact (congrArg (FloatOps.hostUnary (F := Ideal) (φ := .f32) .exp) (addf_coe _ _)).trans (hostExp_coe _)

/-- The weights. -/
theorem atts : val_main_v23 (F := Ideal) (arr a0) (arr a1) = up3 (φ := .f32) (fun h i j => att (head a0 h) (head a1 h) i j) := by
  funext i
  rw [val_main_v23_apply, val_main_call4_v1_apply, past, weights, val_main_call4_v2_apply, val_main_call4_v0_apply, val_main_cst_1_apply,
    zero_coe]
  exact select_bit _ _ _

/-- The attention of each head. -/
theorem outs : val_main_v27 (F := Ideal) (arr a0) (arr a1) (arr a2)
    = up3 (φ := .f32) (fun h i c => out (head a0 h) (head a1 h) (head a2 h) i c) := by
  funext i
  rw [val_main_v27_apply, atts, heads_v]
  exact Eq.trans (Finset.sum_congr rfl fun k _ => (EReal.coe_mul _ _).symm) (sum_fin_coe 4096 (fun j => att (head a0 (i 0).val) (head a1 (i 0).val) (i 1).val j * head a2 (i 0).val j (i 2).val))

/-- The reference's first result: the attention of all heads, side by side. -/
theorem result0 : val_main_v30 (F := Ideal) (arr a0) (arr a1) (arr a2) = (up2 (outAll a0 a1 a2) : FVec Ideal S4096x512 .bf16) := by
  funext i
  have h0 : (i 0).val < 4096 := (i 0).isLt
  have h1 : (i 1).val < 512 := (i 1).isLt
  rw [val_main_v30_apply, val_main_v29_apply, val_main_v28_apply, outs]
  show ((out (head a0 (((i 0).val * 512 + (i 1).val) / 128 % 4)) (head a1 (((i 0).val * 512 + (i 1).val) / 128 % 4))
      (head a2 (((i 0).val * 512 + (i 1).val) / 128 % 4)) (((i 0).val * 512 + (i 1).val) / 512) (((i 0).val * 512 + (i 1).val) % 128) : ℝ) : EReal)
    = ((outAll a0 a1 a2 (i 0).val (i 1).val : ℝ) : EReal)
  rw [show ((i 0).val * 512 + (i 1).val) / 128 % 4 = (i 1).val / 128 by omega, show ((i 0).val * 512 + (i 1).val) / 512 = (i 0).val by omega,
    show ((i 0).val * 512 + (i 1).val) % 128 = (i 1).val % 128 by omega]
  rfl

/-- The reference's second result: the logarithm of what is left of each row's stick. -/
theorem result1 : val_main_v50 (F := Ideal) (arr a0) (arr a1)
    = fun y : S4x4096x1.Idx => ((total (head a0 (y 0).val) (head a1 (y 0).val) (y 1).val : ℝ) : EReal) := by
  funext i
  have hk : val_main_v48 (F := Ideal) (arr a0) (arr a1) = up3 (φ := .f32) (fun h i j => keep (head a0 h) (head a1 h) i j) := keeps a0 a1
  rw [val_main_v50_apply, val_main_v49_apply, val_main_cst_4_apply, zero_coe, hk, EReal.coe_zero, zero_add]
  exact sum_fin_coe 4096 (fun j => keep (head a0 (i 0).val) (head a1 (i 0).val) (i 1).val j)

end Cert.FwdRefIdeal.SB
-- ==== Proof.BwdKeep.lean ====
/- What the host hands to the backward kernel: the logarithm of what is left of each row's stick. -/
module

public import proofs.«01_k».proof.Proof.FwdRef
public import proofs.«01_k».proof.Proof.Gen.KernelIdeal.Value

@[expose] public section

-- the host's operations are a list of 41, whose terms nest that deep
set_option maxRecDepth 16384

noncomputable section

namespace Cert.KernelIdeal.SB

open Cert.KernelIdeal Cert.KernelIdeal.Gen Idealize.ShloMosaic Idealize.ShloMosaic.TcCoe Idealize.ShloMosaic.StableHlo Idealize.SL.Sem Cert.RealArr Cert.SB

variable (m : (ℓ : Loc nD τ sig) → Buf (Elt Ideal) ℓ) (c : Dev nD)

/-- The array of kept logarithms as the kernel finds it: the second result of the forward reference, of the same `q` and `k`. -/
theorem host_keep : V m c main_v19 = (Cert.FwdRefIdeal.Read.val_main_v50 (F := Ideal) (m ((c : Thread nD τ).loc main_arg0)) (m ((c : Thread nD τ).loc main_arg1))
    : FVec Ideal S4x4096x1 .f32) := by
  simp only [V, hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

variable {m c} {a0 a1 : ℕ → ℕ → ℝ}

/-- On real arrays it is the real total of the row's kept logarithms. -/
theorem host_total (h0 : m ((c : Thread nD τ).loc main_arg0) = (up2 a0 : FVec Ideal S4096x512 .bf16))
    (h1 : m ((c : Thread nD τ).loc main_arg1) = (up2 a1 : FVec Ideal S4096x512 .bf16)) :
    V m c main_v19 = (fun y : S4x4096x1.Idx => ((total (head a0 (y 0).val) (head a1 (y 0).val) (y 1).val : ℝ) : EReal)) := by
  rw [host_keep, h0, h1]
  exact Cert.FwdRefIdeal.SB.result1 a0 a1

end Cert.KernelIdeal.SB

end

end
-- ==== Proof.BwdArr.lean ====
/- The backward kernel's three result arrays: the gradients of every head's `q`, `k` and `v`. -/
module

public import proofs.«01_k».proof.Proof.BwdOut
public import proofs.«01_k».proof.Proof.BwdKeep
public import Idealize.ShloMosaic.Lib.Pipeline.ValueKit

@[expose] public section

set_option maxRecDepth 16384

noncomputable section

namespace Cert.KernelIdeal.SB

open Cert.KernelIdeal Cert.KernelIdeal.Gen Cert.KernelIdeal.Value Idealize.ShloMosaic Idealize.ShloMosaic.TcCoe Idealize.SL.Sem Cert.RealArr Cert.SB

variable (m : (ℓ : Loc nD τ sig) → Buf (Elt Ideal) ℓ) (c : Dev nD) (a0 a1 a2 a3 : ℕ → ℕ → ℝ)

/-- The windows' block indices. -/
theorem idx : ∀ t : Fin cfg0.N, win0_0.index t = ![(grid0.coords t 1).val, (grid0.coords t 0).val] ∧ win0_1.index t = ![0, (grid0.coords t 0).val]
    ∧ win0_2.index t = ![0, (grid0.coords t 0).val] ∧ win0_3.index t = ![(grid0.coords t 0).val, (grid0.coords t 1).val, 0]
    ∧ win0_4.index t = ![(grid0.coords t 1).val, (grid0.coords t 0).val] ∧ win0_5.index t = ![(grid0.coords t 1).val, (grid0.coords t 0).val]
    ∧ win0_6.index t = ![0, (grid0.coords t 0).val] ∧ win0_7.index t = ![0, (grid0.coords t 0).val] :=
  (by decide +kernel : ∀ t : Fin grid0.N, _)

/-- A point's head and its block of rows, by the point's number. -/
theorem point : ∀ t : Fin cfg0.N, (grid0.coords t 0).val = t.val / 16 ∧ (grid0.coords t 1).val = t.val % 16 :=
  (by decide +kernel : ∀ t : Fin grid0.N, _)

variable {a0 a1 a2 a3}

/-- A point's block of `q`: its rows, its head's columns. -/
theorem iblk_q (h0 : m ((c : Thread nD τ).loc main_arg0) = (up2 a0 : FVec Ideal S4096x512 .bf16)) (t : Fin cfg0.N) :
    iblk m c 0 t = (up2 (from' (head a0 (grid0.coords t 0).val) (256 * (grid0.coords t 1).val)) : FVec Ideal S256x128 .bf16) := by
  have e : V m c (Pipeline.arrRef spec0 0) = (up2 a0 : FVec Ideal S4096x512 .bf16) := (V_main_arg0 m c).trans h0
  unfold iblk
  rw [e]
  funext y
  blk_simp [(idx t).1, up2]
  simp only [from', head, Nat.mul_comm]

/-- A point's block of `k`: all rows, its head's columns. -/
theorem iblk_k (h1 : m ((c : Thread nD τ).loc main_arg1) = (up2 a1 : FVec Ideal S4096x512 .bf16)) (t : Fin cfg0.N) :
    iblk m c 1 t = (up2 (head a1 (grid0.coords t 0).val) : FVec Ideal S4096x128 .bf16) := by
  have e : V m c (Pipeline.arrRef spec0 1) = (up2 a1 : FVec Ideal S4096x512 .bf16) := (V_main_arg1 m c).trans h1
  unfold iblk
  rw [e]
  funext y
  blk_simp [(idx t).2.1, up2]
  simp only [head, Nat.mul_comm, Nat.zero_mul, Nat.mul_zero, Nat.zero_add]

/-- A point's block of `v`. -/
theorem iblk_v (h2 : m ((c : Thread nD τ).loc main_arg2) = (up2 a2 : FVec Ideal S4096x512 .bf16)) (t : Fin cfg0.N) :
    iblk m c 2 t = (up2 (head a2 (grid0.coords t 0).val) : FVec Ideal S4096x128 .bf16) := by
  have e : V m c (Pipeline.arrRef spec0 2) = (up2 a2 : FVec Ideal S4096x512 .bf16) := (V_main_arg2 m c).trans h2
  unfold iblk
  rw [e]
  funext y
  blk_simp [(idx t).2.2.1, up2]
  simp only [head, Nat.mul_comm, Nat.zero_mul, Nat.mul_zero, Nat.zero_add]

/-- A point's block of the result's gradient: its rows, its head's columns. -/
theorem iblk_do (h3 : m ((c : Thread nD τ).loc main_arg3) = (up2 a3 : FVec Ideal S4096x512 .bf16)) (t : Fin cfg0.N) :
    iblk m c 4 t = (up2 (from' (head a3 (grid0.coords t 0).val) (256 * (grid0.coords t 1).val)) : FVec Ideal S256x128 .bf16) := by
  have e : V m c (Pipeline.arrRef spec0 4) = (up2 a3 : FVec Ideal S4096x512 .bf16) := (V_main_arg3 m c).trans h3
  unfold iblk
  rw [e]
  funext y
  blk_simp [(idx t).2.2.2.2.1, up2]
  simp only [from', head, Nat.mul_comm]

/-- A point's block of kept logarithms: the totals of its rows. -/
theorem iblk_keep (h0 : m ((c : Thread nD τ).loc main_arg0) = (up2 a0 : FVec Ideal S4096x512 .bf16))
    (h1 : m ((c : Thread nD τ).loc main_arg1) = (up2 a1 : FVec Ideal S4096x512 .bf16)) (t : Fin cfg0.N) :
    k0_pay66 (iblk m c 3 t) = (up2 (fun r _ => total (head a0 (grid0.coords t 0).val) (head a1 (grid0.coords t 0).val) (256 * (grid0.coords t 1).val + r))
      : FVec Ideal S256x1 .f32) := by
  have e : V m c (Pipeline.arrRef spec0 3) = (fun y : S4x4096x1.Idx => ((total (head a0 (y 0).val) (head a1 (y 0).val) (y 1).val : ℝ) : EReal)) := host_total h0 h1
  unfold iblk
  rw [e]
  funext y
  unfold k0_pay66
  dsimp only
  refine (shapeCast_dropUnit_apply ![256, 1] _ shapeCasts_S1x256x1_S256x1 y).trans ?_
  blk_simp [(idx t).2.2.2.1, up2]
  simp only [Nat.mul_comm 256]
  rfl

variable (h0 : m ((c : Thread nD τ).loc main_arg0) = (up2 a0 : FVec Ideal S4096x512 .bf16))
  (h1 : m ((c : Thread nD τ).loc main_arg1) = (up2 a1 : FVec Ideal S4096x512 .bf16))
  (h2 : m ((c : Thread nD τ).loc main_arg2) = (up2 a2 : FVec Ideal S4096x512 .bf16))
  (h3 : m ((c : Thread nD τ).loc main_arg3) = (up2 a3 : FVec Ideal S4096x512 .bf16))
include h0 h1 h2 h3

/-- After every point but a head's last the two scratch arrays hold the sums over the rows of the head's points so far. -/
theorem sums : ∀ t : Fin cfg0.N, ¬t.val % 16 = 15 →
    (outsAt0 m c t.val t.isLt).2.2.2.1 = (up2 (kSums (head a0 (grid0.coords t 0).val) (head a1 (grid0.coords t 0).val) (head a2 (grid0.coords t 0).val) (head a3 (grid0.coords t 0).val) (256 * (grid0.coords t 1).val + 256)) : FVec Ideal S4096x128 .f32)
    ∧ (outsAt0 m c t.val t.isLt).2.2.2.2 = (up2 (vSums (head a0 (grid0.coords t 0).val) (head a1 (grid0.coords t 0).val) (head a3 (grid0.coords t 0).val) (256 * (grid0.coords t 1).val + 256)) : FVec Ideal S4096x128 .f32) := by
  rintro ⟨n, hn⟩
  induction n with
  | zero =>
    intro hl
    have hz : (⟨0, hn⟩ : Fin cfg0.N).val % 16 = 0 := Nat.zero_mod _
    generalize (⟨0, hn⟩ : Fin cfg0.N) = t at hl hz ⊢
    have hq : (grid0.coords t 1).val = 0 := (point t).2.trans hz
    constructor
    · refine (congrArg (fun x => x.2.2.2.1) (outsAt0_A m c t hz hl)).trans ?_
      dsimp only
      rw [iblk_q m c h0, iblk_k m c h1, iblk_v m c h2, iblk_do m c h3]
      exact outA_k c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (head a0 (grid0.coords t 0).val) (head a1 (grid0.coords t 0).val) (head a2 (grid0.coords t 0).val) (head a3 (grid0.coords t 0).val) (iblk m c 3 t) (iblk_keep m c h0 h1 t) _ _ hq
    · refine (congrArg (fun x => x.2.2.2.2) (outsAt0_A m c t hz hl)).trans ?_
      dsimp only
      rw [iblk_q m c h0, iblk_k m c h1, iblk_v m c h2, iblk_do m c h3]
      exact outA_v c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (head a0 (grid0.coords t 0).val) (head a1 (grid0.coords t 0).val) (head a2 (grid0.coords t 0).val) (head a3 (grid0.coords t 0).val) (iblk m c 3 t) (iblk_keep m c h0 h1 t) _ _ hq
  | succ n ih =>
    intro hl
    have ih := ih (Nat.lt_of_succ_lt hn)
    have hp1 := point ⟨n, Nat.lt_of_succ_lt hn⟩
    have hp2 := point ⟨n + 1, hn⟩
    by_cases hz : (n + 1) % 16 = 0
    · replace hz : (⟨n + 1, hn⟩ : Fin cfg0.N).val % 16 = 0 := hz
      generalize (⟨n + 1, hn⟩ : Fin cfg0.N) = t at hl hz ⊢
      have hq : (grid0.coords t 1).val = 0 := (point t).2.trans hz
      constructor
      · refine (congrArg (fun x => x.2.2.2.1) (outsAt0_A m c t hz hl)).trans ?_
        dsimp only
        rw [iblk_q m c h0, iblk_k m c h1, iblk_v m c h2, iblk_do m c h3]
        exact outA_k c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (head a0 (grid0.coords t 0).val) (head a1 (grid0.coords t 0).val) (head a2 (grid0.coords t 0).val) (head a3 (grid0.coords t 0).val) (iblk m c 3 t) (iblk_keep m c h0 h1 t) _ _ hq
      · refine (congrArg (fun x => x.2.2.2.2) (outsAt0_A m c t hz hl)).trans ?_
        dsimp only
        rw [iblk_q m c h0, iblk_k m c h1, iblk_v m c h2, iblk_do m c h3]
        exact outA_v c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (head a0 (grid0.coords t 0).val) (head a1 (grid0.coords t 0).val) (head a2 (grid0.coords t 0).val) (head a3 (grid0.coords t 0).val) (iblk m c 3 t) (iblk_keep m c h0 h1 t) _ _ hq
    · have ih := ih (by dsimp only at hl ⊢; omega)
      have e0 : (grid0.coords ⟨n, Nat.lt_of_succ_lt hn⟩ 0).val = (grid0.coords ⟨n + 1, hn⟩ 0).val := by
        rw [hp1.1, hp2.1]; dsimp only; omega
      have e1 : 256 * (grid0.coords ⟨n, Nat.lt_of_succ_lt hn⟩ 1).val + 256 = 256 * (grid0.coords ⟨n + 1, hn⟩ 1).val := by
        rw [hp1.2, hp2.2]; dsimp only; omega
      rw [e0, e1] at ih
      obtain ⟨ihk, ihv⟩ : (outsAt0 m c ((⟨n + 1, hn⟩ : Fin cfg0.N).val - 1) (Nat.lt_of_le_of_lt (Nat.sub_le _ _) (⟨n + 1, hn⟩ : Fin cfg0.N).isLt)).2.2.2.1 = _
          ∧ (outsAt0 m c ((⟨n + 1, hn⟩ : Fin cfg0.N).val - 1) (Nat.lt_of_le_of_lt (Nat.sub_le _ _) (⟨n + 1, hn⟩ : Fin cfg0.N).isLt)).2.2.2.2 = _ := ih
      clear ih e0 e1 hp1 hp2
      replace hz : ¬(⟨n + 1, hn⟩ : Fin cfg0.N).val % 16 = 0 := hz
      generalize (⟨n + 1, hn⟩ : Fin cfg0.N) = t at hl hz ihk ihv ⊢
      constructor
      · refine (congrArg (fun x => x.2.2.2.1) (outsAt0_B m c t hz hl)).trans ?_
        dsimp only
        rw [ihk, ihv, iblk_q m c h0, iblk_k m c h1, iblk_v m c h2, iblk_do m c h3]
        exact outB_k c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (head a0 (grid0.coords t 0).val) (head a1 (grid0.coords t 0).val) (head a2 (grid0.coords t 0).val) (head a3 (grid0.coords t 0).val) (iblk m c 3 t) (iblk_keep m c h0 h1 t) _ _
      · refine (congrArg (fun x => x.2.2.2.2) (outsAt0_B m c t hz hl)).trans ?_
        dsimp only
        rw [ihk, ihv, iblk_q m c h0, iblk_k m c h1, iblk_v m c h2, iblk_do m c h3]
        exact outB_v c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (head a0 (grid0.coords t 0).val) (head a1 (grid0.coords t 0).val) (head a2 (grid0.coords t 0).val) (head a3 (grid0.coords t 0).val) (iblk m c 3 t) (iblk_keep m c h0 h1 t) _ _

/-- Before a head's later points the scratch arrays hold the sums over the rows of the points before. -/
theorem sums_before (t : Fin cfg0.N) (hz : ¬t.val % 16 = 0) :
    (outsAt0 m c (t.val - 1) (Nat.lt_of_le_of_lt (Nat.sub_le _ _) t.isLt)).2.2.2.1 = (up2 (kSums (head a0 (grid0.coords t 0).val) (head a1 (grid0.coords t 0).val) (head a2 (grid0.coords t 0).val) (head a3 (grid0.coords t 0).val) (256 * (grid0.coords t 1).val)) : FVec Ideal S4096x128 .f32)
    ∧ (outsAt0 m c (t.val - 1) (Nat.lt_of_le_of_lt (Nat.sub_le _ _) t.isLt)).2.2.2.2 = (up2 (vSums (head a0 (grid0.coords t 0).val) (head a1 (grid0.coords t 0).val) (head a3 (grid0.coords t 0).val) (256 * (grid0.coords t 1).val)) : FVec Ideal S4096x128 .f32) := by
  have hs := sums m c h0 h1 h2 h3 ⟨t.val - 1, Nat.lt_of_le_of_lt (Nat.sub_le _ _) t.isLt⟩ (by dsimp only; omega)
  have hp1 := point ⟨t.val - 1, Nat.lt_of_le_of_lt (Nat.sub_le _ _) t.isLt⟩
  have hp2 := point t
  have e0 : (grid0.coords ⟨t.val - 1, Nat.lt_of_le_of_lt (Nat.sub_le _ _) t.isLt⟩ 0).val = (grid0.coords t 0).val := by
    rw [hp1.1, hp2.1]; dsimp only; omega
  have e1 : 256 * (grid0.coords ⟨t.val - 1, Nat.lt_of_le_of_lt (Nat.sub_le _ _) t.isLt⟩ 1).val + 256 = 256 * (grid0.coords t 1).val := by
    rw [hp1.2, hp2.2]; dsimp only; omega
  rw [e0, e1] at hs
  exact hs

/-- The block of the gradient of `q` that a point leaves: its rows of the head's gradient. -/
theorem block5 (t : Fin cfg0.N) : (outsAt0 m c t.val t.isLt).1 = (up2 (from' (dq (head a0 (grid0.coords t 0).val) (head a1 (grid0.coords t 0).val) (head a2 (grid0.coords t 0).val) (head a3 (grid0.coords t 0).val)) (256 * (grid0.coords t 1).val)) : FVec Ideal S256x128 .bf16) := by
  by_cases hz : t.val % 16 = 0
  · refine (congrArg (fun x => x.1) (outsAt0_A m c t hz (by omega))).trans ?_
    dsimp only
    rw [iblk_q m c h0, iblk_k m c h1, iblk_v m c h2, iblk_do m c h3]
    exact outA_q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (head a0 (grid0.coords t 0).val) (head a1 (grid0.coords t 0).val) (head a2 (grid0.coords t 0).val) (head a3 (grid0.coords t 0).val) (iblk m c 3 t) (iblk_keep m c h0 h1 t) _ _ ((point t).2.trans hz)
  · obtain ⟨ik, iv⟩ := sums_before m c h0 h1 h2 h3 t hz
    by_cases hl : t.val % 16 = 15
    · refine (congrArg (fun x => x.1) (outsAt0_C m c t hz hl)).trans ?_
      dsimp only
      rw [ik, iv, iblk_q m c h0, iblk_k m c h1, iblk_v m c h2, iblk_do m c h3]
      exact outC_q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (head a0 (grid0.coords t 0).val) (head a1 (grid0.coords t 0).val) (head a2 (grid0.coords t 0).val) (head a3 (grid0.coords t 0).val) (iblk m c 3 t) (iblk_keep m c h0 h1 t) _ _
    · refine (congrArg (fun x => x.1) (outsAt0_B m c t hz hl)).trans ?_
      dsimp only
      rw [ik, iv, iblk_q m c h0, iblk_k m c h1, iblk_v m c h2, iblk_do m c h3]
      exact outB_q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (head a0 (grid0.coords t 0).val) (head a1 (grid0.coords t 0).val) (head a2 (grid0.coords t 0).val) (head a3 (grid0.coords t 0).val) (iblk m c 3 t) (iblk_keep m c h0 h1 t) _ _

/-- The block of the gradient of `k` that a head's last point leaves: the head's gradient. -/
theorem block6 (t : Fin cfg0.N) (hl : t.val % 16 = 15) : (outsAt0 m c t.val t.isLt).2.1 = (up2 (dk (head a0 (grid0.coords t 0).val) (head a1 (grid0.coords t 0).val) (head a2 (grid0.coords t 0).val) (head a3 (grid0.coords t 0).val)) : FVec Ideal S4096x128 .bf16) := by
  obtain ⟨ik, iv⟩ := sums_before m c h0 h1 h2 h3 t (by omega)
  refine (congrArg (fun x => x.2.1) (outsAt0_C m c t (by omega) hl)).trans ?_
  dsimp only
  rw [ik, iv, iblk_q m c h0, iblk_k m c h1, iblk_v m c h2, iblk_do m c h3]
  exact outC_k c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (head a0 (grid0.coords t 0).val) (head a1 (grid0.coords t 0).val) (head a2 (grid0.coords t 0).val) (head a3 (grid0.coords t 0).val) (iblk m c 3 t) (iblk_keep m c h0 h1 t) _ _ ((point t).2.trans hl)

/-- The block of the gradient of `v` that a head's last point leaves. -/
theorem block7 (t : Fin cfg0.N) (hl : t.val % 16 = 15) : (outsAt0 m c t.val t.isLt).2.2.1 = (up2 (dv (head a0 (grid0.coords t 0).val) (head a1 (grid0.coords t 0).val) (head a3 (grid0.coords t 0).val)) : FVec Ideal S4096x128 .bf16) := by
  obtain ⟨ik, iv⟩ := sums_before m c h0 h1 h2 h3 t (by omega)
  refine (congrArg (fun x => x.2.2.1) (outsAt0_C m c t (by omega) hl)).trans ?_
  dsimp only
  rw [ik, iv, iblk_q m c h0, iblk_k m c h1, iblk_v m c h2, iblk_do m c h3]
  exact outC_v c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (head a0 (grid0.coords t 0).val) (head a1 (grid0.coords t 0).val) (head a2 (grid0.coords t 0).val) (head a3 (grid0.coords t 0).val) (iblk m c 3 t) (iblk_keep m c h0 h1 t) _ _ ((point t).2.trans hl)

/-- The gradient of `q` after the run. -/
theorem grad_q : (dats m 0 c).arrAt 5 cfg0.N = (up2 (dqAll a0 a1 a2 a3) : FVec Ideal S4096x512 .bf16) := by
  refine (dats m 0 c).arrAt_eq_of_covers 5 _ (by decide +kernel) fun t hf y => ?_
  blk_simp
  rw [after0_5, block5 m c h0 h1 h2 h3]
  blk_simp [(idx t).2.2.2.2.2.1, up2]
  have e1 : (y 1).val < 128 := (y 1).isLt
  have e2 : ((grid0.coords t 0).val * 128 + (y 1).val) / 128 = (grid0.coords t 0).val := by omega
  have e3 : ((grid0.coords t 0).val * 128 + (y 1).val) % 128 = (y 1).val := by omega
  unfold dqAll
  rw [e2, e3, Nat.mul_comm _ 256]

/-- The gradient of `k` after the run. -/
theorem grad_k : (dats m 0 c).arrAt 6 cfg0.N = (up2 (dkAll a0 a1 a2 a3) : FVec Ideal S4096x512 .bf16) := by
  refine (dats m 0 c).arrAt_eq_of_covers 6 _ (by decide +kernel) fun t hf y => ?_
  have hm : t.val % 16 = 15 := (flush0_6 t).mp hf
  blk_simp
  rw [after0_6, block6 m c h0 h1 h2 h3 t hm]
  blk_simp [(idx t).2.2.2.2.2.2.1, up2]
  have e1 : (y 1).val < 128 := (y 1).isLt
  have e2 : ((grid0.coords t 0).val * 128 + (y 1).val) / 128 = (grid0.coords t 0).val := by omega
  have e3 : ((grid0.coords t 0).val * 128 + (y 1).val) % 128 = (y 1).val := by omega
  unfold dkAll
  rw [e2, e3]

/-- The gradient of `v` after the run. -/
theorem grad_v : (dats m 0 c).arrAt 7 cfg0.N = (up2 (dvAll a0 a1 a3) : FVec Ideal S4096x512 .bf16) := by
  refine (dats m 0 c).arrAt_eq_of_covers 7 _ (by decide +kernel) fun t hf y => ?_
  have hm : t.val % 16 = 15 := (flush0_7 t).mp hf
  blk_simp
  rw [after0_7, block7 m c h0 h1 h2 h3 t hm]
  blk_simp [(idx t).2.2.2.2.2.2.2, up2]
  have e1 : (y 1).val < 128 := (y 1).isLt
  have e2 : ((grid0.coords t 0).val * 128 + (y 1).val) / 128 = (grid0.coords t 0).val := by omega
  have e3 : ((grid0.coords t 0).val * 128 + (y 1).val) % 128 = (y 1).val := by omega
  unfold dvAll
  rw [e2, e3]

end Cert.KernelIdeal.SB

end

end
-- ==== Proof.Finite.lean ====
/- The precondition: an array whose every element is finite is an array of real numbers. -/
module

public import proofs.«01_k».proof.Defs
public import proofs.«01_k».proof.Proof.Gen.Pre_finite
public import proofs.«01_k».proof.Proof.Gen.Pre_finite_fwd
public import proofs.«01_k».proof.Proof.Gen.Pre_finite_gate
public import proofs.«01_k».proof.Proof.RealArr

@[expose] public section

noncomputable section

namespace Cert.Finite

open Idealize.ShloMosaic Idealize.ShloMosaic.ValueIdx Cert.RealArr

/-- The word of positive infinity. -/
theorem ofBits_inf : Ideal.ofBits .f32 0x7F800000#32 = (⊤ : EReal) := by
  simp [Ideal.ofBits, Ideal.ieee]

/-- A number whose absolute value is below infinity is real. -/
theorem coe_toReal_of_bit (x : EReal)
    (h : FloatOps.cmpf (F := Ideal) (φ := .f32) .olt (FloatOps.hostAbsf (F := Ideal) (φ := .f32) x) (⊤ : EReal) = 1#1) :
    ((x.toReal : ℝ) : EReal) = x := by
  rw [Ideal.cmpf_def] at h
  have hlt : max x (-x) < ⊤ := by
    by_contra hn
    revert h
    show ¬ BitVec.ofBool (decide (max x (-x) < ⊤)) = 1#1
    rw [decide_eq_false hn]
    decide
  exact EReal.coe_toReal (fun e => by rw [e] at hlt; simp at hlt) (fun e => by rw [e] at hlt; simp at hlt)

/-- An array whose elements are all finite, by the bits the precondition computes, is an array of real numbers. -/
theorem real_of_bits {n0 n1 : ℕ} (x : FVec Ideal ⟨2, ![n0, n1]⟩ .bf16) (hb : (⟨0, ![]⟩ : Shape).BroadcastsInDim ⟨2, ![n0, n1]⟩ ![])
    (hφ : FTy.bits .bf16 < FTy.bits .f32)
    (h : cmpf .olt (Host.absf (extf .f32 x hφ)) (broadcastInDim ⟨2, ![n0, n1]⟩ ![] hb (constant ⟨0, ![]⟩ .f32 0x7F800000#32)) = fun _ => 1#1) :
    ∃ f : ℕ → ℕ → ℝ, x = up2 f := by
  refine ⟨fun i j => if hij : i < n0 ∧ j < n1 then EReal.toReal (x (ix2 ⟨i, hij.1⟩ ⟨j, hij.2⟩)) else 0, funext fun i => ?_⟩
  have e : x i = x (ix2 (i 0) (i 1)) := congrArg x (eq_ix2 i)
  have hi := congrFun h i
  have hr : ((EReal.toReal (x i) : ℝ) : EReal) = x i := by
    refine coe_toReal_of_bit (x i) (Eq.trans ?_ hi)
    exact congrArg (FloatOps.cmpf (F := Ideal) (φ := .f32) .olt _) ofBits_inf.symm
  refine hr.symm.trans (congrArg (fun y : ℝ => (y : EReal)) ?_)
  have hd : (if hij : (i 0).val < n0 ∧ (i 1).val < n1 then EReal.toReal (x (ix2 ⟨(i 0).val, hij.1⟩ ⟨(i 1).val, hij.2⟩)) else 0)
      = EReal.toReal (x (ix2 (i 0) (i 1))) := dif_pos ⟨idx2_lt0 i, idx2_lt1 i⟩
  exact (congrArg EReal.toReal e).trans hd.symm

section
open Cert.FwdIdeal

/-- The forward pair's arguments are arrays of real numbers. -/
theorem fwd (m : (ℓ : Loc nD τ sig) → Buf (Elt Ideal) ℓ)
    (h : Cert.Pre_FwdIdeal_finite_fwd (hPre_finite_fwd := Cert.Pre_finite_fwd.Gen.facts) m) (c : Dev nD) :
    ∃ a0 a1 a2 : ℕ → ℕ → ℝ,
      m ((c.tc : Thread nD τ).loc main_arg0) = (up2 a0 : FVec Ideal S4096x512 .bf16)
      ∧ m ((c.tc : Thread nD τ).loc main_arg1) = (up2 a1 : FVec Ideal S4096x512 .bf16)
      ∧ m ((c.tc : Thread nD τ).loc main_arg2) = (up2 a2 : FVec Ideal S4096x512 .bf16) := by
  obtain ⟨e0, e1, e2⟩ := h c
  obtain ⟨a0, h0⟩ := real_of_bits _ _ _ e0
  obtain ⟨a1, h1⟩ := real_of_bits _ _ _ e1
  obtain ⟨a2, h2⟩ := real_of_bits _ _ _ e2
  exact ⟨a0, a1, a2, h0, h1, h2⟩
end

section
open Cert.KernelIdeal

/-- The backward pair's arguments are arrays of real numbers. -/
theorem bwd (m : (ℓ : Loc nD τ sig) → Buf (Elt Ideal) ℓ)
    (h : Cert.Pre_KernelIdeal_finite (hPre_finite := Cert.Pre_finite.Gen.facts) m) (c : Dev nD) :
    ∃ a0 a1 a2 a3 : ℕ → ℕ → ℝ,
      m ((c.tc : Thread nD τ).loc main_arg0) = (up2 a0 : FVec Ideal S4096x512 .bf16)
      ∧ m ((c.tc : Thread nD τ).loc main_arg1) = (up2 a1 : FVec Ideal S4096x512 .bf16)
      ∧ m ((c.tc : Thread nD τ).loc main_arg2) = (up2 a2 : FVec Ideal S4096x512 .bf16)
      ∧ m ((c.tc : Thread nD τ).loc main_arg3) = (up2 a3 : FVec Ideal S4096x512 .bf16) := by
  obtain ⟨e0, e1, e2, e3⟩ := h c
  obtain ⟨a0, h0⟩ := real_of_bits _ _ _ e0
  obtain ⟨a1, h1⟩ := real_of_bits _ _ _ e1
  obtain ⟨a2, h2⟩ := real_of_bits _ _ _ e2
  obtain ⟨a3, h3⟩ := real_of_bits _ _ _ e3
  exact ⟨a0, a1, a2, a3, h0, h1, h2, h3⟩
end

section
open Cert.SwigluBIdeal

/-- The second and third arguments of the gate's gradients are arrays of real numbers. -/
theorem gate (m : (ℓ : Loc nD τ sig) → Buf (Elt Ideal) ℓ)
    (h : Cert.Pre_SwigluBIdeal_finite_gate (hPre_finite_gate := Cert.Pre_finite_gate.Gen.facts) m) (c : Dev nD) :
    ∃ a1 a2 : ℕ → ℕ → ℝ,
      m ((c.tc : Thread nD τ).loc main_arg1) = (up2 a1 : FVec Ideal S4096x5632 .bf16)
      ∧ m ((c.tc : Thread nD τ).loc main_arg2) = (up2 a2 : FVec Ideal S4096x5632 .bf16) := by
  obtain ⟨e1, e2⟩ := h c
  obtain ⟨a1, h1⟩ := real_of_bits _ _ _ e1
  obtain ⟨a2, h2⟩ := real_of_bits _ _ _ e2
  exact ⟨a1, a2, h1, h2⟩
end

end Cert.Finite
-- ==== Proof.BwdRef.lean ====
/- What the backward reference computes when its arguments are real matrices: the gradients of every head's `q`, `k` and `v`. -/
module

public import proofs.«01_k».proof.Proof.Gen.ReferenceIdeal.Read
public import proofs.«01_k».proof.Proof.FwdRef
public import proofs.«01_k».proof.Proof.Finite

@[expose] public section

noncomputable section

namespace Cert.ReferenceIdeal.SB

open Cert.ReferenceIdeal Cert.ReferenceIdeal.Read Idealize.ShloMosaic Idealize.ShloMosaic.ValueIdx Cert.RealArr Cert.RefOps Cert.SB
open scoped BigOperators

variable (a0 a1 a2 a3 : ℕ → ℕ → ℝ)

/-- An argument whose every element is a real number. -/
abbrev arr (f : ℕ → ℕ → ℝ) : FVec Ideal S4096x512 .bf16 := up2 f

/-! ## What it shares with the forward reference -/

theorem heads_q : val_main_v2 (F := Ideal) (arr a0) = up3 (φ := .f32) (fun h i d => head a0 h i d) := Cert.FwdRefIdeal.SB.heads_q a0
theorem heads_k : val_main_v5 (F := Ideal) (arr a1) = up3 (φ := .f32) (fun h i d => head a1 h i d) := Cert.FwdRefIdeal.SB.heads_q a1
theorem heads_v : val_main_v26 (F := Ideal) (arr a2) = up3 (φ := .f32) (fun h i d => head a2 h i d) := Cert.FwdRefIdeal.SB.heads_q a2
/-- The heads of the result's gradient. -/
theorem heads_do : val_main_v33 (F := Ideal) (arr a3) = up3 (φ := .f32) (fun h i d => head a3 h i d) := Cert.FwdRefIdeal.SB.heads_q a3
theorem logits : val_main_v8 (F := Ideal) (arr a0) (arr a1) = up3 (φ := .f32) (fun h i j => z (head a0 h) (head a1 h) i j) :=
  Cert.FwdRefIdeal.SB.logits a0 a1
theorem weights : val_main_v22 (F := Ideal) (arr a0) (arr a1)
    = up3 (φ := .f32) (fun h i j => Real.exp (lsig (z (head a0 h) (head a1 h) i j) + btw (head a0 h) (head a1 h) i j)) :=
  Cert.FwdRefIdeal.SB.weights a0 a1
theorem atts : val_main_v23_0 (F := Ideal) (arr a0) (arr a1) = up3 (φ := .f32) (fun h i j => att (head a0 h) (head a1 h) i j) :=
  Cert.FwdRefIdeal.SB.atts a0 a1
theorem past (i : S4096x4096.Idx) : val_main_v14 (F := Ideal) i = BitVec.ofBool (decide ((i 1).val < (i 0).val)) := Cert.FwdRefIdeal.SB.past i

/-! ## The derivative of `log (sigmoid x)` -/

/-- A real number is not infinite. -/
theorem oeq_inf (x : ℝ) : FloatOps.cmpf (F := Ideal) (φ := .f32) .oeq ((x : ℝ) : EReal) (FloatOps.ofBits (F := Ideal) .f32 0x7F800000#32) = 0#1 := by
  have h : FloatOps.ofBits (F := Ideal) .f32 0x7F800000#32 = (⊤ : EReal) := Cert.Finite.ofBits_inf
  rw [h, Ideal.cmpf_def]
  simp [Ideal.cmp]

/-- The factor of the derivative of `log (sigmoid z)`. -/
theorem slope : val_main_v20_1 (F := Ideal) (arr a0) (arr a1)
    = up3 (φ := .f32) (fun h i j => Real.exp (lsig (z (head a0 h) (head a1 h) i j) - z (head a0 h) (head a1 h) i j)) := by
  funext i
  have h0 : val_main_call3_v0 (F := Ideal) (arr a0) (arr a1) i = ((-z (head a0 (i 0).val) (head a1 (i 0).val) (i 1).val (i 2).val : ℝ) : EReal) := by
    rw [val_main_call3_v0_apply, logits]
    exact hostNegf_coe _
  have h1 : val_main_call3_v1_0 (F := Ideal) (arr a0) (arr a1) i = ((-(lsig (- -z (head a0 (i 0).val) (head a1 (i 0).val) (i 1).val (i 2).val)) : ℝ) : EReal) :=
    Cert.FwdRefIdeal.SB.softplus_call3 (arr a0) (arr a1) i _ h0
  rw [val_main_v20_1_apply, val_main_call3_call0_v21_apply, val_main_call3_call0_v16_apply, val_main_call3_call0_v20_apply,
    val_main_call3_call0_v14_apply, val_main_call3_call0_v18_apply, val_main_call3_call0_v13_apply, val_main_call3_call0_v17_apply,
    val_main_call3_call0_cst_0_apply, val_main_call3_call0_cst_2_apply, h0, h1, oeq_inf, oeq_inf]
  refine (congrArg (FloatOps.hostUnary (F := Ideal) (φ := .f32) .exp) (subf_coe _ _)).trans ((hostExp_coe _).trans ?_)
  exact congrArg (fun y : ℝ => ((Real.exp y : ℝ) : EReal)) (by rw [neg_neg]; ring)

/-- The factor of the derivative of `log (1 - sigmoid z)`. -/
theorem slope' : val_main_v16_1 (F := Ideal) (arr a0) (arr a1) = up3 (φ := .f32) (fun h i j => Real.exp (lsig (z (head a0 h) (head a1 h) i j))) := by
  funext i
  have h0 : val_main_call0_v0 (F := Ideal) (arr a0) (arr a1) i = ((z (head a0 (i 0).val) (head a1 (i 0).val) (i 1).val (i 2).val : ℝ) : EReal) := by
    rw [val_main_call0_v0_apply, val_main_v15_apply, logits]
    refine (congrArg (FloatOps.hostNegf (F := Ideal) (φ := .f32)) (hostNegf_coe _)).trans ?_
    rw [hostNegf_coe, neg_neg]
  have h1 : val_main_call0_v1_0 (F := Ideal) (arr a0) (arr a1) i = ((-(lsig (-z (head a0 (i 0).val) (head a1 (i 0).val) (i 1).val (i 2).val)) : ℝ) : EReal) :=
    Cert.FwdRefIdeal.SB.softplus_call0 (arr a0) (arr a1) i _ h0
  rw [val_main_v16_1_apply, val_main_call0_call0_v21_apply, val_main_call0_call0_v16_apply, val_main_call0_call0_v20_apply,
    val_main_call0_call0_v14_apply, val_main_call0_call0_v18_apply, val_main_call0_call0_v13_apply, val_main_call0_call0_v17_apply,
    val_main_call0_call0_cst_0_apply, val_main_call0_call0_cst_2_apply, h0, h1, oeq_inf, oeq_inf]
  refine (congrArg (FloatOps.hostUnary (F := Ideal) (φ := .f32) .exp) (subf_coe _ _)).trans ((hostExp_coe _).trans ?_)
  exact congrArg (fun y : ℝ => ((Real.exp y : ℝ) : EReal)) (by rw [lsig_neg]; ring)

/-! ## The gradients -/

/-- The gradient of the weights. -/
theorem das : val_main_v36 (F := Ideal) (arr a2) (arr a3) = up3 (φ := .f32) (fun h i j => da (head a2 h) (head a3 h) i j) := by
  funext i
  rw [val_main_v36_apply, heads_do, heads_v]
  exact Eq.trans (Finset.sum_congr rfl fun k _ => (EReal.coe_mul _ _).symm)
    (sum_fin_coe 128 (fun d => head a3 (i 0).val (i 1).val d * head a2 (i 0).val (i 2).val d))

/-- The gradient of the weights' logarithms. -/
theorem gs : val_main_v41 (F := Ideal) (arr a0) (arr a1) (arr a2) (arr a3)
    = up3 (φ := .f32) (fun h i j => g (head a0 h) (head a1 h) (head a2 h) (head a3 h) i j) := by
  funext i
  rw [val_main_v41_apply, val_main_v40_apply, val_main_v23_1_apply, past, das, weights, val_main_call5_v0_apply, val_main_call5_cst_apply, zero_coe]
  refine (congrArg (fun x => FloatOps.mulf (F := Ideal) (φ := .f32) x _) (select_bit _ _ _)).trans ((mulf_coe _ _).trans ?_)
  refine congrArg (fun y : ℝ => (y : EReal)) ?_
  unfold g att
  dsimp only
  split <;> ring

/-- The sums of these up to each column. -/
theorem sums : val_main_v44 (F := Ideal) (arr a0) (arr a1) (arr a2) (arr a3)
    = up3 (φ := .f32) (fun h i j => ∑ j' ∈ Finset.range (j + 1), g (head a0 h) (head a1 h) (head a2 h) (head a3 h) i j') := by
  unfold val_main_v44 Host.reduceWindowAdd
  rw [gs, Ideal.hostReduceWindowAdd_def, val_main_call7_v0_apply, val_main_call7_cst_apply, zero_coe]
  exact sum_to (n0 := 4) (n1 := 4096) (n := 4096) _ _

/-- The sums of these over the columns before each. -/
theorem befores : val_main_v45 (F := Ideal) (arr a0) (arr a1) (arr a2) (arr a3)
    = up3 (φ := .f32) (fun h i j => ∑ j' ∈ Finset.range j, g (head a0 h) (head a1 h) (head a2 h) (head a3 h) i j') := by
  funext i
  rw [val_main_v45_apply, val_main_v43_apply, gs, sums]
  refine (congrArg (fun x => FloatOps.addf (F := Ideal) (φ := .f32) x _) (hostNegf_coe _)).trans ((addf_coe _ _).trans ?_)
  refine congrArg (fun y : ℝ => (y : EReal)) ?_
  dsimp only
  rw [Finset.sum_range_succ]
  ring

/-- The gradient of the logits. -/
theorem dzs : val_main_v49 (F := Ideal) (arr a0) (arr a1) (arr a2) (arr a3)
    = up3 (φ := .f32) (fun h i j => dz (head a0 h) (head a1 h) (head a2 h) (head a3 h) i j) := by
  funext i
  have h1 : val_main_v42 (F := Ideal) (arr a0) (arr a1) (arr a2) (arr a3) i
      = ((g (head a0 (i 0).val) (head a1 (i 0).val) (head a2 (i 0).val) (head a3 (i 0).val) (i 1).val (i 2).val
        * Real.exp (lsig (z (head a0 (i 0).val) (head a1 (i 0).val) (i 1).val (i 2).val) - z (head a0 (i 0).val) (head a1 (i 0).val) (i 1).val (i 2).val) : ℝ) : EReal) := by
    rw [val_main_v42_apply, val_main_call6_v1_apply, val_main_call6_v0_apply, gs, slope]
    refine (congrArg (FloatOps.hostNegf (F := Ideal) (φ := .f32)) ((congrArg (fun x => FloatOps.mulf (F := Ideal) (φ := .f32) x _) (hostNegf_coe _)).trans (mulf_coe _ _))).trans
      ((hostNegf_coe _).trans (congrArg (fun y : ℝ => (y : EReal)) ?_))
    ring
  have h2 : val_main_v48 (F := Ideal) (arr a0) (arr a1) (arr a2) (arr a3) i
      = ((-((if (i 2).val < (i 1).val then ∑ j' ∈ Finset.range (i 2).val, g (head a0 (i 0).val) (head a1 (i 0).val) (head a2 (i 0).val) (head a3 (i 0).val) (i 1).val j' else 0)
        * Real.exp (lsig (z (head a0 (i 0).val) (head a1 (i 0).val) (i 1).val (i 2).val))) : ℝ) : EReal) := by
    rw [val_main_v48_apply, val_main_v47_apply, val_main_call9_v1_apply, val_main_call9_v0_apply, val_main_v46_apply, val_main_v17_1_apply, past, befores, slope',
      val_main_call8_v0_apply, val_main_call8_cst_apply, zero_coe]
    refine (congrArg (fun x => FloatOps.hostNegf (F := Ideal) (φ := .f32) (FloatOps.hostNegf (F := Ideal) (φ := .f32) (FloatOps.mulf (F := Ideal) (φ := .f32) x _)))
      ((congrArg (FloatOps.hostNegf (F := Ideal) (φ := .f32)) (select_bit _ _ _)).trans (hostNegf_coe _))).trans ?_
    refine (congrArg (fun x => FloatOps.hostNegf (F := Ideal) (φ := .f32) (FloatOps.hostNegf (F := Ideal) (φ := .f32) x)) (mulf_coe _ _)).trans ?_
    refine (congrArg (FloatOps.hostNegf (F := Ideal) (φ := .f32)) (hostNegf_coe _)).trans ((hostNegf_coe _).trans (congrArg (fun y : ℝ => (y : EReal)) ?_))
    ring
  rw [val_main_v49_apply, h1, h2]
  refine (addf_coe _ _).trans (congrArg (fun y : ℝ => (y : EReal)) ?_)
  unfold dz g att
  dsimp only
  split <;> ring

/-- The gradient of the products of `q` and `k`, the scaled gradient of the logits. -/
theorem scaled : val_main_v51 (F := Ideal) (arr a0) (arr a1) (arr a2) (arr a3)
    = up3 (φ := .f32) (fun h i j => dz (head a0 h) (head a1 h) (head a2 h) (head a3 h) i j * scale) := by
  funext i
  rw [val_main_v51_apply, dzs, val_main_v50_apply, val_main_cst_2_apply]
  exact (congrArg (FloatOps.mulf _) ofBits_scale).trans (mulf_coe _ _)

/-- The gradient of each head's `q`. -/
theorem dqs : val_main_v53 (F := Ideal) (arr a0) (arr a1) (arr a2) (arr a3)
    = up3 (φ := .f32) (fun h i c => dq (head a0 h) (head a1 h) (head a2 h) (head a3 h) i c) := by
  funext i
  rw [val_main_v53_apply, scaled, heads_k]
  refine Eq.trans (Finset.sum_congr rfl fun k _ => (EReal.coe_mul _ _).symm)
    ((sum_fin_coe 4096 (fun j => dz (head a0 (i 0).val) (head a1 (i 0).val) (head a2 (i 0).val) (head a3 (i 0).val) (i 1).val j * scale * head a1 (i 0).val j (i 2).val)).trans
      (congrArg (fun y : ℝ => (y : EReal)) ?_))
  dsimp only
  rw [dq, Finset.sum_mul]
  exact Finset.sum_congr rfl fun j _ => by ring

/-- The gradient of each head's `k`. -/
theorem dks : val_main_v52 (F := Ideal) (arr a0) (arr a1) (arr a2) (arr a3)
    = up3 (φ := .f32) (fun h j c => dk (head a0 h) (head a1 h) (head a2 h) (head a3 h) j c) := by
  funext i
  rw [val_main_v52_apply, scaled, heads_q]
  refine Eq.trans (Finset.sum_congr rfl fun k _ => (EReal.coe_mul _ _).symm)
    ((sum_fin_coe 4096 (fun r => dz (head a0 (i 0).val) (head a1 (i 0).val) (head a2 (i 0).val) (head a3 (i 0).val) r (i 1).val * scale * head a0 (i 0).val r (i 2).val)).trans
      (congrArg (fun y : ℝ => (y : EReal)) ?_))
  dsimp only
  rw [dk, Finset.sum_mul]
  exact Finset.sum_congr rfl fun j _ => by ring

/-- The gradient of each head's `v`. -/
theorem dvs : val_main_v35 (F := Ideal) (arr a0) (arr a1) (arr a3)
    = up3 (φ := .f32) (fun h j c => dv (head a0 h) (head a1 h) (head a3 h) j c) := by
  funext i
  rw [val_main_v35_apply, val_main_v34_apply, heads_do, atts]
  refine Eq.trans (Finset.sum_congr rfl fun k _ => (EReal.coe_mul _ _).symm)
    ((sum_fin_coe 4096 (fun r => head a3 (i 0).val r (i 2).val * att (head a0 (i 0).val) (head a1 (i 0).val) r (i 1).val)).trans
      (congrArg (fun y : ℝ => (y : EReal)) ?_))
  exact Finset.sum_congr rfl fun j _ => mul_comm _ _

/-! ## The results: the heads side by side -/

/-- An index of the joined array, split into its row, its head and its column. -/
theorem join (n e : ℕ) (h : e < 512) :
    (n * 512 + e) / 128 % 4 = e / 128 ∧ (n * 512 + e) / 512 = n ∧ (n * 512 + e) % 128 = e % 128 := by
  refine ⟨?_, ?_, ?_⟩ <;> omega

/-- The reference's gradient of `q`. -/
theorem result0 : val_main_v59 (F := Ideal) (arr a0) (arr a1) (arr a2) (arr a3) = (up2 (dqAll a0 a1 a2 a3) : FVec Ideal S4096x512 .bf16) := by
  funext i
  obtain ⟨e0, e1, e2⟩ := join (i 0).val (i 1).val (i 1).isLt
  rw [val_main_v59_apply, val_main_v58_apply, val_main_v57_apply, dqs]
  show ((dq (head a0 (((i 0).val * 512 + (i 1).val) / 128 % 4)) (head a1 (((i 0).val * 512 + (i 1).val) / 128 % 4))
      (head a2 (((i 0).val * 512 + (i 1).val) / 128 % 4)) (head a3 (((i 0).val * 512 + (i 1).val) / 128 % 4))
      (((i 0).val * 512 + (i 1).val) / 512) (((i 0).val * 512 + (i 1).val) % 128) : ℝ) : EReal)
    = ((dqAll a0 a1 a2 a3 (i 0).val (i 1).val : ℝ) : EReal)
  rw [e0, e1, e2]
  rfl

/-- The reference's gradient of `k`. -/
theorem result1 : val_main_v56 (F := Ideal) (arr a0) (arr a1) (arr a2) (arr a3) = (up2 (dkAll a0 a1 a2 a3) : FVec Ideal S4096x512 .bf16) := by
  funext i
  obtain ⟨e0, e1, e2⟩ := join (i 0).val (i 1).val (i 1).isLt
  rw [val_main_v56_apply, val_main_v55_apply, val_main_v54_apply, dks]
  show ((dk (head a0 (((i 0).val * 512 + (i 1).val) / 128 % 4)) (head a1 (((i 0).val * 512 + (i 1).val) / 128 % 4))
      (head a2 (((i 0).val * 512 + (i 1).val) / 128 % 4)) (head a3 (((i 0).val * 512 + (i 1).val) / 128 % 4))
      (((i 0).val * 512 + (i 1).val) / 512) (((i 0).val * 512 + (i 1).val) % 128) : ℝ) : EReal)
    = ((dkAll a0 a1 a2 a3 (i 0).val (i 1).val : ℝ) : EReal)
  rw [e0, e1, e2]
  rfl

/-- The reference's gradient of `v`. -/
theorem result2 : val_main_v39 (F := Ideal) (arr a0) (arr a1) (arr a3) = (up2 (dvAll a0 a1 a3) : FVec Ideal S4096x512 .bf16) := by
  funext i
  obtain ⟨e0, e1, e2⟩ := join (i 0).val (i 1).val (i 1).isLt
  rw [val_main_v39_apply, val_main_v38_apply, val_main_v37_apply, dvs]
  show ((dv (head a0 (((i 0).val * 512 + (i 1).val) / 128 % 4)) (head a1 (((i 0).val * 512 + (i 1).val) / 128 % 4))
      (head a3 (((i 0).val * 512 + (i 1).val) / 128 % 4))
      (((i 0).val * 512 + (i 1).val) / 512) (((i 0).val * 512 + (i 1).val) % 128) : ℝ) : EReal)
    = ((dvAll a0 a1 a3 (i 0).val (i 1).val : ℝ) : EReal)
  rw [e0, e1, e2]
  rfl

end Cert.ReferenceIdeal.SB

end

end
-- ==== Proof.BwdEq.lean ====
/- The backward kernel and its reference leave the same gradients. -/
module

public import proofs.«01_k».proof.Defs
public import proofs.«01_k».proof.Proof.Gen.ReferenceIdeal.Run
public import proofs.«01_k».proof.Proof.BwdArr
public import proofs.«01_k».proof.Proof.BwdRef

@[expose] public section

noncomputable section

namespace Cert.BwdEq

open Idealize.ShloMosaic Idealize.ShloMosaic.TcCoe Idealize.SL.Sem Cert.RealArr Cert.SB

/-- From finite arguments the backward kernel and its reference leave the same gradients of `q`, `k` and `v`, and both
    keep their arguments. -/
theorem equation : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => (Cert.KernelIdeal.Gen.dats m 0 c).arrAt 5 Cert.KernelIdeal.cfg0.N,
    fun c => (Cert.KernelIdeal.Gen.dats m 0 c).arrAt 6 Cert.KernelIdeal.cfg0.N,
    fun c => (Cert.KernelIdeal.Gen.dats m 0 c).arrAt 7 Cert.KernelIdeal.cfg0.N,
    Cert.KernelIdeal.Value.run_blocks m g, ?_⟩
  refine (θ_run _ _ _).mono (fun r h c => ?_) (Cert.ReferenceIdeal.Value.run m' g')
  obtain ⟨a0, a1, a2, a3, h0, h1, h2, h3⟩ := Cert.Finite.bwd m hpre c
  obtain ⟨e0, e1, e2, e3⟩ := hargs c
  obtain ⟨r0, r1, r2, k⟩ := h c
  refine ⟨r0.trans ?_, r1.trans ?_, r2.trans ?_, k⟩
  · refine Eq.trans ?_ (Cert.KernelIdeal.SB.grad_q m c h0 h1 h2 h3).symm
    rw [Cert.ReferenceIdeal.Read.val_main_v59_eq, e0, e1, e2, e3, h0, h1, h2, h3]
    exact Cert.ReferenceIdeal.SB.result0 a0 a1 a2 a3
  · refine Eq.trans ?_ (Cert.KernelIdeal.SB.grad_k m c h0 h1 h2 h3).symm
    rw [Cert.ReferenceIdeal.Read.val_main_v56_eq, e0, e1, e2, e3, h0, h1, h2, h3]
    exact Cert.ReferenceIdeal.SB.result1 a0 a1 a2 a3
  · refine Eq.trans ?_ (Cert.KernelIdeal.SB.grad_v m c h0 h1 h2 h3).symm
    rw [Cert.ReferenceIdeal.Read.val_main_v39_eq, e0, e1, e3, h0, h1, h3]
    exact Cert.ReferenceIdeal.SB.result2 a0 a1 a3

end Cert.BwdEq

end

end
-- ==== Proof.FwdBlock.lean ====
/- The forward kernel's payloads on real blocks: what one block of 256 rows by 256 columns computes. -/
module

public import proofs.«01_k».proof.Proof.Gen.FwdIdeal.Value
public import proofs.«01_k».proof.Proof.RealArr
public import proofs.«01_k».proof.Proof.SBMaths

@[expose] public section

noncomputable section

namespace Cert.FwdIdeal.SB

open Cert.FwdIdeal Cert.FwdIdeal.Gen Idealize.ShloMosaic Idealize.ShloMosaic.TcCoe Idealize.SL.Sem Cert.RealArr Cert.SB

theorem dot_nt : dot_S256x128_S256x128_S256x256_1_1_0_0_n_n = DotDims.transposedRhs 256 128 256 := rfl
theorem dot_nn : dot_S256x256_S256x256_S256x256_1_0_0_1_n_n = DotDims.plain 256 256 256 := rfl
theorem dot_nv : dot_S256x256_S256x128_S256x128_1_0_0_1_n_n = DotDims.plain 256 256 128 := rfl

theorem iota_r (h : Shape.Iotas S256x256 .tc 32 [0]) : iota .tc S256x256 32 [0] h = nat2 (fun i _ => i) := iota_row h
theorem iota_c (h : Shape.Iotas S256x256 .tc 32 [1]) : iota .tc S256x256 32 [1] h = nat2 (fun _ j => j) := iota_col h
/-- A block's row sums, as a column. -/
theorem rowSum (f : ℕ → ℕ → ℝ) :
    shapeCast S256x1 (multiReduction (F := Ideal) .add [1] S256 (up2 (φ := .f32) f : FVec Ideal S256x256 .f32) 0x00000000#32 reduces_S256x256_S256 (.inl rfl) rfl) shapeCasts_S256_S256x1
      = up2 (φ := .f32) (fun i _ => ∑ j ∈ Finset.range 256, f i j) := by
  refine (congrArg (fun x => shapeCast S256x1 x shapeCasts_S256_S256x1) (rowSum_up2 f _ reduces_S256x256_S256 (.inl rfl) rfl)).trans ?_
  exact shapeCast_up1 _ _

variable (q k v : ℕ → ℕ → ℝ)

/-- The scaled logits of a block. -/
theorem pay1 : k0_pay1 (F := Ideal) (up2 (φ := .bf16) q) (up2 (φ := .bf16) k) = up2 (z q k) := by
  unfold k0_pay1
  simp only [dot_nt, matmul_transposedRhs_up2, broadcast_scale, mulf_up2]
  rfl

theorem pay17 : k0_pay17 (F := Ideal) (up2 (φ := .bf16) q) (up2 (φ := .bf16) k) = up2 (z q k) := pay1 q k

/-- The logarithms of the sigmoids of the logits. -/
theorem pay2 : k0_pay2 (F := Ideal) (up2 (φ := .bf16) q) (up2 (φ := .bf16) k) = up2 (fun i j => lsig (z q k i j)) := by
  unfold k0_pay2
  simp only [pay1, broadcast_zero, broadcast_one, minimumf_up2, absf_up2, subf_up2, exp_up2, addf_up2, log_up2]
  rfl

theorem pay18 : k0_pay18 (F := Ideal) (up2 (φ := .bf16) q) (up2 (φ := .bf16) k) = up2 (fun i j => lsig (z q k i j)) := pay2 q k

theorem pay3 : k0_pay3 (F := Ideal) (up2 (φ := .bf16) q) (up2 (φ := .bf16) k) = up2 (lk q k) := by
  unfold k0_pay3
  simp only [pay1, pay2, subf_up2]
  rfl

/-- The strictly lower triangle: row `i` counts for column `j` when it lies after it. -/
theorem pay14 : k0_pay14 (F := Ideal) = up2 (fun i j => if j < i then 1 else 0) := by
  unfold k0_pay14
  rw [iota_r, iota_c]
  simp only [broadcast_zero, broadcast_one]
  rw [cmpi_sgt_nat2 _ _ (fun i _ h _ => by omega) (fun _ j _ h => by omega), select_up2, truncf_up2]

theorem pay15 : k0_pay15 (F := Ideal) = up2 (fun _ _ => 0) := broadcast_zero
theorem pay16 : k0_pay16 (F := Ideal) = up2 (fun _ _ => 0) := broadcast_zero

/-- A block left of the diagonal: the weights times `v`, added to what is there. -/
theorem pay4 (kr acc : ℕ → ℕ → ℝ) :
    k0_pay4 (F := Ideal) (up2 (φ := .bf16) q) k0_pay14 (up2 kr) (up2 acc) (up2 (φ := .bf16) k) (up2 (φ := .bf16) v)
      = up2 (fun i c => acc i c + ∑ j ∈ Finset.range 256,
          Real.exp (lsig (z q k i j) + ∑ j' ∈ Finset.Ico (j + 1) 256, lk q k i j' + kr i 0) * v j c) := by
  unfold k0_pay4
  simp only [pay14, pay2, pay3, truncf_up2, extf_up2, subf_up2, dot_nn, matmul_plain_up2, addf_up2]
  rw [broadcastTo_up2 _ _ (by decide)]
  simp only [truncf_up2, dot_nv, matmul_plain_up2, addf_up2, exp_up2, sub_self, zero_mul, Finset.sum_const_zero, add_zero, sum_after]

/-- … and its columns' share of the stick, added to that of the columns after it. -/
theorem pay5 (kr : ℕ → ℕ → ℝ) :
    k0_pay5 (F := Ideal) (up2 (φ := .bf16) q) (up2 kr) (up2 (φ := .bf16) k) = up2 (fun i j => kr i j + ∑ j ∈ Finset.range 256, lk q k i j) := by
  unfold k0_pay5
  simp only [pay3]
  rw [rowSum, addf_up2]

theorem word_row (n : ℕ) : Scalar.muli (BitVec.ofNat 32 n) 256#32 = BitVec.ofNat 32 (n * 256) := by
  rw [BitVec.ofNat_mul]; rfl

/-- The rows' own numbers. -/
theorem pay13 (i : grid0.Coords) : k0_pay13 i = nat2 (fun r _ => (i 1).val * 256 + r) := by
  unfold k0_pay13
  refine (congrArg₂ addi ((congrArg (broadcast S256x256) (word_row (i 1).val)).trans (broadcast_word _)) (iota_r _)).trans ?_
  exact addi_nat2 _ _

/-- The columns of the past, in the block on the diagonal. -/
theorem pay19 (i : grid0.Coords) (hcol : Shape.Iotas S256x256 .tc 32 [1]) :
    k0_pay19 (k0_pay13 i) (iota .tc S256x256 32 [1] hcol) (BitVec.ofNat 32 (i 1).val) = mask2 (fun r c => c < r) := by
  have hi : (i 1).val < 16 := (i 1).isLt
  rw [pay13]
  unfold k0_pay19
  rw [word_row, iota_c]
  simp only [broadcast_word, addi_nat2]
  rw [cmpi_slt_nat2 _ _ (fun _ j _ h => by omega) (fun i _ h _ => by omega)]
  unfold mask2
  funext x
  simp

/-- The columns' logarithms, the past's only. -/
theorem pay20 (i : grid0.Coords) (hcol : Shape.Iotas S256x256 .tc 32 [1]) :
    k0_pay20 (F := Ideal) (up2 (φ := .bf16) q) (k0_pay13 i) (iota .tc S256x256 32 [1] hcol) (BitVec.ofNat 32 (i 1).val) (up2 (φ := .bf16) k)
      = up2 (keep q k) := by
  unfold k0_pay20
  rw [pay19 i hcol]
  simp only [pay17, pay18, subf_up2, broadcast_zero, select_up2]
  rfl

/-- The block on the diagonal: the same with the columns of the past only. -/
theorem pay21 (i : grid0.Coords) (hcol : Shape.Iotas S256x256 .tc 32 [1]) :
    k0_pay21 (F := Ideal) (up2 (φ := .bf16) q) (k0_pay13 i) (iota .tc S256x256 32 [1] hcol) k0_pay14 k0_pay15 k0_pay16 (BitVec.ofNat 32 (i 1).val) (up2 (φ := .bf16) k) (up2 (φ := .bf16) v)
      = up2 (fun i c => ∑ j ∈ Finset.range 256,
          (if j < i then Real.exp (lsig (z q k i j) + ∑ j' ∈ Finset.Ico (j + 1) 256, keep q k i j') else 0) * v j c) := by
  unfold k0_pay21
  rw [pay19 i hcol, pay20]
  simp only [pay14, pay15, pay16, pay18, subf_up2, broadcast_zero, select_up2, truncf_up2, extf_up2, dot_nn, matmul_plain_up2, addf_up2]
  rw [broadcastTo_up2 _ _ (by decide)]
  simp only [truncf_up2, dot_nv, matmul_plain_up2, addf_up2, exp_up2, select_up2, sub_self, zero_mul, Finset.sum_const_zero, add_zero, sum_after, zero_add]

theorem pay22 (i : grid0.Coords) (hcol : Shape.Iotas S256x256 .tc 32 [1]) :
    k0_pay22 (F := Ideal) (up2 (φ := .bf16) q) (k0_pay13 i) (iota .tc S256x256 32 [1] hcol) k0_pay15 (BitVec.ofNat 32 (i 1).val) (up2 (φ := .bf16) k)
      = up2 (fun i _ => ∑ j ∈ Finset.range 256, keep q k i j) := by
  unfold k0_pay22
  rw [pay20]
  dsimp only
  rw [rowSum, pay15, addf_up2]
  simp only [zero_add]

end Cert.FwdIdeal.SB

end

end
-- ==== Proof.FwdLoop.lean ====
/- The forward kernel at one grid point: a block of 256 rows against the blocks of columns from the diagonal to the left. -/
module

public import proofs.«01_k».proof.Proof.FwdBlock

@[expose] public section

noncomputable section

namespace Cert.FwdIdeal.SB

open Cert.FwdIdeal Cert.FwdIdeal.Gen Idealize.ShloMosaic Idealize.ShloMosaic.TcCoe Idealize.ShloMosaic.Tactic Idealize.SL.Sem Cert.RealArr Cert.SB

variable (c : Dev nD) (i : grid0.Coords) (arg2 : Memref sig .tc .vmem S256x128 .bf16) (harg2 : arg2.IsWhole)
  (arg3 : Memref sig .tc .vmem S4096x128 .bf16) (harg3 : arg3.IsWhole) (arg4 : Memref sig .tc .vmem S4096x128 .bf16) (harg4 : arg4.IsWhole)
  (arg5 : Memref sig .tc .vmem S256x128 .bf16) (harg5 : arg5.IsWhole) (arg6 : Memref sig .tc .vmem S1x256x1 .f32) (harg6 : arg6.IsWhole)

/-- The carried value: what is left of the rows' sticks, and the rows' results. -/
abbrev Carry := FVec Ideal S256x1 .f32 × FVec Ideal S256x128 .f32

/-- One trip of the loop over the blocks left of the diagonal. -/
theorem trip (v0 : Vec Ideal S256x128 .bf16) (v32 : FVec Ideal S256x256 .bf16) (x1 x2 : Vec Ideal S4096x128 .bf16)
    (k : Fin (k0_t1_loop i).trips) (acc : Carry) :
    tripR_k0_t1 (F := Ideal) Variants.none c none i arg2 harg2 arg3 harg3 arg4 harg4 arg5 harg5 arg6 harg6 v0 v32 (harg3.unread x1) (harg4.unread x2) k acc
      = (k0_pay5 v0 acc.1 (View.ld x1 (Rect.unit (k0_off2 i k) S256x128.size (k0_off2_inb i k))),
         k0_pay4 v0 v32 acc.1 acc.2 (View.ld x1 (Rect.unit (k0_off2 i k) S256x128.size (k0_off2_inb i k)))
           (View.ld x2 (Rect.unit (k0_off2 i k) S256x128.size (k0_off2_inb i k)))) := by
  unfold tripR_k0_t1 trip_k0_t1
  simp only [View.readAt_eq_ld, harg3.read_unread, harg4.read_unread]

theorem trips1 : (k0_t1_loop i).trips = (i 1).val := (by decide +kernel : ∀ i : grid0.Coords, (k0_t1_loop i).trips = (i 1).val) i
theorem trips2 : (k0_t2_loop i).trips = 0 := (by decide +kernel : ∀ i : grid0.Coords, (k0_t2_loop i).trips = 0) i
theorem off2 (k : Fin (k0_t1_loop i).trips) : k0_off2 i k = ![256 * ((i 1).val - 1 - k.val), 0] :=
  (by decide +kernel : ∀ (i : grid0.Coords) (k : Fin (k0_t1_loop i).trips), k0_off2 i k = ![256 * ((i 1).val - 1 - k.val), 0]) i k

variable (Q K V : ℕ → ℕ → ℝ)

/-- The rows of point `i`. -/
abbrev rows (f : ℕ → ℕ → ℝ) : ℕ → ℕ → ℝ := fun r d => f (256 * (i 1).val + r) d

/-- What is carried once the columns from `256 n` on are done. -/
def carry (n : ℕ) : Carry :=
  (up2 fun r _ => ∑ j ∈ Finset.Ico (256 * n) 4096, keep Q K (256 * (i 1).val + r) j,
   up2 fun r e => ∑ j ∈ Finset.Ico (256 * n) 4096, att Q K (256 * (i 1).val + r) j * V j e)

theorem step (k : Fin (k0_t1_loop i).trips) :
    tripR_k0_t1 (F := Ideal) Variants.none c none i arg2 harg2 arg3 harg3 arg4 harg4 arg5 harg5 arg6 harg6 (up2 (φ := .bf16) (rows i Q)) k0_pay14
        (harg3.unread (up2 (φ := .bf16) K)) (harg4.unread (up2 (φ := .bf16) V)) k (carry i Q K V ((i 1).val - k.val))
      = carry i Q K V ((i 1).val - (k.val + 1)) := by
  have hk : k.val < (i 1).val := (trips1 i) ▸ k.isLt
  have hi : (i 1).val < 16 := (i 1).isLt
  obtain ⟨n, hn⟩ : ∃ n, (i 1).val - 1 - k.val = n := ⟨_, rfl⟩
  have h1 : (i 1).val - k.val = n + 1 := by omega
  have h2 : (i 1).val - (k.val + 1) = n := by omega
  have e : 256 * (n + 1) = 256 * n + 256 := by omega
  rw [trip, h1, h2]
  have ho := off2 i k
  rw [hn] at ho
  have hK : View.ld (Val := Elt Ideal) (e' := .bf16) (up2 (φ := .bf16) K : FVec Ideal S4096x128 .bf16) (Rect.unit (k0_off2 i k) S256x128.size (k0_off2_inb i k)) = (up2 (fun j d => K (256 * n + j) d) : FVec Ideal S256x128 .bf16) := by
    refine (ld_up2 K _ _ _ ho _).trans ?_
    simp only [Nat.zero_add]
  have hV : View.ld (Val := Elt Ideal) (e' := .bf16) (up2 (φ := .bf16) V : FVec Ideal S4096x128 .bf16) (Rect.unit (k0_off2 i k) S256x128.size (k0_off2_inb i k)) = (up2 (fun j d => V (256 * n + j) d) : FVec Ideal S256x128 .bf16) := by
    refine (ld_up2 V _ _ _ ho _).trans ?_
    simp only [Nat.zero_add]
  rw [hK, hV]
  unfold carry
  dsimp only
  rw [pay5, pay4, e]
  refine congrArg₂ Prod.mk ?_ ?_
  · refine up2_congr fun r _ hr _ => ?_
    exact keep_left (256 * (i 1).val + r) (256 * n) (by omega) (by omega)
  · refine up2_congr fun r d hr _ => ?_
    exact block_left (256 * (i 1).val + r) (256 * n) (by omega) (by omega) d

/-- The loop from the diagonal leftwards. -/
theorem loop (k : ℕ) (hk : k ≤ (i 1).val) :
    st_k0_t1 (F := Ideal) Variants.none c none i arg2 harg2 arg3 harg3 arg4 harg4 arg5 harg5 arg6 harg6 (up2 (φ := .bf16) (rows i Q)) k0_pay14
        (harg3.unread (up2 (φ := .bf16) K)) (harg4.unread (up2 (φ := .bf16) V)) (carry i Q K V (i 1).val) k
      = carry i Q K V ((i 1).val - k) := by
  induction k with
  | zero => exact st_k0_t1_zero ..
  | succ k ih =>
    have hlt : k < (k0_t1_loop i).trips := (trips1 i) ▸ hk
    refine (st_k0_t1_succ (F := Ideal) Variants.none c none i arg2 harg2 arg3 harg3 arg4 harg4 arg5 harg5 arg6 harg6 _ _ _ _ _ ⟨k, hlt⟩).trans ?_
    rw [ih (by omega)]
    exact step c i arg2 harg2 arg3 harg3 arg4 harg4 arg5 harg5 arg6 harg6 Q K V ⟨k, hlt⟩

/-- The block on the diagonal. -/
theorem diag (hcol : Shape.Iotas S256x256 .tc 32 [1]) :
    ((k0_pay22 (F := Ideal) (up2 (φ := .bf16) (rows i Q)) (k0_pay13 i) (iota .tc S256x256 32 [1] hcol) k0_pay15 (BitVec.ofNat 32 (i 1).val) (up2 (φ := .bf16) (rows i K)),
      k0_pay21 (F := Ideal) (up2 (φ := .bf16) (rows i Q)) (k0_pay13 i) (iota .tc S256x256 32 [1] hcol) k0_pay14 k0_pay15 k0_pay16 (BitVec.ofNat 32 (i 1).val)
        (up2 (φ := .bf16) (rows i K)) (up2 (φ := .bf16) (rows i V))) : Carry) = carry i Q K V (i 1).val := by
  have hi : (i 1).val < 16 := (i 1).isLt
  rw [pay21, pay22]
  unfold carry
  refine congrArg₂ Prod.mk ?_ ?_
  · refine up2_congr fun r _ hr _ => ?_
    exact keep_diag (256 * (i 1).val) r hr (by omega)
  · refine up2_congr fun r d hr _ => ?_
    exact block_diag (256 * (i 1).val) r hr (by omega) d

/-- The carried value at the end of the body: the diagonal, the blocks left of it, and a remainder loop. -/
def last (w : BitVec 32) (T1 T2 : ℕ) (x0 : Vec Ideal S256x128 .bf16) (x1 x2 : Vec Ideal S4096x128 .bf16) : Carry :=
  st_k0_t2 (F := Ideal) Variants.none c none i arg2 harg2 arg3 harg3 arg4 harg4 arg5 harg5 arg6 harg6
    (View.ld x0 (Rect.unit ![0, 0] ![256, 128] inb_S256x128_S256x128_0_0)) k0_pay14 (harg3.unread x1) (harg4.unread x2)
    ((st_k0_t1 (F := Ideal) Variants.none c none i arg2 harg2 arg3 harg3 arg4 harg4 arg5 harg5 arg6 harg6
      (View.ld x0 (Rect.unit ![0, 0] ![256, 128] inb_S256x128_S256x128_0_0)) k0_pay14 (harg3.unread x1) (harg4.unread x2)
      (k0_pay22 (View.ld x0 (Rect.unit ![0, 0] ![256, 128] inb_S256x128_S256x128_0_0)) (k0_pay13 i) (iota .tc S256x256 32 [1] iota_S256x256_d1_w32) k0_pay15 w
          (View.ld x1 (Rect.unit (k0_off1 i) ![256, 128] (k0_off1_inb i))),
       k0_pay21 (View.ld x0 (Rect.unit ![0, 0] ![256, 128] inb_S256x128_S256x128_0_0)) (k0_pay13 i) (iota .tc S256x256 32 [1] iota_S256x256_d1_w32) k0_pay14 k0_pay15 k0_pay16 w
          (View.ld x1 (Rect.unit (k0_off1 i) ![256, 128] (k0_off1_inb i))) (View.ld x2 (Rect.unit (k0_off1 i) ![256, 128] (k0_off1_inb i)))) T1).1,
     (st_k0_t1 (F := Ideal) Variants.none c none i arg2 harg2 arg3 harg3 arg4 harg4 arg5 harg5 arg6 harg6
      (View.ld x0 (Rect.unit ![0, 0] ![256, 128] inb_S256x128_S256x128_0_0)) k0_pay14 (harg3.unread x1) (harg4.unread x2)
      (k0_pay22 (View.ld x0 (Rect.unit ![0, 0] ![256, 128] inb_S256x128_S256x128_0_0)) (k0_pay13 i) (iota .tc S256x256 32 [1] iota_S256x256_d1_w32) k0_pay15 w
          (View.ld x1 (Rect.unit (k0_off1 i) ![256, 128] (k0_off1_inb i))),
       k0_pay21 (View.ld x0 (Rect.unit ![0, 0] ![256, 128] inb_S256x128_S256x128_0_0)) (k0_pay13 i) (iota .tc S256x256 32 [1] iota_S256x256_d1_w32) k0_pay14 k0_pay15 k0_pay16 w
          (View.ld x1 (Rect.unit (k0_off1 i) ![256, 128] (k0_off1_inb i))) (View.ld x2 (Rect.unit (k0_off1 i) ![256, 128] (k0_off1_inb i)))) T1).2) T2

theorem last_eq : last c i arg2 harg2 arg3 harg3 arg4 harg4 arg5 harg5 arg6 harg6 (BitVec.ofNat 32 (i 1).val) (i 1).val 0
    (up2 (φ := .bf16) (rows i Q)) (up2 (φ := .bf16) K) (up2 (φ := .bf16) V) = carry i Q K V 0 := by
  unfold last
  refine (st_k0_t2_zero ..).trans ?_
  have h0 : View.ld (Val := Elt Ideal) (e' := .bf16) (up2 (φ := .bf16) (rows i Q) : FVec Ideal S256x128 .bf16) (Rect.unit ![0, 0] ![256, 128] inb_S256x128_S256x128_0_0) = (up2 (rows i Q) : FVec Ideal S256x128 .bf16) := by
    refine (ld_up2 _ _ 0 0 rfl _).trans ?_
    simp only [Nat.zero_add]
  have hd (f : ℕ → ℕ → ℝ) : View.ld (Val := Elt Ideal) (e' := .bf16) (up2 (φ := .bf16) f : FVec Ideal S4096x128 .bf16) (Rect.unit (k0_off1 i) ![256, 128] (k0_off1_inb i)) = (up2 (rows i f) : FVec Ideal S256x128 .bf16) := by
    refine (ld_up2 _ _ _ _ (k0_off1_eq i) _).trans ?_
    simp only [Nat.zero_add]
  rw [h0, hd, hd, diag, loop _ _ _ _ _ _ _ _ _ _ _ _ _ _ _ _ le_rfl, Nat.sub_self]

/-- The block of the result a point stores. -/
theorem out3 : out0_A_3 (F := Ideal) c i arg2 harg2 arg3 harg3 arg4 harg4 arg5 harg5 arg6 harg6
    (up2 (φ := .bf16) (rows i Q)) (up2 (φ := .bf16) K) (up2 (φ := .bf16) V) = up2 (φ := .bf16) (rows i (out Q K V)) := by
  obtain ⟨w, T1, T2, hw, h1, h2, he⟩ : ∃ w T1 T2, w = BitVec.ofNat 32 (i 1).val ∧ T1 = (i 1).val ∧ T2 = 0 ∧
      out0_A_3 (F := Ideal) c i arg2 harg2 arg3 harg3 arg4 harg4 arg5 harg5 arg6 harg6
        (up2 (φ := .bf16) (rows i Q)) (up2 (φ := .bf16) K) (up2 (φ := .bf16) V)
        = View.canon [⟨Rect.unit ![0, 0] ![256, 128] inb_S256x128_S256x128_0_0, k0_pay11 (last c i arg2 harg2 arg3 harg3 arg4 harg4 arg5 harg5 arg6 harg6 w T1 T2
            (up2 (φ := .bf16) (rows i Q)) (up2 (φ := .bf16) K) (up2 (φ := .bf16) V)).2⟩] := by
    refine ⟨?w, ?T1, ?T2, ?_, ?_, ?_, ?eq⟩
    case eq =>
      unfold out0_A_3
      rw [View.read_writes_eq_canon _ _ _ (cover0_A_3 c i arg2 harg2 arg3 harg3 arg4 harg4 arg5 harg5 arg6 harg6 _ _ _)]
      unfold kernelRun0_A
      dsimp only
      sl_unfold_words
      simp only [View.readAt_eq_ld, harg2.read_unread, harg3.read_unread, harg4.read_unread]
      rfl
    · clear * -; revert i; decide +kernel
    · clear * -; revert i; decide +kernel
    · clear * -; revert i; decide +kernel
  rw [he, hw, h1, h2, last_eq]
  refine (View.canon_unit_zero (by decide) _ _).trans ?_
  unfold carry k0_pay11
  simp only [truncf_up2, Nat.mul_zero, ← Finset.range_eq_Ico]
  rfl

/-- The block of the logarithms of what is left that a point stores. -/
theorem out4 : out0_A_4 (F := Ideal) c i arg2 harg2 arg3 harg3 arg4 harg4 arg5 harg5 arg6 harg6
    (up2 (φ := .bf16) (rows i Q)) (up2 (φ := .bf16) K) (up2 (φ := .bf16) V)
      = shapeCast S1x256x1 (up2 (φ := .f32) (fun r _ => total Q K (256 * (i 1).val + r)) : FVec Ideal S256x1 .f32) shapeCasts_S256x1_S1x256x1 := by
  obtain ⟨w, T1, T2, hw, h1, h2, he⟩ : ∃ w T1 T2, w = BitVec.ofNat 32 (i 1).val ∧ T1 = (i 1).val ∧ T2 = 0 ∧
      out0_A_4 (F := Ideal) c i arg2 harg2 arg3 harg3 arg4 harg4 arg5 harg5 arg6 harg6
        (up2 (φ := .bf16) (rows i Q)) (up2 (φ := .bf16) K) (up2 (φ := .bf16) V)
        = View.canon [⟨Rect.unit ![0, 0, 0] ![1, 256, 1] inb_S1x256x1_S1x256x1_0_0_0, k0_pay12 (last c i arg2 harg2 arg3 harg3 arg4 harg4 arg5 harg5 arg6 harg6 w T1 T2
            (up2 (φ := .bf16) (rows i Q)) (up2 (φ := .bf16) K) (up2 (φ := .bf16) V)).1⟩] := by
    refine ⟨?w, ?T1, ?T2, ?_, ?_, ?_, ?eq⟩
    case eq =>
      unfold out0_A_4
      rw [View.read_writes_eq_canon _ _ _ (cover0_A_4 c i arg2 harg2 arg3 harg3 arg4 harg4 arg5 harg5 arg6 harg6 _ _ _)]
      unfold kernelRun0_A
      dsimp only
      sl_unfold_words
      simp only [View.readAt_eq_ld, harg2.read_unread, harg3.read_unread, harg4.read_unread]
      rfl
    · clear * -; revert i; decide +kernel
    · clear * -; revert i; decide +kernel
    · clear * -; revert i; decide +kernel
  rw [he, hw, h1, h2, last_eq]
  refine (View.canon_unit_zero (by decide) _ _).trans ?_
  unfold carry k0_pay12
  simp only [Nat.mul_zero, ← Finset.range_eq_Ico]
  rfl

end Cert.FwdIdeal.SB

end

end
-- ==== Proof.FwdArr.lean ====
/- The forward kernel's two result arrays: every head's attention and what is left of its rows' sticks. -/
module

public import proofs.«01_k».proof.Proof.FwdLoop
public import Idealize.ShloMosaic.Lib.Pipeline.ValueKit

@[expose] public section

set_option maxRecDepth 16384

noncomputable section

namespace Cert.FwdIdeal.SB

open Cert.FwdIdeal Cert.FwdIdeal.Gen Cert.FwdIdeal.Value Idealize.ShloMosaic Idealize.ShloMosaic.TcCoe Idealize.SL.Sem Cert.RealArr Cert.SB

variable (m : (ℓ : Loc nD τ sig) → Buf (Elt Ideal) ℓ) (c : Dev nD) (a0 a1 a2 : ℕ → ℕ → ℝ)

/-- The windows' block indices. -/
theorem idx : ∀ t : Fin cfg0.N, win0_0.index t = ![(grid0.coords t 1).val, (grid0.coords t 0).val] ∧ win0_1.index t = ![0, (grid0.coords t 0).val]
    ∧ win0_2.index t = ![0, (grid0.coords t 0).val] ∧ win0_3.index t = ![(grid0.coords t 1).val, (grid0.coords t 0).val]
    ∧ win0_4.index t = ![(grid0.coords t 0).val, (grid0.coords t 1).val, 0] :=
  (by decide +kernel : ∀ t : Fin grid0.N, _)

variable {a0 a1 a2} in
/-- A point's block of `q`: its rows, its head's columns. -/
theorem iblk_q (h0 : m ((c : Thread nD τ).loc main_arg0) = (up2 a0 : FVec Ideal S4096x512 .bf16)) (t : Fin cfg0.N) :
    iblk m c 0 t = (up2 (rows (grid0.coords t) (head a0 (grid0.coords t 0).val)) : FVec Ideal S256x128 .bf16) := by
  funext y
  blk_simp [iblk, V_main_arg0, h0, (idx t).1, up2]
  simp only [rows, head, Nat.mul_comm]

variable {a0 a1 a2} in
/-- A point's block of `k`: all rows, its head's columns. -/
theorem iblk_k (h1 : m ((c : Thread nD τ).loc main_arg1) = (up2 a1 : FVec Ideal S4096x512 .bf16)) (t : Fin cfg0.N) :
    iblk m c 1 t = (up2 (head a1 (grid0.coords t 0).val) : FVec Ideal S4096x128 .bf16) := by
  funext y
  blk_simp [iblk, V_main_arg1, h1, (idx t).2.1, up2]
  simp only [head, Nat.mul_comm, Nat.zero_mul, Nat.mul_zero, Nat.zero_add]

variable {a0 a1 a2} in
/-- A point's block of `v`. -/
theorem iblk_v (h2 : m ((c : Thread nD τ).loc main_arg2) = (up2 a2 : FVec Ideal S4096x512 .bf16)) (t : Fin cfg0.N) :
    iblk m c 2 t = (up2 (head a2 (grid0.coords t 0).val) : FVec Ideal S4096x128 .bf16) := by
  funext y
  blk_simp [iblk, V_main_arg2, h2, (idx t).2.2.1, up2]
  simp only [head, Nat.mul_comm, Nat.zero_mul, Nat.mul_zero, Nat.zero_add]

variable (h0 : m ((c : Thread nD τ).loc main_arg0) = (up2 a0 : FVec Ideal S4096x512 .bf16))
  (h1 : m ((c : Thread nD τ).loc main_arg1) = (up2 a1 : FVec Ideal S4096x512 .bf16))
  (h2 : m ((c : Thread nD τ).loc main_arg2) = (up2 a2 : FVec Ideal S4096x512 .bf16))
include h0 h1 h2

/-- The first result array. -/
theorem final3 : (dats m 0 c).arrAt 3 cfg0.N = (up2 (outAll a0 a1 a2) : FVec Ideal S4096x512 .bf16) := by
  refine (dats m 0 c).arrAt_eq_of_covers 3 _ (by decide +kernel) fun t hf y => ?_
  blk_simp
  rw [after0_3]
  unfold outsAt0
  dsimp only
  rw [iblk_q m c h0, iblk_k m c h1, iblk_v m c h2, out3]
  blk_simp [(idx t).2.2.2.1, up2]
  have e1 : (y 1).val < 128 := (y 1).isLt
  have e2 : ((grid0.coords t 0).val * 128 + (y 1).val) / 128 = (grid0.coords t 0).val := by omega
  have e3 : ((grid0.coords t 0).val * 128 + (y 1).val) % 128 = (y 1).val := by omega
  unfold outAll
  rw [e2, e3, Nat.mul_comm _ 256]

/-- The second result array. -/
theorem final4 : (dats m 0 c).arrAt 4 cfg0.N = (fun y : S4x4096x1.Idx => ((total (head a0 (y 0).val) (head a1 (y 0).val) (y 1).val : ℝ) : EReal)) := by
  refine (dats m 0 c).arrAt_eq_of_covers 4 _ (by decide +kernel) fun t hf y => ?_
  blk_simp
  rw [after0_4]
  unfold outsAt0
  dsimp only
  rw [iblk_q m c h0, iblk_k m c h1, iblk_v m c h2, out4]
  blk_simp [(idx t).2.2.2.2]
  refine (shapeCast_addUnit_apply _ _ shapeCasts_S256x1_S1x256x1 y).trans ?_
  rw [Nat.mul_comm _ 256]
  rfl

end Cert.FwdIdeal.SB

end

end
-- ==== Proof.FwdEq.lean ====
/- The forward pair's equation: the kernel's two arrays are the reference's, over the real numbers. -/
module

public import proofs.«01_k».proof.Defs
public import proofs.«01_k».proof.Proof.Gen.FwdRefIdeal.Run
public import proofs.«01_k».proof.Proof.FwdArr
public import proofs.«01_k».proof.Proof.FwdRef
public import proofs.«01_k».proof.Proof.Finite

@[expose] public section

noncomputable section

namespace Cert.FwdEq

open Idealize.ShloMosaic Idealize.SL.Sem Cert.RealArr Cert.SB

/-- From finite arguments the forward kernel and its reference leave the same attention and the same logarithms of what
    is left of the sticks, and both keep their arguments. -/
theorem equation : Cert.algebraic_FwdIdeal_FwdRefIdeal_pre_finite_fwd (hFwdIdeal := Cert.FwdIdeal.Gen.facts)
    (hFwdRefIdeal := Cert.FwdRefIdeal.Gen.facts) (hPre_finite_fwd := Cert.Pre_finite_fwd.Gen.facts) := by
  intro m g m' g' hpre hargs
  refine ⟨fun c => (Cert.FwdIdeal.Gen.dats m 0 c).arrAt 3 Cert.FwdIdeal.cfg0.N,
    fun c => (Cert.FwdIdeal.Gen.dats m 0 c).arrAt 4 Cert.FwdIdeal.cfg0.N,
    Cert.FwdIdeal.Value.run_blocks m g, ?_⟩
  refine (θ_run _ _ _).mono (fun r h c => ?_) (Cert.FwdRefIdeal.Value.run m' g')
  obtain ⟨a0, a1, a2, h0, h1, h2⟩ := Cert.Finite.fwd m hpre c
  obtain ⟨e0, e1, e2⟩ := hargs c
  obtain ⟨r0, r1, k⟩ := h c
  refine ⟨r0.trans ?_, r1.trans ?_, k⟩
  · refine Eq.trans ?_ (Cert.FwdIdeal.SB.final3 m c a0 a1 a2 h0 h1 h2).symm
    rw [Cert.FwdRefIdeal.Read.val_main_v30_eq, e0, e1, e2, h0, h1, h2]
    exact Cert.FwdRefIdeal.SB.result0 a0 a1 a2
  · refine Eq.trans ?_ (Cert.FwdIdeal.SB.final4 m c a0 a1 a2 h0 h1 h2).symm
    rw [Cert.FwdRefIdeal.Read.val_main_v50_eq, e0, e1, h0, h1]
    exact Cert.FwdRefIdeal.SB.result1 a0 a1

end Cert.FwdEq
-- ==== Proof.Adam.lean ====
/- The optimiser's step of one entry, and the kernel's and the reference's whole-vector lines as that step entry by entry. -/
module

public import Idealize.ShloMosaic.Lib.Pipeline.ValueKit

@[expose] public section

noncomputable section

namespace Cert.Adam

open Idealize.ShloMosaic

/-- The new first moment of an entry. -/
def first (g m : Ideal .f32) : Ideal .f32 :=
  FloatOps.addf (FloatOps.mulf (Scalar.ofBits .f32 0x3F666666#32) m) (FloatOps.mulf (Scalar.ofBits .f32 0x3DCCCCCD#32) g)

/-- The new second moment of an entry. -/
def second (g v : Ideal .f32) : Ideal .f32 :=
  FloatOps.addf (FloatOps.mulf (Scalar.ofBits .f32 0x3F7FBE77#32) v)
    (FloatOps.mulf (Scalar.ofBits .f32 0x3A83126F#32) (FloatOps.mulf g g))

/-- The change of an entry of the weights. -/
def step (w g m v : Ideal .f32) : Ideal .f32 :=
  FloatOps.mulf (Scalar.ofBits .f32 0xBA83126F#32)
    (FloatOps.addf
      (FloatOps.divf (FloatOps.divf (first g m) (Scalar.ofBits .f32 0x3F26BD02#32))
        (FloatOps.addf (FloatOps.sqrt (FloatOps.divf (second g v) (Scalar.ofBits .f32 0x3C231ACC#32)))
          (Scalar.ofBits .f32 0x322BCC77#32)))
      (FloatOps.mulf (Scalar.ofBits .f32 0x3C23D70A#32) w))

variable {s : Shape} {h : s.ShapeCasts s} {w w' g g' m m' v v' a b : FVec Ideal s .f32}

/-- The kernel's line of the first moment, of the loaded blocks `g'` and `m'`. -/
theorem line_first (hg : g' = g) (hm : m' = m) :
    addf (mulf (broadcast s (Scalar.ofBits .f32 0x3F666666#32)) (shapeCast s m' h))
        (mulf (broadcast s (Scalar.ofBits .f32 0x3DCCCCCD#32)) (shapeCast s g' h))
      = fun i => first (g i) (m i) := by
  rw [shapeCast_self, shapeCast_self, hg, hm]; rfl

/-- The kernel's line of the second moment, of the loaded blocks `g'` and `v'`. -/
theorem line_second (hg : g' = g) (hv : v' = v) :
    addf (mulf (broadcast s (Scalar.ofBits .f32 0x3F7FBE77#32)) (shapeCast s v' h))
        (mulf (broadcast s (Scalar.ofBits .f32 0x3A83126F#32)) (mulf (shapeCast s g' h) (shapeCast s g' h)))
      = fun i => second (g i) (v i) := by
  rw [shapeCast_self, shapeCast_self, hg, hv]; rfl

/-- The kernel's line of the change, of the loaded block `w'` and the lines `a` and `b` of the two moments. -/
theorem line_step (hw : w' = w) (ha : a = fun i => first (g i) (m i)) (hb : b = fun i => second (g i) (v i)) :
    mulf (broadcast s (Scalar.ofBits .f32 0xBA83126F#32))
        (addf (divf (divf a (broadcast s (Scalar.ofBits .f32 0x3F26BD02#32)))
            (addf (sqrt (divf b (broadcast s (Scalar.ofBits .f32 0x3C231ACC#32)))) (broadcast s (Scalar.ofBits .f32 0x322BCC77#32))))
          (mulf (broadcast s (Scalar.ofBits .f32 0x3C23D70A#32)) (shapeCast s w' h)))
      = fun i => step (w i) (g i) (m i) (v i) := by
  rw [hw, ha, hb, shapeCast_self]; rfl

end Cert.Adam
-- ==== Proof.Pack.lean ====
/- Flat arrays laid side by side and padded: what is computed entry by entry may be computed before or after. -/
module

public import Idealize.ShloMosaic.Lib.Pipeline.ValueKit
public import Idealize.ShloMosaic.Lib.Pointwise.SelectCore

@[expose] public section

namespace Cert.Pack

open Idealize.ShloMosaic

variable {α β : Type}

/-- Every array of the list with `f` at its entries. -/
abbrev each (f : α → β) (xs : List ((s : Shape) × (s.Idx → α))) : List ((s : Shape) × (s.Idx → β)) :=
  xs.map fun p => ⟨p.1, fun i => f (p.2 i)⟩

theorem concatenateAt_each (f : α → β) {t : Shape} (a : Fin t.rank) (j : t.Idx) :
    ∀ (xs : List ((s : Shape) × (s.Idx → α))) (hs : ∀ s ∈ xs.map (·.1), s.FitsOff t a)
      (hs' : ∀ s ∈ (each f xs).map (·.1), s.FitsOff t a) (c : Nat) (hc : c < (axisSizes t a xs).sum)
      (hc' : c < (axisSizes t a (each f xs)).sum),
      concatenateAt t a j (each f xs) hs' c hc' = f (concatenateAt t a j xs hs c hc)
  | [], _, _, _, hc, _ => absurd hc (Nat.not_lt_zero _)
  | [p], hs, hs', c, hc, hc' => by
    rw [concatenateAt_singleton a j p.2 hs c hc]
    exact concatenateAt_singleton a j (fun i => f (p.2 i)) hs' c hc'
  | p :: q :: xs, hs, hs', c, hc, hc' => by
    rw [concatenateAt_cons a j p.2 q xs hs c hc]
    refine (concatenateAt_cons a j (fun i => f (p.2 i)) ⟨q.1, fun i => f (q.2 i)⟩ (each f xs) hs' c hc').trans ?_
    split
    · rfl
    · exact concatenateAt_each f a j (q :: xs) _ _ _ _ _

/-- Entry by entry before the arrays are laid side by side is entry by entry after. -/
theorem concatenate_each (f : α → β) (t : Shape) (a : Fin t.rank) (xs : List ((s : Shape) × (s.Idx → α)))
    (h : Shape.Concatenates (xs.map (·.1)) t a) (h' : Shape.Concatenates ((each f xs).map (·.1)) t a) :
    concatenate t a (each f xs) h' = fun j => f (concatenate t a xs h j) :=
  funext fun j => by
    rw [concatenate_apply, concatenate_apply]
    exact concatenateAt_each f a j xs _ _ _ _ _

/-- Entry by entry before the padding is entry by entry after, where the padding goes to the padding. -/
theorem pad_each (f : α → β) {s t u : Shape} (lo hi interior : Fin s.rank → Nat) (x : s.Idx → α) (v : u.Idx → α)
    (v' : u.Idx → β) (hv : ∀ i, v' i = f (v i)) (h : s.Pads lo hi interior t) (hu : 0 < u.numel) :
    pad t lo hi interior (fun i => f (x i)) v' h hu = fun j => f (pad t lo hi interior x v h hu j) :=
  funext fun j => by
    unfold pad
    split
    · rfl
    · exact hv _

end Cert.Pack
-- ==== Proof.AdamSmall.lean ====
/- The optimiser's step of the small weights, packed in one array: the kernel's three arrays are the reference's steps of the
   seven weights, packed. -/
module

public import proofs.«01_k».proof.Defs
public import proofs.«01_k».proof.Proof.Gen.AdamSmallIdeal.Value
public import proofs.«01_k».proof.Proof.Gen.AdamSmallRefIdeal.Run
public import proofs.«01_k».proof.Proof.Adam
public import proofs.«01_k».proof.Proof.Pack

@[expose] public section

-- the host's operations are a list of 45, whose terms nest that deep
set_option maxRecDepth 16384

noncomputable section

namespace Cert.Adam

open Idealize.ShloMosaic

theorem scale_first : (Scalar.ofBits .f32 0x3F26BD02#32 : Ideal .f32) ≠ (0 : EReal) := by
  show Ideal.ofBits .f32 0x3F26BD02#32 ≠ 0
  simp [Ideal.ofBits, Ideal.ieee, -EReal.coe_mul]

theorem scale_second : (Scalar.ofBits .f32 0x3C231ACC#32 : Ideal .f32) ≠ (0 : EReal) := by
  show Ideal.ofBits .f32 0x3C231ACC#32 ≠ 0
  simp [Ideal.ofBits, Ideal.ieee, -EReal.coe_mul]

theorem small : (Scalar.ofBits .f32 0x322BCC77#32 : Ideal .f32) ≠ (0 : EReal) := by
  show Ideal.ofBits .f32 0x322BCC77#32 ≠ 0
  simp [Ideal.ofBits, Ideal.ieee, -EReal.coe_mul]

theorem div_zero_left {y : EReal} (h : y ≠ 0) : Ideal.div 0 y = 0 := by
  rw [Ideal.div, if_neg h, zero_mul]

theorem first_zero : first (0 : EReal) (0 : EReal) = (0 : EReal) := by
  show (_ : EReal) * 0 + (_ : EReal) * 0 = 0
  rw [mul_zero, mul_zero, add_zero]

theorem second_zero : second (0 : EReal) (0 : EReal) = (0 : EReal) := by
  show (_ : EReal) * 0 + (_ : EReal) * (0 * 0) = 0
  rw [mul_zero, mul_zero, mul_zero, add_zero]

/-- The step of a zero with a zero gradient and zero moments is zero. -/
theorem step_zero : step (0 : EReal) (0 : EReal) (0 : EReal) (0 : EReal) = (0 : EReal) := by
  unfold step
  rw [first_zero, second_zero]
  show (_ : EReal) * (Ideal.div (Ideal.div 0 _) (Ideal.sqrt (Ideal.div 0 _) + _) + (_ : EReal) * 0) = 0
  have hs : Ideal.sqrt 0 = 0 := by
    show (if (0 : ℝ) < 0 then ⊥ else ((Real.sqrt 0 : ℝ) : EReal)) = 0
    rw [if_neg (lt_irrefl _), Real.sqrt_zero, EReal.coe_zero]
  rw [div_zero_left scale_first, div_zero_left scale_second, hs, zero_add, div_zero_left small, mul_zero, zero_add, mul_zero]

end Cert.Adam

namespace Cert.AdamSmallEq

open Cert.AdamSmallIdeal Cert.AdamSmallIdeal.Gen Cert.AdamSmallIdeal.Value Idealize.ShloMosaic Idealize.ShloMosaic.TcCoe Idealize.ShloMosaic.StableHlo
  Idealize.SL.Sem Cert.Adam Cert.Pack

/-- Seven arrays, flattened. -/
abbrev flat {α : Type} (a0 : S4x2048.Idx → α) (a1 a2 : S4x512.Idx → α) (a3 : S4x4.Idx → α) (a4 a5 : S4x2048.Idx → α) (a6 : S2048.Idx → α) :
    List ((s : Shape) × (s.Idx → α)) :=
  [⟨S8192, shapeCast S8192 a0 shapeCasts_S4x2048_S8192⟩, ⟨S2048, shapeCast S2048 a1 shapeCasts_S4x512_S2048⟩,
    ⟨S2048, shapeCast S2048 a2 shapeCasts_S4x512_S2048⟩, ⟨S16, shapeCast S16 a3 shapeCasts_S4x4_S16⟩,
    ⟨S8192, shapeCast S8192 a4 shapeCasts_S4x2048_S8192⟩, ⟨S8192, shapeCast S8192 a5 shapeCasts_S4x2048_S8192⟩, ⟨S2048, a6⟩]

/-- Seven arrays packed: flattened, side by side, padded with `v`, in rows. -/
def packed {α : Type} (v : S_.Idx → α) (a0 : S4x2048.Idx → α) (a1 a2 : S4x512.Idx → α) (a3 : S4x4.Idx → α) (a4 a5 : S4x2048.Idx → α)
    (a6 : S2048.Idx → α) : S248x128.Idx → α :=
  shapeCast S248x128 (pad S31744 ![0] ![1008] ![0] (concatenate S30736 0 (flat a0 a1 a2 a3 a4 a5 a6)
    concatenates_S8192_S2048_S2048_S16_S8192_S8192_S2048_S30736_d0) v pads_S30736_S31744_010080 h_S_) shapeCasts_S31744_S248x128

/-- Entry by entry before the packing is entry by entry after, where the padding goes to the padding. -/
theorem packed_each {α β : Type} (f : α → β) (v : S_.Idx → α) (v' : S_.Idx → β) (hv : ∀ i, v' i = f (v i)) (a0 : S4x2048.Idx → α)
    (a1 a2 : S4x512.Idx → α) (a3 : S4x4.Idx → α) (a4 a5 : S4x2048.Idx → α) (a6 : S2048.Idx → α) :
    packed v' (fun i => f (a0 i)) (fun i => f (a1 i)) (fun i => f (a2 i)) (fun i => f (a3 i)) (fun i => f (a4 i)) (fun i => f (a5 i)) (fun i => f (a6 i))
      = fun i => f (packed v a0 a1 a2 a3 a4 a5 a6 i) := by
  have e : concatenate S30736 0 (flat (fun i => f (a0 i)) (fun i => f (a1 i)) (fun i => f (a2 i)) (fun i => f (a3 i)) (fun i => f (a4 i))
        (fun i => f (a5 i)) (fun i => f (a6 i))) concatenates_S8192_S2048_S2048_S16_S8192_S8192_S2048_S30736_d0
      = fun j => f (concatenate S30736 0 (flat a0 a1 a2 a3 a4 a5 a6) concatenates_S8192_S2048_S2048_S16_S8192_S8192_S2048_S30736_d0 j) :=
    concatenate_each f S30736 0 (flat a0 a1 a2 a3 a4 a5 a6) _ _
  unfold packed
  rw [e]
  exact congrArg (fun x => shapeCast S248x128 x shapeCasts_S31744_S248x128)
    (pad_each (s := S30736) f ![0] ![1008] ![0] _ v v' hv pads_S30736_S31744_010080 h_S_)

/-- The padding of the packed arrays. -/
abbrev zero : S_.Idx → Ideal .f32 := sitofp .f32 (constantI S_ 32 0#32)

theorem zero_eq (i : S_.Idx) : zero i = (0 : EReal) := by
  show (((0#32 : BitVec 32).toInt : ℝ) : EReal) = 0
  simp

variable (m : (ℓ : Loc nD τ sig) → Buf (Elt Ideal) ℓ) (c : Dev nD)

/-- The weights as the kernel finds them. -/
theorem host_w : V m c main_v8 = (packed zero
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : FVec Ideal S248x128 .f32) := by
  simp only [V, hostOps0, hostOps0_1, hostOps0_2, hostOps0_3, hostOps0_4, hostOps0_5, hostOps0_6, hostOps0_7, hostOps0_8, List.flatten_cons,
    List.flatten_nil, List.append_nil, List.cons_append, List.nil_append, TRef.binary, TRef.nullary, TRef.ternary, TRef.unary, TRef.toBuf,
    TRef.ofBuf, cast_eq]
  after_results_simp <;> rfl

/-- The gradients as the kernel finds them. -/
theorem host_g : V m c main_v17 = (packed zero
    (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) : FVec Ideal S248x128 .f32) := by
  simp only [V, hostOps0, hostOps0_1, hostOps0_2, hostOps0_3, hostOps0_4, hostOps0_5, hostOps0_6, hostOps0_7, hostOps0_8, List.flatten_cons,
    List.flatten_nil, List.append_nil, List.cons_append, List.nil_append, TRef.binary, TRef.nullary, TRef.ternary, TRef.unary, TRef.toBuf,
    TRef.ofBuf, cast_eq]
  after_results_simp <;> rfl

/-- The first moments as the kernel finds them. -/
theorem host_m : V m c main_v26 = (packed zero
    (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) : FVec Ideal S248x128 .f32) := by
  simp only [V, hostOps0, hostOps0_1, hostOps0_2, hostOps0_3, hostOps0_4, hostOps0_5, hostOps0_6, hostOps0_7, hostOps0_8, List.flatten_cons,
    List.flatten_nil, List.append_nil, List.cons_append, List.nil_append, TRef.binary, TRef.nullary, TRef.ternary, TRef.unary, TRef.toBuf,
    TRef.ofBuf, cast_eq]
  after_results_simp <;> rfl

/-- The second moments as the kernel finds them. -/
theorem host_v : V m c main_v35 = (packed zero
    (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) : FVec Ideal S248x128 .f32) := by
  simp only [V, hostOps0, hostOps0_1, hostOps0_2, hostOps0_3, hostOps0_4, hostOps0_5, hostOps0_6, hostOps0_7, hostOps0_8, List.flatten_cons,
    List.flatten_nil, List.append_nil, List.cons_append, List.nil_append, TRef.binary, TRef.nullary, TRef.ternary, TRef.unary, TRef.toBuf,
    TRef.ofBuf, cast_eq]
  after_results_simp <;> rfl

/-- The array of the first moments. -/
theorem array_first : (dats m 0 c).arrAt 5 cfg0.N = fun i => first (V m c main_v17 i) (V m c main_v26 i) :=
  (dats m 0 c).arrAt_eq_of_covers 5 _ (by decide +kernel) fun t _ _ =>
    (congrFun ((after0_5 m c t).trans ((View.canon_unit_zero (by decide) _ _).trans
      (line_first (View.ld_unit_zero (by decide) _ _) (View.ld_unit_zero (by decide) _ _)))) _).trans rfl

/-- The array of the second moments. -/
theorem array_second : (dats m 0 c).arrAt 6 cfg0.N = fun i => second (V m c main_v17 i) (V m c main_v35 i) :=
  (dats m 0 c).arrAt_eq_of_covers 6 _ (by decide +kernel) fun t _ _ =>
    (congrFun ((after0_6 m c t).trans ((View.canon_unit_zero (by decide) _ _).trans
      (line_second (View.ld_unit_zero (by decide) _ _) (View.ld_unit_zero (by decide) _ _)))) _).trans rfl

/-- The array of the changes. -/
theorem array_step : (dats m 0 c).arrAt 4 cfg0.N =
    fun i => step (V m c main_v8 i) (V m c main_v17 i) (V m c main_v26 i) (V m c main_v35 i) :=
  (dats m 0 c).arrAt_eq_of_covers 4 _ (by decide +kernel) fun t _ _ =>
    (congrFun ((after0_4 m c t).trans ((View.canon_unit_zero (by decide) _ _).trans
      (line_step (View.ld_unit_zero (by decide) _ _)
        (line_first (View.ld_unit_zero (by decide) _ _) (View.ld_unit_zero (by decide) _ _))
        (line_second (View.ld_unit_zero (by decide) _ _) (View.ld_unit_zero (by decide) _ _))))) _).trans rfl

/-- An entry's weight, gradient and two moments. -/
structure Entry where
  w : Ideal .f32
  g : Ideal .f32
  m : Ideal .f32
  v : Ideal .f32

/-- Four arrays as one array of entries. -/
abbrev entries {s : Shape} (w g m v : s.Idx → Ideal .f32) : s.Idx → Entry := fun i => ⟨w i, g i, m i, v i⟩

section
variable (w0 g0 m0 v0 : S4x2048.Idx → Ideal .f32) (w1 g1 m1 v1 w2 g2 m2 v2 : S4x512.Idx → Ideal .f32) (w3 g3 m3 v3 : S4x4.Idx → Ideal .f32)
  (w4 g4 m4 v4 w5 g5 m5 v5 : S4x2048.Idx → Ideal .f32) (w6 g6 m6 v6 : S2048.Idx → Ideal .f32)

/-- What a function that keeps zeros makes of the four packed arrays, entry by entry, is what it makes of the weights' arrays, packed. -/
theorem packed_entries (f : Entry → Ideal .f32) (hf : f ⟨(0 : EReal), (0 : EReal), (0 : EReal), (0 : EReal)⟩ = (0 : EReal)) :
    packed zero (fun i => f (entries w0 g0 m0 v0 i)) (fun i => f (entries w1 g1 m1 v1 i)) (fun i => f (entries w2 g2 m2 v2 i))
        (fun i => f (entries w3 g3 m3 v3 i)) (fun i => f (entries w4 g4 m4 v4 i)) (fun i => f (entries w5 g5 m5 v5 i)) (fun i => f (entries w6 g6 m6 v6 i))
      = fun i => f (entries (packed zero w0 w1 w2 w3 w4 w5 w6) (packed zero g0 g1 g2 g3 g4 g5 g6) (packed zero m0 m1 m2 m3 m4 m5 m6)
        (packed zero v0 v1 v2 v3 v4 v5 v6) i) := by
  have each (f : Entry → Ideal .f32) (hf : f ⟨(0 : EReal), (0 : EReal), (0 : EReal), (0 : EReal)⟩ = (0 : EReal)) :=
    packed_each f (entries zero zero zero zero) zero (fun i => (zero_eq i).trans (hf.symm.trans (by rw [entries, zero_eq]))) (entries w0 g0 m0 v0) (entries w1 g1 m1 v1) (entries w2 g2 m2 v2)
      (entries w3 g3 m3 v3) (entries w4 g4 m4 v4) (entries w5 g5 m5 v5) (entries w6 g6 m6 v6)
  refine (each f hf).trans (funext fun i => congrArg f ?_)
  have ew := congrFun (each Entry.w rfl) i
  have eg := congrFun (each Entry.g rfl) i
  have em := congrFun (each Entry.m rfl) i
  have ev := congrFun (each Entry.v rfl) i
  dsimp only [entries] at ew eg em ev ⊢
  rw [ew, eg, em, ev]

end

/-- The kernel and its reference leave the same changes and the same moments, and both keep their arguments. -/
theorem equation : Cert.algebraic_AdamSmallIdeal_AdamSmallRefIdeal (hAdamSmallIdeal := Cert.AdamSmallIdeal.Gen.facts)
    (hAdamSmallRefIdeal := Cert.AdamSmallRefIdeal.Gen.facts) := by
  intro m g m' g' _ hargs
  refine ⟨fun c => (dats m 0 c).arrAt 4 cfg0.N, fun c => (dats m 0 c).arrAt 5 cfg0.N, fun c => (dats m 0 c).arrAt 6 cfg0.N, run_blocks m g, ?_⟩
  refine (θ_run _ _ _).mono (fun r h c => ?_) (Cert.AdamSmallRefIdeal.Value.run m' g')
  obtain ⟨e0, e1, e2, e3, e4, e5, e6, e7, e8, e9, e10, e11, e12, e13, e14, e15, e16, e17, e18, e19, e20, e21, e22, e23, e24, e25, e26, e27⟩ := hargs c
  obtain ⟨r0, r1, r2, rest⟩ := h c
  have all (f : Entry → Ideal .f32) (hf : f ⟨(0 : EReal), (0 : EReal), (0 : EReal), (0 : EReal)⟩ = (0 : EReal)) :=
    packed_entries (m ((c : Thread nD τ).loc main_arg0)) (m ((c : Thread nD τ).loc main_arg7)) (m ((c : Thread nD τ).loc main_arg14)) (m ((c : Thread nD τ).loc main_arg21))
      (m ((c : Thread nD τ).loc main_arg1)) (m ((c : Thread nD τ).loc main_arg8)) (m ((c : Thread nD τ).loc main_arg15)) (m ((c : Thread nD τ).loc main_arg22))
      (m ((c : Thread nD τ).loc main_arg2)) (m ((c : Thread nD τ).loc main_arg9)) (m ((c : Thread nD τ).loc main_arg16)) (m ((c : Thread nD τ).loc main_arg23))
      (m ((c : Thread nD τ).loc main_arg3)) (m ((c : Thread nD τ).loc main_arg10)) (m ((c : Thread nD τ).loc main_arg17)) (m ((c : Thread nD τ).loc main_arg24))
      (m ((c : Thread nD τ).loc main_arg4)) (m ((c : Thread nD τ).loc main_arg11)) (m ((c : Thread nD τ).loc main_arg18)) (m ((c : Thread nD τ).loc main_arg25))
      (m ((c : Thread nD τ).loc main_arg5)) (m ((c : Thread nD τ).loc main_arg12)) (m ((c : Thread nD τ).loc main_arg19)) (m ((c : Thread nD τ).loc main_arg26))
      (m ((c : Thread nD τ).loc main_arg6)) (m ((c : Thread nD τ).loc main_arg13)) (m ((c : Thread nD τ).loc main_arg20)) (m ((c : Thread nD τ).loc main_arg27)) f hf
  refine ⟨r0.trans (Eq.trans ?_ (array_step m c).symm), r1.trans (Eq.trans ?_ (array_first m c).symm), r2.trans (Eq.trans ?_ (array_second m c).symm), rest⟩
  · rw [host_w, host_g, host_m, host_v]
    refine Eq.trans ?_ (all (fun e => step e.w e.g e.m e.v) step_zero)
    simp only [← e0, ← e1, ← e2, ← e3, ← e4, ← e5, ← e6, ← e7, ← e8, ← e9, ← e10, ← e11, ← e12, ← e13, ← e14, ← e15, ← e16, ← e17, ← e18, ← e19, ← e20, ← e21, ← e22, ← e23, ← e24, ← e25, ← e26, ← e27]
    rfl
  · rw [host_g, host_m]
    refine Eq.trans ?_ (all (fun e => first e.g e.m) first_zero)
    simp only [← e7, ← e8, ← e9, ← e10, ← e11, ← e12, ← e13, ← e14, ← e15, ← e16, ← e17, ← e18, ← e19, ← e20]
    rfl
  · rw [host_g, host_v]
    refine Eq.trans ?_ (all (fun e => second e.g e.v) second_zero)
    simp only [← e7, ← e8, ← e9, ← e10, ← e11, ← e12, ← e13, ← e21, ← e22, ← e23, ← e24, ← e25, ← e26, ← e27]
    rfl

end Cert.AdamSmallEq
-- ==== Proof.Slots.lean ====
/- The sum of the eight devices' slots of one entry. -/
module

public import Idealize.ShloMosaic.Lib.Pipeline.ValueKit

@[expose] public section

noncomputable section

namespace Cert.Slots

open Idealize.ShloMosaic

/-- The sum of an entry's eight slots. -/
def total {φ : FTy} (f : Fin 8 → Ideal φ) : Ideal .f32 := (∑ k : Fin 8, (f k : EReal) : EReal)

/-- Eight terms added one after the other are their sum. -/
theorem eight {φ : FTy} {f : Fin 8 → Ideal φ} {a0 a1 a2 a3 a4 a5 a6 a7 : Ideal .f32} (h0 : (a0 : EReal) = f 0) (h1 : (a1 : EReal) = f 1)
    (h2 : (a2 : EReal) = f 2) (h3 : (a3 : EReal) = f 3) (h4 : (a4 : EReal) = f 4) (h5 : (a5 : EReal) = f 5) (h6 : (a6 : EReal) = f 6)
    (h7 : (a7 : EReal) = f 7) :
    FloatOps.addf (FloatOps.addf (FloatOps.addf (FloatOps.addf (FloatOps.addf (FloatOps.addf (FloatOps.addf a0 a1) a2) a3) a4) a5) a6) a7
      = total f := by
  show ((a0 + a1 + a2 + a3 + a4 + a5 + a6 + a7 : EReal)) = ∑ k : Fin 8, (f k : EReal)
  rw [Fin.sum_univ_eight, h0, h1, h2, h3, h4, h5, h6, h7]

/-- A sum that starts at the word of zero is the sum. -/
theorem of_reference {φ : FTy} (f : Fin 8 → Ideal φ) (z : EReal) (hz : z = Ideal.ofBits .f32 0x00000000#32) :
    z + (∑ k : Fin 8, (f k : EReal)) = total f := by
  rw [hz, Ideal.ofBits_zero_f32, zero_add]; rfl

end Cert.Slots
-- ==== Proof.SumIn.lean ====
/- The sum of the eight devices' gradients of the mixers' input weights: the kernel's array is what the reference computes. -/
module

public import proofs.«01_k».proof.Defs
public import proofs.«01_k».proof.Proof.Gen.SumInIdeal.Value
public import proofs.«01_k».proof.Proof.Gen.SumInRefIdeal.Run
public import proofs.«01_k».proof.Proof.Gen.SumInRefIdeal.Read
public import proofs.«01_k».proof.Proof.Slots

@[expose] public section

-- the windows' indices are checked over the whole grid
set_option maxRecDepth 16384

noncomputable section

namespace Cert.SumInEq

open Cert.SumInIdeal Cert.SumInIdeal.Gen Cert.SumInIdeal.Value Idealize.ShloMosaic Idealize.ShloMosaic.TcCoe Idealize.SL.Sem Cert.Slots

variable (m : (ℓ : Loc nD τ sig) → Buf (Elt Ideal) ℓ) (c : Dev nD)

/-- The array is the sum over the slots. -/
theorem array : (dats m 0 c).arrAt 1 cfg0.N
    = fun i => total (φ := .bf16) fun k => V m c main_arg0 (Cert.SumInRefIdeal.Read.idx_main_v1 i k) :=
  (dats m 0 c).arrAt_eq_of_covers 1 _ (by decide +kernel) fun t _ x => by
    refine (congrFun (after0_1 m c t) _).trans ((canon1_eq _ _ _ _ _ _ _ _ _).trans ?_)
    refine eight ?_ ?_ ?_ ?_ ?_ ?_ ?_ ?_
    all_goals
      refine congrArg (V m c main_arg0) (funext fun a => Fin.ext ?_)
      match a with
      | ⟨0, _⟩ => rfl
      | ⟨1, _⟩ =>
        show win0_0.index t (1 : Fin 3) * 128 + 1 * (0 + 1 * (x 0).val) = win0_1.index t (0 : Fin 2) * 128 + 1 * (x 0).val
        rw [show win0_0.index t (1 : Fin 3) = win0_1.index t (0 : Fin 2) from rfl]; omega
      | ⟨2, _⟩ =>
        show win0_0.index t (2 : Fin 3) * 1536 + 1 * (0 + 1 * (x 1).val) = win0_1.index t (1 : Fin 2) * 1536 + 1 * (x 1).val
        rw [show win0_0.index t (2 : Fin 3) = win0_1.index t (1 : Fin 2) from rfl]; omega

/-- The kernel and its reference leave the same sums, and both keep their argument. -/
theorem equation : Cert.algebraic_SumInIdeal_SumInRefIdeal (hSumInIdeal := Cert.SumInIdeal.Gen.facts)
    (hSumInRefIdeal := Cert.SumInRefIdeal.Gen.facts) := by
  intro m g m' g' _ hargs
  refine ⟨fun c => (dats m 0 c).arrAt 1 cfg0.N, run_blocks m g, ?_⟩
  refine (θ_run _ _ _).mono (fun r h c => ?_) (Cert.SumInRefIdeal.Value.run m' g')
  obtain ⟨r0, rest⟩ := h c
  refine ⟨r0.trans (Eq.trans ?_ (array m c).symm), rest⟩
  rw [hargs c]
  refine (Cert.SumInRefIdeal.Read.val_main_v1_eq _).trans (funext fun i => ?_)
  exact (Cert.SumInRefIdeal.Read.val_main_v1_apply _ i).trans (of_reference _ _ rfl)

end Cert.SumInEq
-- ==== Proof.SumUq.lean ====
/- The sum of the eight devices' gradients of the mixers' query weights, which are as large as those of their key and value weights: the kernel's array is what the reference computes. -/
module

public import proofs.«01_k».proof.Defs
public import proofs.«01_k».proof.Proof.Gen.SumUqIdeal.Value
public import proofs.«01_k».proof.Proof.Gen.SumUqRefIdeal.Run
public import proofs.«01_k».proof.Proof.Gen.SumUqRefIdeal.Read
public import proofs.«01_k».proof.Proof.Slots

@[expose] public section

-- the windows' indices are checked over the whole grid
set_option maxRecDepth 16384

noncomputable section

namespace Cert.SumUqEq

open Cert.SumUqIdeal Cert.SumUqIdeal.Gen Cert.SumUqIdeal.Value Idealize.ShloMosaic Idealize.ShloMosaic.TcCoe Idealize.SL.Sem Cert.Slots

variable (m : (ℓ : Loc nD τ sig) → Buf (Elt Ideal) ℓ) (c : Dev nD)

/-- The array is the sum over the slots. -/
theorem array : (dats m 0 c).arrAt 1 cfg0.N
    = fun i => total (φ := .bf16) fun k => V m c main_arg0 (Cert.SumUqRefIdeal.Read.idx_main_v1 i k) :=
  (dats m 0 c).arrAt_eq_of_covers 1 _ (by decide +kernel) fun t _ x => by
    refine (congrFun (after0_1 m c t) _).trans ((canon1_eq _ _ _ _ _ _ _ _ _).trans ?_)
    refine eight ?_ ?_ ?_ ?_ ?_ ?_ ?_ ?_
    all_goals
      refine congrArg (V m c main_arg0) (funext fun a => Fin.ext ?_)
      match a with
      | ⟨0, _⟩ => rfl
      | ⟨1, _⟩ =>
        show win0_0.index t (1 : Fin 3) * 256 + 1 * (0 + 1 * (x 0).val) = win0_1.index t (0 : Fin 2) * 256 + 1 * (x 0).val
        rw [show win0_0.index t (1 : Fin 3) = win0_1.index t (0 : Fin 2) from rfl]; omega
      | ⟨2, _⟩ =>
        show win0_0.index t (2 : Fin 3) * 256 + 1 * (0 + 1 * (x 1).val) = win0_1.index t (1 : Fin 2) * 256 + 1 * (x 1).val
        rw [show win0_0.index t (2 : Fin 3) = win0_1.index t (1 : Fin 2) from rfl]; omega

/-- The kernel and its reference leave the same sums, and both keep their argument. -/
theorem equation : Cert.algebraic_SumUqIdeal_SumUqRefIdeal (hSumUqIdeal := Cert.SumUqIdeal.Gen.facts)
    (hSumUqRefIdeal := Cert.SumUqRefIdeal.Gen.facts) := by
  intro m g m' g' _ hargs
  refine ⟨fun c => (dats m 0 c).arrAt 1 cfg0.N, run_blocks m g, ?_⟩
  refine (θ_run _ _ _).mono (fun r h c => ?_) (Cert.SumUqRefIdeal.Value.run m' g')
  obtain ⟨r0, rest⟩ := h c
  refine ⟨r0.trans (Eq.trans ?_ (array m c).symm), rest⟩
  rw [hargs c]
  refine (Cert.SumUqRefIdeal.Read.val_main_v1_eq _).trans (funext fun i => ?_)
  exact (Cert.SumUqRefIdeal.Read.val_main_v1_apply _ i).trans (of_reference _ _ rfl)

end Cert.SumUqEq
-- ==== Proof.SumOut.lean ====
/- The sum of the eight devices' gradients of the mixers' output weights: the kernel's array is what the reference computes. -/
module

public import proofs.«01_k».proof.Defs
public import proofs.«01_k».proof.Proof.Gen.SumOutIdeal.Value
public import proofs.«01_k».proof.Proof.Gen.SumOutRefIdeal.Run
public import proofs.«01_k».proof.Proof.Gen.SumOutRefIdeal.Read
public import proofs.«01_k».proof.Proof.Slots

@[expose] public section

-- the windows' indices are checked over the whole grid
set_option maxRecDepth 16384

noncomputable section

namespace Cert.SumOutEq

open Cert.SumOutIdeal Cert.SumOutIdeal.Gen Cert.SumOutIdeal.Value Idealize.ShloMosaic Idealize.ShloMosaic.TcCoe Idealize.SL.Sem Cert.Slots

variable (m : (ℓ : Loc nD τ sig) → Buf (Elt Ideal) ℓ) (c : Dev nD)

/-- The array is the sum over the slots. -/
theorem array : (dats m 0 c).arrAt 1 cfg0.N
    = fun i => total (φ := .bf16) fun k => V m c main_arg0 (Cert.SumOutRefIdeal.Read.idx_main_v1 i k) :=
  (dats m 0 c).arrAt_eq_of_covers 1 _ (by decide +kernel) fun t _ x => by
    refine (congrFun (after0_1 m c t) _).trans ((canon1_eq _ _ _ _ _ _ _ _ _).trans ?_)
    refine eight ?_ ?_ ?_ ?_ ?_ ?_ ?_ ?_
    all_goals
      refine congrArg (V m c main_arg0) (funext fun a => Fin.ext ?_)
      match a with
      | ⟨0, _⟩ => rfl
      | ⟨1, _⟩ =>
        show win0_0.index t (1 : Fin 3) * 128 + 1 * (0 + 1 * (x 0).val) = win0_1.index t (0 : Fin 2) * 128 + 1 * (x 0).val
        rw [show win0_0.index t (1 : Fin 3) = win0_1.index t (0 : Fin 2) from rfl]; omega
      | ⟨2, _⟩ =>
        show win0_0.index t (2 : Fin 3) * 2048 + 1 * (0 + 1 * (x 1).val) = win0_1.index t (1 : Fin 2) * 2048 + 1 * (x 1).val
        rw [show win0_0.index t (2 : Fin 3) = win0_1.index t (1 : Fin 2) from rfl]; omega

/-- The kernel and its reference leave the same sums, and both keep their argument. -/
theorem equation : Cert.algebraic_SumOutIdeal_SumOutRefIdeal (hSumOutIdeal := Cert.SumOutIdeal.Gen.facts)
    (hSumOutRefIdeal := Cert.SumOutRefIdeal.Gen.facts) := by
  intro m g m' g' _ hargs
  refine ⟨fun c => (dats m 0 c).arrAt 1 cfg0.N, run_blocks m g, ?_⟩
  refine (θ_run _ _ _).mono (fun r h c => ?_) (Cert.SumOutRefIdeal.Value.run m' g')
  obtain ⟨r0, rest⟩ := h c
  refine ⟨r0.trans (Eq.trans ?_ (array m c).symm), rest⟩
  rw [hargs c]
  refine (Cert.SumOutRefIdeal.Read.val_main_v1_eq _).trans (funext fun i => ?_)
  exact (Cert.SumOutRefIdeal.Read.val_main_v1_apply _ i).trans (of_reference _ _ rfl)

end Cert.SumOutEq
-- ==== Proof.SumGate.lean ====
/- The sum of the eight devices' gradients of the gate's weights: the kernel's array is what the reference computes. -/
module

public import proofs.«01_k».proof.Defs
public import proofs.«01_k».proof.Proof.Gen.SumGateIdeal.Value
public import proofs.«01_k».proof.Proof.Gen.SumGateRefIdeal.Run
public import proofs.«01_k».proof.Proof.Gen.SumGateRefIdeal.Read
public import proofs.«01_k».proof.Proof.Slots

@[expose] public section

-- the windows' indices are checked over the whole grid
set_option maxRecDepth 16384

noncomputable section

namespace Cert.SumGateEq

open Cert.SumGateIdeal Cert.SumGateIdeal.Gen Cert.SumGateIdeal.Value Idealize.ShloMosaic Idealize.ShloMosaic.TcCoe Idealize.SL.Sem Cert.Slots

variable (m : (ℓ : Loc nD τ sig) → Buf (Elt Ideal) ℓ) (c : Dev nD)

/-- The array is the sum over the slots. -/
theorem array : (dats m 0 c).arrAt 1 cfg0.N
    = fun i => total (φ := .bf16) fun k => V m c main_arg0 (Cert.SumGateRefIdeal.Read.idx_main_v1 i k) :=
  (dats m 0 c).arrAt_eq_of_covers 1 _ (by decide +kernel) fun t _ x => by
    refine (congrFun (after0_1 m c t) _).trans ((canon1_eq _ _ _ _ _ _ _ _ _).trans ?_)
    refine eight ?_ ?_ ?_ ?_ ?_ ?_ ?_ ?_
    all_goals
      refine congrArg (V m c main_arg0) (funext fun a => Fin.ext ?_)
      match a with
      | ⟨0, _⟩ => rfl
      | ⟨1, _⟩ =>
        show win0_0.index t (1 : Fin 3) * 128 + 1 * (0 + 1 * (x 0).val) = win0_1.index t (0 : Fin 2) * 128 + 1 * (x 0).val
        rw [show win0_0.index t (1 : Fin 3) = win0_1.index t (0 : Fin 2) from rfl]; omega
      | ⟨2, _⟩ =>
        show win0_0.index t (2 : Fin 3) * 1408 + 1 * (0 + 1 * (x 1).val) = win0_1.index t (1 : Fin 2) * 1408 + 1 * (x 1).val
        rw [show win0_0.index t (2 : Fin 3) = win0_1.index t (1 : Fin 2) from rfl]; omega

/-- The kernel and its reference leave the same sums, and both keep their argument. -/
theorem equation : Cert.algebraic_SumGateIdeal_SumGateRefIdeal (hSumGateIdeal := Cert.SumGateIdeal.Gen.facts)
    (hSumGateRefIdeal := Cert.SumGateRefIdeal.Gen.facts) := by
  intro m g m' g' _ hargs
  refine ⟨fun c => (dats m 0 c).arrAt 1 cfg0.N, run_blocks m g, ?_⟩
  refine (θ_run _ _ _).mono (fun r h c => ?_) (Cert.SumGateRefIdeal.Value.run m' g')
  obtain ⟨r0, rest⟩ := h c
  refine ⟨r0.trans (Eq.trans ?_ (array m c).symm), rest⟩
  rw [hargs c]
  refine (Cert.SumGateRefIdeal.Read.val_main_v1_eq _).trans (funext fun i => ?_)
  exact (Cert.SumGateRefIdeal.Read.val_main_v1_apply _ i).trans (of_reference _ _ rfl)

end Cert.SumGateEq
-- ==== Proof.SumDown.lean ====
/- The sum of the eight devices' gradients of the last product's weights: the kernel's array is what the reference computes. -/
module

public import proofs.«01_k».proof.Defs
public import proofs.«01_k».proof.Proof.Gen.SumDownIdeal.Value
public import proofs.«01_k».proof.Proof.Gen.SumDownRefIdeal.Run
public import proofs.«01_k».proof.Proof.Gen.SumDownRefIdeal.Read
public import proofs.«01_k».proof.Proof.Slots

@[expose] public section

-- the windows' indices are checked over the whole grid
set_option maxRecDepth 16384

noncomputable section

namespace Cert.SumDownEq

open Cert.SumDownIdeal Cert.SumDownIdeal.Gen Cert.SumDownIdeal.Value Idealize.ShloMosaic Idealize.ShloMosaic.TcCoe Idealize.SL.Sem Cert.Slots

variable (m : (ℓ : Loc nD τ sig) → Buf (Elt Ideal) ℓ) (c : Dev nD)

/-- The array is the sum over the slots. -/
theorem array : (dats m 0 c).arrAt 1 cfg0.N
    = fun i => total (φ := .bf16) fun k => V m c main_arg0 (Cert.SumDownRefIdeal.Read.idx_main_v1 i k) :=
  (dats m 0 c).arrAt_eq_of_covers 1 _ (by decide +kernel) fun t _ x => by
    refine (congrFun (after0_1 m c t) _).trans ((canon1_eq _ _ _ _ _ _ _ _ _).trans ?_)
    refine eight ?_ ?_ ?_ ?_ ?_ ?_ ?_ ?_
    all_goals
      refine congrArg (V m c main_arg0) (funext fun a => Fin.ext ?_)
      match a with
      | ⟨0, _⟩ => rfl
      | ⟨1, _⟩ =>
        show win0_0.index t (1 : Fin 3) * 64 + 1 * (0 + 1 * (x 0).val) = win0_1.index t (0 : Fin 2) * 64 + 1 * (x 0).val
        rw [show win0_0.index t (1 : Fin 3) = win0_1.index t (0 : Fin 2) from rfl]; omega
      | ⟨2, _⟩ =>
        show win0_0.index t (2 : Fin 3) * 2048 + 1 * (0 + 1 * (x 1).val) = win0_1.index t (1 : Fin 2) * 2048 + 1 * (x 1).val
        rw [show win0_0.index t (2 : Fin 3) = win0_1.index t (1 : Fin 2) from rfl]; omega

/-- The kernel and its reference leave the same sums, and both keep their argument. -/
theorem equation : Cert.algebraic_SumDownIdeal_SumDownRefIdeal (hSumDownIdeal := Cert.SumDownIdeal.Gen.facts)
    (hSumDownRefIdeal := Cert.SumDownRefIdeal.Gen.facts) := by
  intro m g m' g' _ hargs
  refine ⟨fun c => (dats m 0 c).arrAt 1 cfg0.N, run_blocks m g, ?_⟩
  refine (θ_run _ _ _).mono (fun r h c => ?_) (Cert.SumDownRefIdeal.Value.run m' g')
  obtain ⟨r0, rest⟩ := h c
  refine ⟨r0.trans (Eq.trans ?_ (array m c).symm), rest⟩
  rw [hargs c]
  refine (Cert.SumDownRefIdeal.Read.val_main_v1_eq _).trans (funext fun i => ?_)
  exact (Cert.SumDownRefIdeal.Read.val_main_v1_apply _ i).trans (of_reference _ _ rfl)

end Cert.SumDownEq
-- ==== Proof.SumSmall.lean ====
/- The sum of the eight devices' gradients of the small weights, packed in one array: the kernel's array is what the reference computes. -/
module

public import proofs.«01_k».proof.Defs
public import proofs.«01_k».proof.Proof.Gen.SumSmallIdeal.Value
public import proofs.«01_k».proof.Proof.Gen.SumSmallRefIdeal.Run
public import proofs.«01_k».proof.Proof.Gen.SumSmallRefIdeal.Read
public import proofs.«01_k».proof.Proof.Slots

@[expose] public section

-- the windows' indices are checked over the whole grid
set_option maxRecDepth 16384

noncomputable section

namespace Cert.SumSmallEq

open Cert.SumSmallIdeal Cert.SumSmallIdeal.Gen Cert.SumSmallIdeal.Value Idealize.ShloMosaic Idealize.ShloMosaic.TcCoe Idealize.SL.Sem Cert.Slots

variable (m : (ℓ : Loc nD τ sig) → Buf (Elt Ideal) ℓ) (c : Dev nD)

/-- The array is the sum over the slots. -/
theorem array : (dats m 0 c).arrAt 1 cfg0.N
    = fun i => total (φ := .f32) fun k => V m c main_arg0 (Cert.SumSmallRefIdeal.Read.idx_main_v0 i k) :=
  (dats m 0 c).arrAt_eq_of_covers 1 _ (by decide +kernel) fun t _ x => by
    refine (congrFun (after0_1 m c t) _).trans ((canon1_eq _ _ _ _ _ _ _ _ _).trans ?_)
    refine eight ?_ ?_ ?_ ?_ ?_ ?_ ?_ ?_
    all_goals
      refine congrArg (V m c main_arg0) (funext fun a => Fin.ext ?_)
      match a with
      | ⟨0, _⟩ => rfl
      | ⟨1, _⟩ =>
        show win0_0.index t (1 : Fin 3) * 248 + 1 * (0 + 1 * (x 0).val) = win0_1.index t (0 : Fin 2) * 248 + 1 * (x 0).val
        rw [show win0_0.index t (1 : Fin 3) = win0_1.index t (0 : Fin 2) from rfl]; omega
      | ⟨2, _⟩ =>
        show win0_0.index t (2 : Fin 3) * 128 + 1 * (0 + 1 * (x 1).val) = win0_1.index t (1 : Fin 2) * 128 + 1 * (x 1).val
        rw [show win0_0.index t (2 : Fin 3) = win0_1.index t (1 : Fin 2) from rfl]; omega

/-- The kernel and its reference leave the same sums, and both keep their argument. -/
theorem equation : Cert.algebraic_SumSmallIdeal_SumSmallRefIdeal (hSumSmallIdeal := Cert.SumSmallIdeal.Gen.facts)
    (hSumSmallRefIdeal := Cert.SumSmallRefIdeal.Gen.facts) := by
  intro m g m' g' _ hargs
  refine ⟨fun c => (dats m 0 c).arrAt 1 cfg0.N, run_blocks m g, ?_⟩
  refine (θ_run _ _ _).mono (fun r h c => ?_) (Cert.SumSmallRefIdeal.Value.run m' g')
  obtain ⟨r0, rest⟩ := h c
  refine ⟨r0.trans (Eq.trans ?_ (array m c).symm), rest⟩
  rw [hargs c]
  refine (Cert.SumSmallRefIdeal.Read.val_main_v0_eq _).trans (funext fun i => ?_)
  exact (Cert.SumSmallRefIdeal.Read.val_main_v0_apply _ i).trans (of_reference _ _ rfl)

end Cert.SumSmallEq
-- ==== Proof.Prod.lean ====
/- Matrices and stacks of matrices given by their elements, and what the matrix products of the programs do to them at the
   ideal instance. Nothing is assumed of the elements: they may be infinite. -/
module

public import Idealize.ShloMosaic.PureOps
public import Idealize.ShloMosaic.Lib.ValueIdx
public import Idealize.ShloMosaic.Lib.MatmulPlain
public import Idealize.ShloMosaic.Lib.Pipeline.Value
public import proofs.«01_k».proof.Proof.RealArr

@[expose] public section

noncomputable section

namespace Cert.Prod

open Idealize.ShloMosaic Idealize.ShloMosaic.ValueIdx
open scoped BigOperators

/-- The matrix whose element `(i, j)` is `f i j`. -/
def mat {n0 n1 : ℕ} {φ : FTy} (f : ℕ → ℕ → EReal) : FVec Ideal ⟨2, ![n0, n1]⟩ φ :=
  fun i => f (i 0).val (i 1).val

/-- The stack of matrices whose element `(i, j, k)` is `f i j k`. -/
def stack {n0 n1 n2 : ℕ} {φ : FTy} (f : ℕ → ℕ → ℕ → EReal) : FVec Ideal ⟨3, ![n0, n1, n2]⟩ φ :=
  fun i => f (i 0).val (i 1).val (i 2).val

/-- Every matrix is given by its elements. -/
theorem exists_mat {n0 n1 : ℕ} {φ : FTy} (x : FVec Ideal ⟨2, ![n0, n1]⟩ φ) : ∃ f, x = mat f := by
  refine ⟨fun i j => if h : i < n0 ∧ j < n1 then x (ix2 ⟨i, h.1⟩ ⟨j, h.2⟩) else 0, funext fun y => ?_⟩
  have h : (y 0).val < n0 ∧ (y 1).val < n1 := ⟨(y 0).isLt, (y 1).isLt⟩
  unfold mat
  dsimp only
  rw [dif_pos h]
  exact congrArg x (eq_ix2 y)

/-- Every stack is given by its elements. -/
theorem exists_stack {n0 n1 n2 : ℕ} {φ : FTy} (x : FVec Ideal ⟨3, ![n0, n1, n2]⟩ φ) : ∃ f, x = stack f := by
  refine ⟨fun i j k => if h : i < n0 ∧ j < n1 ∧ k < n2 then x (ix3 ⟨i, h.1⟩ ⟨j, h.2.1⟩ ⟨k, h.2.2⟩) else 0, funext fun y => ?_⟩
  have h : (y 0).val < n0 ∧ (y 1).val < n1 ∧ (y 2).val < n2 := ⟨(y 0).isLt, (y 1).isLt, (y 2).isLt⟩
  unfold stack
  dsimp only
  rw [dif_pos h]
  exact congrArg x (eq_ix3 y)

/-! ## The three products of matrices given by their elements -/

/-- The product of `f` and `g`, `K` terms each. -/
def mul (K : ℕ) (f g : ℕ → ℕ → EReal) : ℕ → ℕ → EReal := fun i j => ∑ k ∈ Finset.range K, f i k * g k j

/-- The product of `f` and `g` transposed. -/
def mulT (K : ℕ) (f g : ℕ → ℕ → EReal) : ℕ → ℕ → EReal := fun i j => ∑ k ∈ Finset.range K, f i k * g j k

/-- The product of `f` transposed and `g`. -/
def tMul (K : ℕ) (f g : ℕ → ℕ → EReal) : ℕ → ℕ → EReal := fun i j => ∑ k ∈ Finset.range K, f k i * g k j

/-- The part of a matrix that begins at row `a` and column `b`. -/
def part (a b : ℕ) (f : ℕ → ℕ → EReal) : ℕ → ℕ → EReal := fun i j => f (a + i) (b + j)

/-- The part of a stack that begins at matrix `a`, row `b` and column `d`. -/
def part3 (a b d : ℕ) (f : ℕ → ℕ → ℕ → EReal) : ℕ → ℕ → ℕ → EReal := fun i j k => f (a + i) (b + j) (d + k)

/-! ## A sum over a contracted axis, for each of the three arrangements of the axes -/

section Sums
variable {M K N : ℕ}

theorem sum_nn (f g : ℕ → ℕ → EReal) (j : (⟨2, ![M, N]⟩ : Shape).Idx) :
    ∑ k : (DotDims.plain M K N).contr.Idx, f ((DotDims.plain M K N).lhsIdx j k 0).val ((DotDims.plain M K N).lhsIdx j k 1).val
        * g ((DotDims.plain M K N).rhsIdx j k 0).val ((DotDims.plain M K N).rhsIdx j k 1).val
      = mul K f g (j 0).val (j 1).val := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Eq.trans ?_ (Finset.sum_range (fun k => f (j 0).val k * g k (j 1).val)).symm
  refine Finset.sum_congr rfl fun k _ => ?_
  have hk := contrEquiv1_symm_val _ K hr hs k
  have e1 : ((DotDims.plain M K N).lhsIdx j ((contrEquiv1 _ K hr hs).symm k) 1).val = k.val := hk
  have e2 : ((DotDims.plain M K N).rhsIdx j ((contrEquiv1 _ K hr hs).symm k) 0).val = k.val := hk
  have e3 : ((DotDims.plain M K N).lhsIdx j ((contrEquiv1 _ K hr hs).symm k) 0).val = (j 0).val := rfl
  have e4 : ((DotDims.plain M K N).rhsIdx j ((contrEquiv1 _ K hr hs).symm k) 1).val = (j 1).val := rfl
  rw [e1, e2, e3, e4]

theorem sum_nt (f g : ℕ → ℕ → EReal) (j : (⟨2, ![M, N]⟩ : Shape).Idx) :
    ∑ k : (DotDims.transposedRhs M K N).contr.Idx,
        f ((DotDims.transposedRhs M K N).lhsIdx j k 0).val ((DotDims.transposedRhs M K N).lhsIdx j k 1).val
        * g ((DotDims.transposedRhs M K N).rhsIdx j k 0).val ((DotDims.transposedRhs M K N).rhsIdx j k 1).val
      = mulT K f g (j 0).val (j 1).val := by
  have hr : (DotDims.transposedRhs M K N).contr.rank = 1 := rfl
  have hs : (DotDims.transposedRhs M K N).contr.size ⟨0, by omega⟩ = K := rfl
  rw [← Equiv.sum_comp (contrEquiv1 (DotDims.transposedRhs M K N) K hr hs).symm]
  refine Eq.trans ?_ (Finset.sum_range (fun k => f (j 0).val k * g (j 1).val k)).symm
  refine Finset.sum_congr rfl fun k _ => ?_
  have hk := contrEquiv1_symm_val _ K hr hs k
  have e1 : ((DotDims.transposedRhs M K N).lhsIdx j ((contrEquiv1 _ K hr hs).symm k) 1).val = k.val := hk
  have e2 : ((DotDims.transposedRhs M K N).rhsIdx j ((contrEquiv1 _ K hr hs).symm k) 1).val = k.val := hk
  have e3 : ((DotDims.transposedRhs M K N).lhsIdx j ((contrEquiv1 _ K hr hs).symm k) 0).val = (j 0).val := rfl
  have e4 : ((DotDims.transposedRhs M K N).rhsIdx j ((contrEquiv1 _ K hr hs).symm k) 0).val = (j 1).val := rfl
  rw [e1, e2, e3, e4]

theorem sum_tn (f g : ℕ → ℕ → EReal) (j : (⟨2, ![M, N]⟩ : Shape).Idx) :
    ∑ k : (RealArr.firstAxes K M N).contr.Idx,
        f ((RealArr.firstAxes K M N).lhsIdx j k 0).val ((RealArr.firstAxes K M N).lhsIdx j k 1).val
        * g ((RealArr.firstAxes K M N).rhsIdx j k 0).val ((RealArr.firstAxes K M N).rhsIdx j k 1).val
      = tMul K f g (j 0).val (j 1).val := by
  have hr : (RealArr.firstAxes K M N).contr.rank = 1 := rfl
  have hs : (RealArr.firstAxes K M N).contr.size ⟨0, by omega⟩ = K := rfl
  rw [← Equiv.sum_comp (contrEquiv1 (RealArr.firstAxes K M N) K hr hs).symm]
  refine Eq.trans ?_ (Finset.sum_range (fun k => f k (j 0).val * g k (j 1).val)).symm
  refine Finset.sum_congr rfl fun k _ => ?_
  have hk := contrEquiv1_symm_val _ K hr hs k
  have e1 : ((RealArr.firstAxes K M N).lhsIdx j ((contrEquiv1 _ K hr hs).symm k) 0).val = k.val := hk
  have e2 : ((RealArr.firstAxes K M N).rhsIdx j ((contrEquiv1 _ K hr hs).symm k) 0).val = k.val := hk
  have e3 : ((RealArr.firstAxes K M N).lhsIdx j ((contrEquiv1 _ K hr hs).symm k) 1).val = (j 0).val := rfl
  have e4 : ((RealArr.firstAxes K M N).rhsIdx j ((contrEquiv1 _ K hr hs).symm k) 1).val = (j 1).val := rfl
  rw [e1, e2, e3, e4]

end Sums

/-! ## Weights gathered from four devices -/

/-- The whole matrix of a stack of column blocks of width `p`. -/
def wide (p : ℕ) (W : ℕ → ℕ → ℕ → EReal) : ℕ → ℕ → EReal := fun k n => W (n / p) k (n % p)

/-- The four blocks' sums make the whole row's sum. -/
theorem sum_blocks (p : ℕ) (hp : 0 < p) (c : ℕ → EReal) (W : ℕ → ℕ → ℕ → EReal) (k : ℕ) :
    ((((∑ n ∈ Finset.range p, c (0 + n) * W 0 k n) + ∑ n ∈ Finset.range p, c (p + n) * W 1 k n)
        + ∑ n ∈ Finset.range p, c (2 * p + n) * W 2 k n) + ∑ n ∈ Finset.range p, c (3 * p + n) * W 3 k n)
      = ∑ n ∈ Finset.range (4 * p), c n * wide p W k n := by
  have e : ∀ j n, n < p → wide p W k (j * p + n) = W j k n := fun j n hn => by
    unfold wide
    rw [Nat.add_comm, Nat.add_mul_div_right _ _ hp, Nat.add_mul_mod_self_right, Nat.div_eq_of_lt hn, Nat.mod_eq_of_lt hn, Nat.zero_add]
  have s : ∀ j, ∑ n ∈ Finset.range p, c (j * p + n) * wide p W k (j * p + n) = ∑ n ∈ Finset.range p, c (j * p + n) * W j k n :=
    fun j => Finset.sum_congr rfl fun n hn => by rw [e j n (Finset.mem_range.1 hn)]
  have h4 : 4 * p = ((p + p) + p) + p := by omega
  rw [h4, Finset.sum_range_add, Finset.sum_range_add, Finset.sum_range_add]
  have s0 := s 0
  have s1 := s 1
  have s2 := s 2
  have s3 := s 3
  rw [Nat.zero_mul] at s0
  rw [Nat.one_mul] at s1
  have p2 : p + p = 2 * p := by omega
  have p3 : p + p + p = 3 * p := by omega
  rw [p2, ← p2, p3, p2, s1, s2, s3, ← s0]
  simp only [Nat.zero_add]

/-- A block of the whole matrix that lies in one device's columns. -/
theorem mul_wide {p : ℕ} (K : ℕ) (A : ℕ → ℕ → EReal) (W : ℕ → ℕ → ℕ → EReal) (r b i j : ℕ) (hj : j < p) :
    mul K (part r 0 A) (part3 b 0 0 W 0) i j = mul K A (wide p W) (r + i) (b * p + j) := by
  have hp : 0 < p := by omega
  unfold mul part part3 wide
  refine Finset.sum_congr rfl fun k _ => ?_
  rw [Nat.add_comm (b * p) j, Nat.add_mul_div_right _ _ hp, Nat.add_mul_mod_self_right, Nat.div_eq_of_lt hj, Nat.mod_eq_of_lt hj]
  simp only [Nat.zero_add, Nat.add_zero]

/-- A block of a product takes its own rows and columns. -/
theorem mul_part (K : ℕ) (A W : ℕ → ℕ → EReal) (r b i j : ℕ) : mul K (part r 0 A) (part 0 b W) i j = mul K A W (r + i) (b + j) := by
  unfold mul part
  simp only [Nat.zero_add]

/-- The same of a product with transposed weights. -/
theorem mulT_part (K : ℕ) (D W : ℕ → ℕ → EReal) (r b i j : ℕ) : mulT K (part r 0 D) (part b 0 W) i j = mulT K D W (r + i) (b + j) := by
  unfold mulT part
  simp only [Nat.zero_add]

/-- The same of a product with the transposed gathered weights. -/
theorem mulT_wide (K p : ℕ) (D : ℕ → ℕ → EReal) (W : ℕ → ℕ → ℕ → EReal) (r b i j : ℕ) :
    mulT K (part r 0 D) (wide p (part3 0 b 0 W)) i j = mulT K D (wide p W) (r + i) (b + j) := by
  unfold mulT part wide part3
  simp only [Nat.zero_add]

/-- The same of transposed rows times a cotangent. -/
theorem tMul_part (K : ℕ) (A D : ℕ → ℕ → EReal) (r b i j : ℕ) : tMul K (part 0 r A) (part 0 b D) i j = tMul K A D (r + i) (b + j) := by
  unfold tMul part
  simp only [Nat.zero_add]

/-! ## What a kernel's block is

The bodies load whole buffers, or one device's part of them, multiply into a zero accumulator, and store the whole block. -/

section Blocks
variable {M K N p q : ℕ} {φ₁ φ₂ φ : FTy}

theorem zero_apply {s : Shape} (j : s.Idx) : (constant s .f32 0x00000000#32 : FVec Ideal s .f32) j = 0 :=
  Ideal.ofBits_zero_f32

/-- One matrix of a stack, as a matrix. -/
theorem dropUnit_stack (f : ℕ → ℕ → ℕ → EReal) (h : (⟨3, ![1, M, N]⟩ : Shape).ShapeCasts ⟨2, ![M, N]⟩) :
    shapeCast ⟨2, ![M, N]⟩ (stack f : FVec Ideal ⟨3, ![1, M, N]⟩ φ) h = (mat (f 0) : FVec Ideal ⟨2, ![M, N]⟩ φ) :=
  funext fun y => shapeCast_dropUnit_apply ![M, N] _ h y

/-- A matrix as a stack of one. -/
theorem addUnit_mat (f : ℕ → ℕ → EReal) (h : (⟨2, ![M, N]⟩ : Shape).ShapeCasts ⟨3, ![1, M, N]⟩) :
    shapeCast ⟨3, ![1, M, N]⟩ (mat f : FVec Ideal ⟨2, ![M, N]⟩ φ) h = (stack (fun _ => f) : FVec Ideal ⟨3, ![1, M, N]⟩ φ) :=
  funext fun y => shapeCast_addUnit_apply ![M, N] _ h y

/-- `[M,K] × [K,N]`. -/
theorem matmul_nn (f g : ℕ → ℕ → EReal) (prec : Option ContractPrecision) :
    matmul (DotDims.plain M K N) prec (mat f : FVec Ideal ⟨2, ![M, K]⟩ φ₁) (mat g : FVec Ideal ⟨2, ![K, N]⟩ φ₂)
        (constant ⟨2, ![M, N]⟩ .f32 0x00000000#32) = mat (mul K f g) :=
  funext fun j => (Ideal.matmul_apply _ _ _ _ _ _).trans ((congrArg (· + _) (zero_apply _)).trans ((zero_add _).trans (sum_nn f g j)))

/-- `[M,K] × [N,K]ᵀ`. -/
theorem matmul_nt (f g : ℕ → ℕ → EReal) (prec : Option ContractPrecision) :
    matmul (DotDims.transposedRhs M K N) prec (mat f : FVec Ideal ⟨2, ![M, K]⟩ φ₁) (mat g : FVec Ideal ⟨2, ![N, K]⟩ φ₂)
        (constant ⟨2, ![M, N]⟩ .f32 0x00000000#32) = mat (mulT K f g) :=
  funext fun j => (Ideal.matmul_apply _ _ _ _ _ _).trans ((congrArg (· + _) (zero_apply _)).trans ((zero_add _).trans (sum_nt f g j)))

/-- `[K,M]ᵀ × [K,N]`. -/
theorem matmul_tn (f g : ℕ → ℕ → EReal) (prec : Option ContractPrecision) :
    matmul (RealArr.firstAxes K M N) prec (mat f : FVec Ideal ⟨2, ![K, M]⟩ φ₁) (mat g : FVec Ideal ⟨2, ![K, N]⟩ φ₂)
        (constant ⟨2, ![M, N]⟩ .f32 0x00000000#32) = mat (tMul K f g) :=
  funext fun j => (Ideal.matmul_apply _ _ _ _ _ _).trans ((congrArg (· + _) (zero_apply _)).trans ((zero_add _).trans (sum_tn f g j)))

/-- Rows times one device's columns of the weights. -/
theorem block_nn1 (f : ℕ → ℕ → EReal) (g : ℕ → ℕ → ℕ → EReal) (prec : Option ContractPrecision)
    (h : (⟨3, ![1, K, N]⟩ : Shape).ShapeCasts ⟨2, ![K, N]⟩) :
    matmul (DotDims.plain M K N) prec (mat f : FVec Ideal ⟨2, ![M, K]⟩ φ₁)
        (shapeCast ⟨2, ![K, N]⟩ (stack g : FVec Ideal ⟨3, ![1, K, N]⟩ φ₂) h) (constant ⟨2, ![M, N]⟩ .f32 0x00000000#32)
      = mat (mul K f (g 0)) :=
  (congrArg (matmul _ prec _ · _) (dropUnit_stack g h)).trans (matmul_nn f (g 0) prec)

/-- The transposed rows times a cotangent, stored as one matrix of the stack. -/
theorem block_tn1 (f g : ℕ → ℕ → EReal) (prec : Option ContractPrecision) (hb : FTy.bf16.bits < FTy.f32.bits)
    (h : (⟨2, ![M, N]⟩ : Shape).ShapeCasts ⟨3, ![1, M, N]⟩) :
    shapeCast ⟨3, ![1, M, N]⟩ (truncf .bf16 (matmul (RealArr.firstAxes K M N) prec (mat f : FVec Ideal ⟨2, ![K, M]⟩ φ₁)
        (mat g : FVec Ideal ⟨2, ![K, N]⟩ φ₂) (constant ⟨2, ![M, N]⟩ .f32 0x00000000#32)) hb) h
      = (stack (fun _ => tMul K f g) : FVec Ideal ⟨3, ![1, M, N]⟩ .bf16) :=
  (congrArg (fun b => shapeCast ⟨3, ![1, M, N]⟩ (truncf .bf16 b hb) h) (matmul_tn f g prec)).trans (addUnit_mat (φ := .bf16) (tMul K f g) h)

/-- Columns `b, b + 1, …` of the rows, times the transposed weights of device `a`. -/
theorem block_nt1 (f : ℕ → ℕ → EReal) (g : ℕ → ℕ → ℕ → EReal) (a b : ℕ) (prec : Option ContractPrecision)
    (inbf : ∀ x, (![0, b] : Fin 2 → ℕ) x + (![M, p] : Fin 2 → ℕ) x ≤ (⟨2, ![M, q]⟩ : Shape).size x)
    (inbg : ∀ x, (![a, 0, 0] : Fin 3 → ℕ) x + (![1, N, p] : Fin 3 → ℕ) x ≤ (⟨3, ![4, N, p]⟩ : Shape).size x)
    (h : (⟨3, ![1, N, p]⟩ : Shape).ShapeCasts ⟨2, ![N, p]⟩) :
    matmul (φ₁ := .bf16) (φ₂ := .bf16) (DotDims.transposedRhs M p N) prec
        (View.ld (S := ⟨2, ![M, q]⟩) (Val := Elt Ideal) (e' := .bf16) (mat f : FVec Ideal ⟨2, ![M, q]⟩ .bf16)
          (Rect.unit (s := ⟨2, ![M, q]⟩) ![0, b] ![M, p] inbf) : FVec Ideal ⟨2, ![M, p]⟩ .bf16)
        (shapeCast (α := Ideal .bf16) ⟨2, ![N, p]⟩ (View.ld (S := ⟨3, ![4, N, p]⟩) (Val := Elt Ideal) (e' := .bf16) (stack g : FVec Ideal ⟨3, ![4, N, p]⟩ .bf16)
          (Rect.unit (s := ⟨3, ![4, N, p]⟩) ![a, 0, 0] ![1, N, p] inbg) : FVec Ideal ⟨3, ![1, N, p]⟩ .bf16) h)
        (constant ⟨2, ![M, N]⟩ .f32 0x00000000#32)
      = mat (fun i k => ∑ n ∈ Finset.range p, f i (b + n) * g a k n) := by
  have ef : (View.ld (S := ⟨2, ![M, q]⟩) (Val := Elt Ideal) (e' := .bf16) (mat f : FVec Ideal ⟨2, ![M, q]⟩ .bf16)
      (Rect.unit (s := ⟨2, ![M, q]⟩) ![0, b] ![M, p] inbf) : FVec Ideal ⟨2, ![M, p]⟩ .bf16) = mat (φ := .bf16) (part 0 b f) := by
    funext x
    show f (0 + 1 * (x 0).val) (b + 1 * (x 1).val) = f (0 + (x 0).val) (b + (x 1).val)
    rw [Nat.one_mul, Nat.one_mul]
  have eg : (View.ld (S := ⟨3, ![4, N, p]⟩) (Val := Elt Ideal) (e' := .bf16) (stack g : FVec Ideal ⟨3, ![4, N, p]⟩ .bf16)
      (Rect.unit (s := ⟨3, ![4, N, p]⟩) ![a, 0, 0] ![1, N, p] inbg) : FVec Ideal ⟨3, ![1, N, p]⟩ .bf16) = stack (φ := .bf16) (part3 a 0 0 g) := by
    funext x
    show g (a + 1 * (x 0).val) (0 + 1 * (x 1).val) (0 + 1 * (x 2).val) = g (a + (x 0).val) (0 + (x 1).val) (0 + (x 2).val)
    rw [Nat.one_mul, Nat.one_mul, Nat.one_mul]
  rw [ef, eg]
  refine (congrArg (matmul (φ₁ := .bf16) (φ₂ := .bf16) _ prec _ · _) (dropUnit_stack (φ := .bf16) _ h)).trans ?_
  refine (matmul_nt (φ₁ := .bf16) (φ₂ := .bf16) _ _ prec).trans ?_
  unfold mulT part part3
  simp only [Nat.zero_add, Nat.add_zero]

/-- The four devices' parts, added, are the product with the whole transposed weights. -/
theorem sum_parts (hp : 0 < p) (hq : 4 * p = q) (f : ℕ → ℕ → EReal) (g : ℕ → ℕ → ℕ → EReal) (x0 x1 x2 x3 : FVec Ideal ⟨2, ![M, N]⟩ .f32)
    (h0 : x0 = mat (fun i k => ∑ n ∈ Finset.range p, f i (0 + n) * g 0 k n))
    (h1 : x1 = mat (fun i k => ∑ n ∈ Finset.range p, f i (p + n) * g 1 k n))
    (h2 : x2 = mat (fun i k => ∑ n ∈ Finset.range p, f i (2 * p + n) * g 2 k n))
    (h3 : x3 = mat (fun i k => ∑ n ∈ Finset.range p, f i (3 * p + n) * g 3 k n)) :
    addf (addf (addf x0 x1) x2) x3 = mat (mulT q f (wide p g)) := by
  subst h0 h1 h2 h3 hq
  funext y
  exact sum_blocks p hp (fun n => f (y 0).val n) g (y 1).val

end Blocks

/-! ## What a reference's lines are -/

section References
variable {M K N p q : ℕ} {φ₁ φ₂ φ ψ : FTy}

theorem dot_nn (f g : ℕ → ℕ → EReal) (prec : Option ContractPrecision) :
    Host.dotGeneral (DotDims.plain M K N) prec (mat f : FVec Ideal ⟨2, ![M, K]⟩ φ₁) (mat g : FVec Ideal ⟨2, ![K, N]⟩ φ₂)
      = (mat (mul K f g) : FVec Ideal ⟨2, ![M, N]⟩ .f32) :=
  funext fun j => (Ideal.dotGeneral_apply (DotDims.plain M K N) prec .single (mat (φ := φ₁) f) (mat (φ := φ₂) g) j).trans (sum_nn f g j)

theorem dot_nt (f g : ℕ → ℕ → EReal) (prec : Option ContractPrecision) :
    Host.dotGeneral (DotDims.transposedRhs M K N) prec (mat f : FVec Ideal ⟨2, ![M, K]⟩ φ₁) (mat g : FVec Ideal ⟨2, ![N, K]⟩ φ₂)
      = (mat (mulT K f g) : FVec Ideal ⟨2, ![M, N]⟩ .f32) :=
  funext fun j => (Ideal.dotGeneral_apply (DotDims.transposedRhs M K N) prec .single (mat (φ := φ₁) f) (mat (φ := φ₂) g) j).trans (sum_nt f g j)

theorem dot_tn (f g : ℕ → ℕ → EReal) (prec : Option ContractPrecision) :
    Host.dotGeneral (RealArr.firstAxes K M N) prec (mat f : FVec Ideal ⟨2, ![K, M]⟩ φ₁) (mat g : FVec Ideal ⟨2, ![K, N]⟩ φ₂)
      = (mat (tMul K f g) : FVec Ideal ⟨2, ![M, N]⟩ .f32) :=
  funext fun j => (Ideal.dotGeneral_apply (RealArr.firstAxes K M N) prec .single (mat (φ := φ₁) f) (mat (φ := φ₂) g) j).trans (sum_tn f g j)

theorem transpose_mat (f : ℕ → ℕ → EReal) (h : (⟨2, ![M, N]⟩ : Shape).Transposes [1, 0] ⟨2, ![N, M]⟩) :
    transpose ⟨2, ![N, M]⟩ [1, 0] (mat f : FVec Ideal ⟨2, ![M, N]⟩ φ) h = mat (fun i j => f j i) :=
  funext fun y => transpose_apply [1, 0] _ h y (ix2 (y 1) (y 0)) (fun b => match b with
    | ⟨0, _⟩ => rfl
    | ⟨1, _⟩ => rfl)

theorem transpose_stack (f : ℕ → ℕ → ℕ → EReal) (h : (⟨3, ![M, N, p]⟩ : Shape).Transposes [1, 0, 2] ⟨3, ![N, M, p]⟩) :
    transpose ⟨3, ![N, M, p]⟩ [1, 0, 2] (stack f : FVec Ideal ⟨3, ![M, N, p]⟩ φ) h = stack (fun i j k => f j i k) :=
  funext fun y => transpose_apply [1, 0, 2] _ h y (ix3 (y 1) (y 0) (y 2)) (fun b => match b with
    | ⟨0, _⟩ => rfl
    | ⟨1, _⟩ => rfl
    | ⟨2, _⟩ => rfl)

/-- The devices' columns side by side: the whole matrix. -/
theorem columns (hp : 0 < p) (hq : 4 * p = q) (W : ℕ → ℕ → ℕ → EReal)
    (ht : (⟨3, ![4, K, p]⟩ : Shape).Transposes [1, 0, 2] ⟨3, ![K, 4, p]⟩) (hc : (⟨3, ![K, 4, p]⟩ : Shape).ShapeCasts ⟨2, ![K, q]⟩) :
    shapeCast ⟨2, ![K, q]⟩ (transpose ⟨3, ![K, 4, p]⟩ [1, 0, 2] (stack W : FVec Ideal ⟨3, ![4, K, p]⟩ φ) ht) hc = mat (wide p W) := by
  subst hq
  rw [transpose_stack]
  funext y
  have h1 : (y 1).val < 4 * p := (y 1).isLt
  have hd : (y 1).val / p < 4 := (Nat.div_lt_iff_lt_mul hp).2 h1
  refine shapeCast_apply _ hc y (ix3 (y 0) ⟨(y 1).val / p, hd⟩ ⟨(y 1).val % p, Nat.mod_lt _ hp⟩) ?_
  rewrite [Shape.rowMajor_val_three, Shape.rowMajor_val_two]
  show ((y 0).val * 4 + (y 1).val / p) * p + (y 1).val % p = (y 0).val * (4 * p) + (y 1).val
  rw [Nat.add_mul, Nat.mul_assoc, Nat.add_assoc, Nat.div_add_mod']

/-- The whole matrix cut into the devices' columns. -/
theorem uncolumns (hp : 0 < p) (hq : 4 * p = q) (f : ℕ → ℕ → EReal)
    (hc : (⟨2, ![K, q]⟩ : Shape).ShapeCasts ⟨3, ![K, 4, p]⟩) (ht : (⟨3, ![K, 4, p]⟩ : Shape).Transposes [1, 0, 2] ⟨3, ![4, K, p]⟩) :
    transpose ⟨3, ![4, K, p]⟩ [1, 0, 2] (shapeCast ⟨3, ![K, 4, p]⟩ (mat f : FVec Ideal ⟨2, ![K, q]⟩ φ) hc) ht
      = stack (fun j k n => f k (j * p + n)) := by
  subst hq
  have e : shapeCast ⟨3, ![K, 4, p]⟩ (mat f : FVec Ideal ⟨2, ![K, 4 * p]⟩ φ) hc = stack (fun k j n => f k (j * p + n)) := by
    funext y
    have h1 : (y 1).val < 4 := (y 1).isLt
    have h2 : (y 2).val < p := (y 2).isLt
    have hd : (y 1).val * p + (y 2).val < 4 * p := by nlinarith
    refine shapeCast_apply _ hc y (ix2 (y 0) ⟨(y 1).val * p + (y 2).val, hd⟩) ?_
    rewrite [Shape.rowMajor_val_three, Shape.rowMajor_val_two]
    show (y 0).val * (4 * p) + ((y 1).val * p + (y 2).val) = ((y 0).val * 4 + (y 1).val) * p + (y 2).val
    rw [Nat.add_mul, Nat.mul_assoc, Nat.add_assoc]
  rw [e, transpose_stack]

/-- A product added to rows. -/
theorem ref_add (A W X : ℕ → ℕ → EReal) (hA : φ₁.bits < FTy.f32.bits) (hW : φ₂.bits < FTy.f32.bits) :
    addf (mat X : FVec Ideal ⟨2, ![M, N]⟩ .f32) (Host.dotGeneral (DotDims.plain M K N) none
        (extf .f32 (mat A : FVec Ideal ⟨2, ![M, K]⟩ φ₁) hA) (extf .f32 (mat W : FVec Ideal ⟨2, ![K, N]⟩ φ₂) hW))
      = (mat (fun i j => mul K A W i j + X i j) : FVec Ideal ⟨2, ![M, N]⟩ .f32) :=
  (congrArg (addf (mat X : FVec Ideal ⟨2, ![M, N]⟩ .f32)) (dot_nn (φ₁ := .f32) (φ₂ := .f32) A W none)).trans
    (funext fun y => add_comm (X (y 0).val (y 1).val) (mul K A W (y 0).val (y 1).val))

/-- Rows times the gathered weights. -/
theorem ref_nn (hp : 0 < p) (hq : 4 * p = q) (A : ℕ → ℕ → EReal) (W : ℕ → ℕ → ℕ → EReal) (hA : φ₁.bits < FTy.f32.bits) (hW : φ₂.bits < FTy.f32.bits)
    (ht : (⟨3, ![4, K, p]⟩ : Shape).Transposes [1, 0, 2] ⟨3, ![K, 4, p]⟩) (hc : (⟨3, ![K, 4, p]⟩ : Shape).ShapeCasts ⟨2, ![K, q]⟩) :
    Host.dotGeneral (DotDims.plain M K q) none (extf .f32 (mat A : FVec Ideal ⟨2, ![M, K]⟩ φ₁) hA)
        (shapeCast ⟨2, ![K, q]⟩ (transpose ⟨3, ![K, 4, p]⟩ [1, 0, 2] (extf .f32 (stack W : FVec Ideal ⟨3, ![4, K, p]⟩ φ₂) hW) ht) hc)
      = (mat (mul K A (wide p W)) : FVec Ideal ⟨2, ![M, q]⟩ .f32) :=
  (congrArg (Host.dotGeneral (DotDims.plain M K q) none (mat A : FVec Ideal ⟨2, ![M, K]⟩ .f32)) (columns hp hq W ht hc)).trans
    (dot_nn A (wide p W) none)

/-- The cotangent times the gathered weights transposed. -/
theorem ref_nt (hp : 0 < p) (hq : 4 * p = q) (D : ℕ → ℕ → EReal) (W : ℕ → ℕ → ℕ → EReal) (hD : φ₁.bits < FTy.f32.bits) (hW : φ₂.bits < FTy.f32.bits)
    (ht : (⟨3, ![4, K, p]⟩ : Shape).Transposes [1, 0, 2] ⟨3, ![K, 4, p]⟩) (hc : (⟨3, ![K, 4, p]⟩ : Shape).ShapeCasts ⟨2, ![K, q]⟩) :
    Host.dotGeneral (DotDims.transposedRhs M q K) none (extf .f32 (mat D : FVec Ideal ⟨2, ![M, q]⟩ φ₁) hD)
        (shapeCast ⟨2, ![K, q]⟩ (transpose ⟨3, ![K, 4, p]⟩ [1, 0, 2] (extf .f32 (stack W : FVec Ideal ⟨3, ![4, K, p]⟩ φ₂) hW) ht) hc)
      = (mat (mulT q D (wide p W)) : FVec Ideal ⟨2, ![M, K]⟩ .f32) :=
  (congrArg (Host.dotGeneral (DotDims.transposedRhs M q K) none (mat D : FVec Ideal ⟨2, ![M, q]⟩ .f32)) (columns hp hq W ht hc)).trans
    (dot_nt D (wide p W) none)

/-- The cotangent transposed times the rows, transposed: the gradient of the weights, the factors in the other order. -/
theorem ref_tn (A D : ℕ → ℕ → EReal) (h : (⟨2, ![N, M]⟩ : Shape).Transposes [1, 0] ⟨2, ![M, N]⟩) :
    transpose ⟨2, ![M, N]⟩ [1, 0] (Host.dotGeneral (RealArr.firstAxes K N M) none (mat D : FVec Ideal ⟨2, ![K, N]⟩ φ₁)
        (mat A : FVec Ideal ⟨2, ![K, M]⟩ φ₂)) h
      = (mat (tMul K A D) : FVec Ideal ⟨2, ![M, N]⟩ .f32) := by
  rw [dot_tn, transpose_mat]
  unfold tMul
  simp only [mul_comm]

/-- The same, cut into the devices' columns. -/
theorem ref_tn_stack (hp : 0 < p) (hq : 4 * p = q) (A D : ℕ → ℕ → EReal) (hA : φ₁.bits < FTy.f32.bits) (hD : φ₂.bits < FTy.f32.bits)
    (h : (⟨2, ![q, M]⟩ : Shape).Transposes [1, 0] ⟨2, ![M, q]⟩)
    (hc : (⟨2, ![M, q]⟩ : Shape).ShapeCasts ⟨3, ![M, 4, p]⟩) (ht : (⟨3, ![M, 4, p]⟩ : Shape).Transposes [1, 0, 2] ⟨3, ![4, M, p]⟩) :
    transpose ⟨3, ![4, M, p]⟩ [1, 0, 2] (shapeCast ⟨3, ![M, 4, p]⟩ (transpose ⟨2, ![M, q]⟩ [1, 0]
        (Host.dotGeneral (RealArr.firstAxes K q M) none (extf .f32 (mat D : FVec Ideal ⟨2, ![K, q]⟩ φ₂) hD)
          (extf .f32 (mat A : FVec Ideal ⟨2, ![K, M]⟩ φ₁) hA)) h) hc) ht
      = (stack (fun j k n => tMul K A D k (j * p + n)) : FVec Ideal ⟨3, ![4, M, p]⟩ .f32) :=
  (congrArg (fun x => transpose ⟨3, ![4, M, p]⟩ [1, 0, 2] (shapeCast ⟨3, ![M, 4, p]⟩ x hc) ht)
    (ref_tn (φ₁ := .f32) (φ₂ := .f32) A D h)).trans (uncolumns hp hq _ hc ht)

end References

end Cert.Prod

end
-- ==== Proof.Rms.lean ====
/- The root-mean-square norm on arrays given by their elements: what the vector operations of its kernels do at the ideal
   instance, and that the kernels' form of its gradient is the one differentiation writes. Nothing is assumed of the elements:
   they may be infinite. -/
module

public import proofs.«01_k».proof.Proof.Prod

@[expose] public section

noncomputable section

namespace Cert.Rms

open Idealize.ShloMosaic Idealize.ShloMosaic.ValueIdx Cert.Prod
open scoped BigOperators

/-- The vector whose element `i` is `f i`. -/
def vec {n0 : ℕ} {φ : FTy} (f : ℕ → EReal) : FVec Ideal ⟨1, ![n0]⟩ φ := fun i => f (i 0).val

/-- Every vector is given by its elements. -/
theorem exists_vec {n0 : ℕ} {φ : FTy} (x : FVec Ideal ⟨1, ![n0]⟩ φ) : ∃ f, x = vec f := by
  refine ⟨fun i => if h : i < n0 then x (ix1 ⟨i, h⟩) else 0, funext fun y => ?_⟩
  unfold vec
  dsimp only
  rw [dif_pos (show (y 0).val < n0 from (y 0).isLt)]
  exact congrArg x (eq_ix1 y)

/-! ## The vector operations -/

section Elementwise
variable {M N : ℕ} {φ ψ : FTy} (f g : ℕ → ℕ → EReal)

theorem mulf_mat : mulf (mat f : FVec Ideal ⟨2, ![M, N]⟩ φ) (mat g) = mat (fun i j => f i j * g i j) := rfl
theorem addf_mat : addf (mat f : FVec Ideal ⟨2, ![M, N]⟩ φ) (mat g) = mat (fun i j => f i j + g i j) := rfl
theorem subf_mat : subf (mat f : FVec Ideal ⟨2, ![M, N]⟩ φ) (mat g) = mat (fun i j => f i j - g i j) := rfl
theorem divf_mat : divf (mat f : FVec Ideal ⟨2, ![M, N]⟩ φ) (mat g) = mat (fun i j => Ideal.div (f i j) (g i j)) := rfl
theorem rsqrt_mat : Idealize.ShloMosaic.rsqrt (mat f : FVec Ideal ⟨2, ![M, N]⟩ φ) = mat (fun i j => Ideal.rsqrt (f i j)) := rfl
theorem extf_mat (h : FTy.bits φ < FTy.bits ψ) : extf ψ (mat f : FVec Ideal ⟨2, ![M, N]⟩ φ) h = mat f := rfl
theorem broadcast_mat (b : BitVec (FTy.bits φ)) :
    (broadcast ⟨2, ![M, N]⟩ (Scalar.ofBits (F := Ideal) φ b) : FVec Ideal ⟨2, ![M, N]⟩ φ) = mat (fun _ _ => Ideal.ofBits φ b) := rfl
theorem cast_mat (h : (⟨2, ![M, N]⟩ : Shape).ShapeCasts ⟨2, ![M, N]⟩) :
    shapeCast ⟨2, ![M, N]⟩ (mat f : FVec Ideal ⟨2, ![M, N]⟩ φ) h = mat f := shapeCast_self _ _

/-- A column broadcast along the rows. -/
theorem column_mat (h : Shape.Broadcasts ⟨2, ![M, 1]⟩ ⟨2, ![M, N]⟩) (h0 : M ≠ 1) :
    broadcastTo ⟨2, ![M, N]⟩ (mat f : FVec Ideal ⟨2, ![M, 1]⟩ φ) h = mat (fun i _ => f i 0) := by
  funext j
  rw [broadcastTo_apply _ h j (ix2 (j 0) 0) (by
    intro a
    match a with
    | ⟨0, _⟩ => simp [h0]
    | ⟨1, _⟩ => simp)]
  rfl

/-- A row broadcast along the columns. -/
theorem row_mat (h : Shape.Broadcasts ⟨2, ![1, N]⟩ ⟨2, ![M, N]⟩) (h0 : N ≠ 1) :
    broadcastTo ⟨2, ![M, N]⟩ (mat f : FVec Ideal ⟨2, ![1, N]⟩ φ) h = mat (fun _ j => f 0 j) := by
  funext j
  rw [broadcastTo_apply _ h j (ix2 0 (j 1)) (by
    intro a
    match a with
    | ⟨0, _⟩ => simp
    | ⟨1, _⟩ => simp [h0])]
  rfl

/-- The sums of the rows of a matrix. -/
theorem rowSum_mat (acc : BitVec (FTy.bits .f32)) (h : Shape.Reduces ⟨2, ![M, N]⟩ [1] ⟨1, ![M]⟩)
    (hφ : FKind.Formats .f32) (hacc : acc = FKind.add.neutral .f32 hφ) :
    multiReduction .add [1] ⟨1, ![M]⟩ (mat f : FVec Ideal ⟨2, ![M, N]⟩ .f32) acc h hφ hacc = vec (fun i => ∑ j ∈ Finset.range N, f i j) := by
  funext j
  rw [Ideal.multiReduction_add_single]
  exact Eq.trans (Finset.sum_congr rfl fun k _ => rfl) (Finset.sum_range fun k => f (j 0).val k).symm

/-- The sums of the columns of a matrix. -/
theorem colSum_mat (acc : BitVec (FTy.bits .f32)) (h : Shape.Reduces ⟨2, ![M, N]⟩ [0] ⟨1, ![N]⟩)
    (hφ : FKind.Formats .f32) (hacc : acc = FKind.add.neutral .f32 hφ) :
    multiReduction .add [0] ⟨1, ![N]⟩ (mat f : FVec Ideal ⟨2, ![M, N]⟩ .f32) acc h hφ hacc = vec (fun j => ∑ i ∈ Finset.range M, f i j) := by
  funext j
  rw [Ideal.multiReduction_add_single]
  exact Eq.trans (Finset.sum_congr rfl fun k _ => rfl) (Finset.sum_range fun k => f k (j 0).val).symm

/-- A vector as a column. -/
theorem column_vec (v : ℕ → EReal) (h : Shape.ShapeCasts ⟨1, ![M]⟩ ⟨2, ![M, 1]⟩) :
    shapeCast ⟨2, ![M, 1]⟩ (vec v : FVec Ideal ⟨1, ![M]⟩ φ) h = mat (fun i _ => v i) := by
  funext j
  rw [shapeCast_apply _ h j (ix1 (j 0)) (by
    have h1 : (j 1).val = 0 := by have := idx2_lt1 j; omega
    rw [Shape.rowMajor_val_one, Shape.rowMajor_val_two, h1]; simp; rfl)]
  rfl

/-- A vector as a row. -/
theorem row_vec (v : ℕ → EReal) (h : Shape.ShapeCasts ⟨1, ![N]⟩ ⟨2, ![1, N]⟩) :
    shapeCast ⟨2, ![1, N]⟩ (vec v : FVec Ideal ⟨1, ![N]⟩ φ) h = mat (fun _ j => v j) := by
  funext j
  rw [shapeCast_apply _ h j (ix1 (j 1)) (by
    have h1 : (j 0).val = 0 := by have := idx2_lt0 j; omega
    rw [Shape.rowMajor_val_one, Shape.rowMajor_val_two, h1]; simp; rfl)]
  rfl

end Elementwise

/-- The sum of all elements of a vector. -/
theorem sum_vec {N : ℕ} (f : ℕ → EReal) : ∑ y : (⟨1, ![N]⟩ : Shape).Idx, f (y 0).val = ∑ i ∈ Finset.range N, f i := by
  refine Eq.trans ?_ (Finset.sum_range f).symm
  exact Fintype.sum_equiv ⟨fun y => y 0, fun k => ix1 (n := N) k, fun y => (eq_ix1 y).symm, fun _ => rfl⟩ _ _ fun y => rfl

/-- The sum of all elements of a matrix. -/
theorem sum_mat {M N : ℕ} (f : ℕ → ℕ → EReal) :
    ∑ y : (⟨2, ![M, N]⟩ : Shape).Idx, f (y 0).val (y 1).val = ∑ i ∈ Finset.range M, ∑ j ∈ Finset.range N, f i j := by
  refine (sum_idx2 (fun y : (⟨2, ![M, N]⟩ : Shape).Idx => f (y 0).val (y 1).val)).trans ?_
  refine Eq.trans (Finset.sum_congr rfl fun i _ => ?_) (Finset.sum_range fun i => ∑ j ∈ Finset.range N, f i j).symm
  exact (Finset.sum_range fun j => f i.val j).symm

/-- The sum of all elements of a stack of one matrix. -/
theorem sum_stack_one {M N : ℕ} (f : ℕ → ℕ → EReal) :
    ∑ y : (⟨3, ![1, M, N]⟩ : Shape).Idx, (stack (φ := .f32) fun _ => f) y = ∑ i ∈ Finset.range M, ∑ j ∈ Finset.range N, f i j := by
  refine Eq.trans ?_ (sum_mat f)
  refine Fintype.sum_equiv ⟨fun y => ix2 (n0 := M) (n1 := N) (y 1) (y 2), fun y => ix3 (n0 := 1) (n1 := M) (n2 := N) 0 (y 0) (y 1), fun y => ?_, fun y => ?_⟩ _ _ fun y => rfl
  · refine Eq.trans ?_ (eq_ix3 y).symm
    exact congrArg (fun a => ix3 (n0 := 1) (n1 := M) (n2 := N) a (y 1) (y 2)) (Subsingleton.elim (α := Fin 1) _ _)
  · exact (eq_ix2 y).symm

/-- The sum of all elements of a matrix, as a kernel takes it: over two axes of a stack of one, cast to one element and read. -/
theorem total_mat {M N : ℕ} (f : ℕ → ℕ → EReal) (h : Shape.Reduces ⟨3, ![1, M, N]⟩ [1, 2] ⟨1, ![1]⟩) (hs : Shape.ShapeCasts ⟨1, ![1]⟩ ⟨3, ![1, 1, 1]⟩)
    (hp : ∀ a, (![0, 0, 0] : Fin 3 → ℕ) a < (⟨3, ![1, 1, 1]⟩ : Shape).size a) :
    extractAt ![0, 0, 0] (shapeCast ⟨3, ![1, 1, 1]⟩ (multiReduction .add [1, 2] ⟨1, ![1]⟩ (stack (fun _ => f) : FVec Ideal ⟨3, ![1, M, N]⟩ .f32) 0x00000000#32 h (.inl rfl) rfl) hs) hp
      = ∑ i ∈ Finset.range M, ∑ j ∈ Finset.range N, f i j :=
  (Ideal.multiReduction_add_total _ 0x00000000#32 h (by decide) (.inl rfl) rfl _).trans (sum_stack_one f)

/-- The sums of the rows of a matrix, as a column. -/
theorem rowSums_mat {M N : ℕ} (f : ℕ → ℕ → EReal) (h : Shape.Reduces ⟨2, ![M, N]⟩ [1] ⟨1, ![M]⟩) (hs : Shape.ShapeCasts ⟨1, ![M]⟩ ⟨2, ![M, 1]⟩) :
    shapeCast ⟨2, ![M, 1]⟩ (multiReduction .add [1] ⟨1, ![M]⟩ (mat f : FVec Ideal ⟨2, ![M, N]⟩ .f32) 0x00000000#32 h (.inl rfl) rfl) hs
      = mat (fun i _ => ∑ j ∈ Finset.range N, f i j) :=
  (congrArg (fun v : FVec Ideal ⟨1, ![M]⟩ .f32 => shapeCast ⟨2, ![M, 1]⟩ v hs) (rowSum_mat f 0x00000000#32 h (.inl rfl) rfl)).trans (column_vec _ hs)

/-- The sums of the columns of a matrix, as a row. -/
theorem colSums_mat {M N : ℕ} (f : ℕ → ℕ → EReal) (h : Shape.Reduces ⟨2, ![M, N]⟩ [0] ⟨1, ![N]⟩) (hs : Shape.ShapeCasts ⟨1, ![N]⟩ ⟨2, ![1, N]⟩) :
    shapeCast ⟨2, ![1, N]⟩ (multiReduction .add [0] ⟨1, ![N]⟩ (mat f : FVec Ideal ⟨2, ![M, N]⟩ .f32) 0x00000000#32 h (.inl rfl) rfl) hs
      = mat (fun _ j => ∑ i ∈ Finset.range M, f i j) :=
  (congrArg (fun v : FVec Ideal ⟨1, ![N]⟩ .f32 => shapeCast ⟨2, ![1, N]⟩ v hs) (colSum_mat f 0x00000000#32 h (.inl rfl) rfl)).trans (row_vec _ hs)

/-! ## The norm and its gradient -/

/-- The epsilon the programs add to a row's mean square. -/
def eps : ℝ := 8796093 / 8796093022208

theorem ofBits_eps : Ideal.ofBits .f32 0x358637BD#32 = ((eps : ℝ) : EReal) := by
  unfold eps
  simp [Ideal.ofBits, Ideal.ieee, -EReal.coe_mul]; norm_num

/-- The inverse root of the mean square of row `i`, of `N` elements. -/
def inv (N : ℕ) (c : EReal) (x : ℕ → ℕ → EReal) (i : ℕ) : EReal :=
  Ideal.rsqrt (Ideal.div (∑ k ∈ Finset.range N, x i k * x i k) c + Ideal.ofBits .f32 0x358637BD#32)

/-- The normed element. -/
def hat (N : ℕ) (c : EReal) (x : ℕ → ℕ → EReal) (i j : ℕ) : EReal := x i j * inv N c x i

/-- The gradient of an element, `d` the gradient of the normed elements, as the kernels compute it. -/
def grad (N : ℕ) (c : EReal) (x d : ℕ → ℕ → EReal) (i j : ℕ) : EReal :=
  inv N c x i * (d i j - hat N c x i j * Ideal.div (∑ k ∈ Finset.range N, d i k * hat N c x i k) c)

/-- The rows from `a` on. -/
def rows (a : ℕ) (x : ℕ → ℕ → EReal) : ℕ → ℕ → EReal := fun i j => x (a + i) j

/-- The gradient of the gain's element `j`, of the first `n` rows, `d` the gradient of the normed element times the gain. -/
def gains (N : ℕ) (c : EReal) (x d : ℕ → ℕ → EReal) (n j : ℕ) : EReal := ∑ i ∈ Finset.range n, d i j * hat N c x i j

/-- A block of rows adds its own products. -/
theorem gains_add (N : ℕ) (c : EReal) (x d : ℕ → ℕ → EReal) (a b j : ℕ) :
    gains N c x d a j + ∑ i ∈ Finset.range b, rows a d i j * hat N c (rows a x) i j = gains N c x d (a + b) j := (Finset.sum_range_add _ a b).symm

theorem mul_sum_of_nonneg {ι : Type*} (s : Finset ι) (r : ℝ) (hr : 0 ≤ r) (f : ι → EReal) : ∑ k ∈ s, (r : EReal) * f k = (r : EReal) * ∑ k ∈ s, f k := by
  classical
  induction s using Finset.induction_on with
  | empty => simp
  | insert a s ha ih =>
    rw [Finset.sum_insert ha, Finset.sum_insert ha, ih,
      EReal.left_distrib_of_nonneg_of_ne_top (EReal.coe_nonneg.2 hr) (EReal.coe_ne_top r)]

theorem mul_self_nonneg (x : EReal) : 0 ≤ x * x := by
  induction x with
  | bot => rw [EReal.bot_mul_bot]; exact le_top
  | coe r => rw [← EReal.coe_mul]; exact EReal.coe_nonneg.2 (_root_.mul_self_nonneg r)
  | top => rw [EReal.top_mul_top]; exact le_top

/-- A quotient by a positive real is a product. -/
theorem div_coe (x : EReal) {n : ℝ} (hn : 0 < n) : Ideal.div x (n : EReal) = x * ((n⁻¹ : ℝ) : EReal) := by
  unfold Ideal.div
  rw [if_neg (EReal.coe_ne_zero.2 hn.ne'), ← EReal.coe_inv]

/-- A row of which an element is infinite has the inverse root zero; of any other the inverse root is a positive real number,
    and dividing it by what it is the root of takes its cube. -/
theorem inv_cases (N : ℕ) {n : ℝ} (hn : 0 < n) (x : ℕ → ℕ → EReal) (i : ℕ) :
    (inv N n x i = 0 ∧ Ideal.div (inv N n x i) (Ideal.div (∑ k ∈ Finset.range N, x i k * x i k) n + Ideal.ofBits .f32 0x358637BD#32) = 0)
    ∨ ∃ (u : ℕ → ℝ) (r : ℝ), 0 ≤ r ∧ (∀ k < N, x i k = (u k : EReal)) ∧ inv N n x i = (r : EReal)
      ∧ Ideal.div (inv N n x i) (Ideal.div (∑ k ∈ Finset.range N, x i k * x i k) n + Ideal.ofBits .f32 0x358637BD#32) = ((r * r * r : ℝ) : EReal) := by
  unfold inv
  by_cases h : ∀ k, ∃ u : ℝ, k < N → x i k = (u : EReal)
  · right
    choose u hu using h
    have hs : ∑ k ∈ Finset.range N, x i k * x i k = ((∑ k ∈ Finset.range N, u k * u k : ℝ) : EReal) := by
      rw [Cert.RealArr.coe_sum]
      exact Finset.sum_congr rfl fun k hk => by rw [hu k (Finset.mem_range.1 hk), EReal.coe_mul]
    have hp : 0 < (∑ k ∈ Finset.range N, u k * u k) * n⁻¹ + eps := by
      have h1 : 0 ≤ ∑ k ∈ Finset.range N, u k * u k := Finset.sum_nonneg fun k _ => _root_.mul_self_nonneg _
      have h2 : 0 < eps := by unfold eps; norm_num
      positivity
    rw [hs, div_coe _ hn, ofBits_eps, ← EReal.coe_mul, ← EReal.coe_add]
    generalize (∑ k ∈ Finset.range N, u k * u k) * n⁻¹ + eps = s at hp
    have hr : Ideal.rsqrt ((s : ℝ) : EReal) = (((Real.sqrt s)⁻¹ : ℝ) : EReal) := by
      rw [Ideal.rsqrt_coe, if_neg (not_lt.2 hp.le), if_neg hp.ne']
    refine ⟨u, (Real.sqrt s)⁻¹, inv_nonneg.2 (Real.sqrt_nonneg _), hu, hr, ?_⟩
    have hi : s⁻¹ = (Real.sqrt s)⁻¹ * (Real.sqrt s)⁻¹ := by rw [← mul_inv, Real.mul_self_sqrt hp.le]
    rw [hr, div_coe _ hp, ← EReal.coe_mul, hi, mul_assoc]
  · left
    push Not at h
    obtain ⟨k, hk⟩ := h
    have ht : x i k * x i k = ⊤ := by
      have h0 := hk 0
      generalize x i k = y at hk
      induction y with
      | bot => exact EReal.bot_mul_bot
      | coe r => exact absurd rfl (hk r).2
      | top => exact EReal.top_mul_top
    have hs : ∑ k ∈ Finset.range N, x i k * x i k = ⊤ := top_unique (ht ▸
      Finset.single_le_sum (f := fun k => x i k * x i k) (fun k _ => mul_self_nonneg (x i k)) (Finset.mem_range.2 (hk 0).1))
    have hd : (⊤ : EReal) * ((n⁻¹ : ℝ) : EReal) = ⊤ := EReal.top_mul_coe_of_pos (inv_pos.2 hn)
    rw [hs, div_coe _ hn, hd, ofBits_eps, EReal.top_add_coe, Ideal.rsqrt_top]
    refine ⟨rfl, ?_⟩
    unfold Ideal.div
    rw [if_neg EReal.top_ne_zero, zero_mul]

theorem ofBits_half : Ideal.ofBits .f32 0xBF000000#32 = ((-(1 / 2) : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-- Half of one part in 2048. -/
theorem ofBits_scale : Ideal.ofBits .f32 0x39800000#32 = ((1 / 4096 : ℝ) : EReal) := by
  simp [Ideal.ofBits, Ideal.ieee, -EReal.coe_mul]; norm_num

/-- A sum from zero, over the numbers below its length. -/
theorem sum_zero (n : ℕ) (f : ℕ → EReal) : Ideal.ofBits .f32 0x00000000#32 + ∑ k : Fin n, f k.val = ∑ k ∈ Finset.range n, f k := by
  rw [Ideal.ofBits_zero_f32, zero_add, Finset.sum_range]

/-- The number of a row's 2048 elements. -/
theorem ofBits_count : Ideal.ofBits .f32 0x45000000#32 = ((2048 : ℝ) : EReal) := by
  simp [Ideal.ofBits, Ideal.ieee, -EReal.coe_mul]; norm_num

/-- The number of a narrow row's 512 elements. -/
theorem ofBits_narrow : Ideal.ofBits .f32 0x44000000#32 = ((512 : ℝ) : EReal) := by
  simp [Ideal.ofBits, Ideal.ieee, -EReal.coe_mul]; norm_num

/-- The gradient as the kernels compute it is the one differentiating the norm writes: the gradient through the normed element
    and, along the row, the one through the inverse root. -/
theorem grad_eq (N : ℕ) {n : ℝ} (hn : 0 < n) (x d : ℕ → ℕ → EReal) (i j : ℕ) (hj : j < N) :
    grad N n x d i j = d i j * inv N n x i
      + Ideal.div ((∑ k ∈ Finset.range N, x i k * d i k) * (Ideal.ofBits .f32 0xBF000000#32
          * Ideal.div (inv N n x i) (Ideal.div (∑ k ∈ Finset.range N, x i k * x i k) n + Ideal.ofBits .f32 0x358637BD#32))) n
        * (Ideal.ofBits .f32 0x40000000#32 * x i j) := by
  unfold grad hat
  simp only [div_coe _ hn, ofBits_half, ofBits_two]
  obtain ⟨h, h'⟩ | ⟨u, r, hr, hu, h, h'⟩ := inv_cases N hn x i
  · rw [div_coe _ hn] at h'
    rw [h', h]
    simp only [mul_zero, zero_mul, add_zero]
  · rw [div_coe _ hn] at h'
    rw [h', h, hu j hj]
    have hs : ∑ k ∈ Finset.range N, d i k * (x i k * (r : EReal)) = (r : EReal) * ∑ k ∈ Finset.range N, x i k * d i k := by
      rw [← mul_sum_of_nonneg _ r hr]
      exact Finset.sum_congr rfl fun k _ => by rw [mul_comm (r : EReal), mul_comm (x i k) (d i k), mul_assoc]
    rw [hs]
    generalize ∑ k ∈ Finset.range N, x i k * d i k = S
    have e1 : (r : EReal) * ((u j : EReal) * (r : EReal) * ((r : EReal) * S * ((n⁻¹ : ℝ) : EReal))) = ((r * r * r * u j * n⁻¹ : ℝ) : EReal) * S := by
      simp only [EReal.coe_mul]
      ac_rfl
    have e2 : S * (((-(1 / 2) : ℝ) : EReal) * ((r * r * r : ℝ) : EReal)) * ((n⁻¹ : ℝ) : EReal) * (((2 : ℝ) : EReal) * (u j : EReal))
        = ((-(r * r * r * u j * n⁻¹) : ℝ) : EReal) * S := by
      rw [show -(r * r * r * u j * n⁻¹) = -(1 / 2) * (r * r * r) * n⁻¹ * (2 * u j) by ring]
      simp only [EReal.coe_mul]
      ac_rfl
    rw [e2, EReal.coe_neg, EReal.neg_mul, ← e1, sub_eq_add_neg,
      EReal.left_distrib_of_nonneg_of_ne_top (EReal.coe_nonneg.2 hr) (EReal.coe_ne_top r), mul_comm (d i j), mul_comm (r : EReal) (-_), EReal.neg_mul, mul_comm _ (r : EReal)]

end Cert.Rms
end
end
-- ==== Proof.RmsBlock.lean ====
/- What the norm's kernels compute of one block of 512 rows, of `N` elements each: the operations of their bodies, on arrays
   given by their elements. -/
module

public import proofs.«01_k».proof.Proof.Rms

@[expose] public section

noncomputable section

namespace Cert.Rms

open Idealize.ShloMosaic Cert.Prod
open scoped BigOperators

variable {N : ℕ} (c : BitVec (FTy.bits .f32))
  (hr : Shape.Reduces ⟨2, ![512, N]⟩ [1] ⟨1, ![512]⟩) (hs : Shape.ShapeCasts ⟨1, ![512]⟩ ⟨2, ![512, 1]⟩)
  (hc : Shape.Broadcasts ⟨2, ![512, 1]⟩ ⟨2, ![512, N]⟩) (hg : Shape.ShapeCasts ⟨2, ![1, N]⟩ ⟨2, ![1, N]⟩)
  (hb : Shape.Broadcasts ⟨2, ![1, N]⟩ ⟨2, ![512, N]⟩)
  (hr0 : Shape.Reduces ⟨2, ![512, N]⟩ [0] ⟨1, ![N]⟩) (hs0 : Shape.ShapeCasts ⟨1, ![N]⟩ ⟨2, ![1, N]⟩)
  (x : FVec Ideal ⟨2, ![512, N]⟩ .f32) (d : FVec Ideal ⟨2, ![512, N]⟩ .bf16) (g : FVec Ideal ⟨2, ![1, N]⟩ .f32)
  (X D : ℕ → ℕ → EReal) (G : ℕ → EReal)

/-- The sums of the rows. -/
def rowsBlk : FVec Ideal ⟨2, ![512, 1]⟩ .f32 :=
  shapeCast ⟨2, ![512, 1]⟩ (multiReduction .add [1] ⟨1, ![512]⟩ x 0x00000000#32 hr (.inl rfl) rfl) hs
theorem rowsBlk_mat : rowsBlk hr hs (mat X) = mat (fun i _ => ∑ j ∈ Finset.range N, X i j) := rowSums_mat X hr hs

/-- The sums of the columns. -/
def colsBlk : FVec Ideal ⟨2, ![1, N]⟩ .f32 :=
  shapeCast ⟨2, ![1, N]⟩ (multiReduction .add [0] ⟨1, ![N]⟩ x 0x00000000#32 hr0 (.inl rfl) rfl) hs0
theorem colsBlk_mat : colsBlk hr0 hs0 (mat X) = mat (fun _ j => ∑ i ∈ Finset.range 512, X i j) := colSums_mat X hr0 hs0

/-- The sums of the rows, over the number the body divides by. -/
def meanBlk : FVec Ideal ⟨2, ![512, 1]⟩ .f32 := divf (rowsBlk hr hs x) (broadcast ⟨2, ![512, 1]⟩ (Scalar.ofBits .f32 c))
theorem meanBlk_mat : meanBlk c hr hs (mat X) = mat (fun i _ => Ideal.div (∑ j ∈ Finset.range N, X i j) (Ideal.ofBits .f32 c)) := by
  unfold meanBlk
  simp only [rowsBlk_mat, broadcast_mat, divf_mat]

/-- The inverse roots of the rows' mean squares. -/
def invBlk : FVec Ideal ⟨2, ![512, 1]⟩ .f32 :=
  Idealize.ShloMosaic.rsqrt (addf (meanBlk c hr hs (mulf x x)) (broadcast ⟨2, ![512, 1]⟩ (Scalar.ofBits .f32 0x358637BD#32)))
theorem invBlk_mat : invBlk c hr hs (mat X) = mat (fun i _ => inv N (Ideal.ofBits .f32 c) X i) := by
  unfold invBlk
  simp only [mulf_mat, meanBlk_mat, broadcast_mat, addf_mat, rsqrt_mat]
  rfl

/-- The normed elements. -/
def hatBlk : FVec Ideal ⟨2, ![512, N]⟩ .f32 := mulf x (broadcastTo ⟨2, ![512, N]⟩ (invBlk c hr hs x) hc)
theorem hatBlk_mat : hatBlk c hr hs hc (mat X) = mat (hat N (Ideal.ofBits .f32 c) X) := by
  unfold hatBlk
  simp only [invBlk_mat, column_mat _ _ (by decide : (512 : ℕ) ≠ 1), mulf_mat]
  rfl

/-- The gain, a row of it for every row of the block. -/
def gainBlk : FVec Ideal ⟨2, ![512, N]⟩ .f32 := broadcastTo ⟨2, ![512, N]⟩ (shapeCast ⟨2, ![1, N]⟩ g hg) hb
theorem gainBlk_mat (hN : N ≠ 1) : gainBlk hg hb (mat (fun _ j => G j)) = mat (fun _ j => G j) := by
  unfold gainBlk
  simp only [cast_mat, row_mat _ _ hN]

/-- The normed elements times the gain. -/
def normBlk : FVec Ideal ⟨2, ![512, N]⟩ .bf16 := truncf .bf16 (mulf (hatBlk c hr hs hc x) (gainBlk hg hb g)) (by decide)
theorem normBlk_mat (hN : N ≠ 1) :
    normBlk c hr hs hc hg hb (mat X) (mat (fun _ j => G j)) = mat (fun i j => hat N (Ideal.ofBits .f32 c) X i j * G j) := by
  unfold normBlk
  simp only [hatBlk_mat, gainBlk_mat _ _ _ hN, mulf_mat]
  rfl

/-- The gradient of the normed elements. -/
def backBlk : FVec Ideal ⟨2, ![512, N]⟩ .f32 := mulf (extf .f32 d (by decide)) (gainBlk hg hb g)
theorem backBlk_mat (hN : N ≠ 1) : backBlk hg hb (mat D) (mat (fun _ j => G j)) = mat (fun i j => D i j * G j) := by
  unfold backBlk
  simp only [extf_mat, gainBlk_mat _ _ _ hN, mulf_mat]

/-- The gradient of the elements. -/
def gradBlk : FVec Ideal ⟨2, ![512, N]⟩ .f32 :=
  mulf (broadcastTo ⟨2, ![512, N]⟩ (invBlk c hr hs x) hc) (subf (backBlk hg hb d g)
    (mulf (hatBlk c hr hs hc x) (broadcastTo ⟨2, ![512, N]⟩ (meanBlk c hr hs (mulf (backBlk hg hb d g) (hatBlk c hr hs hc x))) hc)))
theorem gradBlk_mat (hN : N ≠ 1) : gradBlk c hr hs hc hg hb (mat X) (mat D) (mat (fun _ j => G j))
    = mat (grad N (Ideal.ofBits .f32 c) X (fun i j => D i j * G j)) := by
  unfold gradBlk
  simp only [invBlk_mat, hatBlk_mat, backBlk_mat _ _ _ _ hN, column_mat _ _ (by decide : (512 : ℕ) ≠ 1), mulf_mat, subf_mat, meanBlk_mat]
  rfl

/-- The gradient of the gain, a block's products added to it. -/
def gainsBlk : FVec Ideal ⟨2, ![1, N]⟩ .f32 :=
  addf (shapeCast ⟨2, ![1, N]⟩ g hg) (colsBlk hr0 hs0 (mulf (extf .f32 d (by decide)) (hatBlk c hr hs hc x)))
theorem gainsBlk_mat : gainsBlk c hr hs hc hg hr0 hs0 (mat X) (mat D) (mat (fun _ j => G j))
    = mat (fun _ j => G j + ∑ i ∈ Finset.range 512, D i j * hat N (Ideal.ofBits .f32 c) X i j) := by
  unfold gainsBlk
  simp only [extf_mat, hatBlk_mat, cast_mat, mulf_mat, colsBlk_mat, addf_mat]

end Cert.Rms

end

end
-- ==== Proof.NormArr.lean ====
/- The norm's kernel, of rows of 2048 elements: its result array. -/
module

public import proofs.«01_k».proof.Proof.RmsBlock
public import proofs.«01_k».proof.Proof.Gen.NormIdeal.Value
public import Idealize.ShloMosaic.Lib.Pipeline.ValueKit

@[expose] public section

-- the windows' blocks are checked by evaluation, whose terms nest deep
set_option maxRecDepth 16384

noncomputable section

namespace Cert.NormIdeal.SB

open Cert.NormIdeal Cert.NormIdeal.Gen Cert.NormIdeal.Value Idealize.ShloMosaic Idealize.ShloMosaic.TcCoe Idealize.ShloMosaic.StableHlo Idealize.SL.Sem Cert.Prod Cert.Rms

variable (m : (ℓ : Loc nD τ sig) → Buf (Elt Ideal) ℓ) (c : Dev nD) {X : ℕ → ℕ → EReal} {G : ℕ → EReal}

/-- The offsets of a load or store of a whole buffer. -/
theorem origin : (![0, 0] : Fin 2 → ℕ) = fun _ => 0 := by decide

/-- What a point stores. -/
theorem out (x : Vec Ideal S512x2048 .f32) (g : Vec Ideal S1x2048 .f32) : out0_2 (F := Ideal) x g = k0_pay1 x g := by
  unfold out0_2
  rw [View.ld_unit_zero (S := S512x2048) origin, View.ld_unit_zero (S := S1x2048) origin]
  exact View.canon_cons_unit_zero (S := S512x2048) origin _ _ _

/-- The stored block, of arrays given by their elements. -/
theorem block (X : ℕ → ℕ → EReal) (G : ℕ → EReal) : k0_pay1 (mat (φ := .f32) X) (mat (φ := .f32) (fun _ j => G j))
    = (mat (fun i j => hat 2048 (Ideal.ofBits .f32 0x45000000#32) X i j * G j) : FVec Ideal S512x2048 .bf16) :=
  normBlk_mat 0x45000000#32 reduces_S512x2048_S512 shapeCasts_S512_S512x1 broadcasts_S512x1_S512x2048 shapeCasts_S1x2048_S1x2048 broadcasts_S1x2048_S512x2048 X G (by decide)

/-- The windows' block indices. -/
theorem idx : ∀ t : Fin cfg0.N, win0_0.index t = ![t.val, 0] ∧ win0_1.index t = ![0, 0] ∧ win0_2.index t = ![t.val, 0] :=
  (by decide +kernel : ∀ t : Fin grid0.N, _)

/-- The gain as the kernel finds it: a row. -/
theorem host_gain : V m c main_v0 = (shapeCast S1x2048 (m ((c : Thread nD τ).loc main_arg1)) shapeCasts_S2048_S1x2048 : FVec Ideal S1x2048 .f32) := by
  simp only [V, hostOps0, List.flatten_cons, List.flatten_nil, List.append_nil, TRef.unary, TRef.toBuf, TRef.ofBuf, cast_eq]
  after_results_simp <;> rfl

/-- A point's block of `x`: its rows. -/
theorem iblk_x (h0 : m ((c : Thread nD τ).loc main_arg0) = (mat X : FVec Ideal S4096x2048 .f32)) (t : Fin cfg0.N) :
    iblk m c 0 t = (mat (rows (512 * t.val) X) : FVec Ideal S512x2048 .f32) := by
  have e : V m c (Pipeline.arrRef spec0 0) = (mat X : FVec Ideal S4096x2048 .f32) := (V_main_arg0 m c).trans h0
  unfold iblk
  rw [e]
  funext y
  blk_simp [(idx t).1, mat]
  simp only [rows, Nat.mul_comm, Nat.zero_mul, Nat.mul_zero, Nat.zero_add]

/-- A point's block of the gain: all of it. -/
theorem iblk_gain (h1 : m ((c : Thread nD τ).loc main_arg1) = (vec G : FVec Ideal S2048 .f32)) (t : Fin cfg0.N) :
    iblk m c 1 t = (mat (fun _ j => G j) : FVec Ideal S1x2048 .f32) := by
  have e : V m c (Pipeline.arrRef spec0 1) = (mat (fun _ j => G j) : FVec Ideal S1x2048 .f32) := by
    refine (host_gain m c).trans ?_
    rw [h1]
    exact row_vec G _
  unfold iblk
  rw [e]
  funext y
  blk_simp [(idx t).2.1, mat]

/-- The result after the run. -/
theorem array2 (h0 : m ((c : Thread nD τ).loc main_arg0) = (mat X : FVec Ideal S4096x2048 .f32))
    (h1 : m ((c : Thread nD τ).loc main_arg1) = (vec G : FVec Ideal S2048 .f32)) :
    (dats m 0 c).arrAt 2 cfg0.N = (mat (fun i j => hat 2048 (Ideal.ofBits .f32 0x45000000#32) X i j * G j) : FVec Ideal S4096x2048 .bf16) := by
  refine (dats m 0 c).arrAt_eq_of_covers 2 _ (by decide +kernel) fun t hf y => ?_
  blk_simp
  rw [after0_2, iblk_x m c h0, iblk_gain m c h1, out, block]
  blk_simp [(idx t).2.2, mat]
  simp only [rows, hat, Rms.inv, Nat.mul_comm, Nat.zero_mul, Nat.mul_zero, Nat.zero_add]

end Cert.NormIdeal.SB

end

end
-- ==== Proof.NormEq.lean ====
/- The norm's kernel, of rows of 2048 elements, and its reference leave the same result. -/
module

public import proofs.«01_k».proof.Defs
public import proofs.«01_k».proof.Proof.Gen.NormRefIdeal.Read
public import proofs.«01_k».proof.Proof.Gen.NormRefIdeal.Run
public import proofs.«01_k».proof.Proof.NormArr

@[expose] public section

noncomputable section

namespace Cert.NormRefIdeal.SB

open Cert.NormRefIdeal Cert.NormRefIdeal.Read Idealize.ShloMosaic Idealize.ShloMosaic.ValueIdx Cert.Prod Cert.Rms
open scoped BigOperators

/-- The reference's result, of arrays given by their elements. -/
theorem result (X : ℕ → ℕ → EReal) (G : ℕ → EReal) : val_main_v13 (F := Ideal) (mat (φ := .f32) X) (vec (φ := .f32) G)
    = mat (φ := .bf16) (fun i j => hat 2048 (Ideal.ofBits .f32 0x45000000#32) X i j * G j) := by
  have mean : ∀ i : S4096x1.Idx, val_main_v6 (F := Ideal) (mat (φ := .f32) X) i
      = Ideal.div (∑ k ∈ Finset.range 2048, X (i 0).val k * X (i 0).val k) (Ideal.ofBits .f32 0x45000000#32) + Ideal.ofBits .f32 0x358637BD#32 := fun i => by
    rw [val_main_v6_apply, val_main_v4_apply, val_main_v2_apply, val_main_v1_apply, val_main_v3_apply, val_main_v5_apply, ← sum_zero]
    rfl
  funext i
  rw [val_main_v13_apply, val_main_v12_apply, val_main_v9_apply, val_main_v8_apply, val_main_v7_apply, mean, val_main_v11_apply, val_main_v10_apply]
  rfl

end Cert.NormRefIdeal.SB

namespace Cert.NormEq

open Idealize.ShloMosaic Idealize.ShloMosaic.TcCoe Idealize.SL.Sem Cert.Prod Cert.Rms

/-- From whatever arguments, the kernel and its reference leave the same normed array, and both keep their arguments. -/
theorem equation : Cert.algebraic_NormIdeal_NormRefIdeal (hNormIdeal := Cert.NormIdeal.Gen.facts)
    (hNormRefIdeal := Cert.NormRefIdeal.Gen.facts) := by
  intro m g m' g' _ hargs
  refine ⟨fun c => (Cert.NormIdeal.Gen.dats m 0 c).arrAt 2 Cert.NormIdeal.cfg0.N, Cert.NormIdeal.Value.run_blocks m g, ?_⟩
  refine (θ_run _ _ _).mono (fun r h c => ?_) (Cert.NormRefIdeal.Value.run m' g')
  obtain ⟨X, h0⟩ := exists_mat (φ := .f32) (n0 := 4096) (n1 := 2048) (m ((c.tc : Thread Cert.NormIdeal.nD Cert.NormIdeal.τ).loc Cert.NormIdeal.main_arg0))
  obtain ⟨G, h1⟩ := exists_vec (φ := .f32) (n0 := 2048) (m ((c.tc : Thread Cert.NormIdeal.nD Cert.NormIdeal.τ).loc Cert.NormIdeal.main_arg1))
  obtain ⟨e0, e1⟩ := hargs c
  obtain ⟨r0, k⟩ := h c
  refine ⟨r0.trans ?_, k⟩
  refine Eq.trans ?_ (Cert.NormIdeal.SB.array2 m c h0 h1).symm
  rw [Cert.NormRefIdeal.Read.val_main_v13_eq, e0, e1, h0, h1]
  exact Cert.NormRefIdeal.SB.result X G

end Cert.NormEq

end

end
-- ==== Proof.NormBArr.lean ====
/- The kernel of the norm's backward pass, of rows of 2048 elements: its two result arrays, the gradient of `x` and the gradient
   of the gain. -/
module

public import proofs.«01_k».proof.Proof.RmsBlock
public import proofs.«01_k».proof.Proof.Gen.NormBIdeal.Value
public import Idealize.ShloMosaic.Lib.Pipeline.ValueKit

@[expose] public section

-- the windows' blocks and the points' cases are checked by evaluation, whose terms nest deep
set_option maxRecDepth 16384

noncomputable section

namespace Cert.NormBIdeal.SB

open Cert.NormBIdeal Cert.NormBIdeal.Gen Cert.NormBIdeal.Value Idealize.ShloMosaic Idealize.ShloMosaic.TcCoe Idealize.ShloMosaic.StableHlo Idealize.SL.Sem Cert.Prod Cert.Rms
open scoped BigOperators

/-! ## What a point stores -/

section Points
variable (c : Dev nD) (i : grid0.Coords) (arg1 : Memref sig .tc .vmem S512x2048 .f32) (harg1 : arg1.IsWhole)
  (arg2 : Memref sig .tc .vmem S1x2048 .f32) (harg2 : arg2.IsWhole) (arg3 : Memref sig .tc .vmem S512x2048 .bf16) (harg3 : arg3.IsWhole)
  (arg4 : Memref sig .tc .vmem S512x2048 .f32) (harg4 : arg4.IsWhole) (arg5 : Memref sig .tc .vmem S1x2048 .f32) (harg5 : arg5.IsWhole)
  (x0 : Vec Ideal S512x2048 .f32) (x1 : Vec Ideal S1x2048 .f32) (x2 : Vec Ideal S512x2048 .bf16) (g : Vec Ideal S1x2048 .f32)

/-- The offsets of a load or store of a whole buffer. -/
theorem origin : (![0, 0] : Fin 2 → ℕ) = fun _ => 0 := by decide

section First
variable (hc0 : cond0_0 i)

/-- The first point's block of the gradient of `x`. -/
theorem outA3 : out0_A_3 (F := Ideal) c i arg1 harg1 arg2 harg2 arg3 harg3 arg4 harg4 arg5 harg5 hc0 x0 x1 x2 = k0_pay5 x0 x2 x1 := by
  unfold out0_A_3
  rw [View.read_writes_eq_canon _ _ _ (cover0_A_3 c i arg1 harg1 arg2 harg2 arg3 harg3 arg4 harg4 arg5 harg5 hc0 _ _ _)]
  unfold kernelRun0_A
  dsimp only
  sl_unfold_words
  simp only [View.readAt_eq_ld, harg1.read_unread, harg2.read_unread, harg3.read_unread, harg5.read_unread,
    View.readCov_cons_toLoadRect, View.ld_unit_zero (S := S512x2048) origin, View.ld_unit_zero (S := S1x2048) origin]
  exact View.canon_cons_unit_zero (S := S512x2048) origin _ _ _

/-- The first point's gradient of the gain starts from zero. -/
theorem outA4 : out0_A_4 (F := Ideal) c i arg1 harg1 arg2 harg2 arg3 harg3 arg4 harg4 arg5 harg5 hc0 x0 x1 x2 = k0_pay6 (F := Ideal) x0 x2 (k0_pay1 (F := Ideal)) := by
  unfold out0_A_4
  rw [View.read_writes_eq_canon _ _ _ (cover0_A_4 c i arg1 harg1 arg2 harg2 arg3 harg3 arg4 harg4 arg5 harg5 hc0 _ _ _)]
  unfold kernelRun0_A
  dsimp only
  sl_unfold_words
  simp only [View.readAt_eq_ld, harg1.read_unread, harg2.read_unread, harg3.read_unread, harg5.read_unread,
    View.readCov_cons_toLoadRect, View.ld_unit_zero (S := S512x2048) origin, View.ld_unit_zero (S := S1x2048) origin]
  exact View.canon_cons_unit_zero (S := S1x2048) origin _ _ _

end First

section Later
variable (hc0 : ¬cond0_0 i)

/-- A later point's block of the gradient of `x`. -/
theorem outB3 : out0_B_3 (F := Ideal) c i arg1 harg1 arg2 harg2 arg3 harg3 arg4 harg4 arg5 harg5 hc0 x0 x1 x2 g = k0_pay5 x0 x2 x1 := by
  unfold out0_B_3
  rw [View.read_writes_eq_canon _ _ _ (cover0_B_3 c i arg1 harg1 arg2 harg2 arg3 harg3 arg4 harg4 arg5 harg5 hc0 _ _ _ _)]
  unfold kernelRun0_B
  dsimp only
  sl_unfold_words
  simp only [View.readAt_eq_ld, harg1.read_unread, harg2.read_unread, harg3.read_unread, harg5.read_unread,
    View.readCov_cons_toLoadRect, View.ld_unit_zero (S := S512x2048) origin, View.ld_unit_zero (S := S1x2048) origin]
  exact View.canon_cons_unit_zero (S := S512x2048) origin _ _ _

/-- A later point adds to the gradient of the gain. -/
theorem outB4 : out0_B_4 (F := Ideal) c i arg1 harg1 arg2 harg2 arg3 harg3 arg4 harg4 arg5 harg5 hc0 x0 x1 x2 g = k0_pay6 x0 x2 g := by
  unfold out0_B_4
  rw [View.read_writes_eq_canon _ _ _ (cover0_B_4 c i arg1 harg1 arg2 harg2 arg3 harg3 arg4 harg4 arg5 harg5 hc0 _ _ _ _)]
  unfold kernelRun0_B
  dsimp only
  sl_unfold_words
  simp only [View.readAt_eq_ld, harg1.read_unread, harg2.read_unread, harg3.read_unread, harg5.read_unread,
    View.readCov_cons_toLoadRect, View.ld_unit_zero (S := S512x2048) origin, View.ld_unit_zero (S := S1x2048) origin]
  exact View.canon_cons_unit_zero (S := S1x2048) origin _ _ _

end Later

end Points

/-! ## The stored blocks, of arrays given by their elements -/

section Blocks
variable (X D : ℕ → ℕ → EReal) (G : ℕ → EReal)

/-- The block of the gradient of `x`. -/
theorem block_x : k0_pay5 (mat (φ := .f32) X) (mat (φ := .bf16) D) (mat (φ := .f32) (fun _ j => G j))
    = (mat (grad 2048 (Ideal.ofBits .f32 0x45000000#32) X (fun i j => D i j * G j)) : FVec Ideal S512x2048 .f32) :=
  gradBlk_mat 0x45000000#32 reduces_S512x2048_S512 shapeCasts_S512_S512x1 broadcasts_S512x1_S512x2048 shapeCasts_S1x2048_S1x2048 broadcasts_S1x2048_S512x2048 X D G (by decide)

/-- What is added to the gradient of the gain. -/
theorem block_gain : k0_pay6 (mat (φ := .f32) X) (mat (φ := .bf16) D) (mat (φ := .f32) (fun _ j => G j))
    = (mat (fun _ j => G j + ∑ i ∈ Finset.range 512, D i j * hat 2048 (Ideal.ofBits .f32 0x45000000#32) X i j) : FVec Ideal S1x2048 .f32) :=
  gainsBlk_mat 0x45000000#32 reduces_S512x2048_S512 shapeCasts_S512_S512x1 broadcasts_S512x1_S512x2048 shapeCasts_S1x2048_S1x2048 reduces_S512x2048_S2048 shapeCasts_S2048_S1x2048 X D G

theorem zero_gain : (k0_pay1 : FVec Ideal S1x2048 .f32) = mat (fun _ _ => 0) := by
  unfold k0_pay1
  simp only [broadcast_mat, Ideal.ofBits_zero_f32]

end Blocks

/-! ## The arrays -/

variable (m : (ℓ : Loc nD τ sig) → Buf (Elt Ideal) ℓ) (c : Dev nD) {X D : ℕ → ℕ → EReal} {G : ℕ → EReal}

/-- The windows' block indices. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-- The gain as the kernel finds it: a row. -/
theorem host_gain : V m c main_v0 = (shapeCast S1x2048 (m ((c : Thread nD τ).loc main_arg1)) shapeCasts_S2048_S1x2048 : FVec Ideal S1x2048 .f32) := by
  simp only [V, hostOps0, List.flatten_cons, List.flatten_nil, List.append_nil, TRef.unary, TRef.toBuf, TRef.ofBuf, cast_eq]
  after_results_simp <;> rfl

/-- A point's block of `x`: its rows. -/
theorem iblk_x (h0 : m ((c : Thread nD τ).loc main_arg0) = (mat X : FVec Ideal S4096x2048 .f32)) (t : Fin cfg0.N) :
    iblk m c 0 t = (mat (rows (512 * t.val) X) : FVec Ideal S512x2048 .f32) := by
  have e : V m c (Pipeline.arrRef spec0 0) = (mat X : FVec Ideal S4096x2048 .f32) := (V_main_arg0 m c).trans h0
  unfold iblk
  rw [e]
  funext y
  blk_simp [(idx t).1, mat]
  simp only [rows, Nat.mul_comm, Nat.zero_mul, Nat.mul_zero, Nat.zero_add]

/-- A point's block of the gain: all of it. -/
theorem iblk_gain (h1 : m ((c : Thread nD τ).loc main_arg1) = (vec G : FVec Ideal S2048 .f32)) (t : Fin cfg0.N) :
    iblk m c 1 t = (mat (fun _ j => G j) : FVec Ideal S1x2048 .f32) := by
  have e : V m c (Pipeline.arrRef spec0 1) = (mat (fun _ j => G j) : FVec Ideal S1x2048 .f32) := by
    refine (host_gain m c).trans ?_
    rw [h1]
    exact row_vec G _
  unfold iblk
  rw [e]
  funext y
  blk_simp [(idx t).2.1, mat]

/-- A point's block of the result's gradient: its rows. -/
theorem iblk_d (h2 : m ((c : Thread nD τ).loc main_arg2) = (mat D : FVec Ideal S4096x2048 .bf16)) (t : Fin cfg0.N) :
    iblk m c 2 t = (mat (rows (512 * t.val) D) : FVec Ideal S512x2048 .bf16) := by
  have e : V m c (Pipeline.arrRef spec0 2) = (mat D : FVec Ideal S4096x2048 .bf16) := (V_main_arg2 m c).trans h2
  unfold iblk
  rw [e]
  funext y
  blk_simp [(idx t).2.2.1, mat]
  simp only [rows, Nat.mul_comm, Nat.zero_mul, Nat.mul_zero, Nat.zero_add]

variable (h0 : m ((c : Thread nD τ).loc main_arg0) = (mat X : FVec Ideal S4096x2048 .f32))
  (h1 : m ((c : Thread nD τ).loc main_arg1) = (vec G : FVec Ideal S2048 .f32))
  (h2 : m ((c : Thread nD τ).loc main_arg2) = (mat D : FVec Ideal S4096x2048 .bf16))
include h0 h1 h2

/-- After every point the gradient of the gain holds the sums over the rows of the points so far. -/
theorem sums : ∀ t : Fin cfg0.N,
    (outsAt0 m c t.val t.isLt).2 = (mat (fun _ j => gains 2048 (Ideal.ofBits .f32 0x45000000#32) X D (512 * t.val + 512) j) : FVec Ideal S1x2048 .f32) := by
  rintro ⟨n, hn⟩
  induction n with
  | zero =>
    have hz : (⟨0, hn⟩ : Fin cfg0.N).val % 8 = 0 := Nat.zero_mod _
    have ht : (⟨0, hn⟩ : Fin cfg0.N).val = 0 := rfl
    generalize (⟨0, hn⟩ : Fin cfg0.N) = t at hz ht ⊢
    refine (congrArg (fun x => x.2) (outsAt0_A m c t hz)).trans ?_
    dsimp only
    rw [iblk_x m c h0, iblk_gain m c h1, iblk_d m c h2, outA4, zero_gain, block_gain, ht]
    simp only [← gains_add]
    rfl
  | succ n ih =>
    have hN : n + 1 < 8 := hn
    have ih : (outsAt0 m c ((⟨n + 1, hn⟩ : Fin cfg0.N).val - 1) (Nat.lt_of_le_of_lt (Nat.sub_le _ _) (⟨n + 1, hn⟩ : Fin cfg0.N).isLt)).2
      = (mat (fun _ j => gains 2048 (Ideal.ofBits .f32 0x45000000#32) X D (512 * (⟨n + 1, hn⟩ : Fin cfg0.N).val) j) : FVec Ideal S1x2048 .f32) := ih (Nat.lt_of_succ_lt hn)
    have hz : ¬(⟨n + 1, hn⟩ : Fin cfg0.N).val % 8 = 0 := by dsimp only; omega
    generalize (⟨n + 1, hn⟩ : Fin cfg0.N) = t at hz ih ⊢
    refine (congrArg (fun x => x.2) (outsAt0_B m c t hz)).trans ?_
    dsimp only
    rw [ih, iblk_x m c h0, iblk_gain m c h1, iblk_d m c h2, outB4, block_gain]
    simp only [← gains_add]

/-- The block of the gradient of `x` that a point leaves: its rows. -/
theorem block3 (t : Fin cfg0.N) : (outsAt0 m c t.val t.isLt).1
    = (mat (rows (512 * t.val) (grad 2048 (Ideal.ofBits .f32 0x45000000#32) X (fun i j => D i j * G j))) : FVec Ideal S512x2048 .f32) := by
  by_cases hz : t.val % 8 = 0
  · refine (congrArg (fun x => x.1) (outsAt0_A m c t hz)).trans ?_
    dsimp only
    rw [iblk_x m c h0, iblk_gain m c h1, iblk_d m c h2, outA3, block_x]
    rfl
  · refine (congrArg (fun x => x.1) (outsAt0_B m c t hz)).trans ?_
    dsimp only
    rw [iblk_x m c h0, iblk_gain m c h1, iblk_d m c h2, outB3, block_x]
    rfl

/-- The gradient of `x` after the run. -/
theorem array3 : (dats m 0 c).arrAt 3 cfg0.N
    = (mat (grad 2048 (Ideal.ofBits .f32 0x45000000#32) X (fun i j => D i j * G j)) : FVec Ideal S4096x2048 .f32) := by
  refine (dats m 0 c).arrAt_eq_of_covers 3 _ (by decide +kernel) fun t hf y => ?_
  blk_simp
  rw [after0_3, block3 m c h0 h1 h2]
  blk_simp [(idx t).2.2.2.1, mat]
  simp only [rows, Nat.mul_comm, Nat.zero_mul, Nat.mul_zero, Nat.zero_add]

/-- The gradient of the gain after the run. -/
theorem array4 : (dats m 0 c).arrAt 4 cfg0.N = (mat (fun _ j => gains 2048 (Ideal.ofBits .f32 0x45000000#32) X D 4096 j) : FVec Ideal S1x2048 .f32) := by
  refine (dats m 0 c).arrAt_eq_of_covers 4 _ (by decide +kernel) fun t hf y => ?_
  have hN : t.val < 8 := t.isLt
  have hm : t.val = 7 := by have := (flush0_4 t).mp hf; omega
  blk_simp
  rw [after0_4, sums m c h0 h1 h2 t, hm]
  blk_simp [(idx t).2.2.2.2, mat]

end Cert.NormBIdeal.SB

end

end
-- ==== Proof.NormBRef.lean ====
/- The two results of the reference of the norm's backward pass, of rows of 2048 elements, on arrays given by their elements. -/
module

public import proofs.«01_k».proof.Proof.Gen.NormBRefIdeal.Read
public import proofs.«01_k».proof.Proof.Rms

@[expose] public section

noncomputable section

namespace Cert.NormBRefIdeal.SB

open Cert.NormBRefIdeal Cert.NormBRefIdeal.Read Idealize.ShloMosaic Idealize.ShloMosaic.ValueIdx Cert.Prod Cert.Rms
open scoped BigOperators

variable (X D : ℕ → ℕ → EReal) (G : ℕ → EReal)

/-- The mean square of a row, with the epsilon. -/
theorem mean (i : S4096x1.Idx) : val_main_v8 (F := Ideal) (mat (φ := .f32) X) i
    = Ideal.div (∑ k ∈ Finset.range 2048, X (i 0).val k * X (i 0).val k) (Ideal.ofBits .f32 0x45000000#32) + Ideal.ofBits .f32 0x358637BD#32 := by
  rw [val_main_v8_apply, val_main_v6_apply, val_main_v4_apply, val_main_v3_apply, val_main_v5_apply, val_main_v7_apply, ← sum_zero]
  rfl

theorem v9 (i : S4096x1.Idx) : val_main_v9 (F := Ideal) (mat (φ := .f32) X) i = inv 2048 (Ideal.ofBits .f32 0x45000000#32) X (i 0).val := by
  rw [val_main_v9_apply, mean]
  rfl

/-- The normed element. -/
theorem v14 (i : S4096x2048.Idx) : val_main_v14 (F := Ideal) (mat (φ := .f32) X) i = hat 2048 (Ideal.ofBits .f32 0x45000000#32) X (i 0).val (i 1).val := by
  rw [val_main_v14_apply, val_main_v13_apply, v9]
  rfl

/-- The gradient of the normed element. -/
theorem v24 (i : S4096x2048.Idx) : val_main_v24 (F := Ideal) (vec (φ := .f32) G) (mat (φ := .bf16) D) i = D (i 0).val (i 1).val * G (i 1).val := by
  rw [val_main_v24_apply, val_main_v19_apply, val_main_v23_apply, val_main_v15_apply]
  rfl

/-- A row's sum of the element times the gradient of the normed element. -/
theorem v28 (i : S4096x1.Idx) : val_main_v28 (F := Ideal) (mat (φ := .f32) X) (vec (φ := .f32) G) (mat (φ := .bf16) D) i
    = ∑ k ∈ Finset.range 2048, X (i 0).val k * (D (i 0).val k * G k) := by
  have h1 : (i 1).val = 0 := by have := idx2_lt1 i; omega
  rw [val_main_v28_apply, val_main_v27_apply, ← sum_zero]
  simp only [val_main_v26_apply, v24]
  show Ideal.ofBits .f32 0x00000000#32 + ∑ k : Fin 2048, X ((i 0).val * 1 + (i 1).val) k.val * (D ((i 0).val * 1 + (i 1).val) k.val * G k.val) = _
  rw [h1, Nat.mul_one, Nat.add_zero]

/-- What the inverse root of the mean square adds to a row's gradient, but for the element. -/
theorem v33 (i : S4096x1.Idx) : val_main_v33 (F := Ideal) (mat (φ := .f32) X) (vec (φ := .f32) G) (mat (φ := .bf16) D) i
    = Ideal.div ((∑ k ∈ Finset.range 2048, X (i 0).val k * (D (i 0).val k * G k)) * (Ideal.ofBits .f32 0xBF000000#32
        * Ideal.div (inv 2048 (Ideal.ofBits .f32 0x45000000#32) X (i 0).val)
          (Ideal.div (∑ k ∈ Finset.range 2048, X (i 0).val k * X (i 0).val k) (Ideal.ofBits .f32 0x45000000#32) + Ideal.ofBits .f32 0x358637BD#32)))
      (Ideal.ofBits .f32 0x45000000#32) := by
  rw [val_main_v33_apply, val_main_v31_apply, v28, val_main_v12_apply, val_main_v11_apply, val_main_v10_apply, v9, mean, val_main_v32_apply]
  rfl

/-- The gradient of `x`. -/
theorem result_x : val_main_v37 (F := Ideal) (mat (φ := .f32) X) (vec (φ := .f32) G) (mat (φ := .bf16) D)
    = mat (φ := .f32) (grad 2048 (Ideal.ofBits .f32 0x45000000#32) X (fun i j => D i j * G j)) := by
  funext i
  rw [val_main_v37_apply, val_main_v30_apply, v24, val_main_v29_apply, v9, val_main_v36_apply, val_main_v35_apply, val_main_v34_apply,
    Fin.sum_univ_one, v33, val_main_v2_apply, val_main_v1_apply]
  refine Eq.trans ?_ (Eq.symm ((congrArg (fun c => grad 2048 c X (fun i j => D i j * G j) (i 0).val (i 1).val) ofBits_count).trans
    (grad_eq 2048 (by norm_num : (0 : ℝ) < 2048) X (fun i j => D i j * G j) (i 0).val (i 1).val (idx2_lt1 i))))
  rw [← ofBits_count]
  show _ + (Ideal.ofBits .f32 0x00000000#32 + _) * _ = _
  rw [Ideal.ofBits_zero_f32, zero_add]
  rfl

/-- The gradient of the gain. -/
theorem result_gain : val_main_v38 (F := Ideal) (mat (φ := .f32) X) (mat (φ := .bf16) D)
    = mat (φ := .f32) (fun _ j => gains 2048 (Ideal.ofBits .f32 0x45000000#32) X D 4096 j) := by
  funext i
  have h1 : (i 0).val = 0 := by have := idx2_lt0 i; omega
  rw [val_main_v38_apply, val_main_v25_apply, Fin.sum_univ_one, val_main_v22_apply, val_main_v21_apply]
  simp only [val_main_v20_apply, v14, val_main_v19_apply]
  show Ideal.ofBits .f32 0x00000000#32 + (Ideal.ofBits .f32 0x00000000#32 + ∑ k : Fin 4096, hat 2048 (Ideal.ofBits .f32 0x45000000#32) X k.val (0 * 2048 + ((i 0).val * 2048 + (i 1).val))
    * D k.val (0 * 2048 + ((i 0).val * 2048 + (i 1).val))) = _
  rw [h1, Nat.zero_mul, Nat.zero_add, Nat.zero_add, Ideal.ofBits_zero_f32, zero_add, zero_add]
  simp only [mul_comm (hat _ _ _ _ _)]
  exact (Finset.sum_range fun k => D k (i 1).val * hat 2048 (Ideal.ofBits .f32 0x45000000#32) X k (i 1).val).symm

end Cert.NormBRefIdeal.SB

end

end
-- ==== Proof.NormBEq.lean ====
/- The kernel of the norm's backward pass, of rows of 2048 elements, and its reference leave the same gradients. -/
module

public import proofs.«01_k».proof.Defs
public import proofs.«01_k».proof.Proof.Gen.NormBRefIdeal.Run
public import proofs.«01_k».proof.Proof.NormBArr
public import proofs.«01_k».proof.Proof.NormBRef

@[expose] public section

noncomputable section

namespace Cert.NormBEq

open Idealize.ShloMosaic Idealize.ShloMosaic.TcCoe Idealize.SL.Sem Cert.Prod Cert.Rms

/-- From whatever arguments, the kernel and its reference leave the same gradients of `x` and of the gain, and both keep
    their arguments. -/
theorem equation : Cert.algebraic_NormBIdeal_NormBRefIdeal (hNormBIdeal := Cert.NormBIdeal.Gen.facts)
    (hNormBRefIdeal := Cert.NormBRefIdeal.Gen.facts) := by
  intro m g m' g' _ hargs
  refine ⟨fun c => (Cert.NormBIdeal.Gen.dats m 0 c).arrAt 3 Cert.NormBIdeal.cfg0.N,
    fun c => (Cert.NormBIdeal.Gen.dats m 0 c).arrAt 4 Cert.NormBIdeal.cfg0.N,
    Cert.NormBIdeal.Value.run_blocks m g, ?_⟩
  refine (θ_run _ _ _).mono (fun r h c => ?_) (Cert.NormBRefIdeal.Value.run m' g')
  obtain ⟨X, h0⟩ := exists_mat (φ := .f32) (n0 := 4096) (n1 := 2048) (m ((c.tc : Thread Cert.NormBIdeal.nD Cert.NormBIdeal.τ).loc Cert.NormBIdeal.main_arg0))
  obtain ⟨G, h1⟩ := exists_vec (φ := .f32) (n0 := 2048) (m ((c.tc : Thread Cert.NormBIdeal.nD Cert.NormBIdeal.τ).loc Cert.NormBIdeal.main_arg1))
  obtain ⟨D, h2⟩ := exists_mat (φ := .bf16) (n0 := 4096) (n1 := 2048) (m ((c.tc : Thread Cert.NormBIdeal.nD Cert.NormBIdeal.τ).loc Cert.NormBIdeal.main_arg2))
  obtain ⟨e0, e1, e2⟩ := hargs c
  obtain ⟨r0, r1, k⟩ := h c
  refine ⟨r0.trans ?_, r1.trans ?_, k⟩
  · refine Eq.trans ?_ (Cert.NormBIdeal.SB.array3 m c h0 h1 h2).symm
    rw [Cert.NormBRefIdeal.Read.val_main_v37_eq, e0, e1, e2, h0, h1, h2]
    exact Cert.NormBRefIdeal.SB.result_x X D G
  · refine Eq.trans ?_ (Cert.NormBIdeal.SB.array4 m c h0 h1 h2).symm
    rw [Cert.NormBRefIdeal.Read.val_main_v38_eq, e0, e2, h0, h2]
    exact Cert.NormBRefIdeal.SB.result_gain X D

end Cert.NormBEq

end

end
-- ==== Proof.NormLArr.lean ====
/- The norm's kernel, of rows of 512 elements: its result array. -/
module

public import proofs.«01_k».proof.Proof.RmsBlock
public import proofs.«01_k».proof.Proof.Gen.NormLIdeal.Value
public import Idealize.ShloMosaic.Lib.Pipeline.ValueKit

@[expose] public section

-- the windows' blocks are checked by evaluation, whose terms nest deep
set_option maxRecDepth 16384

noncomputable section

namespace Cert.NormLIdeal.SB

open Cert.NormLIdeal Cert.NormLIdeal.Gen Cert.NormLIdeal.Value Idealize.ShloMosaic Idealize.ShloMosaic.TcCoe Idealize.ShloMosaic.StableHlo Idealize.SL.Sem Cert.Prod Cert.Rms

variable (m : (ℓ : Loc nD τ sig) → Buf (Elt Ideal) ℓ) (c : Dev nD) {X : ℕ → ℕ → EReal} {G : ℕ → EReal}

/-- The offsets of a load or store of a whole buffer. -/
theorem origin : (![0, 0] : Fin 2 → ℕ) = fun _ => 0 := by decide

/-- What a point stores. -/
theorem out (x : Vec Ideal S512x512 .f32) (g : Vec Ideal S1x512 .f32) : out0_2 (F := Ideal) x g = k0_pay1 x g := by
  unfold out0_2
  rw [View.ld_unit_zero (S := S512x512) origin, View.ld_unit_zero (S := S1x512) origin]
  exact View.canon_cons_unit_zero (S := S512x512) origin _ _ _

/-- The stored block, of arrays given by their elements. -/
theorem block (X : ℕ → ℕ → EReal) (G : ℕ → EReal) : k0_pay1 (mat (φ := .f32) X) (mat (φ := .f32) (fun _ j => G j))
    = (mat (fun i j => hat 512 (Ideal.ofBits .f32 0x44000000#32) X i j * G j) : FVec Ideal S512x512 .bf16) :=
  normBlk_mat 0x44000000#32 reduces_S512x512_S512 shapeCasts_S512_S512x1 broadcasts_S512x1_S512x512 shapeCasts_S1x512_S1x512 broadcasts_S1x512_S512x512 X G (by decide)

/-- The windows' block indices. -/
theorem idx : ∀ t : Fin cfg0.N, win0_0.index t = ![t.val, 0] ∧ win0_1.index t = ![0, 0] ∧ win0_2.index t = ![t.val, 0] :=
  (by decide +kernel : ∀ t : Fin grid0.N, _)

/-- The gain as the kernel finds it: a row. -/
theorem host_gain : V m c main_v0 = (shapeCast S1x512 (m ((c : Thread nD τ).loc main_arg1)) shapeCasts_S512_S1x512 : FVec Ideal S1x512 .f32) := by
  simp only [V, hostOps0, List.flatten_cons, List.flatten_nil, List.append_nil, TRef.unary, TRef.toBuf, TRef.ofBuf, cast_eq]
  after_results_simp <;> rfl

/-- A point's block of `x`: its rows. -/
theorem iblk_x (h0 : m ((c : Thread nD τ).loc main_arg0) = (mat X : FVec Ideal S4096x512 .f32)) (t : Fin cfg0.N) :
    iblk m c 0 t = (mat (rows (512 * t.val) X) : FVec Ideal S512x512 .f32) := by
  have e : V m c (Pipeline.arrRef spec0 0) = (mat X : FVec Ideal S4096x512 .f32) := (V_main_arg0 m c).trans h0
  unfold iblk
  rw [e]
  funext y
  blk_simp [(idx t).1, mat]
  simp only [rows, Nat.mul_comm, Nat.zero_mul, Nat.mul_zero, Nat.zero_add]

/-- A point's block of the gain: all of it. -/
theorem iblk_gain (h1 : m ((c : Thread nD τ).loc main_arg1) = (vec G : FVec Ideal S512 .f32)) (t : Fin cfg0.N) :
    iblk m c 1 t = (mat (fun _ j => G j) : FVec Ideal S1x512 .f32) := by
  have e : V m c (Pipeline.arrRef spec0 1) = (mat (fun _ j => G j) : FVec Ideal S1x512 .f32) := by
    refine (host_gain m c).trans ?_
    rw [h1]
    exact row_vec G _
  unfold iblk
  rw [e]
  funext y
  blk_simp [(idx t).2.1, mat]

/-- The result after the run. -/
theorem array2 (h0 : m ((c : Thread nD τ).loc main_arg0) = (mat X : FVec Ideal S4096x512 .f32))
    (h1 : m ((c : Thread nD τ).loc main_arg1) = (vec G : FVec Ideal S512 .f32)) :
    (dats m 0 c).arrAt 2 cfg0.N = (mat (fun i j => hat 512 (Ideal.ofBits .f32 0x44000000#32) X i j * G j) : FVec Ideal S4096x512 .bf16) := by
  refine (dats m 0 c).arrAt_eq_of_covers 2 _ (by decide +kernel) fun t hf y => ?_
  blk_simp
  rw [after0_2, iblk_x m c h0, iblk_gain m c h1, out, block]
  blk_simp [(idx t).2.2, mat]
  simp only [rows, hat, Rms.inv, Nat.mul_comm, Nat.zero_mul, Nat.mul_zero, Nat.zero_add]

end Cert.NormLIdeal.SB

end

end
-- ==== Proof.NormLEq.lean ====
/- The norm's kernel, of rows of 512 elements, and its reference leave the same result. -/
module

public import proofs.«01_k».proof.Defs
public import proofs.«01_k».proof.Proof.Gen.NormLRefIdeal.Read
public import proofs.«01_k».proof.Proof.Gen.NormLRefIdeal.Run
public import proofs.«01_k».proof.Proof.NormLArr

@[expose] public section

noncomputable section

namespace Cert.NormLRefIdeal.SB

open Cert.NormLRefIdeal Cert.NormLRefIdeal.Read Idealize.ShloMosaic Idealize.ShloMosaic.ValueIdx Cert.Prod Cert.Rms
open scoped BigOperators

/-- The reference's result, of arrays given by their elements. -/
theorem result (X : ℕ → ℕ → EReal) (G : ℕ → EReal) : val_main_v13 (F := Ideal) (mat (φ := .f32) X) (vec (φ := .f32) G)
    = mat (φ := .bf16) (fun i j => hat 512 (Ideal.ofBits .f32 0x44000000#32) X i j * G j) := by
  have mean : ∀ i : S4096x1.Idx, val_main_v6 (F := Ideal) (mat (φ := .f32) X) i
      = Ideal.div (∑ k ∈ Finset.range 512, X (i 0).val k * X (i 0).val k) (Ideal.ofBits .f32 0x44000000#32) + Ideal.ofBits .f32 0x358637BD#32 := fun i => by
    rw [val_main_v6_apply, val_main_v4_apply, val_main_v2_apply, val_main_v1_apply, val_main_v3_apply, val_main_v5_apply, ← sum_zero]
    rfl
  funext i
  rw [val_main_v13_apply, val_main_v12_apply, val_main_v9_apply, val_main_v8_apply, val_main_v7_apply, mean, val_main_v11_apply, val_main_v10_apply]
  rfl

end Cert.NormLRefIdeal.SB

namespace Cert.NormLEq

open Idealize.ShloMosaic Idealize.ShloMosaic.TcCoe Idealize.SL.Sem Cert.Prod Cert.Rms

/-- From whatever arguments, the kernel and its reference leave the same normed array, and both keep their arguments. -/
theorem equation : Cert.algebraic_NormLIdeal_NormLRefIdeal (hNormLIdeal := Cert.NormLIdeal.Gen.facts)
    (hNormLRefIdeal := Cert.NormLRefIdeal.Gen.facts) := by
  intro m g m' g' _ hargs
  refine ⟨fun c => (Cert.NormLIdeal.Gen.dats m 0 c).arrAt 2 Cert.NormLIdeal.cfg0.N, Cert.NormLIdeal.Value.run_blocks m g, ?_⟩
  refine (θ_run _ _ _).mono (fun r h c => ?_) (Cert.NormLRefIdeal.Value.run m' g')
  obtain ⟨X, h0⟩ := exists_mat (φ := .f32) (n0 := 4096) (n1 := 512) (m ((c.tc : Thread Cert.NormLIdeal.nD Cert.NormLIdeal.τ).loc Cert.NormLIdeal.main_arg0))
  obtain ⟨G, h1⟩ := exists_vec (φ := .f32) (n0 := 512) (m ((c.tc : Thread Cert.NormLIdeal.nD Cert.NormLIdeal.τ).loc Cert.NormLIdeal.main_arg1))
  obtain ⟨e0, e1⟩ := hargs c
  obtain ⟨r0, k⟩ := h c
  refine ⟨r0.trans ?_, k⟩
  refine Eq.trans ?_ (Cert.NormLIdeal.SB.array2 m c h0 h1).symm
  rw [Cert.NormLRefIdeal.Read.val_main_v13_eq, e0, e1, h0, h1]
  exact Cert.NormLRefIdeal.SB.result X G

end Cert.NormLEq

end

end
-- ==== Proof.NormLBArr.lean ====
/- The kernel of the norm's backward pass, of rows of 512 elements: its two result arrays, the gradient of `x` and the gradient
   of the gain. -/
module

public import proofs.«01_k».proof.Proof.RmsBlock
public import proofs.«01_k».proof.Proof.Gen.NormLBIdeal.Value
public import Idealize.ShloMosaic.Lib.Pipeline.ValueKit

@[expose] public section

-- the windows' blocks and the points' cases are checked by evaluation, whose terms nest deep
set_option maxRecDepth 16384

noncomputable section

namespace Cert.NormLBIdeal.SB

open Cert.NormLBIdeal Cert.NormLBIdeal.Gen Cert.NormLBIdeal.Value Idealize.ShloMosaic Idealize.ShloMosaic.TcCoe Idealize.ShloMosaic.StableHlo Idealize.SL.Sem Cert.Prod Cert.Rms
open scoped BigOperators

/-! ## What a point stores -/

section Points
variable (c : Dev nD) (i : grid0.Coords) (arg1 : Memref sig .tc .vmem S512x512 .f32) (harg1 : arg1.IsWhole)
  (arg2 : Memref sig .tc .vmem S1x512 .f32) (harg2 : arg2.IsWhole) (arg3 : Memref sig .tc .vmem S512x512 .bf16) (harg3 : arg3.IsWhole)
  (arg4 : Memref sig .tc .vmem S512x512 .f32) (harg4 : arg4.IsWhole) (arg5 : Memref sig .tc .vmem S1x512 .f32) (harg5 : arg5.IsWhole)
  (x0 : Vec Ideal S512x512 .f32) (x1 : Vec Ideal S1x512 .f32) (x2 : Vec Ideal S512x512 .bf16) (g : Vec Ideal S1x512 .f32)

/-- The offsets of a load or store of a whole buffer. -/
theorem origin : (![0, 0] : Fin 2 → ℕ) = fun _ => 0 := by decide

section First
variable (hc0 : cond0_0 i)

/-- The first point's block of the gradient of `x`. -/
theorem outA3 : out0_A_3 (F := Ideal) c i arg1 harg1 arg2 harg2 arg3 harg3 arg4 harg4 arg5 harg5 hc0 x0 x1 x2 = k0_pay5 x0 x2 x1 := by
  unfold out0_A_3
  rw [View.read_writes_eq_canon _ _ _ (cover0_A_3 c i arg1 harg1 arg2 harg2 arg3 harg3 arg4 harg4 arg5 harg5 hc0 _ _ _)]
  unfold kernelRun0_A
  dsimp only
  sl_unfold_words
  simp only [View.readAt_eq_ld, harg1.read_unread, harg2.read_unread, harg3.read_unread, harg5.read_unread,
    View.readCov_cons_toLoadRect, View.ld_unit_zero (S := S512x512) origin, View.ld_unit_zero (S := S1x512) origin]
  exact View.canon_cons_unit_zero (S := S512x512) origin _ _ _

/-- The first point's gradient of the gain starts from zero. -/
theorem outA4 : out0_A_4 (F := Ideal) c i arg1 harg1 arg2 harg2 arg3 harg3 arg4 harg4 arg5 harg5 hc0 x0 x1 x2 = k0_pay6 (F := Ideal) x0 x2 (k0_pay1 (F := Ideal)) := by
  unfold out0_A_4
  rw [View.read_writes_eq_canon _ _ _ (cover0_A_4 c i arg1 harg1 arg2 harg2 arg3 harg3 arg4 harg4 arg5 harg5 hc0 _ _ _)]
  unfold kernelRun0_A
  dsimp only
  sl_unfold_words
  simp only [View.readAt_eq_ld, harg1.read_unread, harg2.read_unread, harg3.read_unread, harg5.read_unread,
    View.readCov_cons_toLoadRect, View.ld_unit_zero (S := S512x512) origin, View.ld_unit_zero (S := S1x512) origin]
  exact View.canon_cons_unit_zero (S := S1x512) origin _ _ _

end First

section Later
variable (hc0 : ¬cond0_0 i)

/-- A later point's block of the gradient of `x`. -/
theorem outB3 : out0_B_3 (F := Ideal) c i arg1 harg1 arg2 harg2 arg3 harg3 arg4 harg4 arg5 harg5 hc0 x0 x1 x2 g = k0_pay5 x0 x2 x1 := by
  unfold out0_B_3
  rw [View.read_writes_eq_canon _ _ _ (cover0_B_3 c i arg1 harg1 arg2 harg2 arg3 harg3 arg4 harg4 arg5 harg5 hc0 _ _ _ _)]
  unfold kernelRun0_B
  dsimp only
  sl_unfold_words
  simp only [View.readAt_eq_ld, harg1.read_unread, harg2.read_unread, harg3.read_unread, harg5.read_unread,
    View.readCov_cons_toLoadRect, View.ld_unit_zero (S := S512x512) origin, View.ld_unit_zero (S := S1x512) origin]
  exact View.canon_cons_unit_zero (S := S512x512) origin _ _ _

/-- A later point adds to the gradient of the gain. -/
theorem outB4 : out0_B_4 (F := Ideal) c i arg1 harg1 arg2 harg2 arg3 harg3 arg4 harg4 arg5 harg5 hc0 x0 x1 x2 g = k0_pay6 x0 x2 g := by
  unfold out0_B_4
  rw [View.read_writes_eq_canon _ _ _ (cover0_B_4 c i arg1 harg1 arg2 harg2 arg3 harg3 arg4 harg4 arg5 harg5 hc0 _ _ _ _)]
  unfold kernelRun0_B
  dsimp only
  sl_unfold_words
  simp only [View.readAt_eq_ld, harg1.read_unread, harg2.read_unread, harg3.read_unread, harg5.read_unread,
    View.readCov_cons_toLoadRect, View.ld_unit_zero (S := S512x512) origin, View.ld_unit_zero (S := S1x512) origin]
  exact View.canon_cons_unit_zero (S := S1x512) origin _ _ _

end Later

end Points

/-! ## The stored blocks, of arrays given by their elements -/

section Blocks
variable (X D : ℕ → ℕ → EReal) (G : ℕ → EReal)

/-- The block of the gradient of `x`. -/
theorem block_x : k0_pay5 (mat (φ := .f32) X) (mat (φ := .bf16) D) (mat (φ := .f32) (fun _ j => G j))
    = (mat (grad 512 (Ideal.ofBits .f32 0x44000000#32) X (fun i j => D i j * G j)) : FVec Ideal S512x512 .f32) :=
  gradBlk_mat 0x44000000#32 reduces_S512x512_S512 shapeCasts_S512_S512x1 broadcasts_S512x1_S512x512 shapeCasts_S1x512_S1x512 broadcasts_S1x512_S512x512 X D G (by decide)

/-- What is added to the gradient of the gain. -/
theorem block_gain : k0_pay6 (mat (φ := .f32) X) (mat (φ := .bf16) D) (mat (φ := .f32) (fun _ j => G j))
    = (mat (fun _ j => G j + ∑ i ∈ Finset.range 512, D i j * hat 512 (Ideal.ofBits .f32 0x44000000#32) X i j) : FVec Ideal S1x512 .f32) :=
  gainsBlk_mat 0x44000000#32 reduces_S512x512_S512 shapeCasts_S512_S512x1 broadcasts_S512x1_S512x512 shapeCasts_S1x512_S1x512 reduces_S512x512_S512_2 shapeCasts_S512_S1x512 X D G

theorem zero_gain : (k0_pay1 : FVec Ideal S1x512 .f32) = mat (fun _ _ => 0) := by
  unfold k0_pay1
  simp only [broadcast_mat, Ideal.ofBits_zero_f32]

end Blocks

/-! ## The arrays -/

variable (m : (ℓ : Loc nD τ sig) → Buf (Elt Ideal) ℓ) (c : Dev nD) {X D : ℕ → ℕ → EReal} {G : ℕ → EReal}

/-- The windows' block indices. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-- The gain as the kernel finds it: a row. -/
theorem host_gain : V m c main_v0 = (shapeCast S1x512 (m ((c : Thread nD τ).loc main_arg1)) shapeCasts_S512_S1x512 : FVec Ideal S1x512 .f32) := by
  simp only [V, hostOps0, List.flatten_cons, List.flatten_nil, List.append_nil, TRef.unary, TRef.toBuf, TRef.ofBuf, cast_eq]
  after_results_simp <;> rfl

/-- A point's block of `x`: its rows. -/
theorem iblk_x (h0 : m ((c : Thread nD τ).loc main_arg0) = (mat X : FVec Ideal S4096x512 .f32)) (t : Fin cfg0.N) :
    iblk m c 0 t = (mat (rows (512 * t.val) X) : FVec Ideal S512x512 .f32) := by
  have e : V m c (Pipeline.arrRef spec0 0) = (mat X : FVec Ideal S4096x512 .f32) := (V_main_arg0 m c).trans h0
  unfold iblk
  rw [e]
  funext y
  blk_simp [(idx t).1, mat]
  simp only [rows, Nat.mul_comm, Nat.zero_mul, Nat.mul_zero, Nat.zero_add]

/-- A point's block of the gain: all of it. -/
theorem iblk_gain (h1 : m ((c : Thread nD τ).loc main_arg1) = (vec G : FVec Ideal S512 .f32)) (t : Fin cfg0.N) :
    iblk m c 1 t = (mat (fun _ j => G j) : FVec Ideal S1x512 .f32) := by
  have e : V m c (Pipeline.arrRef spec0 1) = (mat (fun _ j => G j) : FVec Ideal S1x512 .f32) := by
    refine (host_gain m c).trans ?_
    rw [h1]
    exact row_vec G _
  unfold iblk
  rw [e]
  funext y
  blk_simp [(idx t).2.1, mat]

/-- A point's block of the result's gradient: its rows. -/
theorem iblk_d (h2 : m ((c : Thread nD τ).loc main_arg2) = (mat D : FVec Ideal S4096x512 .bf16)) (t : Fin cfg0.N) :
    iblk m c 2 t = (mat (rows (512 * t.val) D) : FVec Ideal S512x512 .bf16) := by
  have e : V m c (Pipeline.arrRef spec0 2) = (mat D : FVec Ideal S4096x512 .bf16) := (V_main_arg2 m c).trans h2
  unfold iblk
  rw [e]
  funext y
  blk_simp [(idx t).2.2.1, mat]
  simp only [rows, Nat.mul_comm, Nat.zero_mul, Nat.mul_zero, Nat.zero_add]

variable (h0 : m ((c : Thread nD τ).loc main_arg0) = (mat X : FVec Ideal S4096x512 .f32))
  (h1 : m ((c : Thread nD τ).loc main_arg1) = (vec G : FVec Ideal S512 .f32))
  (h2 : m ((c : Thread nD τ).loc main_arg2) = (mat D : FVec Ideal S4096x512 .bf16))
include h0 h1 h2

/-- After every point the gradient of the gain holds the sums over the rows of the points so far. -/
theorem sums : ∀ t : Fin cfg0.N,
    (outsAt0 m c t.val t.isLt).2 = (mat (fun _ j => gains 512 (Ideal.ofBits .f32 0x44000000#32) X D (512 * t.val + 512) j) : FVec Ideal S1x512 .f32) := by
  rintro ⟨n, hn⟩
  induction n with
  | zero =>
    have hz : (⟨0, hn⟩ : Fin cfg0.N).val % 8 = 0 := Nat.zero_mod _
    have ht : (⟨0, hn⟩ : Fin cfg0.N).val = 0 := rfl
    generalize (⟨0, hn⟩ : Fin cfg0.N) = t at hz ht ⊢
    refine (congrArg (fun x => x.2) (outsAt0_A m c t hz)).trans ?_
    dsimp only
    rw [iblk_x m c h0, iblk_gain m c h1, iblk_d m c h2, outA4, zero_gain, block_gain, ht]
    simp only [← gains_add]
    rfl
  | succ n ih =>
    have hN : n + 1 < 8 := hn
    have ih : (outsAt0 m c ((⟨n + 1, hn⟩ : Fin cfg0.N).val - 1) (Nat.lt_of_le_of_lt (Nat.sub_le _ _) (⟨n + 1, hn⟩ : Fin cfg0.N).isLt)).2
      = (mat (fun _ j => gains 512 (Ideal.ofBits .f32 0x44000000#32) X D (512 * (⟨n + 1, hn⟩ : Fin cfg0.N).val) j) : FVec Ideal S1x512 .f32) := ih (Nat.lt_of_succ_lt hn)
    have hz : ¬(⟨n + 1, hn⟩ : Fin cfg0.N).val % 8 = 0 := by dsimp only; omega
    generalize (⟨n + 1, hn⟩ : Fin cfg0.N) = t at hz ih ⊢
    refine (congrArg (fun x => x.2) (outsAt0_B m c t hz)).trans ?_
    dsimp only
    rw [ih, iblk_x m c h0, iblk_gain m c h1, iblk_d m c h2, outB4, block_gain]
    simp only [← gains_add]

/-- The block of the gradient of `x` that a point leaves: its rows. -/
theorem block3 (t : Fin cfg0.N) : (outsAt0 m c t.val t.isLt).1
    = (mat (rows (512 * t.val) (grad 512 (Ideal.ofBits .f32 0x44000000#32) X (fun i j => D i j * G j))) : FVec Ideal S512x512 .f32) := by
  by_cases hz : t.val % 8 = 0
  · refine (congrArg (fun x => x.1) (outsAt0_A m c t hz)).trans ?_
    dsimp only
    rw [iblk_x m c h0, iblk_gain m c h1, iblk_d m c h2, outA3, block_x]
    rfl
  · refine (congrArg (fun x => x.1) (outsAt0_B m c t hz)).trans ?_
    dsimp only
    rw [iblk_x m c h0, iblk_gain m c h1, iblk_d m c h2, outB3, block_x]
    rfl

/-- The gradient of `x` after the run. -/
theorem array3 : (dats m 0 c).arrAt 3 cfg0.N
    = (mat (grad 512 (Ideal.ofBits .f32 0x44000000#32) X (fun i j => D i j * G j)) : FVec Ideal S4096x512 .f32) := by
  refine (dats m 0 c).arrAt_eq_of_covers 3 _ (by decide +kernel) fun t hf y => ?_
  blk_simp
  rw [after0_3, block3 m c h0 h1 h2]
  blk_simp [(idx t).2.2.2.1, mat]
  simp only [rows, Nat.mul_comm, Nat.zero_mul, Nat.mul_zero, Nat.zero_add]

/-- The gradient of the gain after the run. -/
theorem array4 : (dats m 0 c).arrAt 4 cfg0.N = (mat (fun _ j => gains 512 (Ideal.ofBits .f32 0x44000000#32) X D 4096 j) : FVec Ideal S1x512 .f32) := by
  refine (dats m 0 c).arrAt_eq_of_covers 4 _ (by decide +kernel) fun t hf y => ?_
  have hN : t.val < 8 := t.isLt
  have hm : t.val = 7 := by have := (flush0_4 t).mp hf; omega
  blk_simp
  rw [after0_4, sums m c h0 h1 h2 t, hm]
  blk_simp [(idx t).2.2.2.2, mat]

end Cert.NormLBIdeal.SB

end

end
-- ==== Proof.NormLBRef.lean ====
/- The two results of the reference of the norm's backward pass, of rows of 512 elements, on arrays given by their elements. -/
module

public import proofs.«01_k».proof.Proof.Gen.NormLBRefIdeal.Read
public import proofs.«01_k».proof.Proof.Rms

@[expose] public section

noncomputable section

namespace Cert.NormLBRefIdeal.SB

open Cert.NormLBRefIdeal Cert.NormLBRefIdeal.Read Idealize.ShloMosaic Idealize.ShloMosaic.ValueIdx Cert.Prod Cert.Rms
open scoped BigOperators

variable (X D : ℕ → ℕ → EReal) (G : ℕ → EReal)

/-- The mean square of a row, with the epsilon. -/
theorem mean (i : S4096x1.Idx) : val_main_v8 (F := Ideal) (mat (φ := .f32) X) i
    = Ideal.div (∑ k ∈ Finset.range 512, X (i 0).val k * X (i 0).val k) (Ideal.ofBits .f32 0x44000000#32) + Ideal.ofBits .f32 0x358637BD#32 := by
  rw [val_main_v8_apply, val_main_v6_apply, val_main_v4_apply, val_main_v3_apply, val_main_v5_apply, val_main_v7_apply, ← sum_zero]
  rfl

theorem v9 (i : S4096x1.Idx) : val_main_v9 (F := Ideal) (mat (φ := .f32) X) i = inv 512 (Ideal.ofBits .f32 0x44000000#32) X (i 0).val := by
  rw [val_main_v9_apply, mean]
  rfl

/-- The normed element. -/
theorem v14 (i : S4096x512.Idx) : val_main_v14 (F := Ideal) (mat (φ := .f32) X) i = hat 512 (Ideal.ofBits .f32 0x44000000#32) X (i 0).val (i 1).val := by
  rw [val_main_v14_apply, val_main_v13_apply, v9]
  rfl

/-- The gradient of the normed element. -/
theorem v24 (i : S4096x512.Idx) : val_main_v24 (F := Ideal) (vec (φ := .f32) G) (mat (φ := .bf16) D) i = D (i 0).val (i 1).val * G (i 1).val := by
  rw [val_main_v24_apply, val_main_v19_apply, val_main_v23_apply, val_main_v15_apply]
  rfl

/-- A row's sum of the element times the gradient of the normed element. -/
theorem v28 (i : S4096x1.Idx) : val_main_v28 (F := Ideal) (mat (φ := .f32) X) (vec (φ := .f32) G) (mat (φ := .bf16) D) i
    = ∑ k ∈ Finset.range 512, X (i 0).val k * (D (i 0).val k * G k) := by
  have h1 : (i 1).val = 0 := by have := idx2_lt1 i; omega
  rw [val_main_v28_apply, val_main_v27_apply, ← sum_zero]
  simp only [val_main_v26_apply, v24]
  show Ideal.ofBits .f32 0x00000000#32 + ∑ k : Fin 512, X ((i 0).val * 1 + (i 1).val) k.val * (D ((i 0).val * 1 + (i 1).val) k.val * G k.val) = _
  rw [h1, Nat.mul_one, Nat.add_zero]

/-- What the inverse root of the mean square adds to a row's gradient, but for the element. -/
theorem v33 (i : S4096x1.Idx) : val_main_v33 (F := Ideal) (mat (φ := .f32) X) (vec (φ := .f32) G) (mat (φ := .bf16) D) i
    = Ideal.div ((∑ k ∈ Finset.range 512, X (i 0).val k * (D (i 0).val k * G k)) * (Ideal.ofBits .f32 0xBF000000#32
        * Ideal.div (inv 512 (Ideal.ofBits .f32 0x44000000#32) X (i 0).val)
          (Ideal.div (∑ k ∈ Finset.range 512, X (i 0).val k * X (i 0).val k) (Ideal.ofBits .f32 0x44000000#32) + Ideal.ofBits .f32 0x358637BD#32)))
      (Ideal.ofBits .f32 0x44000000#32) := by
  rw [val_main_v33_apply, val_main_v31_apply, v28, val_main_v12_apply, val_main_v11_apply, val_main_v10_apply, v9, mean, val_main_v32_apply]
  rfl

/-- The gradient of `x`. -/
theorem result_x : val_main_v37 (F := Ideal) (mat (φ := .f32) X) (vec (φ := .f32) G) (mat (φ := .bf16) D)
    = mat (φ := .f32) (grad 512 (Ideal.ofBits .f32 0x44000000#32) X (fun i j => D i j * G j)) := by
  funext i
  rw [val_main_v37_apply, val_main_v30_apply, v24, val_main_v29_apply, v9, val_main_v36_apply, val_main_v35_apply, val_main_v34_apply,
    Fin.sum_univ_one, v33, val_main_v2_apply, val_main_v1_apply]
  refine Eq.trans ?_ (Eq.symm ((congrArg (fun c => grad 512 c X (fun i j => D i j * G j) (i 0).val (i 1).val) ofBits_narrow).trans
    (grad_eq 512 (by norm_num : (0 : ℝ) < 512) X (fun i j => D i j * G j) (i 0).val (i 1).val (idx2_lt1 i))))
  rw [← ofBits_narrow]
  show _ + (Ideal.ofBits .f32 0x00000000#32 + _) * _ = _
  rw [Ideal.ofBits_zero_f32, zero_add]
  rfl

/-- The gradient of the gain. -/
theorem result_gain : val_main_v38 (F := Ideal) (mat (φ := .f32) X) (mat (φ := .bf16) D)
    = mat (φ := .f32) (fun _ j => gains 512 (Ideal.ofBits .f32 0x44000000#32) X D 4096 j) := by
  funext i
  have h1 : (i 0).val = 0 := by have := idx2_lt0 i; omega
  rw [val_main_v38_apply, val_main_v25_apply, Fin.sum_univ_one, val_main_v22_apply, val_main_v21_apply]
  simp only [val_main_v20_apply, v14, val_main_v19_apply]
  show Ideal.ofBits .f32 0x00000000#32 + (Ideal.ofBits .f32 0x00000000#32 + ∑ k : Fin 4096, hat 512 (Ideal.ofBits .f32 0x44000000#32) X k.val (0 * 512 + ((i 0).val * 512 + (i 1).val))
    * D k.val (0 * 512 + ((i 0).val * 512 + (i 1).val))) = _
  rw [h1, Nat.zero_mul, Nat.zero_add, Nat.zero_add, Ideal.ofBits_zero_f32, zero_add, zero_add]
  simp only [mul_comm (hat _ _ _ _ _)]
  exact (Finset.sum_range fun k => D k (i 1).val * hat 512 (Ideal.ofBits .f32 0x44000000#32) X k (i 1).val).symm

end Cert.NormLBRefIdeal.SB

end

end
-- ==== Proof.NormLBEq.lean ====
/- The kernel of the norm's backward pass, of rows of 512 elements, and its reference leave the same gradients. -/
module

public import proofs.«01_k».proof.Defs
public import proofs.«01_k».proof.Proof.Gen.NormLBRefIdeal.Run
public import proofs.«01_k».proof.Proof.NormLBArr
public import proofs.«01_k».proof.Proof.NormLBRef

@[expose] public section

noncomputable section

namespace Cert.NormLBEq

open Idealize.ShloMosaic Idealize.ShloMosaic.TcCoe Idealize.SL.Sem Cert.Prod Cert.Rms

/-- From whatever arguments, the kernel and its reference leave the same gradients of `x` and of the gain, and both keep
    their arguments. -/
theorem equation : Cert.algebraic_NormLBIdeal_NormLBRefIdeal (hNormLBIdeal := Cert.NormLBIdeal.Gen.facts)
    (hNormLBRefIdeal := Cert.NormLBRefIdeal.Gen.facts) := by
  intro m g m' g' _ hargs
  refine ⟨fun c => (Cert.NormLBIdeal.Gen.dats m 0 c).arrAt 3 Cert.NormLBIdeal.cfg0.N,
    fun c => (Cert.NormLBIdeal.Gen.dats m 0 c).arrAt 4 Cert.NormLBIdeal.cfg0.N,
    Cert.NormLBIdeal.Value.run_blocks m g, ?_⟩
  refine (θ_run _ _ _).mono (fun r h c => ?_) (Cert.NormLBRefIdeal.Value.run m' g')
  obtain ⟨X, h0⟩ := exists_mat (φ := .f32) (n0 := 4096) (n1 := 512) (m ((c.tc : Thread Cert.NormLBIdeal.nD Cert.NormLBIdeal.τ).loc Cert.NormLBIdeal.main_arg0))
  obtain ⟨G, h1⟩ := exists_vec (φ := .f32) (n0 := 512) (m ((c.tc : Thread Cert.NormLBIdeal.nD Cert.NormLBIdeal.τ).loc Cert.NormLBIdeal.main_arg1))
  obtain ⟨D, h2⟩ := exists_mat (φ := .bf16) (n0 := 4096) (n1 := 512) (m ((c.tc : Thread Cert.NormLBIdeal.nD Cert.NormLBIdeal.τ).loc Cert.NormLBIdeal.main_arg2))
  obtain ⟨e0, e1, e2⟩ := hargs c
  obtain ⟨r0, r1, k⟩ := h c
  refine ⟨r0.trans ?_, r1.trans ?_, k⟩
  · refine Eq.trans ?_ (Cert.NormLBIdeal.SB.array3 m c h0 h1 h2).symm
    rw [Cert.NormLBRefIdeal.Read.val_main_v37_eq, e0, e1, e2, h0, h1, h2]
    exact Cert.NormLBRefIdeal.SB.result_x X D G
  · refine Eq.trans ?_ (Cert.NormLBIdeal.SB.array4 m c h0 h1 h2).symm
    rw [Cert.NormLBRefIdeal.Read.val_main_v38_eq, e0, e2, h0, h2]
    exact Cert.NormLBRefIdeal.SB.result_gain X D

end Cert.NormLBEq

end

end
-- ==== Proof.LossOut.lean ====
/- What the points of the loss kernel store. -/
module

public import proofs.«01_k».proof.Proof.Rms
public import proofs.«01_k».proof.Proof.Gen.LossIdeal.Value
public import Idealize.ShloMosaic.Lib.Pipeline.ValueKit

@[expose] public section

noncomputable section

namespace Cert.LossIdeal.SB

open Cert.LossIdeal Cert.LossIdeal.Gen Idealize.ShloMosaic Idealize.ShloMosaic.TcCoe Idealize.SL.Sem Cert.Prod Cert.Rms

variable (c : Dev nD) (i : grid0.Coords) (arg1 : Memref sig .tc .vmem S256x2048 .f32) (harg1 : arg1.IsWhole)
  (arg2 : Memref sig .tc .vmem S1x2048 .f32) (harg2 : arg2.IsWhole) (arg3 : Memref sig .tc .vmem S256x2048 .f32) (harg3 : arg3.IsWhole)
  (arg4 : Memref sig .tc .vmem S1x128 .f32) (harg4 : arg4.IsWhole) (arg5 : Memref sig .tc .vmem S256x2048 .f32) (harg5 : arg5.IsWhole)
  (arg6 : Memref sig .tc .vmem S1x2048 .f32) (harg6 : arg6.IsWhole)
  (x0 : Vec Ideal S256x2048 .f32) (x1 : Vec Ideal S1x2048 .f32) (x2 : Vec Ideal S256x2048 .f32) (s : Vec Ideal S1x128 .f32) (g : Vec Ideal S1x2048 .f32)

/-- The offsets of a load or store of a whole buffer. -/
theorem origin : (![0, 0] : Fin 2 → ℕ) = fun _ => 0 := by decide

section First
variable (hc0 : cond0_0 i)

/-- The first point's loss starts from zero. -/
theorem outA3 : out0_A_3 (F := Ideal) c i arg1 harg1 arg2 harg2 arg3 harg3 arg4 harg4 arg5 harg5 arg6 harg6 hc0 x0 x1 x2 = k0_pay8 (F := Ideal) x0 x1 x2 (k0_pay3 (F := Ideal)) := by
  unfold out0_A_3
  rw [View.read_writes_eq_canon _ _ _ (cover0_A_3 c i arg1 harg1 arg2 harg2 arg3 harg3 arg4 harg4 arg5 harg5 arg6 harg6 hc0 _ _ _)]
  unfold kernelRun0_A
  dsimp only
  sl_unfold_words
  simp only [View.readAt_eq_ld, harg1.read_unread, harg2.read_unread, harg3.read_unread, harg4.read_unread, harg6.read_unread,
    View.readCov_cons_toLoadRect, View.ld_unit_zero (S := S256x2048) origin, View.ld_unit_zero (S := S1x2048) origin, View.ld_unit_zero (S := S1x128) origin]
  exact View.canon_cons_unit_zero (S := S1x128) origin _ _ _

/-- The first point's block of the gradient of `x`. -/
theorem outA4 : out0_A_4 (F := Ideal) c i arg1 harg1 arg2 harg2 arg3 harg3 arg4 harg4 arg5 harg5 arg6 harg6 hc0 x0 x1 x2 = k0_pay1 (k0_pay5 x0) (k0_pay6 x0) (k0_pay10 x0 x1 x2 x1) := by
  unfold out0_A_4
  rw [View.read_writes_eq_canon _ _ _ (cover0_A_4 c i arg1 harg1 arg2 harg2 arg3 harg3 arg4 harg4 arg5 harg5 arg6 harg6 hc0 _ _ _)]
  unfold kernelRun0_A
  dsimp only
  sl_unfold_words
  simp only [View.readAt_eq_ld, harg1.read_unread, harg2.read_unread, harg3.read_unread, harg4.read_unread, harg6.read_unread,
    View.readCov_cons_toLoadRect, View.ld_unit_zero (S := S256x2048) origin, View.ld_unit_zero (S := S1x2048) origin, View.ld_unit_zero (S := S1x128) origin]
  exact View.canon_cons_unit_zero (S := S256x2048) origin _ _ _

/-- The first point's gradient of the gain starts from zero. -/
theorem outA5 : out0_A_5 (F := Ideal) c i arg1 harg1 arg2 harg2 arg3 harg3 arg4 harg4 arg5 harg5 arg6 harg6 hc0 x0 x1 x2 = k0_pay2 (F := Ideal) (k0_pay6 x0) (k0_pay9 x0 x1 x2) (k0_pay4 (F := Ideal)) := by
  unfold out0_A_5
  rw [View.read_writes_eq_canon _ _ _ (cover0_A_5 c i arg1 harg1 arg2 harg2 arg3 harg3 arg4 harg4 arg5 harg5 arg6 harg6 hc0 _ _ _)]
  unfold kernelRun0_A
  dsimp only
  sl_unfold_words
  simp only [View.readAt_eq_ld, harg1.read_unread, harg2.read_unread, harg3.read_unread, harg4.read_unread, harg6.read_unread,
    View.readCov_cons_toLoadRect, View.ld_unit_zero (S := S256x2048) origin, View.ld_unit_zero (S := S1x2048) origin, View.ld_unit_zero (S := S1x128) origin]
  exact View.canon_cons_unit_zero (S := S1x2048) origin _ _ _

end First

section Later
variable (hc0 : ¬cond0_0 i)

/-- A later point adds to the loss. -/
theorem outB3 : out0_B_3 (F := Ideal) c i arg1 harg1 arg2 harg2 arg3 harg3 arg4 harg4 arg5 harg5 arg6 harg6 hc0 x0 x1 x2 s g = k0_pay8 x0 x1 x2 s := by
  unfold out0_B_3
  rw [View.read_writes_eq_canon _ _ _ (cover0_B_3 c i arg1 harg1 arg2 harg2 arg3 harg3 arg4 harg4 arg5 harg5 arg6 harg6 hc0 _ _ _ _ _)]
  unfold kernelRun0_B
  dsimp only
  sl_unfold_words
  simp only [View.readAt_eq_ld, harg1.read_unread, harg2.read_unread, harg3.read_unread, harg4.read_unread, harg6.read_unread,
    View.readCov_cons_toLoadRect, View.ld_unit_zero (S := S256x2048) origin, View.ld_unit_zero (S := S1x2048) origin, View.ld_unit_zero (S := S1x128) origin]
  exact View.canon_cons_unit_zero (S := S1x128) origin _ _ _

/-- A later point's block of the gradient of `x`. -/
theorem outB4 : out0_B_4 (F := Ideal) c i arg1 harg1 arg2 harg2 arg3 harg3 arg4 harg4 arg5 harg5 arg6 harg6 hc0 x0 x1 x2 s g = k0_pay1 (k0_pay5 x0) (k0_pay6 x0) (k0_pay10 x0 x1 x2 x1) := by
  unfold out0_B_4
  rw [View.read_writes_eq_canon _ _ _ (cover0_B_4 c i arg1 harg1 arg2 harg2 arg3 harg3 arg4 harg4 arg5 harg5 arg6 harg6 hc0 _ _ _ _ _)]
  unfold kernelRun0_B
  dsimp only
  sl_unfold_words
  simp only [View.readAt_eq_ld, harg1.read_unread, harg2.read_unread, harg3.read_unread, harg4.read_unread, harg6.read_unread,
    View.readCov_cons_toLoadRect, View.ld_unit_zero (S := S256x2048) origin, View.ld_unit_zero (S := S1x2048) origin, View.ld_unit_zero (S := S1x128) origin]
  exact View.canon_cons_unit_zero (S := S256x2048) origin _ _ _

/-- A later point adds to the gradient of the gain. -/
theorem outB5 : out0_B_5 (F := Ideal) c i arg1 harg1 arg2 harg2 arg3 harg3 arg4 harg4 arg5 harg5 arg6 harg6 hc0 x0 x1 x2 s g = k0_pay2 (k0_pay6 x0) (k0_pay9 x0 x1 x2) g := by
  unfold out0_B_5
  rw [View.read_writes_eq_canon _ _ _ (cover0_B_5 c i arg1 harg1 arg2 harg2 arg3 harg3 arg4 harg4 arg5 harg5 arg6 harg6 hc0 _ _ _ _ _)]
  unfold kernelRun0_B
  dsimp only
  sl_unfold_words
  simp only [View.readAt_eq_ld, harg1.read_unread, harg2.read_unread, harg3.read_unread, harg4.read_unread, harg6.read_unread,
    View.readCov_cons_toLoadRect, View.ld_unit_zero (S := S256x2048) origin, View.ld_unit_zero (S := S1x2048) origin, View.ld_unit_zero (S := S1x128) origin]
  exact View.canon_cons_unit_zero (S := S1x2048) origin _ _ _

end Later

/-! ## The stored blocks, of arrays given by their elements -/

section Blocks
variable (X T : ℕ → ℕ → EReal) (G : ℕ → EReal)

/-- The error: the normed element times its gain, less the target. -/
def err (i j : ℕ) : EReal := hat 2048 (Ideal.ofBits .f32 0x45000000#32) X i j * G j - T i j

/-- The gradient of the normed element times its gain. -/
def dy (i j : ℕ) : EReal := err X T G i j * Ideal.ofBits .f32 0x3A000000#32

/-- The sums of a block's rows, as the body takes them. -/
def sum1 (x : FVec Ideal S256x2048 .f32) : FVec Ideal S256x1 .f32 :=
  shapeCast S256x1 (multiReduction .add [1] S256 x 0x00000000#32 reduces_S256x2048_S256 (.inl rfl) rfl) shapeCasts_S256_S256x1
theorem sum1_mat (f : ℕ → ℕ → EReal) : sum1 (mat f) = mat (fun i _ => ∑ j ∈ Finset.range 2048, f i j) := rowSums_mat f _ _

/-- The sums of a block's columns, as the body takes them. -/
def sum0 (x : FVec Ideal S256x2048 .f32) : FVec Ideal S1x2048 .f32 :=
  shapeCast S1x2048 (multiReduction .add [0] S2048 x 0x00000000#32 reduces_S256x2048_S2048 (.inl rfl) rfl) shapeCasts_S2048_S1x2048
theorem sum0_mat (f : ℕ → ℕ → EReal) : sum0 (mat f) = mat (fun _ j => ∑ i ∈ Finset.range 256, f i j) := colSums_mat f _ _

/-- The sum of a block, as the body takes it. -/
def sumAll (x : FVec Ideal S256x2048 .f32) : EReal :=
  extractAt ![0, 0, 0] (shapeCast S1x1x1 (multiReduction .add [1, 2] S1 (shapeCast S1x256x2048 x shapeCasts_S256x2048_S1x256x2048) 0x00000000#32 reduces_S1x256x2048_S1 (.inl rfl) rfl) shapeCasts_S1_S1x1x1) inpos_S1x1x1_p0_0_0
theorem sumAll_mat (f : ℕ → ℕ → EReal) : sumAll (mat f) = ∑ i ∈ Finset.range 256, ∑ j ∈ Finset.range 2048, f i j := by
  unfold sumAll
  rw [addUnit_mat]
  exact total_mat f _ _ _

theorem pay5_eq : k0_pay5 (mat X : FVec Ideal S256x2048 .f32) = mat (fun i _ => inv 2048 (Ideal.ofBits .f32 0x45000000#32) X i) := by
  show Idealize.ShloMosaic.rsqrt (addf (divf (sum1 (mulf (mat X) (mat X))) (broadcast S256x1 (Scalar.ofBits .f32 0x45000000#32))) (broadcast S256x1 (Scalar.ofBits .f32 0x358637BD#32))) = _
  simp only [mulf_mat, sum1_mat, broadcast_mat, divf_mat, addf_mat, rsqrt_mat]
  rfl

theorem pay6_eq : k0_pay6 (mat X : FVec Ideal S256x2048 .f32) = mat (hat 2048 (Ideal.ofBits .f32 0x45000000#32) X) := by
  unfold k0_pay6
  simp only [pay5_eq, column_mat _ _ (by decide : (256 : ℕ) ≠ 1), mulf_mat]
  rfl

theorem pay7_eq : k0_pay7 (mat X : FVec Ideal S256x2048 .f32) (mat (fun _ j => G j) : FVec Ideal S1x2048 .f32) (mat T : FVec Ideal S256x2048 .f32)
    = mat (err X T G) := by
  unfold k0_pay7
  simp only [pay6_eq, cast_mat, row_mat _ _ (by decide : (2048 : ℕ) ≠ 1), mulf_mat, subf_mat]
  rfl

theorem pay9_eq : k0_pay9 (mat X : FVec Ideal S256x2048 .f32) (mat (fun _ j => G j) : FVec Ideal S1x2048 .f32) (mat T : FVec Ideal S256x2048 .f32)
    = mat (dy X T G) := by
  unfold k0_pay9
  simp only [pay7_eq, broadcast_mat, mulf_mat]
  rfl

theorem pay10_eq : k0_pay10 (mat X : FVec Ideal S256x2048 .f32) (mat (fun _ j => G j) : FVec Ideal S1x2048 .f32) (mat T : FVec Ideal S256x2048 .f32)
    (mat (fun _ j => G j) : FVec Ideal S1x2048 .f32) = mat (fun i j => dy X T G i j * G j) := by
  unfold k0_pay10
  simp only [pay9_eq, cast_mat, row_mat _ _ (by decide : (2048 : ℕ) ≠ 1), mulf_mat]

/-- The block of the gradient of `x`. -/
theorem block_x : k0_pay1 (k0_pay5 (mat (φ := .f32) X)) (k0_pay6 (mat (φ := .f32) X)) (k0_pay10 (mat (φ := .f32) X) (mat (φ := .f32) (fun _ j => G j)) (mat (φ := .f32) T) (mat (φ := .f32) (fun _ j => G j)))
    = (mat (grad 2048 (Ideal.ofBits .f32 0x45000000#32) X (fun i j => dy X T G i j * G j)) : FVec Ideal S256x2048 .f32) := by
  show mulf (broadcastTo S256x2048 (k0_pay5 (mat X)) broadcasts_S256x1_S256x2048) (subf (k0_pay10 (mat X) (mat (fun _ j => G j)) (mat T) (mat (fun _ j => G j)))
    (mulf (k0_pay6 (mat X)) (broadcastTo S256x2048 (divf (sum1 (mulf (k0_pay10 (mat X) (mat (fun _ j => G j)) (mat T) (mat (fun _ j => G j))) (k0_pay6 (mat X)))) (broadcast S256x1 (Scalar.ofBits .f32 0x45000000#32))) broadcasts_S256x1_S256x2048))) = _
  simp only [pay5_eq, pay6_eq, pay10_eq, column_mat _ _ (by decide : (256 : ℕ) ≠ 1), mulf_mat, subf_mat, sum1_mat, broadcast_mat, divf_mat]
  rfl

/-- What is added to the gradient of the gain. -/
theorem block_gain (g : ℕ → EReal) : k0_pay2 (k0_pay6 (mat (φ := .f32) X)) (k0_pay9 (mat (φ := .f32) X) (mat (φ := .f32) (fun _ j => G j)) (mat (φ := .f32) T)) (mat (φ := .f32) (fun _ j => g j))
    = (mat (fun _ j => g j + ∑ i ∈ Finset.range 256, dy X T G i j * hat 2048 (Ideal.ofBits .f32 0x45000000#32) X i j) : FVec Ideal S1x2048 .f32) := by
  show addf (shapeCast S1x2048 (mat (fun _ j => g j)) shapeCasts_S1x2048_S1x2048) (sum0 (mulf (k0_pay9 (mat X) (mat (fun _ j => G j)) (mat T)) (k0_pay6 (mat X)))) = _
  simp only [pay6_eq, pay9_eq, cast_mat, mulf_mat, sum0_mat, addf_mat]

/-- What is added to the loss. -/
theorem block_sq (s : EReal) : k0_pay8 (mat (φ := .f32) X) (mat (φ := .f32) (fun _ j => G j)) (mat (φ := .f32) T) (mat (φ := .f32) (fun _ _ => s))
    = (mat (fun _ _ => s + (∑ i ∈ Finset.range 256, ∑ j ∈ Finset.range 2048, err X T G i j * err X T G i j) * Ideal.ofBits .f32 0x39800000#32) : FVec Ideal S1x128 .f32) := by
  show addf (shapeCast S1x128 (mat (fun _ _ => s)) shapeCasts_S1x128_S1x128)
    (broadcast S1x128 (sumAll (mulf (k0_pay7 (mat X) (mat (fun _ j => G j)) (mat T)) (k0_pay7 (mat X) (mat (fun _ j => G j)) (mat T))) * Ideal.ofBits .f32 0x39800000#32)) = _
  simp only [pay7_eq, cast_mat, mulf_mat, sumAll_mat]
  rfl

theorem zero_sq : (k0_pay3 : FVec Ideal S1x128 .f32) = mat (fun _ _ => 0) := by
  unfold k0_pay3
  simp only [broadcast_mat, Ideal.ofBits_zero_f32]

theorem zero_gain : (k0_pay4 : FVec Ideal S1x2048 .f32) = mat (fun _ _ => 0) := by
  unfold k0_pay4
  simp only [broadcast_mat, Ideal.ofBits_zero_f32]

end Blocks

end Cert.LossIdeal.SB
end
end
-- ==== Proof.LossArr.lean ====
/- The loss kernel's three result arrays: the loss, the gradient of `x` and the gradient of the gain. -/
module

public import proofs.«01_k».proof.Proof.LossOut

@[expose] public section

-- the windows' blocks and the points' cases are checked by evaluation, whose terms nest deep
set_option maxRecDepth 16384

noncomputable section

namespace Cert.LossIdeal.SB

open Cert.LossIdeal Cert.LossIdeal.Gen Cert.LossIdeal.Value Idealize.ShloMosaic Idealize.ShloMosaic.TcCoe Idealize.ShloMosaic.StableHlo Idealize.SL.Sem Cert.Prod Cert.Rms
open scoped BigOperators

variable (m : (ℓ : Loc nD τ sig) → Buf (Elt Ideal) ℓ) (c : Dev nD) (X T : ℕ → ℕ → EReal) (G : ℕ → EReal)

/-- The windows' block indices. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

/-- The gain as the kernel finds it: a row. -/
theorem host_gain : V m c main_v0 = (shapeCast S1x2048 (m ((c : Thread nD τ).loc main_arg1)) shapeCasts_S2048_S1x2048 : FVec Ideal S1x2048 .f32) := by
  simp only [V, hostOps0, List.flatten_cons, List.flatten_nil, List.append_nil, TRef.unary, TRef.toBuf, TRef.ofBuf, cast_eq]
  after_results_simp <;> rfl

variable {X T G}

/-- A point's block of `x`: its rows. -/
theorem iblk_x (h0 : m ((c : Thread nD τ).loc main_arg0) = (mat X : FVec Ideal S4096x2048 .f32)) (t : Fin cfg0.N) :
    iblk m c 0 t = (mat (rows (256 * t.val) X) : FVec Ideal S256x2048 .f32) := by
  have e : V m c (Pipeline.arrRef spec0 0) = (mat X : FVec Ideal S4096x2048 .f32) := (V_main_arg0 m c).trans h0
  unfold iblk
  rw [e]
  funext y
  blk_simp [(idx t).1, mat]
  simp only [rows, Nat.mul_comm, Nat.zero_mul, Nat.mul_zero, Nat.zero_add]

/-- A point's block of the gain: all of it. -/
theorem iblk_gain (h1 : m ((c : Thread nD τ).loc main_arg1) = (vec G : FVec Ideal S2048 .f32)) (t : Fin cfg0.N) :
    iblk m c 1 t = (mat (fun _ j => G j) : FVec Ideal S1x2048 .f32) := by
  have e : V m c (Pipeline.arrRef spec0 1) = (mat (fun _ j => G j) : FVec Ideal S1x2048 .f32) := by
    refine (host_gain m c).trans ?_
    rw [h1]
    exact row_vec G _
  unfold iblk
  rw [e]
  funext y
  blk_simp [(idx t).2.1, mat]

/-- A point's block of the target: its rows. -/
theorem iblk_target (h2 : m ((c : Thread nD τ).loc main_arg2) = (mat T : FVec Ideal S4096x2048 .f32)) (t : Fin cfg0.N) :
    iblk m c 2 t = (mat (rows (256 * t.val) T) : FVec Ideal S256x2048 .f32) := by
  have e : V m c (Pipeline.arrRef spec0 2) = (mat T : FVec Ideal S4096x2048 .f32) := (V_main_arg2 m c).trans h2
  unfold iblk
  rw [e]
  funext y
  blk_simp [(idx t).2.2.1, mat]
  simp only [rows, Nat.mul_comm, Nat.zero_mul, Nat.mul_zero, Nat.zero_add]

variable (X T G)

/-- The loss of the first `n` rows: half of each row's mean square error. -/
def losses (n : ℕ) : EReal := ∑ i ∈ Finset.range n, (∑ j ∈ Finset.range 2048, err X T G i j * err X T G i j) * Ideal.ofBits .f32 0x39800000#32

/-- The gradient of the gain, of the first `n` rows. -/
def gains (n j : ℕ) : EReal := ∑ i ∈ Finset.range n, dy X T G i j * hat 2048 (Ideal.ofBits .f32 0x45000000#32) X i j

/-- A block of rows adds its own loss. -/
theorem losses_add (a : ℕ) : losses X T G a
      + (∑ i ∈ Finset.range 256, ∑ j ∈ Finset.range 2048, err (rows a X) (rows a T) G i j * err (rows a X) (rows a T) G i j) * Ideal.ofBits .f32 0x39800000#32
    = losses X T G (a + 256) := by
  rw [mul_comm, ofBits_scale, ← mul_sum_of_nonneg _ _ (by norm_num)]
  simp only [mul_comm ((1 / 4096 : ℝ) : EReal)]
  rw [← ofBits_scale]
  exact (Finset.sum_range_add _ a 256).symm

/-- A block of rows adds its own products. -/
theorem gains_add (a j : ℕ) : gains X T G a j + ∑ i ∈ Finset.range 256, dy (rows a X) (rows a T) G i j * hat 2048 (Ideal.ofBits .f32 0x45000000#32) (rows a X) i j
    = gains X T G (a + 256) j := (Finset.sum_range_add _ a 256).symm

variable {X T G} (h0 : m ((c : Thread nD τ).loc main_arg0) = (mat X : FVec Ideal S4096x2048 .f32))
  (h1 : m ((c : Thread nD τ).loc main_arg1) = (vec G : FVec Ideal S2048 .f32))
  (h2 : m ((c : Thread nD τ).loc main_arg2) = (mat T : FVec Ideal S4096x2048 .f32))
include h0 h1 h2

/-- What the first point leaves in the two accumulated results. -/
theorem first (t : Fin cfg0.N) (hz : t.val % 16 = 0) (ht : t.val = 0) :
    (outsAt0 m c t.val t.isLt).1 = (mat (fun _ _ => losses X T G (256 * t.val + 256)) : FVec Ideal S1x128 .f32)
    ∧ (outsAt0 m c t.val t.isLt).2.2 = (mat (fun _ j => gains X T G (256 * t.val + 256) j) : FVec Ideal S1x2048 .f32) := by
  constructor
  · refine (congrArg (fun x => x.1) (outsAt0_A m c t hz)).trans ?_
    dsimp only
    rw [iblk_x m c h0, iblk_gain m c h1, iblk_target m c h2, outA3, zero_sq, block_sq, ← losses_add, ht]
    rfl
  · refine (congrArg (fun x => x.2.2) (outsAt0_A m c t hz)).trans ?_
    dsimp only
    rw [iblk_x m c h0, iblk_gain m c h1, iblk_target m c h2, outA5, zero_gain, block_gain, ht]
    simp only [← gains_add]
    rfl

/-- What a later point leaves in them, from what the point before left. -/
theorem later (t : Fin cfg0.N) (hz : ¬t.val % 16 = 0)
    (i3 : (outsAt0 m c (t.val - 1) (Nat.lt_of_le_of_lt (Nat.sub_le _ _) t.isLt)).1 = (mat (fun _ _ => losses X T G (256 * t.val)) : FVec Ideal S1x128 .f32))
    (i5 : (outsAt0 m c (t.val - 1) (Nat.lt_of_le_of_lt (Nat.sub_le _ _) t.isLt)).2.2 = (mat (fun _ j => gains X T G (256 * t.val) j) : FVec Ideal S1x2048 .f32)) :
    (outsAt0 m c t.val t.isLt).1 = (mat (fun _ _ => losses X T G (256 * t.val + 256)) : FVec Ideal S1x128 .f32)
    ∧ (outsAt0 m c t.val t.isLt).2.2 = (mat (fun _ j => gains X T G (256 * t.val + 256) j) : FVec Ideal S1x2048 .f32) := by
  constructor
  · refine (congrArg (fun x => x.1) (outsAt0_B m c t hz)).trans ?_
    dsimp only
    rw [i3, i5, iblk_x m c h0, iblk_gain m c h1, iblk_target m c h2, outB3, block_sq, ← losses_add]
  · refine (congrArg (fun x => x.2.2) (outsAt0_B m c t hz)).trans ?_
    dsimp only
    rw [i3, i5, iblk_x m c h0, iblk_gain m c h1, iblk_target m c h2, outB5, block_gain]
    simp only [← gains_add]

/-- After every point the two accumulated results hold the sums over the rows of the points so far. -/
theorem sums : ∀ t : Fin cfg0.N,
    (outsAt0 m c t.val t.isLt).1 = (mat (fun _ _ => losses X T G (256 * t.val + 256)) : FVec Ideal S1x128 .f32)
    ∧ (outsAt0 m c t.val t.isLt).2.2 = (mat (fun _ j => gains X T G (256 * t.val + 256) j) : FVec Ideal S1x2048 .f32) := by
  rintro ⟨n, hn⟩
  induction n with
  | zero => exact first m c h0 h1 h2 ⟨0, hn⟩ (Nat.zero_mod _) rfl
  | succ n ih =>
    have hN : n + 1 < 16 := hn
    obtain ⟨i3, i5⟩ := ih (Nat.lt_of_succ_lt hn)
    exact later m c h0 h1 h2 ⟨n + 1, hn⟩ (by dsimp only; omega) i3 i5

/-- The block of the gradient of `x` that a point leaves: its rows. -/
theorem block4 (t : Fin cfg0.N) : (outsAt0 m c t.val t.isLt).2.1
    = (mat (rows (256 * t.val) (grad 2048 (Ideal.ofBits .f32 0x45000000#32) X (fun i j => dy X T G i j * G j))) : FVec Ideal S256x2048 .f32) := by
  by_cases hz : t.val % 16 = 0
  · refine (congrArg (fun x => x.2.1) (outsAt0_A m c t hz)).trans ?_
    dsimp only
    rw [iblk_x m c h0, iblk_gain m c h1, iblk_target m c h2, outA4, block_x]
    rfl
  · refine (congrArg (fun x => x.2.1) (outsAt0_B m c t hz)).trans ?_
    dsimp only
    rw [iblk_x m c h0, iblk_gain m c h1, iblk_target m c h2, outB4, block_x]
    rfl

/-- The loss after the run. -/
theorem array3 : (dats m 0 c).arrAt 3 cfg0.N = (mat (fun _ _ => losses X T G 4096) : FVec Ideal S1x128 .f32) := by
  refine (dats m 0 c).arrAt_eq_of_covers 3 _ (by decide +kernel) fun t hf y => ?_
  have hN : t.val < 16 := t.isLt
  have hm : t.val = 15 := by have := (flush0_3 t).mp hf; omega
  blk_simp
  rw [after0_3, (sums m c h0 h1 h2 t).1, hm]
  blk_simp [(idx t).2.2.2.1, mat]

/-- The gradient of `x` after the run. -/
theorem array4 : (dats m 0 c).arrAt 4 cfg0.N
    = (mat (grad 2048 (Ideal.ofBits .f32 0x45000000#32) X (fun i j => dy X T G i j * G j)) : FVec Ideal S4096x2048 .f32) := by
  refine (dats m 0 c).arrAt_eq_of_covers 4 _ (by decide +kernel) fun t hf y => ?_
  blk_simp
  rw [after0_4, block4 m c h0 h1 h2]
  blk_simp [(idx t).2.2.2.2.1, mat]
  simp only [rows, Nat.mul_comm, Nat.zero_mul, Nat.mul_zero, Nat.zero_add]

/-- The gradient of the gain after the run. -/
theorem array5 : (dats m 0 c).arrAt 5 cfg0.N = (mat (fun _ j => gains X T G 4096 j) : FVec Ideal S1x2048 .f32) := by
  refine (dats m 0 c).arrAt_eq_of_covers 5 _ (by decide +kernel) fun t hf y => ?_
  have hN : t.val < 16 := t.isLt
  have hm : t.val = 15 := by have := (flush0_5 t).mp hf; omega
  blk_simp
  rw [after0_5, (sums m c h0 h1 h2 t).2, hm]
  blk_simp [(idx t).2.2.2.2.2, mat]

end Cert.LossIdeal.SB

end

end
-- ==== Proof.LossRef.lean ====
/- The three results of the loss's reference, on arrays given by their elements. -/
module

public import proofs.«01_k».proof.Proof.Gen.LossRefIdeal.Read
public import proofs.«01_k».proof.Proof.LossOut

@[expose] public section

noncomputable section

namespace Cert.LossRefIdeal.SB

open Cert.LossRefIdeal Cert.LossRefIdeal.Read Idealize.ShloMosaic Idealize.ShloMosaic.ValueIdx Cert.Prod Cert.Rms
open Cert.LossIdeal.SB (err dy)
open scoped BigOperators

theorem ofBits_one_half : Ideal.ofBits .f32 0x3F000000#32 = ((1 / 2 : ℝ) : EReal) := by
  simp [Ideal.ofBits, Ideal.ieee, -EReal.coe_mul]; norm_num

/-- Differentiating half the mean square, the reference scales twice the error by a half over 2048, the kernel the error by 1/2048. -/
theorem scale (e : EReal) : Ideal.div (Ideal.ofBits .f32 0x3F000000#32 * Ideal.ofBits .f32 0x3F800000#32) (Ideal.ofBits .f32 0x45000000#32)
    * (Ideal.ofBits .f32 0x40000000#32 * e) = e * Ideal.ofBits .f32 0x3A000000#32 := by
  have h1 : Ideal.ofBits .f32 0x3F800000#32 = ((1 : ℝ) : EReal) := by
    simp [Ideal.ofBits, Ideal.ieee, -EReal.coe_mul]; norm_num
  have h2 : Ideal.ofBits .f32 0x3A000000#32 = ((1 / 2048 : ℝ) : EReal) := by
    simp [Ideal.ofBits, Ideal.ieee, -EReal.coe_mul]; norm_num
  rw [ofBits_count, div_coe _ (by norm_num : (0 : ℝ) < 2048), ofBits_one_half, h1, h2, ofBits_two, ← mul_assoc, ← EReal.coe_mul, ← EReal.coe_mul, ← EReal.coe_mul, mul_comm e]
  norm_num

variable (X T : ℕ → ℕ → EReal) (G : ℕ → EReal)

/-- The mean square of a row, with the epsilon. -/
theorem mean (i : S4096x1.Idx) : val_main_v8 (F := Ideal) (mat (φ := .f32) X) i
    = Ideal.div (∑ k ∈ Finset.range 2048, X (i 0).val k * X (i 0).val k) (Ideal.ofBits .f32 0x45000000#32) + Ideal.ofBits .f32 0x358637BD#32 := by
  rw [val_main_v8_apply, val_main_v6_apply, val_main_v4_apply, val_main_v3_apply, val_main_v5_apply, val_main_v7_apply, ← sum_zero]
  rfl

theorem v9 (i : S4096x1.Idx) : val_main_v9 (F := Ideal) (mat (φ := .f32) X) i = inv 2048 (Ideal.ofBits .f32 0x45000000#32) X (i 0).val := by
  rw [val_main_v9_apply, mean]
  rfl

/-- The normed element. -/
theorem v14 (i : S4096x2048.Idx) : val_main_v14 (F := Ideal) (mat (φ := .f32) X) i = hat 2048 (Ideal.ofBits .f32 0x45000000#32) X (i 0).val (i 1).val := by
  rw [val_main_v14_apply, val_main_v13_apply, v9]
  rfl

/-- The error. -/
theorem v18 (i : S4096x2048.Idx) : val_main_v18 (F := Ideal) (mat (φ := .f32) X) (vec (φ := .f32) G) (mat (φ := .f32) T) i = err X T G (i 0).val (i 1).val := by
  rw [val_main_v18_apply, val_main_v17_apply, v14, val_main_v16_apply, val_main_v15_apply]
  rfl

/-- The gradient of the normed element times its gain. -/
theorem v32 (i : S4096x2048.Idx) : val_main_v32 (F := Ideal) (mat (φ := .f32) X) (vec (φ := .f32) G) (mat (φ := .f32) T) i = dy X T G (i 0).val (i 1).val := by
  rw [val_main_v32_apply, val_main_v31_apply, val_main_v30_apply, val_main_v28_apply, val_main_v27_apply, val_main_v29_apply, val_main_v21_apply, val_main_v20_apply, v18]
  exact scale _

/-- The gradient of the normed element. -/
theorem v37 (i : S4096x2048.Idx) : val_main_v37 (F := Ideal) (mat (φ := .f32) X) (vec (φ := .f32) G) (mat (φ := .f32) T) i = dy X T G (i 0).val (i 1).val * G (i 1).val := by
  rw [val_main_v37_apply, v32, val_main_v36_apply, val_main_v15_apply]
  rfl

/-- A row's sum of the element times the gradient of the normed element. -/
theorem v41 (i : S4096x1.Idx) : val_main_v41 (F := Ideal) (mat (φ := .f32) X) (vec (φ := .f32) G) (mat (φ := .f32) T) i
    = ∑ k ∈ Finset.range 2048, X (i 0).val k * (dy X T G (i 0).val k * G k) := by
  have h1 : (i 1).val = 0 := by have := idx2_lt1 i; omega
  rw [val_main_v41_apply, val_main_v40_apply, ← sum_zero]
  simp only [val_main_v39_apply, v37]
  show Ideal.ofBits .f32 0x00000000#32 + ∑ k : Fin 2048, X ((i 0).val * 1 + (i 1).val) k.val * (dy X T G ((i 0).val * 1 + (i 1).val) k.val * G k.val) = _
  rw [h1, Nat.mul_one, Nat.add_zero]

/-- What the inverse root of the mean square adds to a row's gradient, but for the element. -/
theorem v46 (i : S4096x1.Idx) : val_main_v46 (F := Ideal) (mat (φ := .f32) X) (vec (φ := .f32) G) (mat (φ := .f32) T) i
    = Ideal.div ((∑ k ∈ Finset.range 2048, X (i 0).val k * (dy X T G (i 0).val k * G k)) * (Ideal.ofBits .f32 0xBF000000#32
        * Ideal.div (inv 2048 (Ideal.ofBits .f32 0x45000000#32) X (i 0).val)
          (Ideal.div (∑ k ∈ Finset.range 2048, X (i 0).val k * X (i 0).val k) (Ideal.ofBits .f32 0x45000000#32) + Ideal.ofBits .f32 0x358637BD#32)))
      (Ideal.ofBits .f32 0x45000000#32) := by
  rw [val_main_v46_apply, val_main_v44_apply, v41, val_main_v12_apply, val_main_v11_apply, val_main_v10_apply, v9, mean, val_main_v45_apply]
  rfl

/-- The gradient of `x`. -/
theorem result_x : val_main_v50 (F := Ideal) (mat (φ := .f32) X) (vec (φ := .f32) G) (mat (φ := .f32) T)
    = mat (φ := .f32) (grad 2048 (Ideal.ofBits .f32 0x45000000#32) X (fun i j => dy X T G i j * G j)) := by
  funext i
  rw [val_main_v50_apply, val_main_v43_apply, v37, val_main_v42_apply, v9, val_main_v49_apply, val_main_v48_apply, val_main_v47_apply,
    Fin.sum_univ_one, v46, val_main_v2_apply, val_main_v1_apply]
  refine Eq.trans ?_ (Eq.symm ((congrArg (fun c => grad 2048 c X (fun i j => dy X T G i j * G j) (i 0).val (i 1).val) ofBits_count).trans
    (grad_eq 2048 (by norm_num : (0 : ℝ) < 2048) X (fun i j => dy X T G i j * G j) (i 0).val (i 1).val (idx2_lt1 i))))
  rw [← ofBits_count]
  show _ + (Ideal.ofBits .f32 0x00000000#32 + _) * _ = _
  rw [Ideal.ofBits_zero_f32, zero_add]
  rfl

/-- The gradient of the gain. -/
theorem result_gain : val_main_v52 (F := Ideal) (mat (φ := .f32) X) (vec (φ := .f32) G) (mat (φ := .f32) T)
    = mat (φ := .f32) (fun _ j => ∑ i ∈ Finset.range 4096, dy X T G i j * hat 2048 (Ideal.ofBits .f32 0x45000000#32) X i j) := by
  funext i
  have h1 : (i 0).val = 0 := by have := idx2_lt0 i; omega
  rw [val_main_v52_apply, val_main_v38_apply, Fin.sum_univ_one, val_main_v35_apply, val_main_v34_apply]
  simp only [val_main_v33_apply, v14, v32]
  show Ideal.ofBits .f32 0x00000000#32 + (Ideal.ofBits .f32 0x00000000#32 + ∑ k : Fin 4096, hat 2048 (Ideal.ofBits .f32 0x45000000#32) X k.val (0 * 2048 + ((i 0).val * 2048 + (i 1).val))
    * dy X T G k.val (0 * 2048 + ((i 0).val * 2048 + (i 1).val))) = _
  rw [h1, Nat.zero_mul, Nat.zero_add, Nat.zero_add, Ideal.ofBits_zero_f32, zero_add, zero_add]
  simp only [mul_comm (hat _ _ _ _ _)]
  exact (Finset.sum_range fun k => dy X T G k (i 1).val * hat 2048 (Ideal.ofBits .f32 0x45000000#32) X k (i 1).val).symm

/-- A row's mean square error. -/
theorem v24 (i : S4096.Idx) : val_main_v24 (F := Ideal) (mat (φ := .f32) X) (vec (φ := .f32) G) (mat (φ := .f32) T) i
    = Ideal.div (∑ j ∈ Finset.range 2048, err X T G (i 0).val j * err X T G (i 0).val j) (Ideal.ofBits .f32 0x45000000#32) := by
  rw [val_main_v24_apply, val_main_v22_apply, val_main_v23_apply, ← sum_zero]
  simp only [val_main_v19_apply, v18]
  rfl

/-- The loss. -/
theorem result_loss : val_main_v51 (F := Ideal) (mat (φ := .f32) X) (vec (φ := .f32) G) (mat (φ := .f32) T)
    = mat (φ := .f32) (fun _ _ => ∑ i ∈ Finset.range 4096, (∑ j ∈ Finset.range 2048, err X T G i j * err X T G i j) * Ideal.ofBits .f32 0x39800000#32) := by
  funext i
  rw [val_main_v51_apply, val_main_v26_apply, val_main_v25_apply]
  simp only [v24]
  show Ideal.ofBits .f32 0x3F000000#32 * (Ideal.ofBits .f32 0x00000000#32 + _) = ∑ i ∈ Finset.range 4096, _
  rw [Ideal.ofBits_zero_f32, zero_add, sum_vec (fun i => Ideal.div (∑ j ∈ Finset.range 2048, err X T G i j * err X T G i j) (Ideal.ofBits .f32 0x45000000#32)),
    ofBits_one_half, ← mul_sum_of_nonneg _ _ (by norm_num)]
  refine Finset.sum_congr rfl fun i _ => ?_
  rw [ofBits_count, div_coe _ (by norm_num : (0 : ℝ) < 2048), ofBits_scale, mul_left_comm, ← EReal.coe_mul]
  norm_num

end Cert.LossRefIdeal.SB

end

end
-- ==== Proof.LossEq.lean ====
/- The loss kernel and its reference leave the same results. -/
module

public import proofs.«01_k».proof.Defs
public import proofs.«01_k».proof.Proof.Gen.LossRefIdeal.Run
public import proofs.«01_k».proof.Proof.LossArr
public import proofs.«01_k».proof.Proof.LossRef

@[expose] public section

noncomputable section

namespace Cert.LossEq

open Idealize.ShloMosaic Idealize.ShloMosaic.TcCoe Idealize.SL.Sem Cert.Prod Cert.Rms

/-- From whatever arguments, the loss kernel and its reference leave the same loss and the same gradients of `x`
    and of the gain, and both keep their arguments. -/
theorem equation : Cert.algebraic_LossIdeal_LossRefIdeal (hLossIdeal := Cert.LossIdeal.Gen.facts)
    (hLossRefIdeal := Cert.LossRefIdeal.Gen.facts) := by
  intro m g m' g' _ hargs
  refine ⟨fun c => (Cert.LossIdeal.Gen.dats m 0 c).arrAt 3 Cert.LossIdeal.cfg0.N,
    fun c => (Cert.LossIdeal.Gen.dats m 0 c).arrAt 4 Cert.LossIdeal.cfg0.N,
    fun c => (Cert.LossIdeal.Gen.dats m 0 c).arrAt 5 Cert.LossIdeal.cfg0.N,
    Cert.LossIdeal.Value.run_blocks m g, ?_⟩
  refine (θ_run _ _ _).mono (fun r h c => ?_) (Cert.LossRefIdeal.Value.run m' g')
  obtain ⟨X, h0⟩ := exists_mat (φ := .f32) (n0 := 4096) (n1 := 2048) (m ((c.tc : Thread Cert.LossIdeal.nD Cert.LossIdeal.τ).loc Cert.LossIdeal.main_arg0))
  obtain ⟨G, h1⟩ := exists_vec (φ := .f32) (n0 := 2048) (m ((c.tc : Thread Cert.LossIdeal.nD Cert.LossIdeal.τ).loc Cert.LossIdeal.main_arg1))
  obtain ⟨T, h2⟩ := exists_mat (φ := .f32) (n0 := 4096) (n1 := 2048) (m ((c.tc : Thread Cert.LossIdeal.nD Cert.LossIdeal.τ).loc Cert.LossIdeal.main_arg2))
  obtain ⟨e0, e1, e2⟩ := hargs c
  obtain ⟨r0, r1, r2, k⟩ := h c
  refine ⟨r0.trans ?_, r1.trans ?_, r2.trans ?_, k⟩
  · refine Eq.trans ?_ (Cert.LossIdeal.SB.array3 m c h0 h1 h2).symm
    rw [Cert.LossRefIdeal.Read.val_main_v51_eq, e0, e1, e2, h0, h1, h2]
    exact Cert.LossRefIdeal.SB.result_loss X T G
  · refine Eq.trans ?_ (Cert.LossIdeal.SB.array4 m c h0 h1 h2).symm
    rw [Cert.LossRefIdeal.Read.val_main_v50_eq, e0, e1, e2, h0, h1, h2]
    exact Cert.LossRefIdeal.SB.result_x X T G
  · refine Eq.trans ?_ (Cert.LossIdeal.SB.array5 m c h0 h1 h2).symm
    rw [Cert.LossRefIdeal.Read.val_main_v52_eq, e0, e1, e2, h0, h1, h2]
    exact Cert.LossRefIdeal.SB.result_gain X T G

end Cert.LossEq

end

end
-- ==== Proof.RmsGroup.lean ====
/- Arrays of 2048 columns taken as four groups of 512, for the norm of the four mixers' outputs: the kernels load and store one group
   at a time. -/
module

public import proofs.«01_k».proof.Proof.RmsBlock
public import Idealize.ShloMosaic.Lib.Pipeline.ValueKit
public import Idealize.ShloMosaic.Lib.Pipeline.CanonAppend

@[expose] public section

noncomputable section

namespace Cert.Rms

open Idealize.ShloMosaic Cert.Prod
open scoped BigOperators

/-- The array whose group `k` is `f k`. -/
def groups (f : ℕ → ℕ → ℕ → EReal) (i j : ℕ) : EReal := f (j / 512) i (j % 512)

/-- An element of the groups laid out one after another. -/
theorem groups_flat (f : ℕ → ℕ → ℕ → EReal) (i k j : ℕ) (hk : k < 4) (hj : j < 512) :
    groups f (((i * 4 + k) * 512 + j) / 2048) (((i * 4 + k) * 512 + j) % 2048) = f k i j := by
  unfold groups
  rw [show ((i * 4 + k) * 512 + j) / 2048 = i by omega, show ((i * 4 + k) * 512 + j) % 2048 / 512 = k by omega,
    show ((i * 4 + k) * 512 + j) % 2048 % 512 = j by omega]

/-- Every array is made of groups. -/
theorem exists_groups (X : ℕ → ℕ → EReal) : ∃ f, X = groups f :=
  ⟨fun k i j => X i (512 * k + j), funext fun i => funext fun j => by
    show X i j = X i (512 * (j / 512) + j % 512)
    rw [Nat.div_add_mod]⟩

variable {R : ℕ} {Val : EltTy → Type} [∀ e, Nonempty (Val e)] {e : EltTy}

/-- A load of group `k`. -/
theorem ld_group (f : ℕ → ℕ → ℕ → Val e) (k o : ℕ) (ho : o = 512 * k)
    (inb : ∀ a, (![0, o] : Fin 2 → ℕ) a + (![R, 512] : Fin 2 → ℕ) a ≤ (⟨2, ![R, 2048]⟩ : Shape).size a) :
    View.ld (Val := Val) (e' := e) (fun y : (⟨2, ![R, 2048]⟩ : Shape).Idx => f ((y 1).val / 512) (y 0).val ((y 1).val % 512))
      (Rect.unit (s := ⟨2, ![R, 2048]⟩) ![0, o] ![R, 512] inb) = fun y => f k (y 0).val (y 1).val := by
  subst ho
  funext y
  have h : (y 1).val < 512 := (y 1).isLt
  show f ((512 * k + 1 * (y 1).val) / 512) (0 + 1 * (y 0).val) ((512 * k + 1 * (y 1).val) % 512) = f k (y 0).val (y 1).val
  rw [Nat.zero_add, Nat.one_mul, Nat.one_mul, show (512 * k + (y 1).val) / 512 = k by omega, show (512 * k + (y 1).val) % 512 = (y 1).val by omega]

theorem ld_f32 (f : ℕ → ℕ → ℕ → EReal) (k o : ℕ) (ho : o = 512 * k)
    (inb : ∀ a, (![0, o] : Fin 2 → ℕ) a + (![R, 512] : Fin 2 → ℕ) a ≤ (⟨2, ![R, 2048]⟩ : Shape).size a) :
    View.ld (Val := Elt Ideal) (e' := .f32) (mat (φ := .f32) (groups f)) (Rect.unit (s := ⟨2, ![R, 2048]⟩) ![0, o] ![R, 512] inb)
      = (mat (f k) : FVec Ideal ⟨2, ![R, 512]⟩ .f32) := ld_group (Val := Elt Ideal) (e := .f32) f k o ho inb

theorem ld_bf16 (f : ℕ → ℕ → ℕ → EReal) (k o : ℕ) (ho : o = 512 * k)
    (inb : ∀ a, (![0, o] : Fin 2 → ℕ) a + (![R, 512] : Fin 2 → ℕ) a ≤ (⟨2, ![R, 2048]⟩ : Shape).size a) :
    View.ld (Val := Elt Ideal) (e' := .bf16) (mat (φ := .bf16) (groups f)) (Rect.unit (s := ⟨2, ![R, 2048]⟩) ![0, o] ![R, 512] inb)
      = (mat (f k) : FVec Ideal ⟨2, ![R, 512]⟩ .bf16) := ld_group (Val := Elt Ideal) (e := .bf16) f k o ho inb

/-- The four groups of an array, stored one by one over whatever was stored before, make the array. -/
theorem canon_groups (A : (⟨2, ![R, 2048]⟩ : Shape).Idx → Val e) (L : List (View.Piece Val ⟨2, ![R, 2048]⟩ e))
    (w0 w1 w2 w3 : (⟨2, ![R, 512]⟩ : Shape).Idx → Val e)
    (inb0 : ∀ a, (![0, 0] : Fin 2 → ℕ) a + (![R, 512] : Fin 2 → ℕ) a ≤ (⟨2, ![R, 2048]⟩ : Shape).size a)
    (inb1 : ∀ a, (![0, 512] : Fin 2 → ℕ) a + (![R, 512] : Fin 2 → ℕ) a ≤ (⟨2, ![R, 2048]⟩ : Shape).size a)
    (inb2 : ∀ a, (![0, 1024] : Fin 2 → ℕ) a + (![R, 512] : Fin 2 → ℕ) a ≤ (⟨2, ![R, 2048]⟩ : Shape).size a)
    (inb3 : ∀ a, (![0, 1536] : Fin 2 → ℕ) a + (![R, 512] : Fin 2 → ℕ) a ≤ (⟨2, ![R, 2048]⟩ : Shape).size a)
    (h0 : w0 = View.ld A (Rect.unit (s := ⟨2, ![R, 2048]⟩) ![0, 0] ![R, 512] inb0))
    (h1 : w1 = View.ld A (Rect.unit (s := ⟨2, ![R, 2048]⟩) ![0, 512] ![R, 512] inb1))
    (h2 : w2 = View.ld A (Rect.unit (s := ⟨2, ![R, 2048]⟩) ![0, 1024] ![R, 512] inb2))
    (h3 : w3 = View.ld A (Rect.unit (s := ⟨2, ![R, 2048]⟩) ![0, 1536] ![R, 512] inb3)) :
    View.canon (⟨Rect.unit (s := ⟨2, ![R, 2048]⟩) ![0, 1536] ![R, 512] inb3, w3⟩
      :: ⟨Rect.unit (s := ⟨2, ![R, 2048]⟩) ![0, 1024] ![R, 512] inb2, w2⟩
      :: ⟨Rect.unit (s := ⟨2, ![R, 2048]⟩) ![0, 512] ![R, 512] inb1, w1⟩
      :: ⟨Rect.unit (s := ⟨2, ![R, 2048]⟩) ![0, 0] ![R, 512] inb0, w0⟩ :: L) = A := by
  have at_ : ∀ (o : ℕ) (inb : ∀ a, (![0, o] : Fin 2 → ℕ) a + (![R, 512] : Fin 2 → ℕ) a ≤ (⟨2, ![R, 2048]⟩ : Shape).size a)
      (y : (⟨2, ![R, 2048]⟩ : Shape).Idx), o ≤ (y 1).val → (y 1).val < o + 512 →
      y ∈ (Rect.unit (s := ⟨2, ![R, 2048]⟩) ![0, o] ![R, 512] inb).set := fun o inb y h1 h2 => by
    rw [Rect.mem_set_unit]
    intro a
    match a with
    | ⟨0, _⟩ => exact ⟨Nat.zero_le _, by show (y 0).val < 0 + R; rw [Nat.zero_add]; exact (y 0).isLt⟩
    | ⟨1, _⟩ => exact ⟨h1, h2⟩
  subst h0 h1 h2 h3
  funext y
  refine View.canon_append_of_pieces A L
    [⟨Rect.unit (s := ⟨2, ![R, 2048]⟩) ![0, 1536] ![R, 512] inb3, View.ld A (Rect.unit (s := ⟨2, ![R, 2048]⟩) ![0, 1536] ![R, 512] inb3)⟩,
      ⟨Rect.unit (s := ⟨2, ![R, 2048]⟩) ![0, 1024] ![R, 512] inb2, View.ld A (Rect.unit (s := ⟨2, ![R, 2048]⟩) ![0, 1024] ![R, 512] inb2)⟩,
      ⟨Rect.unit (s := ⟨2, ![R, 2048]⟩) ![0, 512] ![R, 512] inb1, View.ld A (Rect.unit (s := ⟨2, ![R, 2048]⟩) ![0, 512] ![R, 512] inb1)⟩,
      ⟨Rect.unit (s := ⟨2, ![R, 2048]⟩) ![0, 0] ![R, 512] inb0, View.ld A (Rect.unit (s := ⟨2, ![R, 2048]⟩) ![0, 0] ![R, 512] inb0)⟩] ?_ y ?_
  · intro p hp x
    simp only [List.mem_cons, List.not_mem_nil, or_false] at hp
    rcases hp with rfl | rfl | rfl | rfl <;> rfl
  · have hy : (y 1).val < 2048 := (y 1).isLt
    by_cases h3 : 1536 ≤ (y 1).val
    · exact ⟨_, .head _, at_ 1536 inb3 y h3 (by omega)⟩
    by_cases h2 : 1024 ≤ (y 1).val
    · exact ⟨_, .tail _ (.head _), at_ 1024 inb2 y h2 (by omega)⟩
    by_cases h1 : 512 ≤ (y 1).val
    · exact ⟨_, .tail _ (.tail _ (.head _)), at_ 512 inb1 y h1 (by omega)⟩
    · exact ⟨_, .tail _ (.tail _ (.tail _ (.head _))), at_ 0 inb0 y (Nat.zero_le _) (by omega)⟩

theorem canon_f32 (f : ℕ → ℕ → ℕ → EReal) (L : List (View.Piece (Elt Ideal) ⟨2, ![R, 2048]⟩ .f32))
    (inb0 : ∀ a, (![0, 0] : Fin 2 → ℕ) a + (![R, 512] : Fin 2 → ℕ) a ≤ (⟨2, ![R, 2048]⟩ : Shape).size a)
    (inb1 : ∀ a, (![0, 512] : Fin 2 → ℕ) a + (![R, 512] : Fin 2 → ℕ) a ≤ (⟨2, ![R, 2048]⟩ : Shape).size a)
    (inb2 : ∀ a, (![0, 1024] : Fin 2 → ℕ) a + (![R, 512] : Fin 2 → ℕ) a ≤ (⟨2, ![R, 2048]⟩ : Shape).size a)
    (inb3 : ∀ a, (![0, 1536] : Fin 2 → ℕ) a + (![R, 512] : Fin 2 → ℕ) a ≤ (⟨2, ![R, 2048]⟩ : Shape).size a) :
    View.canon (Val := Elt Ideal) (e := .f32) (⟨Rect.unit (s := ⟨2, ![R, 2048]⟩) ![0, 1536] ![R, 512] inb3, mat (φ := .f32) (f 3)⟩
      :: ⟨Rect.unit (s := ⟨2, ![R, 2048]⟩) ![0, 1024] ![R, 512] inb2, mat (φ := .f32) (f 2)⟩
      :: ⟨Rect.unit (s := ⟨2, ![R, 2048]⟩) ![0, 512] ![R, 512] inb1, mat (φ := .f32) (f 1)⟩
      :: ⟨Rect.unit (s := ⟨2, ![R, 2048]⟩) ![0, 0] ![R, 512] inb0, mat (φ := .f32) (f 0)⟩ :: L) = (mat (groups f) : FVec Ideal ⟨2, ![R, 2048]⟩ .f32) :=
  canon_groups (Val := Elt Ideal) (e := .f32) _ L _ _ _ _ inb0 inb1 inb2 inb3 (ld_f32 f 0 0 rfl _).symm (ld_f32 f 1 512 rfl _).symm
    (ld_f32 f 2 1024 rfl _).symm (ld_f32 f 3 1536 rfl _).symm

theorem canon_bf16 (f : ℕ → ℕ → ℕ → EReal) (L : List (View.Piece (Elt Ideal) ⟨2, ![R, 2048]⟩ .bf16))
    (inb0 : ∀ a, (![0, 0] : Fin 2 → ℕ) a + (![R, 512] : Fin 2 → ℕ) a ≤ (⟨2, ![R, 2048]⟩ : Shape).size a)
    (inb1 : ∀ a, (![0, 512] : Fin 2 → ℕ) a + (![R, 512] : Fin 2 → ℕ) a ≤ (⟨2, ![R, 2048]⟩ : Shape).size a)
    (inb2 : ∀ a, (![0, 1024] : Fin 2 → ℕ) a + (![R, 512] : Fin 2 → ℕ) a ≤ (⟨2, ![R, 2048]⟩ : Shape).size a)
    (inb3 : ∀ a, (![0, 1536] : Fin 2 → ℕ) a + (![R, 512] : Fin 2 → ℕ) a ≤ (⟨2, ![R, 2048]⟩ : Shape).size a) :
    View.canon (Val := Elt Ideal) (e := .bf16) (⟨Rect.unit (s := ⟨2, ![R, 2048]⟩) ![0, 1536] ![R, 512] inb3, mat (φ := .bf16) (f 3)⟩
      :: ⟨Rect.unit (s := ⟨2, ![R, 2048]⟩) ![0, 1024] ![R, 512] inb2, mat (φ := .bf16) (f 2)⟩
      :: ⟨Rect.unit (s := ⟨2, ![R, 2048]⟩) ![0, 512] ![R, 512] inb1, mat (φ := .bf16) (f 1)⟩
      :: ⟨Rect.unit (s := ⟨2, ![R, 2048]⟩) ![0, 0] ![R, 512] inb0, mat (φ := .bf16) (f 0)⟩ :: L) = (mat (groups f) : FVec Ideal ⟨2, ![R, 2048]⟩ .bf16) :=
  canon_groups (Val := Elt Ideal) (e := .bf16) _ L _ _ _ _ inb0 inb1 inb2 inb3 (ld_bf16 f 0 0 rfl _).symm (ld_bf16 f 1 512 rfl _).symm
    (ld_bf16 f 2 1024 rfl _).symm (ld_bf16 f 3 1536 rfl _).symm

/-- A load of one group reads past the store of another. -/
theorem readCov_other {sig : RefSig} {κ : Kind} {sp : Space} (v : View sig κ sp ⟨2, ![R, 2048]⟩ e) (o o' : ℕ) (h : o + 512 ≤ o' ∨ o' + 512 ≤ o)
    (inb : ∀ a, (![0, o] : Fin 2 → ℕ) a + (![R, 512] : Fin 2 → ℕ) a ≤ (⟨2, ![R, 2048]⟩ : Shape).size a)
    (inb' : ∀ a, (![0, o'] : Fin 2 → ℕ) a + (![R, 512] : Fin 2 → ℕ) a ≤ (⟨2, ![R, 2048]⟩ : Shape).size a)
    (w : (⟨2, ![R, 512]⟩ : Shape).Idx → Val e) (L : List (View.Piece Val ⟨2, ![R, 2048]⟩ e)) :
    v.readCov (⟨Rect.unit (s := ⟨2, ![R, 2048]⟩) ![0, o] ![R, 512] inb, w⟩ :: L) (Rect.unit (s := ⟨2, ![R, 2048]⟩) ![0, o'] ![R, 512] inb').toLoadRect
      = v.readCov L (Rect.unit (s := ⟨2, ![R, 2048]⟩) ![0, o'] ![R, 512] inb').toLoadRect := by
  rw [View.readCov_eq_canon', View.readCov_eq_canon']
  funext y
  refine View.canon_cons_of_not_mem _ _ fun hm => ?_
  rw [Rect.mem_set_unit] at hm
  have h1 : o ≤ o' + 1 * (y 1).val ∧ o' + 1 * (y 1).val < o + 512 := hm 1
  have h2 : (y 1).val < 512 := (y 1).isLt
  omega

end Cert.Rms

end

end
-- ==== Proof.NormGArr.lean ====
/- The kernel of the norm of the four mixers' outputs: its result array, group by group. -/
module

public import proofs.«01_k».proof.Proof.RmsGroup
public import proofs.«01_k».proof.Proof.Gen.NormGIdeal.Value
public import Idealize.ShloMosaic.Lib.Pipeline.ValueKit

@[expose] public section

-- the windows' blocks are checked by evaluation, whose terms nest deep
set_option maxRecDepth 16384

noncomputable section

namespace Cert.NormGIdeal.SB

open Cert.NormGIdeal Cert.NormGIdeal.Gen Cert.NormGIdeal.Value Idealize.ShloMosaic Idealize.ShloMosaic.TcCoe Idealize.ShloMosaic.StableHlo Idealize.SL.Sem Cert.Prod Cert.Rms

/-! ## A group's stored block -/

section Blocks
variable (X : ℕ → ℕ → EReal) (G : ℕ → EReal)

theorem block : k0_pay1 (mat (φ := .bf16) X) (mat (φ := .f32) (fun _ j => G j))
    = (mat (fun i j => hat 512 (Ideal.ofBits .f32 0x44000000#32) X i j * G j) : FVec Ideal S512x512 .bf16) :=
  normBlk_mat 0x44000000#32 reduces_S512x512_S512 shapeCasts_S512_S512x1 broadcasts_S512x1_S512x512 shapeCasts_S1x512_S1x512 broadcasts_S1x512_S512x512 X G (by decide)

/-- The four groups' blocks are computed in the same way. -/
theorem same : @k0_pay2 Ideal _ = k0_pay1 ∧ @k0_pay3 Ideal _ = k0_pay1 ∧ @k0_pay4 Ideal _ = k0_pay1 := ⟨rfl, rfl, rfl⟩

end Blocks

/-- What a point stores. -/
theorem out (X : ℕ → ℕ → ℕ → EReal) (G : ℕ → ℕ → EReal) :
    out0_2 (F := Ideal) (mat (φ := .bf16) (groups X)) (mat (φ := .f32) (groups (fun k _ j => G k j)))
    = (mat (groups (fun k i j => hat 512 (Ideal.ofBits .f32 0x44000000#32) (X k) i j * G k j)) : FVec Ideal S512x2048 .bf16) := by
  unfold out0_2
  simp only [r0_0, r0_1, r0_2, r0_3, r0_4, r0_5, r0_6, r0_7, ld_bf16 X 0 0 rfl, ld_bf16 X 1 512 rfl, ld_bf16 X 2 1024 rfl, ld_bf16 X 3 1536 rfl,
    ld_f32 (fun k _ j => G k j) 0 0 rfl, ld_f32 (fun k _ j => G k j) 1 512 rfl, ld_f32 (fun k _ j => G k j) 2 1024 rfl, ld_f32 (fun k _ j => G k j) 3 1536 rfl,
    same, block]
  exact canon_bf16 (fun k i j => hat 512 (Ideal.ofBits .f32 0x44000000#32) (X k) i j * G k j) _ _ _ _ _

/-! ## The array -/

variable (m : (ℓ : Loc nD τ sig) → Buf (Elt Ideal) ℓ) (c : Dev nD) {X : ℕ → ℕ → ℕ → EReal} {G : ℕ → ℕ → EReal}

/-- The windows' block indices. -/
theorem idx : ∀ t : Fin cfg0.N, win0_0.index t = ![t.val, 0] ∧ win0_1.index t = ![0, 0] ∧ win0_2.index t = ![t.val, 0] :=
  (by decide +kernel : ∀ t : Fin grid0.N, _)

/-- The gain as the kernel finds it: a row. -/
theorem host_gain : V m c main_v0 = (shapeCast S1x2048 (m ((c : Thread nD τ).loc main_arg1)) shapeCasts_S2048_S1x2048 : FVec Ideal S1x2048 .f32) := by
  simp only [V, hostOps0, List.flatten_cons, List.flatten_nil, List.append_nil, TRef.unary, TRef.toBuf, TRef.ofBuf, cast_eq]
  after_results_simp <;> rfl

/-- A point's block of `x`: its rows. -/
theorem iblk_x (h0 : m ((c : Thread nD τ).loc main_arg0) = (mat (groups X) : FVec Ideal S4096x2048 .bf16)) (t : Fin cfg0.N) :
    iblk m c 0 t = (mat (groups (fun k => rows (512 * t.val) (X k))) : FVec Ideal S512x2048 .bf16) := by
  have e : V m c (Pipeline.arrRef spec0 0) = (mat (groups X) : FVec Ideal S4096x2048 .bf16) := (V_main_arg0 m c).trans h0
  unfold iblk
  rw [e]
  funext y
  blk_simp [(idx t).1, mat, groups]
  simp only [rows, Nat.mul_comm, Nat.zero_mul, Nat.mul_zero, Nat.zero_add]

/-- A point's block of the gain: all of it. -/
theorem iblk_gain (h1 : m ((c : Thread nD τ).loc main_arg1) = (vec (fun j => G (j / 512) (j % 512)) : FVec Ideal S2048 .f32)) (t : Fin cfg0.N) :
    iblk m c 1 t = (mat (groups (fun k _ j => G k j)) : FVec Ideal S1x2048 .f32) := by
  have e : V m c (Pipeline.arrRef spec0 1) = (mat (groups (fun k _ j => G k j)) : FVec Ideal S1x2048 .f32) := by
    refine (host_gain m c).trans ?_
    rw [h1]
    exact row_vec (fun j => G (j / 512) (j % 512)) _
  unfold iblk
  rw [e]
  funext y
  blk_simp [(idx t).2.1, mat, groups]

/-- The result after the run. -/
theorem array2 (h0 : m ((c : Thread nD τ).loc main_arg0) = (mat (groups X) : FVec Ideal S4096x2048 .bf16))
    (h1 : m ((c : Thread nD τ).loc main_arg1) = (vec (fun j => G (j / 512) (j % 512)) : FVec Ideal S2048 .f32)) :
    (dats m 0 c).arrAt 2 cfg0.N = (mat (groups (fun k i j => hat 512 (Ideal.ofBits .f32 0x44000000#32) (X k) i j * G k j)) : FVec Ideal S4096x2048 .bf16) := by
  refine (dats m 0 c).arrAt_eq_of_covers 2 _ (by decide +kernel) fun t hf y => ?_
  blk_simp
  rw [after0_2, iblk_x m c h0, iblk_gain m c h1, out]
  blk_simp [(idx t).2.2, mat, groups]
  simp only [rows, hat, Rms.inv, Nat.mul_comm, Nat.zero_mul, Nat.mul_zero, Nat.zero_add]

end Cert.NormGIdeal.SB

end

end
-- ==== Proof.NormGEq.lean ====
/- The kernel of the norm of the four mixers' outputs and its reference leave the same result. -/
module

public import proofs.«01_k».proof.Defs
public import proofs.«01_k».proof.Proof.Gen.NormGRefIdeal.Read
public import proofs.«01_k».proof.Proof.Gen.NormGRefIdeal.Run
public import proofs.«01_k».proof.Proof.NormGArr

@[expose] public section

noncomputable section

namespace Cert.NormGRefIdeal.SB

open Cert.NormGRefIdeal Cert.NormGRefIdeal.Read Idealize.ShloMosaic Idealize.ShloMosaic.ValueIdx Cert.Prod Cert.Rms
open scoped BigOperators

/-- The reference's result, of arrays given group by group. -/
theorem result (X : ℕ → ℕ → ℕ → EReal) (G : ℕ → ℕ → EReal) :
    val_main_v17 (F := Ideal) (mat (φ := .bf16) (groups X)) (vec (φ := .f32) fun j => G (j / 512) (j % 512))
    = mat (φ := .bf16) (groups fun k i j => hat 512 (Ideal.ofBits .f32 0x44000000#32) (X k) i j * G k j) := by
  have v2 : ∀ i : S4096x4x512.Idx, val_main_v2 (F := Ideal) (mat (φ := .bf16) (groups X)) i = X (i 1).val (i 0).val (i 2).val := fun i => by
    rw [val_main_v2_apply, val_main_v0_apply]
    exact groups_flat X _ _ _ (i 1).isLt (i 2).isLt
  have v13 : ∀ i : S1x4x512.Idx, val_main_v13 (F := Ideal) (vec (φ := .f32) fun j => G (j / 512) (j % 512)) i = G (i 1).val (i 2).val := fun i => by
    have h : (i 2).val < 512 := (i 2).isLt
    rw [val_main_v13_apply, val_main_v1_apply]
    show G (((i 1).val * 512 + (i 2).val) / 512) (((i 1).val * 512 + (i 2).val) % 512) = _
    rw [show ((i 1).val * 512 + (i 2).val) / 512 = (i 1).val by omega, show ((i 1).val * 512 + (i 2).val) % 512 = (i 2).val by omega]
  have mean : ∀ i : S4096x4x1.Idx, val_main_v9 (F := Ideal) (mat (φ := .bf16) (groups X)) i
      = Ideal.div (∑ k ∈ Finset.range 512, X (i 1).val (i 0).val k * X (i 1).val (i 0).val k) (Ideal.ofBits .f32 0x44000000#32) + Ideal.ofBits .f32 0x358637BD#32 := fun i => by
    rw [val_main_v9_apply, val_main_v7_apply, val_main_v5_apply, val_main_v4_apply, val_main_v6_apply, val_main_v8_apply, ← sum_zero]
    simp only [val_main_v3_apply, v2]
    rfl
  have v15 : ∀ i : S4096x4x512.Idx, val_main_v15 (F := Ideal) (mat (φ := .bf16) (groups X)) (vec (φ := .f32) fun j => G (j / 512) (j % 512)) i
      = hat 512 (Ideal.ofBits .f32 0x44000000#32) (X (i 1).val) (i 0).val (i 2).val * G (i 1).val (i 2).val := fun i => by
    rw [val_main_v15_apply, val_main_v12_apply, v2, val_main_v11_apply, val_main_v10_apply, mean, val_main_v14_apply, v13]
    rfl
  funext i
  have h1 : (i 1).val < 2048 := (i 1).isLt
  rw [val_main_v17_apply, val_main_v16_apply, v15]
  show hat 512 (Ideal.ofBits .f32 0x44000000#32) (X (((i 0).val * 2048 + (i 1).val) / 512 % 4)) (((i 0).val * 2048 + (i 1).val) / 2048) (((i 0).val * 2048 + (i 1).val) % 512)
    * G (((i 0).val * 2048 + (i 1).val) / 512 % 4) (((i 0).val * 2048 + (i 1).val) % 512) = _
  rw [show ((i 0).val * 2048 + (i 1).val) / 512 % 4 = (i 1).val / 512 by omega, show ((i 0).val * 2048 + (i 1).val) / 2048 = (i 0).val by omega,
    show ((i 0).val * 2048 + (i 1).val) % 512 = (i 1).val % 512 by omega]
  rfl

end Cert.NormGRefIdeal.SB

namespace Cert.NormGEq

open Idealize.ShloMosaic Idealize.ShloMosaic.TcCoe Idealize.SL.Sem Cert.Prod Cert.Rms

/-- From whatever arguments, the kernel and its reference leave the same normed array, and both keep their arguments. -/
theorem equation : Cert.algebraic_NormGIdeal_NormGRefIdeal (hNormGIdeal := Cert.NormGIdeal.Gen.facts)
    (hNormGRefIdeal := Cert.NormGRefIdeal.Gen.facts) := by
  intro m g m' g' _ hargs
  refine ⟨fun c => (Cert.NormGIdeal.Gen.dats m 0 c).arrAt 2 Cert.NormGIdeal.cfg0.N, Cert.NormGIdeal.Value.run_blocks m g, ?_⟩
  refine (θ_run _ _ _).mono (fun r h c => ?_) (Cert.NormGRefIdeal.Value.run m' g')
  obtain ⟨X, h0⟩ := exists_mat (φ := .bf16) (n0 := 4096) (n1 := 2048) (m ((c.tc : Thread Cert.NormGIdeal.nD Cert.NormGIdeal.τ).loc Cert.NormGIdeal.main_arg0))
  obtain ⟨G, h1⟩ := exists_vec (φ := .f32) (n0 := 2048) (m ((c.tc : Thread Cert.NormGIdeal.nD Cert.NormGIdeal.τ).loc Cert.NormGIdeal.main_arg1))
  obtain ⟨X, rfl⟩ := exists_groups X
  obtain ⟨G, rfl⟩ : ∃ G' : ℕ → ℕ → EReal, G = fun j => G' (j / 512) (j % 512) :=
    ⟨fun k j => G (512 * k + j), funext fun j => by dsimp only; rw [Nat.div_add_mod]⟩
  obtain ⟨e0, e1⟩ := hargs c
  obtain ⟨r0, k⟩ := h c
  refine ⟨r0.trans ?_, k⟩
  refine Eq.trans ?_ (Cert.NormGIdeal.SB.array2 m c h0 h1).symm
  rw [Cert.NormGRefIdeal.Read.val_main_v17_eq, e0, e1, h0, h1]
  exact Cert.NormGRefIdeal.SB.result X G

end Cert.NormGEq

end

end
-- ==== Proof.NormGBArr.lean ====
/- The kernel of the backward pass of the norm of the four mixers' outputs: its two result arrays, the gradient of `x` and the
   gradient of the gain, group by group. -/
module

public import proofs.«01_k».proof.Proof.RmsGroup
public import proofs.«01_k».proof.Proof.Gen.NormGBIdeal.Value
public import Idealize.ShloMosaic.Lib.Pipeline.ValueKit

@[expose] public section

-- the windows' blocks and the points' cases are checked by evaluation, whose terms nest deep
set_option maxRecDepth 16384

noncomputable section

namespace Cert.NormGBIdeal.SB

open Cert.NormGBIdeal Cert.NormGBIdeal.Gen Cert.NormGBIdeal.Value Idealize.ShloMosaic Idealize.ShloMosaic.TcCoe Idealize.ShloMosaic.StableHlo Idealize.SL.Sem Cert.Prod Cert.Rms
open scoped BigOperators

/-! ## What a point stores -/

section Points
variable (c : Dev nD) (i : grid0.Coords) (arg1 : Memref sig .tc .vmem S512x2048 .bf16) (harg1 : arg1.IsWhole)
  (arg2 : Memref sig .tc .vmem S1x2048 .f32) (harg2 : arg2.IsWhole) (arg3 : Memref sig .tc .vmem S512x2048 .bf16) (harg3 : arg3.IsWhole)
  (arg4 : Memref sig .tc .vmem S512x2048 .bf16) (harg4 : arg4.IsWhole) (arg5 : Memref sig .tc .vmem S1x2048 .f32) (harg5 : arg5.IsWhole)
  (X D : ℕ → ℕ → ℕ → EReal) (G : ℕ → ℕ → EReal)

/-- The offsets of a load or store of a whole buffer. -/
theorem origin : (![0, 0] : Fin 2 → ℕ) = fun _ => 0 := by decide

/-! ### A group's stored blocks -/

section Blocks
variable (X D : ℕ → ℕ → EReal) (G : ℕ → EReal)

theorem block_x : k0_pay5 (mat (φ := .bf16) X) (mat (φ := .bf16) D) (mat (φ := .f32) (fun _ j => G j))
    = (mat (grad 512 (Ideal.ofBits .f32 0x44000000#32) X (fun i j => D i j * G j)) : FVec Ideal S512x512 .bf16) :=
  gradBlk_mat 0x44000000#32 reduces_S512x512_S512 shapeCasts_S512_S512x1 broadcasts_S512x1_S512x512 shapeCasts_S1x512_S1x512 broadcasts_S1x512_S512x512 X D G (by decide)

theorem block_gain : k0_pay6 (mat (φ := .bf16) X) (mat (φ := .bf16) D) (mat (φ := .f32) (fun _ j => G j))
    = (mat (fun _ j => G j + ∑ i ∈ Finset.range 512, D i j * hat 512 (Ideal.ofBits .f32 0x44000000#32) X i j) : FVec Ideal S1x512 .f32) :=
  gainsBlk_mat 0x44000000#32 reduces_S512x512_S512 shapeCasts_S512_S512x1 broadcasts_S512x1_S512x512 shapeCasts_S1x512_S1x512 reduces_S512x512_S512_2 shapeCasts_S512_S1x512 X D G

/-- The four groups' blocks are computed in the same way. -/
theorem same_x : @k0_pay12 Ideal _ = k0_pay5 ∧ @k0_pay18 Ideal _ = k0_pay5 ∧ @k0_pay24 Ideal _ = k0_pay5 := ⟨rfl, rfl, rfl⟩
theorem same_gain : @k0_pay13 Ideal _ = k0_pay6 ∧ @k0_pay19 Ideal _ = k0_pay6 ∧ @k0_pay25 Ideal _ = k0_pay6 := ⟨rfl, rfl, rfl⟩

end Blocks

theorem zero_gain : (k0_pay7 : FVec Ideal S1x2048 .f32) = mat (fun _ _ => 0) := by
  unfold k0_pay7
  simp only [broadcast_mat, Ideal.ofBits_zero_f32]

/-- A load of a group from what the first store left: zero. -/
theorem ld_zero (o : ℕ) (inb : ∀ a, (![0, o] : Fin 2 → ℕ) a + (![1, 512] : Fin 2 → ℕ) a ≤ S1x2048.size a) (w : View.Piece (Elt Ideal) S1x2048 .f32)
    (hw : w = ⟨Rect.unit ![0, 0] ![1, 2048] inb_S1x2048_S1x2048_0_0, (k0_pay7 (F := Ideal))⟩) :
    arg5.view.readCov [w] (Rect.unit ![0, o] ![1, 512] inb).toLoadRect = (mat (fun _ _ => 0) : FVec Ideal S1x512 .f32) := by
  subst hw
  rw [View.readCov_eq_canon']
  funext y
  rw [View.canon_cons_unit_zero (S := S1x2048) origin, zero_gain]
  rfl

section First
variable (hc0 : cond0_0 i)

/-- The first point's block of the gradient of `x`. -/
theorem outA3 : out0_A_3 (F := Ideal) c i arg1 harg1 arg2 harg2 arg3 harg3 arg4 harg4 arg5 harg5 hc0 (mat (φ := .bf16) (groups X)) (mat (φ := .f32) (groups (fun k _ j => G k j))) (mat (φ := .bf16) (groups D))
    = (mat (groups (fun k => grad 512 (Ideal.ofBits .f32 0x44000000#32) (X k) (fun i j => D k i j * G k j))) : FVec Ideal S512x2048 .bf16) := by
  unfold out0_A_3
  rw [View.read_writes_eq_canon _ _ _ (cover0_A_3 c i arg1 harg1 arg2 harg2 arg3 harg3 arg4 harg4 arg5 harg5 hc0 _ _ _)]
  unfold kernelRun0_A
  dsimp only
  sl_unfold_words
  simp only [View.readAt_eq_ld, harg1.read_unread, harg2.read_unread, harg3.read_unread, harg5.read_unread]
  simp only [ld_bf16 X 0 0 rfl, ld_bf16 X 1 512 rfl, ld_bf16 X 2 1024 rfl, ld_bf16 X 3 1536 rfl,
    ld_bf16 D 0 0 rfl, ld_bf16 D 1 512 rfl, ld_bf16 D 2 1024 rfl, ld_bf16 D 3 1536 rfl,
    ld_f32 (fun k _ j => G k j) 0 0 rfl, ld_f32 (fun k _ j => G k j) 1 512 rfl, ld_f32 (fun k _ j => G k j) 2 1024 rfl, ld_f32 (fun k _ j => G k j) 3 1536 rfl,
    same_x, block_x]
  exact canon_bf16 (fun k => grad 512 (Ideal.ofBits .f32 0x44000000#32) (X k) (fun i j => D k i j * G k j)) _ _ _ _ _

/-- The first point's gradient of the gain starts from zero. -/
theorem outA4 : out0_A_4 (F := Ideal) c i arg1 harg1 arg2 harg2 arg3 harg3 arg4 harg4 arg5 harg5 hc0 (mat (φ := .bf16) (groups X)) (mat (φ := .f32) (groups (fun k _ j => G k j))) (mat (φ := .bf16) (groups D))
    = (mat (groups (fun k _ j => 0 + ∑ i ∈ Finset.range 512, D k i j * hat 512 (Ideal.ofBits .f32 0x44000000#32) (X k) i j)) : FVec Ideal S1x2048 .f32) := by
  unfold out0_A_4
  rw [View.read_writes_eq_canon _ _ _ (cover0_A_4 c i arg1 harg1 arg2 harg2 arg3 harg3 arg4 harg4 arg5 harg5 hc0 _ _ _)]
  unfold kernelRun0_A
  dsimp only
  sl_unfold_words
  simp only [View.readAt_eq_ld, harg1.read_unread, harg2.read_unread, harg3.read_unread, harg5.read_unread]
  simp only [readCov_other arg5.view 1024 1536 (by decide), readCov_other arg5.view 512 1536 (by decide), readCov_other arg5.view 0 1536 (by decide),
    readCov_other arg5.view 512 1024 (by decide), readCov_other arg5.view 0 1024 (by decide), readCov_other arg5.view 0 512 (by decide), ld_zero arg5 _ _ _ rfl]
  simp only [ld_bf16 X 0 0 rfl, ld_bf16 X 1 512 rfl, ld_bf16 X 2 1024 rfl, ld_bf16 X 3 1536 rfl,
    ld_bf16 D 0 0 rfl, ld_bf16 D 1 512 rfl, ld_bf16 D 2 1024 rfl, ld_bf16 D 3 1536 rfl,
    same_gain, block_gain]
  exact canon_f32 (fun k _ j => 0 + ∑ i ∈ Finset.range 512, D k i j * hat 512 (Ideal.ofBits .f32 0x44000000#32) (X k) i j) _ _ _ _ _

end First

section Later
variable (hc0 : ¬cond0_0 i) (S : ℕ → ℕ → EReal) (g : Vec Ideal S1x2048 .f32)

/-- A later point's block of the gradient of `x`. -/
theorem outB3 : out0_B_3 (F := Ideal) c i arg1 harg1 arg2 harg2 arg3 harg3 arg4 harg4 arg5 harg5 hc0 (mat (φ := .bf16) (groups X)) (mat (φ := .f32) (groups (fun k _ j => G k j))) (mat (φ := .bf16) (groups D)) g
    = (mat (groups (fun k => grad 512 (Ideal.ofBits .f32 0x44000000#32) (X k) (fun i j => D k i j * G k j))) : FVec Ideal S512x2048 .bf16) := by
  unfold out0_B_3
  rw [View.read_writes_eq_canon _ _ _ (cover0_B_3 c i arg1 harg1 arg2 harg2 arg3 harg3 arg4 harg4 arg5 harg5 hc0 _ _ _ _)]
  unfold kernelRun0_B
  dsimp only
  sl_unfold_words
  simp only [View.readAt_eq_ld, harg1.read_unread, harg2.read_unread, harg3.read_unread, harg5.read_unread]
  simp only [ld_bf16 X 0 0 rfl, ld_bf16 X 1 512 rfl, ld_bf16 X 2 1024 rfl, ld_bf16 X 3 1536 rfl,
    ld_bf16 D 0 0 rfl, ld_bf16 D 1 512 rfl, ld_bf16 D 2 1024 rfl, ld_bf16 D 3 1536 rfl,
    ld_f32 (fun k _ j => G k j) 0 0 rfl, ld_f32 (fun k _ j => G k j) 1 512 rfl, ld_f32 (fun k _ j => G k j) 2 1024 rfl, ld_f32 (fun k _ j => G k j) 3 1536 rfl,
    same_x, block_x]
  exact canon_bf16 (fun k => grad 512 (Ideal.ofBits .f32 0x44000000#32) (X k) (fun i j => D k i j * G k j)) _ _ _ _ _

/-- A later point adds to the gradient of the gain. -/
theorem outB4 : out0_B_4 (F := Ideal) c i arg1 harg1 arg2 harg2 arg3 harg3 arg4 harg4 arg5 harg5 hc0 (mat (φ := .bf16) (groups X)) (mat (φ := .f32) (groups (fun k _ j => G k j))) (mat (φ := .bf16) (groups D)) (mat (φ := .f32) (groups (fun k _ j => S k j)))
    = (mat (groups (fun k _ j => S k j + ∑ i ∈ Finset.range 512, D k i j * hat 512 (Ideal.ofBits .f32 0x44000000#32) (X k) i j)) : FVec Ideal S1x2048 .f32) := by
  unfold out0_B_4
  rw [View.read_writes_eq_canon _ _ _ (cover0_B_4 c i arg1 harg1 arg2 harg2 arg3 harg3 arg4 harg4 arg5 harg5 hc0 _ _ _ _)]
  unfold kernelRun0_B
  dsimp only
  sl_unfold_words
  simp only [View.readAt_eq_ld, harg1.read_unread, harg2.read_unread, harg3.read_unread, harg5.read_unread]
  simp only [ld_bf16 X 0 0 rfl, ld_bf16 X 1 512 rfl, ld_bf16 X 2 1024 rfl, ld_bf16 X 3 1536 rfl,
    ld_bf16 D 0 0 rfl, ld_bf16 D 1 512 rfl, ld_bf16 D 2 1024 rfl, ld_bf16 D 3 1536 rfl,
    ld_f32 (fun k _ j => S k j) 0 0 rfl, ld_f32 (fun k _ j => S k j) 1 512 rfl, ld_f32 (fun k _ j => S k j) 2 1024 rfl, ld_f32 (fun k _ j => S k j) 3 1536 rfl,
    same_gain, block_gain]
  exact canon_f32 (fun k _ j => S k j + ∑ i ∈ Finset.range 512, D k i j * hat 512 (Ideal.ofBits .f32 0x44000000#32) (X k) i j) _ _ _ _ _

end Later

end Points

/-! ## The arrays -/

variable (m : (ℓ : Loc nD τ sig) → Buf (Elt Ideal) ℓ) (c : Dev nD) {X D : ℕ → ℕ → ℕ → EReal} {G : ℕ → ℕ → EReal}

/-- The windows' block indices. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-- The gain as the kernel finds it: a row. -/
theorem host_gain : V m c main_v0 = (shapeCast S1x2048 (m ((c : Thread nD τ).loc main_arg1)) shapeCasts_S2048_S1x2048 : FVec Ideal S1x2048 .f32) := by
  simp only [V, hostOps0, List.flatten_cons, List.flatten_nil, List.append_nil, TRef.unary, TRef.toBuf, TRef.ofBuf, cast_eq]
  after_results_simp <;> rfl

/-- A point's block of `x`: its rows. -/
theorem iblk_x (h0 : m ((c : Thread nD τ).loc main_arg0) = (mat (groups X) : FVec Ideal S4096x2048 .bf16)) (t : Fin cfg0.N) :
    iblk m c 0 t = (mat (groups (fun k => rows (512 * t.val) (X k))) : FVec Ideal S512x2048 .bf16) := by
  have e : V m c (Pipeline.arrRef spec0 0) = (mat (groups X) : FVec Ideal S4096x2048 .bf16) := (V_main_arg0 m c).trans h0
  unfold iblk
  rw [e]
  funext y
  blk_simp [(idx t).1, mat, groups]
  simp only [rows, Nat.mul_comm, Nat.zero_mul, Nat.mul_zero, Nat.zero_add]

/-- A point's block of the gain: all of it. -/
theorem iblk_gain (h1 : m ((c : Thread nD τ).loc main_arg1) = (vec (fun j => G (j / 512) (j % 512)) : FVec Ideal S2048 .f32)) (t : Fin cfg0.N) :
    iblk m c 1 t = (mat (groups (fun k _ j => G k j)) : FVec Ideal S1x2048 .f32) := by
  have e : V m c (Pipeline.arrRef spec0 1) = (mat (groups (fun k _ j => G k j)) : FVec Ideal S1x2048 .f32) := by
    refine (host_gain m c).trans ?_
    rw [h1]
    exact row_vec (fun j => G (j / 512) (j % 512)) _
  unfold iblk
  rw [e]
  funext y
  blk_simp [(idx t).2.1, mat, groups]

/-- A point's block of the result's gradient: its rows. -/
theorem iblk_d (h2 : m ((c : Thread nD τ).loc main_arg2) = (mat (groups D) : FVec Ideal S4096x2048 .bf16)) (t : Fin cfg0.N) :
    iblk m c 2 t = (mat (groups (fun k => rows (512 * t.val) (D k))) : FVec Ideal S512x2048 .bf16) := by
  have e : V m c (Pipeline.arrRef spec0 2) = (mat (groups D) : FVec Ideal S4096x2048 .bf16) := (V_main_arg2 m c).trans h2
  unfold iblk
  rw [e]
  funext y
  blk_simp [(idx t).2.2.1, mat, groups]
  simp only [rows, Nat.mul_comm, Nat.zero_mul, Nat.mul_zero, Nat.zero_add]

variable (h0 : m ((c : Thread nD τ).loc main_arg0) = (mat (groups X) : FVec Ideal S4096x2048 .bf16))
  (h1 : m ((c : Thread nD τ).loc main_arg1) = (vec (fun j => G (j / 512) (j % 512)) : FVec Ideal S2048 .f32))
  (h2 : m ((c : Thread nD τ).loc main_arg2) = (mat (groups D) : FVec Ideal S4096x2048 .bf16))
include h0 h1 h2

/-- After every point the gradient of the gain holds the sums over the rows of the points so far. -/
theorem sums : ∀ t : Fin cfg0.N,
    (outsAt0 m c t.val t.isLt).2 = (mat (groups (fun k _ j => gains 512 (Ideal.ofBits .f32 0x44000000#32) (X k) (D k) (512 * t.val + 512) j)) : FVec Ideal S1x2048 .f32) := by
  rintro ⟨n, hn⟩
  induction n with
  | zero =>
    have hz : (⟨0, hn⟩ : Fin cfg0.N).val % 8 = 0 := Nat.zero_mod _
    have ht : (⟨0, hn⟩ : Fin cfg0.N).val = 0 := rfl
    generalize (⟨0, hn⟩ : Fin cfg0.N) = t at hz ht ⊢
    refine (congrArg (fun x => x.2) (outsAt0_A m c t hz)).trans ?_
    dsimp only
    rw [iblk_x m c h0, iblk_gain m c h1, iblk_d m c h2, outA4, ht]
    simp only [← gains_add]
    rfl
  | succ n ih =>
    have hN : n + 1 < 8 := hn
    have ih : (outsAt0 m c ((⟨n + 1, hn⟩ : Fin cfg0.N).val - 1) (Nat.lt_of_le_of_lt (Nat.sub_le _ _) (⟨n + 1, hn⟩ : Fin cfg0.N).isLt)).2
      = (mat (groups (fun k _ j => gains 512 (Ideal.ofBits .f32 0x44000000#32) (X k) (D k) (512 * (⟨n + 1, hn⟩ : Fin cfg0.N).val) j)) : FVec Ideal S1x2048 .f32) := ih (Nat.lt_of_succ_lt hn)
    have hz : ¬(⟨n + 1, hn⟩ : Fin cfg0.N).val % 8 = 0 := by dsimp only; omega
    generalize (⟨n + 1, hn⟩ : Fin cfg0.N) = t at hz ih ⊢
    refine (congrArg (fun x => x.2) (outsAt0_B m c t hz)).trans ?_
    dsimp only
    rw [ih, iblk_x m c h0, iblk_gain m c h1, iblk_d m c h2, outB4 (S := fun k j => gains 512 (Ideal.ofBits .f32 0x44000000#32) (X k) (D k) (512 * t.val) j)]
    simp only [← gains_add]

/-- The block of the gradient of `x` that a point leaves: its rows. -/
theorem block3 (t : Fin cfg0.N) : (outsAt0 m c t.val t.isLt).1
    = (mat (groups (fun k => rows (512 * t.val) (grad 512 (Ideal.ofBits .f32 0x44000000#32) (X k) (fun i j => D k i j * G k j)))) : FVec Ideal S512x2048 .bf16) := by
  by_cases hz : t.val % 8 = 0
  · refine (congrArg (fun x => x.1) (outsAt0_A m c t hz)).trans ?_
    dsimp only
    rw [iblk_x m c h0, iblk_gain m c h1, iblk_d m c h2, outA3]
    rfl
  · refine (congrArg (fun x => x.1) (outsAt0_B m c t hz)).trans ?_
    dsimp only
    rw [iblk_x m c h0, iblk_gain m c h1, iblk_d m c h2, outB3]
    rfl

/-- The gradient of `x` after the run. -/
theorem array3 : (dats m 0 c).arrAt 3 cfg0.N
    = (mat (groups (fun k => grad 512 (Ideal.ofBits .f32 0x44000000#32) (X k) (fun i j => D k i j * G k j))) : FVec Ideal S4096x2048 .bf16) := by
  refine (dats m 0 c).arrAt_eq_of_covers 3 _ (by decide +kernel) fun t hf y => ?_
  blk_simp
  rw [after0_3, block3 m c h0 h1 h2]
  blk_simp [(idx t).2.2.2.1, mat, groups]
  simp only [rows, Nat.mul_comm, Nat.zero_mul, Nat.mul_zero, Nat.zero_add]

/-- The gradient of the gain after the run. -/
theorem array4 : (dats m 0 c).arrAt 4 cfg0.N = (mat (groups (fun k _ j => gains 512 (Ideal.ofBits .f32 0x44000000#32) (X k) (D k) 4096 j)) : FVec Ideal S1x2048 .f32) := by
  refine (dats m 0 c).arrAt_eq_of_covers 4 _ (by decide +kernel) fun t hf y => ?_
  have hN : t.val < 8 := t.isLt
  have hm : t.val = 7 := by have := (flush0_4 t).mp hf; omega
  blk_simp
  rw [after0_4, sums m c h0 h1 h2 t, hm]
  blk_simp [(idx t).2.2.2.2, mat, groups]

end Cert.NormGBIdeal.SB

end

end
-- ==== Proof.NormGBRef.lean ====
/- The two results of the reference of the backward pass of the norm of the four mixers' outputs, on arrays given group by group. -/
module

public import proofs.«01_k».proof.Proof.Gen.NormGBRefIdeal.Read
public import proofs.«01_k».proof.Proof.RmsGroup

@[expose] public section

noncomputable section

namespace Cert.NormGBRefIdeal.SB

open Cert.NormGBRefIdeal Cert.NormGBRefIdeal.Read Idealize.ShloMosaic Idealize.ShloMosaic.ValueIdx Cert.Prod Cert.Rms
open scoped BigOperators

variable (X D : ℕ → ℕ → ℕ → EReal) (G : ℕ → ℕ → EReal)

/-- An element, at its group. -/
theorem v2 (i : S4096x4x512.Idx) : val_main_v2 (F := Ideal) (mat (φ := .bf16) (groups X)) i = X (i 1).val (i 0).val (i 2).val := by
  rw [val_main_v2_apply, val_main_v0_apply]
  exact groups_flat X _ _ _ (i 1).isLt (i 2).isLt

/-- The result's gradient, at its group. -/
theorem v24 (i : S4096x4x512.Idx) : val_main_v24 (F := Ideal) (mat (φ := .bf16) (groups D)) i = D (i 1).val (i 0).val (i 2).val := by
  rw [val_main_v24_apply, val_main_v23_apply]
  exact groups_flat D _ _ _ (i 1).isLt (i 2).isLt

/-- The gain, at its group. -/
theorem v18 (i : S1x4x512.Idx) : val_main_v18 (F := Ideal) (vec (φ := .f32) fun j => G (j / 512) (j % 512)) i = G (i 1).val (i 2).val := by
  have h : (i 2).val < 512 := (i 2).isLt
  rw [val_main_v18_apply, val_main_v1_apply]
  show G (((i 1).val * 512 + (i 2).val) / 512) (((i 1).val * 512 + (i 2).val) % 512) = _
  rw [show ((i 1).val * 512 + (i 2).val) / 512 = (i 1).val by omega, show ((i 1).val * 512 + (i 2).val) % 512 = (i 2).val by omega]

/-- The mean square of a group of a row, with the epsilon. -/
theorem mean (i : S4096x4x1.Idx) : val_main_v11 (F := Ideal) (mat (φ := .bf16) (groups X)) i
    = Ideal.div (∑ k ∈ Finset.range 512, X (i 1).val (i 0).val k * X (i 1).val (i 0).val k) (Ideal.ofBits .f32 0x44000000#32) + Ideal.ofBits .f32 0x358637BD#32 := by
  rw [val_main_v11_apply, val_main_v9_apply, val_main_v7_apply, val_main_v6_apply, val_main_v8_apply, val_main_v10_apply, ← sum_zero]
  simp only [val_main_v3_apply, v2]
  rfl

theorem v12 (i : S4096x4x1.Idx) : val_main_v12 (F := Ideal) (mat (φ := .bf16) (groups X)) i = inv 512 (Ideal.ofBits .f32 0x44000000#32) (X (i 1).val) (i 0).val := by
  rw [val_main_v12_apply, mean]
  rfl

/-- The normed element. -/
theorem v17 (i : S4096x4x512.Idx) : val_main_v17 (F := Ideal) (mat (φ := .bf16) (groups X)) i
    = hat 512 (Ideal.ofBits .f32 0x44000000#32) (X (i 1).val) (i 0).val (i 2).val := by
  rw [val_main_v17_apply, val_main_v16_apply, v2, v12]
  rfl

/-- The gradient of the normed element. -/
theorem v29 (i : S4096x4x512.Idx) : val_main_v29 (F := Ideal) (vec (φ := .f32) fun j => G (j / 512) (j % 512)) (mat (φ := .bf16) (groups D)) i
    = D (i 1).val (i 0).val (i 2).val * G (i 1).val (i 2).val := by
  rw [val_main_v29_apply, v24, val_main_v28_apply, v18]
  rfl

/-- A group's sum of the element times the gradient of the normed element. -/
theorem v33 (i : S4096x4x1.Idx) :
    val_main_v33 (F := Ideal) (mat (φ := .bf16) (groups X)) (vec (φ := .f32) fun j => G (j / 512) (j % 512)) (mat (φ := .bf16) (groups D)) i
    = ∑ k ∈ Finset.range 512, X (i 1).val (i 0).val k * (D (i 1).val (i 0).val k * G (i 1).val k) := by
  have h1 : (i 1).val < 4 := (i 1).isLt
  have h2 : (i 2).val < 1 := (i 2).isLt
  rw [val_main_v33_apply, val_main_v32_apply, ← sum_zero]
  simp only [val_main_v31_apply, v2, v29]
  show Ideal.ofBits .f32 0x00000000#32 + ∑ k : Fin 512, X ((((i 0).val * 4 + (i 1).val) * 1 + (i 2).val) % 4) ((((i 0).val * 4 + (i 1).val) * 1 + (i 2).val) / 4) k.val
    * (D ((((i 0).val * 4 + (i 1).val) * 1 + (i 2).val) % 4) ((((i 0).val * 4 + (i 1).val) * 1 + (i 2).val) / 4) k.val
      * G ((((i 0).val * 4 + (i 1).val) * 1 + (i 2).val) % 4) k.val) = _
  rw [show (((i 0).val * 4 + (i 1).val) * 1 + (i 2).val) % 4 = (i 1).val by omega,
    show (((i 0).val * 4 + (i 1).val) * 1 + (i 2).val) / 4 = (i 0).val by omega]

/-- What the inverse root of the mean square adds to a group's gradient, but for the element. -/
theorem v38 (i : S4096x4x1.Idx) :
    val_main_v38 (F := Ideal) (mat (φ := .bf16) (groups X)) (vec (φ := .f32) fun j => G (j / 512) (j % 512)) (mat (φ := .bf16) (groups D)) i
    = Ideal.div ((∑ k ∈ Finset.range 512, X (i 1).val (i 0).val k * (D (i 1).val (i 0).val k * G (i 1).val k)) * (Ideal.ofBits .f32 0xBF000000#32
        * Ideal.div (inv 512 (Ideal.ofBits .f32 0x44000000#32) (X (i 1).val) (i 0).val)
          (Ideal.div (∑ k ∈ Finset.range 512, X (i 1).val (i 0).val k * X (i 1).val (i 0).val k) (Ideal.ofBits .f32 0x44000000#32) + Ideal.ofBits .f32 0x358637BD#32)))
      (Ideal.ofBits .f32 0x44000000#32) := by
  rw [val_main_v38_apply, val_main_v36_apply, v33, val_main_v15_apply, val_main_v14_apply, val_main_v13_apply, v12, mean, val_main_v37_apply]
  rfl

/-- The gradient of an element. -/
theorem v42 (i : S4096x4x512.Idx) :
    val_main_v42 (F := Ideal) (mat (φ := .bf16) (groups X)) (vec (φ := .f32) fun j => G (j / 512) (j % 512)) (mat (φ := .bf16) (groups D)) i
    = grad 512 (Ideal.ofBits .f32 0x44000000#32) (X (i 1).val) (fun r j => D (i 1).val r j * G (i 1).val j) (i 0).val (i 2).val := by
  rw [val_main_v42_apply, val_main_v35_apply, v29, val_main_v34_apply, v12, val_main_v41_apply, val_main_v40_apply, val_main_v39_apply,
    Fin.sum_univ_one, v38, val_main_v5_apply, val_main_v4_apply, v2]
  refine Eq.trans ?_ (Eq.symm ((congrArg (fun c => grad 512 c (X (i 1).val) (fun r j => D (i 1).val r j * G (i 1).val j) (i 0).val (i 2).val) ofBits_narrow).trans
    (grad_eq 512 (by norm_num : (0 : ℝ) < 512) (X (i 1).val) (fun r j => D (i 1).val r j * G (i 1).val j) (i 0).val (i 2).val (i 2).isLt)))
  rw [← ofBits_narrow]
  show _ + (Ideal.ofBits .f32 0x00000000#32 + _) * _ = _
  rw [Ideal.ofBits_zero_f32, zero_add]
  rfl

/-- The gradient of `x`. -/
theorem result_x : val_main_v45 (F := Ideal) (mat (φ := .bf16) (groups X)) (vec (φ := .f32) fun j => G (j / 512) (j % 512)) (mat (φ := .bf16) (groups D))
    = mat (φ := .bf16) (groups fun k => grad 512 (Ideal.ofBits .f32 0x44000000#32) (X k) (fun i j => D k i j * G k j)) := by
  funext i
  have h1 : (i 1).val < 2048 := (i 1).isLt
  rw [val_main_v45_apply, val_main_v43_apply, v42]
  show grad 512 (Ideal.ofBits .f32 0x44000000#32) (X (((i 0).val * 2048 + (i 1).val) / 512 % 4))
    (fun r j => D (((i 0).val * 2048 + (i 1).val) / 512 % 4) r j * G (((i 0).val * 2048 + (i 1).val) / 512 % 4) j)
    (((i 0).val * 2048 + (i 1).val) / 2048) (((i 0).val * 2048 + (i 1).val) % 512) = _
  rw [show ((i 0).val * 2048 + (i 1).val) / 512 % 4 = (i 1).val / 512 by omega, show ((i 0).val * 2048 + (i 1).val) / 2048 = (i 0).val by omega,
    show ((i 0).val * 2048 + (i 1).val) % 512 = (i 1).val % 512 by omega]
  rfl

/-- The sum of a column's products, at its group. -/
theorem v26 (i : S4x512.Idx) : val_main_v26 (F := Ideal) (mat (φ := .bf16) (groups X)) (mat (φ := .bf16) (groups D)) i
    = gains 512 (Ideal.ofBits .f32 0x44000000#32) (X (i 0).val) (D (i 0).val) 4096 (i 1).val := by
  rw [val_main_v26_apply]
  simp only [val_main_v25_apply, v17, v24]
  show Ideal.ofBits .f32 0x00000000#32 + ∑ k : Fin 4096, hat 512 (Ideal.ofBits .f32 0x44000000#32) (X (i 0).val) k.val (i 1).val * D (i 0).val k.val (i 1).val = _
  rw [Ideal.ofBits_zero_f32, zero_add]
  simp only [mul_comm (hat _ _ _ _ _)]
  exact (Finset.sum_range fun k => D (i 0).val k (i 1).val * hat 512 (Ideal.ofBits .f32 0x44000000#32) (X (i 0).val) k (i 1).val).symm

/-- The gradient of the gain. -/
theorem result_gain : val_main_v46 (F := Ideal) (mat (φ := .bf16) (groups X)) (mat (φ := .bf16) (groups D))
    = mat (φ := .f32) (groups fun k _ j => gains 512 (Ideal.ofBits .f32 0x44000000#32) (X k) (D k) 4096 j) := by
  funext i
  have h0 : (i 0).val < 1 := (i 0).isLt
  have h1 : (i 1).val < 2048 := (i 1).isLt
  rw [val_main_v46_apply, val_main_v44_apply, val_main_v30_apply, Fin.sum_univ_one, val_main_v27_apply, v26]
  show Ideal.ofBits .f32 0x00000000#32 + gains 512 (Ideal.ofBits .f32 0x44000000#32)
    (X (((0 * 4 + ((i 0).val * 2048 + (i 1).val) / 512) * 512 + ((i 0).val * 2048 + (i 1).val) % 512) / 512))
    (D (((0 * 4 + ((i 0).val * 2048 + (i 1).val) / 512) * 512 + ((i 0).val * 2048 + (i 1).val) % 512) / 512)) 4096
    (((0 * 4 + ((i 0).val * 2048 + (i 1).val) / 512) * 512 + ((i 0).val * 2048 + (i 1).val) % 512) % 512) = _
  rw [Ideal.ofBits_zero_f32, zero_add,
    show ((0 * 4 + ((i 0).val * 2048 + (i 1).val) / 512) * 512 + ((i 0).val * 2048 + (i 1).val) % 512) / 512 = (i 1).val / 512 by omega,
    show ((0 * 4 + ((i 0).val * 2048 + (i 1).val) / 512) * 512 + ((i 0).val * 2048 + (i 1).val) % 512) % 512 = (i 1).val % 512 by omega]
  rfl

end Cert.NormGBRefIdeal.SB

end

end
-- ==== Proof.NormGBEq.lean ====
/- The kernel of the norm's backward pass on the four mixers' outputs and its reference leave the same gradients. -/
module

public import proofs.«01_k».proof.Defs
public import proofs.«01_k».proof.Proof.Gen.NormGBRefIdeal.Run
public import proofs.«01_k».proof.Proof.NormGBArr
public import proofs.«01_k».proof.Proof.NormGBRef

@[expose] public section

noncomputable section

namespace Cert.NormGBEq

open Idealize.ShloMosaic Idealize.ShloMosaic.TcCoe Idealize.SL.Sem Cert.Prod Cert.Rms

/-- From whatever arguments, the kernel and its reference leave the same gradients of `x` and of the gain, and both keep
    their arguments. -/
theorem equation : Cert.algebraic_NormGBIdeal_NormGBRefIdeal (hNormGBIdeal := Cert.NormGBIdeal.Gen.facts)
    (hNormGBRefIdeal := Cert.NormGBRefIdeal.Gen.facts) := by
  intro m g m' g' _ hargs
  refine ⟨fun c => (Cert.NormGBIdeal.Gen.dats m 0 c).arrAt 3 Cert.NormGBIdeal.cfg0.N,
    fun c => (Cert.NormGBIdeal.Gen.dats m 0 c).arrAt 4 Cert.NormGBIdeal.cfg0.N,
    Cert.NormGBIdeal.Value.run_blocks m g, ?_⟩
  refine (θ_run _ _ _).mono (fun r h c => ?_) (Cert.NormGBRefIdeal.Value.run m' g')
  obtain ⟨X, h0⟩ := exists_mat (φ := .bf16) (n0 := 4096) (n1 := 2048) (m ((c.tc : Thread Cert.NormGBIdeal.nD Cert.NormGBIdeal.τ).loc Cert.NormGBIdeal.main_arg0))
  obtain ⟨G, h1⟩ := exists_vec (φ := .f32) (n0 := 2048) (m ((c.tc : Thread Cert.NormGBIdeal.nD Cert.NormGBIdeal.τ).loc Cert.NormGBIdeal.main_arg1))
  obtain ⟨D, h2⟩ := exists_mat (φ := .bf16) (n0 := 4096) (n1 := 2048) (m ((c.tc : Thread Cert.NormGBIdeal.nD Cert.NormGBIdeal.τ).loc Cert.NormGBIdeal.main_arg2))
  obtain ⟨X, rfl⟩ := exists_groups X
  obtain ⟨D, rfl⟩ := exists_groups D
  obtain ⟨G, rfl⟩ : ∃ G' : ℕ → ℕ → EReal, G = fun j => G' (j / 512) (j % 512) :=
    ⟨fun k j => G (512 * k + j), funext fun j => by dsimp only; rw [Nat.div_add_mod]⟩
  obtain ⟨e0, e1, e2⟩ := hargs c
  obtain ⟨r0, r1, k⟩ := h c
  refine ⟨r0.trans ?_, r1.trans ?_, k⟩
  · refine Eq.trans ?_ (Cert.NormGBIdeal.SB.array3 m c h0 h1 h2).symm
    rw [Cert.NormGBRefIdeal.Read.val_main_v45_eq, e0, e1, e2, h0, h1, h2]
    exact Cert.NormGBRefIdeal.SB.result_x X D G
  · refine Eq.trans ?_ (Cert.NormGBIdeal.SB.array4 m c h0 h1 h2).symm
    rw [Cert.NormGBRefIdeal.Read.val_main_v46_eq, e0, e2, h0, h2]
    exact Cert.NormGBRefIdeal.SB.result_gain X D

end Cert.NormGBEq

end

end
-- ==== Proof.GateProd.lean ====
/- The product of rows with weights gathered from four devices, as the feed-forward's gate and up product has it, and its two gradients:
   the kernels' arrays are the plain products that the references compute. -/
module

public import proofs.«01_k».proof.Defs
public import proofs.«01_k».proof.Proof.Gen.GateIdeal.Value
public import proofs.«01_k».proof.Proof.Gen.GateDaIdeal.Value
public import proofs.«01_k».proof.Proof.Gen.GateDwIdeal.Value
public import proofs.«01_k».proof.Proof.Gen.GateRefIdeal.Run
public import proofs.«01_k».proof.Proof.Gen.GateDaRefIdeal.Run
public import proofs.«01_k».proof.Proof.Gen.GateDwRefIdeal.Run
public import proofs.«01_k».proof.Proof.Prod
public import Idealize.ShloMosaic.Lib.Pipeline.ValueKit

@[expose] public section

-- the windows' indices are checked over the whole grid
set_option maxRecDepth 16384

noncomputable section

namespace Cert.GateIdeal.Prod

open Cert.GateIdeal Cert.GateIdeal.Gen Cert.GateIdeal.Value Idealize.ShloMosaic Idealize.ShloMosaic.TcCoe Idealize.SL.Sem Cert.Prod

/-- The block that a point stores. -/
theorem block (f : ℕ → ℕ → EReal) (g : ℕ → ℕ → ℕ → EReal) :
    out0_2 (F := Ideal) (mat (φ := .bf16) f) (stack (φ := .bf16) g) = mat (φ := .bf16) (mul 2048 f (g 0)) := by
  refine (View.canon_unit_zero (by decide) _ _).trans ?_
  rw [View.ld_unit_zero (by decide), View.ld_unit_zero (by decide)]
  exact congrArg (truncf .bf16 · bitsLt_bf16_f32) (block_nn1 (φ₁ := .bf16) (φ₂ := .bf16) f g none shapeCasts_S1x2048x1408_S2048x1408)

/-- The point that stores a block reads that block's rows and the columns' device. -/
theorem idx : ∀ t : Fin cfg0.N, win0_0.index t 0 = win0_2.index t 0 ∧ win0_0.index t 1 = 0
    ∧ win0_1.index t 0 = win0_2.index t 1 ∧ win0_1.index t 1 = 0 ∧ win0_1.index t 2 = 0 :=
  (by decide +kernel : ∀ t : Fin grid0.N, _)

/-- The result array. -/
theorem array (m : (ℓ : Loc nD τ sig) → Buf (Elt Ideal) ℓ) (c : Dev nD) (A : ℕ → ℕ → EReal) (W : ℕ → ℕ → ℕ → EReal)
    (h0 : m ((c : Thread nD τ).loc main_arg0) = (mat A : FVec Ideal S4096x2048 .bf16))
    (h1 : m ((c : Thread nD τ).loc main_arg1) = (stack W : FVec Ideal S4x2048x1408 .bf16)) :
    (dats m 0 c).arrAt 2 cfg0.N = (mat (mul 2048 A (wide 1408 W)) : FVec Ideal S4096x5632 .bf16) := by
  refine (dats m 0 c).arrAt_eq_of_covers 2 _ (by decide +kernel) fun t _ y => ?_
  obtain ⟨a0, a1, b0, b1, b2⟩ := idx t
  have e0 : iblk m c 0 t = (mat (part (win0_2.index t 0 * 1024) 0 A) : FVec Ideal S1024x2048 .bf16) := by
    funext x; blk_simp [iblk, V_main_arg0, h0, a0, a1, mat, part]
  have e1 : iblk m c 1 t = (stack (part3 (win0_2.index t 1) 0 0 W) : FVec Ideal S1x2048x1408 .bf16) := by
    funext x; blk_simp [iblk, V_main_arg1, h1, b0, b1, b2, stack, part3]
  blk_simp
  rw [after0_2, e0, e1, block]
  blk_simp [mat]
  exact mul_wide 2048 A W _ _ _ _ (y 1).isLt

end Cert.GateIdeal.Prod

namespace Cert.GateDaIdeal.Prod

open Cert.GateDaIdeal Cert.GateDaIdeal.Gen Cert.GateDaIdeal.Value Idealize.ShloMosaic Idealize.ShloMosaic.TcCoe Idealize.SL.Sem Cert.Prod

/-- The block that a point stores. -/
theorem block (f : ℕ → ℕ → EReal) (g : ℕ → ℕ → ℕ → EReal) :
    out0_2 (F := Ideal) (mat (φ := .bf16) f) (stack (φ := .bf16) g) = mat (φ := .bf16) (mulT 5632 f (wide 1408 g)) := by
  refine (View.canon_unit_zero (by decide) _ _).trans ?_
  exact congrArg (truncf .bf16 · bitsLt_bf16_f32) (sum_parts (M := 1024) (N := 512) (p := 1408) (q := 5632) (by decide) (by decide) f g _ _ _ _
    (block_nt1 f g 0 0 none _ _ _) (block_nt1 f g 1 1408 none _ _ _) (block_nt1 f g 2 2816 none _ _ _) (block_nt1 f g 3 4224 none _ _ _))

/-- The point that stores a block reads that block's rows of the cotangent and its rows of the weights. -/
theorem idx : ∀ t : Fin cfg0.N, win0_0.index t 0 = win0_2.index t 0 ∧ win0_0.index t 1 = 0
    ∧ win0_1.index t 0 = 0 ∧ win0_1.index t 1 = win0_2.index t 1 ∧ win0_1.index t 2 = 0 :=
  (by decide +kernel : ∀ t : Fin grid0.N, _)

/-- The result array. -/
theorem array (m : (ℓ : Loc nD τ sig) → Buf (Elt Ideal) ℓ) (c : Dev nD) (W : ℕ → ℕ → ℕ → EReal) (D : ℕ → ℕ → EReal)
    (h1 : m ((c : Thread nD τ).loc main_arg1) = (stack W : FVec Ideal S4x2048x1408 .bf16))
    (h2 : m ((c : Thread nD τ).loc main_arg2) = (mat D : FVec Ideal S4096x5632 .bf16)) :
    (dats m 0 c).arrAt 2 cfg0.N = (mat (mulT 5632 D (wide 1408 W)) : FVec Ideal S4096x2048 .bf16) := by
  refine (dats m 0 c).arrAt_eq_of_covers 2 _ (by decide +kernel) fun t _ y => ?_
  obtain ⟨a0, a1, b0, b1, b2⟩ := idx t
  have e0 : iblk m c 0 t = (mat (part (win0_2.index t 0 * 1024) 0 D) : FVec Ideal S1024x5632 .bf16) := by
    funext x; blk_simp [iblk, V_main_arg2, h2, a0, a1, mat, part]
  have e1 : iblk m c 1 t = (stack (part3 0 (win0_2.index t 1 * 512) 0 W) : FVec Ideal S4x512x1408 .bf16) := by
    funext x; blk_simp [iblk, V_main_arg1, h1, b0, b1, b2, stack, part3]
  blk_simp
  rw [after0_2, e0, e1, block]
  blk_simp [mat]
  exact mulT_wide 5632 1408 D W _ _ _ _

end Cert.GateDaIdeal.Prod

namespace Cert.GateDwIdeal.Prod

open Cert.GateDwIdeal Cert.GateDwIdeal.Gen Cert.GateDwIdeal.Value Idealize.ShloMosaic Idealize.ShloMosaic.TcCoe Idealize.SL.Sem Cert.Prod

/-- The block that a point stores. -/
theorem block (f g : ℕ → ℕ → EReal) :
    out0_2 (F := Ideal) (mat (φ := .bf16) f) (mat (φ := .bf16) g) = stack (φ := .bf16) (fun _ => tMul 4096 f g) := by
  refine (View.canon_unit_zero (by decide) _ _).trans ?_
  rw [View.ld_unit_zero (by decide), View.ld_unit_zero (by decide)]
  exact block_tn1 (φ₁ := .bf16) (φ₂ := .bf16) f g none bitsLt_bf16_f32 shapeCasts_S512x1408_S1x512x1408

/-- The point that stores a block reads that block's columns of the rows and of the cotangent. -/
theorem idx : ∀ t : Fin cfg0.N, win0_0.index t 0 = 0 ∧ win0_0.index t 1 = win0_2.index t 1
    ∧ win0_1.index t 0 = 0 ∧ win0_1.index t 1 = win0_2.index t 0 ∧ win0_2.index t 2 = 0 :=
  (by decide +kernel : ∀ t : Fin grid0.N, _)

/-- The result array. -/
theorem array (m : (ℓ : Loc nD τ sig) → Buf (Elt Ideal) ℓ) (c : Dev nD) (A D : ℕ → ℕ → EReal)
    (h0 : m ((c : Thread nD τ).loc main_arg0) = (mat A : FVec Ideal S4096x2048 .bf16))
    (h2 : m ((c : Thread nD τ).loc main_arg2) = (mat D : FVec Ideal S4096x5632 .bf16)) :
    (dats m 0 c).arrAt 2 cfg0.N = (stack (fun j k n => tMul 4096 A D k (j * 1408 + n)) : FVec Ideal S4x2048x1408 .bf16) := by
  refine (dats m 0 c).arrAt_eq_of_covers 2 _ (by decide +kernel) fun t _ y => ?_
  obtain ⟨a0, a1, b0, b1, d2⟩ := idx t
  have e0 : iblk m c 0 t = (mat (part 0 (win0_2.index t 1 * 512) A) : FVec Ideal S4096x512 .bf16) := by
    funext x; blk_simp [iblk, V_main_arg0, h0, a0, a1, mat, part]
  have e1 : iblk m c 1 t = (mat (part 0 (win0_2.index t 0 * 1408) D) : FVec Ideal S4096x1408 .bf16) := by
    funext x; blk_simp [iblk, V_main_arg2, h2, b0, b1, mat, part]
  blk_simp
  rw [after0_2, e0, e1, block]
  blk_simp [d2, stack]
  exact tMul_part 4096 A D _ _ _ _

end Cert.GateDwIdeal.Prod

namespace Cert.GateEq

open Idealize.ShloMosaic Idealize.SL.Sem Cert.Prod

/-- The kernel and its reference leave the same product, and both keep their arguments. -/
theorem equation : Cert.algebraic_GateIdeal_GateRefIdeal (hGateIdeal := Cert.GateIdeal.Gen.facts)
    (hGateRefIdeal := Cert.GateRefIdeal.Gen.facts) := by
  intro m g m' g' _ hargs
  refine ⟨fun c => (Cert.GateIdeal.Gen.dats m 0 c).arrAt 2 Cert.GateIdeal.cfg0.N, Cert.GateIdeal.Value.run_blocks m g, ?_⟩
  refine (θ_run _ _ _).mono (fun r h c => ?_) (Cert.GateRefIdeal.Value.run m' g')
  obtain ⟨A, h0⟩ := exists_mat (n0 := 4096) (n1 := 2048) (φ := .bf16) (m ((c.tc : Thread _ _).loc Cert.GateIdeal.main_arg0))
  obtain ⟨W, h1⟩ := exists_stack (n0 := 4) (n1 := 2048) (n2 := 1408) (φ := .bf16) (m ((c.tc : Thread _ _).loc Cert.GateIdeal.main_arg1))
  obtain ⟨e0, e1⟩ := hargs c
  refine ⟨(h c).1.trans (Eq.trans ?_ (Cert.GateIdeal.Prod.array m c A W h0 h1).symm), (h c).2⟩
  rw [e0, e1, h0, h1]
  exact congrArg (truncf .bf16 · _) (ref_nn (p := 1408) (by decide) (by decide) A W _ _ _ _)

end Cert.GateEq

namespace Cert.GateDaEq

open Idealize.ShloMosaic Idealize.SL.Sem Cert.Prod

/-- The kernel and its reference leave the same gradient of the rows, and both keep their arguments. -/
theorem equation : Cert.algebraic_GateDaIdeal_GateDaRefIdeal (hGateDaIdeal := Cert.GateDaIdeal.Gen.facts)
    (hGateDaRefIdeal := Cert.GateDaRefIdeal.Gen.facts) := by
  intro m g m' g' _ hargs
  refine ⟨fun c => (Cert.GateDaIdeal.Gen.dats m 0 c).arrAt 2 Cert.GateDaIdeal.cfg0.N, Cert.GateDaIdeal.Value.run_blocks m g, ?_⟩
  refine (θ_run _ _ _).mono (fun r h c => ?_) (Cert.GateDaRefIdeal.Value.run m' g')
  obtain ⟨W, h1⟩ := exists_stack (n0 := 4) (n1 := 2048) (n2 := 1408) (φ := .bf16) (m ((c.tc : Thread _ _).loc Cert.GateDaIdeal.main_arg1))
  obtain ⟨D, h2⟩ := exists_mat (n0 := 4096) (n1 := 5632) (φ := .bf16) (m ((c.tc : Thread _ _).loc Cert.GateDaIdeal.main_arg2))
  obtain ⟨_, e1, e2⟩ := hargs c
  refine ⟨(h c).1.trans (Eq.trans ?_ (Cert.GateDaIdeal.Prod.array m c W D h1 h2).symm), (h c).2⟩
  rw [e1, e2, h1, h2]
  exact congrArg (truncf .bf16 · _) (ref_nt (p := 1408) (by decide) (by decide) D W _ _ _ _)

end Cert.GateDaEq

namespace Cert.GateDwEq

open Idealize.ShloMosaic Idealize.SL.Sem Cert.Prod

/-- The kernel and its reference leave the same gradient of the weights, and both keep their arguments. -/
theorem equation : Cert.algebraic_GateDwIdeal_GateDwRefIdeal (hGateDwIdeal := Cert.GateDwIdeal.Gen.facts)
    (hGateDwRefIdeal := Cert.GateDwRefIdeal.Gen.facts) := by
  intro m g m' g' _ hargs
  refine ⟨fun c => (Cert.GateDwIdeal.Gen.dats m 0 c).arrAt 2 Cert.GateDwIdeal.cfg0.N, Cert.GateDwIdeal.Value.run_blocks m g, ?_⟩
  refine (θ_run _ _ _).mono (fun r h c => ?_) (Cert.GateDwRefIdeal.Value.run m' g')
  obtain ⟨A, h0⟩ := exists_mat (n0 := 4096) (n1 := 2048) (φ := .bf16) (m ((c.tc : Thread _ _).loc Cert.GateDwIdeal.main_arg0))
  obtain ⟨D, h2⟩ := exists_mat (n0 := 4096) (n1 := 5632) (φ := .bf16) (m ((c.tc : Thread _ _).loc Cert.GateDwIdeal.main_arg2))
  obtain ⟨e0, _, e2⟩ := hargs c
  refine ⟨(h c).1.trans (Eq.trans ?_ (Cert.GateDwIdeal.Prod.array m c A D h0 h2).symm), (h c).2⟩
  rw [e0, e2, h0, h2]
  exact congrArg (truncf .bf16 · _) (ref_tn_stack (p := 1408) (by decide) (by decide) A D _ _ _ _ _)

end Cert.GateDwEq
-- ==== Proof.InProd.lean ====
/- The product of rows with weights gathered from four devices, as the mixers' input product has it, and its two gradients:
   the kernels' arrays are the plain products that the references compute. -/
module

public import proofs.«01_k».proof.Defs
public import proofs.«01_k».proof.Proof.Gen.InIdeal.Value
public import proofs.«01_k».proof.Proof.Gen.InDaIdeal.Value
public import proofs.«01_k».proof.Proof.Gen.InDwIdeal.Value
public import proofs.«01_k».proof.Proof.Gen.InRefIdeal.Run
public import proofs.«01_k».proof.Proof.Gen.InDaRefIdeal.Run
public import proofs.«01_k».proof.Proof.Gen.InDwRefIdeal.Run
public import proofs.«01_k».proof.Proof.Prod
public import Idealize.ShloMosaic.Lib.Pipeline.ValueKit

@[expose] public section

-- the windows' indices are checked over the whole grid
set_option maxRecDepth 16384

noncomputable section

namespace Cert.InIdeal.Prod

open Cert.InIdeal Cert.InIdeal.Gen Cert.InIdeal.Value Idealize.ShloMosaic Idealize.ShloMosaic.TcCoe Idealize.SL.Sem Cert.Prod

/-- The block that a point stores. -/
theorem block (f : ℕ → ℕ → EReal) (g : ℕ → ℕ → ℕ → EReal) :
    out0_2 (F := Ideal) (mat (φ := .bf16) f) (stack (φ := .bf16) g) = mat (φ := .f32) (mul 2048 f (g 0)) := by
  refine (View.canon_unit_zero (by decide) _ _).trans ?_
  rw [View.ld_unit_zero (by decide), View.ld_unit_zero (by decide)]
  exact block_nn1 (φ₁ := .bf16) (φ₂ := .bf16) f g none shapeCasts_S1x2048x1536_S2048x1536

/-- The point that stores a block reads that block's rows and the columns' device. -/
theorem idx : ∀ t : Fin cfg0.N, win0_0.index t 0 = win0_2.index t 0 ∧ win0_0.index t 1 = 0
    ∧ win0_1.index t 0 = win0_2.index t 1 ∧ win0_1.index t 1 = 0 ∧ win0_1.index t 2 = 0 :=
  (by decide +kernel : ∀ t : Fin grid0.N, _)

/-- The result array. -/
theorem array (m : (ℓ : Loc nD τ sig) → Buf (Elt Ideal) ℓ) (c : Dev nD) (A : ℕ → ℕ → EReal) (W : ℕ → ℕ → ℕ → EReal)
    (h0 : m ((c : Thread nD τ).loc main_arg0) = (mat A : FVec Ideal S4096x2048 .bf16))
    (h1 : m ((c : Thread nD τ).loc main_arg1) = (stack W : FVec Ideal S4x2048x1536 .bf16)) :
    (dats m 0 c).arrAt 2 cfg0.N = (mat (mul 2048 A (wide 1536 W)) : FVec Ideal S4096x6144 .f32) := by
  refine (dats m 0 c).arrAt_eq_of_covers 2 _ (by decide +kernel) fun t _ y => ?_
  obtain ⟨a0, a1, b0, b1, b2⟩ := idx t
  have e0 : iblk m c 0 t = (mat (part (win0_2.index t 0 * 1024) 0 A) : FVec Ideal S1024x2048 .bf16) := by
    funext x; blk_simp [iblk, V_main_arg0, h0, a0, a1, mat, part]
  have e1 : iblk m c 1 t = (stack (part3 (win0_2.index t 1) 0 0 W) : FVec Ideal S1x2048x1536 .bf16) := by
    funext x; blk_simp [iblk, V_main_arg1, h1, b0, b1, b2, stack, part3]
  blk_simp
  rw [after0_2, e0, e1, block]
  blk_simp [mat]
  exact mul_wide 2048 A W _ _ _ _ (y 1).isLt

end Cert.InIdeal.Prod

namespace Cert.InDaIdeal.Prod

open Cert.InDaIdeal Cert.InDaIdeal.Gen Cert.InDaIdeal.Value Idealize.ShloMosaic Idealize.ShloMosaic.TcCoe Idealize.SL.Sem Cert.Prod

/-- The block that a point stores. -/
theorem block (f : ℕ → ℕ → EReal) (g : ℕ → ℕ → ℕ → EReal) :
    out0_2 (F := Ideal) (mat (φ := .bf16) f) (stack (φ := .bf16) g) = mat (φ := .bf16) (mulT 6144 f (wide 1536 g)) := by
  refine (View.canon_unit_zero (by decide) _ _).trans ?_
  exact congrArg (truncf .bf16 · bitsLt_bf16_f32) (sum_parts (M := 1024) (N := 512) (p := 1536) (q := 6144) (by decide) (by decide) f g _ _ _ _
    (block_nt1 f g 0 0 none _ _ _) (block_nt1 f g 1 1536 none _ _ _) (block_nt1 f g 2 3072 none _ _ _) (block_nt1 f g 3 4608 none _ _ _))

/-- The point that stores a block reads that block's rows of the cotangent and its rows of the weights. -/
theorem idx : ∀ t : Fin cfg0.N, win0_0.index t 0 = win0_2.index t 0 ∧ win0_0.index t 1 = 0
    ∧ win0_1.index t 0 = 0 ∧ win0_1.index t 1 = win0_2.index t 1 ∧ win0_1.index t 2 = 0 :=
  (by decide +kernel : ∀ t : Fin grid0.N, _)

/-- The result array. -/
theorem array (m : (ℓ : Loc nD τ sig) → Buf (Elt Ideal) ℓ) (c : Dev nD) (W : ℕ → ℕ → ℕ → EReal) (D : ℕ → ℕ → EReal)
    (h1 : m ((c : Thread nD τ).loc main_arg1) = (stack W : FVec Ideal S4x2048x1536 .bf16))
    (h2 : m ((c : Thread nD τ).loc main_arg2) = (mat D : FVec Ideal S4096x6144 .bf16)) :
    (dats m 0 c).arrAt 2 cfg0.N = (mat (mulT 6144 D (wide 1536 W)) : FVec Ideal S4096x2048 .bf16) := by
  refine (dats m 0 c).arrAt_eq_of_covers 2 _ (by decide +kernel) fun t _ y => ?_
  obtain ⟨a0, a1, b0, b1, b2⟩ := idx t
  have e0 : iblk m c 0 t = (mat (part (win0_2.index t 0 * 1024) 0 D) : FVec Ideal S1024x6144 .bf16) := by
    funext x; blk_simp [iblk, V_main_arg2, h2, a0, a1, mat, part]
  have e1 : iblk m c 1 t = (stack (part3 0 (win0_2.index t 1 * 512) 0 W) : FVec Ideal S4x512x1536 .bf16) := by
    funext x; blk_simp [iblk, V_main_arg1, h1, b0, b1, b2, stack, part3]
  blk_simp
  rw [after0_2, e0, e1, block]
  blk_simp [mat]
  exact mulT_wide 6144 1536 D W _ _ _ _

end Cert.InDaIdeal.Prod

namespace Cert.InDwIdeal.Prod

open Cert.InDwIdeal Cert.InDwIdeal.Gen Cert.InDwIdeal.Value Idealize.ShloMosaic Idealize.ShloMosaic.TcCoe Idealize.SL.Sem Cert.Prod

/-- The block that a point stores. -/
theorem block (f g : ℕ → ℕ → EReal) :
    out0_2 (F := Ideal) (mat (φ := .bf16) f) (mat (φ := .bf16) g) = stack (φ := .bf16) (fun _ => tMul 4096 f g) := by
  refine (View.canon_unit_zero (by decide) _ _).trans ?_
  rw [View.ld_unit_zero (by decide), View.ld_unit_zero (by decide)]
  exact block_tn1 (φ₁ := .bf16) (φ₂ := .bf16) f g none bitsLt_bf16_f32 shapeCasts_S512x1536_S1x512x1536

/-- The point that stores a block reads that block's columns of the rows and of the cotangent. -/
theorem idx : ∀ t : Fin cfg0.N, win0_0.index t 0 = 0 ∧ win0_0.index t 1 = win0_2.index t 1
    ∧ win0_1.index t 0 = 0 ∧ win0_1.index t 1 = win0_2.index t 0 ∧ win0_2.index t 2 = 0 :=
  (by decide +kernel : ∀ t : Fin grid0.N, _)

/-- The result array. -/
theorem array (m : (ℓ : Loc nD τ sig) → Buf (Elt Ideal) ℓ) (c : Dev nD) (A D : ℕ → ℕ → EReal)
    (h0 : m ((c : Thread nD τ).loc main_arg0) = (mat A : FVec Ideal S4096x2048 .bf16))
    (h2 : m ((c : Thread nD τ).loc main_arg2) = (mat D : FVec Ideal S4096x6144 .bf16)) :
    (dats m 0 c).arrAt 2 cfg0.N = (stack (fun j k n => tMul 4096 A D k (j * 1536 + n)) : FVec Ideal S4x2048x1536 .bf16) := by
  refine (dats m 0 c).arrAt_eq_of_covers 2 _ (by decide +kernel) fun t _ y => ?_
  obtain ⟨a0, a1, b0, b1, d2⟩ := idx t
  have e0 : iblk m c 0 t = (mat (part 0 (win0_2.index t 1 * 512) A) : FVec Ideal S4096x512 .bf16) := by
    funext x; blk_simp [iblk, V_main_arg0, h0, a0, a1, mat, part]
  have e1 : iblk m c 1 t = (mat (part 0 (win0_2.index t 0 * 1536) D) : FVec Ideal S4096x1536 .bf16) := by
    funext x; blk_simp [iblk, V_main_arg2, h2, b0, b1, mat, part]
  blk_simp
  rw [after0_2, e0, e1, block]
  blk_simp [d2, stack]
  exact tMul_part 4096 A D _ _ _ _

end Cert.InDwIdeal.Prod

namespace Cert.InEq

open Idealize.ShloMosaic Idealize.SL.Sem Cert.Prod

/-- The kernel and its reference leave the same product, and both keep their arguments. -/
theorem equation : Cert.algebraic_InIdeal_InRefIdeal (hInIdeal := Cert.InIdeal.Gen.facts)
    (hInRefIdeal := Cert.InRefIdeal.Gen.facts) := by
  intro m g m' g' _ hargs
  refine ⟨fun c => (Cert.InIdeal.Gen.dats m 0 c).arrAt 2 Cert.InIdeal.cfg0.N, Cert.InIdeal.Value.run_blocks m g, ?_⟩
  refine (θ_run _ _ _).mono (fun r h c => ?_) (Cert.InRefIdeal.Value.run m' g')
  obtain ⟨A, h0⟩ := exists_mat (n0 := 4096) (n1 := 2048) (φ := .bf16) (m ((c.tc : Thread _ _).loc Cert.InIdeal.main_arg0))
  obtain ⟨W, h1⟩ := exists_stack (n0 := 4) (n1 := 2048) (n2 := 1536) (φ := .bf16) (m ((c.tc : Thread _ _).loc Cert.InIdeal.main_arg1))
  obtain ⟨e0, e1⟩ := hargs c
  refine ⟨(h c).1.trans (Eq.trans ?_ (Cert.InIdeal.Prod.array m c A W h0 h1).symm), (h c).2⟩
  rw [e0, e1, h0, h1]
  exact ref_nn (p := 1536) (by decide) (by decide) A W _ _ _ _

end Cert.InEq

namespace Cert.InDaEq

open Idealize.ShloMosaic Idealize.SL.Sem Cert.Prod

/-- The kernel and its reference leave the same gradient of the rows, and both keep their arguments. -/
theorem equation : Cert.algebraic_InDaIdeal_InDaRefIdeal (hInDaIdeal := Cert.InDaIdeal.Gen.facts)
    (hInDaRefIdeal := Cert.InDaRefIdeal.Gen.facts) := by
  intro m g m' g' _ hargs
  refine ⟨fun c => (Cert.InDaIdeal.Gen.dats m 0 c).arrAt 2 Cert.InDaIdeal.cfg0.N, Cert.InDaIdeal.Value.run_blocks m g, ?_⟩
  refine (θ_run _ _ _).mono (fun r h c => ?_) (Cert.InDaRefIdeal.Value.run m' g')
  obtain ⟨W, h1⟩ := exists_stack (n0 := 4) (n1 := 2048) (n2 := 1536) (φ := .bf16) (m ((c.tc : Thread _ _).loc Cert.InDaIdeal.main_arg1))
  obtain ⟨D, h2⟩ := exists_mat (n0 := 4096) (n1 := 6144) (φ := .bf16) (m ((c.tc : Thread _ _).loc Cert.InDaIdeal.main_arg2))
  obtain ⟨_, e1, e2⟩ := hargs c
  refine ⟨(h c).1.trans (Eq.trans ?_ (Cert.InDaIdeal.Prod.array m c W D h1 h2).symm), (h c).2⟩
  rw [e1, e2, h1, h2]
  exact congrArg (truncf .bf16 · _) (ref_nt (p := 1536) (by decide) (by decide) D W _ _ _ _)

end Cert.InDaEq

namespace Cert.InDwEq

open Idealize.ShloMosaic Idealize.SL.Sem Cert.Prod

/-- The kernel and its reference leave the same gradient of the weights, and both keep their arguments. -/
theorem equation : Cert.algebraic_InDwIdeal_InDwRefIdeal (hInDwIdeal := Cert.InDwIdeal.Gen.facts)
    (hInDwRefIdeal := Cert.InDwRefIdeal.Gen.facts) := by
  intro m g m' g' _ hargs
  refine ⟨fun c => (Cert.InDwIdeal.Gen.dats m 0 c).arrAt 2 Cert.InDwIdeal.cfg0.N, Cert.InDwIdeal.Value.run_blocks m g, ?_⟩
  refine (θ_run _ _ _).mono (fun r h c => ?_) (Cert.InDwRefIdeal.Value.run m' g')
  obtain ⟨A, h0⟩ := exists_mat (n0 := 4096) (n1 := 2048) (φ := .bf16) (m ((c.tc : Thread _ _).loc Cert.InDwIdeal.main_arg0))
  obtain ⟨D, h2⟩ := exists_mat (n0 := 4096) (n1 := 6144) (φ := .bf16) (m ((c.tc : Thread _ _).loc Cert.InDwIdeal.main_arg2))
  obtain ⟨e0, _, e2⟩ := hargs c
  refine ⟨(h c).1.trans (Eq.trans ?_ (Cert.InDwIdeal.Prod.array m c A D h0 h2).symm), (h c).2⟩
  rw [e0, e2, h0, h2]
  exact congrArg (truncf .bf16 · _) (ref_tn_stack (p := 1536) (by decide) (by decide) A D _ _ _ _ _)

end Cert.InDwEq
-- ==== Proof.LatProd.lean ====
/- The product of rows with weights gathered from four devices, as latent attention's products with its latents have it, and its two gradients:
   the kernels' arrays are the plain products that the references compute. -/
module

public import proofs.«01_k».proof.Defs
public import proofs.«01_k».proof.Proof.Gen.LatIdeal.Value
public import proofs.«01_k».proof.Proof.Gen.LatDaIdeal.Value
public import proofs.«01_k».proof.Proof.Gen.LatDwIdeal.Value
public import proofs.«01_k».proof.Proof.Gen.LatRefIdeal.Run
public import proofs.«01_k».proof.Proof.Gen.LatDaRefIdeal.Run
public import proofs.«01_k».proof.Proof.Gen.LatDwRefIdeal.Run
public import proofs.«01_k».proof.Proof.Prod
public import Idealize.ShloMosaic.Lib.Pipeline.ValueKit

@[expose] public section

-- the windows' indices are checked over the whole grid
set_option maxRecDepth 16384

noncomputable section

namespace Cert.LatIdeal.Prod

open Cert.LatIdeal Cert.LatIdeal.Gen Cert.LatIdeal.Value Idealize.ShloMosaic Idealize.ShloMosaic.TcCoe Idealize.SL.Sem Cert.Prod

/-- The block that a point stores. -/
theorem block (f : ℕ → ℕ → EReal) (g : ℕ → ℕ → ℕ → EReal) :
    out0_2 (F := Ideal) (mat (φ := .bf16) f) (stack (φ := .bf16) g) = mat (φ := .bf16) (mul 512 f (g 0)) := by
  refine (View.canon_unit_zero (by decide) _ _).trans ?_
  rw [View.ld_unit_zero (by decide), View.ld_unit_zero (by decide)]
  exact congrArg (truncf .bf16 · bitsLt_bf16_f32) (block_nn1 (φ₁ := .bf16) (φ₂ := .bf16) f g none shapeCasts_S1x512x256_S512x256)

/-- The point that stores a block reads that block's rows and the columns' device. -/
theorem idx : ∀ t : Fin cfg0.N, win0_0.index t 0 = win0_2.index t 0 ∧ win0_0.index t 1 = 0
    ∧ win0_1.index t 0 = win0_2.index t 1 ∧ win0_1.index t 1 = 0 ∧ win0_1.index t 2 = 0 :=
  (by decide +kernel : ∀ t : Fin grid0.N, _)

/-- The result array. -/
theorem array (m : (ℓ : Loc nD τ sig) → Buf (Elt Ideal) ℓ) (c : Dev nD) (A : ℕ → ℕ → EReal) (W : ℕ → ℕ → ℕ → EReal)
    (h0 : m ((c : Thread nD τ).loc main_arg0) = (mat A : FVec Ideal S4096x512 .bf16))
    (h1 : m ((c : Thread nD τ).loc main_arg1) = (stack W : FVec Ideal S4x512x256 .bf16)) :
    (dats m 0 c).arrAt 2 cfg0.N = (mat (mul 512 A (wide 256 W)) : FVec Ideal S4096x1024 .bf16) := by
  refine (dats m 0 c).arrAt_eq_of_covers 2 _ (by decide +kernel) fun t _ y => ?_
  obtain ⟨a0, a1, b0, b1, b2⟩ := idx t
  have e0 : iblk m c 0 t = (mat (part (win0_2.index t 0 * 1024) 0 A) : FVec Ideal S1024x512 .bf16) := by
    funext x; blk_simp [iblk, V_main_arg0, h0, a0, a1, mat, part]
  have e1 : iblk m c 1 t = (stack (part3 (win0_2.index t 1) 0 0 W) : FVec Ideal S1x512x256 .bf16) := by
    funext x; blk_simp [iblk, V_main_arg1, h1, b0, b1, b2, stack, part3]
  blk_simp
  rw [after0_2, e0, e1, block]
  blk_simp [mat]
  exact mul_wide 512 A W _ _ _ _ (y 1).isLt

end Cert.LatIdeal.Prod

namespace Cert.LatDaIdeal.Prod

open Cert.LatDaIdeal Cert.LatDaIdeal.Gen Cert.LatDaIdeal.Value Idealize.ShloMosaic Idealize.ShloMosaic.TcCoe Idealize.SL.Sem Cert.Prod

/-- The block that a point stores. -/
theorem block (f : ℕ → ℕ → EReal) (g : ℕ → ℕ → ℕ → EReal) :
    out0_2 (F := Ideal) (mat (φ := .bf16) f) (stack (φ := .bf16) g) = mat (φ := .bf16) (mulT 1024 f (wide 256 g)) := by
  refine (View.canon_unit_zero (by decide) _ _).trans ?_
  exact congrArg (truncf .bf16 · bitsLt_bf16_f32) (sum_parts (M := 1024) (N := 512) (p := 256) (q := 1024) (by decide) (by decide) f g _ _ _ _
    (block_nt1 f g 0 0 none _ _ _) (block_nt1 f g 1 256 none _ _ _) (block_nt1 f g 2 512 none _ _ _) (block_nt1 f g 3 768 none _ _ _))

/-- The point that stores a block reads that block's rows of the cotangent and its rows of the weights. -/
theorem idx : ∀ t : Fin cfg0.N, win0_0.index t 0 = win0_2.index t 0 ∧ win0_0.index t 1 = 0
    ∧ win0_1.index t 0 = 0 ∧ win0_1.index t 1 = win0_2.index t 1 ∧ win0_1.index t 2 = 0 :=
  (by decide +kernel : ∀ t : Fin grid0.N, _)

/-- The result array. -/
theorem array (m : (ℓ : Loc nD τ sig) → Buf (Elt Ideal) ℓ) (c : Dev nD) (W : ℕ → ℕ → ℕ → EReal) (D : ℕ → ℕ → EReal)
    (h1 : m ((c : Thread nD τ).loc main_arg1) = (stack W : FVec Ideal S4x512x256 .bf16))
    (h2 : m ((c : Thread nD τ).loc main_arg2) = (mat D : FVec Ideal S4096x1024 .bf16)) :
    (dats m 0 c).arrAt 2 cfg0.N = (mat (mulT 1024 D (wide 256 W)) : FVec Ideal S4096x512 .bf16) := by
  refine (dats m 0 c).arrAt_eq_of_covers 2 _ (by decide +kernel) fun t _ y => ?_
  obtain ⟨a0, a1, b0, b1, b2⟩ := idx t
  have e0 : iblk m c 0 t = (mat (part (win0_2.index t 0 * 1024) 0 D) : FVec Ideal S1024x1024 .bf16) := by
    funext x; blk_simp [iblk, V_main_arg2, h2, a0, a1, mat, part]
  have e1 : iblk m c 1 t = (stack (part3 0 (win0_2.index t 1 * 512) 0 W) : FVec Ideal S4x512x256 .bf16) := by
    funext x; blk_simp [iblk, V_main_arg1, h1, b0, b1, b2, stack, part3]
  blk_simp
  rw [after0_2, e0, e1, block]
  blk_simp [mat]
  exact mulT_wide 1024 256 D W _ _ _ _

end Cert.LatDaIdeal.Prod

namespace Cert.LatDwIdeal.Prod

open Cert.LatDwIdeal Cert.LatDwIdeal.Gen Cert.LatDwIdeal.Value Idealize.ShloMosaic Idealize.ShloMosaic.TcCoe Idealize.SL.Sem Cert.Prod

/-- The block that a point stores. -/
theorem block (f g : ℕ → ℕ → EReal) :
    out0_2 (F := Ideal) (mat (φ := .bf16) f) (mat (φ := .bf16) g) = stack (φ := .bf16) (fun _ => tMul 4096 f g) := by
  refine (View.canon_unit_zero (by decide) _ _).trans ?_
  rw [View.ld_unit_zero (by decide), View.ld_unit_zero (by decide)]
  exact block_tn1 (φ₁ := .bf16) (φ₂ := .bf16) f g none bitsLt_bf16_f32 shapeCasts_S512x256_S1x512x256

/-- The point that stores a block reads that block's columns of the rows and of the cotangent. -/
theorem idx : ∀ t : Fin cfg0.N, win0_0.index t 0 = 0 ∧ win0_0.index t 1 = win0_2.index t 1
    ∧ win0_1.index t 0 = 0 ∧ win0_1.index t 1 = win0_2.index t 0 ∧ win0_2.index t 2 = 0 :=
  (by decide +kernel : ∀ t : Fin grid0.N, _)

/-- The result array. -/
theorem array (m : (ℓ : Loc nD τ sig) → Buf (Elt Ideal) ℓ) (c : Dev nD) (A D : ℕ → ℕ → EReal)
    (h0 : m ((c : Thread nD τ).loc main_arg0) = (mat A : FVec Ideal S4096x512 .bf16))
    (h2 : m ((c : Thread nD τ).loc main_arg2) = (mat D : FVec Ideal S4096x1024 .bf16)) :
    (dats m 0 c).arrAt 2 cfg0.N = (stack (fun j k n => tMul 4096 A D k (j * 256 + n)) : FVec Ideal S4x512x256 .bf16) := by
  refine (dats m 0 c).arrAt_eq_of_covers 2 _ (by decide +kernel) fun t _ y => ?_
  obtain ⟨a0, a1, b0, b1, d2⟩ := idx t
  have e0 : iblk m c 0 t = (mat (part 0 (win0_2.index t 1 * 512) A) : FVec Ideal S4096x512 .bf16) := by
    funext x; blk_simp [iblk, V_main_arg0, h0, a0, a1, mat, part]
  have e1 : iblk m c 1 t = (mat (part 0 (win0_2.index t 0 * 256) D) : FVec Ideal S4096x256 .bf16) := by
    funext x; blk_simp [iblk, V_main_arg2, h2, b0, b1, mat, part]
  blk_simp
  rw [after0_2, e0, e1, block]
  blk_simp [d2, stack]
  exact tMul_part 4096 A D _ _ _ _

end Cert.LatDwIdeal.Prod

namespace Cert.LatEq

open Idealize.ShloMosaic Idealize.SL.Sem Cert.Prod

/-- The kernel and its reference leave the same product, and both keep their arguments. -/
theorem equation : Cert.algebraic_LatIdeal_LatRefIdeal (hLatIdeal := Cert.LatIdeal.Gen.facts)
    (hLatRefIdeal := Cert.LatRefIdeal.Gen.facts) := by
  intro m g m' g' _ hargs
  refine ⟨fun c => (Cert.LatIdeal.Gen.dats m 0 c).arrAt 2 Cert.LatIdeal.cfg0.N, Cert.LatIdeal.Value.run_blocks m g, ?_⟩
  refine (θ_run _ _ _).mono (fun r h c => ?_) (Cert.LatRefIdeal.Value.run m' g')
  obtain ⟨A, h0⟩ := exists_mat (n0 := 4096) (n1 := 512) (φ := .bf16) (m ((c.tc : Thread _ _).loc Cert.LatIdeal.main_arg0))
  obtain ⟨W, h1⟩ := exists_stack (n0 := 4) (n1 := 512) (n2 := 256) (φ := .bf16) (m ((c.tc : Thread _ _).loc Cert.LatIdeal.main_arg1))
  obtain ⟨e0, e1⟩ := hargs c
  refine ⟨(h c).1.trans (Eq.trans ?_ (Cert.LatIdeal.Prod.array m c A W h0 h1).symm), (h c).2⟩
  rw [e0, e1, h0, h1]
  exact congrArg (truncf .bf16 · _) (ref_nn (p := 256) (by decide) (by decide) A W _ _ _ _)

end Cert.LatEq

namespace Cert.LatDaEq

open Idealize.ShloMosaic Idealize.SL.Sem Cert.Prod

/-- The kernel and its reference leave the same gradient of the rows, and both keep their arguments. -/
theorem equation : Cert.algebraic_LatDaIdeal_LatDaRefIdeal (hLatDaIdeal := Cert.LatDaIdeal.Gen.facts)
    (hLatDaRefIdeal := Cert.LatDaRefIdeal.Gen.facts) := by
  intro m g m' g' _ hargs
  refine ⟨fun c => (Cert.LatDaIdeal.Gen.dats m 0 c).arrAt 2 Cert.LatDaIdeal.cfg0.N, Cert.LatDaIdeal.Value.run_blocks m g, ?_⟩
  refine (θ_run _ _ _).mono (fun r h c => ?_) (Cert.LatDaRefIdeal.Value.run m' g')
  obtain ⟨W, h1⟩ := exists_stack (n0 := 4) (n1 := 512) (n2 := 256) (φ := .bf16) (m ((c.tc : Thread _ _).loc Cert.LatDaIdeal.main_arg1))
  obtain ⟨D, h2⟩ := exists_mat (n0 := 4096) (n1 := 1024) (φ := .bf16) (m ((c.tc : Thread _ _).loc Cert.LatDaIdeal.main_arg2))
  obtain ⟨_, e1, e2⟩ := hargs c
  refine ⟨(h c).1.trans (Eq.trans ?_ (Cert.LatDaIdeal.Prod.array m c W D h1 h2).symm), (h c).2⟩
  rw [e1, e2, h1, h2]
  exact congrArg (truncf .bf16 · _) (ref_nt (p := 256) (by decide) (by decide) D W _ _ _ _)

end Cert.LatDaEq

namespace Cert.LatDwEq

open Idealize.ShloMosaic Idealize.SL.Sem Cert.Prod

/-- The kernel and its reference leave the same gradient of the weights, and both keep their arguments. -/
theorem equation : Cert.algebraic_LatDwIdeal_LatDwRefIdeal (hLatDwIdeal := Cert.LatDwIdeal.Gen.facts)
    (hLatDwRefIdeal := Cert.LatDwRefIdeal.Gen.facts) := by
  intro m g m' g' _ hargs
  refine ⟨fun c => (Cert.LatDwIdeal.Gen.dats m 0 c).arrAt 2 Cert.LatDwIdeal.cfg0.N, Cert.LatDwIdeal.Value.run_blocks m g, ?_⟩
  refine (θ_run _ _ _).mono (fun r h c => ?_) (Cert.LatDwRefIdeal.Value.run m' g')
  obtain ⟨A, h0⟩ := exists_mat (n0 := 4096) (n1 := 512) (φ := .bf16) (m ((c.tc : Thread _ _).loc Cert.LatDwIdeal.main_arg0))
  obtain ⟨D, h2⟩ := exists_mat (n0 := 4096) (n1 := 1024) (φ := .bf16) (m ((c.tc : Thread _ _).loc Cert.LatDwIdeal.main_arg2))
  obtain ⟨e0, _, e2⟩ := hargs c
  refine ⟨(h c).1.trans (Eq.trans ?_ (Cert.LatDwIdeal.Prod.array m c A D h0 h2).symm), (h c).2⟩
  rw [e0, e2, h0, h2]
  exact congrArg (truncf .bf16 · _) (ref_tn_stack (p := 256) (by decide) (by decide) A D _ _ _ _ _)

end Cert.LatDwEq
-- ==== Proof.DownProd.lean ====
/- The feed-forward's down product added to the residual stream, and its two gradients: the kernels' arrays are what the references compute. -/
module

public import proofs.«01_k».proof.Defs
public import proofs.«01_k».proof.Proof.Gen.DownIdeal.Value
public import proofs.«01_k».proof.Proof.Gen.DownDaIdeal.Value
public import proofs.«01_k».proof.Proof.Gen.DownDwIdeal.Value
public import proofs.«01_k».proof.Proof.Gen.DownRefIdeal.Run
public import proofs.«01_k».proof.Proof.Gen.DownDaRefIdeal.Run
public import proofs.«01_k».proof.Proof.Gen.DownDwRefIdeal.Run
public import proofs.«01_k».proof.Proof.Prod
public import Idealize.ShloMosaic.Lib.Pipeline.ValueKit

@[expose] public section

-- the windows' indices are checked over the whole grid
set_option maxRecDepth 16384

noncomputable section

namespace Cert.DownIdeal.Prod

open Cert.DownIdeal Cert.DownIdeal.Gen Cert.DownIdeal.Value Idealize.ShloMosaic Idealize.ShloMosaic.TcCoe Idealize.SL.Sem Cert.Prod

/-- The block that a point stores. -/
theorem block (f g h : ℕ → ℕ → EReal) :
    out0_3 (F := Ideal) (mat (φ := .bf16) f) (mat (φ := .bf16) g) (mat (φ := .f32) h) = mat (φ := .f32) (fun i j => mul 5632 f g i j + h i j) := by
  refine (View.canon_unit_zero (by decide) _ _).trans ?_
  rw [View.ld_unit_zero (by decide), View.ld_unit_zero (by decide), View.ld_unit_zero (by decide)]
  exact congrArg (addf · (mat h : FVec Ideal S1024x256 .f32)) (matmul_nn (φ₁ := .bf16) (φ₂ := .bf16) f g none)

/-- The point that stores a block reads that block's rows, its columns of the weights, and the block of the residual stream. -/
theorem idx : ∀ t : Fin cfg0.N, win0_0.index t 0 = win0_3.index t 0 ∧ win0_0.index t 1 = 0 ∧ win0_1.index t 0 = 0
    ∧ win0_1.index t 1 = win0_3.index t 1 ∧ win0_2.index t 0 = win0_3.index t 0 ∧ win0_2.index t 1 = win0_3.index t 1 :=
  (by decide +kernel : ∀ t : Fin grid0.N, _)

/-- The result array. -/
theorem array (m : (ℓ : Loc nD τ sig) → Buf (Elt Ideal) ℓ) (c : Dev nD) (A W X : ℕ → ℕ → EReal)
    (h0 : m ((c : Thread nD τ).loc main_arg0) = (mat A : FVec Ideal S4096x5632 .bf16))
    (h1 : m ((c : Thread nD τ).loc main_arg1) = (mat W : FVec Ideal S5632x2048 .bf16))
    (h2 : m ((c : Thread nD τ).loc main_arg2) = (mat X : FVec Ideal S4096x2048 .f32)) :
    (dats m 0 c).arrAt 3 cfg0.N = (mat (fun i n => mul 5632 A W i n + X i n) : FVec Ideal S4096x2048 .f32) := by
  refine (dats m 0 c).arrAt_eq_of_covers 3 _ (by decide +kernel) fun t _ y => ?_
  obtain ⟨a0, a1, b0, b1, d0, d1⟩ := idx t
  have e0 : iblk m c 0 t = (mat (part (win0_3.index t 0 * 1024) 0 A) : FVec Ideal S1024x5632 .bf16) := by
    funext x; blk_simp [iblk, V_main_arg0, h0, a0, a1, mat, part]
  have e1 : iblk m c 1 t = (mat (part 0 (win0_3.index t 1 * 256) W) : FVec Ideal S5632x256 .bf16) := by
    funext x; blk_simp [iblk, V_main_arg1, h1, b0, b1, mat, part]
  have e2 : iblk m c 2 t = (mat (part (win0_3.index t 0 * 1024) (win0_3.index t 1 * 256) X) : FVec Ideal S1024x256 .f32) := by
    funext x; blk_simp [iblk, V_main_arg2, h2, d0, d1, mat, part]
  blk_simp
  rw [after0_3, e0, e1, e2, block]
  blk_simp [mat]
  exact congrArg (· + _) (mul_part 5632 A W _ _ _ _)

end Cert.DownIdeal.Prod

namespace Cert.DownDaIdeal.Prod

open Cert.DownDaIdeal Cert.DownDaIdeal.Gen Cert.DownDaIdeal.Value Idealize.ShloMosaic Idealize.ShloMosaic.TcCoe Idealize.SL.Sem Cert.Prod

/-- The block that a point stores. -/
theorem block (f g : ℕ → ℕ → EReal) :
    out0_2 (F := Ideal) (mat (φ := .f32) f) (mat (φ := .bf16) g) = mat (φ := .bf16) (mulT 2048 f g) := by
  refine (View.canon_unit_zero (by decide) _ _).trans ?_
  rw [View.ld_unit_zero (by decide), View.ld_unit_zero (by decide)]
  exact congrArg (truncf .bf16 · bitsLt_bf16_f32) (matmul_nt (φ₁ := .bf16) (φ₂ := .bf16) f g none)

/-- The point that stores a block reads that block's rows of the cotangent and its rows of the weights. -/
theorem idx : ∀ t : Fin cfg0.N, win0_0.index t 0 = win0_2.index t 0 ∧ win0_0.index t 1 = 0
    ∧ win0_1.index t 0 = win0_2.index t 1 ∧ win0_1.index t 1 = 0 :=
  (by decide +kernel : ∀ t : Fin grid0.N, _)

/-- The result array. -/
theorem array (m : (ℓ : Loc nD τ sig) → Buf (Elt Ideal) ℓ) (c : Dev nD) (W D : ℕ → ℕ → EReal)
    (h1 : m ((c : Thread nD τ).loc main_arg1) = (mat W : FVec Ideal S5632x2048 .bf16))
    (h2 : m ((c : Thread nD τ).loc main_arg2) = (mat D : FVec Ideal S4096x2048 .f32)) :
    (dats m 0 c).arrAt 2 cfg0.N = (mat (mulT 2048 D W) : FVec Ideal S4096x5632 .bf16) := by
  refine (dats m 0 c).arrAt_eq_of_covers 2 _ (by decide +kernel) fun t _ y => ?_
  obtain ⟨a0, a1, b0, b1⟩ := idx t
  have e0 : iblk m c 0 t = (mat (part (win0_2.index t 0 * 1024) 0 D) : FVec Ideal S1024x2048 .f32) := by
    funext x; blk_simp [iblk, V_main_arg2, h2, a0, a1, mat, part]
  have e1 : iblk m c 1 t = (mat (part (win0_2.index t 1 * 512) 0 W) : FVec Ideal S512x2048 .bf16) := by
    funext x; blk_simp [iblk, V_main_arg1, h1, b0, b1, mat, part]
  blk_simp
  rw [after0_2, e0, e1, block]
  blk_simp [mat]
  exact mulT_part 2048 D W _ _ _ _

end Cert.DownDaIdeal.Prod

namespace Cert.DownDwIdeal.Prod

open Cert.DownDwIdeal Cert.DownDwIdeal.Gen Cert.DownDwIdeal.Value Idealize.ShloMosaic Idealize.ShloMosaic.TcCoe Idealize.SL.Sem Cert.Prod

/-- The block that a point stores. -/
theorem block (f g : ℕ → ℕ → EReal) :
    out0_2 (F := Ideal) (mat (φ := .bf16) f) (mat (φ := .f32) g) = mat (φ := .bf16) (tMul 4096 f g) := by
  refine (View.canon_unit_zero (by decide) _ _).trans ?_
  rw [View.ld_unit_zero (by decide), View.ld_unit_zero (by decide)]
  exact congrArg (truncf .bf16 · bitsLt_bf16_f32) (matmul_tn (φ₁ := .bf16) (φ₂ := .bf16) f g none)

/-- The point that stores a block reads that block's columns of the rows and of the cotangent. -/
theorem idx : ∀ t : Fin cfg0.N, win0_0.index t 0 = 0 ∧ win0_0.index t 1 = win0_2.index t 0
    ∧ win0_1.index t 0 = 0 ∧ win0_1.index t 1 = win0_2.index t 1 :=
  (by decide +kernel : ∀ t : Fin grid0.N, _)

/-- The result array. -/
theorem array (m : (ℓ : Loc nD τ sig) → Buf (Elt Ideal) ℓ) (c : Dev nD) (A D : ℕ → ℕ → EReal)
    (h0 : m ((c : Thread nD τ).loc main_arg0) = (mat A : FVec Ideal S4096x5632 .bf16))
    (h2 : m ((c : Thread nD τ).loc main_arg2) = (mat D : FVec Ideal S4096x2048 .f32)) :
    (dats m 0 c).arrAt 2 cfg0.N = (mat (tMul 4096 A D) : FVec Ideal S5632x2048 .bf16) := by
  refine (dats m 0 c).arrAt_eq_of_covers 2 _ (by decide +kernel) fun t _ y => ?_
  obtain ⟨a0, a1, b0, b1⟩ := idx t
  have e0 : iblk m c 0 t = (mat (part 0 (win0_2.index t 0 * 512) A) : FVec Ideal S4096x512 .bf16) := by
    funext x; blk_simp [iblk, V_main_arg0, h0, a0, a1, mat, part]
  have e1 : iblk m c 1 t = (mat (part 0 (win0_2.index t 1 * 512) D) : FVec Ideal S4096x512 .f32) := by
    funext x; blk_simp [iblk, V_main_arg2, h2, b0, b1, mat, part]
  blk_simp
  rw [after0_2, e0, e1, block]
  blk_simp [mat]
  exact tMul_part 4096 A D _ _ _ _

end Cert.DownDwIdeal.Prod

namespace Cert.DownEq

open Idealize.ShloMosaic Idealize.SL.Sem Cert.Prod

/-- The kernel and its reference leave the same sum, and both keep their arguments. -/
theorem equation : Cert.algebraic_DownIdeal_DownRefIdeal (hDownIdeal := Cert.DownIdeal.Gen.facts)
    (hDownRefIdeal := Cert.DownRefIdeal.Gen.facts) := by
  intro m g m' g' _ hargs
  refine ⟨fun c => (Cert.DownIdeal.Gen.dats m 0 c).arrAt 3 Cert.DownIdeal.cfg0.N, Cert.DownIdeal.Value.run_blocks m g, ?_⟩
  refine (θ_run _ _ _).mono (fun r h c => ?_) (Cert.DownRefIdeal.Value.run m' g')
  obtain ⟨A, h0⟩ := exists_mat (n0 := 4096) (n1 := 5632) (φ := .bf16) (m ((c.tc : Thread _ _).loc Cert.DownIdeal.main_arg0))
  obtain ⟨W, h1⟩ := exists_mat (n0 := 5632) (n1 := 2048) (φ := .bf16) (m ((c.tc : Thread _ _).loc Cert.DownIdeal.main_arg1))
  obtain ⟨X, h2⟩ := exists_mat (n0 := 4096) (n1 := 2048) (φ := .f32) (m ((c.tc : Thread _ _).loc Cert.DownIdeal.main_arg2))
  obtain ⟨e0, e1, e2⟩ := hargs c
  refine ⟨(h c).1.trans (Eq.trans ?_ (Cert.DownIdeal.Prod.array m c A W X h0 h1 h2).symm), (h c).2⟩
  rw [e0, e1, e2, h0, h1, h2]
  exact ref_add (φ₁ := .bf16) (φ₂ := .bf16) A W X _ _

end Cert.DownEq

namespace Cert.DownDaEq

open Idealize.ShloMosaic Idealize.SL.Sem Cert.Prod

/-- The kernel and its reference leave the same gradient of the rows, and both keep their arguments. -/
theorem equation : Cert.algebraic_DownDaIdeal_DownDaRefIdeal (hDownDaIdeal := Cert.DownDaIdeal.Gen.facts)
    (hDownDaRefIdeal := Cert.DownDaRefIdeal.Gen.facts) := by
  intro m g m' g' _ hargs
  refine ⟨fun c => (Cert.DownDaIdeal.Gen.dats m 0 c).arrAt 2 Cert.DownDaIdeal.cfg0.N, Cert.DownDaIdeal.Value.run_blocks m g, ?_⟩
  refine (θ_run _ _ _).mono (fun r h c => ?_) (Cert.DownDaRefIdeal.Value.run m' g')
  obtain ⟨W, h1⟩ := exists_mat (n0 := 5632) (n1 := 2048) (φ := .bf16) (m ((c.tc : Thread _ _).loc Cert.DownDaIdeal.main_arg1))
  obtain ⟨D, h2⟩ := exists_mat (n0 := 4096) (n1 := 2048) (φ := .f32) (m ((c.tc : Thread _ _).loc Cert.DownDaIdeal.main_arg2))
  obtain ⟨_, e1, e2⟩ := hargs c
  refine ⟨(h c).1.trans (Eq.trans ?_ (Cert.DownDaIdeal.Prod.array m c W D h1 h2).symm), (h c).2⟩
  rw [e1, e2, h1, h2]
  exact congrArg (truncf .bf16 · _) (dot_nt (φ₁ := .f32) (φ₂ := .f32) D W none)

end Cert.DownDaEq

namespace Cert.DownDwEq

open Idealize.ShloMosaic Idealize.SL.Sem Cert.Prod

/-- The kernel and its reference leave the same gradient of the weights, and both keep their arguments. -/
theorem equation : Cert.algebraic_DownDwIdeal_DownDwRefIdeal (hDownDwIdeal := Cert.DownDwIdeal.Gen.facts)
    (hDownDwRefIdeal := Cert.DownDwRefIdeal.Gen.facts) := by
  intro m g m' g' _ hargs
  refine ⟨fun c => (Cert.DownDwIdeal.Gen.dats m 0 c).arrAt 2 Cert.DownDwIdeal.cfg0.N, Cert.DownDwIdeal.Value.run_blocks m g, ?_⟩
  refine (θ_run _ _ _).mono (fun r h c => ?_) (Cert.DownDwRefIdeal.Value.run m' g')
  obtain ⟨A, h0⟩ := exists_mat (n0 := 4096) (n1 := 5632) (φ := .bf16) (m ((c.tc : Thread _ _).loc Cert.DownDwIdeal.main_arg0))
  obtain ⟨D, h2⟩ := exists_mat (n0 := 4096) (n1 := 2048) (φ := .f32) (m ((c.tc : Thread _ _).loc Cert.DownDwIdeal.main_arg2))
  obtain ⟨e0, _, e2⟩ := hargs c
  refine ⟨(h c).1.trans (Eq.trans ?_ (Cert.DownDwIdeal.Prod.array m c A D h0 h2).symm), (h c).2⟩
  rw [e0, e2, h0, h2]
  exact congrArg (truncf .bf16 · _) (ref_tn (φ₁ := .f32) (φ₂ := .f32) A D _)

end Cert.DownDwEq
-- ==== Proof.OutProd.lean ====
/- The mixers' output product added to the residual stream, and its two gradients: the kernels' arrays are what the references compute. -/
module

public import proofs.«01_k».proof.Defs
public import proofs.«01_k».proof.Proof.Gen.OutIdeal.Value
public import proofs.«01_k».proof.Proof.Gen.OutDaIdeal.Value
public import proofs.«01_k».proof.Proof.Gen.OutDwIdeal.Value
public import proofs.«01_k».proof.Proof.Gen.OutRefIdeal.Run
public import proofs.«01_k».proof.Proof.Gen.OutDaRefIdeal.Run
public import proofs.«01_k».proof.Proof.Gen.OutDwRefIdeal.Run
public import proofs.«01_k».proof.Proof.Prod
public import Idealize.ShloMosaic.Lib.Pipeline.ValueKit

@[expose] public section

-- the windows' indices are checked over the whole grid
set_option maxRecDepth 16384

noncomputable section

namespace Cert.OutIdeal.Prod

open Cert.OutIdeal Cert.OutIdeal.Gen Cert.OutIdeal.Value Idealize.ShloMosaic Idealize.ShloMosaic.TcCoe Idealize.SL.Sem Cert.Prod

/-- The block that a point stores. -/
theorem block (f g h : ℕ → ℕ → EReal) :
    out0_3 (F := Ideal) (mat (φ := .bf16) f) (mat (φ := .bf16) g) (mat (φ := .f32) h) = mat (φ := .f32) (fun i j => mul 2048 f g i j + h i j) := by
  refine (View.canon_unit_zero (by decide) _ _).trans ?_
  rw [View.ld_unit_zero (by decide), View.ld_unit_zero (by decide), View.ld_unit_zero (by decide)]
  exact congrArg (addf · (mat h : FVec Ideal S1024x1024 .f32)) (matmul_nn (φ₁ := .bf16) (φ₂ := .bf16) f g none)

/-- The point that stores a block reads that block's rows, its columns of the weights, and the block of the residual stream. -/
theorem idx : ∀ t : Fin cfg0.N, win0_0.index t 0 = win0_3.index t 0 ∧ win0_0.index t 1 = 0 ∧ win0_1.index t 0 = 0
    ∧ win0_1.index t 1 = win0_3.index t 1 ∧ win0_2.index t 0 = win0_3.index t 0 ∧ win0_2.index t 1 = win0_3.index t 1 :=
  (by decide +kernel : ∀ t : Fin grid0.N, _)

/-- The result array. -/
theorem array (m : (ℓ : Loc nD τ sig) → Buf (Elt Ideal) ℓ) (c : Dev nD) (A W X : ℕ → ℕ → EReal)
    (h0 : m ((c : Thread nD τ).loc main_arg0) = (mat A : FVec Ideal S4096x2048 .bf16))
    (h1 : m ((c : Thread nD τ).loc main_arg1) = (mat W : FVec Ideal S2048x2048 .bf16))
    (h2 : m ((c : Thread nD τ).loc main_arg2) = (mat X : FVec Ideal S4096x2048 .f32)) :
    (dats m 0 c).arrAt 3 cfg0.N = (mat (fun i n => mul 2048 A W i n + X i n) : FVec Ideal S4096x2048 .f32) := by
  refine (dats m 0 c).arrAt_eq_of_covers 3 _ (by decide +kernel) fun t _ y => ?_
  obtain ⟨a0, a1, b0, b1, d0, d1⟩ := idx t
  have e0 : iblk m c 0 t = (mat (part (win0_3.index t 0 * 1024) 0 A) : FVec Ideal S1024x2048 .bf16) := by
    funext x; blk_simp [iblk, V_main_arg0, h0, a0, a1, mat, part]
  have e1 : iblk m c 1 t = (mat (part 0 (win0_3.index t 1 * 1024) W) : FVec Ideal S2048x1024 .bf16) := by
    funext x; blk_simp [iblk, V_main_arg1, h1, b0, b1, mat, part]
  have e2 : iblk m c 2 t = (mat (part (win0_3.index t 0 * 1024) (win0_3.index t 1 * 1024) X) : FVec Ideal S1024x1024 .f32) := by
    funext x; blk_simp [iblk, V_main_arg2, h2, d0, d1, mat, part]
  blk_simp
  rw [after0_3, e0, e1, e2, block]
  blk_simp [mat]
  exact congrArg (· + _) (mul_part 2048 A W _ _ _ _)

end Cert.OutIdeal.Prod

namespace Cert.OutDaIdeal.Prod

open Cert.OutDaIdeal Cert.OutDaIdeal.Gen Cert.OutDaIdeal.Value Idealize.ShloMosaic Idealize.ShloMosaic.TcCoe Idealize.SL.Sem Cert.Prod

/-- The block that a point stores. -/
theorem block (f g : ℕ → ℕ → EReal) :
    out0_2 (F := Ideal) (mat (φ := .f32) f) (mat (φ := .bf16) g) = mat (φ := .bf16) (mulT 2048 f g) := by
  refine (View.canon_unit_zero (by decide) _ _).trans ?_
  rw [View.ld_unit_zero (by decide), View.ld_unit_zero (by decide)]
  exact congrArg (truncf .bf16 · bitsLt_bf16_f32) (matmul_nt (φ₁ := .bf16) (φ₂ := .bf16) f g none)

/-- The point that stores a block reads that block's rows of the cotangent and its rows of the weights. -/
theorem idx : ∀ t : Fin cfg0.N, win0_0.index t 0 = win0_2.index t 0 ∧ win0_0.index t 1 = 0
    ∧ win0_1.index t 0 = win0_2.index t 1 ∧ win0_1.index t 1 = 0 :=
  (by decide +kernel : ∀ t : Fin grid0.N, _)

/-- The result array. -/
theorem array (m : (ℓ : Loc nD τ sig) → Buf (Elt Ideal) ℓ) (c : Dev nD) (W D : ℕ → ℕ → EReal)
    (h1 : m ((c : Thread nD τ).loc main_arg1) = (mat W : FVec Ideal S2048x2048 .bf16))
    (h2 : m ((c : Thread nD τ).loc main_arg2) = (mat D : FVec Ideal S4096x2048 .f32)) :
    (dats m 0 c).arrAt 2 cfg0.N = (mat (mulT 2048 D W) : FVec Ideal S4096x2048 .bf16) := by
  refine (dats m 0 c).arrAt_eq_of_covers 2 _ (by decide +kernel) fun t _ y => ?_
  obtain ⟨a0, a1, b0, b1⟩ := idx t
  have e0 : iblk m c 0 t = (mat (part (win0_2.index t 0 * 1024) 0 D) : FVec Ideal S1024x2048 .f32) := by
    funext x; blk_simp [iblk, V_main_arg2, h2, a0, a1, mat, part]
  have e1 : iblk m c 1 t = (mat (part (win0_2.index t 1 * 1024) 0 W) : FVec Ideal S1024x2048 .bf16) := by
    funext x; blk_simp [iblk, V_main_arg1, h1, b0, b1, mat, part]
  blk_simp
  rw [after0_2, e0, e1, block]
  blk_simp [mat]
  exact mulT_part 2048 D W _ _ _ _

end Cert.OutDaIdeal.Prod

namespace Cert.OutDwIdeal.Prod

open Cert.OutDwIdeal Cert.OutDwIdeal.Gen Cert.OutDwIdeal.Value Idealize.ShloMosaic Idealize.ShloMosaic.TcCoe Idealize.SL.Sem Cert.Prod

/-- The block that a point stores. -/
theorem block (f g : ℕ → ℕ → EReal) :
    out0_2 (F := Ideal) (mat (φ := .bf16) f) (mat (φ := .f32) g) = mat (φ := .bf16) (tMul 4096 f g) := by
  refine (View.canon_unit_zero (by decide) _ _).trans ?_
  rw [View.ld_unit_zero (by decide), View.ld_unit_zero (by decide)]
  exact congrArg (truncf .bf16 · bitsLt_bf16_f32) (matmul_tn (φ₁ := .bf16) (φ₂ := .bf16) f g none)

/-- The point that stores a block reads that block's columns of the rows and of the cotangent. -/
theorem idx : ∀ t : Fin cfg0.N, win0_0.index t 0 = 0 ∧ win0_0.index t 1 = win0_2.index t 0
    ∧ win0_1.index t 0 = 0 ∧ win0_1.index t 1 = win0_2.index t 1 :=
  (by decide +kernel : ∀ t : Fin grid0.N, _)

/-- The result array. -/
theorem array (m : (ℓ : Loc nD τ sig) → Buf (Elt Ideal) ℓ) (c : Dev nD) (A D : ℕ → ℕ → EReal)
    (h0 : m ((c : Thread nD τ).loc main_arg0) = (mat A : FVec Ideal S4096x2048 .bf16))
    (h2 : m ((c : Thread nD τ).loc main_arg2) = (mat D : FVec Ideal S4096x2048 .f32)) :
    (dats m 0 c).arrAt 2 cfg0.N = (mat (tMul 4096 A D) : FVec Ideal S2048x2048 .bf16) := by
  refine (dats m 0 c).arrAt_eq_of_covers 2 _ (by decide +kernel) fun t _ y => ?_
  obtain ⟨a0, a1, b0, b1⟩ := idx t
  have e0 : iblk m c 0 t = (mat (part 0 (win0_2.index t 0 * 512) A) : FVec Ideal S4096x512 .bf16) := by
    funext x; blk_simp [iblk, V_main_arg0, h0, a0, a1, mat, part]
  have e1 : iblk m c 1 t = (mat (part 0 (win0_2.index t 1 * 512) D) : FVec Ideal S4096x512 .f32) := by
    funext x; blk_simp [iblk, V_main_arg2, h2, b0, b1, mat, part]
  blk_simp
  rw [after0_2, e0, e1, block]
  blk_simp [mat]
  exact tMul_part 4096 A D _ _ _ _

end Cert.OutDwIdeal.Prod

namespace Cert.OutEq

open Idealize.ShloMosaic Idealize.SL.Sem Cert.Prod

/-- The kernel and its reference leave the same sum, and both keep their arguments. -/
theorem equation : Cert.algebraic_OutIdeal_OutRefIdeal (hOutIdeal := Cert.OutIdeal.Gen.facts)
    (hOutRefIdeal := Cert.OutRefIdeal.Gen.facts) := by
  intro m g m' g' _ hargs
  refine ⟨fun c => (Cert.OutIdeal.Gen.dats m 0 c).arrAt 3 Cert.OutIdeal.cfg0.N, Cert.OutIdeal.Value.run_blocks m g, ?_⟩
  refine (θ_run _ _ _).mono (fun r h c => ?_) (Cert.OutRefIdeal.Value.run m' g')
  obtain ⟨A, h0⟩ := exists_mat (n0 := 4096) (n1 := 2048) (φ := .bf16) (m ((c.tc : Thread _ _).loc Cert.OutIdeal.main_arg0))
  obtain ⟨W, h1⟩ := exists_mat (n0 := 2048) (n1 := 2048) (φ := .bf16) (m ((c.tc : Thread _ _).loc Cert.OutIdeal.main_arg1))
  obtain ⟨X, h2⟩ := exists_mat (n0 := 4096) (n1 := 2048) (φ := .f32) (m ((c.tc : Thread _ _).loc Cert.OutIdeal.main_arg2))
  obtain ⟨e0, e1, e2⟩ := hargs c
  refine ⟨(h c).1.trans (Eq.trans ?_ (Cert.OutIdeal.Prod.array m c A W X h0 h1 h2).symm), (h c).2⟩
  rw [e0, e1, e2, h0, h1, h2]
  exact ref_add (φ₁ := .bf16) (φ₂ := .bf16) A W X _ _

end Cert.OutEq

namespace Cert.OutDaEq

open Idealize.ShloMosaic Idealize.SL.Sem Cert.Prod

/-- The kernel and its reference leave the same gradient of the rows, and both keep their arguments. -/
theorem equation : Cert.algebraic_OutDaIdeal_OutDaRefIdeal (hOutDaIdeal := Cert.OutDaIdeal.Gen.facts)
    (hOutDaRefIdeal := Cert.OutDaRefIdeal.Gen.facts) := by
  intro m g m' g' _ hargs
  refine ⟨fun c => (Cert.OutDaIdeal.Gen.dats m 0 c).arrAt 2 Cert.OutDaIdeal.cfg0.N, Cert.OutDaIdeal.Value.run_blocks m g, ?_⟩
  refine (θ_run _ _ _).mono (fun r h c => ?_) (Cert.OutDaRefIdeal.Value.run m' g')
  obtain ⟨W, h1⟩ := exists_mat (n0 := 2048) (n1 := 2048) (φ := .bf16) (m ((c.tc : Thread _ _).loc Cert.OutDaIdeal.main_arg1))
  obtain ⟨D, h2⟩ := exists_mat (n0 := 4096) (n1 := 2048) (φ := .f32) (m ((c.tc : Thread _ _).loc Cert.OutDaIdeal.main_arg2))
  obtain ⟨_, e1, e2⟩ := hargs c
  refine ⟨(h c).1.trans (Eq.trans ?_ (Cert.OutDaIdeal.Prod.array m c W D h1 h2).symm), (h c).2⟩
  rw [e1, e2, h1, h2]
  exact congrArg (truncf .bf16 · _) (dot_nt (φ₁ := .f32) (φ₂ := .f32) D W none)

end Cert.OutDaEq

namespace Cert.OutDwEq

open Idealize.ShloMosaic Idealize.SL.Sem Cert.Prod

/-- The kernel and its reference leave the same gradient of the weights, and both keep their arguments. -/
theorem equation : Cert.algebraic_OutDwIdeal_OutDwRefIdeal (hOutDwIdeal := Cert.OutDwIdeal.Gen.facts)
    (hOutDwRefIdeal := Cert.OutDwRefIdeal.Gen.facts) := by
  intro m g m' g' _ hargs
  refine ⟨fun c => (Cert.OutDwIdeal.Gen.dats m 0 c).arrAt 2 Cert.OutDwIdeal.cfg0.N, Cert.OutDwIdeal.Value.run_blocks m g, ?_⟩
  refine (θ_run _ _ _).mono (fun r h c => ?_) (Cert.OutDwRefIdeal.Value.run m' g')
  obtain ⟨A, h0⟩ := exists_mat (n0 := 4096) (n1 := 2048) (φ := .bf16) (m ((c.tc : Thread _ _).loc Cert.OutDwIdeal.main_arg0))
  obtain ⟨D, h2⟩ := exists_mat (n0 := 4096) (n1 := 2048) (φ := .f32) (m ((c.tc : Thread _ _).loc Cert.OutDwIdeal.main_arg2))
  obtain ⟨e0, _, e2⟩ := hargs c
  refine ⟨(h c).1.trans (Eq.trans ?_ (Cert.OutDwIdeal.Prod.array m c A D h0 h2).symm), (h c).2⟩
  rw [e0, e2, h0, h2]
  exact congrArg (truncf .bf16 · _) (ref_tn (φ₁ := .f32) (φ₂ := .f32) A D _)

end Cert.OutDwEq
-- ==== Proof.SwigluEq.lean ====
/- The feed-forward's gate and its two gradients: the kernels' arrays are what the references compute. -/
module

public import proofs.«01_k».proof.Defs
public import proofs.«01_k».proof.Proof.Gen.SwigluIdeal.Value
public import proofs.«01_k».proof.Proof.Gen.SwigluRefIdeal.Run
public import proofs.«01_k».proof.Proof.Gen.SwigluBIdeal.Value
public import proofs.«01_k».proof.Proof.Gen.SwigluBRefIdeal.Run
public import proofs.«01_k».proof.Proof.Finite
public import Idealize.ShloMosaic.Lib.KernelVsHost

@[expose] public section

noncomputable section

namespace Cert.Sigmoid

open Idealize.ShloMosaic Idealize.ShloMosaic.ValueIdx Cert.RealArr

/-- The word of one. -/
theorem word_one : Scalar.ofBits (F := Ideal) .f32 0x3F800000#32 = (1 : EReal) := ofBits_one.trans EReal.coe_one

/-- The kernels' line of the sigmoid, which negates by a subtraction from zero. -/
theorem of_kernel (x : Ideal .f32) :
    FloatOps.divf (Scalar.ofBits .f32 0x3F800000#32)
        (FloatOps.addf (Scalar.ofBits .f32 0x3F800000#32) (FloatOps.exp (FloatOps.subf (Scalar.ofBits .f32 0x00000000#32) x)))
      = Ideal.logistic x := by
  rw [word_one, show FloatOps.subf (Scalar.ofBits .f32 0x00000000#32) x = FloatOps.hostNegf x from Ideal.subf_zero_eq_hostNegf x]
  rfl

/-- The references' line of the sigmoid. -/
theorem of_reference {z s : Shape} {d : Fin z.rank → Fin s.rank} (x : FVec Ideal s .f32) (h : z.BroadcastsInDim s d) :
    Host.divf (broadcastInDim s d h (constant z .f32 0x3F800000#32))
        (addf (broadcastInDim s d h (constant z .f32 0x3F800000#32)) (Host.exp (Host.negf x)))
      = fun i => Ideal.logistic (x i) := by
  funext i
  show Ideal.div (Scalar.ofBits (F := Ideal) .f32 0x3F800000#32) (Scalar.ofBits (F := Ideal) .f32 0x3F800000#32 + Ideal.exp (-(x i))) = _
  rw [word_one]
  rfl

/-- The gate's slope in its first argument, times a real number: the kernel's factored form against the sum of the two
    terms that the chain rule gives. -/
theorem slope (x : EReal) (p : ℝ) :
    ((p : EReal) * Ideal.logistic x) * (1 + x * (1 - Ideal.logistic x))
      = (p : EReal) * Ideal.logistic x + (x * (p : EReal)) * (Ideal.logistic x * (1 - Ideal.logistic x)) := by
  have h : (1 : EReal) - 1 = 0 := by rw [← EReal.coe_one, ← EReal.coe_sub, sub_self, EReal.coe_zero]
  induction x with
  | bot => simp
  | top => simp [h]
  | coe r =>
    rw [Ideal.logistic_coe, ← EReal.coe_one]
    simp only [← EReal.coe_mul, ← EReal.coe_sub, ← EReal.coe_add]
    exact congrArg _ (by ring)

end Cert.Sigmoid

namespace Cert.SwigluEq

open Cert.SwigluIdeal Cert.SwigluIdeal.Gen Cert.SwigluIdeal.Value Idealize.ShloMosaic Idealize.ShloMosaic.TcCoe Idealize.SL.Sem

/-- The kernel and its reference leave the same gated array, and both keep their arguments. -/
theorem equation : Cert.algebraic_SwigluIdeal_SwigluRefIdeal (hSwigluIdeal := Cert.SwigluIdeal.Gen.facts)
    (hSwigluRefIdeal := Cert.SwigluRefIdeal.Gen.facts) := by
  intro m g m' g' _ hargs
  refine ⟨_, run m g, ?_⟩
  refine (θ_run _ _ _).mono (fun r h c => ?_) (Cert.SwigluRefIdeal.Value.run m' g')
  obtain ⟨e0, e1⟩ := hargs c
  obtain ⟨r0, rest⟩ := h c
  refine ⟨r0.trans ?_, rest⟩; clear h r0 rest
  rw [e0, e1, Cert.Sigmoid.of_reference _ Cert.SwigluRefIdeal.Gen.bcast_S_S4096x5632]
  funext i
  dsimp only [G2]
  rw [Cert.Sigmoid.of_kernel]
  rfl

end Cert.SwigluEq

namespace Cert.SwigluBEq

open Cert.SwigluBIdeal Cert.SwigluBIdeal.Gen Cert.SwigluBIdeal.Value Idealize.ShloMosaic Idealize.ShloMosaic.TcCoe Idealize.SL.Sem Cert.RealArr

/-- From a finite second factor and a finite gradient, the kernel and its reference leave the same two gradients of the
    gate, and both keep their arguments. -/
theorem equation : Cert.algebraic_SwigluBIdeal_SwigluBRefIdeal_pre_finite_gate (hSwigluBIdeal := Cert.SwigluBIdeal.Gen.facts)
    (hSwigluBRefIdeal := Cert.SwigluBRefIdeal.Gen.facts) (hPre_finite_gate := Cert.Pre_finite_gate.Gen.facts) := by
  intro m g m' g' hpre hargs
  refine ⟨_, _, run m g, ?_⟩
  refine (θ_run _ _ _).mono (fun r h c => ?_) (Cert.SwigluBRefIdeal.Value.run m' g')
  obtain ⟨a1, a2, h1, h2⟩ := Cert.Finite.gate m hpre c
  obtain ⟨e0, e1, e2⟩ := hargs c
  obtain ⟨r0, r1, rest⟩ := h c
  refine ⟨r0.trans ?_, r1.trans ?_, rest⟩ <;> clear h r0 r1 rest
  · rw [e0, e1, e2, Cert.Sigmoid.of_reference _ Cert.SwigluBRefIdeal.Gen.bcast_S_S4096x5632]
    funext i
    dsimp only [G3]
    rw [Cert.Sigmoid.of_kernel, Cert.Sigmoid.word_one, h1, h2]
    refine Eq.trans ?_ (Eq.trans (Cert.Sigmoid.slope (m ((c.tc : Thread nD τ).loc main_arg0) i)
      (a2 (i 0).val (i 1).val * a1 (i 0).val (i 1).val)).symm ?_)
    · rw [EReal.coe_mul, ← Cert.Sigmoid.word_one]; rfl
    · rw [EReal.coe_mul]; rfl
  · rw [e0, e2, Cert.Sigmoid.of_reference _ Cert.SwigluBRefIdeal.Gen.bcast_S_S4096x5632]
    funext i
    dsimp only [G4]
    rw [Cert.Sigmoid.of_kernel]
    have e (x s d : EReal) : x * s * d = d * x * s := (mul_right_comm x s d).trans (congrArg (· * s) (mul_comm x d))
    exact e _ _ _

end Cert.SwigluBEq
-- ==== Proof.AdamIn.lean ====
/- The optimiser's step of the mixers' input weights: the kernel's three arrays are what the reference computes. -/
module

public import proofs.«01_k».proof.Defs
public import proofs.«01_k».proof.Proof.Gen.AdamInIdeal.Value
public import proofs.«01_k».proof.Proof.Gen.AdamInRefIdeal.Run
public import proofs.«01_k».proof.Proof.Adam

@[expose] public section

-- the windows' indices are checked over the whole grid
set_option maxRecDepth 16384

noncomputable section

namespace Cert.AdamInEq

open Cert.AdamInIdeal Cert.AdamInIdeal.Gen Cert.AdamInIdeal.Value Idealize.ShloMosaic Idealize.ShloMosaic.TcCoe Idealize.SL.Sem Cert.Adam

variable (m : (ℓ : Loc nD τ sig) → Buf (Elt Ideal) ℓ) (c : Dev nD)

/-- The array of the first moment. -/
theorem array_first : (dats m 0 c).arrAt 5 cfg0.N = fun i => first (V m c main_v1 i) (V m c main_v2 i) :=
  (dats m 0 c).arrAt_eq_of_covers 5 _ (by decide +kernel) fun t _ _ =>
    (congrFun ((after0_5 m c t).trans ((View.canon_unit_zero (by decide) _ _).trans
      (line_first (View.ld_unit_zero (by decide) _ _) (View.ld_unit_zero (by decide) _ _)))) _).trans rfl

/-- The array of the second moment. -/
theorem array_second : (dats m 0 c).arrAt 6 cfg0.N = fun i => second (V m c main_v1 i) (V m c main_v3 i) :=
  (dats m 0 c).arrAt_eq_of_covers 6 _ (by decide +kernel) fun t _ _ =>
    (congrFun ((after0_6 m c t).trans ((View.canon_unit_zero (by decide) _ _).trans
      (line_second (View.ld_unit_zero (by decide) _ _) (View.ld_unit_zero (by decide) _ _)))) _).trans rfl

/-- The array of the change. -/
theorem array_step : (dats m 0 c).arrAt 4 cfg0.N =
    fun i => step (V m c main_v0 i) (V m c main_v1 i) (V m c main_v2 i) (V m c main_v3 i) :=
  (dats m 0 c).arrAt_eq_of_covers 4 _ (by decide +kernel) fun t _ _ =>
    (congrFun ((after0_4 m c t).trans ((View.canon_unit_zero (by decide) _ _).trans
      (line_step (View.ld_unit_zero (by decide) _ _)
        (line_first (View.ld_unit_zero (by decide) _ _) (View.ld_unit_zero (by decide) _ _))
        (line_second (View.ld_unit_zero (by decide) _ _) (View.ld_unit_zero (by decide) _ _))))) _).trans rfl

/-- The kernel and its reference leave the same change and the same moments, and both keep their arguments. -/
theorem equation : Cert.algebraic_AdamInIdeal_AdamInRefIdeal (hAdamInIdeal := Cert.AdamInIdeal.Gen.facts)
    (hAdamInRefIdeal := Cert.AdamInRefIdeal.Gen.facts) := by
  intro m g m' g' _ hargs
  refine ⟨fun c => (dats m 0 c).arrAt 4 cfg0.N, fun c => (dats m 0 c).arrAt 5 cfg0.N, fun c => (dats m 0 c).arrAt 6 cfg0.N, run_blocks m g, ?_⟩
  refine (θ_run _ _ _).mono (fun r h c => ?_) (Cert.AdamInRefIdeal.Value.run m' g')
  obtain ⟨e0, e1, e2, e3⟩ := hargs c
  obtain ⟨r0, r1, r2, rest⟩ := h c
  refine ⟨r0.trans (Eq.trans ?_ (array_step m c).symm), r1.trans (Eq.trans ?_ (array_first m c).symm), r2.trans (Eq.trans ?_ (array_second m c).symm), rest⟩
  · rw [e0, e1, e2, e3]; rfl
  · rw [e1, e2]; rfl
  · rw [e1, e3]; rfl

end Cert.AdamInEq
-- ==== Proof.AdamUq.lean ====
/- The optimiser's step of the mixers' query weights: the kernel's three arrays are what the reference computes. -/
module

public import proofs.«01_k».proof.Defs
public import proofs.«01_k».proof.Proof.Gen.AdamUqIdeal.Value
public import proofs.«01_k».proof.Proof.Gen.AdamUqRefIdeal.Run
public import proofs.«01_k».proof.Proof.Adam

@[expose] public section

-- the windows' indices are checked over the whole grid
set_option maxRecDepth 16384

noncomputable section

namespace Cert.AdamUqEq

open Cert.AdamUqIdeal Cert.AdamUqIdeal.Gen Cert.AdamUqIdeal.Value Idealize.ShloMosaic Idealize.ShloMosaic.TcCoe Idealize.SL.Sem Cert.Adam

variable (m : (ℓ : Loc nD τ sig) → Buf (Elt Ideal) ℓ) (c : Dev nD)

/-- The array of the first moment. -/
theorem array_first : (dats m 0 c).arrAt 5 cfg0.N = fun i => first (V m c main_v1 i) (V m c main_v2 i) :=
  (dats m 0 c).arrAt_eq_of_covers 5 _ (by decide +kernel) fun t _ _ =>
    (congrFun ((after0_5 m c t).trans ((View.canon_unit_zero (by decide) _ _).trans
      (line_first (View.ld_unit_zero (by decide) _ _) (View.ld_unit_zero (by decide) _ _)))) _).trans rfl

/-- The array of the second moment. -/
theorem array_second : (dats m 0 c).arrAt 6 cfg0.N = fun i => second (V m c main_v1 i) (V m c main_v3 i) :=
  (dats m 0 c).arrAt_eq_of_covers 6 _ (by decide +kernel) fun t _ _ =>
    (congrFun ((after0_6 m c t).trans ((View.canon_unit_zero (by decide) _ _).trans
      (line_second (View.ld_unit_zero (by decide) _ _) (View.ld_unit_zero (by decide) _ _)))) _).trans rfl

/-- The array of the change. -/
theorem array_step : (dats m 0 c).arrAt 4 cfg0.N =
    fun i => step (V m c main_v0 i) (V m c main_v1 i) (V m c main_v2 i) (V m c main_v3 i) :=
  (dats m 0 c).arrAt_eq_of_covers 4 _ (by decide +kernel) fun t _ _ =>
    (congrFun ((after0_4 m c t).trans ((View.canon_unit_zero (by decide) _ _).trans
      (line_step (View.ld_unit_zero (by decide) _ _)
        (line_first (View.ld_unit_zero (by decide) _ _) (View.ld_unit_zero (by decide) _ _))
        (line_second (View.ld_unit_zero (by decide) _ _) (View.ld_unit_zero (by decide) _ _))))) _).trans rfl

/-- The kernel and its reference leave the same change and the same moments, and both keep their arguments. -/
theorem equation : Cert.algebraic_AdamUqIdeal_AdamUqRefIdeal (hAdamUqIdeal := Cert.AdamUqIdeal.Gen.facts)
    (hAdamUqRefIdeal := Cert.AdamUqRefIdeal.Gen.facts) := by
  intro m g m' g' _ hargs
  refine ⟨fun c => (dats m 0 c).arrAt 4 cfg0.N, fun c => (dats m 0 c).arrAt 5 cfg0.N, fun c => (dats m 0 c).arrAt 6 cfg0.N, run_blocks m g, ?_⟩
  refine (θ_run _ _ _).mono (fun r h c => ?_) (Cert.AdamUqRefIdeal.Value.run m' g')
  obtain ⟨e0, e1, e2, e3⟩ := hargs c
  obtain ⟨r0, r1, r2, rest⟩ := h c
  refine ⟨r0.trans (Eq.trans ?_ (array_step m c).symm), r1.trans (Eq.trans ?_ (array_first m c).symm), r2.trans (Eq.trans ?_ (array_second m c).symm), rest⟩
  · rw [e0, e1, e2, e3]; rfl
  · rw [e1, e2]; rfl
  · rw [e1, e3]; rfl

end Cert.AdamUqEq
-- ==== Proof.AdamUkv.lean ====
/- The optimiser's step of the mixers' key and value weights: the kernel's three arrays are what the reference computes. -/
module

public import proofs.«01_k».proof.Defs
public import proofs.«01_k».proof.Proof.Gen.AdamUkvIdeal.Value
public import proofs.«01_k».proof.Proof.Gen.AdamUkvRefIdeal.Run
public import proofs.«01_k».proof.Proof.Adam

@[expose] public section

-- the windows' indices are checked over the whole grid
set_option maxRecDepth 16384

noncomputable section

namespace Cert.AdamUkvEq

open Cert.AdamUkvIdeal Cert.AdamUkvIdeal.Gen Cert.AdamUkvIdeal.Value Idealize.ShloMosaic Idealize.ShloMosaic.TcCoe Idealize.SL.Sem Cert.Adam

variable (m : (ℓ : Loc nD τ sig) → Buf (Elt Ideal) ℓ) (c : Dev nD)

/-- The array of the first moment. -/
theorem array_first : (dats m 0 c).arrAt 5 cfg0.N = fun i => first (V m c main_v1 i) (V m c main_v2 i) :=
  (dats m 0 c).arrAt_eq_of_covers 5 _ (by decide +kernel) fun t _ _ =>
    (congrFun ((after0_5 m c t).trans ((View.canon_unit_zero (by decide) _ _).trans
      (line_first (View.ld_unit_zero (by decide) _ _) (View.ld_unit_zero (by decide) _ _)))) _).trans rfl

/-- The array of the second moment. -/
theorem array_second : (dats m 0 c).arrAt 6 cfg0.N = fun i => second (V m c main_v1 i) (V m c main_v3 i) :=
  (dats m 0 c).arrAt_eq_of_covers 6 _ (by decide +kernel) fun t _ _ =>
    (congrFun ((after0_6 m c t).trans ((View.canon_unit_zero (by decide) _ _).trans
      (line_second (View.ld_unit_zero (by decide) _ _) (View.ld_unit_zero (by decide) _ _)))) _).trans rfl

/-- The array of the change. -/
theorem array_step : (dats m 0 c).arrAt 4 cfg0.N =
    fun i => step (V m c main_v0 i) (V m c main_v1 i) (V m c main_v2 i) (V m c main_v3 i) :=
  (dats m 0 c).arrAt_eq_of_covers 4 _ (by decide +kernel) fun t _ _ =>
    (congrFun ((after0_4 m c t).trans ((View.canon_unit_zero (by decide) _ _).trans
      (line_step (View.ld_unit_zero (by decide) _ _)
        (line_first (View.ld_unit_zero (by decide) _ _) (View.ld_unit_zero (by decide) _ _))
        (line_second (View.ld_unit_zero (by decide) _ _) (View.ld_unit_zero (by decide) _ _))))) _).trans rfl

/-- The kernel and its reference leave the same change and the same moments, and both keep their arguments. -/
theorem equation : Cert.algebraic_AdamUkvIdeal_AdamUkvRefIdeal (hAdamUkvIdeal := Cert.AdamUkvIdeal.Gen.facts)
    (hAdamUkvRefIdeal := Cert.AdamUkvRefIdeal.Gen.facts) := by
  intro m g m' g' _ hargs
  refine ⟨fun c => (dats m 0 c).arrAt 4 cfg0.N, fun c => (dats m 0 c).arrAt 5 cfg0.N, fun c => (dats m 0 c).arrAt 6 cfg0.N, run_blocks m g, ?_⟩
  refine (θ_run _ _ _).mono (fun r h c => ?_) (Cert.AdamUkvRefIdeal.Value.run m' g')
  obtain ⟨e0, e1, e2, e3⟩ := hargs c
  obtain ⟨r0, r1, r2, rest⟩ := h c
  refine ⟨r0.trans (Eq.trans ?_ (array_step m c).symm), r1.trans (Eq.trans ?_ (array_first m c).symm), r2.trans (Eq.trans ?_ (array_second m c).symm), rest⟩
  · rw [e0, e1, e2, e3]; rfl
  · rw [e1, e2]; rfl
  · rw [e1, e3]; rfl

end Cert.AdamUkvEq
-- ==== Proof.AdamOut.lean ====
/- The optimiser's step of the mixers' output weights: the kernel's three arrays are what the reference computes. -/
module

public import proofs.«01_k».proof.Defs
public import proofs.«01_k».proof.Proof.Gen.AdamOutIdeal.Value
public import proofs.«01_k».proof.Proof.Gen.AdamOutRefIdeal.Run
public import proofs.«01_k».proof.Proof.Adam

@[expose] public section

-- the windows' indices are checked over the whole grid
set_option maxRecDepth 16384

noncomputable section

namespace Cert.AdamOutEq

open Cert.AdamOutIdeal Cert.AdamOutIdeal.Gen Cert.AdamOutIdeal.Value Idealize.ShloMosaic Idealize.ShloMosaic.TcCoe Idealize.SL.Sem Cert.Adam

variable (m : (ℓ : Loc nD τ sig) → Buf (Elt Ideal) ℓ) (c : Dev nD)

/-- The array of the first moment. -/
theorem array_first : (dats m 0 c).arrAt 5 cfg0.N = fun i => first (V m c main_v1 i) (V m c main_v2 i) :=
  (dats m 0 c).arrAt_eq_of_covers 5 _ (by decide +kernel) fun t _ _ =>
    (congrFun ((after0_5 m c t).trans ((View.canon_unit_zero (by decide) _ _).trans
      (line_first (View.ld_unit_zero (by decide) _ _) (View.ld_unit_zero (by decide) _ _)))) _).trans rfl

/-- The array of the second moment. -/
theorem array_second : (dats m 0 c).arrAt 6 cfg0.N = fun i => second (V m c main_v1 i) (V m c main_v3 i) :=
  (dats m 0 c).arrAt_eq_of_covers 6 _ (by decide +kernel) fun t _ _ =>
    (congrFun ((after0_6 m c t).trans ((View.canon_unit_zero (by decide) _ _).trans
      (line_second (View.ld_unit_zero (by decide) _ _) (View.ld_unit_zero (by decide) _ _)))) _).trans rfl

/-- The array of the change. -/
theorem array_step : (dats m 0 c).arrAt 4 cfg0.N =
    fun i => step (V m c main_v0 i) (V m c main_v1 i) (V m c main_v2 i) (V m c main_v3 i) :=
  (dats m 0 c).arrAt_eq_of_covers 4 _ (by decide +kernel) fun t _ _ =>
    (congrFun ((after0_4 m c t).trans ((View.canon_unit_zero (by decide) _ _).trans
      (line_step (View.ld_unit_zero (by decide) _ _)
        (line_first (View.ld_unit_zero (by decide) _ _) (View.ld_unit_zero (by decide) _ _))
        (line_second (View.ld_unit_zero (by decide) _ _) (View.ld_unit_zero (by decide) _ _))))) _).trans rfl

/-- The kernel and its reference leave the same change and the same moments, and both keep their arguments. -/
theorem equation : Cert.algebraic_AdamOutIdeal_AdamOutRefIdeal (hAdamOutIdeal := Cert.AdamOutIdeal.Gen.facts)
    (hAdamOutRefIdeal := Cert.AdamOutRefIdeal.Gen.facts) := by
  intro m g m' g' _ hargs
  refine ⟨fun c => (dats m 0 c).arrAt 4 cfg0.N, fun c => (dats m 0 c).arrAt 5 cfg0.N, fun c => (dats m 0 c).arrAt 6 cfg0.N, run_blocks m g, ?_⟩
  refine (θ_run _ _ _).mono (fun r h c => ?_) (Cert.AdamOutRefIdeal.Value.run m' g')
  obtain ⟨e0, e1, e2, e3⟩ := hargs c
  obtain ⟨r0, r1, r2, rest⟩ := h c
  refine ⟨r0.trans (Eq.trans ?_ (array_step m c).symm), r1.trans (Eq.trans ?_ (array_first m c).symm), r2.trans (Eq.trans ?_ (array_second m c).symm), rest⟩
  · rw [e0, e1, e2, e3]; rfl
  · rw [e1, e2]; rfl
  · rw [e1, e3]; rfl

end Cert.AdamOutEq
-- ==== Proof.AdamGate.lean ====
/- The optimiser's step of the feed-forward's gate weights (those of its other product have the same shapes): the kernel's three arrays are what the reference computes. -/
module

public import proofs.«01_k».proof.Defs
public import proofs.«01_k».proof.Proof.Gen.AdamGateIdeal.Value
public import proofs.«01_k».proof.Proof.Gen.AdamGateRefIdeal.Run
public import proofs.«01_k».proof.Proof.Adam

@[expose] public section

-- the windows' indices are checked over the whole grid
set_option maxRecDepth 16384

noncomputable section

namespace Cert.AdamGateEq

open Cert.AdamGateIdeal Cert.AdamGateIdeal.Gen Cert.AdamGateIdeal.Value Idealize.ShloMosaic Idealize.ShloMosaic.TcCoe Idealize.SL.Sem Cert.Adam

variable (m : (ℓ : Loc nD τ sig) → Buf (Elt Ideal) ℓ) (c : Dev nD)

/-- The array of the first moment. -/
theorem array_first : (dats m 0 c).arrAt 5 cfg0.N = fun i => first (V m c main_v1 i) (V m c main_v2 i) :=
  (dats m 0 c).arrAt_eq_of_covers 5 _ (by decide +kernel) fun t _ _ =>
    (congrFun ((after0_5 m c t).trans ((View.canon_unit_zero (by decide) _ _).trans
      (line_first (View.ld_unit_zero (by decide) _ _) (View.ld_unit_zero (by decide) _ _)))) _).trans rfl

/-- The array of the second moment. -/
theorem array_second : (dats m 0 c).arrAt 6 cfg0.N = fun i => second (V m c main_v1 i) (V m c main_v3 i) :=
  (dats m 0 c).arrAt_eq_of_covers 6 _ (by decide +kernel) fun t _ _ =>
    (congrFun ((after0_6 m c t).trans ((View.canon_unit_zero (by decide) _ _).trans
      (line_second (View.ld_unit_zero (by decide) _ _) (View.ld_unit_zero (by decide) _ _)))) _).trans rfl

/-- The array of the change. -/
theorem array_step : (dats m 0 c).arrAt 4 cfg0.N =
    fun i => step (V m c main_v0 i) (V m c main_v1 i) (V m c main_v2 i) (V m c main_v3 i) :=
  (dats m 0 c).arrAt_eq_of_covers 4 _ (by decide +kernel) fun t _ _ =>
    (congrFun ((after0_4 m c t).trans ((View.canon_unit_zero (by decide) _ _).trans
      (line_step (View.ld_unit_zero (by decide) _ _)
        (line_first (View.ld_unit_zero (by decide) _ _) (View.ld_unit_zero (by decide) _ _))
        (line_second (View.ld_unit_zero (by decide) _ _) (View.ld_unit_zero (by decide) _ _))))) _).trans rfl

/-- The kernel and its reference leave the same change and the same moments, and both keep their arguments. -/
theorem equation : Cert.algebraic_AdamGateIdeal_AdamGateRefIdeal (hAdamGateIdeal := Cert.AdamGateIdeal.Gen.facts)
    (hAdamGateRefIdeal := Cert.AdamGateRefIdeal.Gen.facts) := by
  intro m g m' g' _ hargs
  refine ⟨fun c => (dats m 0 c).arrAt 4 cfg0.N, fun c => (dats m 0 c).arrAt 5 cfg0.N, fun c => (dats m 0 c).arrAt 6 cfg0.N, run_blocks m g, ?_⟩
  refine (θ_run _ _ _).mono (fun r h c => ?_) (Cert.AdamGateRefIdeal.Value.run m' g')
  obtain ⟨e0, e1, e2, e3⟩ := hargs c
  obtain ⟨r0, r1, r2, rest⟩ := h c
  refine ⟨r0.trans (Eq.trans ?_ (array_step m c).symm), r1.trans (Eq.trans ?_ (array_first m c).symm), r2.trans (Eq.trans ?_ (array_second m c).symm), rest⟩
  · rw [e0, e1, e2, e3]; rfl
  · rw [e1, e2]; rfl
  · rw [e1, e3]; rfl

end Cert.AdamGateEq
-- ==== Proof.AdamDown.lean ====
/- The optimiser's step of the feed-forward's output weights: the kernel's three arrays are what the reference computes. -/
module

public import proofs.«01_k».proof.Defs
public import proofs.«01_k».proof.Proof.Gen.AdamDownIdeal.Value
public import proofs.«01_k».proof.Proof.Gen.AdamDownRefIdeal.Run
public import proofs.«01_k».proof.Proof.Adam

@[expose] public section

-- the windows' indices are checked over the whole grid
set_option maxRecDepth 16384

noncomputable section

namespace Cert.AdamDownEq

open Cert.AdamDownIdeal Cert.AdamDownIdeal.Gen Cert.AdamDownIdeal.Value Idealize.ShloMosaic Idealize.ShloMosaic.TcCoe Idealize.SL.Sem Cert.Adam

variable (m : (ℓ : Loc nD τ sig) → Buf (Elt Ideal) ℓ) (c : Dev nD)

/-- The array of the first moment. -/
theorem array_first : (dats m 0 c).arrAt 5 cfg0.N = fun i => first (V m c main_v1 i) (V m c main_v2 i) :=
  (dats m 0 c).arrAt_eq_of_covers 5 _ (by decide +kernel) fun t _ _ =>
    (congrFun ((after0_5 m c t).trans ((View.canon_unit_zero (by decide) _ _).trans
      (line_first (View.ld_unit_zero (by decide) _ _) (View.ld_unit_zero (by decide) _ _)))) _).trans rfl

/-- The array of the second moment. -/
theorem array_second : (dats m 0 c).arrAt 6 cfg0.N = fun i => second (V m c main_v1 i) (V m c main_v3 i) :=
  (dats m 0 c).arrAt_eq_of_covers 6 _ (by decide +kernel) fun t _ _ =>
    (congrFun ((after0_6 m c t).trans ((View.canon_unit_zero (by decide) _ _).trans
      (line_second (View.ld_unit_zero (by decide) _ _) (View.ld_unit_zero (by decide) _ _)))) _).trans rfl

/-- The array of the change. -/
theorem array_step : (dats m 0 c).arrAt 4 cfg0.N =
    fun i => step (V m c main_v0 i) (V m c main_v1 i) (V m c main_v2 i) (V m c main_v3 i) :=
  (dats m 0 c).arrAt_eq_of_covers 4 _ (by decide +kernel) fun t _ _ =>
    (congrFun ((after0_4 m c t).trans ((View.canon_unit_zero (by decide) _ _).trans
      (line_step (View.ld_unit_zero (by decide) _ _)
        (line_first (View.ld_unit_zero (by decide) _ _) (View.ld_unit_zero (by decide) _ _))
        (line_second (View.ld_unit_zero (by decide) _ _) (View.ld_unit_zero (by decide) _ _))))) _).trans rfl

/-- The kernel and its reference leave the same change and the same moments, and both keep their arguments. -/
theorem equation : Cert.algebraic_AdamDownIdeal_AdamDownRefIdeal (hAdamDownIdeal := Cert.AdamDownIdeal.Gen.facts)
    (hAdamDownRefIdeal := Cert.AdamDownRefIdeal.Gen.facts) := by
  intro m g m' g' _ hargs
  refine ⟨fun c => (dats m 0 c).arrAt 4 cfg0.N, fun c => (dats m 0 c).arrAt 5 cfg0.N, fun c => (dats m 0 c).arrAt 6 cfg0.N, run_blocks m g, ?_⟩
  refine (θ_run _ _ _).mono (fun r h c => ?_) (Cert.AdamDownRefIdeal.Value.run m' g')
  obtain ⟨e0, e1, e2, e3⟩ := hargs c
  obtain ⟨r0, r1, r2, rest⟩ := h c
  refine ⟨r0.trans (Eq.trans ?_ (array_step m c).symm), r1.trans (Eq.trans ?_ (array_first m c).symm), r2.trans (Eq.trans ?_ (array_second m c).symm), rest⟩
  · rw [e0, e1, e2, e3]; rfl
  · rw [e1, e2]; rfl
  · rw [e1, e3]; rfl

end Cert.AdamDownEq
-- ==== Proof.lean ====
module

public import proofs.«01_k».proof.Defs
public import proofs.«01_k».proof.Proof.Gen.Kernel.Frame
public import proofs.«01_k».proof.Proof.Gen.KernelIdeal.Frame
public import proofs.«01_k».proof.Proof.Gen.Fwd.Frame
public import proofs.«01_k».proof.Proof.Gen.FwdIdeal.Frame
public import proofs.«01_k».proof.Proof.Gen.KernelIdeal.Value
public import proofs.«01_k».proof.Proof.Gen.FwdIdeal.Value
public import proofs.«01_k».proof.Proof.Gen.ReferenceIdeal.Run
public import proofs.«01_k».proof.Proof.Gen.ReferenceIdeal.Read
public import proofs.«01_k».proof.Proof.Gen.FwdRefIdeal.Run
public import proofs.«01_k».proof.Proof.Gen.FwdRefIdeal.Read
public import proofs.«01_k».proof.Proof.BwdEq
public import proofs.«01_k».proof.Proof.FwdEq
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Run
public import proofs.«01_k».proof.Proof.Gen.GateRefIdeal.Read
public import proofs.«01_k».proof.Proof.Gen.GateDa.Frame
public import proofs.«01_k».proof.Proof.Gen.GateDaIdeal.Frame
public import proofs.«01_k».proof.Proof.Gen.GateDaIdeal.Value
public import proofs.«01_k».proof.Proof.Gen.GateDaRefIdeal.Run
public import proofs.«01_k».proof.Proof.Gen.GateDaRefIdeal.Read
public import proofs.«01_k».proof.Proof.Gen.GateDw.Frame
public import proofs.«01_k».proof.Proof.Gen.GateDwIdeal.Frame
public import proofs.«01_k».proof.Proof.Gen.GateDwIdeal.Value
public import proofs.«01_k».proof.Proof.Gen.GateDwRefIdeal.Run
public import proofs.«01_k».proof.Proof.Gen.GateDwRefIdeal.Read
public import proofs.«01_k».proof.Proof.Gen.In.Frame
public import proofs.«01_k».proof.Proof.Gen.InIdeal.Frame
public import proofs.«01_k».proof.Proof.Gen.InIdeal.Value
public import proofs.«01_k».proof.Proof.Gen.InRefIdeal.Run
public import proofs.«01_k».proof.Proof.Gen.InRefIdeal.Read
public import proofs.«01_k».proof.Proof.Gen.InDa.Frame
public import proofs.«01_k».proof.Proof.Gen.InDaIdeal.Frame
public import proofs.«01_k».proof.Proof.Gen.InDaIdeal.Value
public import proofs.«01_k».proof.Proof.Gen.InDaRefIdeal.Run
public import proofs.«01_k».proof.Proof.Gen.InDaRefIdeal.Read
public import proofs.«01_k».proof.Proof.Gen.InDw.Frame
public import proofs.«01_k».proof.Proof.Gen.InDwIdeal.Frame
public import proofs.«01_k».proof.Proof.Gen.InDwIdeal.Value
public import proofs.«01_k».proof.Proof.Gen.InDwRefIdeal.Run
public import proofs.«01_k».proof.Proof.Gen.InDwRefIdeal.Read
public import proofs.«01_k».proof.Proof.Gen.Lat.Frame
public import proofs.«01_k».proof.Proof.Gen.LatIdeal.Frame
public import proofs.«01_k».proof.Proof.Gen.LatIdeal.Value
public import proofs.«01_k».proof.Proof.Gen.LatRefIdeal.Run
public import proofs.«01_k».proof.Proof.Gen.LatRefIdeal.Read
public import proofs.«01_k».proof.Proof.Gen.LatDa.Frame
public import proofs.«01_k».proof.Proof.Gen.LatDaIdeal.Frame
public import proofs.«01_k».proof.Proof.Gen.LatDaIdeal.Value
public import proofs.«01_k».proof.Proof.Gen.LatDaRefIdeal.Run
public import proofs.«01_k».proof.Proof.Gen.LatDaRefIdeal.Read
public import proofs.«01_k».proof.Proof.Gen.LatDw.Frame
public import proofs.«01_k».proof.Proof.Gen.LatDwIdeal.Frame
public import proofs.«01_k».proof.Proof.Gen.LatDwIdeal.Value
public import proofs.«01_k».proof.Proof.Gen.LatDwRefIdeal.Run
public import proofs.«01_k».proof.Proof.Gen.LatDwRefIdeal.Read
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import proofs.«01_k».proof.Proof.Gen.DownDa.Frame
public import proofs.«01_k».proof.Proof.Gen.DownDaIdeal.Frame
public import proofs.«01_k».proof.Proof.Gen.DownDaIdeal.Value
public import proofs.«01_k».proof.Proof.Gen.DownDaRefIdeal.Run
public import proofs.«01_k».proof.Proof.Gen.DownDaRefIdeal.Read
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal.Run
public import proofs.«01_k».proof.Proof.Gen.DownDwRefIdeal.Read
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.OutDa.Frame
public import proofs.«01_k».proof.Proof.Gen.OutDaIdeal.Frame
public import proofs.«01_k».proof.Proof.Gen.OutDaIdeal.Value
public import proofs.«01_k».proof.Proof.Gen.OutDaRefIdeal.Run
public import proofs.«01_k».proof.Proof.Gen.OutDaRefIdeal.Read
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwRefIdeal.Run
public import proofs.«01_k».proof.Proof.Gen.OutDwRefIdeal.Read
public import proofs.«01_k».proof.Proof.Gen.Swiglu.Frame
public import proofs.«01_k».proof.Proof.Gen.SwigluIdeal.Frame
public import proofs.«01_k».proof.Proof.Gen.SwigluIdeal.Value
public import proofs.«01_k».proof.Proof.Gen.SwigluRefIdeal.Run
public import proofs.«01_k».proof.Proof.Gen.SwigluRefIdeal.Read
public import proofs.«01_k».proof.Proof.Gen.SwigluB.Frame
public import proofs.«01_k».proof.Proof.Gen.SwigluBIdeal.Frame
public import proofs.«01_k».proof.Proof.Gen.SwigluBIdeal.Value
public import proofs.«01_k».proof.Proof.Gen.SwigluBRefIdeal.Run
public import proofs.«01_k».proof.Proof.Gen.SwigluBRefIdeal.Read
public import proofs.«01_k».proof.Proof.Gen.AdamIn.Frame
public import proofs.«01_k».proof.Proof.Gen.AdamInIdeal.Frame
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamUq.Frame
public import proofs.«01_k».proof.Proof.Gen.AdamUqIdeal.Frame
public import proofs.«01_k».proof.Proof.Gen.AdamUqIdeal.Value
public import proofs.«01_k».proof.Proof.Gen.AdamUqRefIdeal.Run
public import proofs.«01_k».proof.Proof.Gen.AdamUqRefIdeal.Read
public import proofs.«01_k».proof.Proof.Gen.AdamUkv.Frame
public import proofs.«01_k».proof.Proof.Gen.AdamUkvIdeal.Frame
public import proofs.«01_k».proof.Proof.Gen.AdamUkvIdeal.Value
public import proofs.«01_k».proof.Proof.Gen.AdamUkvRefIdeal.Run
public import proofs.«01_k».proof.Proof.Gen.AdamUkvRefIdeal.Read
public import proofs.«01_k».proof.Proof.Gen.AdamOut.Frame
public import proofs.«01_k».proof.Proof.Gen.AdamOutIdeal.Frame
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamGate.Frame
public import proofs.«01_k».proof.Proof.Gen.AdamGateIdeal.Frame
public import proofs.«01_k».proof.Proof.Gen.AdamGateIdeal.Value
public import proofs.«01_k».proof.Proof.Gen.AdamGateRefIdeal.Run
public import proofs.«01_k».proof.Proof.Gen.AdamGateRefIdeal.Read
public import proofs.«01_k».proof.Proof.Gen.AdamDown.Frame
public import proofs.«01_k».proof.Proof.Gen.AdamDownIdeal.Frame
public import proofs.«01_k».proof.Proof.Gen.AdamDownIdeal.Value
public import proofs.«01_k».proof.Proof.Gen.AdamDownRefIdeal.Run
public import proofs.«01_k».proof.Proof.Gen.AdamDownRefIdeal.Read
public import proofs.«01_k».proof.Proof.Gen.AdamSmall.Frame
public import proofs.«01_k».proof.Proof.Gen.AdamSmallIdeal.Frame
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Gen.SumIn.Frame
public import proofs.«01_k».proof.Proof.Gen.SumInIdeal.Frame
public import proofs.«01_k».proof.Proof.Gen.SumInIdeal.Value
public import proofs.«01_k».proof.Proof.Gen.SumInRefIdeal.Run
public import proofs.«01_k».proof.Proof.Gen.SumInRefIdeal.Read
public import proofs.«01_k».proof.Proof.Gen.SumUq.Frame
public import proofs.«01_k».proof.Proof.Gen.SumUqIdeal.Frame
public import proofs.«01_k».proof.Proof.Gen.SumUqIdeal.Value
public import proofs.«01_k».proof.Proof.Gen.SumUqRefIdeal.Run
public import proofs.«01_k».proof.Proof.Gen.SumUqRefIdeal.Read
public import proofs.«01_k».proof.Proof.Gen.SumOut.Frame
public import proofs.«01_k».proof.Proof.Gen.SumOutIdeal.Frame
public import proofs.«01_k».proof.Proof.Gen.SumOutIdeal.Value
public import proofs.«01_k».proof.Proof.Gen.SumOutRefIdeal.Run
public import proofs.«01_k».proof.Proof.Gen.SumOutRefIdeal.Read
public import proofs.«01_k».proof.Proof.Gen.SumGate.Frame
public import proofs.«01_k».proof.Proof.Gen.SumGateIdeal.Frame
public import proofs.«01_k».proof.Proof.Gen.SumGateIdeal.Value
public import proofs.«01_k».proof.Proof.Gen.SumGateRefIdeal.Run
public import proofs.«01_k».proof.Proof.Gen.SumGateRefIdeal.Read
public import proofs.«01_k».proof.Proof.Gen.SumDown.Frame
public import proofs.«01_k».proof.Proof.Gen.SumDownIdeal.Frame
public import proofs.«01_k».proof.Proof.Gen.SumDownIdeal.Value
public import proofs.«01_k».proof.Proof.Gen.SumDownRefIdeal.Run
public import proofs.«01_k».proof.Proof.Gen.SumDownRefIdeal.Read
public import proofs.«01_k».proof.Proof.Gen.SumSmall.Frame
public import proofs.«01_k».proof.Proof.Gen.SumSmallIdeal.Frame
public import proofs.«01_k».proof.Proof.Gen.SumSmallIdeal.Value
public import proofs.«01_k».proof.Proof.Gen.SumSmallRefIdeal.Run
public import proofs.«01_k».proof.Proof.Gen.SumSmallRefIdeal.Read
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.Gen.NormRefIdeal.Read
public import proofs.«01_k».proof.Proof.Gen.NormB.Frame
public import proofs.«01_k».proof.Proof.Gen.NormBIdeal.Frame
public import proofs.«01_k».proof.Proof.Gen.NormBIdeal.Value
public import proofs.«01_k».proof.Proof.Gen.NormBRefIdeal.Run
public import proofs.«01_k».proof.Proof.Gen.NormBRefIdeal.Read
public import proofs.«01_k».proof.Proof.Gen.NormL.Frame
public import proofs.«01_k».proof.Proof.Gen.NormLIdeal.Frame
public import proofs.«01_k».proof.Proof.Gen.NormLIdeal.Value
public import proofs.«01_k».proof.Proof.Gen.NormLRefIdeal.Run
public import proofs.«01_k».proof.Proof.Gen.NormLRefIdeal.Read
public import proofs.«01_k».proof.Proof.Gen.NormLB.Frame
public import proofs.«01_k».proof.Proof.Gen.NormLBIdeal.Frame
public import proofs.«01_k».proof.Proof.Gen.NormLBIdeal.Value
public import proofs.«01_k».proof.Proof.Gen.NormLBRefIdeal.Run
public import proofs.«01_k».proof.Proof.Gen.NormLBRefIdeal.Read
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import proofs.«01_k».proof.Proof.AdamSmall
public import proofs.«01_k».proof.Proof.SumIn
public import proofs.«01_k».proof.Proof.SumUq
public import proofs.«01_k».proof.Proof.SumOut
public import proofs.«01_k».proof.Proof.SumGate
public import proofs.«01_k».proof.Proof.SumDown
public import proofs.«01_k».proof.Proof.SumSmall
public import proofs.«01_k».proof.Proof.NormEq
public import proofs.«01_k».proof.Proof.NormBEq
public import proofs.«01_k».proof.Proof.NormLEq
public import proofs.«01_k».proof.Proof.NormLBEq
public import proofs.«01_k».proof.Proof.LossEq
public import proofs.«01_k».proof.Proof.Gen.NormG.Frame
public import proofs.«01_k».proof.Proof.Gen.NormGIdeal.Frame
public import proofs.«01_k».proof.Proof.Gen.NormGIdeal.Value
public import proofs.«01_k».proof.Proof.Gen.NormGRefIdeal.Run
public import proofs.«01_k».proof.Proof.Gen.NormGRefIdeal.Read
public import proofs.«01_k».proof.Proof.Gen.NormGB.Frame
public import proofs.«01_k».proof.Proof.Gen.NormGBIdeal.Frame
public import proofs.«01_k».proof.Proof.Gen.NormGBIdeal.Value
public import proofs.«01_k».proof.Proof.Gen.NormGBRefIdeal.Run
public import proofs.«01_k».proof.Proof.Gen.NormGBRefIdeal.Read
public import proofs.«01_k».proof.Proof.NormGEq
public import proofs.«01_k».proof.Proof.NormGBEq
public import proofs.«01_k».proof.Proof.GateProd
public import proofs.«01_k».proof.Proof.InProd
public import proofs.«01_k».proof.Proof.LatProd
public import proofs.«01_k».proof.Proof.DownProd
public import proofs.«01_k».proof.Proof.OutProd
public import proofs.«01_k».proof.Proof.SwigluEq
public import proofs.«01_k».proof.Proof.AdamIn
public import proofs.«01_k».proof.Proof.AdamUq
public import proofs.«01_k».proof.Proof.AdamUkv
public import proofs.«01_k».proof.Proof.AdamOut
public import proofs.«01_k».proof.Proof.AdamGate
public import proofs.«01_k».proof.Proof.AdamDown

@[expose] public section

noncomputable section

namespace Cert.Proof

open Idealize.ShloMosaic Idealize.SL.Sem

/-- The backward reference runs to its end and keeps its arguments. -/
theorem bwd_ref : Cert.quiescent_ReferenceIdeal (hReferenceIdeal := Cert.ReferenceIdeal.Gen.facts) := fun m ρ _ =>
  (θ_run _ _ _).mono (fun r h => ⟨fun c => (h c).2.2.2, sem_eq_zero_of_no_sems (by decide) r.2⟩) (Cert.ReferenceIdeal.Value.run m ρ)

/-- The forward reference runs to its end and keeps its arguments. -/
theorem fwd_ref : Cert.quiescent_FwdRefIdeal (hFwdRefIdeal := Cert.FwdRefIdeal.Gen.facts) := fun m ρ _ =>
  (θ_run _ _ _).mono (fun r h => ⟨fun c => (h c).2.2, sem_eq_zero_of_no_sems (by decide) r.2⟩) (Cert.FwdRefIdeal.Value.run m ρ)

/-- The reference of the product `Gate` runs to its end and keeps its arguments. -/
theorem ref_Gate : Cert.quiescent_GateRefIdeal (hGateRefIdeal := Cert.GateRefIdeal.Gen.facts) := fun m ρ _ =>
  (θ_run _ _ _).mono (fun r h => ⟨fun c => (h c).2, sem_eq_zero_of_no_sems (by decide) r.2⟩) (Cert.GateRefIdeal.Value.run m ρ)

/-- The reference of the rows' gradient `Gate` runs to its end and keeps its arguments. -/
theorem ref_GateDa : Cert.quiescent_GateDaRefIdeal (hGateDaRefIdeal := Cert.GateDaRefIdeal.Gen.facts) := fun m ρ _ =>
  (θ_run _ _ _).mono (fun r h => ⟨fun c => (h c).2, sem_eq_zero_of_no_sems (by decide) r.2⟩) (Cert.GateDaRefIdeal.Value.run m ρ)

/-- The reference of the weights' gradient `Gate` runs to its end and keeps its arguments. -/
theorem ref_GateDw : Cert.quiescent_GateDwRefIdeal (hGateDwRefIdeal := Cert.GateDwRefIdeal.Gen.facts) := fun m ρ _ =>
  (θ_run _ _ _).mono (fun r h => ⟨fun c => (h c).2, sem_eq_zero_of_no_sems (by decide) r.2⟩) (Cert.GateDwRefIdeal.Value.run m ρ)

/-- The reference of the product `In` runs to its end and keeps its arguments. -/
theorem ref_In : Cert.quiescent_InRefIdeal (hInRefIdeal := Cert.InRefIdeal.Gen.facts) := fun m ρ _ =>
  (θ_run _ _ _).mono (fun r h => ⟨fun c => (h c).2, sem_eq_zero_of_no_sems (by decide) r.2⟩) (Cert.InRefIdeal.Value.run m ρ)

/-- The reference of the rows' gradient `In` runs to its end and keeps its arguments. -/
theorem ref_InDa : Cert.quiescent_InDaRefIdeal (hInDaRefIdeal := Cert.InDaRefIdeal.Gen.facts) := fun m ρ _ =>
  (θ_run _ _ _).mono (fun r h => ⟨fun c => (h c).2, sem_eq_zero_of_no_sems (by decide) r.2⟩) (Cert.InDaRefIdeal.Value.run m ρ)

/-- The reference of the weights' gradient `In` runs to its end and keeps its arguments. -/
theorem ref_InDw : Cert.quiescent_InDwRefIdeal (hInDwRefIdeal := Cert.InDwRefIdeal.Gen.facts) := fun m ρ _ =>
  (θ_run _ _ _).mono (fun r h => ⟨fun c => (h c).2, sem_eq_zero_of_no_sems (by decide) r.2⟩) (Cert.InDwRefIdeal.Value.run m ρ)

/-- The reference of the product `Lat` runs to its end and keeps its arguments. -/
theorem ref_Lat : Cert.quiescent_LatRefIdeal (hLatRefIdeal := Cert.LatRefIdeal.Gen.facts) := fun m ρ _ =>
  (θ_run _ _ _).mono (fun r h => ⟨fun c => (h c).2, sem_eq_zero_of_no_sems (by decide) r.2⟩) (Cert.LatRefIdeal.Value.run m ρ)

/-- The reference of the rows' gradient `Lat` runs to its end and keeps its arguments. -/
theorem ref_LatDa : Cert.quiescent_LatDaRefIdeal (hLatDaRefIdeal := Cert.LatDaRefIdeal.Gen.facts) := fun m ρ _ =>
  (θ_run _ _ _).mono (fun r h => ⟨fun c => (h c).2, sem_eq_zero_of_no_sems (by decide) r.2⟩) (Cert.LatDaRefIdeal.Value.run m ρ)

/-- The reference of the weights' gradient `Lat` runs to its end and keeps its arguments. -/
theorem ref_LatDw : Cert.quiescent_LatDwRefIdeal (hLatDwRefIdeal := Cert.LatDwRefIdeal.Gen.facts) := fun m ρ _ =>
  (θ_run _ _ _).mono (fun r h => ⟨fun c => (h c).2, sem_eq_zero_of_no_sems (by decide) r.2⟩) (Cert.LatDwRefIdeal.Value.run m ρ)

/-- The reference of the product `Down` runs to its end and keeps its arguments. -/
theorem ref_Down : Cert.quiescent_DownRefIdeal (hDownRefIdeal := Cert.DownRefIdeal.Gen.facts) := fun m ρ _ =>
  (θ_run _ _ _).mono (fun r h => ⟨fun c => (h c).2, sem_eq_zero_of_no_sems (by decide) r.2⟩) (Cert.DownRefIdeal.Value.run m ρ)

/-- The reference of the rows' gradient `Down` runs to its end and keeps its arguments. -/
theorem ref_DownDa : Cert.quiescent_DownDaRefIdeal (hDownDaRefIdeal := Cert.DownDaRefIdeal.Gen.facts) := fun m ρ _ =>
  (θ_run _ _ _).mono (fun r h => ⟨fun c => (h c).2, sem_eq_zero_of_no_sems (by decide) r.2⟩) (Cert.DownDaRefIdeal.Value.run m ρ)

/-- The reference of the weights' gradient `Down` runs to its end and keeps its arguments. -/
theorem ref_DownDw : Cert.quiescent_DownDwRefIdeal (hDownDwRefIdeal := Cert.DownDwRefIdeal.Gen.facts) := fun m ρ _ =>
  (θ_run _ _ _).mono (fun r h => ⟨fun c => (h c).2, sem_eq_zero_of_no_sems (by decide) r.2⟩) (Cert.DownDwRefIdeal.Value.run m ρ)

/-- The reference of the product `Out` runs to its end and keeps its arguments. -/
theorem ref_Out : Cert.quiescent_OutRefIdeal (hOutRefIdeal := Cert.OutRefIdeal.Gen.facts) := fun m ρ _ =>
  (θ_run _ _ _).mono (fun r h => ⟨fun c => (h c).2, sem_eq_zero_of_no_sems (by decide) r.2⟩) (Cert.OutRefIdeal.Value.run m ρ)

/-- The reference of the rows' gradient `Out` runs to its end and keeps its arguments. -/
theorem ref_OutDa : Cert.quiescent_OutDaRefIdeal (hOutDaRefIdeal := Cert.OutDaRefIdeal.Gen.facts) := fun m ρ _ =>
  (θ_run _ _ _).mono (fun r h => ⟨fun c => (h c).2, sem_eq_zero_of_no_sems (by decide) r.2⟩) (Cert.OutDaRefIdeal.Value.run m ρ)

/-- The reference of the weights' gradient `Out` runs to its end and keeps its arguments. -/
theorem ref_OutDw : Cert.quiescent_OutDwRefIdeal (hOutDwRefIdeal := Cert.OutDwRefIdeal.Gen.facts) := fun m ρ _ =>
  (θ_run _ _ _).mono (fun r h => ⟨fun c => (h c).2, sem_eq_zero_of_no_sems (by decide) r.2⟩) (Cert.OutDwRefIdeal.Value.run m ρ)

/-- The reference of the gate runs to its end and keeps its arguments. -/
theorem ref_Swiglu : Cert.quiescent_SwigluRefIdeal (hSwigluRefIdeal := Cert.SwigluRefIdeal.Gen.facts) := fun m ρ _ =>
  (θ_run _ _ _).mono (fun r h => ⟨fun c => (h c).2, sem_eq_zero_of_no_sems (by decide) r.2⟩) (Cert.SwigluRefIdeal.Value.run m ρ)

/-- The reference of the gate's gradients runs to its end and keeps its arguments. -/
theorem ref_SwigluB : Cert.quiescent_SwigluBRefIdeal (hSwigluBRefIdeal := Cert.SwigluBRefIdeal.Gen.facts) := fun m ρ _ =>
  (θ_run _ _ _).mono (fun r h => ⟨fun c => (h c).2.2, sem_eq_zero_of_no_sems (by decide) r.2⟩) (Cert.SwigluBRefIdeal.Value.run m ρ)

/-- The reference of the optimiser's step `In` runs to its end and keeps its arguments. -/
theorem ref_AdamIn : Cert.quiescent_AdamInRefIdeal (hAdamInRefIdeal := Cert.AdamInRefIdeal.Gen.facts) := fun m ρ _ =>
  (θ_run _ _ _).mono (fun r h => ⟨fun c => (h c).2.2.2, sem_eq_zero_of_no_sems (by decide) r.2⟩) (Cert.AdamInRefIdeal.Value.run m ρ)

/-- The reference of the optimiser's step `Uq` runs to its end and keeps its arguments. -/
theorem ref_AdamUq : Cert.quiescent_AdamUqRefIdeal (hAdamUqRefIdeal := Cert.AdamUqRefIdeal.Gen.facts) := fun m ρ _ =>
  (θ_run _ _ _).mono (fun r h => ⟨fun c => (h c).2.2.2, sem_eq_zero_of_no_sems (by decide) r.2⟩) (Cert.AdamUqRefIdeal.Value.run m ρ)

/-- The reference of the optimiser's step `Ukv` runs to its end and keeps its arguments. -/
theorem ref_AdamUkv : Cert.quiescent_AdamUkvRefIdeal (hAdamUkvRefIdeal := Cert.AdamUkvRefIdeal.Gen.facts) := fun m ρ _ =>
  (θ_run _ _ _).mono (fun r h => ⟨fun c => (h c).2.2.2, sem_eq_zero_of_no_sems (by decide) r.2⟩) (Cert.AdamUkvRefIdeal.Value.run m ρ)

/-- The reference of the optimiser's step `Out` runs to its end and keeps its arguments. -/
theorem ref_AdamOut : Cert.quiescent_AdamOutRefIdeal (hAdamOutRefIdeal := Cert.AdamOutRefIdeal.Gen.facts) := fun m ρ _ =>
  (θ_run _ _ _).mono (fun r h => ⟨fun c => (h c).2.2.2, sem_eq_zero_of_no_sems (by decide) r.2⟩) (Cert.AdamOutRefIdeal.Value.run m ρ)

/-- The reference of the optimiser's step `Gate` runs to its end and keeps its arguments. -/
theorem ref_AdamGate : Cert.quiescent_AdamGateRefIdeal (hAdamGateRefIdeal := Cert.AdamGateRefIdeal.Gen.facts) := fun m ρ _ =>
  (θ_run _ _ _).mono (fun r h => ⟨fun c => (h c).2.2.2, sem_eq_zero_of_no_sems (by decide) r.2⟩) (Cert.AdamGateRefIdeal.Value.run m ρ)

/-- The reference of the optimiser's step `Down` runs to its end and keeps its arguments. -/
theorem ref_AdamDown : Cert.quiescent_AdamDownRefIdeal (hAdamDownRefIdeal := Cert.AdamDownRefIdeal.Gen.facts) := fun m ρ _ =>
  (θ_run _ _ _).mono (fun r h => ⟨fun c => (h c).2.2.2, sem_eq_zero_of_no_sems (by decide) r.2⟩) (Cert.AdamDownRefIdeal.Value.run m ρ)

/-- The reference of the optimiser's step of the small weights runs to its end and keeps its arguments. -/
theorem ref_AdamSmall : Cert.quiescent_AdamSmallRefIdeal (hAdamSmallRefIdeal := Cert.AdamSmallRefIdeal.Gen.facts) := fun m ρ _ =>
  (θ_run _ _ _).mono (fun r h => ⟨fun c => (h c).2.2.2, sem_eq_zero_of_no_sems (by decide) r.2⟩) (Cert.AdamSmallRefIdeal.Value.run m ρ)

/-- The reference of the sum `In` runs to its end and keeps its arguments. -/
theorem ref_SumIn : Cert.quiescent_SumInRefIdeal (hSumInRefIdeal := Cert.SumInRefIdeal.Gen.facts) := fun m ρ _ =>
  (θ_run _ _ _).mono (fun r h => ⟨fun c => (h c).2, sem_eq_zero_of_no_sems (by decide) r.2⟩) (Cert.SumInRefIdeal.Value.run m ρ)

/-- The reference of the sum `Uq` runs to its end and keeps its arguments. -/
theorem ref_SumUq : Cert.quiescent_SumUqRefIdeal (hSumUqRefIdeal := Cert.SumUqRefIdeal.Gen.facts) := fun m ρ _ =>
  (θ_run _ _ _).mono (fun r h => ⟨fun c => (h c).2, sem_eq_zero_of_no_sems (by decide) r.2⟩) (Cert.SumUqRefIdeal.Value.run m ρ)

/-- The reference of the sum `Out` runs to its end and keeps its arguments. -/
theorem ref_SumOut : Cert.quiescent_SumOutRefIdeal (hSumOutRefIdeal := Cert.SumOutRefIdeal.Gen.facts) := fun m ρ _ =>
  (θ_run _ _ _).mono (fun r h => ⟨fun c => (h c).2, sem_eq_zero_of_no_sems (by decide) r.2⟩) (Cert.SumOutRefIdeal.Value.run m ρ)

/-- The reference of the sum `Gate` runs to its end and keeps its arguments. -/
theorem ref_SumGate : Cert.quiescent_SumGateRefIdeal (hSumGateRefIdeal := Cert.SumGateRefIdeal.Gen.facts) := fun m ρ _ =>
  (θ_run _ _ _).mono (fun r h => ⟨fun c => (h c).2, sem_eq_zero_of_no_sems (by decide) r.2⟩) (Cert.SumGateRefIdeal.Value.run m ρ)

/-- The reference of the sum `Down` runs to its end and keeps its arguments. -/
theorem ref_SumDown : Cert.quiescent_SumDownRefIdeal (hSumDownRefIdeal := Cert.SumDownRefIdeal.Gen.facts) := fun m ρ _ =>
  (θ_run _ _ _).mono (fun r h => ⟨fun c => (h c).2, sem_eq_zero_of_no_sems (by decide) r.2⟩) (Cert.SumDownRefIdeal.Value.run m ρ)

/-- The reference of the sum `Small` runs to its end and keeps its arguments. -/
theorem ref_SumSmall : Cert.quiescent_SumSmallRefIdeal (hSumSmallRefIdeal := Cert.SumSmallRefIdeal.Gen.facts) := fun m ρ _ =>
  (θ_run _ _ _).mono (fun r h => ⟨fun c => (h c).2, sem_eq_zero_of_no_sems (by decide) r.2⟩) (Cert.SumSmallRefIdeal.Value.run m ρ)

/-- The reference of the norm of the residual stream runs to its end and keeps its arguments. -/
theorem ref_Norm : Cert.quiescent_NormRefIdeal (hNormRefIdeal := Cert.NormRefIdeal.Gen.facts) := fun m ρ _ =>
  (θ_run _ _ _).mono (fun r h => ⟨fun c => (h c).2, sem_eq_zero_of_no_sems (by decide) r.2⟩) (Cert.NormRefIdeal.Value.run m ρ)

/-- The reference of the gradients of the norm of the residual stream runs to its end and keeps its arguments. -/
theorem ref_NormB : Cert.quiescent_NormBRefIdeal (hNormBRefIdeal := Cert.NormBRefIdeal.Gen.facts) := fun m ρ _ =>
  (θ_run _ _ _).mono (fun r h => ⟨fun c => (h c).2.2, sem_eq_zero_of_no_sems (by decide) r.2⟩) (Cert.NormBRefIdeal.Value.run m ρ)

/-- The reference of the norm of the latents runs to its end and keeps its arguments. -/
theorem ref_NormL : Cert.quiescent_NormLRefIdeal (hNormLRefIdeal := Cert.NormLRefIdeal.Gen.facts) := fun m ρ _ =>
  (θ_run _ _ _).mono (fun r h => ⟨fun c => (h c).2, sem_eq_zero_of_no_sems (by decide) r.2⟩) (Cert.NormLRefIdeal.Value.run m ρ)

/-- The reference of the gradients of the norm of the latents runs to its end and keeps its arguments. -/
theorem ref_NormLB : Cert.quiescent_NormLBRefIdeal (hNormLBRefIdeal := Cert.NormLBRefIdeal.Gen.facts) := fun m ρ _ =>
  (θ_run _ _ _).mono (fun r h => ⟨fun c => (h c).2.2, sem_eq_zero_of_no_sems (by decide) r.2⟩) (Cert.NormLBRefIdeal.Value.run m ρ)

/-- The reference of the final norm with the loss runs to its end and keeps its arguments. -/
theorem ref_Loss : Cert.quiescent_LossRefIdeal (hLossRefIdeal := Cert.LossRefIdeal.Gen.facts) := fun m ρ _ =>
  (θ_run _ _ _).mono (fun r h => ⟨fun c => (h c).2.2.2, sem_eq_zero_of_no_sems (by decide) r.2⟩) (Cert.LossRefIdeal.Value.run m ρ)

/-- The reference of the norm of the four mixers' outputs runs to its end and keeps its arguments. -/
theorem ref_NormG : Cert.quiescent_NormGRefIdeal (hNormGRefIdeal := Cert.NormGRefIdeal.Gen.facts) := fun m ρ _ =>
  (θ_run _ _ _).mono (fun r h => ⟨fun c => (h c).2, sem_eq_zero_of_no_sems (by decide) r.2⟩) (Cert.NormGRefIdeal.Value.run m ρ)

/-- The reference of the gradients of the norm of the four mixers' outputs runs to its end and keeps its arguments. -/
theorem ref_NormGB : Cert.quiescent_NormGBRefIdeal (hNormGBRefIdeal := Cert.NormGBRefIdeal.Gen.facts) := fun m ρ _ =>
  (θ_run _ _ _).mono (fun r h => ⟨fun c => (h c).2.2, sem_eq_zero_of_no_sems (by decide) r.2⟩) (Cert.NormGBRefIdeal.Value.run m ρ)

/-- Everything claimed of the kernels and their references. -/
theorem claim : Cert.Claim := ⟨Cert.Kernel.Gen.facts, Cert.KernelIdeal.Gen.facts, Cert.ReferenceIdeal.Gen.facts, Cert.Fwd.Gen.facts, Cert.FwdIdeal.Gen.facts, Cert.FwdRefIdeal.Gen.facts,
  Cert.Gate.Gen.facts, Cert.GateIdeal.Gen.facts, Cert.GateRefIdeal.Gen.facts,
  Cert.GateDa.Gen.facts, Cert.GateDaIdeal.Gen.facts, Cert.GateDaRefIdeal.Gen.facts,
  Cert.GateDw.Gen.facts, Cert.GateDwIdeal.Gen.facts, Cert.GateDwRefIdeal.Gen.facts,
  Cert.In.Gen.facts, Cert.InIdeal.Gen.facts, Cert.InRefIdeal.Gen.facts,
  Cert.InDa.Gen.facts, Cert.InDaIdeal.Gen.facts, Cert.InDaRefIdeal.Gen.facts,
  Cert.InDw.Gen.facts, Cert.InDwIdeal.Gen.facts, Cert.InDwRefIdeal.Gen.facts,
  Cert.Lat.Gen.facts, Cert.LatIdeal.Gen.facts, Cert.LatRefIdeal.Gen.facts,
  Cert.LatDa.Gen.facts, Cert.LatDaIdeal.Gen.facts, Cert.LatDaRefIdeal.Gen.facts,
  Cert.LatDw.Gen.facts, Cert.LatDwIdeal.Gen.facts, Cert.LatDwRefIdeal.Gen.facts,
  Cert.Down.Gen.facts, Cert.DownIdeal.Gen.facts, Cert.DownRefIdeal.Gen.facts,
  Cert.DownDa.Gen.facts, Cert.DownDaIdeal.Gen.facts, Cert.DownDaRefIdeal.Gen.facts,
  Cert.DownDw.Gen.facts, Cert.DownDwIdeal.Gen.facts, Cert.DownDwRefIdeal.Gen.facts,
  Cert.Out.Gen.facts, Cert.OutIdeal.Gen.facts, Cert.OutRefIdeal.Gen.facts,
  Cert.OutDa.Gen.facts, Cert.OutDaIdeal.Gen.facts, Cert.OutDaRefIdeal.Gen.facts,
  Cert.OutDw.Gen.facts, Cert.OutDwIdeal.Gen.facts, Cert.OutDwRefIdeal.Gen.facts,
  Cert.Swiglu.Gen.facts, Cert.SwigluIdeal.Gen.facts, Cert.SwigluRefIdeal.Gen.facts,
  Cert.SwigluB.Gen.facts, Cert.SwigluBIdeal.Gen.facts, Cert.SwigluBRefIdeal.Gen.facts,
  Cert.AdamIn.Gen.facts, Cert.AdamInIdeal.Gen.facts, Cert.AdamInRefIdeal.Gen.facts,
  Cert.AdamUq.Gen.facts, Cert.AdamUqIdeal.Gen.facts, Cert.AdamUqRefIdeal.Gen.facts,
  Cert.AdamUkv.Gen.facts, Cert.AdamUkvIdeal.Gen.facts, Cert.AdamUkvRefIdeal.Gen.facts,
  Cert.AdamOut.Gen.facts, Cert.AdamOutIdeal.Gen.facts, Cert.AdamOutRefIdeal.Gen.facts,
  Cert.AdamGate.Gen.facts, Cert.AdamGateIdeal.Gen.facts, Cert.AdamGateRefIdeal.Gen.facts,
  Cert.AdamDown.Gen.facts, Cert.AdamDownIdeal.Gen.facts, Cert.AdamDownRefIdeal.Gen.facts,
  Cert.AdamSmall.Gen.facts, Cert.AdamSmallIdeal.Gen.facts, Cert.AdamSmallRefIdeal.Gen.facts,
  Cert.SumIn.Gen.facts, Cert.SumInIdeal.Gen.facts, Cert.SumInRefIdeal.Gen.facts,
  Cert.SumUq.Gen.facts, Cert.SumUqIdeal.Gen.facts, Cert.SumUqRefIdeal.Gen.facts,
  Cert.SumOut.Gen.facts, Cert.SumOutIdeal.Gen.facts, Cert.SumOutRefIdeal.Gen.facts,
  Cert.SumGate.Gen.facts, Cert.SumGateIdeal.Gen.facts, Cert.SumGateRefIdeal.Gen.facts,
  Cert.SumDown.Gen.facts, Cert.SumDownIdeal.Gen.facts, Cert.SumDownRefIdeal.Gen.facts,
  Cert.SumSmall.Gen.facts, Cert.SumSmallIdeal.Gen.facts, Cert.SumSmallRefIdeal.Gen.facts,
  Cert.Norm.Gen.facts, Cert.NormIdeal.Gen.facts, Cert.NormRefIdeal.Gen.facts,
  Cert.NormB.Gen.facts, Cert.NormBIdeal.Gen.facts, Cert.NormBRefIdeal.Gen.facts,
  Cert.NormL.Gen.facts, Cert.NormLIdeal.Gen.facts, Cert.NormLRefIdeal.Gen.facts,
  Cert.NormLB.Gen.facts, Cert.NormLBIdeal.Gen.facts, Cert.NormLBRefIdeal.Gen.facts,
  Cert.Loss.Gen.facts, Cert.LossIdeal.Gen.facts, Cert.LossRefIdeal.Gen.facts,
  Cert.NormG.Gen.facts, Cert.NormGIdeal.Gen.facts, Cert.NormGRefIdeal.Gen.facts,
  Cert.NormGB.Gen.facts, Cert.NormGBIdeal.Gen.facts, Cert.NormGBRefIdeal.Gen.facts,
  Cert.Pre_finite.Gen.facts, Cert.Pre_finite_fwd.Gen.facts, Cert.Pre_finite_gate.Gen.facts,
  fun m ρ _ => Cert.Kernel.Gen.frame m ρ, fun m ρ _ => Cert.KernelIdeal.Gen.frame m ρ, fun m ρ _ => Cert.KernelIdeal.Gen.frame m ρ,
  bwd_ref, fun m ρ _ => bwd_ref m ρ trivial,
  fun m ρ _ => Cert.Fwd.Gen.frame m ρ, fun m ρ _ => Cert.FwdIdeal.Gen.frame m ρ, fun m ρ _ => Cert.FwdIdeal.Gen.frame m ρ,
  fwd_ref, fun m ρ _ => fwd_ref m ρ trivial,
  fun m ρ _ => Cert.Gate.Gen.frame m ρ, fun m ρ _ => Cert.GateIdeal.Gen.frame m ρ, ref_Gate,
  fun m ρ _ => Cert.GateDa.Gen.frame m ρ, fun m ρ _ => Cert.GateDaIdeal.Gen.frame m ρ, ref_GateDa,
  fun m ρ _ => Cert.GateDw.Gen.frame m ρ, fun m ρ _ => Cert.GateDwIdeal.Gen.frame m ρ, ref_GateDw,
  fun m ρ _ => Cert.In.Gen.frame m ρ, fun m ρ _ => Cert.InIdeal.Gen.frame m ρ, ref_In,
  fun m ρ _ => Cert.InDa.Gen.frame m ρ, fun m ρ _ => Cert.InDaIdeal.Gen.frame m ρ, ref_InDa,
  fun m ρ _ => Cert.InDw.Gen.frame m ρ, fun m ρ _ => Cert.InDwIdeal.Gen.frame m ρ, ref_InDw,
  fun m ρ _ => Cert.Lat.Gen.frame m ρ, fun m ρ _ => Cert.LatIdeal.Gen.frame m ρ, ref_Lat,
  fun m ρ _ => Cert.LatDa.Gen.frame m ρ, fun m ρ _ => Cert.LatDaIdeal.Gen.frame m ρ, ref_LatDa,
  fun m ρ _ => Cert.LatDw.Gen.frame m ρ, fun m ρ _ => Cert.LatDwIdeal.Gen.frame m ρ, ref_LatDw,
  fun m ρ _ => Cert.Down.Gen.frame m ρ, fun m ρ _ => Cert.DownIdeal.Gen.frame m ρ, ref_Down,
  fun m ρ _ => Cert.DownDa.Gen.frame m ρ, fun m ρ _ => Cert.DownDaIdeal.Gen.frame m ρ, ref_DownDa,
  fun m ρ _ => Cert.DownDw.Gen.frame m ρ, fun m ρ _ => Cert.DownDwIdeal.Gen.frame m ρ, ref_DownDw,
  fun m ρ _ => Cert.Out.Gen.frame m ρ, fun m ρ _ => Cert.OutIdeal.Gen.frame m ρ, ref_Out,
  fun m ρ _ => Cert.OutDa.Gen.frame m ρ, fun m ρ _ => Cert.OutDaIdeal.Gen.frame m ρ, ref_OutDa,
  fun m ρ _ => Cert.OutDw.Gen.frame m ρ, fun m ρ _ => Cert.OutDwIdeal.Gen.frame m ρ, ref_OutDw,
  fun m ρ _ => Cert.Swiglu.Gen.frame m ρ, fun m ρ _ => Cert.SwigluIdeal.Gen.frame m ρ, ref_Swiglu,
  fun m ρ _ => Cert.SwigluB.Gen.frame m ρ, fun m ρ _ => Cert.SwigluBIdeal.Gen.frame m ρ, fun m ρ _ => Cert.SwigluBIdeal.Gen.frame m ρ,
  ref_SwigluB, fun m ρ _ => ref_SwigluB m ρ trivial,
  fun m ρ _ => Cert.AdamIn.Gen.frame m ρ, fun m ρ _ => Cert.AdamInIdeal.Gen.frame m ρ, ref_AdamIn,
  fun m ρ _ => Cert.AdamUq.Gen.frame m ρ, fun m ρ _ => Cert.AdamUqIdeal.Gen.frame m ρ, ref_AdamUq,
  fun m ρ _ => Cert.AdamUkv.Gen.frame m ρ, fun m ρ _ => Cert.AdamUkvIdeal.Gen.frame m ρ, ref_AdamUkv,
  fun m ρ _ => Cert.AdamOut.Gen.frame m ρ, fun m ρ _ => Cert.AdamOutIdeal.Gen.frame m ρ, ref_AdamOut,
  fun m ρ _ => Cert.AdamGate.Gen.frame m ρ, fun m ρ _ => Cert.AdamGateIdeal.Gen.frame m ρ, ref_AdamGate,
  fun m ρ _ => Cert.AdamDown.Gen.frame m ρ, fun m ρ _ => Cert.AdamDownIdeal.Gen.frame m ρ, ref_AdamDown,
  fun m ρ _ => Cert.AdamSmall.Gen.frame m ρ, fun m ρ _ => Cert.AdamSmallIdeal.Gen.frame m ρ, ref_AdamSmall,
  fun m ρ _ => Cert.SumIn.Gen.frame m ρ, fun m ρ _ => Cert.SumInIdeal.Gen.frame m ρ, ref_SumIn,
  fun m ρ _ => Cert.SumUq.Gen.frame m ρ, fun m ρ _ => Cert.SumUqIdeal.Gen.frame m ρ, ref_SumUq,
  fun m ρ _ => Cert.SumOut.Gen.frame m ρ, fun m ρ _ => Cert.SumOutIdeal.Gen.frame m ρ, ref_SumOut,
  fun m ρ _ => Cert.SumGate.Gen.frame m ρ, fun m ρ _ => Cert.SumGateIdeal.Gen.frame m ρ, ref_SumGate,
  fun m ρ _ => Cert.SumDown.Gen.frame m ρ, fun m ρ _ => Cert.SumDownIdeal.Gen.frame m ρ, ref_SumDown,
  fun m ρ _ => Cert.SumSmall.Gen.frame m ρ, fun m ρ _ => Cert.SumSmallIdeal.Gen.frame m ρ, ref_SumSmall,
  fun m ρ _ => Cert.Norm.Gen.frame m ρ, fun m ρ _ => Cert.NormIdeal.Gen.frame m ρ, ref_Norm,
  fun m ρ _ => Cert.NormB.Gen.frame m ρ, fun m ρ _ => Cert.NormBIdeal.Gen.frame m ρ, ref_NormB,
  fun m ρ _ => Cert.NormL.Gen.frame m ρ, fun m ρ _ => Cert.NormLIdeal.Gen.frame m ρ, ref_NormL,
  fun m ρ _ => Cert.NormLB.Gen.frame m ρ, fun m ρ _ => Cert.NormLBIdeal.Gen.frame m ρ, ref_NormLB,
  fun m ρ _ => Cert.Loss.Gen.frame m ρ, fun m ρ _ => Cert.LossIdeal.Gen.frame m ρ, ref_Loss,
  fun m ρ _ => Cert.NormG.Gen.frame m ρ, fun m ρ _ => Cert.NormGIdeal.Gen.frame m ρ, ref_NormG,
  fun m ρ _ => Cert.NormGB.Gen.frame m ρ, fun m ρ _ => Cert.NormGBIdeal.Gen.frame m ρ, ref_NormGB,
  trivial, Cert.BwdEq.equation, trivial, Cert.FwdEq.equation,
  trivial, Cert.GateEq.equation,
  trivial, Cert.GateDaEq.equation,
  trivial, Cert.GateDwEq.equation,
  trivial, Cert.InEq.equation,
  trivial, Cert.InDaEq.equation,
  trivial, Cert.InDwEq.equation,
  trivial, Cert.LatEq.equation,
  trivial, Cert.LatDaEq.equation,
  trivial, Cert.LatDwEq.equation,
  trivial, Cert.DownEq.equation,
  trivial, Cert.DownDaEq.equation,
  trivial, Cert.DownDwEq.equation,
  trivial, Cert.OutEq.equation,
  trivial, Cert.OutDaEq.equation,
  trivial, Cert.OutDwEq.equation,
  trivial, Cert.SwigluEq.equation,
  trivial, Cert.SwigluBEq.equation,
  trivial, Cert.AdamInEq.equation,
  trivial, Cert.AdamUqEq.equation,
  trivial, Cert.AdamUkvEq.equation,
  trivial, Cert.AdamOutEq.equation,
  trivial, Cert.AdamGateEq.equation,
  trivial, Cert.AdamDownEq.equation,
  trivial, Cert.AdamSmallEq.equation,
  trivial, Cert.SumInEq.equation,
  trivial, Cert.SumUqEq.equation,
  trivial, Cert.SumOutEq.equation,
  trivial, Cert.SumGateEq.equation,
  trivial, Cert.SumDownEq.equation,
  trivial, Cert.SumSmallEq.equation,
  trivial, Cert.NormEq.equation,
  trivial, Cert.NormBEq.equation,
  trivial, Cert.NormLEq.equation,
  trivial, Cert.NormLBEq.equation,
  trivial, Cert.LossEq.equation,
  trivial, Cert.NormGEq.equation,
  trivial, Cert.NormGBEq.equation⟩

end Cert.Proof

end
